-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite [hPre_finite : Cert.Pre_finite.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite [hPre_finite : Cert.Pre_finite.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_conv_finite [hPre_conv_finite : Cert.Pre_conv_finite.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_conv_finite.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_conv_finite [hPre_conv_finite : Cert.Pre_conv_finite.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_conv_finite.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2))) = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Kernel15Ideal_pre_finite [hKernel15Ideal : Cert.Kernel15Ideal.Facts] [hPre_finite : Cert.Pre_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Reference15Ideal_pre_finite [hReference15Ideal : Cert.Reference15Ideal.Facts] [hPre_finite : Cert.Pre_finite.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Kernel22Ideal_pre_conv_finite [hKernel22Ideal : Cert.Kernel22Ideal.Facts] [hPre_conv_finite : Cert.Pre_conv_finite.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_conv_finite m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Reference22Ideal_pre_conv_finite [hReference22Ideal : Cert.Reference22Ideal.Facts] [hPre_conv_finite : Cert.Pre_conv_finite.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_conv_finite m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_v43) = v4 c
          ∧ r.2.mem ((c.tc : Thread Cert.ReferenceIdeal.nD Cert.ReferenceIdeal.τ).loc Cert.ReferenceIdeal.main_v39) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_v6_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v13) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal_pre_finite [hKernel15Ideal : Cert.Kernel15Ideal.Facts] [hReference15Ideal : Cert.Reference15Ideal.Facts] [hPre_finite : Cert.Pre_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v13) = v0 c
          ∧ r.2.mem ((c.tc : Thread Cert.Reference15Ideal.nD Cert.Reference15Ideal.τ).loc Cert.Reference15Ideal.main_v11) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v6)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v6) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v11) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v6_0)) (v1 : (c : Dev Cert.Kernel17Ideal.nD) → Buf (Elt Ideal) ((c.tc : Thread Cert.Kernel17Ideal.nD Cert.Kernel17Ideal.τ).loc Cert.Kernel17Ideal.main_v6_1)) (v2 : (c : Dev Cert.Kernel17Ideal.nD) → Buf (Elt Ideal) ((c.tc : Thread Cert.Kernel17Ideal.nD Cert.Kernel17Ideal.τ).loc Cert.Kernel17Ideal.main_v6_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v6_0) = v0 c
          ∧ r.2.mem ((c.tc : Thread Cert.Kernel17Ideal.nD Cert.Kernel17Ideal.τ).loc Cert.Kernel17Ideal.main_v6_1) = v1 c
          ∧ r.2.mem ((c.tc : Thread Cert.Kernel17Ideal.nD Cert.Kernel17Ideal.τ).loc Cert.Kernel17Ideal.main_v6_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_v8) = v1 c
          ∧ r.2.mem ((c.tc : Thread Cert.Reference17Ideal.nD Cert.Reference17Ideal.τ).loc Cert.Reference17Ideal.main_v11) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v8) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v8) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal_pre_conv_finite [hKernel22Ideal : Cert.Kernel22Ideal.Facts] [hReference22Ideal : Cert.Reference22Ideal.Facts] [hPre_conv_finite : Cert.Pre_conv_finite.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_conv_finite m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v78) = v0 c
          ∧ r.2.mem ((c.tc : Thread Cert.Reference22Ideal.nD Cert.Reference22Ideal.τ).loc Cert.Reference22Ideal.main_v76) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v32) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v38) = v0 c
          ∧ r.2.mem ((c.tc : Thread Cert.Reference24Ideal.nD Cert.Reference24Ideal.τ).loc Cert.Reference24Ideal.main_v21) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v34) = v0 c
          ∧ r.2.mem ((c.tc : Thread Cert.Reference25Ideal.nD Cert.Reference25Ideal.τ).loc Cert.Reference25Ideal.main_v17) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts) (hPre_conv_finite : Cert.Pre_conv_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite (hKernel15Ideal := hKernel15Ideal) (hPre_finite := hPre_finite)
    ∧ quiescent_Reference15Ideal (hReference15Ideal := hReference15Ideal)
    ∧ quiescent_Reference15Ideal_pre_finite (hReference15Ideal := hReference15Ideal) (hPre_finite := hPre_finite)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Kernel22Ideal_pre_conv_finite (hKernel22Ideal := hKernel22Ideal) (hPre_conv_finite := hPre_conv_finite)
    ∧ quiescent_Reference22Ideal (hReference22Ideal := hReference22Ideal)
    ∧ quiescent_Reference22Ideal_pre_conv_finite (hReference22Ideal := hReference22Ideal) (hPre_conv_finite := hPre_conv_finite)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite (hKernel15Ideal := hKernel15Ideal) (hReference15Ideal := hReference15Ideal) (hPre_finite := hPre_finite)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal_pre_conv_finite (hKernel22Ideal := hKernel22Ideal) (hReference22Ideal := hReference22Ideal) (hPre_conv_finite := hPre_conv_finite)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_conv_finite.lean ====
abbrev S18x4096x128 : Shape := ⟨3, ![18, 4096, 128]⟩
abbrev S4096x6144 : Shape := ⟨2, ![4096, 6144]⟩
abbrev S4x2304 : Shape := ⟨2, ![4, 2304]⟩
abbrev S_ : Shape := ⟨0, ![]⟩

class Facts : Prop where
  bcast_S_S18x4096x128 : S_.BroadcastsInDim S18x4096x128 (![] : Fin 0 → Fin S18x4096x128.rank)
  reducesTo_S18x4096x128_S_d0_1_2 : S18x4096x128.ReducesTo [0, 1, 2] S_
  h_S_ : 0 < S_.numel

variable [Facts]

def fn {F : FTy → Type} [FloatOps F] (main_arg0 : FVec F S18x4096x128 .f32) (main_arg1 : FVec F S4096x6144 .f32) (main_arg2 : FVec F S4x2304 .f32) : IVec S_ 1 :=
  let main_v0 : FVec F S18x4096x128 .f32 := subf main_arg0 main_arg0
  let main_cst : FVec F S_ .f32 := constant S_ .f32 0x00000000#32
  let main_v1 : FVec F S18x4096x128 .f32 := broadcastInDim S18x4096x128 ![] bcast_S_S18x4096x128 main_cst
  let main_v2 : IVec S18x4096x128 1 := cmpf .oeq main_v0 main_v1
  let main_c : IVec S_ 1 := constantI S_ 1 1#1
  let main_v3 : IVec S_ 1 := (fun x v => Host.reduce IntOp.andi x v reducesTo_S18x4096x128_S_d0_1_2 h_S_) main_v2 main_c
  main_v3
-- ==== Pre_finite.lean ====
abbrev S4096x2048 : Shape := ⟨2, ![4096, 2048]⟩
abbrev S2x5632x2048 : Shape := ⟨3, ![2, 5632, 2048]⟩
abbrev S4096x5632 : Shape := ⟨2, ![4096, 5632]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2x5632x2048 : S_.BroadcastsInDim S2x5632x2048 (![] : Fin 0 → Fin S2x5632x2048.rank)
  reducesTo_S2x5632x2048_S_d0_1_2 : S2x5632x2048.ReducesTo [0, 1, 2] S_
  bcast_S_S4096x5632 : S_.BroadcastsInDim S4096x5632 (![] : Fin 0 → Fin S4096x5632.rank)
  reducesTo_S4096x5632_S_d0_1 : S4096x5632.ReducesTo [0, 1] S_

variable [Facts]

def fn {F : FTy → Type} [FloatOps F] (main_arg0 : FVec F S4096x2048 .bf16) (main_arg1 : FVec F S2x5632x2048 .f32) (main_arg2 : FVec F S4096x5632 .bf16) (main_arg3 : FVec F S4096x5632 .bf16) : IVec S_ 1 :=
  let main_v0 : FVec F S4096x2048 .bf16 := subf main_arg0 main_arg0
  let main_cst : FVec F S_ .bf16 := constant S_ .bf16 0x0000#16
  let main_v1 : FVec F S4096x2048 .bf16 := broadcastInDim S4096x2048 ![] bcast_S_S4096x2048 main_cst
  let main_v2 : IVec S4096x2048 1 := cmpf .oeq main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2x5632x2048 .f32 := subf main_arg1 main_arg1
  let main_cst_0 : FVec F S_ .f32 := constant S_ .f32 0x00000000#32
  let main_v5 : FVec F S2x5632x2048 .f32 := broadcastInDim S2x5632x2048 ![] bcast_S_S2x5632x2048 main_cst_0
  let main_v6 : IVec S2x5632x2048 1 := cmpf .oeq main_v4 main_v5
  let main_c_1 : IVec S_ 1 := constantI S_ 1 1#1
  let main_v7 : IVec S_ 1 := (fun x v => Host.reduce IntOp.andi x v reducesTo_S2x5632x2048_S_d0_1_2 h_S_) main_v6 main_c_1
  let main_v8 : IVec S_ 1 := andi main_v3 main_v7
  let main_v9 : FVec F S4096x5632 .bf16 := subf main_arg3 main_arg3
  let main_cst_2 : FVec F S_ .bf16 := constant S_ .bf16 0x0000#16
  let main_v10 : FVec F S4096x5632 .bf16 := broadcastInDim S4096x5632 ![] bcast_S_S4096x5632 main_cst_2
  let main_v11 : IVec S4096x5632 1 := cmpf .oeq main_v9 main_v10
  let main_c_3 : IVec S_ 1 := constantI S_ 1 1#1
  let main_v12 : IVec S_ 1 := (fun x v => Host.reduce IntOp.andi x v reducesTo_S4096x5632_S_d0_1 h_S_) main_v11 main_c_3
  let main_v13 : IVec S_ 1 := andi main_v8 main_v12
  main_v13
-- ==== Kernel.lean ====
abbrev S6x4096x128 : Shape := ⟨3, ![6, 4096, 128]⟩
abbrev S6x4096x64 : Shape := ⟨3, ![6, 4096, 64]⟩
abbrev S6x64x1x128 : Shape := ⟨4, ![6, 64, 1, 128]⟩
abbrev S64x6x128x128 : Shape := ⟨4, ![64, 6, 128, 128]⟩
abbrev S6x64x128 : Shape := ⟨3, ![6, 64, 128]⟩
abbrev S6x64x64 : Shape := ⟨3, ![6, 64, 64]⟩
abbrev S6x1x1x128 : Shape := ⟨4, ![6, 1, 1, 128]⟩
abbrev S1x6x128x128 : Shape := ⟨4, ![1, 6, 128, 128]⟩
abbrev S6x128x128 : Shape := ⟨3, ![6, 128, 128]⟩
abbrev S6x1x128 : Shape := ⟨3, ![6, 1, 128]⟩
abbrev S6x1x1 : Shape := ⟨3, ![6, 1, 1]⟩
abbrev S6x128x64 : Shape := ⟨3, ![6, 128, 64]⟩
abbrev S6 : Shape := ⟨1, ![6]⟩
abbrev S6x1x127 : Shape := ⟨3, ![6, 1, 127]⟩

abbrev nBuf : Space → Nat
  | .hbm => 15
  | .vmem => 46
  | .smem => 0
  | _ => 0

abbrev bufTy : (tb : Table) → Fin (tcTables nBuf tb) → BufTy
  | .hbm, ⟨0, _⟩ => ⟨S6x4096x128, .f32⟩
  | .hbm, ⟨1, _⟩ => ⟨S6x4096x128, .f32⟩
  | .hbm, ⟨2, _⟩ => ⟨S6x4096x128, .f32⟩
  | .hbm, ⟨3, _⟩ => ⟨S6x4096x64, .f32⟩
  | .hbm, ⟨4, _⟩ => ⟨S6x4096x128, .f32⟩
  | .hbm, ⟨5, _⟩ => ⟨S6x4096x128, .f32⟩
  | .hbm, ⟨6, _⟩ => ⟨S6x64x1x128, .f32⟩
  | .hbm, ⟨7, _⟩ => ⟨S6x4096x128, .f32⟩
  | .hbm, ⟨8, _⟩ => ⟨S64x6x128x128, .f32⟩
  | .hbm, ⟨9, _⟩ => ⟨S6x4096x128, .f32⟩
  | .hbm, ⟨10, _⟩ => ⟨S6x4096x128, .f32⟩
  | .hbm, ⟨11, _⟩ => ⟨S6x4096x64, .f32⟩
  | .hbm, ⟨12, _⟩ => ⟨S6x4096x128, .f32⟩
  | .hbm, ⟨13, _⟩ => ⟨S6x4096x128, .f32⟩
  | .hbm, ⟨14, _⟩ => ⟨S6x64x1x128, .f32⟩
  | .local _ .vmem, ⟨0, _⟩ => ⟨S6x64x128, .f32⟩
  | .local _ .vmem, ⟨1, _⟩ => ⟨S6x64x128, .f32⟩
  | .local _ .vmem, ⟨2, _⟩ => ⟨S6x64x128, .f32⟩
  | .local _ .vmem, ⟨3, _⟩ => ⟨S6x64x128, .f32⟩
  | .local _ .vmem, ⟨4, _⟩ => ⟨S6x64x64, .f32⟩
  | .local _ .vmem, ⟨5, _⟩ => ⟨S6x64x64, .f32⟩
  | .local _ .vmem, ⟨6, _⟩ => ⟨S6x64x128, .f32⟩
  | .local _ .vmem, ⟨7, _⟩ => ⟨S6x64x128, .f32⟩
  | .local _ .vmem, ⟨8, _⟩ => ⟨S6x64x128, .f32⟩
  | .local _ .vmem, ⟨9, _⟩ => ⟨S6x64x128, .f32⟩
  | .local _ .vmem, ⟨10, _⟩ => ⟨S6x1x1x128, .f32⟩
  | .local _ .vmem, ⟨11, _⟩ => ⟨S6x1x1x128, .f32⟩
  | .local _ .vmem, ⟨12, _⟩ => ⟨S6x64x128, .f32⟩
  | .local _ .vmem, ⟨13, _⟩ => ⟨S6x64x128, .f32⟩
  | .local _ .vmem, ⟨14, _⟩ => ⟨S1x6x128x128, .f32⟩
  | .local _ .vmem, ⟨15, _⟩ => ⟨S1x6x128x128, .f32⟩
  | .local _ .vmem, ⟨16, _⟩ => ⟨S6x128x128, .f32⟩
  | .local _ .vmem, ⟨17, _⟩ => ⟨S6x64x128, .f32⟩
  | .local _ .vmem, ⟨18, _⟩ => ⟨S6x64x128, .f32⟩
  | .local _ .vmem, ⟨19, _⟩ => ⟨S1x6x128x128, .f32⟩
  | .local _ .vmem, ⟨20, _⟩ => ⟨S1x6x128x128, .f32⟩
  | .local _ .vmem, ⟨21, _⟩ => ⟨S6x64x128, .f32⟩
  | .local _ .vmem, ⟨22, _⟩ => ⟨S6x64x128, .f32⟩
  | .local _ .vmem, ⟨23, _⟩ => ⟨S6x64x128, .f32⟩
  | .local _ .vmem, ⟨24, _⟩ => ⟨S6x64x128, .f32⟩
  | .local _ .vmem, ⟨25, _⟩ => ⟨S6x64x64, .f32⟩
  | .local _ .vmem, ⟨26, _⟩ => ⟨S6x64x64, .f32⟩
  | .local _ .vmem, ⟨27, _⟩ => ⟨S6x64x128, .f32⟩
  | .local _ .vmem, ⟨28, _⟩ => ⟨S6x64x128, .f32⟩
  | .local _ .vmem, ⟨29, _⟩ => ⟨S6x64x128, .f32⟩
  | .local _ .vmem, ⟨30, _⟩ => ⟨S6x64x128, .f32⟩
  | .local _ .vmem, ⟨31, _⟩ => ⟨S6x1x1x128, .f32⟩
  | .local _ .vmem, ⟨32, _⟩ => ⟨S6x1x1x128, .f32⟩
  | .local _ .vmem, ⟨33, _⟩ => ⟨S6x64x128, .f32⟩
  | .local _ .vmem, ⟨34, _⟩ => ⟨S6x64x128, .f32⟩
  | .local _ .vmem, ⟨35, _⟩ => ⟨S6x64x128, .f32⟩
  | .local _ .vmem, ⟨36, _⟩ => ⟨S6x64x128, .f32⟩
  | .local _ .vmem, ⟨37, _⟩ => ⟨S6x64x64, .f32⟩
  | .local _ .vmem, ⟨38, _⟩ => ⟨S6x64x64, .f32⟩
  | .local _ .vmem, ⟨39, _⟩ => ⟨S6x64x128, .f32⟩
  | .local _ .vmem, ⟨40, _⟩ => ⟨S6x64x128, .f32⟩
  | .local _ .vmem, ⟨41, _⟩ => ⟨S6x64x128, .f32⟩
  | .local _ .vmem, ⟨42, _⟩ => ⟨S6x64x128, .f32⟩
  | .local _ .vmem, ⟨43, _⟩ => ⟨S6x1x1x128, .f32⟩
  | .local _ .vmem, ⟨44, _⟩ => ⟨S6x1x1x128, .f32⟩
  | .local _ .vmem, ⟨45, _⟩ => ⟨S6x128x128, .f32⟩
  | _, _ => ⟨S6x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S6x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S6x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x6x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc1_transform_1 (i : grid1.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_2 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc1_transform_3 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc1_transform_4 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc1_transform_5 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc1_transform_6 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc1_transform_7 (i : grid1.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_8 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc1_transform_9 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc1_transform_10 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc1_transform_11 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc1_transform_12 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc1_transform_13 (i : grid1.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

abbrev stage1_0 : Fin 2 → Memref sig .tc .vmem S6x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x6x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6x64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S6x64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S6x64x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S6x64x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S6x64x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S6x1x1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S6x64x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S6x64x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S6x64x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S6x64x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S6x64x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S6x1x1x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S6x4096x128 : Shape := ⟨3, ![6, 4096, 128]⟩
abbrev S6x4096x64 : Shape := ⟨3, ![6, 4096, 64]⟩
abbrev S6x64x1x128 : Shape := ⟨4, ![6, 64, 1, 128]⟩
abbrev S6x64x64x128 : Shape := ⟨4, ![6, 64, 64, 128]⟩
abbrev S6x64x64x64 : Shape := ⟨4, ![6, 64, 64, 64]⟩
abbrev S6x64x1x1 : Shape := ⟨4, ![6, 64, 1, 1]⟩
abbrev S6x64 : Shape := ⟨2, ![6, 64]⟩
abbrev S64x6x64x128 : Shape := ⟨4, ![64, 6, 64, 128]⟩
abbrev S64x6x64x64 : Shape := ⟨4, ![64, 6, 64, 64]⟩
abbrev S64x6 : Shape := ⟨2, ![64, 6]⟩
abbrev S_ : Shape := ⟨0, ![]⟩
abbrev S6x128x128 : Shape := ⟨3, ![6, 128, 128]⟩
abbrev S64x6x128x128 : Shape := ⟨4, ![64, 6, 128, 128]⟩
abbrev S64x6x1x1 : Shape := ⟨4, ![64, 6, 1, 1]⟩
abbrev S1x6x64x128 : Shape := ⟨4, ![1, 6, 64, 128]⟩
abbrev S6x64x128 : Shape := ⟨3, ![6, 64, 128]⟩
abbrev S1x6x64x64 : Shape := ⟨4, ![1, 6, 64, 64]⟩
abbrev S6x64x64 : Shape := ⟨3, ![6, 64, 64]⟩
abbrev S1x6 : Shape := ⟨2, ![1, 6]⟩
abbrev S6 : Shape := ⟨1, ![6]⟩
abbrev S6x1x1 : Shape := ⟨3, ![6, 1, 1]⟩
abbrev S1x6x128x128 : Shape := ⟨4, ![1, 6, 128, 128]⟩
abbrev S1x6x1x1 : Shape := ⟨4, ![1, 6, 1, 1]⟩
abbrev S6x128x64 : Shape := ⟨3, ![6, 128, 64]⟩

abbrev nBuf : Space → Nat
  | .hbm => 257
  | .vmem => 0
  | .smem => 0
  | _ => 0

abbrev hbmTy0_0 (i : Nat) : BufTy := match i % 128 with
  | 0 => ⟨S6x4096x128, .f32⟩
  | 1 => ⟨S6x4096x128, .f32⟩
  | 2 => ⟨S6x4096x128, .f32⟩
  | 3 => ⟨S6x4096x64, .f32⟩
  | 4 => ⟨S6x4096x128, .f32⟩
  | 5 => ⟨S6x4096x128, .f32⟩
  | 6 => ⟨S6x64x1x128, .f32⟩
  | 7 => ⟨S6x64x64x128, .f32⟩
  | 8 => ⟨S6x64x64x128, .f32⟩
  | 9 => ⟨S6x64x64x128, .f32⟩
  | 10 => ⟨S6x64x64x128, .f32⟩
  | 11 => ⟨S6x64x64x64, .f32⟩
  | 12 => ⟨S6x64x1x1, .f32⟩
  | 13 => ⟨S6x64, .f32⟩
  | 14 => ⟨S64x6x64x128, .f32⟩
  | 15 => ⟨S64x6x64x128, .f32⟩
  | 16 => ⟨S64x6x64x128, .f32⟩
  | 17 => ⟨S64x6x64x128, .f32⟩
  | 18 => ⟨S64x6x64x64, .f32⟩
  | 19 => ⟨S64x6, .f32⟩
  | 20 => ⟨S_, .f32⟩
  | 21 => ⟨S6x128x128, .f32⟩
  | 22 => ⟨S_, .f32⟩
  | 23 => ⟨S64x6x64x128, .f32⟩
  | 24 => ⟨S_, .f32⟩
  | 25 => ⟨S64x6x128x128, .f32⟩
  | 26 => ⟨S_, .f32⟩
  | 27 => ⟨S64x6x64x128, .f32⟩
  | 28 => ⟨S_, .f32⟩
  | 29 => ⟨S64x6x1x1, .f32⟩
  | 30 => ⟨S_, .i32⟩
  | 31 => ⟨S64x6x64x128, .f32⟩
  | 32 => ⟨S64x6x64x128, .f32⟩
  | 33 => ⟨S64x6x64x128, .f32⟩
  | 34 => ⟨S64x6x64x128, .f32⟩
  | 35 => ⟨S64x6x64x64, .f32⟩
  | 36 => ⟨S64x6, .f32⟩
  | 37 => ⟨S_, .i32⟩
  | 38 => ⟨S6x128x128, .f32⟩
  | 39 => ⟨S64x6x64x128, .f32⟩
  | 40 => ⟨S64x6x128x128, .f32⟩
  | 41 => ⟨S64x6x64x128, .f32⟩
  | 42 => ⟨S64x6x1x1, .f32⟩
  | 43 => ⟨S_, .i32⟩
  | 44 => ⟨S_, .i1⟩
  | 45 => ⟨S_, .i32⟩
  | 46 => ⟨S_, .i32⟩
  | 47 => ⟨S_, .i32⟩
  | 48 => ⟨S1x6x64x128, .f32⟩
  | 49 => ⟨S6x64x128, .f32⟩
  | 50 => ⟨S_, .i32⟩
  | 51 => ⟨S_, .i32⟩
  | 52 => ⟨S_, .i32⟩
  | 53 => ⟨S1x6x64x128, .f32⟩
  | 54 => ⟨S6x64x128, .f32⟩
  | 55 => ⟨S_, .i32⟩
  | 56 => ⟨S_, .i32⟩
  | 57 => ⟨S_, .i32⟩
  | 58 => ⟨S1x6x64x128, .f32⟩
  | 59 => ⟨S6x64x128, .f32⟩
  | 60 => ⟨S_, .i32⟩
  | 61 => ⟨S_, .i32⟩
  | 62 => ⟨S_, .i32⟩
  | 63 => ⟨S1x6x64x128, .f32⟩
  | 64 => ⟨S6x64x128, .f32⟩
  | 65 => ⟨S_, .i32⟩
  | 66 => ⟨S_, .i32⟩
  | 67 => ⟨S_, .i32⟩
  | 68 => ⟨S1x6x64x64, .f32⟩
  | 69 => ⟨S6x64x64, .f32⟩
  | 70 => ⟨S_, .i32⟩
  | 71 => ⟨S1x6, .f32⟩
  | 72 => ⟨S6, .f32⟩
  | 73 => ⟨S6x64x128, .f32⟩
  | 74 => ⟨S6x64x128, .f32⟩
  | 75 => ⟨S6x64x128, .f32⟩
  | 76 => ⟨S6x64x128, .f32⟩
  | 77 => ⟨S6x64x128, .f32⟩
  | 78 => ⟨S6x1x1, .f32⟩
  | 79 => ⟨S6x128x128, .f32⟩
  | 80 => ⟨S6x128x128, .f32⟩
  | 81 => ⟨S6x128x128, .f32⟩
  | 82 => ⟨S6x128x128, .f32⟩
  | 83 => ⟨S1x6x64x128, .f32⟩
  | 84 => ⟨S_, .i32⟩
  | 85 => ⟨S_, .i32⟩
  | 86 => ⟨S_, .i32⟩
  | 87 => ⟨S64x6x64x128, .f32⟩
  | 88 => ⟨S1x6x128x128, .f32⟩
  | 89 => ⟨S_, .i32⟩
  | 90 => ⟨S_, .i32⟩
  | 91 => ⟨S_, .i32⟩
  | 92 => ⟨S64x6x128x128, .f32⟩
  | 93 => ⟨S1x6x64x128, .f32⟩
  | 94 => ⟨S_, .i32⟩
  | 95 => ⟨S_, .i32⟩
  | 96 => ⟨S_, .i32⟩
  | 97 => ⟨S64x6x64x128, .f32⟩
  | 98 => ⟨S1x6x1x1, .f32⟩
  | 99 => ⟨S_, .i32⟩
  | 100 => ⟨S_, .i32⟩
  | 101 => ⟨S_, .i32⟩
  | 102 => ⟨S64x6x1x1, .f32⟩
  | 103 => ⟨S_, .i32⟩
  | 104 => ⟨S_, .i32⟩
  | 105 => ⟨S6x64x64x128, .f32⟩
  | 106 => ⟨S6x4096x128, .f32⟩
  | 107 => ⟨S_, .f32⟩
  | 108 => ⟨S6x128x128, .f32⟩
  | 109 => ⟨S6x64x64x128, .f32⟩
  | 110 => ⟨S64x6x64x128, .f32⟩
  | 111 => ⟨S_, .f32⟩
  | 112 => ⟨S6x128x128, .f32⟩
  | 113 => ⟨S_, .f32⟩
  | 114 => ⟨S64x6x64x128, .f32⟩
  | 115 => ⟨S_, .f32⟩
  | 116 => ⟨S64x6x64x128, .f32⟩
  | 117 => ⟨S_, .f32⟩
  | 118 => ⟨S64x6x64x128, .f32⟩
  | 119 => ⟨S_, .f32⟩
  | 120 => ⟨S64x6x64x128, .f32⟩
  | 121 => ⟨S_, .f32⟩
  | 122 => ⟨S64x6x64x64, .f32⟩
  | 123 => ⟨S_, .f32⟩
  | 124 => ⟨S64x6, .f32⟩
  | 125 => ⟨S_, .i32⟩
  | 126 => ⟨S64x6x64x128, .f32⟩
  | 127 => ⟨S64x6x128x128, .f32⟩
  | _ => ⟨S6x4096x128, .f32⟩

abbrev hbmTy0_1 (i : Nat) : BufTy := match i % 128 with
  | 0 => ⟨S64x6x64x128, .f32⟩
  | 1 => ⟨S64x6x64x128, .f32⟩
  | 2 => ⟨S64x6x64x128, .f32⟩
  | 3 => ⟨S64x6x64x64, .f32⟩
  | 4 => ⟨S64x6x1x1, .f32⟩
  | 5 => ⟨S64x6x64x128, .f32⟩
  | 6 => ⟨S_, .i32⟩
  | 7 => ⟨S6x128x128, .f32⟩
  | 8 => ⟨S64x6x64x128, .f32⟩
  | 9 => ⟨S64x6x64x128, .f32⟩
  | 10 => ⟨S64x6x64x128, .f32⟩
  | 11 => ⟨S64x6x64x128, .f32⟩
  | 12 => ⟨S64x6x64x64, .f32⟩
  | 13 => ⟨S64x6, .f32⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S1x6x64x128, .f32⟩
  | 24 => ⟨S6x64x128, .f32⟩
  | 25 => ⟨S_, .i32⟩
  | 26 => ⟨S_, .i32⟩
  | 27 => ⟨S_, .i32⟩
  | 28 => ⟨S1x6x128x128, .f32⟩
  | 29 => ⟨S6x128x128, .f32⟩
  | 30 => ⟨S_, .i32⟩
  | 31 => ⟨S_, .i32⟩
  | 32 => ⟨S_, .i32⟩
  | 33 => ⟨S1x6x64x128, .f32⟩
  | 34 => ⟨S6x64x128, .f32⟩
  | 35 => ⟨S_, .i32⟩
  | 36 => ⟨S_, .i32⟩
  | 37 => ⟨S_, .i32⟩
  | 38 => ⟨S1x6x64x128, .f32⟩
  | 39 => ⟨S6x64x128, .f32⟩
  | 40 => ⟨S_, .i32⟩
  | 41 => ⟨S_, .i32⟩
  | 42 => ⟨S_, .i32⟩
  | 43 => ⟨S1x6x64x128, .f32⟩
  | 44 => ⟨S6x64x128, .f32⟩
  | 45 => ⟨S_, .i32⟩
  | 46 => ⟨S_, .i32⟩
  | 47 => ⟨S_, .i32⟩
  | 48 => ⟨S1x6x64x64, .f32⟩
  | 49 => ⟨S6x64x64, .f32⟩
  | 50 => ⟨S_, .i32⟩
  | 51 => ⟨S_, .i32⟩
  | 52 => ⟨S_, .i32⟩
  | 53 => ⟨S1x6x1x1, .f32⟩
  | 54 => ⟨S6x1x1, .f32⟩
  | 55 => ⟨S_, .i32⟩
  | 56 => ⟨S_, .i32⟩
  | 57 => ⟨S_, .i32⟩
  | 58 => ⟨S1x6x64x128, .f32⟩
  | 59 => ⟨S6x64x128, .f32⟩
  | 60 => ⟨S6x128x64, .f32⟩
  | 61 => ⟨S6x64x128, .f32⟩
  | 62 => ⟨S6x128x64, .f32⟩
  | 63 => ⟨S6x64x128, .f32⟩
  | 64 => ⟨S6x128x128, .f32⟩
  | 65 => ⟨S_, .f32⟩
  | 66 => ⟨S6, .f32⟩
  | 67 => ⟨S6x1x1, .f32⟩
  | 68 => ⟨S6x128x128, .f32⟩
  | 69 => ⟨S6x128x128, .f32⟩
  | 70 => ⟨S_, .f32⟩
  | 71 => ⟨S6, .f32⟩
  | 72 => ⟨S6x128x64, .f32⟩
  | 73 => ⟨S6x64x128, .f32⟩
  | 74 => ⟨S6x64x128, .f32⟩
  | 75 => ⟨S6x64x64, .f32⟩
  | 76 => ⟨S6x128x128, .f32⟩
  | 77 => ⟨S6x128x128, .f32⟩
  | 78 => ⟨S6x128x128, .f32⟩
  | 79 => ⟨S6x64x128, .f32⟩
  | 80 => ⟨S6x64x128, .f32⟩
  | 81 => ⟨S6x128x128, .f32⟩
  | 82 => ⟨S6x128x128, .f32⟩
  | 83 => ⟨S6x128x128, .f32⟩
  | 84 => ⟨S6x64x128, .f32⟩
  | 85 => ⟨S1x6x64x128, .f32⟩
  | 86 => ⟨S_, .i32⟩
  | 87 => ⟨S_, .i32⟩
  | 88 => ⟨S_, .i32⟩
  | 89 => ⟨S64x6x64x128, .f32⟩
  | 90 => ⟨S1x6x64x128, .f32⟩
  | 91 => ⟨S_, .i32⟩
  | 92 => ⟨S_, .i32⟩
  | 93 => ⟨S_, .i32⟩
  | 94 => ⟨S64x6x64x128, .f32⟩
  | 95 => ⟨S1x6x64x128, .f32⟩
  | 96 => ⟨S_, .i32⟩
  | 97 => ⟨S_, .i32⟩
  | 98 => ⟨S_, .i32⟩
  | 99 => ⟨S64x6x64x128, .f32⟩
  | 100 => ⟨S1x6x64x128, .f32⟩
  | 101 => ⟨S_, .i32⟩
  | 102 => ⟨S_, .i32⟩
  | 103 => ⟨S_, .i32⟩
  | 104 => ⟨S64x6x64x128, .f32⟩
  | 105 => ⟨S1x6x64x64, .f32⟩
  | 106 => ⟨S_, .i32⟩
  | 107 => ⟨S_, .i32⟩
  | 108 => ⟨S_, .i32⟩
  | 109 => ⟨S64x6x64x64, .f32⟩
  | 110 => ⟨S1x6, .f32⟩
  | 111 => ⟨S_, .i32⟩
  | 112 => ⟨S64x6, .f32⟩
  | 113 => ⟨S_, .i32⟩
  | 114 => ⟨S_, .i32⟩
  | 115 => ⟨S6x64, .f32⟩
  | 116 => ⟨S6x64x64x64, .f32⟩
  | 117 => ⟨S6x64x64x128, .f32⟩
  | 118 => ⟨S6x64x64x128, .f32⟩
  | 119 => ⟨S6x64x64x128, .f32⟩
  | 120 => ⟨S6x64x64x128, .f32⟩
  | 121 => ⟨S6x64x1x1, .f32⟩
  | 122 => ⟨S_, .f32⟩
  | 123 => ⟨S6x64x1x128, .f32⟩
  | 124 => ⟨S6x4096x64, .f32⟩
  | 125 => ⟨S6x4096x128, .f32⟩
  | 126 => ⟨S6x4096x128, .f32⟩
  | 127 => ⟨S6x4096x128, .f32⟩
  | _ => ⟨S6x4096x128, .f32⟩

abbrev hbmTy0_2 (i : Nat) : BufTy := match i % 128 with
  | 0 => ⟨S6x4096x128, .f32⟩
  | _ => ⟨S6x4096x128, .f32⟩

abbrev hbmTy (i : Nat) : BufTy := match i / 128 with
  | 0 => hbmTy0_0 i
  | 1 => hbmTy0_1 i
  | 2 => hbmTy0_2 i
  | _ => ⟨S6x4096x128, .f32⟩

abbrev bufTy : (tb : Table) → Fin (tcTables nBuf tb) → BufTy
  | .hbm, ⟨i, _⟩ => hbmTy i
  | _, _ => ⟨S6x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_c : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev main_v18_4 : Ref sig .tc := ⟨.hbm, 35, rfl⟩
abbrev main_v18_5 : Ref sig .tc := ⟨.hbm, 36, rfl⟩
abbrev main_v18_6 : Ref sig .tc := ⟨.hbm, 37, rfl⟩
abbrev main_v18_7 : Ref sig .tc := ⟨.hbm, 38, rfl⟩
abbrev main_v18_8 : Ref sig .tc := ⟨.hbm, 39, rfl⟩
abbrev main_v18_9 : Ref sig .tc := ⟨.hbm, 40, rfl⟩
abbrev main_v18_10 : Ref sig .tc := ⟨.hbm, 41, rfl⟩
abbrev main_v18_11 : Ref sig .tc := ⟨.hbm, 42, rfl⟩
abbrev main_while0c_c_25 : Ref sig .tc := ⟨.hbm, 43, rfl⟩
abbrev main_while0c_v45 : Ref sig .tc := ⟨.hbm, 44, rfl⟩
abbrev main_while0b_call0_c : Ref sig .tc := ⟨.hbm, 45, rfl⟩
abbrev main_while0b_call0_c_0 : Ref sig .tc := ⟨.hbm, 46, rfl⟩
abbrev main_while0b_call0_c_1 : Ref sig .tc := ⟨.hbm, 47, rfl⟩
abbrev main_while0b_call0_v0 : Ref sig .tc := ⟨.hbm, 48, rfl⟩
abbrev main_while0b_v45 : Ref sig .tc := ⟨.hbm, 49, rfl⟩
abbrev main_while0b_call1_c : Ref sig .tc := ⟨.hbm, 50, rfl⟩
abbrev main_while0b_call1_c_0 : Ref sig .tc := ⟨.hbm, 51, rfl⟩
abbrev main_while0b_call1_c_1 : Ref sig .tc := ⟨.hbm, 52, rfl⟩
abbrev main_while0b_call1_v0 : Ref sig .tc := ⟨.hbm, 53, rfl⟩
abbrev main_while0b_v46 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_call2_c_1 : Ref sig .tc := ⟨.hbm, 57, rfl⟩
abbrev main_while0b_call2_v0 : Ref sig .tc := ⟨.hbm, 58, rfl⟩
abbrev main_while0b_v47 : Ref sig .tc := ⟨.hbm, 59, rfl⟩
abbrev main_while0b_call3_c : Ref sig .tc := ⟨.hbm, 60, rfl⟩
abbrev main_while0b_call3_c_0 : Ref sig .tc := ⟨.hbm, 61, rfl⟩
abbrev main_while0b_call3_c_1 : Ref sig .tc := ⟨.hbm, 62, rfl⟩
abbrev main_while0b_call3_v0 : Ref sig .tc := ⟨.hbm, 63, rfl⟩
abbrev main_while0b_v48 : Ref sig .tc := ⟨.hbm, 64, rfl⟩
abbrev main_while0b_call4_c : Ref sig .tc := ⟨.hbm, 65, rfl⟩
abbrev main_while0b_call4_c_0 : Ref sig .tc := ⟨.hbm, 66, rfl⟩
abbrev main_while0b_call4_c_1 : Ref sig .tc := ⟨.hbm, 67, rfl⟩
abbrev main_while0b_call4_v0 : Ref sig .tc := ⟨.hbm, 68, rfl⟩
abbrev main_while0b_v49 : Ref sig .tc := ⟨.hbm, 69, rfl⟩
abbrev main_while0b_call5_c : Ref sig .tc := ⟨.hbm, 70, rfl⟩
abbrev main_while0b_call5_v0 : Ref sig .tc := ⟨.hbm, 71, rfl⟩
abbrev main_while0b_v50 : Ref sig .tc := ⟨.hbm, 72, rfl⟩
abbrev main_while0b_v51 : Ref sig .tc := ⟨.hbm, 73, rfl⟩
abbrev main_while0b_v52 : Ref sig .tc := ⟨.hbm, 74, rfl⟩
abbrev main_while0b_v53 : Ref sig .tc := ⟨.hbm, 75, rfl⟩
abbrev main_while0b_v54 : Ref sig .tc := ⟨.hbm, 76, rfl⟩
abbrev main_while0b_v55 : Ref sig .tc := ⟨.hbm, 77, rfl⟩
abbrev main_while0b_v56 : Ref sig .tc := ⟨.hbm, 78, rfl⟩
abbrev main_while0b_v57 : Ref sig .tc := ⟨.hbm, 79, rfl⟩
abbrev main_while0b_v58 : Ref sig .tc := ⟨.hbm, 80, rfl⟩
abbrev main_while0b_v59 : Ref sig .tc := ⟨.hbm, 81, rfl⟩
abbrev main_while0b_v60 : Ref sig .tc := ⟨.hbm, 82, rfl⟩
abbrev main_while0b_call6_v0 : Ref sig .tc := ⟨.hbm, 83, rfl⟩
abbrev main_while0b_call6_c : Ref sig .tc := ⟨.hbm, 84, rfl⟩
abbrev main_while0b_call6_c_0 : Ref sig .tc := ⟨.hbm, 85, rfl⟩
abbrev main_while0b_call6_c_1 : Ref sig .tc := ⟨.hbm, 86, rfl⟩
abbrev main_while0b_v61 : Ref sig .tc := ⟨.hbm, 87, rfl⟩
abbrev main_while0b_call7_v0 : Ref sig .tc := ⟨.hbm, 88, rfl⟩
abbrev main_while0b_call7_c : Ref sig .tc := ⟨.hbm, 89, rfl⟩
abbrev main_while0b_call7_c_0 : Ref sig .tc := ⟨.hbm, 90, rfl⟩
abbrev main_while0b_call7_c_1 : Ref sig .tc := ⟨.hbm, 91, rfl⟩
abbrev main_while0b_v62 : Ref sig .tc := ⟨.hbm, 92, rfl⟩
abbrev main_while0b_call8_v0 : Ref sig .tc := ⟨.hbm, 93, rfl⟩
abbrev main_while0b_call8_c : Ref sig .tc := ⟨.hbm, 94, rfl⟩
abbrev main_while0b_call8_c_0 : Ref sig .tc := ⟨.hbm, 95, rfl⟩
abbrev main_while0b_call8_c_1 : Ref sig .tc := ⟨.hbm, 96, rfl⟩
abbrev main_while0b_v63 : Ref sig .tc := ⟨.hbm, 97, rfl⟩
abbrev main_while0b_call9_v0 : Ref sig .tc := ⟨.hbm, 98, rfl⟩
abbrev main_while0b_call9_c : Ref sig .tc := ⟨.hbm, 99, rfl⟩
abbrev main_while0b_call9_c_0 : Ref sig .tc := ⟨.hbm, 100, rfl⟩
abbrev main_while0b_call9_c_1 : Ref sig .tc := ⟨.hbm, 101, rfl⟩
abbrev main_while0b_v64 : Ref sig .tc := ⟨.hbm, 102, rfl⟩
abbrev main_while0b_c_25 : Ref sig .tc := ⟨.hbm, 103, rfl⟩
abbrev main_while0b_v65 : Ref sig .tc := ⟨.hbm, 104, rfl⟩
abbrev main_v19 : Ref sig .tc := ⟨.hbm, 105, rfl⟩
abbrev main_v20 : Ref sig .tc := ⟨.hbm, 106, rfl⟩
abbrev main_cst_4 : Ref sig .tc := ⟨.hbm, 107, rfl⟩
abbrev main_v21 : Ref sig .tc := ⟨.hbm, 108, rfl⟩
abbrev main_v22 : Ref sig .tc := ⟨.hbm, 109, rfl⟩
abbrev main_v23 : Ref sig .tc := ⟨.hbm, 110, rfl⟩
abbrev main_cst_5 : Ref sig .tc := ⟨.hbm, 111, rfl⟩
abbrev main_v24 : Ref sig .tc := ⟨.hbm, 112, rfl⟩
abbrev main_cst_6 : Ref sig .tc := ⟨.hbm, 113, rfl⟩
abbrev main_v25 : Ref sig .tc := ⟨.hbm, 114, rfl⟩
abbrev main_cst_7 : Ref sig .tc := ⟨.hbm, 115, rfl⟩
abbrev main_v26 : Ref sig .tc := ⟨.hbm, 116, rfl⟩
abbrev main_cst_8 : Ref sig .tc := ⟨.hbm, 117, rfl⟩
abbrev main_v27 : Ref sig .tc := ⟨.hbm, 118, rfl⟩
abbrev main_cst_9 : Ref sig .tc := ⟨.hbm, 119, rfl⟩
abbrev main_v28 : Ref sig .tc := ⟨.hbm, 120, rfl⟩
abbrev main_cst_10 : Ref sig .tc := ⟨.hbm, 121, rfl⟩
abbrev main_v29 : Ref sig .tc := ⟨.hbm, 122, rfl⟩
abbrev main_cst_11 : Ref sig .tc := ⟨.hbm, 123, rfl⟩
abbrev main_v30 : Ref sig .tc := ⟨.hbm, 124, rfl⟩
abbrev main_c_12 : Ref sig .tc := ⟨.hbm, 125, rfl⟩
abbrev main_v31_0 : Ref sig .tc := ⟨.hbm, 126, rfl⟩
abbrev main_v31_1 : Ref sig .tc := ⟨.hbm, 127, rfl⟩
abbrev main_v31_2 : Ref sig .tc := ⟨.hbm, 128, rfl⟩
abbrev main_v31_3 : Ref sig .tc := ⟨.hbm, 129, rfl⟩
abbrev main_v31_4 : Ref sig .tc := ⟨.hbm, 130, rfl⟩
abbrev main_v31_5 : Ref sig .tc := ⟨.hbm, 131, rfl⟩
abbrev main_v31_6 : Ref sig .tc := ⟨.hbm, 132, rfl⟩
abbrev main_v31_7 : Ref sig .tc := ⟨.hbm, 133, rfl⟩
abbrev main_v31_8 : Ref sig .tc := ⟨.hbm, 134, rfl⟩
abbrev main_v31_9 : Ref sig .tc := ⟨.hbm, 135, rfl⟩
abbrev main_v31_10 : Ref sig .tc := ⟨.hbm, 136, rfl⟩
abbrev main_v31_11 : Ref sig .tc := ⟨.hbm, 137, rfl⟩
abbrev main_v31_12 : Ref sig .tc := ⟨.hbm, 138, rfl⟩
abbrev main_v31_13 : Ref sig .tc := ⟨.hbm, 139, rfl⟩
abbrev main_v31_14 : Ref sig .tc := ⟨.hbm, 140, rfl⟩
abbrev main_v31_15 : Ref sig .tc := ⟨.hbm, 141, rfl⟩
abbrev main_while1c_c_29 : Ref sig .tc := ⟨.hbm, 142, rfl⟩
abbrev main_while1c_v45 : Ref sig .tc := ⟨.hbm, 143, rfl⟩
abbrev main_while1b_c_29 : Ref sig .tc := ⟨.hbm, 144, rfl⟩
abbrev main_while1b_v45 : Ref sig .tc := ⟨.hbm, 145, rfl⟩
abbrev main_while1b_c_30 : Ref sig .tc := ⟨.hbm, 146, rfl⟩
abbrev main_while1b_v46 : Ref sig .tc := ⟨.hbm, 147, rfl⟩
abbrev main_while1b_call10_c : Ref sig .tc := ⟨.hbm, 148, rfl⟩
abbrev main_while1b_call10_c_0 : Ref sig .tc := ⟨.hbm, 149, rfl⟩
abbrev main_while1b_call10_c_1 : Ref sig .tc := ⟨.hbm, 150, rfl⟩
abbrev main_while1b_call10_v0 : Ref sig .tc := ⟨.hbm, 151, rfl⟩
abbrev main_while1b_v47 : Ref sig .tc := ⟨.hbm, 152, rfl⟩
abbrev main_while1b_call11_c : Ref sig .tc := ⟨.hbm, 153, rfl⟩
abbrev main_while1b_call11_c_0 : Ref sig .tc := ⟨.hbm, 154, rfl⟩
abbrev main_while1b_call11_c_1 : Ref sig .tc := ⟨.hbm, 155, rfl⟩
abbrev main_while1b_call11_v0 : Ref sig .tc := ⟨.hbm, 156, rfl⟩
abbrev main_while1b_v48 : Ref sig .tc := ⟨.hbm, 157, rfl⟩
abbrev main_while1b_call12_c : Ref sig .tc := ⟨.hbm, 158, rfl⟩
abbrev main_while1b_call12_c_0 : Ref sig .tc := ⟨.hbm, 159, rfl⟩
abbrev main_while1b_call12_c_1 : Ref sig .tc := ⟨.hbm, 160, rfl⟩
abbrev main_while1b_call12_v0 : Ref sig .tc := ⟨.hbm, 161, rfl⟩
abbrev main_while1b_v49 : Ref sig .tc := ⟨.hbm, 162, rfl⟩
abbrev main_while1b_call13_c : Ref sig .tc := ⟨.hbm, 163, rfl⟩
abbrev main_while1b_call13_c_0 : Ref sig .tc := ⟨.hbm, 164, rfl⟩
abbrev main_while1b_call13_c_1 : Ref sig .tc := ⟨.hbm, 165, rfl⟩
abbrev main_while1b_call13_v0 : Ref sig .tc := ⟨.hbm, 166, rfl⟩
abbrev main_while1b_v50 : Ref sig .tc := ⟨.hbm, 167, rfl⟩
abbrev main_while1b_call14_c : Ref sig .tc := ⟨.hbm, 168, rfl⟩
abbrev main_while1b_call14_c_0 : Ref sig .tc := ⟨.hbm, 169, rfl⟩
abbrev main_while1b_call14_c_1 : Ref sig .tc := ⟨.hbm, 170, rfl⟩
abbrev main_while1b_call14_v0 : Ref sig .tc := ⟨.hbm, 171, rfl⟩
abbrev main_while1b_v51 : Ref sig .tc := ⟨.hbm, 172, rfl⟩
abbrev main_while1b_call15_c : Ref sig .tc := ⟨.hbm, 173, rfl⟩
abbrev main_while1b_call15_c_0 : Ref sig .tc := ⟨.hbm, 174, rfl⟩
abbrev main_while1b_call15_c_1 : Ref sig .tc := ⟨.hbm, 175, rfl⟩
abbrev main_while1b_call15_v0 : Ref sig .tc := ⟨.hbm, 176, rfl⟩
abbrev main_while1b_v52 : Ref sig .tc := ⟨.hbm, 177, rfl⟩
abbrev main_while1b_call16_c : Ref sig .tc := ⟨.hbm, 178, rfl⟩
abbrev main_while1b_call16_c_0 : Ref sig .tc := ⟨.hbm, 179, rfl⟩
abbrev main_while1b_call16_c_1 : Ref sig .tc := ⟨.hbm, 180, rfl⟩
abbrev main_while1b_call16_v0 : Ref sig .tc := ⟨.hbm, 181, rfl⟩
abbrev main_while1b_v53 : Ref sig .tc := ⟨.hbm, 182, rfl⟩
abbrev main_while1b_call17_c : Ref sig .tc := ⟨.hbm, 183, rfl⟩
abbrev main_while1b_call17_c_0 : Ref sig .tc := ⟨.hbm, 184, rfl⟩
abbrev main_while1b_call17_c_1 : Ref sig .tc := ⟨.hbm, 185, rfl⟩
abbrev main_while1b_call17_v0 : Ref sig .tc := ⟨.hbm, 186, rfl⟩
abbrev main_while1b_v54 : Ref sig .tc := ⟨.hbm, 187, rfl⟩
abbrev main_while1b_v55 : Ref sig .tc := ⟨.hbm, 188, rfl⟩
abbrev main_while1b_v56 : Ref sig .tc := ⟨.hbm, 189, rfl⟩
abbrev main_while1b_v57 : Ref sig .tc := ⟨.hbm, 190, rfl⟩
abbrev main_while1b_v58 : Ref sig .tc := ⟨.hbm, 191, rfl⟩
abbrev main_while1b_v59 : Ref sig .tc := ⟨.hbm, 192, rfl⟩
abbrev main_while1b_cst_31 : Ref sig .tc := ⟨.hbm, 193, rfl⟩
abbrev main_while1b_v60 : Ref sig .tc := ⟨.hbm, 194, rfl⟩
abbrev main_while1b_v61 : Ref sig .tc := ⟨.hbm, 195, rfl⟩
abbrev main_while1b_v62 : Ref sig .tc := ⟨.hbm, 196, rfl⟩
abbrev main_while1b_v63 : Ref sig .tc := ⟨.hbm, 197, rfl⟩
abbrev main_while1b_cst_32 : Ref sig .tc := ⟨.hbm, 198, rfl⟩
abbrev main_while1b_v64 : Ref sig .tc := ⟨.hbm, 199, rfl⟩
abbrev main_while1b_v65 : Ref sig .tc := ⟨.hbm, 200, rfl⟩
abbrev main_while1b_v66 : Ref sig .tc := ⟨.hbm, 201, rfl⟩
abbrev main_while1b_v67 : Ref sig .tc := ⟨.hbm, 202, rfl⟩
abbrev main_while1b_v68 : Ref sig .tc := ⟨.hbm, 203, rfl⟩
abbrev main_while1b_v69 : Ref sig .tc := ⟨.hbm, 204, rfl⟩
abbrev main_while1b_v70 : Ref sig .tc := ⟨.hbm, 205, rfl⟩
abbrev main_while1b_v71 : Ref sig .tc := ⟨.hbm, 206, rfl⟩
abbrev main_while1b_v72 : Ref sig .tc := ⟨.hbm, 207, rfl⟩
abbrev main_while1b_v73 : Ref sig .tc := ⟨.hbm, 208, rfl⟩
abbrev main_while1b_v74 : Ref sig .tc := ⟨.hbm, 209, rfl⟩
abbrev main_while1b_v75 : Ref sig .tc := ⟨.hbm, 210, rfl⟩
abbrev main_while1b_v76 : Ref sig .tc := ⟨.hbm, 211, rfl⟩
abbrev main_while1b_v77 : Ref sig .tc := ⟨.hbm, 212, rfl⟩
abbrev main_while1b_call18_v0 : Ref sig .tc := ⟨.hbm, 213, rfl⟩
abbrev main_while1b_call18_c : Ref sig .tc := ⟨.hbm, 214, rfl⟩
abbrev main_while1b_call18_c_0 : Ref sig .tc := ⟨.hbm, 215, rfl⟩
abbrev main_while1b_call18_c_1 : Ref sig .tc := ⟨.hbm, 216, rfl⟩
abbrev main_while1b_v78 : Ref sig .tc := ⟨.hbm, 217, rfl⟩
abbrev main_while1b_call19_v0 : Ref sig .tc := ⟨.hbm, 218, rfl⟩
abbrev main_while1b_call19_c : Ref sig .tc := ⟨.hbm, 219, rfl⟩
abbrev main_while1b_call19_c_0 : Ref sig .tc := ⟨.hbm, 220, rfl⟩
abbrev main_while1b_call19_c_1 : Ref sig .tc := ⟨.hbm, 221, rfl⟩
abbrev main_while1b_v79 : Ref sig .tc := ⟨.hbm, 222, rfl⟩
abbrev main_while1b_call20_v0 : Ref sig .tc := ⟨.hbm, 223, rfl⟩
abbrev main_while1b_call20_c : Ref sig .tc := ⟨.hbm, 224, rfl⟩
abbrev main_while1b_call20_c_0 : Ref sig .tc := ⟨.hbm, 225, rfl⟩
abbrev main_while1b_call20_c_1 : Ref sig .tc := ⟨.hbm, 226, rfl⟩
abbrev main_while1b_v80 : Ref sig .tc := ⟨.hbm, 227, rfl⟩
abbrev main_while1b_call21_v0 : Ref sig .tc := ⟨.hbm, 228, rfl⟩
abbrev main_while1b_call21_c : Ref sig .tc := ⟨.hbm, 229, rfl⟩
abbrev main_while1b_call21_c_0 : Ref sig .tc := ⟨.hbm, 230, rfl⟩
abbrev main_while1b_call21_c_1 : Ref sig .tc := ⟨.hbm, 231, rfl⟩
abbrev main_while1b_v81 : Ref sig .tc := ⟨.hbm, 232, rfl⟩
abbrev main_while1b_call22_v0 : Ref sig .tc := ⟨.hbm, 233, rfl⟩
abbrev main_while1b_call22_c : Ref sig .tc := ⟨.hbm, 234, rfl⟩
abbrev main_while1b_call22_c_0 : Ref sig .tc := ⟨.hbm, 235, rfl⟩
abbrev main_while1b_call22_c_1 : Ref sig .tc := ⟨.hbm, 236, rfl⟩
abbrev main_while1b_v82 : Ref sig .tc := ⟨.hbm, 237, rfl⟩
abbrev main_while1b_call23_v0 : Ref sig .tc := ⟨.hbm, 238, rfl⟩
abbrev main_while1b_call23_c : Ref sig .tc := ⟨.hbm, 239, rfl⟩
abbrev main_while1b_v83 : Ref sig .tc := ⟨.hbm, 240, rfl⟩
abbrev main_while1b_c_33 : Ref sig .tc := ⟨.hbm, 241, rfl⟩
abbrev main_while1b_v84 : Ref sig .tc := ⟨.hbm, 242, rfl⟩
abbrev main_v32 : Ref sig .tc := ⟨.hbm, 243, rfl⟩
abbrev main_v33 : Ref sig .tc := ⟨.hbm, 244, rfl⟩
abbrev main_v34 : Ref sig .tc := ⟨.hbm, 245, rfl⟩
abbrev main_v35 : Ref sig .tc := ⟨.hbm, 246, rfl⟩
abbrev main_v36 : Ref sig .tc := ⟨.hbm, 247, rfl⟩
abbrev main_v37 : Ref sig .tc := ⟨.hbm, 248, rfl⟩
abbrev main_v38 : Ref sig .tc := ⟨.hbm, 249, rfl⟩
abbrev main_cst_13 : Ref sig .tc := ⟨.hbm, 250, rfl⟩
abbrev main_v39 : Ref sig .tc := ⟨.hbm, 251, rfl⟩
abbrev main_v40 : Ref sig .tc := ⟨.hbm, 252, rfl⟩
abbrev main_v41 : Ref sig .tc := ⟨.hbm, 253, rfl⟩
abbrev main_v42 : Ref sig .tc := ⟨.hbm, 254, rfl⟩
abbrev main_v43 : Ref sig .tc := ⟨.hbm, 255, rfl⟩
abbrev main_v44 : Ref sig .tc := ⟨.hbm, 256, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== Kernel2.lean ====
abbrev S4096x2048 : Shape := ⟨2, ![4096, 2048]⟩
abbrev S2x5632x2048 : Shape := ⟨3, ![2, 5632, 2048]⟩
abbrev S4096x5632 : Shape := ⟨2, ![4096, 5632]⟩
abbrev S2x4x1408x2048 : Shape := ⟨4, ![2, 4, 1408, 2048]⟩
abbrev S4x2x1408x2048 : Shape := ⟨4, ![4, 2, 1408, 2048]⟩
abbrev S512x2048 : Shape := ⟨2, ![512, 2048]⟩
abbrev S1x1x1408x2048 : Shape := ⟨4, ![1, 1, 1408, 2048]⟩
abbrev S512x1408 : Shape := ⟨2, ![512, 1408]⟩
abbrev S1408x2048 : Shape := ⟨2, ![1408, 2048]⟩

abbrev nBuf : Space → Nat
  | .hbm => 9
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2x5632x2048, .f32⟩
  | .hbm, ⟨2, _⟩ => ⟨S4096x5632, .bf16⟩
  | .hbm, ⟨3, _⟩ => ⟨S4096x5632, .bf16⟩
  | .hbm, ⟨4, _⟩ => ⟨S2x5632x2048, .bf16⟩
  | .hbm, ⟨5, _⟩ => ⟨S2x4x1408x2048, .bf16⟩
  | .hbm, ⟨6, _⟩ => ⟨S4x2x1408x2048, .bf16⟩
  | .hbm, ⟨7, _⟩ => ⟨S4096x5632, .bf16⟩
  | .hbm, ⟨8, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1x1408x2048, .bf16⟩
  | .local _ .vmem, ⟨3, _⟩ => ⟨S1x1x1408x2048, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x2048 : Shape := ⟨2, ![4096, 2048]⟩
abbrev S2x5632x2048 : Shape := ⟨3, ![2, 5632, 2048]⟩
abbrev S4096x5632 : Shape := ⟨2, ![4096, 5632]⟩
abbrev S_ : Shape := ⟨0, ![]⟩
abbrev S1x5632x2048 : Shape := ⟨3, ![1, 5632, 2048]⟩
abbrev S5632x2048 : Shape := ⟨2, ![5632, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x5632x2048, .f32⟩
  | .hbm, ⟨2, _⟩ => ⟨S4096x5632, .bf16⟩
  | .hbm, ⟨3, _⟩ => ⟨S4096x5632, .bf16⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S_, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S1x5632x2048, .f32⟩
  | .hbm, ⟨21, _⟩ => ⟨S5632x2048, .f32⟩
  | .hbm, ⟨22, _⟩ => ⟨S4096x2048, .f32⟩
  | .hbm, ⟨23, _⟩ => ⟨S4096x2048, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .bf16⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Kernel3.lean ====
abbrev S4096x5632 : Shape := ⟨2, ![4096, 5632]⟩
abbrev S2x2048x5632 : Shape := ⟨3, ![2, 2048, 5632]⟩
abbrev S2x2048x4x1408 : Shape := ⟨4, ![2, 2048, 4, 1408]⟩
abbrev S4x2x2048x1408 : Shape := ⟨4, ![4, 2, 2048, 1408]⟩
abbrev S4096x2048 : Shape := ⟨2, ![4096, 2048]⟩
abbrev S512x1408 : Shape := ⟨2, ![512, 1408]⟩
abbrev S1x1x2048x1408 : Shape := ⟨4, ![1, 1, 2048, 1408]⟩
abbrev S512x2048 : Shape := ⟨2, ![512, 2048]⟩
abbrev S2048x1408 : Shape := ⟨2, ![2048, 1408]⟩

abbrev nBuf : Space → Nat
  | .hbm => 11
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2x2048x5632, .f32⟩
  | .hbm, ⟨3, _⟩ => ⟨S2x2048x5632, .f32⟩
  | .hbm, ⟨4, _⟩ => ⟨S2x2048x5632, .bf16⟩
  | .hbm, ⟨5, _⟩ => ⟨S2x2048x4x1408, .bf16⟩
  | .hbm, ⟨6, _⟩ => ⟨S4x2x2048x1408, .bf16⟩
  | .hbm, ⟨7, _⟩ => ⟨S2x2048x5632, .bf16⟩
  | .hbm, ⟨8, _⟩ => ⟨S2x2048x4x1408, .bf16⟩
  | .hbm, ⟨9, _⟩ => ⟨S4x2x2048x1408, .bf16⟩
  | .hbm, ⟨10, _⟩ => ⟨S4096x2048, .f32⟩
  | .local _ .vmem, ⟨0, _⟩ => ⟨S512x1408, .bf16⟩
  | .local _ .vmem, ⟨1, _⟩ => ⟨S512x1408, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S512x1408, .bf16⟩
  | .local _ .vmem, ⟨5, _⟩ => ⟨S512x1408, .bf16⟩
  | .local _ .vmem, ⟨6, _⟩ => ⟨S1x1x2048x1408, .bf16⟩
  | .local _ .vmem, ⟨7, _⟩ => ⟨S1x1x2048x1408, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_15 : BitVec 32 := 0#32
  let v17 : BitVec 1 := Scalar.cmpi .ne v16 c0_i32_15
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c1_i32_0 : BitVec 32 := 1#32
  let v1 : BitVec 32 := Scalar.remsi arg1 c1_i32_0
  let c1_i32_1 : BitVec 32 := 1#32
  let c0_i32 : BitVec 32 := 0#32
  let c0_i32_2 : BitVec 32 := 0#32
  ![v0.toNat, c1_i32_1.toNat, c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c1_i32_0 : BitVec 32 := 1#32
  let v1 : BitVec 32 := Scalar.remsi arg1 c1_i32_0
  let c1_i32_1 : BitVec 32 := 1#32
  let c0_i32 : BitVec 32 := 0#32
  let c0_i32_2 : BitVec 32 := 0#32
  ![v0.toNat, c1_i32_1.toNat, c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S4096x5632 : Shape := ⟨2, ![4096, 5632]⟩
abbrev S2x2048x5632 : Shape := ⟨3, ![2, 2048, 5632]⟩
abbrev S_ : Shape := ⟨0, ![]⟩
abbrev S4096x2048 : Shape := ⟨2, ![4096, 2048]⟩
abbrev S1x2048x5632 : Shape := ⟨3, ![1, 2048, 5632]⟩
abbrev S2048x5632 : Shape := ⟨2, ![2048, 5632]⟩

abbrev nBuf : Space → Nat
  | .hbm => 17
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2x2048x5632, .f32⟩
  | .hbm, ⟨3, _⟩ => ⟨S2x2048x5632, .f32⟩
  | .hbm, ⟨4, _⟩ => ⟨S_, .f32⟩
  | .hbm, ⟨5, _⟩ => ⟨S4096x2048, .f32⟩
  | .hbm, ⟨6, _⟩ => ⟨S1x2048x5632, .f32⟩
  | .hbm, ⟨7, _⟩ => ⟨S2048x5632, .f32⟩
  | .hbm, ⟨8, _⟩ => ⟨S4096x5632, .f32⟩
  | .hbm, ⟨9, _⟩ => ⟨S1x2048x5632, .f32⟩
  | .hbm, ⟨10, _⟩ => ⟨S2048x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel4.lean ====
abbrev S4096x5632 : Shape := ⟨2, ![4096, 5632]⟩
abbrev S4096x2048 : Shape := ⟨2, ![4096, 2048]⟩
abbrev S4x2x1408x2048 : Shape := ⟨4, ![4, 2, 1408, 2048]⟩
abbrev S1024x1408 : Shape := ⟨2, ![1024, 1408]⟩
abbrev S1024x1024 : Shape := ⟨2, ![1024, 1024]⟩
abbrev S1x1x1408x1024 : Shape := ⟨4, ![1, 1, 1408, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4x2x1408x2048, .bf16⟩
  | .hbm, ⟨3, _⟩ => ⟨S4x2x1408x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x1408x1024, .bf16⟩
  | .local _ .vmem, ⟨5, _⟩ => ⟨S1x1x1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 2, 4], ![false, false, false, false]⟩

def k0_cond3 (i : grid0.Coords) : BitVec 1 :=
  let arg3 : BitVec 32 := BitVec.ofNat 32 (i 3).val
  let c3_i32 : BitVec 32 := 3#32
  let v9 : BitVec 1 := Scalar.cmpi .eq arg3 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat, arg2.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference4Ideal.lean ====
abbrev S4096x5632 : Shape := ⟨2, ![4096, 5632]⟩
abbrev S4096x2048 : Shape := ⟨2, ![4096, 2048]⟩
abbrev S4x2x1408x2048 : Shape := ⟨4, ![4, 2, 1408, 2048]⟩
abbrev S_ : Shape := ⟨0, ![]⟩
abbrev S5632x2048 : Shape := ⟨2, ![5632, 2048]⟩
abbrev S2048x5632 : Shape := ⟨2, ![2048, 5632]⟩
abbrev S4x1408x2048 : Shape := ⟨3, ![4, 1408, 2048]⟩
abbrev S4x1x1408x2048 : Shape := ⟨4, ![4, 1, 1408, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4x2x1408x2048, .bf16⟩
  | .hbm, ⟨3, _⟩ => ⟨S_, .f32⟩
  | .hbm, ⟨4, _⟩ => ⟨S5632x2048, .f32⟩
  | .hbm, ⟨5, _⟩ => ⟨S4096x5632, .f32⟩
  | .hbm, ⟨6, _⟩ => ⟨S4096x2048, .f32⟩
  | .hbm, ⟨7, _⟩ => ⟨S4096x2048, .f32⟩
  | .hbm, ⟨8, _⟩ => ⟨S2048x5632, .f32⟩
  | .hbm, ⟨9, _⟩ => ⟨S5632x2048, .f32⟩
  | .hbm, ⟨10, _⟩ => ⟨S4x1408x2048, .f32⟩
  | .hbm, ⟨11, _⟩ => ⟨S4x1408x2048, .bf16⟩
  | .hbm, ⟨12, _⟩ => ⟨S4x1x1408x2048, .bf16⟩
  | .hbm, ⟨13, _⟩ => ⟨S4x1408x2048, .bf16⟩
  | .hbm, ⟨14, _⟩ => ⟨S4x1x1408x2048, .bf16⟩
  | .hbm, ⟨15, _⟩ => ⟨S4x1x1408x2048, .bf16⟩
  | .hbm, ⟨16, _⟩ => ⟨S4x2x1408x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel5.lean ====
abbrev S4096x2048 : Shape := ⟨2, ![4096, 2048]⟩
abbrev S4096x5632 : Shape := ⟨2, ![4096, 5632]⟩
abbrev S4x2x2048x1408 : Shape := ⟨4, ![4, 2, 2048, 1408]⟩
abbrev S1024x1024 : Shape := ⟨2, ![1024, 1024]⟩
abbrev S1024x1408 : Shape := ⟨2, ![1024, 1408]⟩
abbrev S1x1x1024x1408 : Shape := ⟨4, ![1, 1, 1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2x2048x1408, .bf16⟩
  | .hbm, ⟨3, _⟩ => ⟨S4x2x2048x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 1, 4], ![false, false, false, false]⟩

def k0_cond3 (i : grid0.Coords) : BitVec 1 :=
  let arg3 : BitVec 32 := BitVec.ofNat 32 (i 3).val
  let c3_i32 : BitVec 32 := 3#32
  let v9 : BitVec 1 := Scalar.cmpi .eq arg3 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference5Ideal.lean ====
abbrev S4096x2048 : Shape := ⟨2, ![4096, 2048]⟩
abbrev S4096x5632 : Shape := ⟨2, ![4096, 5632]⟩
abbrev S4x2x2048x1408 : Shape := ⟨4, ![4, 2, 2048, 1408]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩
abbrev S4x1x2048x1408 : Shape := ⟨4, ![4, 1, 2048, 1408]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2x2048x1408, .bf16⟩
  | .hbm, ⟨3, _⟩ => ⟨S_, .f32⟩
  | .hbm, ⟨4, _⟩ => ⟨S2048x5632, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S5632x2048, .f32⟩
  | .hbm, ⟨9, _⟩ => ⟨S2048x5632, .f32⟩
  | .hbm, ⟨10, _⟩ => ⟨S2048x4x1408, .f32⟩
  | .hbm, ⟨11, _⟩ => ⟨S4x2048x1408, .f32⟩
  | .hbm, ⟨12, _⟩ => ⟨S4x2048x1408, .bf16⟩
  | .hbm, ⟨13, _⟩ => ⟨S4x1x2048x1408, .bf16⟩
  | .hbm, ⟨14, _⟩ => ⟨S4x2048x1408, .bf16⟩
  | .hbm, ⟨15, _⟩ => ⟨S4x1x2048x1408, .bf16⟩
  | .hbm, ⟨16, _⟩ => ⟨S4x1x2048x1408, .bf16⟩
  | .hbm, ⟨17, _⟩ => ⟨S4x2x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel6.lean ====
abbrev S4096x2048 : Shape := ⟨2, ![4096, 2048]⟩
abbrev S2x2048x5632 : Shape := ⟨3, ![2, 2048, 5632]⟩
abbrev S2x2048x4x1408 : Shape := ⟨4, ![2, 2048, 4, 1408]⟩
abbrev S4x2x2048x1408 : Shape := ⟨4, ![4, 2, 2048, 1408]⟩
abbrev S4096x5632 : Shape := ⟨2, ![4096, 5632]⟩
abbrev S512x2048 : Shape := ⟨2, ![512, 2048]⟩
abbrev S1x1x2048x1408 : Shape := ⟨4, ![1, 1, 2048, 1408]⟩
abbrev S512x1408 : Shape := ⟨2, ![512, 1408]⟩
abbrev S2048x1408 : Shape := ⟨2, ![2048, 1408]⟩

abbrev nBuf : Space → Nat
  | .hbm => 12
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2x2048x5632, .f32⟩
  | .hbm, ⟨2, _⟩ => ⟨S2x2048x5632, .f32⟩
  | .hbm, ⟨3, _⟩ => ⟨S2x2048x5632, .bf16⟩
  | .hbm, ⟨4, _⟩ => ⟨S2x2048x4x1408, .bf16⟩
  | .hbm, ⟨5, _⟩ => ⟨S4x2x2048x1408, .bf16⟩
  | .hbm, ⟨6, _⟩ => ⟨S2x2048x5632, .bf16⟩
  | .hbm, ⟨7, _⟩ => ⟨S2x2048x4x1408, .bf16⟩
  | .hbm, ⟨8, _⟩ => ⟨S4x2x2048x1408, .bf16⟩
  | .hbm, ⟨9, _⟩ => ⟨S4096x5632, .bf16⟩
  | .hbm, ⟨10, _⟩ => ⟨S4096x5632, .bf16⟩
  | .hbm, ⟨11, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x1x2048x1408, .bf16⟩
  | .local _ .vmem, ⟨5, _⟩ => ⟨S1x1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4096x2048 : Shape := ⟨2, ![4096, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S4096x5632 : Shape := ⟨2, ![4096, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x2048x5632, .f32⟩
  | .hbm, ⟨2, _⟩ => ⟨S2x2048x5632, .f32⟩
  | .hbm, ⟨3, _⟩ => ⟨S4096x2048, .f32⟩
  | .hbm, ⟨4, _⟩ => ⟨S1x2048x5632, .f32⟩
  | .hbm, ⟨5, _⟩ => ⟨S2048x5632, .f32⟩
  | .hbm, ⟨6, _⟩ => ⟨S4096x5632, .f32⟩
  | .hbm, ⟨7, _⟩ => ⟨S1x2048x5632, .f32⟩
  | .hbm, ⟨8, _⟩ => ⟨S2048x5632, .f32⟩
  | .hbm, ⟨9, _⟩ => ⟨S4096x5632, .f32⟩
  | .hbm, ⟨10, _⟩ => ⟨S4096x5632, .bf16⟩
  | .hbm, ⟨11, _⟩ => ⟨S4096x5632, .bf16⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel7.lean ====
abbrev S4096x5632 : Shape := ⟨2, ![4096, 5632]⟩
abbrev S2x5632x2048 : Shape := ⟨3, ![2, 5632, 2048]⟩
abbrev S2x4x1408x2048 : Shape := ⟨4, ![2, 4, 1408, 2048]⟩
abbrev S4x2x1408x2048 : Shape := ⟨4, ![4, 2, 1408, 2048]⟩
abbrev S4096x2048 : Shape := ⟨2, ![4096, 2048]⟩
abbrev S512x1408 : Shape := ⟨2, ![512, 1408]⟩
abbrev S1x1x1408x2048 : Shape := ⟨4, ![1, 1, 1408, 2048]⟩
abbrev S512x2048 : Shape := ⟨2, ![512, 2048]⟩
abbrev S1408x2048 : Shape := ⟨2, ![1408, 2048]⟩

abbrev nBuf : Space → Nat
  | .hbm => 6
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S2x5632x2048, .f32⟩
  | .hbm, ⟨2, _⟩ => ⟨S2x5632x2048, .bf16⟩
  | .hbm, ⟨3, _⟩ => ⟨S2x4x1408x2048, .bf16⟩
  | .hbm, ⟨4, _⟩ => ⟨S4x2x1408x2048, .bf16⟩
  | .hbm, ⟨5, _⟩ => ⟨S4096x2048, .f32⟩
  | .local _ .vmem, ⟨0, _⟩ => ⟨S512x1408, .bf16⟩
  | .local _ .vmem, ⟨1, _⟩ => ⟨S512x1408, .bf16⟩
  | .local _ .vmem, ⟨2, _⟩ => ⟨S1x1x1408x2048, .bf16⟩
  | .local _ .vmem, ⟨3, _⟩ => ⟨S1x1x1408x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S4096x5632 : Shape := ⟨2, ![4096, 5632]⟩
abbrev S2x5632x2048 : Shape := ⟨3, ![2, 5632, 2048]⟩
abbrev S1x5632x2048 : Shape := ⟨3, ![1, 5632, 2048]⟩
abbrev S5632x2048 : Shape := ⟨2, ![5632, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2x5632x2048, .f32⟩
  | .hbm, ⟨2, _⟩ => ⟨S4096x5632, .f32⟩
  | .hbm, ⟨3, _⟩ => ⟨S1x5632x2048, .f32⟩
  | .hbm, ⟨4, _⟩ => ⟨S5632x2048, .f32⟩
  | .hbm, ⟨5, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S4096x2048 : Shape := ⟨2, ![4096, 2048]⟩
abbrev S2048x5900 : Shape := ⟨2, ![2048, 5900]⟩
abbrev S_ : Shape := ⟨0, ![]⟩
abbrev S2048x6144 : Shape := ⟨2, ![2048, 6144]⟩
abbrev S1x2048x6144 : Shape := ⟨3, ![1, 2048, 6144]⟩
abbrev S4096x6144 : Shape := ⟨2, ![4096, 6144]⟩
abbrev S512x2048 : Shape := ⟨2, ![512, 2048]⟩
abbrev S1x2048x1536 : Shape := ⟨3, ![1, 2048, 1536]⟩
abbrev S512x1536 : Shape := ⟨2, ![512, 1536]⟩
abbrev S2048x1536 : Shape := ⟨2, ![2048, 1536]⟩

abbrev nBuf : Space → Nat
  | .hbm => 8
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x5900, .f32⟩
  | .hbm, ⟨2, _⟩ => ⟨S2048x5900, .bf16⟩
  | .hbm, ⟨3, _⟩ => ⟨S_, .i32⟩
  | .hbm, ⟨4, _⟩ => ⟨S_, .bf16⟩
  | .hbm, ⟨5, _⟩ => ⟨S2048x6144, .bf16⟩
  | .hbm, ⟨6, _⟩ => ⟨S1x2048x6144, .bf16⟩
  | .hbm, ⟨7, _⟩ => ⟨S4096x6144, .f32⟩
  | .local _ .vmem, ⟨0, _⟩ => ⟨S512x2048, .bf16⟩
  | .local _ .vmem, ⟨1, _⟩ => ⟨S512x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S512x1536, .f32⟩
  | .local _ .vmem, ⟨5, _⟩ => ⟨S512x1536, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 8, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference8Ideal.lean ====
abbrev S4096x2048 : Shape := ⟨2, ![4096, 2048]⟩
abbrev S2048x5900 : Shape := ⟨2, ![2048, 5900]⟩
abbrev S4096x5900 : Shape := ⟨2, ![4096, 5900]⟩
abbrev S_ : Shape := ⟨0, ![]⟩
abbrev S4096x6144 : Shape := ⟨2, ![4096, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5900, .f32⟩
  | .hbm, ⟨2, _⟩ => ⟨S4096x2048, .f32⟩
  | .hbm, ⟨3, _⟩ => ⟨S4096x5900, .f32⟩
  | .hbm, ⟨4, _⟩ => ⟨S_, .i32⟩
  | .hbm, ⟨5, _⟩ => ⟨S_, .f32⟩
  | .hbm, ⟨6, _⟩ => ⟨S4096x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel9.lean ====
abbrev S4096x6144 : Shape := ⟨2, ![4096, 6144]⟩
abbrev S2048x5900 : Shape := ⟨2, ![2048, 5900]⟩
abbrev S_ : Shape := ⟨0, ![]⟩
abbrev S2048x6144 : Shape := ⟨2, ![2048, 6144]⟩
abbrev S1x2048x6144 : Shape := ⟨3, ![1, 2048, 6144]⟩
abbrev S4096x2048 : Shape := ⟨2, ![4096, 2048]⟩
abbrev S512x1536 : Shape := ⟨2, ![512, 1536]⟩
abbrev S1x2048x1536 : Shape := ⟨3, ![1, 2048, 1536]⟩
abbrev S512x2048 : Shape := ⟨2, ![512, 2048]⟩
abbrev S2048x1536 : Shape := ⟨2, ![2048, 1536]⟩

abbrev nBuf : Space → Nat
  | .hbm => 8
  | .vmem => 7
  | .smem => 0
  | _ => 0

abbrev bufTy : (tb : Table) → Fin (tcTables nBuf tb) → BufTy
  | .hbm, ⟨0, _⟩ => ⟨S4096x6144, .f32⟩
  | .hbm, ⟨1, _⟩ => ⟨S2048x5900, .f32⟩
  | .hbm, ⟨2, _⟩ => ⟨S2048x5900, .bf16⟩
  | .hbm, ⟨3, _⟩ => ⟨S_, .i32⟩
  | .hbm, ⟨4, _⟩ => ⟨S_, .bf16⟩
  | .hbm, ⟨5, _⟩ => ⟨S2048x6144, .bf16⟩
  | .hbm, ⟨6, _⟩ => ⟨S1x2048x6144, .bf16⟩
  | .hbm, ⟨7, _⟩ => ⟨S4096x2048, .f32⟩
  | .local _ .vmem, ⟨0, _⟩ => ⟨S512x1536, .f32⟩
  | .local _ .vmem, ⟨1, _⟩ => ⟨S512x1536, .f32⟩
  | .local _ .vmem, ⟨2, _⟩ => ⟨S1x2048x1536, .bf16⟩
  | .local _ .vmem, ⟨3, _⟩ => ⟨S1x2048x1536, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c4_i32_0 : BitVec 32 := 4#32
  let v1 : BitVec 32 := Scalar.remsi arg1 c4_i32_0
  let c0_i32 : BitVec 32 := 0#32
  let c0_i32_1 : BitVec 32 := 0#32
  ![v0.toNat, c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference9Ideal.lean ====
abbrev S4096x6144 : Shape := ⟨2, ![4096, 6144]⟩
abbrev S2048x5900 : Shape := ⟨2, ![2048, 5900]⟩
abbrev S_ : Shape := ⟨0, ![]⟩
abbrev S4096x2048 : Shape := ⟨2, ![4096, 2048]⟩
abbrev S4096x5900 : Shape := ⟨2, ![4096, 5900]⟩

abbrev nBuf : Space → Nat
  | .hbm => 7
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S2048x5900, .f32⟩
  | .hbm, ⟨2, _⟩ => ⟨S_, .f32⟩
  | .hbm, ⟨3, _⟩ => ⟨S4096x2048, .f32⟩
  | .hbm, ⟨4, _⟩ => ⟨S4096x5900, .f32⟩
  | .hbm, ⟨5, _⟩ => ⟨S4096x5900, .f32⟩
  | .hbm, ⟨6, _⟩ => ⟨S4096x2048, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x2048 : Shape := ⟨2, ![4096, 2048]⟩
abbrev S4096x6144 : Shape := ⟨2, ![4096, 6144]⟩
abbrev S1x2048x6144 : Shape := ⟨3, ![1, 2048, 6144]⟩
abbrev S1024x1024 : Shape := ⟨2, ![1024, 1024]⟩
abbrev S1024x1536 : Shape := ⟨2, ![1024, 1536]⟩
abbrev S1x1024x1536 : Shape := ⟨3, ![1, 1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .f32⟩
  | .hbm, ⟨2, _⟩ => ⟨S1x2048x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .f32⟩
  | .local _ .vmem, ⟨3, _⟩ => ⟨S1024x1536, .f32⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 4, 4], ![false, false, false, false]⟩

def k0_cond3 (i : grid0.Coords) : BitVec 1 :=
  let arg3 : BitVec 32 := BitVec.ofNat 32 (i 3).val
  let c3_i32 : BitVec 32 := 3#32
  let v10 : BitVec 1 := Scalar.cmpi .eq arg3 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference10Ideal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩
abbrev S1x2048x6144 : Shape := ⟨3, ![1, 2048, 6144]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .f32⟩
  | .hbm, ⟨2, _⟩ => ⟨S_, .f32⟩
  | .hbm, ⟨3, _⟩ => ⟨S2048x6144, .f32⟩
  | .hbm, ⟨4, _⟩ => ⟨S4096x2048, .f32⟩
  | .hbm, ⟨5, _⟩ => ⟨S4096x6144, .f32⟩
  | .hbm, ⟨6, _⟩ => ⟨S6144x2048, .f32⟩
  | .hbm, ⟨7, _⟩ => ⟨S2048x6144, .f32⟩
  | .hbm, ⟨8, _⟩ => ⟨S2048x6144, .bf16⟩
  | .hbm, ⟨9, _⟩ => ⟨S1x2048x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S4x512x2048 : Shape := ⟨3, ![4, 512, 2048]⟩
abbrev S512x512 : Shape := ⟨2, ![512, 512]⟩
abbrev S1x512x2048 : Shape := ⟨3, ![1, 512, 2048]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4x512x2048, .bf16⟩
  | .hbm, ⟨4, _⟩ => ⟨S4096x2048, .f32⟩
  | .local _ .vmem, ⟨0, _⟩ => ⟨S512x512, .bf16⟩
  | .local _ .vmem, ⟨1, _⟩ => ⟨S512x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference11Ideal.lean ====
abbrev S4096x2048 : Shape := ⟨2, ![4096, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S4x512x2048 : Shape := ⟨3, ![4, 512, 2048]⟩
abbrev S512x2048 : Shape := ⟨2, ![512, 2048]⟩
abbrev S1x512x2048 : Shape := ⟨3, ![1, 512, 2048]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .bf16⟩
  | .hbm, ⟨3, _⟩ => ⟨S4x512x2048, .bf16⟩
  | .hbm, ⟨4, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S1x512x2048, .bf16⟩
  | .local _ .vmem, ⟨3, _⟩ => ⟨S1x512x2048, .bf16⟩
  | .local _ .vmem, ⟨4, _⟩ => ⟨S512x512, .f32⟩
  | .local _ .vmem, ⟨5, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S4096x2048 : Shape := ⟨2, ![4096, 2048]⟩
abbrev S4x512x2048 : Shape := ⟨3, ![4, 512, 2048]⟩
abbrev S1024x512 : Shape := ⟨2, ![1024, 512]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S4x512x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 2, 4], ![false, false, false, false]⟩

def k0_cond3 (i : grid0.Coords) : BitVec 1 :=
  let arg3 : BitVec 32 := BitVec.ofNat 32 (i 3).val
  let c3_i32 : BitVec 32 := 3#32
  let v10 : BitVec 1 := Scalar.cmpi .eq arg3 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference13Ideal.lean ====
abbrev S4096x2048 : Shape := ⟨2, ![4096, 2048]⟩
abbrev S_ : Shape := ⟨0, ![]⟩
abbrev S2048x2048 : Shape := ⟨2, ![2048, 2048]⟩
abbrev S4x512x2048 : Shape := ⟨3, ![4, 512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | .hbm, ⟨9, _⟩ => ⟨S4x512x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4096x2048 : Shape := ⟨2, ![4096, 2048]⟩
abbrev S4096x5632 : Shape := ⟨2, ![4096, 5632]⟩
abbrev S4x2x2048x1408 : Shape := ⟨4, ![4, 2, 2048, 1408]⟩
abbrev S1024x1024 : Shape := ⟨2, ![1024, 1024]⟩
abbrev S1024x1408 : Shape := ⟨2, ![1024, 1408]⟩
abbrev S1x1x1024x1408 : Shape := ⟨4, ![1, 1, 1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2x2048x1408, .bf16⟩
  | .hbm, ⟨3, _⟩ => ⟨S4x2x2048x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 1, 4], ![false, false, false, false]⟩

def k0_cond3 (i : grid0.Coords) : BitVec 1 :=
  let arg3 : BitVec 32 := BitVec.ofNat 32 (i 3).val
  let c3_i32 : BitVec 32 := 3#32
  let v9 : BitVec 1 := Scalar.cmpi .eq arg3 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference14Ideal.lean ====
abbrev S4096x2048 : Shape := ⟨2, ![4096, 2048]⟩
abbrev S4096x5632 : Shape := ⟨2, ![4096, 5632]⟩
abbrev S4x2x2048x1408 : Shape := ⟨4, ![4, 2, 2048, 1408]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩
abbrev S4x1x2048x1408 : Shape := ⟨4, ![4, 1, 2048, 1408]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2x2048x1408, .bf16⟩
  | .hbm, ⟨3, _⟩ => ⟨S_, .f32⟩
  | .hbm, ⟨4, _⟩ => ⟨S2048x5632, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S5632x2048, .f32⟩
  | .hbm, ⟨9, _⟩ => ⟨S2048x5632, .f32⟩
  | .hbm, ⟨10, _⟩ => ⟨S2048x4x1408, .f32⟩
  | .hbm, ⟨11, _⟩ => ⟨S4x2048x1408, .f32⟩
  | .hbm, ⟨12, _⟩ => ⟨S4x2048x1408, .bf16⟩
  | .hbm, ⟨13, _⟩ => ⟨S4x1x2048x1408, .bf16⟩
  | .hbm, ⟨14, _⟩ => ⟨S4x2048x1408, .bf16⟩
  | .hbm, ⟨15, _⟩ => ⟨S4x1x2048x1408, .bf16⟩
  | .hbm, ⟨16, _⟩ => ⟨S4x1x2048x1408, .bf16⟩
  | .hbm, ⟨17, _⟩ => ⟨S4x2x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel15.lean ====
abbrev S4096x2048 : Shape := ⟨2, ![4096, 2048]⟩
abbrev S2x5632x2048 : Shape := ⟨3, ![2, 5632, 2048]⟩
abbrev S4096x5632 : Shape := ⟨2, ![4096, 5632]⟩
abbrev S2x4x1408x2048 : Shape := ⟨4, ![2, 4, 1408, 2048]⟩
abbrev S4x2x1408x2048 : Shape := ⟨4, ![4, 2, 1408, 2048]⟩
abbrev S512x2048 : Shape := ⟨2, ![512, 2048]⟩
abbrev S1x1x1408x2048 : Shape := ⟨4, ![1, 1, 1408, 2048]⟩
abbrev S512x1408 : Shape := ⟨2, ![512, 1408]⟩
abbrev S1408x2048 : Shape := ⟨2, ![1408, 2048]⟩

abbrev nBuf : Space → Nat
  | .hbm => 9
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2x5632x2048, .f32⟩
  | .hbm, ⟨2, _⟩ => ⟨S4096x5632, .bf16⟩
  | .hbm, ⟨3, _⟩ => ⟨S4096x5632, .bf16⟩
  | .hbm, ⟨4, _⟩ => ⟨S2x5632x2048, .bf16⟩
  | .hbm, ⟨5, _⟩ => ⟨S2x4x1408x2048, .bf16⟩
  | .hbm, ⟨6, _⟩ => ⟨S4x2x1408x2048, .bf16⟩
  | .hbm, ⟨7, _⟩ => ⟨S4096x5632, .bf16⟩
  | .hbm, ⟨8, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1x1408x2048, .bf16⟩
  | .local _ .vmem, ⟨3, _⟩ => ⟨S1x1x1408x2048, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference15Ideal.lean ====
abbrev S4096x2048 : Shape := ⟨2, ![4096, 2048]⟩
abbrev S2x5632x2048 : Shape := ⟨3, ![2, 5632, 2048]⟩
abbrev S4096x5632 : Shape := ⟨2, ![4096, 5632]⟩
abbrev S_ : Shape := ⟨0, ![]⟩
abbrev S1x5632x2048 : Shape := ⟨3, ![1, 5632, 2048]⟩
abbrev S5632x2048 : Shape := ⟨2, ![5632, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x5632x2048, .f32⟩
  | .hbm, ⟨2, _⟩ => ⟨S4096x5632, .bf16⟩
  | .hbm, ⟨3, _⟩ => ⟨S4096x5632, .bf16⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S_, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S1x5632x2048, .f32⟩
  | .hbm, ⟨21, _⟩ => ⟨S5632x2048, .f32⟩
  | .hbm, ⟨22, _⟩ => ⟨S4096x2048, .f32⟩
  | .hbm, ⟨23, _⟩ => ⟨S4096x2048, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .bf16⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Kernel16.lean ====
abbrev S4096x5632 : Shape := ⟨2, ![4096, 5632]⟩
abbrev S2x2048x5632 : Shape := ⟨3, ![2, 2048, 5632]⟩
abbrev S2x2048x4x1408 : Shape := ⟨4, ![2, 2048, 4, 1408]⟩
abbrev S4x2x2048x1408 : Shape := ⟨4, ![4, 2, 2048, 1408]⟩
abbrev S4096x2048 : Shape := ⟨2, ![4096, 2048]⟩
abbrev S512x1408 : Shape := ⟨2, ![512, 1408]⟩
abbrev S1x1x2048x1408 : Shape := ⟨4, ![1, 1, 2048, 1408]⟩
abbrev S512x2048 : Shape := ⟨2, ![512, 2048]⟩
abbrev S2048x1408 : Shape := ⟨2, ![2048, 1408]⟩

abbrev nBuf : Space → Nat
  | .hbm => 11
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2x2048x5632, .f32⟩
  | .hbm, ⟨3, _⟩ => ⟨S2x2048x5632, .f32⟩
  | .hbm, ⟨4, _⟩ => ⟨S2x2048x5632, .bf16⟩
  | .hbm, ⟨5, _⟩ => ⟨S2x2048x4x1408, .bf16⟩
  | .hbm, ⟨6, _⟩ => ⟨S4x2x2048x1408, .bf16⟩
  | .hbm, ⟨7, _⟩ => ⟨S2x2048x5632, .bf16⟩
  | .hbm, ⟨8, _⟩ => ⟨S2x2048x4x1408, .bf16⟩
  | .hbm, ⟨9, _⟩ => ⟨S4x2x2048x1408, .bf16⟩
  | .hbm, ⟨10, _⟩ => ⟨S4096x2048, .f32⟩
  | .local _ .vmem, ⟨0, _⟩ => ⟨S512x1408, .bf16⟩
  | .local _ .vmem, ⟨1, _⟩ => ⟨S512x1408, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S512x1408, .bf16⟩
  | .local _ .vmem, ⟨5, _⟩ => ⟨S512x1408, .bf16⟩
  | .local _ .vmem, ⟨6, _⟩ => ⟨S1x1x2048x1408, .bf16⟩
  | .local _ .vmem, ⟨7, _⟩ => ⟨S1x1x2048x1408, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_15 : BitVec 32 := 0#32
  let v17 : BitVec 1 := Scalar.cmpi .ne v16 c0_i32_15
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  let c0_i32_1 : BitVec 32 := 0#32
  let c0_i32_2 : BitVec 32 := 0#32
  ![v0.toNat, c0_i32.toNat, c0_i32_1.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  let c0_i32_1 : BitVec 32 := 0#32
  let c0_i32_2 : BitVec 32 := 0#32
  ![v0.toNat, c0_i32.toNat, c0_i32_1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference16Ideal.lean ====
abbrev S4096x5632 : Shape := ⟨2, ![4096, 5632]⟩
abbrev S2x2048x5632 : Shape := ⟨3, ![2, 2048, 5632]⟩
abbrev S_ : Shape := ⟨0, ![]⟩
abbrev S4096x2048 : Shape := ⟨2, ![4096, 2048]⟩
abbrev S1x2048x5632 : Shape := ⟨3, ![1, 2048, 5632]⟩
abbrev S2048x5632 : Shape := ⟨2, ![2048, 5632]⟩

abbrev nBuf : Space → Nat
  | .hbm => 17
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2x2048x5632, .f32⟩
  | .hbm, ⟨3, _⟩ => ⟨S2x2048x5632, .f32⟩
  | .hbm, ⟨4, _⟩ => ⟨S_, .f32⟩
  | .hbm, ⟨5, _⟩ => ⟨S4096x2048, .f32⟩
  | .hbm, ⟨6, _⟩ => ⟨S1x2048x5632, .f32⟩
  | .hbm, ⟨7, _⟩ => ⟨S2048x5632, .f32⟩
  | .hbm, ⟨8, _⟩ => ⟨S4096x5632, .f32⟩
  | .hbm, ⟨9, _⟩ => ⟨S1x2048x5632, .f32⟩
  | .hbm, ⟨10, _⟩ => ⟨S2048x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel17.lean ====
abbrev S4096x2048 : Shape := ⟨2, ![4096, 2048]⟩
abbrev S2x2048x5632 : Shape := ⟨3, ![2, 2048, 5632]⟩
abbrev S2x2048x4x1408 : Shape := ⟨4, ![2, 2048, 4, 1408]⟩
abbrev S4x2x2048x1408 : Shape := ⟨4, ![4, 2, 2048, 1408]⟩
abbrev S4096x5632 : Shape := ⟨2, ![4096, 5632]⟩
abbrev S512x2048 : Shape := ⟨2, ![512, 2048]⟩
abbrev S1x1x2048x1408 : Shape := ⟨4, ![1, 1, 2048, 1408]⟩
abbrev S512x1408 : Shape := ⟨2, ![512, 1408]⟩
abbrev S2048x1408 : Shape := ⟨2, ![2048, 1408]⟩

abbrev nBuf : Space → Nat
  | .hbm => 12
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2x2048x5632, .f32⟩
  | .hbm, ⟨2, _⟩ => ⟨S2x2048x5632, .f32⟩
  | .hbm, ⟨3, _⟩ => ⟨S2x2048x5632, .bf16⟩
  | .hbm, ⟨4, _⟩ => ⟨S2x2048x4x1408, .bf16⟩
  | .hbm, ⟨5, _⟩ => ⟨S4x2x2048x1408, .bf16⟩
  | .hbm, ⟨6, _⟩ => ⟨S2x2048x5632, .bf16⟩
  | .hbm, ⟨7, _⟩ => ⟨S2x2048x4x1408, .bf16⟩
  | .hbm, ⟨8, _⟩ => ⟨S4x2x2048x1408, .bf16⟩
  | .hbm, ⟨9, _⟩ => ⟨S4096x5632, .bf16⟩
  | .hbm, ⟨10, _⟩ => ⟨S4096x5632, .bf16⟩
  | .hbm, ⟨11, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x1x2048x1408, .bf16⟩
  | .local _ .vmem, ⟨5, _⟩ => ⟨S1x1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference17Ideal.lean ====
abbrev S4096x2048 : Shape := ⟨2, ![4096, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S4096x5632 : Shape := ⟨2, ![4096, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x2048x5632, .f32⟩
  | .hbm, ⟨2, _⟩ => ⟨S2x2048x5632, .f32⟩
  | .hbm, ⟨3, _⟩ => ⟨S4096x2048, .f32⟩
  | .hbm, ⟨4, _⟩ => ⟨S1x2048x5632, .f32⟩
  | .hbm, ⟨5, _⟩ => ⟨S2048x5632, .f32⟩
  | .hbm, ⟨6, _⟩ => ⟨S4096x5632, .f32⟩
  | .hbm, ⟨7, _⟩ => ⟨S1x2048x5632, .f32⟩
  | .hbm, ⟨8, _⟩ => ⟨S2048x5632, .f32⟩
  | .hbm, ⟨9, _⟩ => ⟨S4096x5632, .f32⟩
  | .hbm, ⟨10, _⟩ => ⟨S4096x5632, .bf16⟩
  | .hbm, ⟨11, _⟩ => ⟨S4096x5632, .bf16⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel18.lean ====
abbrev S4096x5632 : Shape := ⟨2, ![4096, 5632]⟩
abbrev S2x5632x2048 : Shape := ⟨3, ![2, 5632, 2048]⟩
abbrev S2x4x1408x2048 : Shape := ⟨4, ![2, 4, 1408, 2048]⟩
abbrev S4x2x1408x2048 : Shape := ⟨4, ![4, 2, 1408, 2048]⟩
abbrev S4096x2048 : Shape := ⟨2, ![4096, 2048]⟩
abbrev S512x1408 : Shape := ⟨2, ![512, 1408]⟩
abbrev S1x1x1408x2048 : Shape := ⟨4, ![1, 1, 1408, 2048]⟩
abbrev S512x2048 : Shape := ⟨2, ![512, 2048]⟩
abbrev S1408x2048 : Shape := ⟨2, ![1408, 2048]⟩

abbrev nBuf : Space → Nat
  | .hbm => 6
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S2x5632x2048, .f32⟩
  | .hbm, ⟨2, _⟩ => ⟨S2x5632x2048, .bf16⟩
  | .hbm, ⟨3, _⟩ => ⟨S2x4x1408x2048, .bf16⟩
  | .hbm, ⟨4, _⟩ => ⟨S4x2x1408x2048, .bf16⟩
  | .hbm, ⟨5, _⟩ => ⟨S4096x2048, .f32⟩
  | .local _ .vmem, ⟨0, _⟩ => ⟨S512x1408, .bf16⟩
  | .local _ .vmem, ⟨1, _⟩ => ⟨S512x1408, .bf16⟩
  | .local _ .vmem, ⟨2, _⟩ => ⟨S1x1x1408x2048, .bf16⟩
  | .local _ .vmem, ⟨3, _⟩ => ⟨S1x1x1408x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference18Ideal.lean ====
abbrev S4096x5632 : Shape := ⟨2, ![4096, 5632]⟩
abbrev S2x5632x2048 : Shape := ⟨3, ![2, 5632, 2048]⟩
abbrev S1x5632x2048 : Shape := ⟨3, ![1, 5632, 2048]⟩
abbrev S5632x2048 : Shape := ⟨2, ![5632, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2x5632x2048, .f32⟩
  | .hbm, ⟨2, _⟩ => ⟨S4096x5632, .f32⟩
  | .hbm, ⟨3, _⟩ => ⟨S1x5632x2048, .f32⟩
  | .hbm, ⟨4, _⟩ => ⟨S5632x2048, .f32⟩
  | .hbm, ⟨5, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S4096x5632 : Shape := ⟨2, ![4096, 5632]⟩
abbrev S4096x2048 : Shape := ⟨2, ![4096, 2048]⟩
abbrev S4x2x1408x2048 : Shape := ⟨4, ![4, 2, 1408, 2048]⟩
abbrev S1024x1408 : Shape := ⟨2, ![1024, 1408]⟩
abbrev S1024x1024 : Shape := ⟨2, ![1024, 1024]⟩
abbrev S1x1x1408x1024 : Shape := ⟨4, ![1, 1, 1408, 1024]⟩
abbrev S1408x1024 : Shape := ⟨2, ![1408, 1024]⟩
abbrev S4x1x1408x2048 : Shape := ⟨4, ![4, 1, 1408, 2048]⟩
abbrev S4x1408x2048 : Shape := ⟨3, ![4, 1408, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4x2x1408x2048, .bf16⟩
  | .hbm, ⟨3, _⟩ => ⟨S4x1x1408x2048, .bf16⟩
  | .hbm, ⟨4, _⟩ => ⟨S4x1408x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x1408x1024, .bf16⟩
  | .local _ .vmem, ⟨5, _⟩ => ⟨S1x1x1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 2, 4], ![false, false, false, false]⟩

def k0_cond3 (i : grid0.Coords) : BitVec 1 :=
  let arg3 : BitVec 32 := BitVec.ofNat 32 (i 3).val
  let c3_i32 : BitVec 32 := 3#32
  let v9 : BitVec 1 := Scalar.cmpi .eq arg3 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let c0_i32 : BitVec 32 := 0#32
  ![arg0.toNat, c1_i32.toNat, arg1.toNat, arg2.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference19Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩
abbrev S4x1408x2048 : Shape := ⟨3, ![4, 1408, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S4x1408x2048, .f32⟩
  | .hbm, ⟨10, _⟩ => ⟨S4x1408x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel20.lean ====
abbrev S4096x2048 : Shape := ⟨2, ![4096, 2048]⟩
abbrev S4096x5632 : Shape := ⟨2, ![4096, 5632]⟩
abbrev S4x2x2048x1408 : Shape := ⟨4, ![4, 2, 2048, 1408]⟩
abbrev S1024x1024 : Shape := ⟨2, ![1024, 1024]⟩
abbrev S1024x1408 : Shape := ⟨2, ![1024, 1408]⟩
abbrev S1x1x1024x1408 : Shape := ⟨4, ![1, 1, 1024, 1408]⟩
abbrev S4x1x2048x1408 : Shape := ⟨4, ![4, 1, 2048, 1408]⟩
abbrev S4x2048x1408 : Shape := ⟨3, ![4, 2048, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2x2048x1408, .bf16⟩
  | .hbm, ⟨3, _⟩ => ⟨S4x1x2048x1408, .bf16⟩
  | .hbm, ⟨4, _⟩ => ⟨S4x2048x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 1, 4], ![false, false, false, false]⟩

def k0_cond3 (i : grid0.Coords) : BitVec 1 :=
  let arg3 : BitVec 32 := BitVec.ofNat 32 (i 3).val
  let c3_i32 : BitVec 32 := 3#32
  let v9 : BitVec 1 := Scalar.cmpi .eq arg3 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let c0_i32 : BitVec 32 := 0#32
  ![arg0.toNat, c1_i32.toNat, arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference20Ideal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S2048x4x1408, .f32⟩
  | .hbm, ⟨10, _⟩ => ⟨S4x2048x1408, .f32⟩
  | .hbm, ⟨11, _⟩ => ⟨S4x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel21.lean ====
abbrev S4096x2048 : Shape := ⟨2, ![4096, 2048]⟩
abbrev S4096x5632 : Shape := ⟨2, ![4096, 5632]⟩
abbrev S4x2x2048x1408 : Shape := ⟨4, ![4, 2, 2048, 1408]⟩
abbrev S1024x1024 : Shape := ⟨2, ![1024, 1024]⟩
abbrev S1024x1408 : Shape := ⟨2, ![1024, 1408]⟩
abbrev S1x1x1024x1408 : Shape := ⟨4, ![1, 1, 1024, 1408]⟩
abbrev S4x1x2048x1408 : Shape := ⟨4, ![4, 1, 2048, 1408]⟩
abbrev S4x2048x1408 : Shape := ⟨3, ![4, 2048, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2x2048x1408, .bf16⟩
  | .hbm, ⟨3, _⟩ => ⟨S4x1x2048x1408, .bf16⟩
  | .hbm, ⟨4, _⟩ => ⟨S4x2048x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 1, 4], ![false, false, false, false]⟩

def k0_cond3 (i : grid0.Coords) : BitVec 1 :=
  let arg3 : BitVec 32 := BitVec.ofNat 32 (i 3).val
  let c3_i32 : BitVec 32 := 3#32
  let v9 : BitVec 1 := Scalar.cmpi .eq arg3 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let c0_i32 : BitVec 32 := 0#32
  ![arg0.toNat, c1_i32.toNat, arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference21Ideal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S2048x4x1408, .f32⟩
  | .hbm, ⟨10, _⟩ => ⟨S4x2048x1408, .f32⟩
  | .hbm, ⟨11, _⟩ => ⟨S4x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel22.lean ====
abbrev S18x4096x128 : Shape := ⟨3, ![18, 4096, 128]⟩
abbrev S4096x6144 : Shape := ⟨2, ![4096, 6144]⟩
abbrev S4x2304 : Shape := ⟨2, ![4, 2304]⟩
abbrev S4096x2304 : Shape := ⟨2, ![4096, 2304]⟩
abbrev S1x4096x128 : Shape := ⟨3, ![1, 4096, 128]⟩
abbrev S4096x128 : Shape := ⟨2, ![4096, 128]⟩
abbrev S4x128 : Shape := ⟨2, ![4, 128]⟩
abbrev S1x128 : Shape := ⟨2, ![1, 128]⟩
abbrev S128 : Shape := ⟨1, ![128]⟩

abbrev nBuf : Space → Nat
  | .hbm => 5
  | .vmem => 10
  | .smem => 0
  | _ => 0

abbrev bufTy : (tb : Table) → Fin (tcTables nBuf tb) → BufTy
  | .hbm, ⟨0, _⟩ => ⟨S18x4096x128, .f32⟩
  | .hbm, ⟨1, _⟩ => ⟨S4096x6144, .f32⟩
  | .hbm, ⟨2, _⟩ => ⟨S4x2304, .f32⟩
  | .hbm, ⟨3, _⟩ => ⟨S4096x2304, .f32⟩
  | .hbm, ⟨4, _⟩ => ⟨S4x2304, .f32⟩
  | .local _ .vmem, ⟨0, _⟩ => ⟨S1x4096x128, .f32⟩
  | .local _ .vmem, ⟨1, _⟩ => ⟨S1x4096x128, .f32⟩
  | .local _ .vmem, ⟨2, _⟩ => ⟨S4096x128, .f32⟩
  | .local _ .vmem, ⟨3, _⟩ => ⟨S4096x128, .f32⟩
  | .local _ .vmem, ⟨4, _⟩ => ⟨S4x128, .f32⟩
  | .local _ .vmem, ⟨5, _⟩ => ⟨S4x128, .f32⟩
  | .local _ .vmem, ⟨6, _⟩ => ⟨S4096x128, .f32⟩
  | .local _ .vmem, ⟨7, _⟩ => ⟨S4096x128, .f32⟩
  | .local _ .vmem, ⟨8, _⟩ => ⟨S4x128, .f32⟩
  | .local _ .vmem, ⟨9, _⟩ => ⟨S4x128, .f32⟩
  | _, _ => ⟨S18x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![18], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference22Ideal.lean ====
abbrev S18x4096x128 : Shape := ⟨3, ![18, 4096, 128]⟩
abbrev S4096x6144 : Shape := ⟨2, ![4096, 6144]⟩
abbrev S4x2304 : Shape := ⟨2, ![4, 2304]⟩
abbrev S4096x18x128 : Shape := ⟨3, ![4096, 18, 128]⟩
abbrev S4096x2304 : Shape := ⟨2, ![4096, 2304]⟩
abbrev S_ : Shape := ⟨0, ![]⟩
abbrev S3x2304 : Shape := ⟨2, ![3, 2304]⟩
abbrev S4099x2304 : Shape := ⟨2, ![4099, 2304]⟩
abbrev S1x2304 : Shape := ⟨2, ![1, 2304]⟩
abbrev S2304 : Shape := ⟨1, ![2304]⟩

abbrev nBuf : Space → Nat
  | .hbm => 115
  | .vmem => 0
  | .smem => 0
  | _ => 0

abbrev bufTy : (tb : Table) → Fin (tcTables nBuf tb) → BufTy
  | .hbm, ⟨0, _⟩ => ⟨S18x4096x128, .f32⟩
  | .hbm, ⟨1, _⟩ => ⟨S4096x6144, .f32⟩
  | .hbm, ⟨2, _⟩ => ⟨S4x2304, .f32⟩
  | .hbm, ⟨3, _⟩ => ⟨S4096x18x128, .f32⟩
  | .hbm, ⟨4, _⟩ => ⟨S4096x2304, .f32⟩
  | .hbm, ⟨5, _⟩ => ⟨S4096x2304, .f32⟩
  | .hbm, ⟨6, _⟩ => ⟨S_, .f32⟩
  | .hbm, ⟨7, _⟩ => ⟨S3x2304, .f32⟩
  | .hbm, ⟨8, _⟩ => ⟨S4099x2304, .f32⟩
  | .hbm, ⟨9, _⟩ => ⟨S_, .f32⟩
  | .hbm, ⟨10, _⟩ => ⟨S3x2304, .f32⟩
  | .hbm, ⟨11, _⟩ => ⟨S1x2304, .f32⟩
  | .hbm, ⟨12, _⟩ => ⟨S2304, .f32⟩
  | .hbm, ⟨13, _⟩ => ⟨S4096x2304, .f32⟩
  | .hbm, ⟨14, _⟩ => ⟨S1x2304, .f32⟩
  | .hbm, ⟨15, _⟩ => ⟨S4096x2304, .f32⟩
  | .hbm, ⟨16, _⟩ => ⟨S4096x2304, .f32⟩
  | .hbm, ⟨17, _⟩ => ⟨S1x2304, .f32⟩
  | .hbm, ⟨18, _⟩ => ⟨S2304, .f32⟩
  | .hbm, ⟨19, _⟩ => ⟨S4096x2304, .f32⟩
  | .hbm, ⟨20, _⟩ => ⟨S1x2304, .f32⟩
  | .hbm, ⟨21, _⟩ => ⟨S4096x2304, .f32⟩
  | .hbm, ⟨22, _⟩ => ⟨S4096x2304, .f32⟩
  | .hbm, ⟨23, _⟩ => ⟨S4096x2304, .f32⟩
  | .hbm, ⟨24, _⟩ => ⟨S1x2304, .f32⟩
  | .hbm, ⟨25, _⟩ => ⟨S2304, .f32⟩
  | .hbm, ⟨26, _⟩ => ⟨S4096x2304, .f32⟩
  | .hbm, ⟨27, _⟩ => ⟨S1x2304, .f32⟩
  | .hbm, ⟨28, _⟩ => ⟨S4096x2304, .f32⟩
  | .hbm, ⟨29, _⟩ => ⟨S4096x2304, .f32⟩
  | .hbm, ⟨30, _⟩ => ⟨S4096x2304, .f32⟩
  | .hbm, ⟨31, _⟩ => ⟨S1x2304, .f32⟩
  | .hbm, ⟨32, _⟩ => ⟨S2304, .f32⟩
  | .hbm, ⟨33, _⟩ => ⟨S4096x2304, .f32⟩
  | .hbm, ⟨34, _⟩ => ⟨S1x2304, .f32⟩
  | .hbm, ⟨35, _⟩ => ⟨S4096x2304, .f32⟩
  | .hbm, ⟨36, _⟩ => ⟨S4096x2304, .f32⟩
  | .hbm, ⟨37, _⟩ => ⟨S4096x2304, .f32⟩
  | .hbm, ⟨38, _⟩ => ⟨S4096x2304, .f32⟩
  | .hbm, ⟨39, _⟩ => ⟨S4096x2304, .f32⟩
  | .hbm, ⟨40, _⟩ => ⟨S_, .f32⟩
  | .hbm, ⟨41, _⟩ => ⟨S4096x2304, .f32⟩
  | .hbm, ⟨42, _⟩ => ⟨S4096x2304, .f32⟩
  | .hbm, ⟨43, _⟩ => ⟨S_, .f32⟩
  | .hbm, ⟨44, _⟩ => ⟨S4096x2304, .f32⟩
  | .hbm, ⟨45, _⟩ => ⟨S4096x2304, .f32⟩
  | .hbm, ⟨46, _⟩ => ⟨S_, .f32⟩
  | .hbm, ⟨47, _⟩ => ⟨S4096x2304, .f32⟩
  | .hbm, ⟨48, _⟩ => ⟨S4096x2304, .f32⟩
  | .hbm, ⟨49, _⟩ => ⟨S4096x2304, .f32⟩
  | .hbm, ⟨50, _⟩ => ⟨S4096x2304, .f32⟩
  | .hbm, ⟨51, _⟩ => ⟨S4096x2304, .f32⟩
  | .hbm, ⟨52, _⟩ => ⟨S4096x2304, .f32⟩
  | .hbm, ⟨53, _⟩ => ⟨S4096x2304, .f32⟩
  | .hbm, ⟨54, _⟩ => ⟨S4096x2304, .f32⟩
  | .hbm, ⟨55, _⟩ => ⟨S4096x2304, .f32⟩
  | .hbm, ⟨56, _⟩ => ⟨S4096x2304, .f32⟩
  | .hbm, ⟨57, _⟩ => ⟨S4096x2304, .f32⟩
  | .hbm, ⟨58, _⟩ => ⟨S_, .f32⟩
  | .hbm, ⟨59, _⟩ => ⟨S2304, .f32⟩
  | .hbm, ⟨60, _⟩ => ⟨S1x2304, .f32⟩
  | .hbm, ⟨61, _⟩ => ⟨S_, .f32⟩
  | .hbm, ⟨62, _⟩ => ⟨S2304, .f32⟩
  | .hbm, ⟨63, _⟩ => ⟨S_, .f32⟩
  | .hbm, ⟨64, _⟩ => ⟨S4099x2304, .f32⟩
  | .hbm, ⟨65, _⟩ => ⟨S1x2304, .f32⟩
  | .hbm, ⟨66, _⟩ => ⟨S_, .f32⟩
  | .hbm, ⟨67, _⟩ => ⟨S4x2304, .f32⟩
  | .hbm, ⟨68, _⟩ => ⟨S4096x2304, .f32⟩
  | .hbm, ⟨69, _⟩ => ⟨S4096x2304, .f32⟩
  | .hbm, ⟨70, _⟩ => ⟨S4096x2304, .f32⟩
  | .hbm, ⟨71, _⟩ => ⟨S_, .f32⟩
  | .hbm, ⟨72, _⟩ => ⟨S2304, .f32⟩
  | .hbm, ⟨73, _⟩ => ⟨S1x2304, .f32⟩
  | .hbm, ⟨74, _⟩ => ⟨S_, .f32⟩
  | .hbm, ⟨75, _⟩ => ⟨S2304, .f32⟩
  | .hbm, ⟨76, _⟩ => ⟨S_, .f32⟩
  | .hbm, ⟨77, _⟩ => ⟨S4099x2304, .f32⟩
  | .hbm, ⟨78, _⟩ => ⟨S4099x2304, .f32⟩
  | .hbm, ⟨79, _⟩ => ⟨S1x2304, .f32⟩
  | .hbm, ⟨80, _⟩ => ⟨S_, .f32⟩
  | .hbm, ⟨81, _⟩ => ⟨S4x2304, .f32⟩
  | .hbm, ⟨82, _⟩ => ⟨S4x2304, .f32⟩
  | .hbm, ⟨83, _⟩ => ⟨S4096x2304, .f32⟩
  | .hbm, ⟨84, _⟩ => ⟨S4096x2304, .f32⟩
  | .hbm, ⟨85, _⟩ => ⟨S4096x2304, .f32⟩
  | .hbm, ⟨86, _⟩ => ⟨S_, .f32⟩
  | .hbm, ⟨87, _⟩ => ⟨S2304, .f32⟩
  | .hbm, ⟨88, _⟩ => ⟨S1x2304, .f32⟩
  | .hbm, ⟨89, _⟩ => ⟨S_, .f32⟩
  | .hbm, ⟨90, _⟩ => ⟨S2304, .f32⟩
  | .hbm, ⟨91, _⟩ => ⟨S_, .f32⟩
  | .hbm, ⟨92, _⟩ => ⟨S4099x2304, .f32⟩
  | .hbm, ⟨93, _⟩ => ⟨S4099x2304, .f32⟩
  | .hbm, ⟨94, _⟩ => ⟨S1x2304, .f32⟩
  | .hbm, ⟨95, _⟩ => ⟨S_, .f32⟩
  | .hbm, ⟨96, _⟩ => ⟨S4x2304, .f32⟩
  | .hbm, ⟨97, _⟩ => ⟨S4x2304, .f32⟩
  | .hbm, ⟨98, _⟩ => ⟨S4096x2304, .f32⟩
  | .hbm, ⟨99, _⟩ => ⟨S4096x2304, .f32⟩
  | .hbm, ⟨100, _⟩ => ⟨S4096x2304, .f32⟩
  | .hbm, ⟨101, _⟩ => ⟨S_, .f32⟩
  | .hbm, ⟨102, _⟩ => ⟨S2304, .f32⟩
  | .hbm, ⟨103, _⟩ => ⟨S1x2304, .f32⟩
  | .hbm, ⟨104, _⟩ => ⟨S_, .f32⟩
  | .hbm, ⟨105, _⟩ => ⟨S2304, .f32⟩
  | .hbm, ⟨106, _⟩ => ⟨S_, .f32⟩
  | .hbm, ⟨107, _⟩ => ⟨S4099x2304, .f32⟩
  | .hbm, ⟨108, _⟩ => ⟨S4099x2304, .f32⟩
  | .hbm, ⟨109, _⟩ => ⟨S1x2304, .f32⟩
  | .hbm, ⟨110, _⟩ => ⟨S_, .f32⟩
  | .hbm, ⟨111, _⟩ => ⟨S4x2304, .f32⟩
  | .hbm, ⟨112, _⟩ => ⟨S4x2304, .f32⟩
  | .hbm, ⟨113, _⟩ => ⟨S3x2304, .f32⟩
  | .hbm, ⟨114, _⟩ => ⟨S4096x2304, .f32⟩
  | _, _ => ⟨S18x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v33_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v33_1 : Ref sig .tc := ⟨.hbm, 49, rfl⟩
abbrev main_v33_0 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_1 : Ref sig .tc := ⟨.hbm, 58, rfl⟩
abbrev main_v38 : Ref sig .tc := ⟨.hbm, 59, rfl⟩
abbrev main_v39 : Ref sig .tc := ⟨.hbm, 60, rfl⟩
abbrev main_cst_2 : Ref sig .tc := ⟨.hbm, 61, rfl⟩
abbrev main_v40 : Ref sig .tc := ⟨.hbm, 62, rfl⟩
abbrev main_cst_3 : Ref sig .tc := ⟨.hbm, 63, rfl⟩
abbrev main_v41 : Ref sig .tc := ⟨.hbm, 64, rfl⟩
abbrev main_v42 : Ref sig .tc := ⟨.hbm, 65, rfl⟩
abbrev main_cst_4 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_5 : Ref sig .tc := ⟨.hbm, 71, rfl⟩
abbrev main_v47 : Ref sig .tc := ⟨.hbm, 72, rfl⟩
abbrev main_v48 : Ref sig .tc := ⟨.hbm, 73, rfl⟩
abbrev main_cst_6 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_8 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_9 : Ref sig .tc := ⟨.hbm, 86, rfl⟩
abbrev main_v58 : Ref sig .tc := ⟨.hbm, 87, rfl⟩
abbrev main_v59 : Ref sig .tc := ⟨.hbm, 88, rfl⟩
abbrev main_cst_10 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_12 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_13 : Ref sig .tc := ⟨.hbm, 101, rfl⟩
abbrev main_v69 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_cst_15 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_16 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩

abbrev nD : Nat := 1
abbrev τ : Topo := Topo.v7x

variable {F : FTy → Type} [FloatOps F]
-- ==== Kernel23.lean ====
abbrev S4096x6144 : Shape := ⟨2, ![4096, 6144]⟩
abbrev S4x2304 : Shape := ⟨2, ![4, 2304]⟩
abbrev S18x4096x128 : Shape := ⟨3, ![18, 4096, 128]⟩
abbrev S4096x128 : Shape := ⟨2, ![4096, 128]⟩
abbrev S4x128 : Shape := ⟨2, ![4, 128]⟩
abbrev S1x4096x128 : Shape := ⟨3, ![1, 4096, 128]⟩
abbrev S1x128 : Shape := ⟨2, ![1, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x6144, .f32⟩
  | .hbm, ⟨1, _⟩ => ⟨S4x2304, .f32⟩
  | .hbm, ⟨2, _⟩ => ⟨S18x4096x128, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S1x4096x128, .f32⟩
  | .local _ .vmem, ⟨5, _⟩ => ⟨S1x4096x128, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S4096x6144 : Shape := ⟨2, ![4096, 6144]⟩
abbrev S4x2304 : Shape := ⟨2, ![4, 2304]⟩
abbrev S4096x2304 : Shape := ⟨2, ![4096, 2304]⟩
abbrev S_ : Shape := ⟨0, ![]⟩
abbrev S3x2304 : Shape := ⟨2, ![3, 2304]⟩
abbrev S4099x2304 : Shape := ⟨2, ![4099, 2304]⟩
abbrev S1x2304 : Shape := ⟨2, ![1, 2304]⟩
abbrev S2304 : Shape := ⟨1, ![2304]⟩
abbrev S4096x18x128 : Shape := ⟨3, ![4096, 18, 128]⟩
abbrev S18x4096x128 : Shape := ⟨3, ![18, 4096, 128]⟩

abbrev nBuf : Space → Nat
  | .hbm => 44
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4x2304, .f32⟩
  | .hbm, ⟨2, _⟩ => ⟨S4096x2304, .f32⟩
  | .hbm, ⟨3, _⟩ => ⟨S_, .f32⟩
  | .hbm, ⟨4, _⟩ => ⟨S3x2304, .f32⟩
  | .hbm, ⟨5, _⟩ => ⟨S4099x2304, .f32⟩
  | .hbm, ⟨6, _⟩ => ⟨S1x2304, .f32⟩
  | .hbm, ⟨7, _⟩ => ⟨S2304, .f32⟩
  | .hbm, ⟨8, _⟩ => ⟨S4096x2304, .f32⟩
  | .hbm, ⟨9, _⟩ => ⟨S1x2304, .f32⟩
  | .hbm, ⟨10, _⟩ => ⟨S4096x2304, .f32⟩
  | .hbm, ⟨11, _⟩ => ⟨S4096x2304, .f32⟩
  | .hbm, ⟨12, _⟩ => ⟨S1x2304, .f32⟩
  | .hbm, ⟨13, _⟩ => ⟨S2304, .f32⟩
  | .hbm, ⟨14, _⟩ => ⟨S4096x2304, .f32⟩
  | .hbm, ⟨15, _⟩ => ⟨S1x2304, .f32⟩
  | .hbm, ⟨16, _⟩ => ⟨S4096x2304, .f32⟩
  | .hbm, ⟨17, _⟩ => ⟨S4096x2304, .f32⟩
  | .hbm, ⟨18, _⟩ => ⟨S4096x2304, .f32⟩
  | .hbm, ⟨19, _⟩ => ⟨S1x2304, .f32⟩
  | .hbm, ⟨20, _⟩ => ⟨S2304, .f32⟩
  | .hbm, ⟨21, _⟩ => ⟨S4096x2304, .f32⟩
  | .hbm, ⟨22, _⟩ => ⟨S1x2304, .f32⟩
  | .hbm, ⟨23, _⟩ => ⟨S4096x2304, .f32⟩
  | .hbm, ⟨24, _⟩ => ⟨S4096x2304, .f32⟩
  | .hbm, ⟨25, _⟩ => ⟨S4096x2304, .f32⟩
  | .hbm, ⟨26, _⟩ => ⟨S1x2304, .f32⟩
  | .hbm, ⟨27, _⟩ => ⟨S2304, .f32⟩
  | .hbm, ⟨28, _⟩ => ⟨S4096x2304, .f32⟩
  | .hbm, ⟨29, _⟩ => ⟨S1x2304, .f32⟩
  | .hbm, ⟨30, _⟩ => ⟨S4096x2304, .f32⟩
  | .hbm, ⟨31, _⟩ => ⟨S4096x2304, .f32⟩
  | .hbm, ⟨32, _⟩ => ⟨S4096x2304, .f32⟩
  | .hbm, ⟨33, _⟩ => ⟨S4096x2304, .f32⟩
  | .hbm, ⟨34, _⟩ => ⟨S4096x2304, .f32⟩
  | .hbm, ⟨35, _⟩ => ⟨S_, .f32⟩
  | .hbm, ⟨36, _⟩ => ⟨S4096x2304, .f32⟩
  | .hbm, ⟨37, _⟩ => ⟨S4096x2304, .f32⟩
  | .hbm, ⟨38, _⟩ => ⟨S_, .f32⟩
  | .hbm, ⟨39, _⟩ => ⟨S4096x2304, .f32⟩
  | .hbm, ⟨40, _⟩ => ⟨S4096x2304, .f32⟩
  | .hbm, ⟨41, _⟩ => ⟨S4096x2304, .f32⟩
  | .hbm, ⟨42, _⟩ => ⟨S4096x18x128, .f32⟩
  | .hbm, ⟨43, _⟩ => ⟨S18x4096x128, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel24.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .bf16⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_13 : BitVec 32 := 0#32
  let v34 : BitVec 1 := Scalar.cmpi .ne v33 c0_i32_13
  v34

def k0_cond2 (i : grid0.Coords) : BitVec 1 :=
  let arg0 : BitVec 32 := BitVec.ofNat 32 (i 0).val
  let c0_i32_14 : BitVec 32 := 0#32
  let v35 : BitVec 1 := Scalar.cmpi .sgt arg0 c0_i32_14
  let v36 : BitVec 32 := Scalar.extui v35
  let c0_i32_15 : BitVec 32 := 0#32
  let v37 : BitVec 1 := Scalar.cmpi .ne v36 c0_i32_15
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference24Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel25.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_15 : BitVec 32 := 0#32
  let v35 : BitVec 1 := Scalar.cmpi .ne v34 c0_i32_15
  v35

def k0_cond2 (i : grid0.Coords) : BitVec 1 :=
  let arg0 : BitVec 32 := BitVec.ofNat 32 (i 0).val
  let c0_i32_16 : BitVec 32 := 0#32
  let v36 : BitVec 1 := Scalar.cmpi .sgt arg0 c0_i32_16
  let v37 : BitVec 32 := Scalar.extui v36
  let c0_i32_17 : BitVec 32 := 0#32
  let v38 : BitVec 1 := Scalar.cmpi .ne v37 c0_i32_17
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference25Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.FwdBody.lean ====
/-
  Region 0, the forward scan of one chunk: what its body leaves in the staging buffers and in the carried state, from any contents of the inputs.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit.Basic
public import Idealize.ShloMosaic.Lib.Ring
public import Idealize.ShloMosaic.Lib.Tactic
public import Idealize.ShloMosaic.Lib.WordCmp

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of a view after stores of which the last one covers it whole: that store's payload. -/
theorem stored_eq {sp : Space} {S : Shape} {e : EltTy} (v : View sig .tc sp S e) (f : v.ty.Contents (Elt F)) {off : Fin S.rank → ℕ}
    (h : ∀ a, off a = 0) (inb : ∀ a, off a + S.size a ≤ S.size a) (w : S.Idx → Elt F e) (L : List (View.Piece (Elt F) S e)) :
    v.read (Elt F) (v.writes (Elt F) f (⟨Rect.unit off S.size inb, w⟩ :: L)) = w := by
  obtain rfl : off = fun _ => 0 := funext h
  funext y
  have e := View.read_writes_cons_emb v f (Rect.whole S) w L y
  rw [Rect.emb_whole_apply] at e
  exact e

/-- A state of zeros. -/
abbrev zeroState : FVec F S6x128x128 .f32 := k0_pay2

/-- The state after one chunk of the forward scan: the decayed state plus `ktᵀ (u − w S)`. -/
abbrev fwdState (s : FVec F S6x128x128 .f32) (u w kt : FVec F S6x64x128 .f32) (dc : FVec F S6x1x1x128 .f32) : FVec F S6x128x128 .f32 :=
  k0_pay1 kt (k0_pay4 s u w) (k0_pay6 s dc)

/-- The condition of region 0's branch: the first point. -/
abbrev cond0 (i : grid0.Coords) : Prop := (Scalar.cmpi .ne (Scalar.extui (Scalar.cmpi .eq (BitVec.ofNat 32 (i 0).val) 0#32)) 0#32) = 1#1

set_option maxHeartbeats 4000000 in
/-- The body of region 0 at the first point: the carried state is cleared, then stepped. -/
theorem body0_first (c : Dev nD) (i : grid0.Coords) (arg1 : Memref sig .tc .vmem S6x64x128 .f32) (harg1 : arg1.IsWhole)
    (arg2 : Memref sig .tc .vmem S6x64x128 .f32) (harg2 : arg2.IsWhole)
    (arg3 : Memref sig .tc .vmem S6x64x64 .f32) (harg3 : arg3.IsWhole)
    (arg4 : Memref sig .tc .vmem S6x64x128 .f32) (harg4 : arg4.IsWhole)
    (arg5 : Memref sig .tc .vmem S6x64x128 .f32) (harg5 : arg5.IsWhole)
    (arg6 : Memref sig .tc .vmem S6x1x1x128 .f32) (harg6 : arg6.IsWhole)
    (arg7 : Memref sig .tc .vmem S6x64x128 .f32) (harg7 : arg7.IsWhole)
    (arg8 : Memref sig .tc .vmem S1x6x128x128 .f32) (harg8 : arg8.IsWhole)
    (arg9 : Memref sig .tc .vmem S6x128x128 .f32) (harg9 : arg9.IsWhole)
    (hc : cond0 i) (x0 : Vec F S6x64x128 .f32) (x1 : Vec F S6x64x128 .f32) (x2 : Vec F S6x64x64 .f32) (x3 : Vec F S6x64x128 .f32) (x4 : Vec F S6x64x128 .f32) (x5 : Vec F S6x1x1x128 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (∃ d, owns (c : Thread nD τ) arg8 fullShare d)
        ∗ (∃ d, owns (c : Thread nD τ) arg9 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare (k0_pay5 zeroState x0 x1 x2 x3)
        ∗ owns (c : Thread nD τ) arg8 fullShare (k0_pay3 zeroState)
        ∗ owns (c : Thread nD τ) arg9 fullShare (fwdState zeroState x0 x1 x4 x5)) -∗ K ⟨⟩))
      ⊢ wp frame (wpE (defs₀ (F := F)) Variants.none c none) E (cc0_gdn_scan_fwd i arg1 harg1 arg2 harg2 arg3 harg3 arg4 harg4 arg5 harg5 arg6 harg6 arg7 harg7 arg8 harg8 arg9 harg9) K := by
  simp only [cc0_gdn_scan_fwd_eq_skeleton]; unfold cc0_gdn_scan_fwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; exact (stored_eq _ _ (by decide) _ _ _).trans (by sl_unfold_words; simp (discharger := decide) only [View.readAt_eq_ld, Memref.IsWhole.read_unread, View.ld_unit_lit, View.readCov_unit_lit])
  isplitl [H7]
  · iexists _; isplitr; swap; · iexact H7
    ipureintro; exact (stored_eq _ _ (by decide) _ _ _).trans (by sl_unfold_words; simp (discharger := decide) only [View.readAt_eq_ld, Memref.IsWhole.read_unread, View.ld_unit_lit, View.readCov_unit_lit])
  iexists _; isplitr; swap; · iexact H8
  ipureintro; exact (stored_eq _ _ (by decide) _ _ _).trans (by sl_unfold_words; simp (discharger := decide) only [View.readAt_eq_ld, Memref.IsWhole.read_unread, View.ld_unit_lit, View.readCov_unit_lit])

set_option maxHeartbeats 4000000 in
/-- The body of region 0 at a later point: the carried state is stepped. -/
theorem body0_later (c : Dev nD) (i : grid0.Coords) (arg1 : Memref sig .tc .vmem S6x64x128 .f32) (harg1 : arg1.IsWhole)
    (arg2 : Memref sig .tc .vmem S6x64x128 .f32) (harg2 : arg2.IsWhole)
    (arg3 : Memref sig .tc .vmem S6x64x64 .f32) (harg3 : arg3.IsWhole)
    (arg4 : Memref sig .tc .vmem S6x64x128 .f32) (harg4 : arg4.IsWhole)
    (arg5 : Memref sig .tc .vmem S6x64x128 .f32) (harg5 : arg5.IsWhole)
    (arg6 : Memref sig .tc .vmem S6x1x1x128 .f32) (harg6 : arg6.IsWhole)
    (arg7 : Memref sig .tc .vmem S6x64x128 .f32) (harg7 : arg7.IsWhole)
    (arg8 : Memref sig .tc .vmem S1x6x128x128 .f32) (harg8 : arg8.IsWhole)
    (arg9 : Memref sig .tc .vmem S6x128x128 .f32) (harg9 : arg9.IsWhole)
    (hc : ¬cond0 i) (x0 : Vec F S6x64x128 .f32) (x1 : Vec F S6x64x128 .f32) (x2 : Vec F S6x64x64 .f32) (x3 : Vec F S6x64x128 .f32) (x4 : Vec F S6x64x128 .f32) (x5 : Vec F S6x1x1x128 .f32) (s : Vec F S6x128x128 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (∃ d, owns (c : Thread nD τ) arg8 fullShare d)
        ∗ owns (c : Thread nD τ) arg9 fullShare s
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare (k0_pay5 s x0 x1 x2 x3)
        ∗ owns (c : Thread nD τ) arg8 fullShare (k0_pay3 s)
        ∗ owns (c : Thread nD τ) arg9 fullShare (fwdState s x0 x1 x4 x5)) -∗ K ⟨⟩))
      ⊢ wp frame (wpE (defs₀ (F := F)) Variants.none c none) E (cc0_gdn_scan_fwd i arg1 harg1 arg2 harg2 arg3 harg3 arg4 harg4 arg5 harg5 arg6 harg6 arg7 harg7 arg8 harg8 arg9 harg9) K := by
  simp only [cc0_gdn_scan_fwd_eq_skeleton]; unfold cc0_gdn_scan_fwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; exact (stored_eq _ _ (by decide) _ _ _).trans (by sl_unfold_words; simp (discharger := decide) only [View.readAt_eq_ld, Memref.IsWhole.read_unread, View.ld_unit_lit, View.readCov_unit_lit])
  isplitl [H7]
  · iexists _; isplitr; swap; · iexact H7
    ipureintro; exact (stored_eq _ _ (by decide) _ _ _).trans (by sl_unfold_words; simp (discharger := decide) only [View.readAt_eq_ld, Memref.IsWhole.read_unread, View.ld_unit_lit, View.readCov_unit_lit])
  iexists _; isplitr; swap; · iexact H8
  ipureintro; exact (stored_eq _ _ (by decide) _ _ _).trans (by sl_unfold_words; simp (discharger := decide) only [View.readAt_eq_ld, Memref.IsWhole.read_unread, View.ld_unit_lit, View.readCov_unit_lit])

end Cert.Proof

end
-- ==== Proof.BwdBody.lean ====
/-
  Region 1, the backward scan of one chunk: what its body leaves in the staging buffers and in the carried gradient of the state, from any contents of the inputs.
-/
module

public import proofs.«01_k».proof.Proof.FwdBody

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The gradient of the state before a chunk, from that of the state after it (`g`). -/
abbrev bwdState (g : FVec F S6x128x128 .f32) (dO w : FVec F S6x64x128 .f32) (attn : FVec F S6x64x64 .f32) (qd kt : FVec F S6x64x128 .f32)
    (dc : FVec F S6x1x1x128 .f32) : FVec F S6x128x128 .f32 :=
  k1_pay19 w attn qd (k1_pay5 dc) dO (k1_pay6 g) (k1_pay8 kt g)

/-- A gradient of zeros, of the state after the last chunk. -/
abbrev zeroGrad : FVec F S6x128x128 .f32 := k1_pay2

/-- The condition of region 1's branch: the first point. -/
abbrev cond1 (i : grid1.Coords) : Prop := (Scalar.cmpi .ne (Scalar.extui (Scalar.cmpi .eq (BitVec.ofNat 32 (i 0).val) 0#32)) 0#32) = 1#1

set_option maxHeartbeats 4000000 in
/-- The body of region 1 at the first point: the carried state is cleared, then stepped. -/
theorem body1_first (c : Dev nD) (i : grid1.Coords) (arg1 : Memref sig .tc .vmem S6x64x128 .f32) (harg1 : arg1.IsWhole)
    (arg2 : Memref sig .tc .vmem S1x6x128x128 .f32) (harg2 : arg2.IsWhole)
    (arg3 : Memref sig .tc .vmem S6x64x128 .f32) (harg3 : arg3.IsWhole)
    (arg4 : Memref sig .tc .vmem S6x64x128 .f32) (harg4 : arg4.IsWhole)
    (arg5 : Memref sig .tc .vmem S6x64x64 .f32) (harg5 : arg5.IsWhole)
    (arg6 : Memref sig .tc .vmem S6x64x128 .f32) (harg6 : arg6.IsWhole)
    (arg7 : Memref sig .tc .vmem S6x64x128 .f32) (harg7 : arg7.IsWhole)
    (arg8 : Memref sig .tc .vmem S6x1x1x128 .f32) (harg8 : arg8.IsWhole)
    (arg9 : Memref sig .tc .vmem S6x64x128 .f32) (harg9 : arg9.IsWhole)
    (arg10 : Memref sig .tc .vmem S6x64x128 .f32) (harg10 : arg10.IsWhole)
    (arg11 : Memref sig .tc .vmem S6x64x64 .f32) (harg11 : arg11.IsWhole)
    (arg12 : Memref sig .tc .vmem S6x64x128 .f32) (harg12 : arg12.IsWhole)
    (arg13 : Memref sig .tc .vmem S6x64x128 .f32) (harg13 : arg13.IsWhole)
    (arg14 : Memref sig .tc .vmem S6x1x1x128 .f32) (harg14 : arg14.IsWhole)
    (arg15 : Memref sig .tc .vmem S6x128x128 .f32) (harg15 : arg15.IsWhole)
    (hc : cond1 i) (x0 : Vec F S6x64x128 .f32) (x1 : Vec F S1x6x128x128 .f32) (x2 : Vec F S6x64x128 .f32) (x3 : Vec F S6x64x128 .f32) (x4 : Vec F S6x64x64 .f32) (x5 : Vec F S6x64x128 .f32) (x6 : Vec F S6x64x128 .f32) (x7 : Vec F S6x1x1x128 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare (k1_pay14 x4 x0 (k1_pay8 x6 zeroGrad))
        ∗ owns (c : Thread nD τ) arg10 fullShare (k1_pay18 (k1_pay3 x1) x4 x0 (k1_pay8 x6 zeroGrad))
        ∗ owns (c : Thread nD τ) arg11 fullShare (k1_pay15 (k1_pay4 x1 x2 x3) x0)
        ∗ owns (c : Thread nD τ) arg12 fullShare (k1_pay16 (k1_pay3 x1) x0)
        ∗ owns (c : Thread nD τ) arg13 fullShare (k1_pay9 x1 x2 x3 zeroGrad)
        ∗ owns (c : Thread nD τ) arg14 fullShare (k1_pay1 (k1_pay11 (k1_pay10 x1 zeroGrad)))
        ∗ owns (c : Thread nD τ) arg15 fullShare (bwdState zeroGrad x0 x3 x4 x5 x6 x7)) -∗ K ⟨⟩))
      ⊢ wp frame (wpE (defs₀ (F := F)) Variants.none c none) E (cc1_gdn_scan_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_gdn_scan_bwd_eq_skeleton]; unfold cc1_gdn_scan_bwd_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro; exact (stored_eq _ _ (by decide) _ _ _).trans (by sl_unfold_words; simp (discharger := decide) only [View.readAt_eq_ld, Memref.IsWhole.read_unread, View.ld_unit_lit, View.readCov_unit_lit])
  isplitl [H9]
  · iexists _; isplitr; swap; · iexact H9
    ipureintro; exact (stored_eq _ _ (by decide) _ _ _).trans (by sl_unfold_words; simp (discharger := decide) only [View.readAt_eq_ld, Memref.IsWhole.read_unread, View.ld_unit_lit, View.readCov_unit_lit])
  isplitl [H10]
  · iexists _; isplitr; swap; · iexact H10
    ipureintro; exact (stored_eq _ _ (by decide) _ _ _).trans (by sl_unfold_words; simp (discharger := decide) only [View.readAt_eq_ld, Memref.IsWhole.read_unread, View.ld_unit_lit, View.readCov_unit_lit])
  isplitl [H11]
  · iexists _; isplitr; swap; · iexact H11
    ipureintro; exact (stored_eq _ _ (by decide) _ _ _).trans (by sl_unfold_words; simp (discharger := decide) only [View.readAt_eq_ld, Memref.IsWhole.read_unread, View.ld_unit_lit, View.readCov_unit_lit])
  isplitl [H12]
  · iexists _; isplitr; swap; · iexact H12
    ipureintro; exact (stored_eq _ _ (by decide) _ _ _).trans (by sl_unfold_words; simp (discharger := decide) only [View.readAt_eq_ld, Memref.IsWhole.read_unread, View.ld_unit_lit, View.readCov_unit_lit])
  isplitl [H13]
  · iexists _; isplitr; swap; · iexact H13
    ipureintro; exact (stored_eq _ _ (by decide) _ _ _).trans (by sl_unfold_words; simp (discharger := decide) only [View.readAt_eq_ld, Memref.IsWhole.read_unread, View.ld_unit_lit, View.readCov_unit_lit])
  iexists _; isplitr; swap; · iexact H14
  ipureintro; exact (stored_eq _ _ (by decide) _ _ _).trans (by sl_unfold_words; simp (discharger := decide) only [View.readAt_eq_ld, Memref.IsWhole.read_unread, View.ld_unit_lit, View.readCov_unit_lit])

set_option maxHeartbeats 4000000 in
/-- The body of region 1 at a later point: the carried state is stepped. -/
theorem body1_later (c : Dev nD) (i : grid1.Coords) (arg1 : Memref sig .tc .vmem S6x64x128 .f32) (harg1 : arg1.IsWhole)
    (arg2 : Memref sig .tc .vmem S1x6x128x128 .f32) (harg2 : arg2.IsWhole)
    (arg3 : Memref sig .tc .vmem S6x64x128 .f32) (harg3 : arg3.IsWhole)
    (arg4 : Memref sig .tc .vmem S6x64x128 .f32) (harg4 : arg4.IsWhole)
    (arg5 : Memref sig .tc .vmem S6x64x64 .f32) (harg5 : arg5.IsWhole)
    (arg6 : Memref sig .tc .vmem S6x64x128 .f32) (harg6 : arg6.IsWhole)
    (arg7 : Memref sig .tc .vmem S6x64x128 .f32) (harg7 : arg7.IsWhole)
    (arg8 : Memref sig .tc .vmem S6x1x1x128 .f32) (harg8 : arg8.IsWhole)
    (arg9 : Memref sig .tc .vmem S6x64x128 .f32) (harg9 : arg9.IsWhole)
    (arg10 : Memref sig .tc .vmem S6x64x128 .f32) (harg10 : arg10.IsWhole)
    (arg11 : Memref sig .tc .vmem S6x64x64 .f32) (harg11 : arg11.IsWhole)
    (arg12 : Memref sig .tc .vmem S6x64x128 .f32) (harg12 : arg12.IsWhole)
    (arg13 : Memref sig .tc .vmem S6x64x128 .f32) (harg13 : arg13.IsWhole)
    (arg14 : Memref sig .tc .vmem S6x1x1x128 .f32) (harg14 : arg14.IsWhole)
    (arg15 : Memref sig .tc .vmem S6x128x128 .f32) (harg15 : arg15.IsWhole)
    (hc : ¬cond1 i) (x0 : Vec F S6x64x128 .f32) (x1 : Vec F S1x6x128x128 .f32) (x2 : Vec F S6x64x128 .f32) (x3 : Vec F S6x64x128 .f32) (x4 : Vec F S6x64x64 .f32) (x5 : Vec F S6x64x128 .f32) (x6 : Vec F S6x64x128 .f32) (x7 : Vec F S6x1x1x128 .f32) (s : Vec F S6x128x128 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ owns (c : Thread nD τ) arg15 fullShare s
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare (k1_pay14 x4 x0 (k1_pay8 x6 s))
        ∗ owns (c : Thread nD τ) arg10 fullShare (k1_pay18 (k1_pay3 x1) x4 x0 (k1_pay8 x6 s))
        ∗ owns (c : Thread nD τ) arg11 fullShare (k1_pay15 (k1_pay4 x1 x2 x3) x0)
        ∗ owns (c : Thread nD τ) arg12 fullShare (k1_pay16 (k1_pay3 x1) x0)
        ∗ owns (c : Thread nD τ) arg13 fullShare (k1_pay9 x1 x2 x3 s)
        ∗ owns (c : Thread nD τ) arg14 fullShare (k1_pay1 (k1_pay11 (k1_pay10 x1 s)))
        ∗ owns (c : Thread nD τ) arg15 fullShare (bwdState s x0 x3 x4 x5 x6 x7)) -∗ K ⟨⟩))
      ⊢ wp frame (wpE (defs₀ (F := F)) Variants.none c none) E (cc1_gdn_scan_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_gdn_scan_bwd_eq_skeleton]; unfold cc1_gdn_scan_bwd_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg15.eq_unread hf14
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro; exact (stored_eq _ _ (by decide) _ _ _).trans (by sl_unfold_words; simp (discharger := decide) only [View.readAt_eq_ld, Memref.IsWhole.read_unread, View.ld_unit_lit, View.readCov_unit_lit])
  isplitl [H9]
  · iexists _; isplitr; swap; · iexact H9
    ipureintro; exact (stored_eq _ _ (by decide) _ _ _).trans (by sl_unfold_words; simp (discharger := decide) only [View.readAt_eq_ld, Memref.IsWhole.read_unread, View.ld_unit_lit, View.readCov_unit_lit])
  isplitl [H10]
  · iexists _; isplitr; swap; · iexact H10
    ipureintro; exact (stored_eq _ _ (by decide) _ _ _).trans (by sl_unfold_words; simp (discharger := decide) only [View.readAt_eq_ld, Memref.IsWhole.read_unread, View.ld_unit_lit, View.readCov_unit_lit])
  isplitl [H11]
  · iexists _; isplitr; swap; · iexact H11
    ipureintro; exact (stored_eq _ _ (by decide) _ _ _).trans (by sl_unfold_words; simp (discharger := decide) only [View.readAt_eq_ld, Memref.IsWhole.read_unread, View.ld_unit_lit, View.readCov_unit_lit])
  isplitl [H12]
  · iexists _; isplitr; swap; · iexact H12
    ipureintro; exact (stored_eq _ _ (by decide) _ _ _).trans (by sl_unfold_words; simp (discharger := decide) only [View.readAt_eq_ld, Memref.IsWhole.read_unread, View.ld_unit_lit, View.readCov_unit_lit])
  isplitl [H13]
  · iexists _; isplitr; swap; · iexact H13
    ipureintro; exact (stored_eq _ _ (by decide) _ _ _).trans (by sl_unfold_words; simp (discharger := decide) only [View.readAt_eq_ld, Memref.IsWhole.read_unread, View.ld_unit_lit, View.readCov_unit_lit])
  iexists _; isplitr; swap; · iexact H14
  ipureintro; exact (stored_eq _ _ (by decide) _ _ _).trans (by sl_unfold_words; simp (discharger := decide) only [View.readAt_eq_ld, Memref.IsWhole.read_unread, View.ld_unit_lit, View.readCov_unit_lit])

end Cert.Proof

end
-- ==== Proof.RefOps.lean ====
/-
  The reference program's operations as lists: three stretches of @main around two counted loops, and the stretches of each loop's body.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.Proof.Ref

open Cert.ReferenceIdeal Cert.ReferenceIdeal.Gen
open Idealize.ShloMosaic Idealize.ShloMosaic.TcCoe
open Idealize.SL Idealize.SL.RA Idealize.SL.BI
open scoped Idealize.SL.BI
open StableHlo (TRef unary_bufs_sub unary nullary_bufs_sub nullary reshape_bufs_sub binary_bufs_sub binary unaryIndexed_bufs_sub binaryIndexed_bufs_sub)
open Idealize.SL.BI.BIBase Idealize.SL.Sem

variable {F : FTy → Type} [FloatOps F]

/-- A list of operations. -/
abbrev Ops (F : FTy → Type) [FloatOps F] : Type := List (HloOp τ sig (Elt F))

/-- Each of them touches TensorCore references only. -/
abbrev Touches (ops : Ops F) : Prop := ops.Forall fun op => op.bufs ⊆ StableHlo.tcRefs τ sig

/-- None of them makes a reference of its own. -/
abbrev Unfresh (ops : Ops F) : Prop := ops.Forall fun op => op.fresh = ∅

/-- The arrays of a shape. -/
abbrev C (F : FTy → Type) (s : Shape) : Type := (⟨s, .f32⟩ : BufTy).Contents (Elt F)

/-! ## The operation lists and the chains they make up -/

/-- 36 host operations of @main, in order. -/
abbrev hostOps0 : Ops F :=
  ( StableHlo.reshape main_arg4 main_v0 (rfl : (.f32 : EltTy) = .f32) shapeCasts_S6x4096x128_S6x64x64x128
  :: StableHlo.reshape main_arg5 main_v1 (rfl : (.f32 : EltTy) = .f32) shapeCasts_S6x4096x128_S6x64x64x128
  :: StableHlo.reshape main_arg1 main_v2 (rfl : (.f32 : EltTy) = .f32) shapeCasts_S6x4096x128_S6x64x64x128
  :: StableHlo.reshape main_arg2 main_v3 (rfl : (.f32 : EltTy) = .f32) shapeCasts_S6x4096x128_S6x64x64x128
  :: StableHlo.reshape main_arg3 main_v4 (rfl : (.f32 : EltTy) = .f32) shapeCasts_S6x4096x64_S6x64x64x64
  :: unary main_arg6 main_v5 ((extractStridedSlice S6x64x1x1 ![0, 0, 0, 0] · slices_S6x64x1x128_S6x64x1x1_0_0_0_0) : C F S6x64x1x128 → C F S6x64x1x1)
  :: StableHlo.reshape main_v5 main_v6 (rfl : (.f32 : EltTy) = .f32) shapeCasts_S6x64x1x1_S6x64
  :: unary main_v0 main_v7 ((transpose S64x6x64x128 [1, 0, 2, 3] · transposes_S6x64x64x128_S64x6x64x128_1_0_2_3) : C F S6x64x64x128 → C F S64x6x64x128)
  :: unary main_v1 main_v8 ((transpose S64x6x64x128 [1, 0, 2, 3] · transposes_S6x64x64x128_S64x6x64x128_1_0_2_3) : C F S6x64x64x128 → C F S64x6x64x128)
  :: unary main_v2 main_v9 ((transpose S64x6x64x128 [1, 0, 2, 3] · transposes_S6x64x64x128_S64x6x64x128_1_0_2_3) : C F S6x64x64x128 → C F S64x6x64x128)
  :: unary main_v3 main_v10 ((transpose S64x6x64x128 [1, 0, 2, 3] · transposes_S6x64x64x128_S64x6x64x128_1_0_2_3) : C F S6x64x64x128 → C F S64x6x64x128)
  :: unary main_v4 main_v11 ((transpose S64x6x64x64 [1, 0, 2, 3] · transposes_S6x64x64x64_S64x6x64x64_1_0_2_3) : C F S6x64x64x64 → C F S64x6x64x64)
  :: unary main_v6 main_v12 ((transpose S64x6 [1, 0] · transposes_S6x64_S64x6_1_0) : C F S6x64 → C F S64x6)
  :: nullary main_cst (constant S_ .f32 0x00000000#32)
  :: unary main_cst main_v13 (broadcastInDim S6x128x128 ![] bcast_S_S6x128x128 : C F S_ → C F S6x128x128)
  :: nullary main_cst_0 (constant S_ .f32 0x00000000#32)
  :: unary main_cst_0 main_v14 (broadcastInDim S64x6x64x128 ![] bcast_S_S64x6x64x128 : C F S_ → C F S64x6x64x128)
  :: nullary main_cst_1 (constant S_ .f32 0x00000000#32)
  :: unary main_cst_1 main_v15 (broadcastInDim S64x6x128x128 ![] bcast_S_S64x6x128x128 : C F S_ → C F S64x6x128x128)
  :: nullary main_cst_2 (constant S_ .f32 0x00000000#32)
  :: unary main_cst_2 main_v16 (broadcastInDim S64x6x64x128 ![] bcast_S_S64x6x64x128 : C F S_ → C F S64x6x64x128)
  :: nullary main_cst_3 (constant S_ .f32 0x00000000#32)
  :: unary main_cst_3 main_v17 (broadcastInDim S64x6x1x1 ![] bcast_S_S64x6x1x1 : C F S_ → C F S64x6x1x1)
  :: nullary main_c (constantI S_ 32 0#32)
  :: unary main_v7 main_v18_0 id
  :: unary main_v8 main_v18_1 id
  :: unary main_v9 main_v18_2 id
  :: unary main_v10 main_v18_3 id
  :: unary main_v11 main_v18_4 id
  :: unary main_v12 main_v18_5 id
  :: unary main_c main_v18_6 id
  :: unary main_v13 main_v18_7 id
  :: unary main_v14 main_v18_8 id
  :: unary main_v15 main_v18_9 id
  :: unary main_v16 main_v18_10 id
  :: unary main_v17 main_v18_11 id
  :: [] )
theorem hostOps0_sub : Touches (F := F) hostOps0 :=
  ⟨reshape_bufs_sub .., reshape_bufs_sub .., reshape_bufs_sub .., reshape_bufs_sub .., reshape_bufs_sub .., unary_bufs_sub .., reshape_bufs_sub .., unary_bufs_sub .., unary_bufs_sub .., unary_bufs_sub .., unary_bufs_sub .., unary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- 37 host operations of @main, in order. -/
abbrev hostOps0_1 : Ops F :=
  ( unary main_v18_8 main_v19 ((transpose S6x64x64x128 [1, 0, 2, 3] · transposes_S64x6x64x128_S6x64x64x128_1_0_2_3) : C F S64x6x64x128 → C F S6x64x64x128)
  :: StableHlo.reshape main_v19 main_v20 (rfl : (.f32 : EltTy) = .f32) shapeCasts_S6x64x64x128_S6x4096x128
  :: nullary main_cst_4 (constant S_ .f32 0x00000000#32)
  :: unary main_cst_4 main_v21 (broadcastInDim S6x128x128 ![] bcast_S_S6x128x128 : C F S_ → C F S6x128x128)
  :: StableHlo.reshape main_arg0 main_v22 (rfl : (.f32 : EltTy) = .f32) shapeCasts_S6x4096x128_S6x64x64x128
  :: unary main_v22 main_v23 ((transpose S64x6x64x128 [1, 0, 2, 3] · transposes_S6x64x64x128_S64x6x64x128_1_0_2_3) : C F S6x64x64x128 → C F S64x6x64x128)
  :: nullary main_cst_5 (constant S_ .f32 0x00000000#32)
  :: unary main_cst_5 main_v24 (broadcastInDim S6x128x128 ![] bcast_S_S6x128x128 : C F S_ → C F S6x128x128)
  :: nullary main_cst_6 (constant S_ .f32 0x00000000#32)
  :: unary main_cst_6 main_v25 (broadcastInDim S64x6x64x128 ![] bcast_S_S64x6x64x128 : C F S_ → C F S64x6x64x128)
  :: nullary main_cst_7 (constant S_ .f32 0x00000000#32)
  :: unary main_cst_7 main_v26 (broadcastInDim S64x6x64x128 ![] bcast_S_S64x6x64x128 : C F S_ → C F S64x6x64x128)
  :: nullary main_cst_8 (constant S_ .f32 0x00000000#32)
  :: unary main_cst_8 main_v27 (broadcastInDim S64x6x64x128 ![] bcast_S_S64x6x64x128 : C F S_ → C F S64x6x64x128)
  :: nullary main_cst_9 (constant S_ .f32 0x00000000#32)
  :: unary main_cst_9 main_v28 (broadcastInDim S64x6x64x128 ![] bcast_S_S64x6x64x128 : C F S_ → C F S64x6x64x128)
  :: nullary main_cst_10 (constant S_ .f32 0x00000000#32)
  :: unary main_cst_10 main_v29 (broadcastInDim S64x6x64x64 ![] bcast_S_S64x6x64x64 : C F S_ → C F S64x6x64x64)
  :: nullary main_cst_11 (constant S_ .f32 0x00000000#32)
  :: unary main_cst_11 main_v30 (broadcastInDim S64x6 ![] bcast_S_S64x6 : C F S_ → C F S64x6)
  :: nullary main_c_12 (constantI S_ 32 0#32)
  :: unary main_v23 main_v31_0 id
  :: unary main_v18_9 main_v31_1 id
  :: unary main_v10 main_v31_2 id
  :: unary main_v7 main_v31_3 id
  :: unary main_v18_10 main_v31_4 id
  :: unary main_v11 main_v31_5 id
  :: unary main_v18_11 main_v31_6 id
  :: unary main_v8 main_v31_7 id
  :: unary main_c_12 main_v31_8 id
  :: unary main_v24 main_v31_9 id
  :: unary main_v25 main_v31_10 id
  :: unary main_v26 main_v31_11 id
  :: unary main_v27 main_v31_12 id
  :: unary main_v28 main_v31_13 id
  :: unary main_v29 main_v31_14 id
  :: unary main_v30 main_v31_15 id
  :: [] )
theorem hostOps0_1_sub : Touches (F := F) hostOps0_1 :=
  ⟨unary_bufs_sub .., reshape_bufs_sub .., nullary_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- 14 host operations of @main, in order. -/
abbrev hostOps0_2 : Ops F :=
  [ unary main_v31_15 main_v32 ((transpose S6x64 [1, 0] · transposes_S64x6_S6x64_1_0) : C F S64x6 → C F S6x64),
    unary main_v31_14 main_v33 ((transpose S6x64x64x64 [1, 0, 2, 3] · transposes_S64x6x64x64_S6x64x64x64_1_0_2_3) : C F S64x6x64x64 → C F S6x64x64x64),
    unary main_v31_13 main_v34 ((transpose S6x64x64x128 [1, 0, 2, 3] · transposes_S64x6x64x128_S6x64x64x128_1_0_2_3) : C F S64x6x64x128 → C F S6x64x64x128),
    unary main_v31_12 main_v35 ((transpose S6x64x64x128 [1, 0, 2, 3] · transposes_S64x6x64x128_S6x64x64x128_1_0_2_3) : C F S64x6x64x128 → C F S6x64x64x128),
    unary main_v31_11 main_v36 ((transpose S6x64x64x128 [1, 0, 2, 3] · transposes_S64x6x64x128_S6x64x64x128_1_0_2_3) : C F S64x6x64x128 → C F S6x64x64x128),
    unary main_v31_10 main_v37 ((transpose S6x64x64x128 [1, 0, 2, 3] · transposes_S64x6x64x128_S6x64x64x128_1_0_2_3) : C F S64x6x64x128 → C F S6x64x64x128),
    unary main_v32 main_v38 (broadcastInDim S6x64x1x1 ![0, 1] bcast_S6x64_S6x64x1x1_0_1 : C F S6x64 → C F S6x64x1x1),
    nullary main_cst_13 (constant S_ .f32 0x00000000#32),
    binary main_v38 main_cst_13 main_v39 ((fun x v => pad S6x64x1x128 ![0, 0, 0, 0] ![0, 0, 0, 127] ![0, 0, 0, 0] x v pads_S6x64x1x1_S6x64x1x128_000_000_000_01270 h_S_) : C F S6x64x1x1 → C F S_ → C F S6x64x1x128),
    StableHlo.reshape main_v33 main_v40 (rfl : (.f32 : EltTy) = .f32) shapeCasts_S6x64x64x64_S6x4096x64,
    StableHlo.reshape main_v34 main_v41 (rfl : (.f32 : EltTy) = .f32) shapeCasts_S6x64x64x128_S6x4096x128,
    StableHlo.reshape main_v35 main_v42 (rfl : (.f32 : EltTy) = .f32) shapeCasts_S6x64x64x128_S6x4096x128,
    StableHlo.reshape main_v36 main_v43 (rfl : (.f32 : EltTy) = .f32) shapeCasts_S6x64x64x128_S6x4096x128,
    StableHlo.reshape main_v37 main_v44 (rfl : (.f32 : EltTy) = .f32) shapeCasts_S6x64x64x128_S6x4096x128 ]
theorem hostOps0_2_sub : Touches (F := F) hostOps0_2 :=
  ⟨unary_bufs_sub .., unary_bufs_sub .., unary_bufs_sub .., unary_bufs_sub .., unary_bufs_sub .., unary_bufs_sub .., unary_bufs_sub .., nullary_bufs_sub .., binary_bufs_sub .., reshape_bufs_sub .., reshape_bufs_sub .., reshape_bufs_sub .., reshape_bufs_sub .., reshape_bufs_sub ..⟩
/-- 36 host operations of @main, window 0 (statements 1 … 60), in order. -/
abbrev main_part0_ops0 : Ops F := hostOps0

/-- 23 host operations of @main, window 0 (statements 1 … 60), in order. -/
abbrev main_part0_ops1 : Ops F := hostOps0_1.take 23

/-- Window 0 of `main` (`main_part0`, statements 1 … 60) is the chain of ITS items ending in the last -/
theorem main_part0_chain (c : Dev nD) : main_part0 (F := F) c = (Pipeline.chainK
  [ StableHlo.seq main_part0_ops0,
    HostLoop.enter 0 ]
  (StableHlo.seq main_part0_ops1) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

/-- 14 host operations of @main, window 1 (statements 61 … 90), in order. -/
abbrev main_part1_ops0 : Ops F := hostOps0_1.drop 23

/-- 14 host operations of @main, window 1 (statements 61 … 90), in order. -/
abbrev main_part1_ops1 : Ops F := hostOps0_2

/-- The last window of `main` (`main_part1`, statements 61 … 90) is the chain of ITS items, each item aligned with the window's -/
theorem main_part1_chain (c : Dev nD) : main_part1 (F := F) c = (Pipeline.chain
  [ StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

/-- `main` is the chain of its WINDOWS' items (a stretch a window boundary cuts is several items): assembled from -/
theorem main_chain_windows (c : Dev nD) : main (F := F) c = (Pipeline.chain
  [ StableHlo.seq main_part0_ops0,
    HostLoop.enter 0,
    StableHlo.seq main_part0_ops1,
    StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window -/
abbrev main_groups (c : Dev nD) : List (StableHlo.Group nD τ sig (Elt F) (HostLoop.Sig (Pipeline.Sig Λ₀ (Fin 0) fun p => (pcfgs (F := F) p).Adm) 2)) :=
  [ .ops [main_part0_ops0],
    .prog (HostLoop.enter 0),
    .ops [main_part0_ops1, main_part1_ops0],
    .prog (HostLoop.enter 1),
    .ops [main_part1_ops1] ]

/-- The windows' item list is `main_groups` with each stretch cut into its window pieces (`StableHlo.Group.cut`): the two -/
theorem main_chain_cut (c : Dev nD) : (Pipeline.chain
  [ StableHlo.seq main_part0_ops0,
    HostLoop.enter 0,
    StableHlo.seq main_part0_ops1,
    StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) = Pipeline.chain ((main_groups (F := F) c).flatMap StableHlo.Group.cut) := by
  chain_rfl

/-- `main_groups` with each stretch's pieces joined (`StableHlo.Group.whole`) is `main`'s item list — the same -/
theorem main_chain_whole (c : Dev nD) : Pipeline.chain ((main_groups (F := F) c).map StableHlo.Group.whole) = (Pipeline.chain
  [ StableHlo.seq hostOps0,
    HostLoop.enter 0,
    StableHlo.seq hostOps0_1,
    HostLoop.enter 1,
    StableHlo.seq hostOps0_2 ] : Prog (TpuEff nD τ sig (Elt F) (HostLoop.Sig (Pipeline.Sig Λ₀ (Fin 0) fun p => (pcfgs (F := F) p).Adm) 2) .tc) PUnit) := by
  chain_rfl

/-- `main` is the chain of its items (`Pipeline.chain`): operation stretches, regions, loops and branches in -/
theorem main_chain (c : Dev nD) : main (F := F) c = (Pipeline.chain
  [ StableHlo.seq hostOps0,
    HostLoop.enter 0,
    StableHlo.seq hostOps0_1,
    HostLoop.enter 1,
    StableHlo.seq hostOps0_2 ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (StableHlo.chain_cut_eq_whole (main_groups (F := F) c)).trans (main_chain_whole (F := F) c)

/-- 5 host operations of @dynamic_index_in_dim (main_while0b_call0), in order. -/
abbrev while0Ops0 : Ops F :=
  [ TRef.nullary (.of main_while0b_call0_c : TRef sig ⟨S_, .i32⟩) (constantI S_ 32 0#32),
    TRef.nullary (.of main_while0b_call0_c_0 : TRef sig ⟨S_, .i32⟩) (constantI S_ 32 0#32),
    TRef.nullary (.of main_while0b_call0_c_1 : TRef sig ⟨S_, .i32⟩) (constantI S_ 32 0#32),
    TRef.unaryIndexed (.of main_v18_0 : TRef sig ⟨S64x6x64x128, .f32⟩) ![(.of main_v18_6 : TRef sig ⟨S_, .i32⟩), (.of main_while0b_call0_c : TRef sig ⟨S_, .i32⟩), (.of main_while0b_call0_c_0 : TRef sig ⟨S_, .i32⟩), (.of main_while0b_call0_c_1 : TRef sig ⟨S_, .i32⟩)] (.of main_while0b_call0_v0 : TRef sig ⟨S1x6x64x128, .f32⟩) (fun x i => Host.dynamicSlice S1x6x64x128 x (fun k => (i k (Shape.Idx.first h_S_)).toInt) sliceFits_S64x6x64x128_S1x6x64x128),
    TRef.reshape (.of main_while0b_call0_v0 : TRef sig ⟨S1x6x64x128, .f32⟩) (.of main_while0b_v45 : TRef sig ⟨S6x64x128, .f32⟩) (rfl : (.f32 : EltTy) = .f32) shapeCasts_S1x6x64x128_S6x64x128 ]
theorem while0Ops0_sub : Touches (F := F) while0Ops0 :=
  ⟨nullary_bufs_sub .., nullary_bufs_sub .., nullary_bufs_sub .., unaryIndexed_bufs_sub .., reshape_bufs_sub ..⟩
/-- 5 host operations of @dynamic_index_in_dim (main_while0b_call1), in order. -/
abbrev while0Ops0_1 : Ops F :=
  [ TRef.nullary (.of main_while0b_call1_c : TRef sig ⟨S_, .i32⟩) (constantI S_ 32 0#32),
    TRef.nullary (.of main_while0b_call1_c_0 : TRef sig ⟨S_, .i32⟩) (constantI S_ 32 0#32),
    TRef.nullary (.of main_while0b_call1_c_1 : TRef sig ⟨S_, .i32⟩) (constantI S_ 32 0#32),
    TRef.unaryIndexed (.of main_v18_1 : TRef sig ⟨S64x6x64x128, .f32⟩) ![(.of main_v18_6 : TRef sig ⟨S_, .i32⟩), (.of main_while0b_call1_c : TRef sig ⟨S_, .i32⟩), (.of main_while0b_call1_c_0 : TRef sig ⟨S_, .i32⟩), (.of main_while0b_call1_c_1 : TRef sig ⟨S_, .i32⟩)] (.of main_while0b_call1_v0 : TRef sig ⟨S1x6x64x128, .f32⟩) (fun x i => Host.dynamicSlice S1x6x64x128 x (fun k => (i k (Shape.Idx.first h_S_)).toInt) sliceFits_S64x6x64x128_S1x6x64x128),
    TRef.reshape (.of main_while0b_call1_v0 : TRef sig ⟨S1x6x64x128, .f32⟩) (.of main_while0b_v46 : TRef sig ⟨S6x64x128, .f32⟩) (rfl : (.f32 : EltTy) = .f32) shapeCasts_S1x6x64x128_S6x64x128 ]
theorem while0Ops0_1_sub : Touches (F := F) while0Ops0_1 :=
  ⟨nullary_bufs_sub .., nullary_bufs_sub .., nullary_bufs_sub .., unaryIndexed_bufs_sub .., reshape_bufs_sub ..⟩
/-- 5 host operations of @dynamic_index_in_dim (main_while0b_call2), in order. -/
abbrev while0Ops0_2 : Ops F :=
  [ TRef.nullary (.of main_while0b_call2_c : TRef sig ⟨S_, .i32⟩) (constantI S_ 32 0#32),
    TRef.nullary (.of main_while0b_call2_c_0 : TRef sig ⟨S_, .i32⟩) (constantI S_ 32 0#32),
    TRef.nullary (.of main_while0b_call2_c_1 : TRef sig ⟨S_, .i32⟩) (constantI S_ 32 0#32),
    TRef.unaryIndexed (.of main_v18_2 : TRef sig ⟨S64x6x64x128, .f32⟩) ![(.of main_v18_6 : TRef sig ⟨S_, .i32⟩), (.of main_while0b_call2_c : TRef sig ⟨S_, .i32⟩), (.of main_while0b_call2_c_0 : TRef sig ⟨S_, .i32⟩), (.of main_while0b_call2_c_1 : TRef sig ⟨S_, .i32⟩)] (.of main_while0b_call2_v0 : TRef sig ⟨S1x6x64x128, .f32⟩) (fun x i => Host.dynamicSlice S1x6x64x128 x (fun k => (i k (Shape.Idx.first h_S_)).toInt) sliceFits_S64x6x64x128_S1x6x64x128),
    TRef.reshape (.of main_while0b_call2_v0 : TRef sig ⟨S1x6x64x128, .f32⟩) (.of main_while0b_v47 : TRef sig ⟨S6x64x128, .f32⟩) (rfl : (.f32 : EltTy) = .f32) shapeCasts_S1x6x64x128_S6x64x128 ]
theorem while0Ops0_2_sub : Touches (F := F) while0Ops0_2 :=
  ⟨nullary_bufs_sub .., nullary_bufs_sub .., nullary_bufs_sub .., unaryIndexed_bufs_sub .., reshape_bufs_sub ..⟩
/-- 5 host operations of @dynamic_index_in_dim (main_while0b_call3), in order. -/
abbrev while0Ops0_3 : Ops F :=
  [ TRef.nullary (.of main_while0b_call3_c : TRef sig ⟨S_, .i32⟩) (constantI S_ 32 0#32),
    TRef.nullary (.of main_while0b_call3_c_0 : TRef sig ⟨S_, .i32⟩) (constantI S_ 32 0#32),
    TRef.nullary (.of main_while0b_call3_c_1 : TRef sig ⟨S_, .i32⟩) (constantI S_ 32 0#32),
    TRef.unaryIndexed (.of main_v18_3 : TRef sig ⟨S64x6x64x128, .f32⟩) ![(.of main_v18_6 : TRef sig ⟨S_, .i32⟩), (.of main_while0b_call3_c : TRef sig ⟨S_, .i32⟩), (.of main_while0b_call3_c_0 : TRef sig ⟨S_, .i32⟩), (.of main_while0b_call3_c_1 : TRef sig ⟨S_, .i32⟩)] (.of main_while0b_call3_v0 : TRef sig ⟨S1x6x64x128, .f32⟩) (fun x i => Host.dynamicSlice S1x6x64x128 x (fun k => (i k (Shape.Idx.first h_S_)).toInt) sliceFits_S64x6x64x128_S1x6x64x128),
    TRef.reshape (.of main_while0b_call3_v0 : TRef sig ⟨S1x6x64x128, .f32⟩) (.of main_while0b_v48 : TRef sig ⟨S6x64x128, .f32⟩) (rfl : (.f32 : EltTy) = .f32) shapeCasts_S1x6x64x128_S6x64x128 ]
theorem while0Ops0_3_sub : Touches (F := F) while0Ops0_3 :=
  ⟨nullary_bufs_sub .., nullary_bufs_sub .., nullary_bufs_sub .., unaryIndexed_bufs_sub .., reshape_bufs_sub ..⟩
/-- 5 host operations of @dynamic_index_in_dim_0 (main_while0b_call4), in order. -/
abbrev while0Ops0_4 : Ops F :=
  [ TRef.nullary (.of main_while0b_call4_c : TRef sig ⟨S_, .i32⟩) (constantI S_ 32 0#32),
    TRef.nullary (.of main_while0b_call4_c_0 : TRef sig ⟨S_, .i32⟩) (constantI S_ 32 0#32),
    TRef.nullary (.of main_while0b_call4_c_1 : TRef sig ⟨S_, .i32⟩) (constantI S_ 32 0#32),
    TRef.unaryIndexed (.of main_v18_4 : TRef sig ⟨S64x6x64x64, .f32⟩) ![(.of main_v18_6 : TRef sig ⟨S_, .i32⟩), (.of main_while0b_call4_c : TRef sig ⟨S_, .i32⟩), (.of main_while0b_call4_c_0 : TRef sig ⟨S_, .i32⟩), (.of main_while0b_call4_c_1 : TRef sig ⟨S_, .i32⟩)] (.of main_while0b_call4_v0 : TRef sig ⟨S1x6x64x64, .f32⟩) (fun x i => Host.dynamicSlice S1x6x64x64 x (fun k => (i k (Shape.Idx.first h_S_)).toInt) sliceFits_S64x6x64x64_S1x6x64x64),
    TRef.reshape (.of main_while0b_call4_v0 : TRef sig ⟨S1x6x64x64, .f32⟩) (.of main_while0b_v49 : TRef sig ⟨S6x64x64, .f32⟩) (rfl : (.f32 : EltTy) = .f32) shapeCasts_S1x6x64x64_S6x64x64 ]
theorem while0Ops0_4_sub : Touches (F := F) while0Ops0_4 :=
  ⟨nullary_bufs_sub .., nullary_bufs_sub .., nullary_bufs_sub .., unaryIndexed_bufs_sub .., reshape_bufs_sub ..⟩
/-- 3 host operations of @dynamic_index_in_dim_1 (main_while0b_call5), in order. -/
abbrev while0Ops0_5 : Ops F :=
  [ TRef.nullary (.of main_while0b_call5_c : TRef sig ⟨S_, .i32⟩) (constantI S_ 32 0#32),
    TRef.unaryIndexed (.of main_v18_5 : TRef sig ⟨S64x6, .f32⟩) ![(.of main_v18_6 : TRef sig ⟨S_, .i32⟩), (.of main_while0b_call5_c : TRef sig ⟨S_, .i32⟩)] (.of main_while0b_call5_v0 : TRef sig ⟨S1x6, .f32⟩) (fun x i => Host.dynamicSlice S1x6 x (fun k => (i k (Shape.Idx.first h_S_)).toInt) sliceFits_S64x6_S1x6),
    TRef.reshape (.of main_while0b_call5_v0 : TRef sig ⟨S1x6, .f32⟩) (.of main_while0b_v50 : TRef sig ⟨S6, .f32⟩) (rfl : (.f32 : EltTy) = .f32) shapeCasts_S1x6_S6 ]
theorem while0Ops0_5_sub : Touches (F := F) while0Ops0_5 :=
  ⟨nullary_bufs_sub .., unaryIndexed_bufs_sub .., reshape_bufs_sub ..⟩
/-- 10 host operations of host loop 0's body region, in order. -/
abbrev while0Ops0_6 : Ops F :=
  [ binary main_while0b_v48 main_v18_7 main_while0b_v51 ((fun l r => Host.dotGeneral dot_S6x64x128_S6x128x128_S6x64x128_2_1_1_2_0_0 none l r) : C F S6x64x128 → C F S6x128x128 → C F S6x64x128),
    binary main_while0b_v47 main_while0b_v51 main_while0b_v52 (subf : C F S6x64x128 → C F S6x64x128 → C F S6x64x128),
    binary main_while0b_v45 main_v18_7 main_while0b_v53 ((fun l r => Host.dotGeneral dot_S6x64x128_S6x128x128_S6x64x128_2_1_1_2_0_0 none l r) : C F S6x64x128 → C F S6x128x128 → C F S6x64x128),
    binary main_while0b_v49 main_while0b_v52 main_while0b_v54 ((fun l r => Host.dotGeneral dot_S6x64x64_S6x64x128_S6x64x128_2_1_1_2_0_0 none l r) : C F S6x64x64 → C F S6x64x128 → C F S6x64x128),
    binary main_while0b_v53 main_while0b_v54 main_while0b_v55 (addf : C F S6x64x128 → C F S6x64x128 → C F S6x64x128),
    unary main_while0b_v50 main_while0b_v56 (broadcastInDim S6x1x1 ![0] bcast_S6_S6x1x1_0 : C F S6 → C F S6x1x1),
    unary main_while0b_v56 main_while0b_v57 (broadcastInDim S6x128x128 ![0, 1, 2] bcast_S6x1x1_S6x128x128_0_1_2 : C F S6x1x1 → C F S6x128x128),
    binary main_v18_7 main_while0b_v57 main_while0b_v58 (mulf : C F S6x128x128 → C F S6x128x128 → C F S6x128x128),
    binary main_while0b_v46 main_while0b_v52 main_while0b_v59 ((fun l r => Host.dotGeneral dot_S6x64x128_S6x64x128_S6x128x128_1_1_2_2_0_0 none l r) : C F S6x64x128 → C F S6x64x128 → C F S6x128x128),
    binary main_while0b_v58 main_while0b_v59 main_while0b_v60 (addf : C F S6x128x128 → C F S6x128x128 → C F S6x128x128) ]
theorem while0Ops0_6_sub : Touches (F := F) while0Ops0_6 :=
  ⟨binary_bufs_sub .., binary_bufs_sub .., binary_bufs_sub .., binary_bufs_sub .., binary_bufs_sub .., unary_bufs_sub .., unary_bufs_sub .., binary_bufs_sub .., binary_bufs_sub .., binary_bufs_sub ..⟩
/-- 5 host operations of @dynamic_update_index_in_dim (main_while0b_call6), in order. -/
abbrev while0Ops0_7 : Ops F :=
  [ TRef.unary (.of main_while0b_v55 : TRef sig ⟨S6x64x128, .f32⟩) (.of main_while0b_call6_v0 : TRef sig ⟨S1x6x64x128, .f32⟩) (broadcastInDim S1x6x64x128 ![1, 2, 3] bcast_S6x64x128_S1x6x64x128_1_2_3),
    TRef.nullary (.of main_while0b_call6_c : TRef sig ⟨S_, .i32⟩) (constantI S_ 32 0#32),
    TRef.nullary (.of main_while0b_call6_c_0 : TRef sig ⟨S_, .i32⟩) (constantI S_ 32 0#32),
    TRef.nullary (.of main_while0b_call6_c_1 : TRef sig ⟨S_, .i32⟩) (constantI S_ 32 0#32),
    TRef.binaryIndexed (.of main_v18_8 : TRef sig ⟨S64x6x64x128, .f32⟩) (.of main_while0b_call6_v0 : TRef sig ⟨S1x6x64x128, .f32⟩) ![(.of main_v18_6 : TRef sig ⟨S_, .i32⟩), (.of main_while0b_call6_c : TRef sig ⟨S_, .i32⟩), (.of main_while0b_call6_c_0 : TRef sig ⟨S_, .i32⟩), (.of main_while0b_call6_c_1 : TRef sig ⟨S_, .i32⟩)] (.of main_while0b_v61 : TRef sig ⟨S64x6x64x128, .f32⟩) (fun x u i => Host.dynamicUpdateSlice x u (fun k => (i k (Shape.Idx.first h_S_)).toInt) updateFits_S64x6x64x128_S1x6x64x128) ]
theorem while0Ops0_7_sub : Touches (F := F) while0Ops0_7 :=
  ⟨unary_bufs_sub .., nullary_bufs_sub .., nullary_bufs_sub .., nullary_bufs_sub .., binaryIndexed_bufs_sub ..⟩
/-- 5 host operations of @dynamic_update_index_in_dim_2 (main_while0b_call7), in order. -/
abbrev while0Ops0_8 : Ops F :=
  [ TRef.unary (.of main_v18_7 : TRef sig ⟨S6x128x128, .f32⟩) (.of main_while0b_call7_v0 : TRef sig ⟨S1x6x128x128, .f32⟩) (broadcastInDim S1x6x128x128 ![1, 2, 3] bcast_S6x128x128_S1x6x128x128_1_2_3),
    TRef.nullary (.of main_while0b_call7_c : TRef sig ⟨S_, .i32⟩) (constantI S_ 32 0#32),
    TRef.nullary (.of main_while0b_call7_c_0 : TRef sig ⟨S_, .i32⟩) (constantI S_ 32 0#32),
    TRef.nullary (.of main_while0b_call7_c_1 : TRef sig ⟨S_, .i32⟩) (constantI S_ 32 0#32),
    TRef.binaryIndexed (.of main_v18_9 : TRef sig ⟨S64x6x128x128, .f32⟩) (.of main_while0b_call7_v0 : TRef sig ⟨S1x6x128x128, .f32⟩) ![(.of main_v18_6 : TRef sig ⟨S_, .i32⟩), (.of main_while0b_call7_c : TRef sig ⟨S_, .i32⟩), (.of main_while0b_call7_c_0 : TRef sig ⟨S_, .i32⟩), (.of main_while0b_call7_c_1 : TRef sig ⟨S_, .i32⟩)] (.of main_while0b_v62 : TRef sig ⟨S64x6x128x128, .f32⟩) (fun x u i => Host.dynamicUpdateSlice x u (fun k => (i k (Shape.Idx.first h_S_)).toInt) updateFits_S64x6x128x128_S1x6x128x128) ]
theorem while0Ops0_8_sub : Touches (F := F) while0Ops0_8 :=
  ⟨unary_bufs_sub .., nullary_bufs_sub .., nullary_bufs_sub .., nullary_bufs_sub .., binaryIndexed_bufs_sub ..⟩
/-- 5 host operations of @dynamic_update_index_in_dim (main_while0b_call8), in order. -/
abbrev while0Ops0_9 : Ops F :=
  [ TRef.unary (.of main_while0b_v52 : TRef sig ⟨S6x64x128, .f32⟩) (.of main_while0b_call8_v0 : TRef sig ⟨S1x6x64x128, .f32⟩) (broadcastInDim S1x6x64x128 ![1, 2, 3] bcast_S6x64x128_S1x6x64x128_1_2_3),
    TRef.nullary (.of main_while0b_call8_c : TRef sig ⟨S_, .i32⟩) (constantI S_ 32 0#32),
    TRef.nullary (.of main_while0b_call8_c_0 : TRef sig ⟨S_, .i32⟩) (constantI S_ 32 0#32),
    TRef.nullary (.of main_while0b_call8_c_1 : TRef sig ⟨S_, .i32⟩) (constantI S_ 32 0#32),
    TRef.binaryIndexed (.of main_v18_10 : TRef sig ⟨S64x6x64x128, .f32⟩) (.of main_while0b_call8_v0 : TRef sig ⟨S1x6x64x128, .f32⟩) ![(.of main_v18_6 : TRef sig ⟨S_, .i32⟩), (.of main_while0b_call8_c : TRef sig ⟨S_, .i32⟩), (.of main_while0b_call8_c_0 : TRef sig ⟨S_, .i32⟩), (.of main_while0b_call8_c_1 : TRef sig ⟨S_, .i32⟩)] (.of main_while0b_v63 : TRef sig ⟨S64x6x64x128, .f32⟩) (fun x u i => Host.dynamicUpdateSlice x u (fun k => (i k (Shape.Idx.first h_S_)).toInt) updateFits_S64x6x64x128_S1x6x64x128) ]
theorem while0Ops0_9_sub : Touches (F := F) while0Ops0_9 :=
  ⟨unary_bufs_sub .., nullary_bufs_sub .., nullary_bufs_sub .., nullary_bufs_sub .., binaryIndexed_bufs_sub ..⟩
/-- 5 host operations of @dynamic_update_index_in_dim_3 (main_while0b_call9), in order. -/
abbrev while0Ops0_10 : Ops F :=
  [ TRef.unary (.of main_while0b_v56 : TRef sig ⟨S6x1x1, .f32⟩) (.of main_while0b_call9_v0 : TRef sig ⟨S1x6x1x1, .f32⟩) (broadcastInDim S1x6x1x1 ![1, 2, 3] bcast_S6x1x1_S1x6x1x1_1_2_3),
    TRef.nullary (.of main_while0b_call9_c : TRef sig ⟨S_, .i32⟩) (constantI S_ 32 0#32),
    TRef.nullary (.of main_while0b_call9_c_0 : TRef sig ⟨S_, .i32⟩) (constantI S_ 32 0#32),
    TRef.nullary (.of main_while0b_call9_c_1 : TRef sig ⟨S_, .i32⟩) (constantI S_ 32 0#32),
    TRef.binaryIndexed (.of main_v18_11 : TRef sig ⟨S64x6x1x1, .f32⟩) (.of main_while0b_call9_v0 : TRef sig ⟨S1x6x1x1, .f32⟩) ![(.of main_v18_6 : TRef sig ⟨S_, .i32⟩), (.of main_while0b_call9_c : TRef sig ⟨S_, .i32⟩), (.of main_while0b_call9_c_0 : TRef sig ⟨S_, .i32⟩), (.of main_while0b_call9_c_1 : TRef sig ⟨S_, .i32⟩)] (.of main_while0b_v64 : TRef sig ⟨S64x6x1x1, .f32⟩) (fun x u i => Host.dynamicUpdateSlice x u (fun k => (i k (Shape.Idx.first h_S_)).toInt) updateFits_S64x6x1x1_S1x6x1x1) ]
theorem while0Ops0_10_sub : Touches (F := F) while0Ops0_10 :=
  ⟨unary_bufs_sub .., nullary_bufs_sub .., nullary_bufs_sub .., nullary_bufs_sub .., binaryIndexed_bufs_sub ..⟩
/-- 8 host operations of host loop 0's body region, in order. -/
abbrev while0Ops0_11 : Ops F :=
  [ nullary main_while0b_c_25 (constantI S_ 32 1#32),
    binary main_v18_6 main_while0b_c_25 main_while0b_v65 (addi : (⟨S_, .i32⟩ : BufTy).Contents (Elt F) → (⟨S_, .i32⟩ : BufTy).Contents (Elt F) → (⟨S_, .i32⟩ : BufTy).Contents (Elt F)),
    unary main_while0b_v65 main_v18_6 id,
    unary main_while0b_v60 main_v18_7 id,
    unary main_while0b_v61 main_v18_8 id,
    unary main_while0b_v62 main_v18_9 id,
    unary main_while0b_v63 main_v18_10 id,
    unary main_while0b_v64 main_v18_11 id ]
theorem while0Ops0_11_sub : Touches (F := F) while0Ops0_11 :=
  ⟨nullary_bufs_sub .., binary_bufs_sub .., unary_bufs_sub .., unary_bufs_sub .., unary_bufs_sub .., unary_bufs_sub .., unary_bufs_sub .., unary_bufs_sub ..⟩
/-- `main_while0_body` is the chain of its items (`Pipeline.chain`): operation stretches, regions, loops and branches in -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9,
    StableHlo.seq while0Ops0_10,
    StableHlo.seq while0Ops0_11 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, StableHlo.chain_seq_cons]
  chain_rfl

/-- 4 host operations of host loop 1's body region, in order. -/
abbrev while1Ops0 : Ops F :=
  [ nullary main_while1b_c_29 (constantI S_ 32 64#32),
    binary main_while1b_c_29 main_v31_8 main_while1b_v45 (subi : (⟨S_, .i32⟩ : BufTy).Contents (Elt F) → (⟨S_, .i32⟩ : BufTy).Contents (Elt F) → (⟨S_, .i32⟩ : BufTy).Contents (Elt F)),
    nullary main_while1b_c_30 (constantI S_ 32 1#32),
    binary main_while1b_v45 main_while1b_c_30 main_while1b_v46 (subi : (⟨S_, .i32⟩ : BufTy).Contents (Elt F) → (⟨S_, .i32⟩ : BufTy).Contents (Elt F) → (⟨S_, .i32⟩ : BufTy).Contents (Elt F)) ]
theorem while1Ops0_sub : Touches (F := F) while1Ops0 :=
  ⟨nullary_bufs_sub .., binary_bufs_sub .., nullary_bufs_sub .., binary_bufs_sub ..⟩
/-- 5 host operations of @dynamic_index_in_dim (main_while1b_call10), in order. -/
abbrev while1Ops0_1 : Ops F :=
  [ TRef.nullary (.of main_while1b_call10_c : TRef sig ⟨S_, .i32⟩) (constantI S_ 32 0#32),
    TRef.nullary (.of main_while1b_call10_c_0 : TRef sig ⟨S_, .i32⟩) (constantI S_ 32 0#32),
    TRef.nullary (.of main_while1b_call10_c_1 : TRef sig ⟨S_, .i32⟩) (constantI S_ 32 0#32),
    TRef.unaryIndexed (.of main_v31_0 : TRef sig ⟨S64x6x64x128, .f32⟩) ![(.of main_while1b_v46 : TRef sig ⟨S_, .i32⟩), (.of main_while1b_call10_c : TRef sig ⟨S_, .i32⟩), (.of main_while1b_call10_c_0 : TRef sig ⟨S_, .i32⟩), (.of main_while1b_call10_c_1 : TRef sig ⟨S_, .i32⟩)] (.of main_while1b_call10_v0 : TRef sig ⟨S1x6x64x128, .f32⟩) (fun x i => Host.dynamicSlice S1x6x64x128 x (fun k => (i k (Shape.Idx.first h_S_)).toInt) sliceFits_S64x6x64x128_S1x6x64x128),
    TRef.reshape (.of main_while1b_call10_v0 : TRef sig ⟨S1x6x64x128, .f32⟩) (.of main_while1b_v47 : TRef sig ⟨S6x64x128, .f32⟩) (rfl : (.f32 : EltTy) = .f32) shapeCasts_S1x6x64x128_S6x64x128 ]
theorem while1Ops0_1_sub : Touches (F := F) while1Ops0_1 :=
  ⟨nullary_bufs_sub .., nullary_bufs_sub .., nullary_bufs_sub .., unaryIndexed_bufs_sub .., reshape_bufs_sub ..⟩
/-- 5 host operations of @dynamic_index_in_dim_4 (main_while1b_call11), in order. -/
abbrev while1Ops0_2 : Ops F :=
  [ TRef.nullary (.of main_while1b_call11_c : TRef sig ⟨S_, .i32⟩) (constantI S_ 32 0#32),
    TRef.nullary (.of main_while1b_call11_c_0 : TRef sig ⟨S_, .i32⟩) (constantI S_ 32 0#32),
    TRef.nullary (.of main_while1b_call11_c_1 : TRef sig ⟨S_, .i32⟩) (constantI S_ 32 0#32),
    TRef.unaryIndexed (.of main_v31_1 : TRef sig ⟨S64x6x128x128, .f32⟩) ![(.of main_while1b_v46 : TRef sig ⟨S_, .i32⟩), (.of main_while1b_call11_c : TRef sig ⟨S_, .i32⟩), (.of main_while1b_call11_c_0 : TRef sig ⟨S_, .i32⟩), (.of main_while1b_call11_c_1 : TRef sig ⟨S_, .i32⟩)] (.of main_while1b_call11_v0 : TRef sig ⟨S1x6x128x128, .f32⟩) (fun x i => Host.dynamicSlice S1x6x128x128 x (fun k => (i k (Shape.Idx.first h_S_)).toInt) sliceFits_S64x6x128x128_S1x6x128x128),
    TRef.reshape (.of main_while1b_call11_v0 : TRef sig ⟨S1x6x128x128, .f32⟩) (.of main_while1b_v48 : TRef sig ⟨S6x128x128, .f32⟩) (rfl : (.f32 : EltTy) = .f32) shapeCasts_S1x6x128x128_S6x128x128 ]
theorem while1Ops0_2_sub : Touches (F := F) while1Ops0_2 :=
  ⟨nullary_bufs_sub .., nullary_bufs_sub .., nullary_bufs_sub .., unaryIndexed_bufs_sub .., reshape_bufs_sub ..⟩
/-- 5 host operations of @dynamic_index_in_dim (main_while1b_call12), in order. -/
abbrev while1Ops0_3 : Ops F :=
  [ TRef.nullary (.of main_while1b_call12_c : TRef sig ⟨S_, .i32⟩) (constantI S_ 32 0#32),
    TRef.nullary (.of main_while1b_call12_c_0 : TRef sig ⟨S_, .i32⟩) (constantI S_ 32 0#32),
    TRef.nullary (.of main_while1b_call12_c_1 : TRef sig ⟨S_, .i32⟩) (constantI S_ 32 0#32),
    TRef.unaryIndexed (.of main_v31_2 : TRef sig ⟨S64x6x64x128, .f32⟩) ![(.of main_while1b_v46 : TRef sig ⟨S_, .i32⟩), (.of main_while1b_call12_c : TRef sig ⟨S_, .i32⟩), (.of main_while1b_call12_c_0 : TRef sig ⟨S_, .i32⟩), (.of main_while1b_call12_c_1 : TRef sig ⟨S_, .i32⟩)] (.of main_while1b_call12_v0 : TRef sig ⟨S1x6x64x128, .f32⟩) (fun x i => Host.dynamicSlice S1x6x64x128 x (fun k => (i k (Shape.Idx.first h_S_)).toInt) sliceFits_S64x6x64x128_S1x6x64x128),
    TRef.reshape (.of main_while1b_call12_v0 : TRef sig ⟨S1x6x64x128, .f32⟩) (.of main_while1b_v49 : TRef sig ⟨S6x64x128, .f32⟩) (rfl : (.f32 : EltTy) = .f32) shapeCasts_S1x6x64x128_S6x64x128 ]
theorem while1Ops0_3_sub : Touches (F := F) while1Ops0_3 :=
  ⟨nullary_bufs_sub .., nullary_bufs_sub .., nullary_bufs_sub .., unaryIndexed_bufs_sub .., reshape_bufs_sub ..⟩
/-- 5 host operations of @dynamic_index_in_dim (main_while1b_call13), in order. -/
abbrev while1Ops0_4 : Ops F :=
  [ TRef.nullary (.of main_while1b_call13_c : TRef sig ⟨S_, .i32⟩) (constantI S_ 32 0#32),
    TRef.nullary (.of main_while1b_call13_c_0 : TRef sig ⟨S_, .i32⟩) (constantI S_ 32 0#32),
    TRef.nullary (.of main_while1b_call13_c_1 : TRef sig ⟨S_, .i32⟩) (constantI S_ 32 0#32),
    TRef.unaryIndexed (.of main_v31_3 : TRef sig ⟨S64x6x64x128, .f32⟩) ![(.of main_while1b_v46 : TRef sig ⟨S_, .i32⟩), (.of main_while1b_call13_c : TRef sig ⟨S_, .i32⟩), (.of main_while1b_call13_c_0 : TRef sig ⟨S_, .i32⟩), (.of main_while1b_call13_c_1 : TRef sig ⟨S_, .i32⟩)] (.of main_while1b_call13_v0 : TRef sig ⟨S1x6x64x128, .f32⟩) (fun x i => Host.dynamicSlice S1x6x64x128 x (fun k => (i k (Shape.Idx.first h_S_)).toInt) sliceFits_S64x6x64x128_S1x6x64x128),
    TRef.reshape (.of main_while1b_call13_v0 : TRef sig ⟨S1x6x64x128, .f32⟩) (.of main_while1b_v50 : TRef sig ⟨S6x64x128, .f32⟩) (rfl : (.f32 : EltTy) = .f32) shapeCasts_S1x6x64x128_S6x64x128 ]
theorem while1Ops0_4_sub : Touches (F := F) while1Ops0_4 :=
  ⟨nullary_bufs_sub .., nullary_bufs_sub .., nullary_bufs_sub .., unaryIndexed_bufs_sub .., reshape_bufs_sub ..⟩
/-- 5 host operations of @dynamic_index_in_dim (main_while1b_call14), in order. -/
abbrev while1Ops0_5 : Ops F :=
  [ TRef.nullary (.of main_while1b_call14_c : TRef sig ⟨S_, .i32⟩) (constantI S_ 32 0#32),
    TRef.nullary (.of main_while1b_call14_c_0 : TRef sig ⟨S_, .i32⟩) (constantI S_ 32 0#32),
    TRef.nullary (.of main_while1b_call14_c_1 : TRef sig ⟨S_, .i32⟩) (constantI S_ 32 0#32),
    TRef.unaryIndexed (.of main_v31_4 : TRef sig ⟨S64x6x64x128, .f32⟩) ![(.of main_while1b_v46 : TRef sig ⟨S_, .i32⟩), (.of main_while1b_call14_c : TRef sig ⟨S_, .i32⟩), (.of main_while1b_call14_c_0 : TRef sig ⟨S_, .i32⟩), (.of main_while1b_call14_c_1 : TRef sig ⟨S_, .i32⟩)] (.of main_while1b_call14_v0 : TRef sig ⟨S1x6x64x128, .f32⟩) (fun x i => Host.dynamicSlice S1x6x64x128 x (fun k => (i k (Shape.Idx.first h_S_)).toInt) sliceFits_S64x6x64x128_S1x6x64x128),
    TRef.reshape (.of main_while1b_call14_v0 : TRef sig ⟨S1x6x64x128, .f32⟩) (.of main_while1b_v51 : TRef sig ⟨S6x64x128, .f32⟩) (rfl : (.f32 : EltTy) = .f32) shapeCasts_S1x6x64x128_S6x64x128 ]
theorem while1Ops0_5_sub : Touches (F := F) while1Ops0_5 :=
  ⟨nullary_bufs_sub .., nullary_bufs_sub .., nullary_bufs_sub .., unaryIndexed_bufs_sub .., reshape_bufs_sub ..⟩
/-- 5 host operations of @dynamic_index_in_dim_0 (main_while1b_call15), in order. -/
abbrev while1Ops0_6 : Ops F :=
  [ TRef.nullary (.of main_while1b_call15_c : TRef sig ⟨S_, .i32⟩) (constantI S_ 32 0#32),
    TRef.nullary (.of main_while1b_call15_c_0 : TRef sig ⟨S_, .i32⟩) (constantI S_ 32 0#32),
    TRef.nullary (.of main_while1b_call15_c_1 : TRef sig ⟨S_, .i32⟩) (constantI S_ 32 0#32),
    TRef.unaryIndexed (.of main_v31_5 : TRef sig ⟨S64x6x64x64, .f32⟩) ![(.of main_while1b_v46 : TRef sig ⟨S_, .i32⟩), (.of main_while1b_call15_c : TRef sig ⟨S_, .i32⟩), (.of main_while1b_call15_c_0 : TRef sig ⟨S_, .i32⟩), (.of main_while1b_call15_c_1 : TRef sig ⟨S_, .i32⟩)] (.of main_while1b_call15_v0 : TRef sig ⟨S1x6x64x64, .f32⟩) (fun x i => Host.dynamicSlice S1x6x64x64 x (fun k => (i k (Shape.Idx.first h_S_)).toInt) sliceFits_S64x6x64x64_S1x6x64x64),
    TRef.reshape (.of main_while1b_call15_v0 : TRef sig ⟨S1x6x64x64, .f32⟩) (.of main_while1b_v52 : TRef sig ⟨S6x64x64, .f32⟩) (rfl : (.f32 : EltTy) = .f32) shapeCasts_S1x6x64x64_S6x64x64 ]
theorem while1Ops0_6_sub : Touches (F := F) while1Ops0_6 :=
  ⟨nullary_bufs_sub .., nullary_bufs_sub .., nullary_bufs_sub .., unaryIndexed_bufs_sub .., reshape_bufs_sub ..⟩
/-- 5 host operations of @dynamic_index_in_dim_5 (main_while1b_call16), in order. -/
abbrev while1Ops0_7 : Ops F :=
  [ TRef.nullary (.of main_while1b_call16_c : TRef sig ⟨S_, .i32⟩) (constantI S_ 32 0#32),
    TRef.nullary (.of main_while1b_call16_c_0 : TRef sig ⟨S_, .i32⟩) (constantI S_ 32 0#32),
    TRef.nullary (.of main_while1b_call16_c_1 : TRef sig ⟨S_, .i32⟩) (constantI S_ 32 0#32),
    TRef.unaryIndexed (.of main_v31_6 : TRef sig ⟨S64x6x1x1, .f32⟩) ![(.of main_while1b_v46 : TRef sig ⟨S_, .i32⟩), (.of main_while1b_call16_c : TRef sig ⟨S_, .i32⟩), (.of main_while1b_call16_c_0 : TRef sig ⟨S_, .i32⟩), (.of main_while1b_call16_c_1 : TRef sig ⟨S_, .i32⟩)] (.of main_while1b_call16_v0 : TRef sig ⟨S1x6x1x1, .f32⟩) (fun x i => Host.dynamicSlice S1x6x1x1 x (fun k => (i k (Shape.Idx.first h_S_)).toInt) sliceFits_S64x6x1x1_S1x6x1x1),
    TRef.reshape (.of main_while1b_call16_v0 : TRef sig ⟨S1x6x1x1, .f32⟩) (.of main_while1b_v53 : TRef sig ⟨S6x1x1, .f32⟩) (rfl : (.f32 : EltTy) = .f32) shapeCasts_S1x6x1x1_S6x1x1 ]
theorem while1Ops0_7_sub : Touches (F := F) while1Ops0_7 :=
  ⟨nullary_bufs_sub .., nullary_bufs_sub .., nullary_bufs_sub .., unaryIndexed_bufs_sub .., reshape_bufs_sub ..⟩
/-- 5 host operations of @dynamic_index_in_dim (main_while1b_call17), in order. -/
abbrev while1Ops0_8 : Ops F :=
  [ TRef.nullary (.of main_while1b_call17_c : TRef sig ⟨S_, .i32⟩) (constantI S_ 32 0#32),
    TRef.nullary (.of main_while1b_call17_c_0 : TRef sig ⟨S_, .i32⟩) (constantI S_ 32 0#32),
    TRef.nullary (.of main_while1b_call17_c_1 : TRef sig ⟨S_, .i32⟩) (constantI S_ 32 0#32),
    TRef.unaryIndexed (.of main_v31_7 : TRef sig ⟨S64x6x64x128, .f32⟩) ![(.of main_while1b_v46 : TRef sig ⟨S_, .i32⟩), (.of main_while1b_call17_c : TRef sig ⟨S_, .i32⟩), (.of main_while1b_call17_c_0 : TRef sig ⟨S_, .i32⟩), (.of main_while1b_call17_c_1 : TRef sig ⟨S_, .i32⟩)] (.of main_while1b_call17_v0 : TRef sig ⟨S1x6x64x128, .f32⟩) (fun x i => Host.dynamicSlice S1x6x64x128 x (fun k => (i k (Shape.Idx.first h_S_)).toInt) sliceFits_S64x6x64x128_S1x6x64x128),
    TRef.reshape (.of main_while1b_call17_v0 : TRef sig ⟨S1x6x64x128, .f32⟩) (.of main_while1b_v54 : TRef sig ⟨S6x64x128, .f32⟩) (rfl : (.f32 : EltTy) = .f32) shapeCasts_S1x6x64x128_S6x64x128 ]
theorem while1Ops0_8_sub : Touches (F := F) while1Ops0_8 :=
  ⟨nullary_bufs_sub .., nullary_bufs_sub .., nullary_bufs_sub .., unaryIndexed_bufs_sub .., reshape_bufs_sub ..⟩
/-- 25 host operations of host loop 1's body region, in order. -/
abbrev while1Ops0_9 : Ops F :=
  [ binary main_v31_9 main_while1b_v54 main_while1b_v55 ((fun l r => Host.dotGeneral dot_S6x128x128_S6x64x128_S6x128x64_1_2_2_1_0_0 none l r) : C F S6x128x128 → C F S6x64x128 → C F S6x128x64),
    unary main_while1b_v55 main_while1b_v56 ((transpose S6x64x128 [0, 2, 1] · transposes_S6x128x64_S6x64x128_0_2_1) : C F S6x128x64 → C F S6x64x128),
    binary main_v31_9 main_while1b_v51 main_while1b_v57 ((fun l r => Host.dotGeneral dot_S6x128x128_S6x64x128_S6x128x64_2_2_1_1_0_0 none l r) : C F S6x128x128 → C F S6x64x128 → C F S6x128x64),
    unary main_while1b_v57 main_while1b_v58 ((transpose S6x64x128 [0, 2, 1] · transposes_S6x128x64_S6x64x128_0_2_1) : C F S6x128x64 → C F S6x64x128),
    binary main_while1b_v48 main_v31_9 main_while1b_v59 (mulf : C F S6x128x128 → C F S6x128x128 → C F S6x128x128),
    nullary main_while1b_cst_31 (constant S_ .f32 0x00000000#32),
    binary main_while1b_v59 main_while1b_cst_31 main_while1b_v60 ((fun x v => Host.reduceAdd x v reducesTo_S6x128x128_S6_d1_2 h_S_) : C F S6x128x128 → C F S_ → C F S6),
    StableHlo.reshape main_while1b_v60 main_while1b_v61 (rfl : (.f32 : EltTy) = .f32) shapeCasts_S6_S6x1x1,
    unary main_while1b_v53 main_while1b_v62 (broadcastInDim S6x128x128 ![0, 1, 2] bcast_S6x1x1_S6x128x128_0_1_2 : C F S6x1x1 → C F S6x128x128),
    binary main_v31_9 main_while1b_v62 main_while1b_v63 (mulf : C F S6x128x128 → C F S6x128x128 → C F S6x128x128),
    nullary main_while1b_cst_32 (constant S_ .f32 0x00000000#32),
    binary main_while1b_v61 main_while1b_cst_32 main_while1b_v64 ((fun x v => Host.reduceAdd x v reducesTo_S6x1x1_S6_d1_2 h_S_) : C F S6x1x1 → C F S_ → C F S6),
    binary main_while1b_v47 main_while1b_v52 main_while1b_v65 ((fun l r => Host.dotGeneral dot_S6x64x128_S6x64x64_S6x128x64_1_1_2_2_0_0 none l r) : C F S6x64x128 → C F S6x64x64 → C F S6x128x64),
    unary main_while1b_v65 main_while1b_v66 ((transpose S6x64x128 [0, 2, 1] · transposes_S6x128x64_S6x64x128_0_2_1) : C F S6x128x64 → C F S6x64x128),
    binary main_while1b_v56 main_while1b_v66 main_while1b_v67 (addf : C F S6x64x128 → C F S6x64x128 → C F S6x64x128),
    binary main_while1b_v47 main_while1b_v51 main_while1b_v68 ((fun l r => Host.dotGeneral dot_S6x64x128_S6x64x128_S6x64x64_2_2_1_1_0_0 none l r) : C F S6x64x128 → C F S6x64x128 → C F S6x64x64),
    binary main_while1b_v47 main_while1b_v50 main_while1b_v69 ((fun l r => Host.dotGeneral dot_S6x64x128_S6x64x128_S6x128x128_1_1_2_2_0_0 none l r) : C F S6x64x128 → C F S6x64x128 → C F S6x128x128),
    unary main_while1b_v69 main_while1b_v70 ((transpose S6x128x128 [0, 2, 1] · transposes_S6x128x128_S6x128x128_0_2_1) : C F S6x128x128 → C F S6x128x128),
    binary main_while1b_v63 main_while1b_v70 main_while1b_v71 (addf : C F S6x128x128 → C F S6x128x128 → C F S6x128x128),
    binary main_while1b_v47 main_while1b_v48 main_while1b_v72 ((fun l r => Host.dotGeneral dot_S6x64x128_S6x128x128_S6x64x128_2_2_1_1_0_0 none l r) : C F S6x64x128 → C F S6x128x128 → C F S6x64x128),
    unary main_while1b_v67 main_while1b_v73 (Host.negf : C F S6x64x128 → C F S6x64x128),
    binary main_while1b_v73 main_while1b_v49 main_while1b_v74 ((fun l r => Host.dotGeneral dot_S6x64x128_S6x64x128_S6x128x128_1_1_2_2_0_0 none l r) : C F S6x64x128 → C F S6x64x128 → C F S6x128x128),
    unary main_while1b_v74 main_while1b_v75 ((transpose S6x128x128 [0, 2, 1] · transposes_S6x128x128_S6x128x128_0_2_1) : C F S6x128x128 → C F S6x128x128),
    binary main_while1b_v71 main_while1b_v75 main_while1b_v76 (addf : C F S6x128x128 → C F S6x128x128 → C F S6x128x128),
    binary main_while1b_v73 main_while1b_v48 main_while1b_v77 ((fun l r => Host.dotGeneral dot_S6x64x128_S6x128x128_S6x64x128_2_2_1_1_0_0 none l r) : C F S6x64x128 → C F S6x128x128 → C F S6x64x128) ]
theorem while1Ops0_9_sub : Touches (F := F) while1Ops0_9 :=
  ⟨binary_bufs_sub .., unary_bufs_sub .., binary_bufs_sub .., unary_bufs_sub .., binary_bufs_sub .., nullary_bufs_sub .., binary_bufs_sub .., reshape_bufs_sub .., unary_bufs_sub .., binary_bufs_sub .., nullary_bufs_sub .., binary_bufs_sub .., binary_bufs_sub .., unary_bufs_sub .., binary_bufs_sub .., binary_bufs_sub .., binary_bufs_sub .., unary_bufs_sub .., binary_bufs_sub .., binary_bufs_sub .., unary_bufs_sub .., binary_bufs_sub .., unary_bufs_sub .., binary_bufs_sub .., binary_bufs_sub ..⟩
/-- 5 host operations of @dynamic_update_index_in_dim (main_while1b_call18), in order. -/
abbrev while1Ops0_10 : Ops F :=
  [ TRef.unary (.of main_while1b_v72 : TRef sig ⟨S6x64x128, .f32⟩) (.of main_while1b_call18_v0 : TRef sig ⟨S1x6x64x128, .f32⟩) (broadcastInDim S1x6x64x128 ![1, 2, 3] bcast_S6x64x128_S1x6x64x128_1_2_3),
    TRef.nullary (.of main_while1b_call18_c : TRef sig ⟨S_, .i32⟩) (constantI S_ 32 0#32),
    TRef.nullary (.of main_while1b_call18_c_0 : TRef sig ⟨S_, .i32⟩) (constantI S_ 32 0#32),
    TRef.nullary (.of main_while1b_call18_c_1 : TRef sig ⟨S_, .i32⟩) (constantI S_ 32 0#32),
    TRef.binaryIndexed (.of main_v31_10 : TRef sig ⟨S64x6x64x128, .f32⟩) (.of main_while1b_call18_v0 : TRef sig ⟨S1x6x64x128, .f32⟩) ![(.of main_while1b_v46 : TRef sig ⟨S_, .i32⟩), (.of main_while1b_call18_c : TRef sig ⟨S_, .i32⟩), (.of main_while1b_call18_c_0 : TRef sig ⟨S_, .i32⟩), (.of main_while1b_call18_c_1 : TRef sig ⟨S_, .i32⟩)] (.of main_while1b_v78 : TRef sig ⟨S64x6x64x128, .f32⟩) (fun x u i => Host.dynamicUpdateSlice x u (fun k => (i k (Shape.Idx.first h_S_)).toInt) updateFits_S64x6x64x128_S1x6x64x128) ]
theorem while1Ops0_10_sub : Touches (F := F) while1Ops0_10 :=
  ⟨unary_bufs_sub .., nullary_bufs_sub .., nullary_bufs_sub .., nullary_bufs_sub .., binaryIndexed_bufs_sub ..⟩
/-- 5 host operations of @dynamic_update_index_in_dim (main_while1b_call19), in order. -/
abbrev while1Ops0_11 : Ops F :=
  [ TRef.unary (.of main_while1b_v58 : TRef sig ⟨S6x64x128, .f32⟩) (.of main_while1b_call19_v0 : TRef sig ⟨S1x6x64x128, .f32⟩) (broadcastInDim S1x6x64x128 ![1, 2, 3] bcast_S6x64x128_S1x6x64x128_1_2_3),
    TRef.nullary (.of main_while1b_call19_c : TRef sig ⟨S_, .i32⟩) (constantI S_ 32 0#32),
    TRef.nullary (.of main_while1b_call19_c_0 : TRef sig ⟨S_, .i32⟩) (constantI S_ 32 0#32),
    TRef.nullary (.of main_while1b_call19_c_1 : TRef sig ⟨S_, .i32⟩) (constantI S_ 32 0#32),
    TRef.binaryIndexed (.of main_v31_11 : TRef sig ⟨S64x6x64x128, .f32⟩) (.of main_while1b_call19_v0 : TRef sig ⟨S1x6x64x128, .f32⟩) ![(.of main_while1b_v46 : TRef sig ⟨S_, .i32⟩), (.of main_while1b_call19_c : TRef sig ⟨S_, .i32⟩), (.of main_while1b_call19_c_0 : TRef sig ⟨S_, .i32⟩), (.of main_while1b_call19_c_1 : TRef sig ⟨S_, .i32⟩)] (.of main_while1b_v79 : TRef sig ⟨S64x6x64x128, .f32⟩) (fun x u i => Host.dynamicUpdateSlice x u (fun k => (i k (Shape.Idx.first h_S_)).toInt) updateFits_S64x6x64x128_S1x6x64x128) ]
theorem while1Ops0_11_sub : Touches (F := F) while1Ops0_11 :=
  ⟨unary_bufs_sub .., nullary_bufs_sub .., nullary_bufs_sub .., nullary_bufs_sub .., binaryIndexed_bufs_sub ..⟩
/-- 5 host operations of @dynamic_update_index_in_dim (main_while1b_call20), in order. -/
abbrev while1Ops0_12 : Ops F :=
  [ TRef.unary (.of main_while1b_v67 : TRef sig ⟨S6x64x128, .f32⟩) (.of main_while1b_call20_v0 : TRef sig ⟨S1x6x64x128, .f32⟩) (broadcastInDim S1x6x64x128 ![1, 2, 3] bcast_S6x64x128_S1x6x64x128_1_2_3),
    TRef.nullary (.of main_while1b_call20_c : TRef sig ⟨S_, .i32⟩) (constantI S_ 32 0#32),
    TRef.nullary (.of main_while1b_call20_c_0 : TRef sig ⟨S_, .i32⟩) (constantI S_ 32 0#32),
    TRef.nullary (.of main_while1b_call20_c_1 : TRef sig ⟨S_, .i32⟩) (constantI S_ 32 0#32),
    TRef.binaryIndexed (.of main_v31_12 : TRef sig ⟨S64x6x64x128, .f32⟩) (.of main_while1b_call20_v0 : TRef sig ⟨S1x6x64x128, .f32⟩) ![(.of main_while1b_v46 : TRef sig ⟨S_, .i32⟩), (.of main_while1b_call20_c : TRef sig ⟨S_, .i32⟩), (.of main_while1b_call20_c_0 : TRef sig ⟨S_, .i32⟩), (.of main_while1b_call20_c_1 : TRef sig ⟨S_, .i32⟩)] (.of main_while1b_v80 : TRef sig ⟨S64x6x64x128, .f32⟩) (fun x u i => Host.dynamicUpdateSlice x u (fun k => (i k (Shape.Idx.first h_S_)).toInt) updateFits_S64x6x64x128_S1x6x64x128) ]
theorem while1Ops0_12_sub : Touches (F := F) while1Ops0_12 :=
  ⟨unary_bufs_sub .., nullary_bufs_sub .., nullary_bufs_sub .., nullary_bufs_sub .., binaryIndexed_bufs_sub ..⟩
/-- 5 host operations of @dynamic_update_index_in_dim (main_while1b_call21), in order. -/
abbrev while1Ops0_13 : Ops F :=
  [ TRef.unary (.of main_while1b_v77 : TRef sig ⟨S6x64x128, .f32⟩) (.of main_while1b_call21_v0 : TRef sig ⟨S1x6x64x128, .f32⟩) (broadcastInDim S1x6x64x128 ![1, 2, 3] bcast_S6x64x128_S1x6x64x128_1_2_3),
    TRef.nullary (.of main_while1b_call21_c : TRef sig ⟨S_, .i32⟩) (constantI S_ 32 0#32),
    TRef.nullary (.of main_while1b_call21_c_0 : TRef sig ⟨S_, .i32⟩) (constantI S_ 32 0#32),
    TRef.nullary (.of main_while1b_call21_c_1 : TRef sig ⟨S_, .i32⟩) (constantI S_ 32 0#32),
    TRef.binaryIndexed (.of main_v31_13 : TRef sig ⟨S64x6x64x128, .f32⟩) (.of main_while1b_call21_v0 : TRef sig ⟨S1x6x64x128, .f32⟩) ![(.of main_while1b_v46 : TRef sig ⟨S_, .i32⟩), (.of main_while1b_call21_c : TRef sig ⟨S_, .i32⟩), (.of main_while1b_call21_c_0 : TRef sig ⟨S_, .i32⟩), (.of main_while1b_call21_c_1 : TRef sig ⟨S_, .i32⟩)] (.of main_while1b_v81 : TRef sig ⟨S64x6x64x128, .f32⟩) (fun x u i => Host.dynamicUpdateSlice x u (fun k => (i k (Shape.Idx.first h_S_)).toInt) updateFits_S64x6x64x128_S1x6x64x128) ]
theorem while1Ops0_13_sub : Touches (F := F) while1Ops0_13 :=
  ⟨unary_bufs_sub .., nullary_bufs_sub .., nullary_bufs_sub .., nullary_bufs_sub .., binaryIndexed_bufs_sub ..⟩
/-- 5 host operations of @dynamic_update_index_in_dim_6 (main_while1b_call22), in order. -/
abbrev while1Ops0_14 : Ops F :=
  [ TRef.unary (.of main_while1b_v68 : TRef sig ⟨S6x64x64, .f32⟩) (.of main_while1b_call22_v0 : TRef sig ⟨S1x6x64x64, .f32⟩) (broadcastInDim S1x6x64x64 ![1, 2, 3] bcast_S6x64x64_S1x6x64x64_1_2_3),
    TRef.nullary (.of main_while1b_call22_c : TRef sig ⟨S_, .i32⟩) (constantI S_ 32 0#32),
    TRef.nullary (.of main_while1b_call22_c_0 : TRef sig ⟨S_, .i32⟩) (constantI S_ 32 0#32),
    TRef.nullary (.of main_while1b_call22_c_1 : TRef sig ⟨S_, .i32⟩) (constantI S_ 32 0#32),
    TRef.binaryIndexed (.of main_v31_14 : TRef sig ⟨S64x6x64x64, .f32⟩) (.of main_while1b_call22_v0 : TRef sig ⟨S1x6x64x64, .f32⟩) ![(.of main_while1b_v46 : TRef sig ⟨S_, .i32⟩), (.of main_while1b_call22_c : TRef sig ⟨S_, .i32⟩), (.of main_while1b_call22_c_0 : TRef sig ⟨S_, .i32⟩), (.of main_while1b_call22_c_1 : TRef sig ⟨S_, .i32⟩)] (.of main_while1b_v82 : TRef sig ⟨S64x6x64x64, .f32⟩) (fun x u i => Host.dynamicUpdateSlice x u (fun k => (i k (Shape.Idx.first h_S_)).toInt) updateFits_S64x6x64x64_S1x6x64x64) ]
theorem while1Ops0_14_sub : Touches (F := F) while1Ops0_14 :=
  ⟨unary_bufs_sub .., nullary_bufs_sub .., nullary_bufs_sub .., nullary_bufs_sub .., binaryIndexed_bufs_sub ..⟩
/-- 3 host operations of @dynamic_update_index_in_dim_7 (main_while1b_call23), in order. -/
abbrev while1Ops0_15 : Ops F :=
  [ TRef.unary (.of main_while1b_v64 : TRef sig ⟨S6, .f32⟩) (.of main_while1b_call23_v0 : TRef sig ⟨S1x6, .f32⟩) (broadcastInDim S1x6 ![1] bcast_S6_S1x6_1),
    TRef.nullary (.of main_while1b_call23_c : TRef sig ⟨S_, .i32⟩) (constantI S_ 32 0#32),
    TRef.binaryIndexed (.of main_v31_15 : TRef sig ⟨S64x6, .f32⟩) (.of main_while1b_call23_v0 : TRef sig ⟨S1x6, .f32⟩) ![(.of main_while1b_v46 : TRef sig ⟨S_, .i32⟩), (.of main_while1b_call23_c : TRef sig ⟨S_, .i32⟩)] (.of main_while1b_v83 : TRef sig ⟨S64x6, .f32⟩) (fun x u i => Host.dynamicUpdateSlice x u (fun k => (i k (Shape.Idx.first h_S_)).toInt) updateFits_S64x6_S1x6) ]
theorem while1Ops0_15_sub : Touches (F := F) while1Ops0_15 :=
  ⟨unary_bufs_sub .., nullary_bufs_sub .., binaryIndexed_bufs_sub ..⟩
/-- 10 host operations of host loop 1's body region, in order. -/
abbrev while1Ops0_16 : Ops F :=
  [ nullary main_while1b_c_33 (constantI S_ 32 1#32),
    binary main_v31_8 main_while1b_c_33 main_while1b_v84 (addi : (⟨S_, .i32⟩ : BufTy).Contents (Elt F) → (⟨S_, .i32⟩ : BufTy).Contents (Elt F) → (⟨S_, .i32⟩ : BufTy).Contents (Elt F)),
    unary main_while1b_v84 main_v31_8 id,
    unary main_while1b_v76 main_v31_9 id,
    unary main_while1b_v78 main_v31_10 id,
    unary main_while1b_v79 main_v31_11 id,
    unary main_while1b_v80 main_v31_12 id,
    unary main_while1b_v81 main_v31_13 id,
    unary main_while1b_v82 main_v31_14 id,
    unary main_while1b_v83 main_v31_15 id ]
theorem while1Ops0_16_sub : Touches (F := F) while1Ops0_16 :=
  ⟨nullary_bufs_sub .., binary_bufs_sub .., unary_bufs_sub .., unary_bufs_sub .., unary_bufs_sub .., unary_bufs_sub .., unary_bufs_sub .., unary_bufs_sub .., unary_bufs_sub .., unary_bufs_sub ..⟩
/-- `main_while1_body` is the chain of its items (`Pipeline.chain`): operation stretches, regions, loops and branches in -/
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5,
    StableHlo.seq while1Ops0_6,
    StableHlo.seq while1Ops0_7,
    StableHlo.seq while1Ops0_8,
    StableHlo.seq while1Ops0_9,
    StableHlo.seq while1Ops0_10,
    StableHlo.seq while1Ops0_11,
    StableHlo.seq while1Ops0_12,
    StableHlo.seq while1Ops0_13,
    StableHlo.seq while1Ops0_14,
    StableHlo.seq while1Ops0_15,
    StableHlo.seq while1Ops0_16 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, Pipeline.chain_cons, Pipeline.chain_cons, StableHlo.chain_seq_cons]
  chain_rfl

/-! ## Facts about the lists -/

theorem hostOps0_fresh : Unfresh (F := F) hostOps0 := StableHlo.forall_fresh_of_map rfl
theorem hostOps0_1_fresh : Unfresh (F := F) hostOps0_1 := StableHlo.forall_fresh_of_map rfl
theorem hostOps0_2_fresh : Unfresh (F := F) hostOps0_2 := StableHlo.forall_fresh_of_map rfl
theorem while0Ops0_fresh : Unfresh (F := F) while0Ops0 := StableHlo.forall_fresh_of_map rfl
theorem while0Ops0_1_fresh : Unfresh (F := F) while0Ops0_1 := StableHlo.forall_fresh_of_map rfl
theorem while0Ops0_2_fresh : Unfresh (F := F) while0Ops0_2 := StableHlo.forall_fresh_of_map rfl
theorem while0Ops0_3_fresh : Unfresh (F := F) while0Ops0_3 := StableHlo.forall_fresh_of_map rfl
theorem while0Ops0_4_fresh : Unfresh (F := F) while0Ops0_4 := StableHlo.forall_fresh_of_map rfl
theorem while0Ops0_5_fresh : Unfresh (F := F) while0Ops0_5 := StableHlo.forall_fresh_of_map rfl
theorem while0Ops0_6_fresh : Unfresh (F := F) while0Ops0_6 := StableHlo.forall_fresh_of_map rfl
theorem while0Ops0_7_fresh : Unfresh (F := F) while0Ops0_7 := StableHlo.forall_fresh_of_map rfl
theorem while0Ops0_8_fresh : Unfresh (F := F) while0Ops0_8 := StableHlo.forall_fresh_of_map rfl
theorem while0Ops0_9_fresh : Unfresh (F := F) while0Ops0_9 := StableHlo.forall_fresh_of_map rfl
theorem while0Ops0_10_fresh : Unfresh (F := F) while0Ops0_10 := StableHlo.forall_fresh_of_map rfl
theorem while0Ops0_11_fresh : Unfresh (F := F) while0Ops0_11 := StableHlo.forall_fresh_of_map rfl
theorem while1Ops0_fresh : Unfresh (F := F) while1Ops0 := StableHlo.forall_fresh_of_map rfl
theorem while1Ops0_1_fresh : Unfresh (F := F) while1Ops0_1 := StableHlo.forall_fresh_of_map rfl
theorem while1Ops0_2_fresh : Unfresh (F := F) while1Ops0_2 := StableHlo.forall_fresh_of_map rfl
theorem while1Ops0_3_fresh : Unfresh (F := F) while1Ops0_3 := StableHlo.forall_fresh_of_map rfl
theorem while1Ops0_4_fresh : Unfresh (F := F) while1Ops0_4 := StableHlo.forall_fresh_of_map rfl
theorem while1Ops0_5_fresh : Unfresh (F := F) while1Ops0_5 := StableHlo.forall_fresh_of_map rfl
theorem while1Ops0_6_fresh : Unfresh (F := F) while1Ops0_6 := StableHlo.forall_fresh_of_map rfl
theorem while1Ops0_7_fresh : Unfresh (F := F) while1Ops0_7 := StableHlo.forall_fresh_of_map rfl
theorem while1Ops0_8_fresh : Unfresh (F := F) while1Ops0_8 := StableHlo.forall_fresh_of_map rfl
theorem while1Ops0_9_fresh : Unfresh (F := F) while1Ops0_9 := StableHlo.forall_fresh_of_map rfl
theorem while1Ops0_10_fresh : Unfresh (F := F) while1Ops0_10 := StableHlo.forall_fresh_of_map rfl
theorem while1Ops0_11_fresh : Unfresh (F := F) while1Ops0_11 := StableHlo.forall_fresh_of_map rfl
theorem while1Ops0_12_fresh : Unfresh (F := F) while1Ops0_12 := StableHlo.forall_fresh_of_map rfl
theorem while1Ops0_13_fresh : Unfresh (F := F) while1Ops0_13 := StableHlo.forall_fresh_of_map rfl
theorem while1Ops0_14_fresh : Unfresh (F := F) while1Ops0_14 := StableHlo.forall_fresh_of_map rfl
theorem while1Ops0_15_fresh : Unfresh (F := F) while1Ops0_15 := StableHlo.forall_fresh_of_map rfl
theorem while1Ops0_16_fresh : Unfresh (F := F) while1Ops0_16 := StableHlo.forall_fresh_of_map rfl

/-- Loop 0's body, stretch by stretch. -/
abbrev body0 : List (Ops F) := [while0Ops0, while0Ops0_1, while0Ops0_2, while0Ops0_3, while0Ops0_4, while0Ops0_5, while0Ops0_6, while0Ops0_7, while0Ops0_8, while0Ops0_9, while0Ops0_10, while0Ops0_11]
theorem body0_plain : StableHlo.Plain (body0 : List (Ops F)) :=
  .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.cons while0Ops0_9_sub (hf := List.forall_iff_forall_mem.mp while0Ops0_9_fresh) (.cons while0Ops0_10_sub (hf := List.forall_iff_forall_mem.mp while0Ops0_10_fresh) (.cons while0Ops0_11_sub (hf := List.forall_iff_forall_mem.mp while0Ops0_11_fresh) (.nil))))))))))))

/-- Loop 1's body, stretch by stretch. -/
abbrev body1 : List (Ops F) := [while1Ops0, while1Ops0_1, while1Ops0_2, while1Ops0_3, while1Ops0_4, while1Ops0_5, while1Ops0_6, while1Ops0_7, while1Ops0_8, while1Ops0_9, while1Ops0_10, while1Ops0_11, while1Ops0_12, while1Ops0_13, while1Ops0_14, while1Ops0_15, while1Ops0_16]
theorem body1_plain : StableHlo.Plain (body1 : List (Ops F)) :=
  .cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) (.cons while1Ops0_4_sub (hf := List.forall_iff_forall_mem.mp while1Ops0_4_fresh) (.cons while1Ops0_5_sub (hf := List.forall_iff_forall_mem.mp while1Ops0_5_fresh) (.cons while1Ops0_6_sub (hf := List.forall_iff_forall_mem.mp while1Ops0_6_fresh) (.cons while1Ops0_7_sub (hf := List.forall_iff_forall_mem.mp while1Ops0_7_fresh) (.cons while1Ops0_8_sub (hf := List.forall_iff_forall_mem.mp while1Ops0_8_fresh) (.cons while1Ops0_9_sub (hf := List.forall_iff_forall_mem.mp while1Ops0_9_fresh) (.cons while1Ops0_10_sub (hf := List.forall_iff_forall_mem.mp while1Ops0_10_fresh) (.cons while1Ops0_11_sub (hf := List.forall_iff_forall_mem.mp while1Ops0_11_fresh) (.cons while1Ops0_12_sub (hf := List.forall_iff_forall_mem.mp while1Ops0_12_fresh) (.cons while1Ops0_13_sub (hf := List.forall_iff_forall_mem.mp while1Ops0_13_fresh) (.cons while1Ops0_14_sub (hf := List.forall_iff_forall_mem.mp while1Ops0_14_fresh) (.cons while1Ops0_15_sub (hf := List.forall_iff_forall_mem.mp while1Ops0_15_fresh) (.cons while1Ops0_16_sub (hf := List.forall_iff_forall_mem.mp while1Ops0_16_fresh) (.nil)))))))))))))))))

theorem pre_plain : StableHlo.Plain ([hostOps0] : List (Ops F)) := .cons hostOps0_sub (hf := List.forall_iff_forall_mem.mp hostOps0_fresh) (.nil)

theorem mid_plain : StableHlo.Plain ([hostOps0_1] : List (Ops F)) := .cons hostOps0_1_sub (hf := List.forall_iff_forall_mem.mp hostOps0_1_fresh) (.nil)

theorem post_plain : StableHlo.Plain ([hostOps0_2] : List (Ops F)) := .cons hostOps0_2_sub (hf := List.forall_iff_forall_mem.mp hostOps0_2_fresh) (.nil)

end Cert.Proof.Ref

end
-- ==== Proof.RefStep.lean ====
/-
  One trip of each of the reference's two loops, read off its operations: what the trip leaves in every buffer the loop
  carries, as a function of what those buffers held before it. A slab of a stacked array is read at the loop's index
  (`slab…`) and written back at it (`put…`); between the two, a trip is the arithmetic of `fwdNew`, `fwdNext` (forward) and
  `bwdU` … `bwdNext` (backward).
-/
module

public import proofs.«01_k».proof.Proof.RefOps

@[expose] public section

noncomputable section

namespace Cert.Proof.Ref

open Cert.ReferenceIdeal Cert.ReferenceIdeal.Gen
open Idealize.ShloMosaic Idealize.ShloMosaic.TcCoe Idealize.ShloMosaic.StableHlo
open Idealize.SL Idealize.SL.RA Idealize.SL.BI

variable {F : FTy → Type} [FloatOps F]

set_option maxRecDepth 100000

/-- What an index buffer holds. -/
abbrev Ixv (F : FTy → Type) : Type := (⟨S_, .i32⟩ : BufTy).Contents (Elt F)

/-- The start of a slab of a stacked array of rank four: the loop's index along the first axis, zero along the others. -/
def start4 (i : Ixv F) : Fin 4 → Int :=
  fun k => ((![i, constantI S_ 32 0#32, constantI S_ 32 0#32, constantI S_ 32 0#32] : Fin 4 → Ixv F) k (Shape.Idx.first h_S_)).toInt

/-- The start of a row of a stacked array of rank two. -/
def start2 (i : Ixv F) : Fin 2 → Int :=
  fun k => ((![i, constantI S_ 32 0#32] : Fin 2 → Ixv F) k (Shape.Idx.first h_S_)).toInt

/-- One chunk of a stack of chunks of 64 rows and 128 columns. -/
def slabC (x : FVec F S64x6x64x128 .f32) (i : Ixv F) : FVec F S6x64x128 .f32 :=
  shapeCast S6x64x128 (Host.dynamicSlice S1x6x64x128 x (start4 i) sliceFits_S64x6x64x128_S1x6x64x128) shapeCasts_S1x6x64x128_S6x64x128

/-- One chunk of a stack of chunks of 64 rows and 64 columns. -/
def slabA (x : FVec F S64x6x64x64 .f32) (i : Ixv F) : FVec F S6x64x64 .f32 :=
  shapeCast S6x64x64 (Host.dynamicSlice S1x6x64x64 x (start4 i) sliceFits_S64x6x64x64_S1x6x64x64) shapeCasts_S1x6x64x64_S6x64x64

/-- One state of a stack of states. -/
def slabS (x : FVec F S64x6x128x128 .f32) (i : Ixv F) : FVec F S6x128x128 .f32 :=
  shapeCast S6x128x128 (Host.dynamicSlice S1x6x128x128 x (start4 i) sliceFits_S64x6x128x128_S1x6x128x128) shapeCasts_S1x6x128x128_S6x128x128

/-- One chunk's decays, out of a matrix of them. -/
def slabD (x : FVec F S64x6 .f32) (i : Ixv F) : FVec F S6x1x1 .f32 :=
  broadcastInDim S6x1x1 ![0] bcast_S6_S6x1x1_0
    (shapeCast S6 (Host.dynamicSlice S1x6 x (start2 i) sliceFits_S64x6_S1x6) shapeCasts_S1x6_S6)

/-- One chunk's decays, out of a stack of them. -/
def slabE (x : FVec F S64x6x1x1 .f32) (i : Ixv F) : FVec F S6x1x1 .f32 :=
  shapeCast S6x1x1 (Host.dynamicSlice S1x6x1x1 x (start4 i) sliceFits_S64x6x1x1_S1x6x1x1) shapeCasts_S1x6x1x1_S6x1x1

/-- A stack of chunks with one of them replaced. -/
def putC (x : FVec F S64x6x64x128 .f32) (v : FVec F S6x64x128 .f32) (i : Ixv F) : FVec F S64x6x64x128 .f32 :=
  Host.dynamicUpdateSlice x (broadcastInDim S1x6x64x128 ![1, 2, 3] bcast_S6x64x128_S1x6x64x128_1_2_3 v) (start4 i) updateFits_S64x6x64x128_S1x6x64x128

/-- A stack of square chunks with one of them replaced. -/
def putA (x : FVec F S64x6x64x64 .f32) (v : FVec F S6x64x64 .f32) (i : Ixv F) : FVec F S64x6x64x64 .f32 :=
  Host.dynamicUpdateSlice x (broadcastInDim S1x6x64x64 ![1, 2, 3] bcast_S6x64x64_S1x6x64x64_1_2_3 v) (start4 i) updateFits_S64x6x64x64_S1x6x64x64

/-- A stack of states with one of them replaced. -/
def putS (x : FVec F S64x6x128x128 .f32) (v : FVec F S6x128x128 .f32) (i : Ixv F) : FVec F S64x6x128x128 .f32 :=
  Host.dynamicUpdateSlice x (broadcastInDim S1x6x128x128 ![1, 2, 3] bcast_S6x128x128_S1x6x128x128_1_2_3 v) (start4 i) updateFits_S64x6x128x128_S1x6x128x128

/-- A stack of decays with one chunk's replaced. -/
def putE (x : FVec F S64x6x1x1 .f32) (v : FVec F S6x1x1 .f32) (i : Ixv F) : FVec F S64x6x1x1 .f32 :=
  Host.dynamicUpdateSlice x (broadcastInDim S1x6x1x1 ![1, 2, 3] bcast_S6x1x1_S1x6x1x1_1_2_3 v) (start4 i) updateFits_S64x6x1x1_S1x6x1x1

/-- A matrix of decays with one chunk's replaced. -/
def putD (x : FVec F S64x6 .f32) (v : FVec F S6 .f32) (i : Ixv F) : FVec F S64x6 .f32 :=
  Host.dynamicUpdateSlice x (broadcastInDim S1x6 ![1] bcast_S6_S1x6_1 v) (start2 i) updateFits_S64x6_S1x6

/-- The forward step's corrected values: the inputs less the keys' reading of the state. -/
def fwdNew (S : FVec F S6x128x128 .f32) (u w : FVec F S6x64x128 .f32) : FVec F S6x64x128 .f32 :=
  subf u (Host.dotGeneral dot_S6x64x128_S6x128x128_S6x64x128_2_1_1_2_0_0 none w S)

/-- The forward step's next state: the state decayed, plus the keys against the corrected values. -/
def fwdNext (S : FVec F S6x128x128 .f32) (dc : FVec F S6x1x1 .f32) (kt vn : FVec F S6x64x128 .f32) : FVec F S6x128x128 .f32 :=
  addf (mulf S (broadcastInDim S6x128x128 ![0, 1, 2] bcast_S6x1x1_S6x128x128_0_1_2 dc))
    (Host.dotGeneral dot_S6x64x128_S6x64x128_S6x128x128_1_1_2_2_0_0 none kt vn)

/-- The gradient of the corrected values, which is that of the inputs. -/
def bwdU (g : FVec F S6x128x128 .f32) (o : FVec F S6x64x128 .f32) (at' : FVec F S6x64x64 .f32) (kt : FVec F S6x64x128 .f32) :
    FVec F S6x64x128 .f32 :=
  addf (transpose S6x64x128 [0, 2, 1] (Host.dotGeneral dot_S6x128x128_S6x64x128_S6x128x64_1_2_2_1_0_0 none g kt) transposes_S6x128x64_S6x64x128_0_2_1)
    (transpose S6x64x128 [0, 2, 1] (Host.dotGeneral dot_S6x64x128_S6x64x64_S6x128x64_1_1_2_2_0_0 none o at') transposes_S6x128x64_S6x64x128_0_2_1)

/-- The gradient of the keys. -/
def bwdK (g : FVec F S6x128x128 .f32) (vn : FVec F S6x64x128 .f32) : FVec F S6x64x128 .f32 :=
  transpose S6x64x128 [0, 2, 1] (Host.dotGeneral dot_S6x128x128_S6x64x128_S6x128x64_2_2_1_1_0_0 none g vn) transposes_S6x128x64_S6x64x128_0_2_1

/-- The gradient of the decays: the state against its gradient, summed over the state. -/
def bwdD (S g : FVec F S6x128x128 .f32) : FVec F S6 .f32 :=
  Host.reduceAdd (shapeCast S6x1x1 (Host.reduceAdd (mulf S g) (constant S_ .f32 0x00000000#32) reducesTo_S6x128x128_S6_d1_2 h_S_) shapeCasts_S6_S6x1x1)
    (constant S_ .f32 0x00000000#32) reducesTo_S6x1x1_S6_d1_2 h_S_

/-- The gradient of the intra-chunk weights. -/
def bwdA (o vn : FVec F S6x64x128 .f32) : FVec F S6x64x64 .f32 :=
  Host.dotGeneral dot_S6x64x128_S6x64x128_S6x64x64_2_2_1_1_0_0 none o vn

/-- A chunk of cotangents against the state: the gradient of what multiplied the state. -/
def bwdQ (o : FVec F S6x64x128 .f32) (S : FVec F S6x128x128 .f32) : FVec F S6x64x128 .f32 :=
  Host.dotGeneral dot_S6x64x128_S6x128x128_S6x64x128_2_2_1_1_0_0 none o S

/-- The gradient of the state before the step. -/
def bwdNext (g : FVec F S6x128x128 .f32) (dc : FVec F S6x1x1 .f32) (o qd n w : FVec F S6x64x128 .f32) : FVec F S6x128x128 .f32 :=
  addf (addf (mulf g (broadcastInDim S6x128x128 ![0, 1, 2] bcast_S6x1x1_S6x128x128_0_1_2 dc))
      (transpose S6x128x128 [0, 2, 1] (Host.dotGeneral dot_S6x64x128_S6x64x128_S6x128x128_1_1_2_2_0_0 none o qd) transposes_S6x128x128_S6x128x128_0_2_1))
    (transpose S6x128x128 [0, 2, 1] (Host.dotGeneral dot_S6x64x128_S6x64x128_S6x128x128_1_1_2_2_0_0 none n w) transposes_S6x128x128_S6x128x128_0_2_1)

/-- The chunk the backward loop's counter stands for: the last less the counter. -/
def back (i : Ixv F) : Ixv F := subi (subi (constantI S_ 32 64#32) i) (constantI S_ 32 1#32)

variable (V : Valuation τ sig (Elt F))

/-- The state after a forward trip. -/
theorem trip0_state : afterL body0 V (Proc.devRef .tc main_v18_7) = fwdNext (V (Proc.devRef .tc main_v18_7)) (slabD (V (Proc.devRef .tc main_v18_5)) (V (Proc.devRef .tc main_v18_6))) (slabC (V (Proc.devRef .tc main_v18_1)) (V (Proc.devRef .tc main_v18_6))) (fwdNew (V (Proc.devRef .tc main_v18_7)) (slabC (V (Proc.devRef .tc main_v18_2)) (V (Proc.devRef .tc main_v18_6))) (slabC (V (Proc.devRef .tc main_v18_3)) (V (Proc.devRef .tc main_v18_6)))) := by
  simp only [afterL_cons, afterL_nil]
  after_reads_simp [unaryIndexed_result_read, binaryIndexed_result_read, indexContents_tref_cons, indexContents_tref_empty]
  rfl

/-- The saved states after a forward trip. -/
theorem trip0_states : afterL body0 V (Proc.devRef .tc main_v18_9) = putS (V (Proc.devRef .tc main_v18_9)) (V (Proc.devRef .tc main_v18_7)) (V (Proc.devRef .tc main_v18_6)) := by
  simp only [afterL_cons, afterL_nil]
  after_reads_simp [unaryIndexed_result_read, binaryIndexed_result_read, indexContents_tref_cons, indexContents_tref_empty]
  rfl

/-- The saved corrected values after a forward trip. -/
theorem trip0_new : afterL body0 V (Proc.devRef .tc main_v18_10) = putC (V (Proc.devRef .tc main_v18_10)) (fwdNew (V (Proc.devRef .tc main_v18_7)) (slabC (V (Proc.devRef .tc main_v18_2)) (V (Proc.devRef .tc main_v18_6))) (slabC (V (Proc.devRef .tc main_v18_3)) (V (Proc.devRef .tc main_v18_6)))) (V (Proc.devRef .tc main_v18_6)) := by
  simp only [afterL_cons, afterL_nil]
  after_reads_simp [unaryIndexed_result_read, binaryIndexed_result_read, indexContents_tref_cons, indexContents_tref_empty]
  rfl

/-- The saved decays after a forward trip. -/
theorem trip0_dec : afterL body0 V (Proc.devRef .tc main_v18_11) = putE (V (Proc.devRef .tc main_v18_11)) (slabD (V (Proc.devRef .tc main_v18_5)) (V (Proc.devRef .tc main_v18_6))) (V (Proc.devRef .tc main_v18_6)) := by
  simp only [afterL_cons, afterL_nil]
  after_reads_simp [unaryIndexed_result_read, binaryIndexed_result_read, indexContents_tref_cons, indexContents_tref_empty]
  rfl

/-- The counter after a forward trip. -/
theorem trip0_ctr : afterL body0 V (Proc.devRef .tc main_v18_6) = addi (V (Proc.devRef .tc main_v18_6)) (constantI S_ 32 1#32) := by
  simp only [afterL_cons, afterL_nil]
  after_reads_simp [unaryIndexed_result_read, binaryIndexed_result_read, indexContents_tref_cons, indexContents_tref_empty]
  rfl

/-- The gradient of the state after a backward trip. -/
theorem trip1_state : afterL body1 V (Proc.devRef .tc main_v31_9) = bwdNext (V (Proc.devRef .tc main_v31_9)) (slabE (V (Proc.devRef .tc main_v31_6)) (back (V (Proc.devRef .tc main_v31_8)))) (slabC (V (Proc.devRef .tc main_v31_0)) (back (V (Proc.devRef .tc main_v31_8)))) (slabC (V (Proc.devRef .tc main_v31_3)) (back (V (Proc.devRef .tc main_v31_8)))) (Host.negf (bwdU (V (Proc.devRef .tc main_v31_9)) (slabC (V (Proc.devRef .tc main_v31_0)) (back (V (Proc.devRef .tc main_v31_8)))) (slabA (V (Proc.devRef .tc main_v31_5)) (back (V (Proc.devRef .tc main_v31_8)))) (slabC (V (Proc.devRef .tc main_v31_7)) (back (V (Proc.devRef .tc main_v31_8)))))) (slabC (V (Proc.devRef .tc main_v31_2)) (back (V (Proc.devRef .tc main_v31_8)))) := by
  simp only [afterL_cons, afterL_nil]
  after_reads_simp [unaryIndexed_result_read, binaryIndexed_result_read, indexContents_tref_cons, indexContents_tref_empty]
  rfl

/-- The gradient of the queries after a backward trip. -/
theorem trip1_q : afterL body1 V (Proc.devRef .tc main_v31_10) = putC (V (Proc.devRef .tc main_v31_10)) (bwdQ (slabC (V (Proc.devRef .tc main_v31_0)) (back (V (Proc.devRef .tc main_v31_8)))) (slabS (V (Proc.devRef .tc main_v31_1)) (back (V (Proc.devRef .tc main_v31_8))))) (back (V (Proc.devRef .tc main_v31_8))) := by
  simp only [afterL_cons, afterL_nil]
  after_reads_simp [unaryIndexed_result_read, binaryIndexed_result_read, indexContents_tref_cons, indexContents_tref_empty]
  rfl

/-- The gradient of the keys after a backward trip. -/
theorem trip1_k : afterL body1 V (Proc.devRef .tc main_v31_11) = putC (V (Proc.devRef .tc main_v31_11)) (bwdK (V (Proc.devRef .tc main_v31_9)) (slabC (V (Proc.devRef .tc main_v31_4)) (back (V (Proc.devRef .tc main_v31_8))))) (back (V (Proc.devRef .tc main_v31_8))) := by
  simp only [afterL_cons, afterL_nil]
  after_reads_simp [unaryIndexed_result_read, binaryIndexed_result_read, indexContents_tref_cons, indexContents_tref_empty]
  rfl

/-- The gradient of the inputs after a backward trip. -/
theorem trip1_u : afterL body1 V (Proc.devRef .tc main_v31_12) = putC (V (Proc.devRef .tc main_v31_12)) (bwdU (V (Proc.devRef .tc main_v31_9)) (slabC (V (Proc.devRef .tc main_v31_0)) (back (V (Proc.devRef .tc main_v31_8)))) (slabA (V (Proc.devRef .tc main_v31_5)) (back (V (Proc.devRef .tc main_v31_8)))) (slabC (V (Proc.devRef .tc main_v31_7)) (back (V (Proc.devRef .tc main_v31_8))))) (back (V (Proc.devRef .tc main_v31_8))) := by
  simp only [afterL_cons, afterL_nil]
  after_reads_simp [unaryIndexed_result_read, binaryIndexed_result_read, indexContents_tref_cons, indexContents_tref_empty]
  rfl

/-- The gradient of the weights after a backward trip. -/
theorem trip1_w : afterL body1 V (Proc.devRef .tc main_v31_13) = putC (V (Proc.devRef .tc main_v31_13)) (bwdQ (Host.negf (bwdU (V (Proc.devRef .tc main_v31_9)) (slabC (V (Proc.devRef .tc main_v31_0)) (back (V (Proc.devRef .tc main_v31_8)))) (slabA (V (Proc.devRef .tc main_v31_5)) (back (V (Proc.devRef .tc main_v31_8)))) (slabC (V (Proc.devRef .tc main_v31_7)) (back (V (Proc.devRef .tc main_v31_8)))))) (slabS (V (Proc.devRef .tc main_v31_1)) (back (V (Proc.devRef .tc main_v31_8))))) (back (V (Proc.devRef .tc main_v31_8))) := by
  simp only [afterL_cons, afterL_nil]
  after_reads_simp [unaryIndexed_result_read, binaryIndexed_result_read, indexContents_tref_cons, indexContents_tref_empty]
  rfl

/-- The gradient of the intra-chunk weights after a backward trip. -/
theorem trip1_a : afterL body1 V (Proc.devRef .tc main_v31_14) = putA (V (Proc.devRef .tc main_v31_14)) (bwdA (slabC (V (Proc.devRef .tc main_v31_0)) (back (V (Proc.devRef .tc main_v31_8)))) (slabC (V (Proc.devRef .tc main_v31_4)) (back (V (Proc.devRef .tc main_v31_8))))) (back (V (Proc.devRef .tc main_v31_8))) := by
  simp only [afterL_cons, afterL_nil]
  after_reads_simp [unaryIndexed_result_read, binaryIndexed_result_read, indexContents_tref_cons, indexContents_tref_empty]
  rfl

/-- The gradient of the decays after a backward trip. -/
theorem trip1_d : afterL body1 V (Proc.devRef .tc main_v31_15) = putD (V (Proc.devRef .tc main_v31_15)) (bwdD (slabS (V (Proc.devRef .tc main_v31_1)) (back (V (Proc.devRef .tc main_v31_8)))) (V (Proc.devRef .tc main_v31_9))) (back (V (Proc.devRef .tc main_v31_8))) := by
  simp only [afterL_cons, afterL_nil]
  after_reads_simp [unaryIndexed_result_read, binaryIndexed_result_read, indexContents_tref_cons, indexContents_tref_empty]
  rfl

/-- The counter after a backward trip. -/
theorem trip1_ctr : afterL body1 V (Proc.devRef .tc main_v31_8) = addi (V (Proc.devRef .tc main_v31_8)) (constantI S_ 32 1#32) := by
  simp only [afterL_cons, afterL_nil]
  after_reads_simp [unaryIndexed_result_read, binaryIndexed_result_read, indexContents_tref_cons, indexContents_tref_empty]
  rfl

end Cert.Proof.Ref

end
-- ==== Proof.StepEq.lean ====
/-
  Over the extended reals the kernel's step and the reference's are the same functions: each product of the one is the product of
  the other, a difference from zero is a negation, and the layout operations around them agree.
-/
module

public import proofs.«01_k».proof.Proof.BwdBody
public import proofs.«01_k».proof.Proof.RefStep
public import Idealize.ShloMosaic.Lib.KernelVsHost
public import Idealize.ShloMosaic.Lib.Pipeline.Value
public import Idealize.ShloMosaic.Lib.Pointwise

@[expose] public section

noncomputable section

namespace Cert.Proof

open Cert.KernelIdeal Cert.KernelIdeal.Gen
open Idealize.ShloMosaic Idealize.ShloMosaic.TcCoe

set_option maxRecDepth 100000

/-- A product accumulated on zeros is the host's product, of any precision. -/
theorem product_eq {sl sr so : Shape} (d : DotDims sl sr so) (p q : Option ContractPrecision) (a : FVec Ideal sl .f32) (b : FVec Ideal sr .f32) :
    matmul d p a b (constant so .f32 0x00000000#32) = Host.dotGeneral d q a b :=
  (matmul_zero_eq_dotGeneral d p a b).trans rfl

/-- The decays a block holds, one per head: its first column. -/
abbrev decays (dc : Vec Ideal S6x1x1x128 .f32) : FVec Ideal S6x1x1 .f32 := k1_pay5 dc

theorem broadcast_decays (d : FVec Ideal S6x1x1 .f32) :
    broadcastTo S6x128x128 d broadcasts_S6x1x1_S6x128x128
      = broadcastInDim Cert.ReferenceIdeal.S6x128x128 ![0, 1, 2] Cert.ReferenceIdeal.Gen.bcast_S6x1x1_S6x128x128_0_1_2 d := by
  funext i
  pointwise

theorem zeroState_eq : (zeroState : FVec Ideal S6x128x128 .f32) = fun _ => 0 := by
  funext i
  simp only [zeroState, k0_pay2, shapeCast_self]
  pointwise

theorem zeroGrad_eq : (zeroGrad : FVec Ideal S6x128x128 .f32) = fun _ => 0 := by
  funext i
  simp only [zeroGrad, k1_pay2, shapeCast_self]
  pointwise

theorem fwdState_eq (S : FVec Ideal S6x128x128 .f32) (u w kt : Vec Ideal S6x64x128 .f32) (dc : Vec Ideal S6x1x1x128 .f32) :
    fwdState S u w kt dc = Ref.fwdNext S (decays dc) kt (Ref.fwdNew S u w) := by
  simp only [fwdState, k0_pay1, k0_pay4, k0_pay6, shapeCast_self, product_eq _ _ none, broadcast_decays]
  rfl

theorem new_eq (x : Vec Ideal S1x6x128x128 .f32) (u w : Vec Ideal S6x64x128 .f32) :
    k1_pay4 x u w = Ref.fwdNew (k1_pay3 x) u w := by
  simp only [k1_pay4, product_eq _ _ none]
  rfl

theorem grad_u_eq (at' : Vec Ideal S6x64x64 .f32) (o kt : Vec Ideal S6x64x128 .f32) (g : FVec Ideal S6x128x128 .f32) :
    k1_pay14 at' o (k1_pay8 kt g) = Ref.bwdU g o at' kt := by
  simp only [k1_pay14, k1_pay8, k1_pay7, k1_pay13, shapeCast_self, product_eq _ _ none]
  rfl

theorem neg_u_eq (at' : Vec Ideal S6x64x64 .f32) (o kt : Vec Ideal S6x64x128 .f32) (g : FVec Ideal S6x128x128 .f32) :
    k1_pay17 at' o (k1_pay8 kt g) = Host.negf (Ref.bwdU g o at' kt) := by
  rw [← grad_u_eq]
  simp only [k1_pay17]
  exact subf_zero_eq_hostNegf _

theorem grad_w_eq (S : FVec Ideal S6x128x128 .f32) (at' : Vec Ideal S6x64x64 .f32) (o kt : Vec Ideal S6x64x128 .f32) (g : FVec Ideal S6x128x128 .f32) :
    k1_pay18 S at' o (k1_pay8 kt g) = Ref.bwdQ (Host.negf (Ref.bwdU g o at' kt)) S := by
  simp only [k1_pay18, neg_u_eq, product_eq _ _ none]
  rfl

theorem grad_a_eq (vn : FVec Ideal S6x64x128 .f32) (o : Vec Ideal S6x64x128 .f32) : k1_pay15 vn o = Ref.bwdA o vn := by
  simp only [k1_pay15, k1_pay13, shapeCast_self, product_eq _ _ none]
  rfl

theorem grad_q_eq (S : FVec Ideal S6x128x128 .f32) (o : Vec Ideal S6x64x128 .f32) : k1_pay16 S o = Ref.bwdQ o S := by
  simp only [k1_pay16, k1_pay12, shapeCast_self, product_eq _ _ none]
  rfl

theorem grad_k_eq (x : Vec Ideal S1x6x128x128 .f32) (u w : Vec Ideal S6x64x128 .f32) (g : FVec Ideal S6x128x128 .f32) :
    k1_pay9 x u w g = Ref.bwdK g (Ref.fwdNew (k1_pay3 x) u w) := by
  simp only [k1_pay9, k1_pay7, shapeCast_self, new_eq, product_eq _ _ none]
  rfl

theorem bwdState_eq (g : FVec Ideal S6x128x128 .f32) (o w : Vec Ideal S6x64x128 .f32) (at' : Vec Ideal S6x64x64 .f32) (qd kt : Vec Ideal S6x64x128 .f32)
    (dc : Vec Ideal S6x1x1x128 .f32) :
    bwdState g o w at' qd kt dc = Ref.bwdNext g (decays dc) o qd (Host.negf (Ref.bwdU g o at' kt)) w := by
  simp only [bwdState, k1_pay19, k1_pay12, k1_pay6, shapeCast_self, neg_u_eq, product_eq _ _ none, broadcast_decays]
  rfl

/-- The gradient of the decays: the reference's in the first column, zeros in the others. -/
theorem grad_d_eq (x : Vec Ideal S1x6x128x128 .f32) (g : FVec Ideal S6x128x128 .f32) (h : Fin 6) (z z' : Fin 1) (k : Fin 128) :
    k1_pay1 (k1_pay11 (k1_pay10 x g)) (ix4 h z z' k) = if k.val = 0 then Ref.bwdD (k1_pay3 x) g (ix1 h) else 0 := by
  unfold k1_pay1 k1_pay11 k1_pay10 k1_pay6
  simp only [shapeCast_self, Ref.bwdD]
  pointwise
  simp only [Nat.lt_one_iff, Finset.univ_unique, Finset.sum_singleton]
  split <;> rfl

end Cert.Proof

end
-- ==== Proof.TwoLoops.lean ====
/-
  The run of a program of host operations with two counted loops: stretches, a loop, stretches, a loop, stretches. Every terminal state holds each
  buffer at the operations' fold, each loop's condition run once more than its body, and every semaphore counter at zero.
-/
module

public import Idealize.ShloMosaic.Lib.StableHlo.RunLoop

@[expose] public section

noncomputable section

namespace Cert.Proof.TwoLoops

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs)

variable {nD : Nat} {τ : Topo} {sig : RefSig} {F : FTy → Type} {Λ₀ : Labels}

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- No pipeline, so nothing to admit, -/
abbrev noAdm : (p : Fin 0) → (pcs p).Adm := fun p => p.elim0
/-- no ticket, -/
abbrev noTicket : Fin 0 → Ticket (Ix := Unit) (Name := ℕ) (U := Option PUnit) (Lvl := ℕ) (nD := nD) (τ := τ) pcs (noAdm pcs) := fun j => j.elim0
/-- and no cell in use. -/
abbrev noCell : GSem nD τ sig → Finset Unit := fun _ => ∅
abbrev flat : GSem nD τ sig → Unit → ℕ := fun _ _ => 0

theorem cells_inj : Function.Injective (Pipeline.cellOf (nD := nD) (τ := τ) (Pipeline.pin pcs (noAdm pcs))) := fun k => k.1.elim0

/-- What a core carries beside its buffers: that it owes nothing. -/
abbrev debtFree (c : Dev nD) : sProp 𝕄 := iprop(∃ W, owes (c : Thread nD τ) (0 : CellTallies nD τ sig Unit) W)

variable {pcs defs₀ loops}

/-- A condition's specification with the core's debts carried through it. -/
theorem carried {cond : Prog (TpuEff nD τ sig (Elt F) (HostLoop.Sig (Pipeline.Sig Λ₀ (Fin 0) fun p => (pcs p).Adm) nL) .tc) (Elt F .i1)}
    {cOps : List (HloOp τ sig (Elt F))} {bI : List (List (HloOp τ sig (Elt F)))} {W₀ : Dev nD → Valuation τ sig (Elt F)} {n : ℕ}
    (h : CondSpec pcs defs₀ loops cond cOps bI W₀ n) : LoopCond pcs defs₀ Variants.none loops debtFree cond cOps bI W₀ n := by
  intro k hk c bd
  have hpost : ∀ v : Elt F .i1,
      iprop(iprop(⌜v = 1#1 ↔ k < n⌝ ∗ boundary (c : Thread nD τ) ∗ held (c : Thread nD τ) (ucRefs τ sig) (after cOps (atTrip cOps bI W₀ k c))) ∗ debtFree c)
        ⊢ iprop(⌜v = 1#1 ↔ k < n⌝ ∗ boundary (c : Thread nD τ) ∗ held (c : Thread nD τ) (ucRefs τ sig) (after cOps (atTrip cOps bI W₀ k c)) ∗ debtFree c) := by
    intro v
    iintro ⟨⟨%hv, Hb, Hh⟩, HR⟩
    isplitr; · ipureintro; exact hv
    isplitl [Hb]; · iexact Hb
    isplitl [Hh] <;> iassumption
  refine BIBase.Entails.trans ?_ (((sep_mono_left (h k hk c bd)).trans (wp_frame_r _ _ _)).trans (wp_mono _ _ _ hpost))
  iintro ⟨Hb, Hh, HR⟩
  isplitr [HR]
  · isplitl [Hb] <;> iassumption
  iexact HR

/-- One counted loop: its place among the program's, its condition with the operations that it runs, its body's stretches, its trips. -/
structure Counted (loops : Fin nL → Prog (TpuEff nD τ sig (Elt F) (HostLoop.Sig (Pipeline.Sig Λ₀ (Fin 0) fun p => (pcs p).Adm) nL) .tc) PUnit) where
  l : Fin nL
  cond : Prog (TpuEff nD τ sig (Elt F) (HostLoop.Sig (Pipeline.Sig Λ₀ (Fin 0) fun p => (pcs p).Adm) nL) .tc) (Elt F .i1)
  body : Prog (TpuEff nD τ sig (Elt F) (HostLoop.Sig (Pipeline.Sig Λ₀ (Fin 0) fun p => (pcs p).Adm) nL) .tc) PUnit
  hloops : loops l = HostLoop.step l cond body
  cOps : List (HloOp τ sig (Elt F))
  bI : List (List (HloOp τ sig (Elt F)))
  plain : Plain bI
  hbody : body = Pipeline.chain (bI.map fun ops => (seq ops : Prog _ PUnit))
  n : ℕ

/-- The buffers after the loop, entered at `W`. -/
abbrev Counted.exit (A : Counted (pcs := pcs) (nD := nD) (F := F) (τ := τ) loops) (W : Dev nD → Valuation τ sig (Elt F)) (c : Dev nD) : Valuation τ sig (Elt F) :=
  after A.cOps (atTrip A.cOps A.bI W A.n c)

/-- What is asked of the loop's condition, entered at `W`. -/
abbrev Counted.Spec (defs₀ : Defs nD τ sig (Elt F) Λ₀) (A : Counted (pcs := pcs) (nD := nD) (F := F) (τ := τ) loops) (W : Dev nD → Valuation τ sig (Elt F)) : Prop :=
  CondSpec pcs defs₀ loops A.cond A.cOps A.bI W A.n

/-- The loop as one segment. -/
def Counted.seg (A : Counted (pcs := pcs) (nD := nD) (F := F) (τ := τ) loops) (W : Dev nD → Valuation τ sig (Elt F)) (h : A.Spec defs₀ W) :
    CSeg pcs (noAdm pcs) defs₀ Variants.none noCell flat loops (noTicket pcs) :=
  loopSeg _ _ _ _ _ _ _ _ A.l A.cond A.body A.hloops A.cOps A.bI A.plain A.hbody A.n W debtFree (carried h)

variable (A B : Counted (pcs := pcs) (nD := nD) (F := F) (τ := τ) loops) (I J K : List (List (HloOp τ sig (Elt F))))
  (m : (ℓ : Loc nD τ sig) → Buf (Elt F) ℓ)

/-- The buffers where the first loop starts, -/
abbrev start₁ (c : Dev nD) : Valuation τ sig (Elt F) := afterL I (launchContents m c)
/-- where the second one starts, -/
abbrev start₂ (c : Dev nD) : Valuation τ sig (Elt F) := afterL J (A.exit (start₁ I m) c)
/-- and at the end. -/
abbrev finish (c : Dev nD) : Valuation τ sig (Elt F) := afterL K (B.exit (start₂ A I J m) c)

variable (hI : Plain I) (hJ : Plain J) (hK : Plain K) (hA : A.Spec defs₀ (start₁ I m)) (hB : B.Spec defs₀ (start₂ A I J m))

/-- The program's segments in order. -/
def segments : List (CSeg pcs (noAdm pcs) defs₀ Variants.none noCell flat loops (noTicket pcs)) :=
  segsOf _ _ _ _ _ _ _ _ debtFree I hI (launchContents m) ++ A.seg (start₁ I m) hA
    :: (segsOf _ _ _ _ _ _ _ _ debtFree J hJ (A.exit (start₁ I m)) ++ B.seg (start₂ A I J m) hB
      :: segsOf _ _ _ _ _ _ _ _ debtFree K hK (B.exit (start₂ A I J m)))

theorem segments_prog : (segments A B I J K m hI hJ hK hA hB).map CSeg.prog
    = (I.map fun ops => (seq ops : Prog _ PUnit)) ++ HostLoop.enter A.l
      :: ((J.map fun ops => (seq ops : Prog _ PUnit)) ++ HostLoop.enter B.l :: K.map fun ops => (seq ops : Prog _ PUnit)) := by
  unfold segments
  rw [List.map_append, List.map_cons, List.map_append, List.map_cons, segsOf_prog, segsOf_prog, segsOf_prog]
  rfl

theorem segments_chain : CSeg.Chains (fun c => iprop(held (c : Thread nD τ) (ucRefs τ sig) (launchContents m c) ∗ debtFree c))
    (segments A B I J K m hI hJ hK hA hB)
    (fun c => iprop(held (c : Thread nD τ) (ucRefs τ sig) (finish A B I J K m c) ∗ ∃ W, owes (c : Thread nD τ) (0 : CellTallies nD τ sig Unit) W)) := by
  unfold segments
  exact CSeg.Chains.append (segsOf_chains _ _ _ _ _ _ _ _ debtFree I hI _)
    ⟨fun _ => .rfl, CSeg.Chains.append (segsOf_chains _ _ _ _ _ _ _ _ debtFree J hJ _) ⟨fun _ => .rfl, segsOf_chains _ _ _ _ _ _ _ _ debtFree K hK _⟩⟩

include hI hJ hK hA hB in
/-- THE RUN. -/
theorem run [∀ e, Nonempty (Elt F e)] (noSem : ∀ sm : SemLoc sig, sm.isScoped .tc = true)
    (main : Dev nD → Prog (TpuEff nD τ sig (Elt F) (HostLoop.Sig (Pipeline.Sig Λ₀ (Fin 0) fun p => (pcs p).Adm) nL) .tc) PUnit)
    (hmain : ∀ c, main c = Pipeline.chain ((I.map fun ops => (seq ops : Prog _ PUnit)) ++ HostLoop.enter A.l
      :: ((J.map fun ops => (seq ops : Prog _ PUnit)) ++ HostLoop.enter B.l :: K.map fun ops => (seq ops : Prog _ PUnit))))
    (ρ : Dev nD → PrngReg) :
    θ_run (HostLoop.defs loops (Pipeline.defs pcs defs₀)) (onTc (τ := τ) main) ⟨m, fun _ => 0, ρ⟩
      (fun r => (∀ (c : Dev nD) (b : Ref sig .tc), (Proc.devRef .tc b : DevRef τ sig).isScoped = false →
        r.2.mem ((c.tc : Thread nD τ).loc b) = finish A B I J K m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    pcs (noAdm pcs) (cells_inj pcs) defs₀ Variants.none noCell flat loops (noTicket pcs) m ρ main
    (segments A B I J K m hI hJ hK hA hB)
    (fun c Q => by
      rw [hmain c]
      show wp _ _ _ (Pipeline.chain ((segments A B I J K m hI hJ hK hA hB).map CSeg.prog)) Q ⊢ _
      rw [segments_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ debtFree c))
    (Tₙ := fun c => held (c : Thread nD τ) (ucRefs τ sig) (finish A B I J K m c))
    (hch := segments_chain A B I J K m hI hJ hK hA hB)
    (hinit := by
      refine Pipeline.initEach noCell flat fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = finish A B I J K m c b)
    (hfin := fun c s' => by
      unfold held
      iintro ⟨Hh, HSI⟩
      ihave Hr := (pointsTo_read_all (ucRefs τ sig) (fun b => ((c : Dev nD), b)) (finish A B I J K m c) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (noSem g.2))⟩)

end Cert.Proof.TwoLoops

end
-- ==== Proof.RefRun.lean ====
/-
  The reference's run: two counted loops of 64 trips each between stretches of host operations. What each stretch
  and each trip leaves alone, the loops' counters and their tests, and the run itself.
-/
module

public import proofs.«01_k».proof.Proof.RefStep
public import proofs.«01_k».proof.Proof.TwoLoops
public import Idealize.ShloMosaic.Lib.Scf.ExitTest
public import Idealize.ShloMosaic.Lib.Scf.Counter

@[expose] public section

noncomputable section

namespace Cert.Proof.Ref

open Cert.ReferenceIdeal Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Cert.Proof.TwoLoops

variable {F : FTy → Type} [FloatOps F]

set_option maxRecDepth 100000

/-- The operations of the first loop's test, -/
abbrev test0 : List (HloOp τ sig (Elt F)) :=
  [StableHlo.nullary main_while0c_c_25 (constantI S_ 32 64#32), StableHlo.binary main_v18_6 main_while0c_c_25 main_while0c_v45 (cmpi .slt)]
/-- and of the second one's. -/
abbrev test1 : List (HloOp τ sig (Elt F)) :=
  [StableHlo.nullary main_while1c_c_29 (constantI S_ 32 64#32), StableHlo.binary main_v31_8 main_while1c_c_29 main_while1c_v45 (cmpi .slt)]

/-- What the operations of the first stretch write, in order. -/
noncomputable def pre_W : List (Ref sig .tc) := [main_v0, main_v1, main_v2, main_v3, main_v4, main_v5, main_v6, main_v7, main_v8, main_v9, main_v10, main_v11, main_v12, main_cst, main_v13, main_cst_0, main_v14, main_cst_1, main_v15, main_cst_2, main_v16, main_cst_3, main_v17, main_c, main_v18_0, main_v18_1, main_v18_2, main_v18_3, main_v18_4, main_v18_5, main_v18_6, main_v18_7, main_v18_8, main_v18_9, main_v18_10, main_v18_11]

theorem pre_writes : (List.flatten [hostOps0] : List (HloOp τ sig (Elt F))).Forall fun op => op.writes ⊆ (pre_W.map (Proc.devRef (τ := τ) .tc)).toFinset :=
  StableHlo.forall_writes_sub_of_map rfl

/-- The other buffers they leave alone. -/
theorem pre_keep (V : Valuation τ sig (Elt F)) (r : Ref sig .tc) (h : r ∉ pre_W) : afterL [hostOps0] V (Proc.devRef .tc r) = V (Proc.devRef .tc r) := by
  rw [afterL_eq_after_flatten]; exact after_of_writes_sub _ V pre_writes h

/-- What the operations of the stretch between the loops write, in order. -/
noncomputable def mid_W : List (Ref sig .tc) := [main_v19, main_v20, main_cst_4, main_v21, main_v22, main_v23, main_cst_5, main_v24, main_cst_6, main_v25, main_cst_7, main_v26, main_cst_8, main_v27, main_cst_9, main_v28, main_cst_10, main_v29, main_cst_11, main_v30, main_c_12, main_v31_0, main_v31_1, main_v31_2, main_v31_3, main_v31_4, main_v31_5, main_v31_6, main_v31_7, main_v31_8, main_v31_9, main_v31_10, main_v31_11, main_v31_12, main_v31_13, main_v31_14, main_v31_15]

theorem mid_writes : (List.flatten [hostOps0_1] : List (HloOp τ sig (Elt F))).Forall fun op => op.writes ⊆ (mid_W.map (Proc.devRef (τ := τ) .tc)).toFinset :=
  StableHlo.forall_writes_sub_of_map rfl

/-- The other buffers they leave alone. -/
theorem mid_keep (V : Valuation τ sig (Elt F)) (r : Ref sig .tc) (h : r ∉ mid_W) : afterL [hostOps0_1] V (Proc.devRef .tc r) = V (Proc.devRef .tc r) := by
  rw [afterL_eq_after_flatten]; exact after_of_writes_sub _ V mid_writes h

/-- What the operations of the last stretch write, in order. -/
noncomputable def post_W : List (Ref sig .tc) := [main_v32, main_v33, main_v34, main_v35, main_v36, main_v37, main_v38, main_cst_13, main_v39, main_v40, main_v41, main_v42, main_v43, main_v44]

theorem post_writes : (List.flatten [hostOps0_2] : List (HloOp τ sig (Elt F))).Forall fun op => op.writes ⊆ (post_W.map (Proc.devRef (τ := τ) .tc)).toFinset :=
  StableHlo.forall_writes_sub_of_map rfl

/-- The other buffers they leave alone. -/
theorem post_keep (V : Valuation τ sig (Elt F)) (r : Ref sig .tc) (h : r ∉ post_W) : afterL [hostOps0_2] V (Proc.devRef .tc r) = V (Proc.devRef .tc r) := by
  rw [afterL_eq_after_flatten]; exact after_of_writes_sub _ V post_writes h

/-- What the operations of the first loop's body write, in order. -/
noncomputable def body0_W : List (Ref sig .tc) := [main_while0b_call0_c, main_while0b_call0_c_0, main_while0b_call0_c_1, main_while0b_call0_v0, main_while0b_v45, main_while0b_call1_c, main_while0b_call1_c_0, main_while0b_call1_c_1, main_while0b_call1_v0, main_while0b_v46, main_while0b_call2_c, main_while0b_call2_c_0, main_while0b_call2_c_1, main_while0b_call2_v0, main_while0b_v47, main_while0b_call3_c, main_while0b_call3_c_0, main_while0b_call3_c_1, main_while0b_call3_v0, main_while0b_v48, main_while0b_call4_c, main_while0b_call4_c_0, main_while0b_call4_c_1, main_while0b_call4_v0, main_while0b_v49, main_while0b_call5_c, main_while0b_call5_v0, main_while0b_v50, main_while0b_v51, main_while0b_v52, main_while0b_v53, main_while0b_v54, main_while0b_v55, main_while0b_v56, main_while0b_v57, main_while0b_v58, main_while0b_v59, main_while0b_v60, main_while0b_call6_v0, main_while0b_call6_c, main_while0b_call6_c_0, main_while0b_call6_c_1, main_while0b_v61, main_while0b_call7_v0, main_while0b_call7_c, main_while0b_call7_c_0, main_while0b_call7_c_1, main_while0b_v62, main_while0b_call8_v0, main_while0b_call8_c, main_while0b_call8_c_0, main_while0b_call8_c_1, main_while0b_v63, main_while0b_call9_v0, main_while0b_call9_c, main_while0b_call9_c_0, main_while0b_call9_c_1, main_while0b_v64, main_while0b_c_25, main_while0b_v65, main_v18_6, main_v18_7, main_v18_8, main_v18_9, main_v18_10, main_v18_11]

theorem body0_writes : (List.flatten body0 : List (HloOp τ sig (Elt F))).Forall fun op => op.writes ⊆ (body0_W.map (Proc.devRef (τ := τ) .tc)).toFinset :=
  StableHlo.forall_writes_sub_of_map rfl

/-- The other buffers they leave alone. -/
theorem body0_keep (V : Valuation τ sig (Elt F)) (r : Ref sig .tc) (h : r ∉ body0_W) : afterL body0 V (Proc.devRef .tc r) = V (Proc.devRef .tc r) := by
  rw [afterL_eq_after_flatten]; exact after_of_writes_sub _ V body0_writes h

/-- What the operations of the second loop's body write, in order. -/
noncomputable def body1_W : List (Ref sig .tc) := [main_while1b_c_29, main_while1b_v45, main_while1b_c_30, main_while1b_v46, main_while1b_call10_c, main_while1b_call10_c_0, main_while1b_call10_c_1, main_while1b_call10_v0, main_while1b_v47, main_while1b_call11_c, main_while1b_call11_c_0, main_while1b_call11_c_1, main_while1b_call11_v0, main_while1b_v48, main_while1b_call12_c, main_while1b_call12_c_0, main_while1b_call12_c_1, main_while1b_call12_v0, main_while1b_v49, main_while1b_call13_c, main_while1b_call13_c_0, main_while1b_call13_c_1, main_while1b_call13_v0, main_while1b_v50, main_while1b_call14_c, main_while1b_call14_c_0, main_while1b_call14_c_1, main_while1b_call14_v0, main_while1b_v51, main_while1b_call15_c, main_while1b_call15_c_0, main_while1b_call15_c_1, main_while1b_call15_v0, main_while1b_v52, main_while1b_call16_c, main_while1b_call16_c_0, main_while1b_call16_c_1, main_while1b_call16_v0, main_while1b_v53, main_while1b_call17_c, main_while1b_call17_c_0, main_while1b_call17_c_1, main_while1b_call17_v0, main_while1b_v54, main_while1b_v55, main_while1b_v56, main_while1b_v57, main_while1b_v58, main_while1b_v59, main_while1b_cst_31, main_while1b_v60, main_while1b_v61, main_while1b_v62, main_while1b_v63, main_while1b_cst_32, main_while1b_v64, main_while1b_v65, main_while1b_v66, main_while1b_v67, main_while1b_v68, main_while1b_v69, main_while1b_v70, main_while1b_v71, main_while1b_v72, main_while1b_v73, main_while1b_v74, main_while1b_v75, main_while1b_v76, main_while1b_v77, main_while1b_call18_v0, main_while1b_call18_c, main_while1b_call18_c_0, main_while1b_call18_c_1, main_while1b_v78, main_while1b_call19_v0, main_while1b_call19_c, main_while1b_call19_c_0, main_while1b_call19_c_1, main_while1b_v79, main_while1b_call20_v0, main_while1b_call20_c, main_while1b_call20_c_0, main_while1b_call20_c_1, main_while1b_v80, main_while1b_call21_v0, main_while1b_call21_c, main_while1b_call21_c_0, main_while1b_call21_c_1, main_while1b_v81, main_while1b_call22_v0, main_while1b_call22_c, main_while1b_call22_c_0, main_while1b_call22_c_1, main_while1b_v82, main_while1b_call23_v0, main_while1b_call23_c, main_while1b_v83, main_while1b_c_33, main_while1b_v84, main_v31_8, main_v31_9, main_v31_10, main_v31_11, main_v31_12, main_v31_13, main_v31_14, main_v31_15]

theorem body1_writes : (List.flatten body1 : List (HloOp τ sig (Elt F))).Forall fun op => op.writes ⊆ (body1_W.map (Proc.devRef (τ := τ) .tc)).toFinset :=
  StableHlo.forall_writes_sub_of_map rfl

/-- The other buffers they leave alone. -/
theorem body1_keep (V : Valuation τ sig (Elt F)) (r : Ref sig .tc) (h : r ∉ body1_W) : afterL body1 V (Proc.devRef .tc r) = V (Proc.devRef .tc r) := by
  rw [afterL_eq_after_flatten]; exact after_of_writes_sub _ V body1_writes h

/-- The test leaves every other buffer alone. -/
theorem test0_keep (V : Valuation τ sig (Elt F)) (r : Ref sig .tc) (h : r ∉ [main_while0c_c_25, main_while0c_v45]) :
    after test0 V (Proc.devRef .tc r) = V (Proc.devRef .tc r) :=
  after_of_writes_sub test0 V (StableHlo.forall_writes_sub_of_map rfl) h

variable (W : Dev nD → Valuation τ sig (Elt F))

/-- The buffers before trip `k` of loop 0, entered at `W`. -/
abbrev at0 (k : ℕ) (c : Dev nD) : Valuation τ sig (Elt F) := atTrip test0 body0 W k c

theorem at0_zero (c : Dev nD) : at0 W 0 c = W c := rfl
theorem at0_succ (k : ℕ) (c : Dev nD) : at0 W (k + 1) c = afterL body0 (after test0 (at0 W k c)) := rfl

/-- A buffer that neither the test nor the body writes is as it was. -/
theorem at0_keep (c : Dev nD) (r : Ref sig .tc) (h : r ∉ body0_W) (h' : r ∉ [main_while0c_c_25, main_while0c_v45]) :
    ∀ k, at0 W k c (Proc.devRef .tc r) = W c (Proc.devRef .tc r)
  | 0 => rfl
  | k + 1 => by rw [at0_succ, body0_keep _ r h, test0_keep _ r h', at0_keep c r h h' k]

/-- The counter counts. -/
theorem at0_ctr (h₀ : ∀ c, W c (Proc.devRef .tc main_v18_6) = fun _ => (0#32 : BitVec 32)) (c : Dev nD) :
    ∀ k, at0 W k c (Proc.devRef .tc main_v18_6) = fun _ => Scf.iv 0#32 1#32 k
  | 0 => by rw [at0_zero, h₀, Scf.iv_zero]
  | k + 1 => by
    rw [at0_succ, trip0_ctr, test0_keep _ _ (by decide), at0_ctr h₀ c k, Scf.iv_succ]; rfl

set_option backward.isDefEq.respectTransparency.types false in
/-- The test says whether a trip is left. -/
theorem cond0_spec (h₀ : ∀ c, W c (Proc.devRef .tc main_v18_6) = fun _ => (0#32 : BitVec 32)) :
    CondSpec (pcfgs (F := F)) defs₀ loops (main_while0_cond (F := F)) test0 body0 W 64 := by
  intro k hk c bd
  have hctr := at0_ctr W h₀ c k
  unfold main_while0_cond
  rw [wp_bind]
  iintro ⟨Hb, Hh⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 W k c) (Proc.devRef .tc main_v18_6) HostLoop.idx0)
      (HloOp.result _ (at0 W k c) (Proc.devRef .tc main_while0c_c_25) HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

/-- The test leaves every other buffer alone. -/
theorem test1_keep (V : Valuation τ sig (Elt F)) (r : Ref sig .tc) (h : r ∉ [main_while1c_c_29, main_while1c_v45]) :
    after test1 V (Proc.devRef .tc r) = V (Proc.devRef .tc r) :=
  after_of_writes_sub test1 V (StableHlo.forall_writes_sub_of_map rfl) h

variable (W : Dev nD → Valuation τ sig (Elt F))

/-- The buffers before trip `k` of loop 1, entered at `W`. -/
abbrev at1 (k : ℕ) (c : Dev nD) : Valuation τ sig (Elt F) := atTrip test1 body1 W k c

theorem at1_zero (c : Dev nD) : at1 W 0 c = W c := rfl
theorem at1_succ (k : ℕ) (c : Dev nD) : at1 W (k + 1) c = afterL body1 (after test1 (at1 W k c)) := rfl

/-- A buffer that neither the test nor the body writes is as it was. -/
theorem at1_keep (c : Dev nD) (r : Ref sig .tc) (h : r ∉ body1_W) (h' : r ∉ [main_while1c_c_29, main_while1c_v45]) :
    ∀ k, at1 W k c (Proc.devRef .tc r) = W c (Proc.devRef .tc r)
  | 0 => rfl
  | k + 1 => by rw [at1_succ, body1_keep _ r h, test1_keep _ r h', at1_keep c r h h' k]

/-- The counter counts. -/
theorem at1_ctr (h₀ : ∀ c, W c (Proc.devRef .tc main_v31_8) = fun _ => (0#32 : BitVec 32)) (c : Dev nD) :
    ∀ k, at1 W k c (Proc.devRef .tc main_v31_8) = fun _ => Scf.iv 0#32 1#32 k
  | 0 => by rw [at1_zero, h₀, Scf.iv_zero]
  | k + 1 => by
    rw [at1_succ, trip1_ctr, test1_keep _ _ (by decide), at1_ctr h₀ c k, Scf.iv_succ]; rfl

set_option backward.isDefEq.respectTransparency.types false in
/-- The test says whether a trip is left. -/
theorem cond1_spec (h₀ : ∀ c, W c (Proc.devRef .tc main_v31_8) = fun _ => (0#32 : BitVec 32)) :
    CondSpec (pcfgs (F := F)) defs₀ loops (main_while1_cond (F := F)) test1 body1 W 64 := by
  intro k hk c bd
  have hctr := at1_ctr W h₀ c k
  unfold main_while1_cond
  rw [wp_bind]
  iintro ⟨Hb, Hh⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 W k c) (Proc.devRef .tc main_v31_8) HostLoop.idx0)
      (HloOp.result _ (at1 W k c) (Proc.devRef .tc main_while1c_c_29) HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

/-- The first loop, -/
def loopA : Counted (pcs := pcfgs (F := F)) (nD := nD) (τ := τ) (loops (F := F)) where
  l := 0
  cond := main_while0_cond
  body := main_while0_body
  hloops := rfl
  cOps := test0
  bI := body0
  plain := body0_plain
  hbody := by rw [while0_body_chain]; rfl
  n := 64

/-- and the second one. -/
def loopB : Counted (pcs := pcfgs (F := F)) (nD := nD) (τ := τ) (loops (F := F)) where
  l := 1
  cond := main_while1_cond
  body := main_while1_body
  hloops := rfl
  cOps := test1
  bI := body1
  plain := body1_plain
  hbody := by rw [while1_body_chain]; rfl
  n := 64

variable (m : (ℓ : Loc nD τ sig) → Buf (Elt F) ℓ)

/-- The buffers where the first loop starts, -/
def in0 (c : Dev nD) : Valuation τ sig (Elt F) := afterL [hostOps0] (launchContents m c)
/-- where the second one starts, -/
def in1 (c : Dev nD) : Valuation τ sig (Elt F) := afterL [hostOps0_1] (after test0 (at0 (in0 m) 64 c))
/-- and at the end. -/
def out (c : Dev nD) : Valuation τ sig (Elt F) := afterL [hostOps0_2] (after test1 (at1 (in1 m) 64 c))

theorem in0_ctr (c : Dev nD) : in0 m c (Proc.devRef .tc main_v18_6) = fun _ => (0#32 : BitVec 32) := by
  simp only [in0, afterL_cons, afterL_nil]
  after_reads_simp
  rfl

theorem in1_ctr (c : Dev nD) : in1 m c (Proc.devRef .tc main_v31_8) = fun _ => (0#32 : BitVec 32) := by
  simp only [in1, afterL_cons, afterL_nil]
  generalize after test0 (at0 (in0 m) 64 c) = V
  after_reads_simp
  rfl

/-- THE RUN: every execution ends with each buffer at `out`, every counter at zero. -/
theorem run_out (ρ : Dev nD → PrngReg) :
    θ_run (defs (F := F)) (onTc (τ := τ) (main (F := F))) ⟨m, fun _ => 0, ρ⟩
      (fun r => (∀ (c : Dev nD) (b : Ref sig .tc), (Proc.devRef .tc b : DevRef τ sig).isScoped = false →
        r.2.mem ((c.tc : Thread nD τ).loc b) = out m c (Proc.devRef .tc b)) ∧ r.2.sem = fun _ => 0) :=
  TwoLoops.run (defs₀ := defs₀) loopA loopB [hostOps0] [hostOps0_1] [hostOps0_2] m pre_plain mid_plain post_plain
    (cond0_spec (in0 m) (in0_ctr m)) (cond1_spec (in1 m) (in1_ctr m)) (by decide) main
    (fun c => by rw [main_chain]; rfl) ρ

/-- A buffer that nothing writes ends as it was launched. -/
theorem out_keep (c : Dev nD) (r : Ref sig .tc) (h : r ∉ pre_W ++ (body0_W ++ (mid_W ++ (body1_W ++ (post_W ++
    ([main_while0c_c_25, main_while0c_v45] ++ [main_while1c_c_29, main_while1c_v45])))))) :
    out m c (Proc.devRef .tc r) = m ((c.tc : Thread nD τ).loc r) := by
  simp only [List.mem_append, not_or] at h
  obtain ⟨h1, h2, h3, h4, h5, h6, h7⟩ := h
  rw [out, post_keep _ r h5, test1_keep _ r h7, at1_keep _ c r h4 h7, in1, mid_keep _ r h3, test0_keep _ r h6, at0_keep _ c r h2 h6,
    in0, pre_keep _ r h1]

end Cert.Proof.Ref

end
-- ==== Proof.RefMembers.lean ====
/-
  The reference's stacked arrays, member by member: at an index that stands for `n`, a slab is member `n` of its stack, and a
  stack with a slab put back there has that slab for its member `n` and its old members elsewhere.
-/
module

public import proofs.«01_k».proof.Proof.RefStep
public import Idealize.ShloMosaic.Lib.Pointwise
public import Idealize.ShloMosaic.Lib.WordCmp

@[expose] public section

noncomputable section

namespace Cert.Proof.Ref

open Cert.ReferenceIdeal Cert.ReferenceIdeal.Gen
open Idealize.ShloMosaic Idealize.ShloMosaic.TcCoe Idealize.ShloMosaic.StableHlo Idealize.ShloMosaic.WordCmp
open Idealize.SL Idealize.SL.RA

variable {F : FTy → Type} [FloatOps F] {α : Type}

set_option maxRecDepth 16384

/-- The index buffer that stands for member `n`. -/
def at' (n : Fin 64) : Ixv F := fun _ => BitVec.ofNat 32 n.val

/-- Member `n` of a stack of rank four. -/
def member {a b c : ℕ} (x : (⟨4, ![64, a, b, c]⟩ : Shape).Idx → α) (n : Fin 64) : (⟨3, ![a, b, c]⟩ : Shape).Idx → α :=
  fun i => x (ix4 n (i 0) (i 1) (i 2))

/-- Row `n` of a matrix of decays. -/
def rowD (x : S64x6.Idx → α) (n : Fin 64) : S6.Idx → α := fun i => x (ix2 n (i 0))

theorem word_toInt : ∀ n : Fin 64, (BitVec.ofNat 32 n.val).toInt = (n.val : Int) := by decide +kernel

theorem start4_at (n : Fin 64) (a : Fin 4) : start4 (F := F) (at' n) a = ((![n.val, 0, 0, 0] : Fin 4 → ℕ) a : Int) := by
  match a with
  | ⟨0, _⟩ => exact word_toInt n
  | ⟨1, _⟩ => rfl
  | ⟨2, _⟩ => rfl
  | ⟨3, _⟩ => rfl

theorem start2_at (n : Fin 64) (a : Fin 2) : start2 (F := F) (at' n) a = ((![n.val, 0] : Fin 2 → ℕ) a : Int) := by
  match a with
  | ⟨0, _⟩ => exact word_toInt n
  | ⟨1, _⟩ => rfl

theorem slices4 {a b c : ℕ} (n : Fin 64) : (⟨4, ![64, a, b, c]⟩ : Shape).Slices ![n.val, 0, 0, 0] ⟨4, ![1, a, b, c]⟩ := by
  refine ⟨rfl, fun k => ?_⟩
  match k with
  | ⟨0, _⟩ => have := n.isLt; show n.val + 1 ≤ 64; omega
  | ⟨1, _⟩ => show 0 + a ≤ a; omega
  | ⟨2, _⟩ => show 0 + b ≤ b; omega
  | ⟨3, _⟩ => show 0 + c ≤ c; omega

/-- Member `n` cut out of a stack, as a stack of one. -/
theorem dynamicSlice_at {a b c : ℕ} (x : (⟨4, ![64, a, b, c]⟩ : Shape).Idx → α) (n : Fin 64) (h) (k : (⟨4, ![1, a, b, c]⟩ : Shape).Idx) :
    Host.dynamicSlice ⟨4, ![1, a, b, c]⟩ x (start4 (F := F) (at' n)) h k = x (ix4 n (k 1) (k 2) (k 3)) := by
  rw [dynamicSlice_eq_extract _ x _ h _ (slices4 n) (start4_at n)]
  refine extractStridedSlice_apply _ x _ k _ fun q => ?_
  match q with
  | ⟨0, _⟩ => have : (k 0).val < 1 := (k 0).isLt; show n.val = n.val + (k 0).val; omega
  | ⟨1, _⟩ => exact (Nat.zero_add _).symm
  | ⟨2, _⟩ => exact (Nat.zero_add _).symm
  | ⟨3, _⟩ => exact (Nat.zero_add _).symm

/-- A stack of one put into a stack at `n`. -/
theorem dynamicUpdateSlice_at {a b c : ℕ} (x : (⟨4, ![64, a, b, c]⟩ : Shape).Idx → α) (v : (⟨4, ![1, a, b, c]⟩ : Shape).Idx → α)
    (n k : Fin 64) (h) (i : (⟨3, ![a, b, c]⟩ : Shape).Idx) :
    member (Host.dynamicUpdateSlice x v (start4 (F := F) (at' n)) h) k i
      = if k = n then v (ix4 0 (i 0) (i 1) (i 2)) else member x k i := by
  rw [dynamicUpdateSlice_eq_update x v _ h _ (slices4 n) (start4_at n)]
  unfold member updateSlice
  have i0 : (i 0).val < a := (i 0).isLt
  have i1 : (i 1).val < b := (i 1).isLt
  have i2 : (i 2).val < c := (i 2).isLt
  by_cases e : k = n
  · subst e
    rw [dif_pos, if_pos rfl]
    · refine congrArg v (funext fun q => Fin.ext ?_)
      match q with
      | ⟨0, _⟩ => show k.val - k.val = 0; omega
      | ⟨1, _⟩ => exact Nat.sub_zero _
      | ⟨2, _⟩ => exact Nat.sub_zero _
      | ⟨3, _⟩ => exact Nat.sub_zero _
    · intro q
      match q with
      | ⟨0, _⟩ => show k.val ≤ k.val ∧ k.val < k.val + 1; omega
      | ⟨1, _⟩ => show 0 ≤ (i 0).val ∧ (i 0).val < 0 + a; omega
      | ⟨2, _⟩ => show 0 ≤ (i 1).val ∧ (i 1).val < 0 + b; omega
      | ⟨3, _⟩ => show 0 ≤ (i 2).val ∧ (i 2).val < 0 + c; omega
  · rw [dif_neg, if_neg e]
    intro hq
    have : n.val ≤ k.val ∧ k.val < n.val + 1 := hq 0
    exact e (Fin.ext (by omega))

theorem slices2 (n : Fin 64) : S64x6.Slices ![n.val, 0] S1x6 := by
  refine ⟨rfl, fun k => ?_⟩
  match k with
  | ⟨0, _⟩ => have := n.isLt; show n.val + 1 ≤ 64; omega
  | ⟨1, _⟩ => show 0 + 6 ≤ 6; omega

theorem dynamicSlice2_at (x : S64x6.Idx → α) (n : Fin 64) (h) (k : S1x6.Idx) :
    Host.dynamicSlice S1x6 x (start2 (F := F) (at' n)) h k = x (ix2 n (k 1)) := by
  rw [dynamicSlice_eq_extract _ x _ h _ (slices2 n) (start2_at n)]
  refine extractStridedSlice_apply _ x _ k _ fun q => ?_
  match q with
  | ⟨0, _⟩ => have : (k 0).val < 1 := (k 0).isLt; show n.val = n.val + (k 0).val; omega
  | ⟨1, _⟩ => exact (Nat.zero_add _).symm

theorem dynamicUpdateSlice2_at (x : S64x6.Idx → α) (v : S1x6.Idx → α) (n k : Fin 64) (h) (i : S6.Idx) :
    rowD (Host.dynamicUpdateSlice x v (start2 (F := F) (at' n)) h) k i = if k = n then v (ix2 0 (i 0)) else rowD x k i := by
  rw [dynamicUpdateSlice_eq_update x v _ h _ (slices2 n) (start2_at n)]
  unfold rowD updateSlice
  have i0 : (i 0).val < 6 := (i 0).isLt
  by_cases e : k = n
  · subst e
    rw [dif_pos, if_pos rfl]
    · refine congrArg v (funext fun q => Fin.ext ?_)
      match q with
      | ⟨0, _⟩ => show k.val - k.val = 0; omega
      | ⟨1, _⟩ => exact Nat.sub_zero _
    · intro q
      match q with
      | ⟨0, _⟩ => show k.val ≤ k.val ∧ k.val < k.val + 1; omega
      | ⟨1, _⟩ => show 0 ≤ (i 0).val ∧ (i 0).val < 0 + 6; omega
  · rw [dif_neg, if_neg e]
    intro hq
    have : n.val ≤ k.val ∧ k.val < n.val + 1 := hq 0
    exact e (Fin.ext (by omega))

theorem slabC_at (x : FVec F S64x6x64x128 .f32) (n : Fin 64) : slabC x (at' n) = member x n := by
  funext i
  unfold slabC
  have e : i = ix3 (i 0) (i 1) (i 2) := by
    funext q
    match q with
    | ⟨0, _⟩ => rfl
    | ⟨1, _⟩ => rfl
    | ⟨2, _⟩ => rfl
  have e2 : ∀ y : S1x6x64x128.Idx → F .f32, shapeCast S6x64x128 y shapeCasts_S1x6x64x128_S6x64x128 (ix3 (i 0) (i 1) (i 2)) = y (ix4 0 (i 0) (i 1) (i 2)) := by
    intro y
    pointwise
  rw [e]
  exact (e2 _).trans (dynamicSlice_at x n _ _)

theorem putC_at (x : FVec F S64x6x64x128 .f32) (v : FVec F S6x64x128 .f32) (n k : Fin 64) :
    member (putC x v (at' n)) k = if k = n then v else member x k := by
  funext i
  unfold putC
  rw [dynamicUpdateSlice_at]
  have e : broadcastInDim S1x6x64x128 ![1, 2, 3] bcast_S6x64x128_S1x6x64x128_1_2_3 v (ix4 0 (i 0) (i 1) (i 2)) = v i := by
    rw [show v i = v (ix3 (i 0) (i 1) (i 2)) from congrArg v (by
      funext q
      match q with
      | ⟨0, _⟩ => rfl
      | ⟨1, _⟩ => rfl
      | ⟨2, _⟩ => rfl)]
    pointwise
  rw [e]
  by_cases hk : k = n
  · rw [if_pos hk, if_pos hk]
  · rw [if_neg hk, if_neg hk]

theorem slabA_at (x : FVec F S64x6x64x64 .f32) (n : Fin 64) : slabA x (at' n) = member x n := by
  funext i
  unfold slabA
  have e : i = ix3 (i 0) (i 1) (i 2) := by
    funext q
    match q with
    | ⟨0, _⟩ => rfl
    | ⟨1, _⟩ => rfl
    | ⟨2, _⟩ => rfl
  have e2 : ∀ y : S1x6x64x64.Idx → F .f32, shapeCast S6x64x64 y shapeCasts_S1x6x64x64_S6x64x64 (ix3 (i 0) (i 1) (i 2)) = y (ix4 0 (i 0) (i 1) (i 2)) := by
    intro y
    pointwise
  rw [e]
  exact (e2 _).trans (dynamicSlice_at x n _ _)

theorem putA_at (x : FVec F S64x6x64x64 .f32) (v : FVec F S6x64x64 .f32) (n k : Fin 64) :
    member (putA x v (at' n)) k = if k = n then v else member x k := by
  funext i
  unfold putA
  rw [dynamicUpdateSlice_at]
  have e : broadcastInDim S1x6x64x64 ![1, 2, 3] bcast_S6x64x64_S1x6x64x64_1_2_3 v (ix4 0 (i 0) (i 1) (i 2)) = v i := by
    rw [show v i = v (ix3 (i 0) (i 1) (i 2)) from congrArg v (by
      funext q
      match q with
      | ⟨0, _⟩ => rfl
      | ⟨1, _⟩ => rfl
      | ⟨2, _⟩ => rfl)]
    pointwise
  rw [e]
  by_cases hk : k = n
  · rw [if_pos hk, if_pos hk]
  · rw [if_neg hk, if_neg hk]

theorem slabS_at (x : FVec F S64x6x128x128 .f32) (n : Fin 64) : slabS x (at' n) = member x n := by
  funext i
  unfold slabS
  have e : i = ix3 (i 0) (i 1) (i 2) := by
    funext q
    match q with
    | ⟨0, _⟩ => rfl
    | ⟨1, _⟩ => rfl
    | ⟨2, _⟩ => rfl
  have e2 : ∀ y : S1x6x128x128.Idx → F .f32, shapeCast S6x128x128 y shapeCasts_S1x6x128x128_S6x128x128 (ix3 (i 0) (i 1) (i 2)) = y (ix4 0 (i 0) (i 1) (i 2)) := by
    intro y
    pointwise
  rw [e]
  exact (e2 _).trans (dynamicSlice_at x n _ _)

theorem putS_at (x : FVec F S64x6x128x128 .f32) (v : FVec F S6x128x128 .f32) (n k : Fin 64) :
    member (putS x v (at' n)) k = if k = n then v else member x k := by
  funext i
  unfold putS
  rw [dynamicUpdateSlice_at]
  have e : broadcastInDim S1x6x128x128 ![1, 2, 3] bcast_S6x128x128_S1x6x128x128_1_2_3 v (ix4 0 (i 0) (i 1) (i 2)) = v i := by
    rw [show v i = v (ix3 (i 0) (i 1) (i 2)) from congrArg v (by
      funext q
      match q with
      | ⟨0, _⟩ => rfl
      | ⟨1, _⟩ => rfl
      | ⟨2, _⟩ => rfl)]
    pointwise
  rw [e]
  by_cases hk : k = n
  · rw [if_pos hk, if_pos hk]
  · rw [if_neg hk, if_neg hk]

theorem slabE_at (x : FVec F S64x6x1x1 .f32) (n : Fin 64) : slabE x (at' n) = member x n := by
  funext i
  unfold slabE
  have e : i = ix3 (i 0) (i 1) (i 2) := by
    funext q
    match q with
    | ⟨0, _⟩ => rfl
    | ⟨1, _⟩ => rfl
    | ⟨2, _⟩ => rfl
  have e2 : ∀ y : S1x6x1x1.Idx → F .f32, shapeCast S6x1x1 y shapeCasts_S1x6x1x1_S6x1x1 (ix3 (i 0) (i 1) (i 2)) = y (ix4 0 (i 0) (i 1) (i 2)) := by
    intro y
    pointwise
    refine congrArg y (funext fun q => ?_)
    match q with
    | ⟨0, _⟩ => rfl
    | ⟨1, _⟩ => rfl
    | ⟨2, _⟩ => exact Subsingleton.elim (α := Fin 1) _ _
    | ⟨3, _⟩ => exact Subsingleton.elim (α := Fin 1) _ _
  rw [e]
  exact (e2 _).trans (dynamicSlice_at x n _ _)

theorem putE_at (x : FVec F S64x6x1x1 .f32) (v : FVec F S6x1x1 .f32) (n k : Fin 64) :
    member (putE x v (at' n)) k = if k = n then v else member x k := by
  funext i
  unfold putE
  rw [dynamicUpdateSlice_at]
  have e : broadcastInDim S1x6x1x1 ![1, 2, 3] bcast_S6x1x1_S1x6x1x1_1_2_3 v (ix4 0 (i 0) (i 1) (i 2)) = v i := by
    rw [show v i = v (ix3 (i 0) (i 1) (i 2)) from congrArg v (by
      funext q
      match q with
      | ⟨0, _⟩ => rfl
      | ⟨1, _⟩ => rfl
      | ⟨2, _⟩ => rfl)]
    pointwise
    refine congrArg v (funext fun q => ?_)
    match q with
    | ⟨0, _⟩ => rfl
    | ⟨1, _⟩ => exact Subsingleton.elim (α := Fin 1) _ _
    | ⟨2, _⟩ => exact Subsingleton.elim (α := Fin 1) _ _
  rw [e]
  by_cases hk : k = n
  · rw [if_pos hk, if_pos hk]
  · rw [if_neg hk, if_neg hk]

/-- One number per head, as an array to broadcast. -/
def perHead (v : S6.Idx → α) : S6x1x1.Idx → α := fun i => v (ix1 (i 0))

theorem slabD_at (x : FVec F S64x6 .f32) (n : Fin 64) : slabD x (at' n) = perHead (rowD x n) := by
  funext i
  unfold slabD perHead rowD
  have e : i = ix3 (i 0) (i 1) (i 2) := by
    funext q
    match q with
    | ⟨0, _⟩ => rfl
    | ⟨1, _⟩ => rfl
    | ⟨2, _⟩ => rfl
  rw [e]
  have e2 : ∀ y : S1x6.Idx → F .f32, broadcastInDim S6x1x1 ![0] bcast_S6_S6x1x1_0 (shapeCast S6 y shapeCasts_S1x6_S6) (ix3 (i 0) (i 1) (i 2)) = y (ix2 0 (i 0)) := by
    intro y
    pointwise
  exact (e2 _).trans (dynamicSlice2_at x n _ _)

theorem putD_at (x : FVec F S64x6 .f32) (v : FVec F S6 .f32) (n k : Fin 64) :
    rowD (putD x v (at' n)) k = if k = n then v else rowD x k := by
  funext i
  unfold putD
  rw [dynamicUpdateSlice2_at]
  have e : broadcastInDim S1x6 ![1] bcast_S6_S1x6_1 v (ix2 0 (i 0)) = v i := by
    rw [show v i = v (ix1 (i 0)) from congrArg v (by
      funext q
      match q with
      | ⟨0, _⟩ => rfl)]
    pointwise
  rw [e]
  by_cases hk : k = n
  · rw [if_pos hk, if_pos hk]
  · rw [if_neg hk, if_neg hk]

/-- The forward loop's counter before trip `n` stands for member `n`, -/
theorem ctr_at : ∀ n : Fin 64, Scf.iv 0#32 1#32 n.val = BitVec.ofNat 32 n.val := by decide +kernel

/-- and the backward loop's for the member counted from the last. -/
theorem back_at (n : Fin 64) : back (F := F) (fun _ => Scf.iv 0#32 1#32 n.val) = at' ⟨63 - n.val, by omega⟩ := by
  have h : ∀ n : Fin 64, (64#32 - Scf.iv 0#32 1#32 n.val) - 1#32 = BitVec.ofNat 32 (63 - n.val) := by decide +kernel
  funext _
  exact h n

end Cert.Proof.Ref
-- ==== Proof.RefLoops.lean ====
/-
  What the reference's two loops compute: the forward one steps the state through the chunks from the first to the last and
  saves what it met at each; the backward one steps the state's gradient from the last chunk to the first and leaves at each
  chunk the gradients of that chunk's arrays.
-/
module

public import proofs.«01_k».proof.Proof.RefRun
public import proofs.«01_k».proof.Proof.RefMembers

@[expose] public section

noncomputable section

namespace Cert.Proof.Ref

open Cert.ReferenceIdeal Cert.ReferenceIdeal.Gen
open Idealize.ShloMosaic Idealize.ShloMosaic.TcCoe Idealize.ShloMosaic.StableHlo
open Idealize.SL Idealize.SL.RA

variable {F : FTy → Type} [FloatOps F]

set_option maxRecDepth 16384

/-- The state before chunk `n`: from `z`, one forward step for every chunk before it. -/
def stateAt (z : FVec F S6x128x128 .f32) (dc : Fin 64 → FVec F S6x1x1 .f32) (kt u w : Fin 64 → FVec F S6x64x128 .f32) :
    ℕ → FVec F S6x128x128 .f32
  | 0 => z
  | n + 1 =>
    let i : Fin 64 := ⟨n % 64, Nat.mod_lt _ (by decide)⟩
    fwdNext (stateAt z dc kt u w n) (dc i) (kt i) (fwdNew (stateAt z dc kt u w n) (u i) (w i))

theorem stateAt_succ (z : FVec F S6x128x128 .f32) (dc : Fin 64 → FVec F S6x1x1 .f32) (kt u w : Fin 64 → FVec F S6x64x128 .f32)
    (n : Fin 64) : stateAt z dc kt u w (n.val + 1)
      = fwdNext (stateAt z dc kt u w n.val) (dc n) (kt n) (fwdNew (stateAt z dc kt u w n.val) (u n) (w n)) := by
  have e : (⟨n.val % 64, Nat.mod_lt _ (by decide)⟩ : Fin 64) = n := Fin.ext (Nat.mod_eq_of_lt n.isLt)
  rw [stateAt]
  simp only [e]

/-- The chunk of the backward loop's trip `t`. -/
def rev (t : ℕ) : Fin 64 := ⟨63 - t, by omega⟩

/-- The gradient of the state after chunk `63 - t`: from `z`, one backward step for every chunk after it. -/
def gradAt (z : FVec F S6x128x128 .f32) (dc : Fin 64 → FVec F S6x1x1 .f32) (o kt qd w : Fin 64 → FVec F S6x64x128 .f32)
    (a : Fin 64 → FVec F S6x64x64 .f32) : ℕ → FVec F S6x128x128 .f32
  | 0 => z
  | t + 1 => bwdNext (gradAt z dc o kt qd w a t) (dc (rev t)) (o (rev t)) (qd (rev t))
      (Host.negf (bwdU (gradAt z dc o kt qd w a t) (o (rev t)) (a (rev t)) (kt (rev t)))) (w (rev t))

variable (W : Dev nD → Valuation τ sig (Elt F)) (c : Dev nD)

/-- The forward loop's chunks: decays, keys, inputs, weights. -/
abbrev dc0 (n : Fin 64) : FVec F S6x1x1 .f32 := perHead (rowD (W c (Proc.devRef .tc main_v18_5)) n)
abbrev kt0 (n : Fin 64) : FVec F S6x64x128 .f32 := member (a := 6) (b := 64) (c := 128) (W c (Proc.devRef .tc main_v18_1)) n
abbrev u0 (n : Fin 64) : FVec F S6x64x128 .f32 := member (a := 6) (b := 64) (c := 128) (W c (Proc.devRef .tc main_v18_2)) n
abbrev w0 (n : Fin 64) : FVec F S6x64x128 .f32 := member (a := 6) (b := 64) (c := 128) (W c (Proc.devRef .tc main_v18_3)) n
/-- The forward loop's state before chunk `n`. -/
abbrev S0 (n : ℕ) : FVec F S6x128x128 .f32 :=
  stateAt (W c (Proc.devRef .tc main_v18_7)) (dc0 W c) (kt0 W c) (u0 W c) (w0 W c) n

/-- After `k` trips of the forward loop its state is the state before chunk `k`, and for every chunk before that it has saved
    the state, the corrected values and the decays. -/
theorem loop0 (h₀ : ∀ c, W c (Proc.devRef .tc main_v18_6) = fun _ => (0#32 : BitVec 32)) : ∀ k ≤ 64,
    at0 W k c (Proc.devRef .tc main_v18_7) = S0 W c k
    ∧ ∀ n : Fin 64, n.val < k →
        member (a := 6) (b := 128) (c := 128) (at0 W k c (Proc.devRef .tc main_v18_9)) n = S0 W c n.val
        ∧ member (a := 6) (b := 64) (c := 128) (at0 W k c (Proc.devRef .tc main_v18_10)) n = fwdNew (S0 W c n.val) (u0 W c n) (w0 W c n)
        ∧ member (a := 6) (b := 1) (c := 1) (at0 W k c (Proc.devRef .tc main_v18_11)) n = dc0 W c n
  | 0, _ => ⟨rfl, fun n h => absurd h (Nat.not_lt_zero _)⟩
  | k + 1, hk => by
    obtain ⟨ih, ih'⟩ := loop0 h₀ k (Nat.le_of_succ_le hk)
    have hctr : at0 W k c (Proc.devRef .tc main_v18_6) = at' (⟨k, hk⟩ : Fin 64) :=
      (at0_ctr W h₀ c k).trans (funext fun _ => ctr_at ⟨k, hk⟩)
    have k1 := at0_keep W c main_v18_1 (by decide) (by decide) k
    have k2 := at0_keep W c main_v18_2 (by decide) (by decide) k
    have k3 := at0_keep W c main_v18_3 (by decide) (by decide) k
    have k5 := at0_keep W c main_v18_5 (by decide) (by decide) k
    refine ⟨?_, fun n hn => ?_⟩
    · rw [at0_succ, trip0_state]
      simp only [test0_keep _ _ (by decide : main_v18_7 ∉ [main_while0c_c_25, main_while0c_v45]), test0_keep _ _ (by decide : main_v18_5 ∉ [main_while0c_c_25, main_while0c_v45]),
        test0_keep _ _ (by decide : main_v18_6 ∉ [main_while0c_c_25, main_while0c_v45]), test0_keep _ _ (by decide : main_v18_1 ∉ [main_while0c_c_25, main_while0c_v45]),
        test0_keep _ _ (by decide : main_v18_2 ∉ [main_while0c_c_25, main_while0c_v45]), test0_keep _ _ (by decide : main_v18_3 ∉ [main_while0c_c_25, main_while0c_v45])]
      rw [ih, hctr, k1, k2, k3, k5, slabD_at, slabC_at, slabC_at, slabC_at]
      exact (stateAt_succ _ _ _ _ _ ⟨k, hk⟩).symm
    · rw [at0_succ, trip0_states, trip0_new, trip0_dec]
      simp only [test0_keep _ _ (by decide : main_v18_7 ∉ [main_while0c_c_25, main_while0c_v45]), test0_keep _ _ (by decide : main_v18_5 ∉ [main_while0c_c_25, main_while0c_v45]),
        test0_keep _ _ (by decide : main_v18_6 ∉ [main_while0c_c_25, main_while0c_v45]), test0_keep _ _ (by decide : main_v18_9 ∉ [main_while0c_c_25, main_while0c_v45]),
        test0_keep _ _ (by decide : main_v18_2 ∉ [main_while0c_c_25, main_while0c_v45]), test0_keep _ _ (by decide : main_v18_3 ∉ [main_while0c_c_25, main_while0c_v45]),
        test0_keep _ _ (by decide : main_v18_10 ∉ [main_while0c_c_25, main_while0c_v45]), test0_keep _ _ (by decide : main_v18_11 ∉ [main_while0c_c_25, main_while0c_v45])]
      rw [ih, hctr, k2, k3, k5, slabD_at, slabC_at, slabC_at, putS_at, putC_at, putE_at]
      by_cases e : n = ⟨k, hk⟩
      · subst e
        exact ⟨if_pos rfl, if_pos rfl, if_pos rfl⟩
      · have hn' : n.val < k := by
          have : n.val ≠ k := fun h => e (Fin.ext h)
          omega
        rw [if_neg e, if_neg e, if_neg e]
        exact ih' n hn'

/-- The backward loop's chunks: cotangents, saved states and corrected values, weights, queries, intra-chunk weights, decays, keys. -/
abbrev o1 (n : Fin 64) : FVec F S6x64x128 .f32 := member (a := 6) (b := 64) (c := 128) (W c (Proc.devRef .tc main_v31_0)) n
abbrev s1 (n : Fin 64) : FVec F S6x128x128 .f32 := member (a := 6) (b := 128) (c := 128) (W c (Proc.devRef .tc main_v31_1)) n
abbrev w1 (n : Fin 64) : FVec F S6x64x128 .f32 := member (a := 6) (b := 64) (c := 128) (W c (Proc.devRef .tc main_v31_2)) n
abbrev q1 (n : Fin 64) : FVec F S6x64x128 .f32 := member (a := 6) (b := 64) (c := 128) (W c (Proc.devRef .tc main_v31_3)) n
abbrev v1 (n : Fin 64) : FVec F S6x64x128 .f32 := member (a := 6) (b := 64) (c := 128) (W c (Proc.devRef .tc main_v31_4)) n
abbrev a1 (n : Fin 64) : FVec F S6x64x64 .f32 := member (a := 6) (b := 64) (c := 64) (W c (Proc.devRef .tc main_v31_5)) n
abbrev dc1 (n : Fin 64) : FVec F S6x1x1 .f32 := member (a := 6) (b := 1) (c := 1) (W c (Proc.devRef .tc main_v31_6)) n
abbrev kt1 (n : Fin 64) : FVec F S6x64x128 .f32 := member (a := 6) (b := 64) (c := 128) (W c (Proc.devRef .tc main_v31_7)) n
/-- The gradient of the state before the backward loop's trip `t`. -/
abbrev G1 (t : ℕ) : FVec F S6x128x128 .f32 :=
  gradAt (W c (Proc.devRef .tc main_v31_9)) (dc1 W c) (o1 W c) (kt1 W c) (q1 W c) (w1 W c) (a1 W c) t
/-- The gradient of chunk `n`'s corrected values. -/
abbrev dU1 (n : Fin 64) : FVec F S6x64x128 .f32 := bwdU (G1 W c (63 - n.val)) (o1 W c n) (a1 W c n) (kt1 W c n)

/-- After `t` trips of the backward loop the gradient of the state has gone past the last `t` chunks, and the gradients of
    those chunks' arrays are in place. -/
theorem loop1 (h₀ : ∀ c, W c (Proc.devRef .tc main_v31_8) = fun _ => (0#32 : BitVec 32)) : ∀ t ≤ 64,
    at1 W t c (Proc.devRef .tc main_v31_9) = G1 W c t
    ∧ ∀ n : Fin 64, 63 - n.val < t →
        member (a := 6) (b := 64) (c := 128) (at1 W t c (Proc.devRef .tc main_v31_10)) n = bwdQ (o1 W c n) (s1 W c n)
        ∧ member (a := 6) (b := 64) (c := 128) (at1 W t c (Proc.devRef .tc main_v31_11)) n = bwdK (G1 W c (63 - n.val)) (v1 W c n)
        ∧ member (a := 6) (b := 64) (c := 128) (at1 W t c (Proc.devRef .tc main_v31_12)) n = dU1 W c n
        ∧ member (a := 6) (b := 64) (c := 128) (at1 W t c (Proc.devRef .tc main_v31_13)) n = bwdQ (Host.negf (dU1 W c n)) (s1 W c n)
        ∧ member (a := 6) (b := 64) (c := 64) (at1 W t c (Proc.devRef .tc main_v31_14)) n = bwdA (o1 W c n) (v1 W c n)
        ∧ rowD (at1 W t c (Proc.devRef .tc main_v31_15)) n = bwdD (s1 W c n) (G1 W c (63 - n.val))
  | 0, _ => ⟨rfl, fun n h => absurd h (Nat.not_lt_zero _)⟩
  | t + 1, ht => by
    obtain ⟨ih, ih'⟩ := loop1 h₀ t (Nat.le_of_succ_le ht)
    have hctr : back (at1 W t c (Proc.devRef .tc main_v31_8)) = at' (rev t) :=
      (congrArg back (at1_ctr W h₀ c t)).trans (back_at ⟨t, ht⟩)
    have k0 := at1_keep W c main_v31_0 (by decide) (by decide) t
    have k1 := at1_keep W c main_v31_1 (by decide) (by decide) t
    have k2 := at1_keep W c main_v31_2 (by decide) (by decide) t
    have k3 := at1_keep W c main_v31_3 (by decide) (by decide) t
    have k4 := at1_keep W c main_v31_4 (by decide) (by decide) t
    have k5 := at1_keep W c main_v31_5 (by decide) (by decide) t
    have k6 := at1_keep W c main_v31_6 (by decide) (by decide) t
    have k7 := at1_keep W c main_v31_7 (by decide) (by decide) t
    refine ⟨?_, fun n hn => ?_⟩
    · rw [at1_succ, trip1_state]
      simp only [test1_keep _ _ (by decide : main_v31_0 ∉ [main_while1c_c_29, main_while1c_v45]),
        test1_keep _ _ (by decide : main_v31_1 ∉ [main_while1c_c_29, main_while1c_v45]),
        test1_keep _ _ (by decide : main_v31_2 ∉ [main_while1c_c_29, main_while1c_v45]),
        test1_keep _ _ (by decide : main_v31_3 ∉ [main_while1c_c_29, main_while1c_v45]),
        test1_keep _ _ (by decide : main_v31_4 ∉ [main_while1c_c_29, main_while1c_v45]),
        test1_keep _ _ (by decide : main_v31_5 ∉ [main_while1c_c_29, main_while1c_v45]),
        test1_keep _ _ (by decide : main_v31_6 ∉ [main_while1c_c_29, main_while1c_v45]),
        test1_keep _ _ (by decide : main_v31_7 ∉ [main_while1c_c_29, main_while1c_v45]),
        test1_keep _ _ (by decide : main_v31_8 ∉ [main_while1c_c_29, main_while1c_v45]),
        test1_keep _ _ (by decide : main_v31_9 ∉ [main_while1c_c_29, main_while1c_v45]),
        test1_keep _ _ (by decide : main_v31_10 ∉ [main_while1c_c_29, main_while1c_v45]),
        test1_keep _ _ (by decide : main_v31_11 ∉ [main_while1c_c_29, main_while1c_v45]),
        test1_keep _ _ (by decide : main_v31_12 ∉ [main_while1c_c_29, main_while1c_v45]),
        test1_keep _ _ (by decide : main_v31_13 ∉ [main_while1c_c_29, main_while1c_v45]),
        test1_keep _ _ (by decide : main_v31_14 ∉ [main_while1c_c_29, main_while1c_v45]),
        test1_keep _ _ (by decide : main_v31_15 ∉ [main_while1c_c_29, main_while1c_v45])]
      rw [ih, hctr, k0, k2, k3, k5, k6, k7]
      simp only [slabE_at, slabC_at, slabA_at]
      rfl
    · rw [at1_succ, trip1_q, trip1_k, trip1_u, trip1_w, trip1_a, trip1_d]
      simp only [test1_keep _ _ (by decide : main_v31_0 ∉ [main_while1c_c_29, main_while1c_v45]),
        test1_keep _ _ (by decide : main_v31_1 ∉ [main_while1c_c_29, main_while1c_v45]),
        test1_keep _ _ (by decide : main_v31_2 ∉ [main_while1c_c_29, main_while1c_v45]),
        test1_keep _ _ (by decide : main_v31_3 ∉ [main_while1c_c_29, main_while1c_v45]),
        test1_keep _ _ (by decide : main_v31_4 ∉ [main_while1c_c_29, main_while1c_v45]),
        test1_keep _ _ (by decide : main_v31_5 ∉ [main_while1c_c_29, main_while1c_v45]),
        test1_keep _ _ (by decide : main_v31_6 ∉ [main_while1c_c_29, main_while1c_v45]),
        test1_keep _ _ (by decide : main_v31_7 ∉ [main_while1c_c_29, main_while1c_v45]),
        test1_keep _ _ (by decide : main_v31_8 ∉ [main_while1c_c_29, main_while1c_v45]),
        test1_keep _ _ (by decide : main_v31_9 ∉ [main_while1c_c_29, main_while1c_v45]),
        test1_keep _ _ (by decide : main_v31_10 ∉ [main_while1c_c_29, main_while1c_v45]),
        test1_keep _ _ (by decide : main_v31_11 ∉ [main_while1c_c_29, main_while1c_v45]),
        test1_keep _ _ (by decide : main_v31_12 ∉ [main_while1c_c_29, main_while1c_v45]),
        test1_keep _ _ (by decide : main_v31_13 ∉ [main_while1c_c_29, main_while1c_v45]),
        test1_keep _ _ (by decide : main_v31_14 ∉ [main_while1c_c_29, main_while1c_v45]),
        test1_keep _ _ (by decide : main_v31_15 ∉ [main_while1c_c_29, main_while1c_v45])]
      rw [ih, hctr, k0, k1, k4, k5, k7]
      simp only [slabC_at, slabA_at, slabS_at, putC_at, putA_at, putD_at]
      by_cases e : n = rev t
      · have e' : t = 63 - n.val := by
          have := congrArg Fin.val e
          have e2 : n.val = 63 - t := this
          omega
        rw [if_pos e, if_pos e, if_pos e, if_pos e, if_pos e, if_pos e, ← e, e']
        exact ⟨rfl, rfl, rfl, rfl, rfl, rfl⟩
      · have hn' : 63 - n.val < t := by
          have : n.val ≠ 63 - t := fun h => e (Fin.ext h)
          have := n.isLt
          omega
        rw [if_neg e, if_neg e, if_neg e, if_neg e, if_neg e, if_neg e]
        exact ih' n hn'

end Cert.Proof.Ref
-- ==== Proof.FwdRegion.lean ====
/-
  Region 0, the forward scan: the proof data of its pipeline (what every staging buffer and the carried state hold at every point), the body's obligation
  at every point, and the invariant's two ends.
-/
module

public import proofs.«01_k».proof.Proof.FwdBody

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Valuation τ sig (Elt F))

/-- Window `w`'s block at point `t` of its array's contents in `V`. -/
def iblk0 (c : Dev nD) (w : Fin cfg0.W) (t : Fin cfg0.N) :=
  ((cfg0.win w).blk t).view.read (Elt F) (V (Proc.devRef .tc (Pipeline.arrRef spec0 w)))

/-- The carried state before point `n`. -/
def carry0 (c : Dev nD) : ℕ → FVec F S6x128x128 .f32
  | 0 => zeroState
  | n + 1 => if h : n < cfg0.N then fwdState (carry0 c n) (iblk0 V c 0 ⟨n, h⟩) (iblk0 V c 1 ⟨n, h⟩) (iblk0 V c 4 ⟨n, h⟩) (iblk0 V c 5 ⟨n, h⟩) else carry0 c n

theorem carry0_succ (c : Dev nD) (t : Fin cfg0.N) :
    carry0 V c (t.val + 1) = fwdState (carry0 V c t.val) (iblk0 V c 0 t) (iblk0 V c 1 t) (iblk0 V c 4 t) (iblk0 V c 5 t) := by
  rw [carry0, dif_pos t.isLt]

/-- The invariant before point `n`: at the start the scoped buffers no window stages at anything, later the carried state named. -/
def inv0 (c : Dev nD) : ℕ → sProp 𝕄
  | 0 => Pipeline.scopedRest spec0 c
  | n + 1 => iprop(owns (c : Thread nD τ) (Memref.whole cc0_scratch0) fullShare (carry0 V c (n + 1))
      ∗ Pipeline.scopedRestBut spec0 c [cc0_scratch0])

theorem inv0_succ (c : Dev nD) (n : ℕ) : inv0 V c (n + 1) = iprop(owns (c : Thread nD τ) (Memref.whole cc0_scratch0) fullShare (carry0 V c (n + 1))
      ∗ Pipeline.scopedRestBut spec0 c [cc0_scratch0]) := rfl

/-- The scoped buffers no window stages: the carried state's, and the rest. -/
theorem rest0_split (c : Dev nD) : (Pipeline.scopedRest spec0 c : sProp 𝕄)
    = iprop((∃ f : Buf (Elt F) ((c : Thread nD τ).loc cc0_scratch0), ((c : Thread nD τ).loc cc0_scratch0) ↦{fullShare} f)
        ∗ Pipeline.scopedRestBut spec0 c [cc0_scratch0]) :=
  Pipeline.scopedRest_split_of_list spec0 c [cc0_scratch0] (by decide) (by decide)

/-- The proof data of region 0 from buffers at `V`: an input's buffer stays at its block, an output's is what the body stores. -/
def dat0 (c : Dev nD) : Dat τ (Elt F) Unit ℕ (UR sig nD τ) ℕ cfg0 c where
  A w := V (Proc.devRef .tc (Pipeline.arrRef spec0 w))
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay5 (carry0 V c t.val) (iblk0 V c 0 t) (iblk0 V c 1 t) (iblk0 V c 2 t) (iblk0 V c 3 t)
    | ⟨7, _⟩ => k0_pay3 (carry0 V c t.val)
  Φ t := inv0 V c t.val
  q _ := fullShare
  owed _ := 0

theorem dat0_A (c : Dev nD) (w : Fin cfg0.W) : (dat0 V c).A w = V (Proc.devRef .tc (Pipeline.arrRef spec0 w)) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = k0_pay5 (carry0 V c t.val) (iblk0 V c 0 t) (iblk0 V c 1 t) (iblk0 V c 2 t) (iblk0 V c 3 t) := by dsimp only [dat0]
theorem after0_7 (c : Dev nD) (t : Fin cfg0.N) :
    (dat0 V c).after 7 t = k0_pay3 (carry0 V c t.val) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [dat0_A]) t d).trans
    (by unfold Dat.fetched Dat.blockOf iblk0; rw [dat0_A]; rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [dat0_A]) t d).trans
    (by unfold Dat.fetched Dat.blockOf iblk0; rw [dat0_A]; rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [dat0_A]) t d).trans
    (by unfold Dat.fetched Dat.blockOf iblk0; rw [dat0_A]; rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [dat0_A]) t d).trans
    (by unfold Dat.fetched Dat.blockOf iblk0; rw [dat0_A]; rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [dat0_A]) t d).trans
    (by unfold Dat.fetched Dat.blockOf iblk0; rw [dat0_A]; rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [dat0_A]) t d).trans
    (by unfold Dat.fetched Dat.blockOf iblk0; rw [dat0_A]; rfl)

/-- The branch of the body is taken at the first point alone. -/
theorem cond0_iff : ∀ t : Fin cfg0.N, cond0 (grid0.coords t) ↔ t.val = 0 :=
  (fun t => by
    have ht : t.val < 64 := Nat.lt_of_lt_of_eq t.isLt N_0
    have e0 : (grid0.coords t 0).val = t.val / 1 % 64 := Pipeline.Grid.coords_val t 0 (by decide) rfl
    have e1 : t.val / 1 % 64 = t.val := by omega
    rw [e1] at e0
    simp only [cond0, e0]
    word_cmp
   : ∀ t : Fin grid0.N, cond0 (grid0.coords t) ↔ t.val = 0)

/-- What the body is given at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 6400000 in
/-- The body at any point, the first one by `body0_first`, the others by `body0_later`. -/
theorem sound0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    after0_0, after0_1, after0_2, after0_3, after0_4, after0_5, after0_6, after0_7]
  rw [show (dat0 V c).Φ t.succ = iprop(owns (c : Thread nD τ) (Memref.whole cc0_scratch0) fullShare (carry0 V c (t.val + 1))
      ∗ Pipeline.scopedRestBut spec0 c [cc0_scratch0]) from rfl, carry0_succ,
    show (dat0 V c).Φ t.castSucc = inv0 V c t.val from rfl]
  by_cases hz : t.val = 0
  · rw [hz, show inv0 V c 0 = Pipeline.scopedRest spec0 c from rfl, show carry0 V c 0 = zeroState from rfl,
      rest0_split]
    iintro ⟨⟨⟨%f, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body0_first c (grid0.coords t) _ _ _ _ _ _ _ _ _ _ _ _ _ _ _ _ _ _ ((cond0_iff t).mpr hz) (iblk0 V c 0 t) (iblk0 V c 1 t) (iblk0 V c 2 t) (iblk0 V c 3 t) (iblk0 V c 4 t) (iblk0 V c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexists f; rw [owns_whole]; iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · obtain ⟨k, hk⟩ := Nat.exists_eq_succ_of_ne_zero hz
    rw [show inv0 V c t.val = iprop(owns (c : Thread nD τ) (Memref.whole cc0_scratch0) fullShare (carry0 V c t.val)
      ∗ Pipeline.scopedRestBut spec0 c [cc0_scratch0]) from by rw [hk]; rfl]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body0_later c (grid0.coords t) _ _ _ _ _ _ _ _ _ _ _ _ _ _ _ _ _ _ (fun h => hz ((cond0_iff t).mp h)) (iblk0 V c 0 t) (iblk0 V c 1 t) (iblk0 V c 2 t) (iblk0 V c 3 t) (iblk0 V c 4 t) (iblk0 V c 5 t) (carry0 V c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem row0 (t : Fin cfg0.N) : defs₀ (F := F) .tc cfg0.body (cfg0.bodyArgs t (cfg0.slots t)) = bodyAt0 t := by
  unfold defs₀; rw [Defs.onTc_tc]

/-- The pipeline's obligation on the body, at every point. -/
theorem obligation0 (c : Dev nD) : BodyObligation (dat0 V c) (defs₀ (F := F)) Variants.none () Set.univ := fun t => by
  rw [bigSep_W0, bigSep_W0, row0]
  exact triple_restated (sound0 V c t) rfl .rfl fun _ => .rfl

/-- The invariant gives the scoped buffers back after the last point. -/
theorem inv0_out (c : Dev nD) : (dat0 V c).Φ (Fin.last cfg0.N) ⊢ Pipeline.scopedRest spec0 c := by
  rw [show (dat0 V c).Φ (Fin.last cfg0.N) = inv0 V c cfg0.N from rfl, show cfg0.N = 63 + 1 from N_0,
    rest0_split, inv0_succ, owns_whole]
  iintro ⟨HS, Hr⟩
  isplitl [HS]; · iexists _; iexact HS
  iexact Hr

end Cert.Proof

end
-- ==== Proof.BwdRegion.lean ====
/-
  Region 1, the reversed scan: the proof data of its pipeline (what every staging buffer and the carried state hold at every point), the body's obligation
  at every point, and the invariant's two ends.
-/
module

public import proofs.«01_k».proof.Proof.BwdBody

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Valuation τ sig (Elt F))

/-- Window `w`'s block at point `t` of its array's contents in `V`. -/
def iblk1 (c : Dev nD) (w : Fin cfg1.W) (t : Fin cfg1.N) :=
  ((cfg1.win w).blk t).view.read (Elt F) (V (Proc.devRef .tc (Pipeline.arrRef spec1 w)))

/-- The carried state before point `n`. -/
def carry1 (c : Dev nD) : ℕ → FVec F S6x128x128 .f32
  | 0 => zeroGrad
  | n + 1 => if h : n < cfg1.N then bwdState (carry1 c n) (iblk1 V c 0 ⟨n, h⟩) (iblk1 V c 3 ⟨n, h⟩) (iblk1 V c 4 ⟨n, h⟩) (iblk1 V c 5 ⟨n, h⟩) (iblk1 V c 6 ⟨n, h⟩) (iblk1 V c 7 ⟨n, h⟩) else carry1 c n

theorem carry1_succ (c : Dev nD) (t : Fin cfg1.N) :
    carry1 V c (t.val + 1) = bwdState (carry1 V c t.val) (iblk1 V c 0 t) (iblk1 V c 3 t) (iblk1 V c 4 t) (iblk1 V c 5 t) (iblk1 V c 6 t) (iblk1 V c 7 t) := by
  rw [carry1, dif_pos t.isLt]

/-- The invariant before point `n`: at the start the scoped buffers no window stages at anything, later the carried state named. -/
def inv1 (c : Dev nD) : ℕ → sProp 𝕄
  | 0 => Pipeline.scopedRest spec1 c
  | n + 1 => iprop(owns (c : Thread nD τ) (Memref.whole cc1_scratch0) fullShare (carry1 V c (n + 1))
      ∗ Pipeline.scopedRestBut spec1 c [cc1_scratch0])

theorem inv1_succ (c : Dev nD) (n : ℕ) : inv1 V c (n + 1) = iprop(owns (c : Thread nD τ) (Memref.whole cc1_scratch0) fullShare (carry1 V c (n + 1))
      ∗ Pipeline.scopedRestBut spec1 c [cc1_scratch0]) := rfl

/-- The scoped buffers no window stages: the carried state's, and the rest. -/
theorem rest1_split (c : Dev nD) : (Pipeline.scopedRest spec1 c : sProp 𝕄)
    = iprop((∃ f : Buf (Elt F) ((c : Thread nD τ).loc cc1_scratch0), ((c : Thread nD τ).loc cc1_scratch0) ↦{fullShare} f)
        ∗ Pipeline.scopedRestBut spec1 c [cc1_scratch0]) :=
  Pipeline.scopedRest_split_of_list spec1 c [cc1_scratch0] (by decide) (by decide)

/-- The proof data of region 1 from buffers at `V`: an input's buffer stays at its block, an output's is what the body stores. -/
def dat1 (c : Dev nD) : Dat τ (Elt F) Unit ℕ (UR sig nD τ) ℕ cfg1 c where
  A w := V (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => k1_pay14 (iblk1 V c 4 t) (iblk1 V c 0 t) (k1_pay8 (iblk1 V c 6 t) (carry1 V c t.val))
    | ⟨9, _⟩ => k1_pay18 (k1_pay3 (iblk1 V c 1 t)) (iblk1 V c 4 t) (iblk1 V c 0 t) (k1_pay8 (iblk1 V c 6 t) (carry1 V c t.val))
    | ⟨10, _⟩ => k1_pay15 (k1_pay4 (iblk1 V c 1 t) (iblk1 V c 2 t) (iblk1 V c 3 t)) (iblk1 V c 0 t)
    | ⟨11, _⟩ => k1_pay16 (k1_pay3 (iblk1 V c 1 t)) (iblk1 V c 0 t)
    | ⟨12, _⟩ => k1_pay9 (iblk1 V c 1 t) (iblk1 V c 2 t) (iblk1 V c 3 t) (carry1 V c t.val)
    | ⟨13, _⟩ => k1_pay1 (k1_pay11 (k1_pay10 (iblk1 V c 1 t) (carry1 V c t.val)))
  Φ t := inv1 V c t.val
  q _ := fullShare
  owed _ := 0

theorem dat1_A (c : Dev nD) (w : Fin cfg1.W) : (dat1 V c).A w = V (Proc.devRef .tc (Pipeline.arrRef spec1 w)) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) :
    (dat1 V c).after 8 t = k1_pay14 (iblk1 V c 4 t) (iblk1 V c 0 t) (k1_pay8 (iblk1 V c 6 t) (carry1 V c t.val)) := by dsimp only [dat1]
theorem after1_9 (c : Dev nD) (t : Fin cfg1.N) :
    (dat1 V c).after 9 t = k1_pay18 (k1_pay3 (iblk1 V c 1 t)) (iblk1 V c 4 t) (iblk1 V c 0 t) (k1_pay8 (iblk1 V c 6 t) (carry1 V c t.val)) := by dsimp only [dat1]
theorem after1_10 (c : Dev nD) (t : Fin cfg1.N) :
    (dat1 V c).after 10 t = k1_pay15 (k1_pay4 (iblk1 V c 1 t) (iblk1 V c 2 t) (iblk1 V c 3 t)) (iblk1 V c 0 t) := by dsimp only [dat1]
theorem after1_11 (c : Dev nD) (t : Fin cfg1.N) :
    (dat1 V c).after 11 t = k1_pay16 (k1_pay3 (iblk1 V c 1 t)) (iblk1 V c 0 t) := by dsimp only [dat1]
theorem after1_12 (c : Dev nD) (t : Fin cfg1.N) :
    (dat1 V c).after 12 t = k1_pay9 (iblk1 V c 1 t) (iblk1 V c 2 t) (iblk1 V c 3 t) (carry1 V c t.val) := by dsimp only [dat1]
theorem after1_13 (c : Dev nD) (t : Fin cfg1.N) :
    (dat1 V c).after 13 t = k1_pay1 (k1_pay11 (k1_pay10 (iblk1 V c 1 t) (carry1 V c t.val))) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [dat1_A]) t d).trans
    (by unfold Dat.fetched Dat.blockOf iblk1; rw [dat1_A]; rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [dat1_A]) t d).trans
    (by unfold Dat.fetched Dat.blockOf iblk1; rw [dat1_A]; rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [dat1_A]) t d).trans
    (by unfold Dat.fetched Dat.blockOf iblk1; rw [dat1_A]; rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [dat1_A]) t d).trans
    (by unfold Dat.fetched Dat.blockOf iblk1; rw [dat1_A]; rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [dat1_A]) t d).trans
    (by unfold Dat.fetched Dat.blockOf iblk1; rw [dat1_A]; rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [dat1_A]) t d).trans
    (by unfold Dat.fetched Dat.blockOf iblk1; rw [dat1_A]; rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [dat1_A]) t d).trans
    (by unfold Dat.fetched Dat.blockOf iblk1; rw [dat1_A]; rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [dat1_A]) t d).trans
    (by unfold Dat.fetched Dat.blockOf iblk1; rw [dat1_A]; rfl)

/-- The branch of the body is taken at the first point alone. -/
theorem cond1_iff : ∀ t : Fin cfg1.N, cond1 (grid1.coords t) ↔ t.val = 0 :=
  (fun t => by
    have ht : t.val < 64 := Nat.lt_of_lt_of_eq t.isLt N_1
    have e0 : (grid1.coords t 0).val = t.val / 1 % 64 := Pipeline.Grid.coords_val t 0 (by decide) rfl
    have e1 : t.val / 1 % 64 = t.val := by omega
    rw [e1] at e0
    simp only [cond1, e0]
    word_cmp
   : ∀ t : Fin grid1.N, cond1 (grid1.coords t) ↔ t.val = 0)

/-- What the body is given at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 6400000 in
/-- The body at any point, the first one by `body1_first`, the others by `body1_later`. -/
theorem sound1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7, after1_8, after1_9, after1_10, after1_11, after1_12, after1_13]
  rw [show (dat1 V c).Φ t.succ = iprop(owns (c : Thread nD τ) (Memref.whole cc1_scratch0) fullShare (carry1 V c (t.val + 1))
      ∗ Pipeline.scopedRestBut spec1 c [cc1_scratch0]) from rfl, carry1_succ,
    show (dat1 V c).Φ t.castSucc = inv1 V c t.val from rfl]
  by_cases hz : t.val = 0
  · rw [hz, show inv1 V c 0 = Pipeline.scopedRest spec1 c from rfl, show carry1 V c 0 = zeroGrad from rfl,
      rest1_split]
    iintro ⟨⟨⟨%f, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body1_first c (grid1.coords t) _ _ _ _ _ _ _ _ _ _ _ _ _ _ _ _ _ _ _ _ _ _ _ _ _ _ _ _ _ _ ((cond1_iff t).mpr hz) (iblk1 V c 0 t) (iblk1 V c 1 t) (iblk1 V c 2 t) (iblk1 V c 3 t) (iblk1 V c 4 t) (iblk1 V c 5 t) (iblk1 V c 6 t) (iblk1 V c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS]; · iexists f; rw [owns_whole]; iexact HS
    iintro ⟨H0, H1, H2, H3, H4, H5, H6, H7, H8, H9, H10, H11, H12, H13, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · obtain ⟨k, hk⟩ := Nat.exists_eq_succ_of_ne_zero hz
    rw [show inv1 V c t.val = iprop(owns (c : Thread nD τ) (Memref.whole cc1_scratch0) fullShare (carry1 V c t.val)
      ∗ Pipeline.scopedRestBut spec1 c [cc1_scratch0]) from by rw [hk]; rfl]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body1_later c (grid1.coords t) _ _ _ _ _ _ _ _ _ _ _ _ _ _ _ _ _ _ _ _ _ _ _ _ _ _ _ _ _ _ (fun h => hz ((cond1_iff t).mp h)) (iblk1 V c 0 t) (iblk1 V c 1 t) (iblk1 V c 2 t) (iblk1 V c 3 t) (iblk1 V c 4 t) (iblk1 V c 5 t) (iblk1 V c 6 t) (iblk1 V c 7 t) (carry1 V c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS]; · iexact HS
    iintro ⟨H0, H1, H2, H3, H4, H5, H6, H7, H8, H9, H10, H11, H12, H13, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem row1 (t : Fin cfg1.N) : defs₀ (F := F) .tc cfg1.body (cfg1.bodyArgs t (cfg1.slots t)) = bodyAt1 t := by
  unfold defs₀; rw [Defs.onTc_tc]

/-- The pipeline's obligation on the body, at every point. -/
theorem obligation1 (c : Dev nD) : BodyObligation (dat1 V c) (defs₀ (F := F)) Variants.none () Set.univ := fun t => by
  rw [bigSep_W1, bigSep_W1, row1]
  exact triple_restated (sound1 V c t) rfl .rfl fun _ => .rfl

/-- The invariant gives the scoped buffers back after the last point. -/
theorem inv1_out (c : Dev nD) : (dat1 V c).Φ (Fin.last cfg1.N) ⊢ Pipeline.scopedRest spec1 c := by
  rw [show (dat1 V c).Φ (Fin.last cfg1.N) = inv1 V c cfg1.N from rfl, show cfg1.N = 63 + 1 from N_1,
    rest1_split, inv1_succ, owns_whole]
  iintro ⟨HS, Hr⟩
  isplitl [HS]; · iexists _; iexact HS
  iexact Hr

end Cert.Proof

end
-- ==== Proof.KernelRun.lean ====
/-
  The kernel's run: the forward scan's region, then the reversed scan's. Every terminal state holds the arguments as launched, every semaphore
  counter at zero, and each result at what the second region's pipeline leaves in its array.
-/
module

public import proofs.«01_k».proof.Proof.FwdRegion
public import proofs.«01_k».proof.Proof.BwdRegion
public import proofs.«01_k».proof.Proof.Gen.KernelIdeal.Regions
public import Idealize.ShloMosaic.Lib.Pipeline.RegionArraysS

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The buffers of core `c` at launch, -/
abbrev atLaunch (c : Dev nD) : Valuation τ sig (Elt F) := fun b => m (c, b)
/-- between the two regions, -/
def atMiddle (c : Dev nD) : Valuation τ sig (Elt F) := Pipeline.afterRegion (dat0 (atLaunch m c) c) (atLaunch m c)
/-- and at the end. -/
def atEnd (c : Dev nD) : Valuation τ sig (Elt F) := Pipeline.afterRegion (dat1 (atMiddle m c) c) (atMiddle m c)

/-- Both pipelines' proof data. -/
def pdats : (p : Fin 2) → (c : Dev nD) → Dat τ (Elt F) Unit ℕ (UR sig nD τ) ℕ (cfgs p) c
  | ⟨0, _⟩ => fun c => dat0 (atLaunch m c) c
  | ⟨1, _⟩ => fun c => dat1 (atMiddle m c) c

/-- One index on every TensorCore thread's cells, all at one level: nothing is owed, so no order between them matters. -/
abbrev cellIx : GSem nD τ sig → Finset Unit := fun g => if g.1.2 = .tc then {()} else ∅

theorem cellIx_off (g : GSem nD τ sig) (h : g.1.2 ≠ .tc) : cellIx g = ∅ := if_neg h

/-- A core's debts: none. -/
abbrev noDebt : Dev nD → CellTallies nD τ sig Unit := fun _ => 0

theorem cut (p : Fin 2) : Pipeline.LevelCut (pcfgs (F := F)) adm () cellIx (fun _ _ => (0 : ℕ)) p noDebt (fun _ => 0) where
  hι c w s := by rw [show cellIx _ = {()} from if_pos rfl]; exact Finset.mem_singleton_self _
  hιb c w s := le_refl _
  hD c g i h := absurd h (lt_irrefl _)

theorem arrs_sub0 : Pipeline.arrRefs (pcfgs (F := F) 0).spec ⊆ Pipeline.ucRefs τ sig := by
  intro b hb
  obtain ⟨r, hr, rfl⟩ := Finset.mem_map.mp hb
  obtain ⟨w, -, rfl⟩ := Finset.mem_image.mp hr
  exact Finset.mem_filter.mpr ⟨StableHlo.devRef_mem_tcRefs _, (by decide : ∀ w : Fin cfg0.W, ¬ (Proc.devRef .tc (Pipeline.arrRef spec0 w) : DevRef τ sig).isScoped = true) w⟩

theorem arrs_sub1 : Pipeline.arrRefs (pcfgs (F := F) 1).spec ⊆ Pipeline.ucRefs τ sig := by
  intro b hb
  obtain ⟨r, hr, rfl⟩ := Finset.mem_map.mp hb
  obtain ⟨w, -, rfl⟩ := Finset.mem_image.mp hr
  exact Finset.mem_filter.mpr ⟨StableHlo.devRef_mem_tcRefs _, (by decide : ∀ w : Fin cfg1.W, ¬ (Proc.devRef .tc (Pipeline.arrRef spec1 w) : DevRef τ sig).isScoped = true) w⟩

/-- Region 0's record. -/
def record0 : RegionSeg (pcfgs (F := F)) adm (pdats m) () defs₀ Variants.none cellIx (fun _ _ => (0 : ℕ)) 0 :=
  RegionSeg.ofHeldIn pcfgs adm (pdats m) () defs₀ Variants.none cellIx (fun _ _ => (0 : ℕ)) 0 noDebt (Pipeline.ucRefs τ sig)
    (fun _ => iprop(emp)) (fun _ => iprop(emp)) launch0.toP rfl (fun c => (obligation0 (atLaunch m c) c).loose) (fun _ _ => rfl) (fun _ => rfl)
    (fun c => (pdats m 0 c).share_full fun _ => rfl)
    (fun c => by
      show iprop(Pipeline.scopedRest spec0 c ∗ emp) ⊢ Pipeline.scopedRest spec0 c
      iintro ⟨H, -⟩; iexact H)
    (fun c => by
      show (dat0 (atLaunch m c) c).Φ (Fin.last cfg0.N) ⊢ iprop(Pipeline.scopedRest spec0 c ∗ emp)
      refine (inv0_out (atLaunch m c) c).trans ?_
      iintro H; isplitl [H]; · iexact H
      iempintro)
    (fun _ => 0) (cut 0) (fun _ => iprop(emp)) (atLaunch m) (fun c w => rfl)

/-- Region 1's record. -/
def record1 : RegionSeg (pcfgs (F := F)) adm (pdats m) () defs₀ Variants.none cellIx (fun _ _ => (0 : ℕ)) 1 :=
  RegionSeg.ofHeldIn pcfgs adm (pdats m) () defs₀ Variants.none cellIx (fun _ _ => (0 : ℕ)) 1 noDebt (Pipeline.ucRefs τ sig)
    (fun _ => iprop(emp)) (fun _ => iprop(emp)) launch1.toP rfl (fun c => (obligation1 (atMiddle m c) c).loose) (fun _ _ => rfl) (fun _ => rfl)
    (fun c => (pdats m 1 c).share_full fun _ => rfl)
    (fun c => by
      show iprop(Pipeline.scopedRest spec1 c ∗ emp) ⊢ Pipeline.scopedRest spec1 c
      iintro ⟨H, -⟩; iexact H)
    (fun c => by
      show (dat1 (atMiddle m c) c).Φ (Fin.last cfg1.N) ⊢ iprop(Pipeline.scopedRest spec1 c ∗ emp)
      refine (inv1_out (atMiddle m c) c).trans ?_
      iintro H; isplitl [H]; · iexact H
      iempintro)
    (fun _ => 0) (cut 1) (fun _ => iprop(emp)) (atMiddle m) (fun c w => rfl)

/-- What core `c` holds between two items beside its buffers. -/
abbrev idle (c : Dev nD) : sProp 𝕄 :=
  iprop((∃ Wd, owes (c : Thread nD τ) (0 : CellTallies nD τ sig Unit) Wd) ∗ emp ∗ emp)

theorem enter0 (c : Dev nD) : iprop(StableHlo.held (c : Thread nD τ) (Pipeline.ucRefs τ sig) (atLaunch m c) ∗ idle c) ⊢ (record0 m).pre c :=
  RegionSeg.ofHeldIn_pre (W := atLaunch m) (R := fun _ => iprop(emp)) (X := fun _ => iprop(emp)) (Y := fun _ => iprop(emp)) (D := noDebt) (S := Pipeline.ucRefs τ sig) arrs_sub0 c

theorem leave0 (c : Dev nD) : (record0 m).post c ⊢ iprop(StableHlo.held (c : Thread nD τ) (Pipeline.ucRefs τ sig) (atMiddle m c) ∗ idle c) :=
  RegionSeg.ofHeldIn_post (W := atLaunch m) (R := fun _ => iprop(emp)) (X := fun _ => iprop(emp)) (Y := fun _ => iprop(emp)) (D := noDebt) (S := Pipeline.ucRefs τ sig) arrs_sub0 c

theorem enter1 (c : Dev nD) : iprop(StableHlo.held (c : Thread nD τ) (Pipeline.ucRefs τ sig) (atMiddle m c) ∗ idle c) ⊢ (record1 m).pre c :=
  RegionSeg.ofHeldIn_pre (W := atMiddle m) (R := fun _ => iprop(emp)) (X := fun _ => iprop(emp)) (Y := fun _ => iprop(emp)) (D := noDebt) (S := Pipeline.ucRefs τ sig) arrs_sub1 c

theorem leave1 (c : Dev nD) : (record1 m).post c ⊢ iprop(StableHlo.held (c : Thread nD τ) (Pipeline.ucRefs τ sig) (atEnd m c) ∗ idle c) :=
  RegionSeg.ofHeldIn_post (W := atMiddle m) (R := fun _ => iprop(emp)) (X := fun _ => iprop(emp)) (Y := fun _ => iprop(emp)) (D := noDebt) (S := Pipeline.ucRefs τ sig) arrs_sub1 c

theorem held_mem (r : Ref sig .tc) (h : ¬ (Proc.devRef .tc r : DevRef τ sig).isScoped = true) :
    (Proc.devRef .tc r : DevRef τ sig) ∈ Pipeline.ucRefs τ sig :=
  Finset.mem_filter.mpr ⟨StableHlo.devRef_mem_tcRefs r, h⟩

set_option backward.isDefEq.respectTransparency.types false in
/-- Every terminal state holds each unscoped buffer at `atEnd`, and every counter at zero. -/
theorem run_held (ρ : Dev nD → PrngReg) : θ_run defs (onTc (τ := τ) (main (F := F))) ⟨m, fun _ => 0, ρ⟩
    (fun r => (∀ c : Dev nD, ∀ b ∈ Pipeline.ucRefs τ sig, r.2.mem (c, b) = atEnd m c b) ∧ r.2.sem = fun _ => 0) :=
  Pipeline.θ_run_regions_kit_dev_sems (pcfgs (F := F)) adm (pdats m) () cellOf_inj emb₁ defs₀ Variants.none cellIx (fun _ _ => (0 : ℕ)) m ρ main
    (fun _ => [.region (record0 m), .region (record1 m)])
    (fun c Q => by
      rewrite [main_chain c, Seg.run_eq_chain,
        show ([.region (record0 m), .region (record1 m)] : List (Seg (pcfgs (F := F)) adm (pdats m) () defs₀ Variants.none cellIx (fun _ _ => (0 : ℕ)))).map Seg.prog = [
          Prog.lift (.customCall (Pipeline.entry 0) ()),
          Prog.lift (.customCall (Pipeline.entry 1) ()) ] from rfl]
      exact .rfl)
    (fun c => by simp only [Seg.pipes_host, Seg.pipes_region, Seg.pipes_nil]; decide) noDebt cellIx_off (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ idle c))
    (Tₙ := fun c => StableHlo.held (c : Thread nD τ) (Pipeline.ucRefs τ sig) (atEnd m c))
    (hch := fun c => ⟨enter0 m c, (leave0 m c).trans (enter1 m c), (leave1 m c).trans (by
        iintro ⟨Hh, HO, -, -⟩
        isplitl [Hh]; · iexact Hh
        iexact HO)⟩)
    (hinit := by
      refine Pipeline.initEach cellIx _ fun c => ?_
      rw [show unscopedBufs c (fun b => m ((c.tc : Thread nD τ).loc b)) = StableHlo.held (c.tc : Thread nD τ) (Pipeline.ucRefs τ sig) (atLaunch m c)
          from Pipeline.unscopedBufs_held (Ix := Unit) (Name := ℕ) (U := UR sig nD τ) (Lvl := ℕ) c (atLaunch m c)]
      iintro ⟨⟨Hh, -, HO, -, -, -⟩, -⟩
      imodintro
      isplitl [Hh]; · iexact Hh
      isplitl [HO]; · iexists _; iexact HO
      isplitl <;> iempintro)
    (QY := fun c s => ∀ b ∈ Pipeline.ucRefs τ sig, s.mem (c, b) = atEnd m c b)
    (hfin := fun c s' => by
      unfold StableHlo.held
      iintro ⟨Hh, HSI⟩
      ihave Hr := (pointsTo_read_all (Pipeline.ucRefs τ sig) (fun b => ((c.tc : Thread nD τ).1, b)) (atEnd m c) s') $$ [Hh HSI]
      · isplitl [Hh] <;> iassumption
      imodintro; iexact Hr)
    (hQ := fun _ h hz => ⟨h, funext fun g => hz g (.inr (regions_no_unscoped g.2))⟩)

/-- A buffer no region's output window covers is left as launched. -/
theorem atEnd_kept (c : Dev nD) (r : Ref sig .tc) (h0 : ∀ w, Pipeline.arrRef cfg0.spec w = r → (cfg0.win w).isOut = false)
    (h1 : ∀ w, Pipeline.arrRef cfg1.spec w = r → (cfg1.win w).isOut = false) :
    atEnd m c (Proc.devRef .tc r) = m ((c : Thread nD τ).loc r) :=
  (Pipeline.afterRegion_keeps (dat1 (atMiddle m c) c) (atMiddle m c) launch1.win.arr_inj (fun _ => rfl) r h1).trans
    (Pipeline.afterRegion_keeps (dat0 (atLaunch m c) c) (atLaunch m c) launch0.win.arr_inj (fun _ => rfl) r h0)

end Cert.Proof

end
-- ==== Proof.KernelValue.lean ====
/-
  What the two launches leave in memory, by chunks: an array of 4096 rows is 64 chunks of 64 rows, each pipeline block is one chunk,
  and after the launches each chunk of a result is what the body stored at the point of that chunk.
-/
module

public import proofs.«01_k».proof.Proof.KernelRun
public import Idealize.ShloMosaic.Lib.Pipeline.ValueKit.Basic
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe
open Idealize.SL Idealize.SL.RA

variable {F : FTy → Type} [FloatOps F] {α : Type}

/-- Row `r` of chunk `n`. -/
def row (n r : Fin 64) : Fin 4096 := ⟨64 * n.val + r.val, by omega⟩

/-- Chunk `n` of an array of 4096 rows and `d` columns per head. -/
def chunk {d : ℕ} (x : (⟨3, ![6, 4096, d]⟩ : Shape).Idx → α) (n : Fin 64) : (⟨3, ![6, 64, d]⟩ : Shape).Idx → α :=
  fun i => x (ix3 (i 0) (row n (i 1)) (i 2))

/-- Chunk `n`'s decays. -/
def chunkD (x : S6x64x1x128.Idx → α) (n : Fin 64) : S6x1x1x128.Idx → α := fun i => x (ix4 (i 0) n (i 2) (i 3))

/-- State `n` of a stack of states. -/
def chunkS (x : S64x6x128x128.Idx → α) (n : Fin 64) : S1x6x128x128.Idx → α := fun i => x (ix4 n (i 1) (i 2) (i 3))

/-- An array is its chunks. -/
theorem chunk_ext {d : ℕ} {x y : (⟨3, ![6, 4096, d]⟩ : Shape).Idx → α} (h : ∀ n, chunk x n = chunk y n) : x = y := by
  funext i
  have hi : (i 1).val < 4096 := (i 1).isLt
  have e : ix3 (i 0) (row ⟨(i 1).val / 64, by omega⟩ ⟨(i 1).val % 64, by omega⟩) (i 2) = i := by
    funext a; apply Fin.ext
    match a with
    | ⟨0, _⟩ => rfl
    | ⟨1, _⟩ => show 64 * ((i 1).val / 64) + (i 1).val % 64 = (i 1).val; omega
    | ⟨2, _⟩ => rfl
  have := congrFun (h ⟨(i 1).val / 64, by omega⟩) (ix3 (i 0) ⟨(i 1).val % 64, by omega⟩ (i 2))
  exact (congrArg x e).symm.trans (this.trans (congrArg y e))

theorem chunkD_ext {x y : S6x64x1x128.Idx → α} (h : ∀ n, chunkD x n = chunkD y n) : x = y := by
  funext i
  have e : ix4 (i 0) (i 1) (i 2) (i 3) = i := by
    funext a
    match a with
    | ⟨0, _⟩ => rfl
    | ⟨1, _⟩ => rfl
    | ⟨2, _⟩ => rfl
    | ⟨3, _⟩ => rfl
  have := congrFun (h (i 1)) (ix4 (i 0) (0 : Fin 1) (i 2) (i 3))
  exact (congrArg x e).symm.trans (this.trans (congrArg y e))

/-- The chunk of a point of the forward scan, -/
def fwdChunk (t : Fin cfg0.N) : Fin 64 := ⟨t.val, N_0 ▸ t.isLt⟩
/-- and of a point of the backward one: from the last to the first. -/
def bwdChunk (t : Fin cfg1.N) : Fin 64 := ⟨63 - t.val, by omega⟩

theorem index0_0 : ∀ t : Fin cfg0.N, win0_0.index t (0 : Fin 3) = 0 ∧ win0_0.index t (1 : Fin 3) = t.val ∧ win0_0.index t (2 : Fin 3) = 0 :=
  (by decide +kernel : ∀ t : Fin grid0.N, _)

/-- A block of window 0 of launch 0 is a chunk of its array. -/
theorem block0_0 (t : Fin cfg0.N) (X : (⟨S6x4096x128, .f32⟩ : BufTy).Contents (Elt F)) :
    ((cfg0.win 0).blk t).view.read (Elt F) X = chunk X (fwdChunk t) := by
  obtain ⟨e0, e1, e2⟩ := index0_0 t
  funext y
  show X (((cfg0.win 0).blk t).view.emb y) = X _
  congr 1
  funext a; apply Fin.ext
  match a with
  | ⟨0, _⟩ => show win0_0.index t (0 : Fin 3) * 6 + 1 * (y 0).val = (y 0).val; rw [e0]; omega
  | ⟨1, _⟩ => show win0_0.index t (1 : Fin 3) * 64 + 1 * (y 1).val = 64 * (t.val) + (y 1).val; rw [e1]; omega
  | ⟨2, _⟩ => show win0_0.index t (2 : Fin 3) * 128 + 1 * (y 2).val = (y 2).val; rw [e2]; omega

theorem index0_1 : ∀ t : Fin cfg0.N, win0_1.index t (0 : Fin 3) = 0 ∧ win0_1.index t (1 : Fin 3) = t.val ∧ win0_1.index t (2 : Fin 3) = 0 :=
  (by decide +kernel : ∀ t : Fin grid0.N, _)

/-- A block of window 1 of launch 0 is a chunk of its array. -/
theorem block0_1 (t : Fin cfg0.N) (X : (⟨S6x4096x128, .f32⟩ : BufTy).Contents (Elt F)) :
    ((cfg0.win 1).blk t).view.read (Elt F) X = chunk X (fwdChunk t) := by
  obtain ⟨e0, e1, e2⟩ := index0_1 t
  funext y
  show X (((cfg0.win 1).blk t).view.emb y) = X _
  congr 1
  funext a; apply Fin.ext
  match a with
  | ⟨0, _⟩ => show win0_1.index t (0 : Fin 3) * 6 + 1 * (y 0).val = (y 0).val; rw [e0]; omega
  | ⟨1, _⟩ => show win0_1.index t (1 : Fin 3) * 64 + 1 * (y 1).val = 64 * (t.val) + (y 1).val; rw [e1]; omega
  | ⟨2, _⟩ => show win0_1.index t (2 : Fin 3) * 128 + 1 * (y 2).val = (y 2).val; rw [e2]; omega

theorem index0_2 : ∀ t : Fin cfg0.N, win0_2.index t (0 : Fin 3) = 0 ∧ win0_2.index t (1 : Fin 3) = t.val ∧ win0_2.index t (2 : Fin 3) = 0 :=
  (by decide +kernel : ∀ t : Fin grid0.N, _)

/-- A block of window 2 of launch 0 is a chunk of its array. -/
theorem block0_2 (t : Fin cfg0.N) (X : (⟨S6x4096x64, .f32⟩ : BufTy).Contents (Elt F)) :
    ((cfg0.win 2).blk t).view.read (Elt F) X = chunk X (fwdChunk t) := by
  obtain ⟨e0, e1, e2⟩ := index0_2 t
  funext y
  show X (((cfg0.win 2).blk t).view.emb y) = X _
  congr 1
  funext a; apply Fin.ext
  match a with
  | ⟨0, _⟩ => show win0_2.index t (0 : Fin 3) * 6 + 1 * (y 0).val = (y 0).val; rw [e0]; omega
  | ⟨1, _⟩ => show win0_2.index t (1 : Fin 3) * 64 + 1 * (y 1).val = 64 * (t.val) + (y 1).val; rw [e1]; omega
  | ⟨2, _⟩ => show win0_2.index t (2 : Fin 3) * 64 + 1 * (y 2).val = (y 2).val; rw [e2]; omega

theorem index0_3 : ∀ t : Fin cfg0.N, win0_3.index t (0 : Fin 3) = 0 ∧ win0_3.index t (1 : Fin 3) = t.val ∧ win0_3.index t (2 : Fin 3) = 0 :=
  (by decide +kernel : ∀ t : Fin grid0.N, _)

/-- A block of window 3 of launch 0 is a chunk of its array. -/
theorem block0_3 (t : Fin cfg0.N) (X : (⟨S6x4096x128, .f32⟩ : BufTy).Contents (Elt F)) :
    ((cfg0.win 3).blk t).view.read (Elt F) X = chunk X (fwdChunk t) := by
  obtain ⟨e0, e1, e2⟩ := index0_3 t
  funext y
  show X (((cfg0.win 3).blk t).view.emb y) = X _
  congr 1
  funext a; apply Fin.ext
  match a with
  | ⟨0, _⟩ => show win0_3.index t (0 : Fin 3) * 6 + 1 * (y 0).val = (y 0).val; rw [e0]; omega
  | ⟨1, _⟩ => show win0_3.index t (1 : Fin 3) * 64 + 1 * (y 1).val = 64 * (t.val) + (y 1).val; rw [e1]; omega
  | ⟨2, _⟩ => show win0_3.index t (2 : Fin 3) * 128 + 1 * (y 2).val = (y 2).val; rw [e2]; omega

theorem index0_4 : ∀ t : Fin cfg0.N, win0_4.index t (0 : Fin 3) = 0 ∧ win0_4.index t (1 : Fin 3) = t.val ∧ win0_4.index t (2 : Fin 3) = 0 :=
  (by decide +kernel : ∀ t : Fin grid0.N, _)

/-- A block of window 4 of launch 0 is a chunk of its array. -/
theorem block0_4 (t : Fin cfg0.N) (X : (⟨S6x4096x128, .f32⟩ : BufTy).Contents (Elt F)) :
    ((cfg0.win 4).blk t).view.read (Elt F) X = chunk X (fwdChunk t) := by
  obtain ⟨e0, e1, e2⟩ := index0_4 t
  funext y
  show X (((cfg0.win 4).blk t).view.emb y) = X _
  congr 1
  funext a; apply Fin.ext
  match a with
  | ⟨0, _⟩ => show win0_4.index t (0 : Fin 3) * 6 + 1 * (y 0).val = (y 0).val; rw [e0]; omega
  | ⟨1, _⟩ => show win0_4.index t (1 : Fin 3) * 64 + 1 * (y 1).val = 64 * (t.val) + (y 1).val; rw [e1]; omega
  | ⟨2, _⟩ => show win0_4.index t (2 : Fin 3) * 128 + 1 * (y 2).val = (y 2).val; rw [e2]; omega

theorem index0_5 : ∀ t : Fin cfg0.N, win0_5.index t (0 : Fin 4) = 0 ∧ win0_5.index t (1 : Fin 4) = t.val ∧ win0_5.index t (2 : Fin 4) = 0 ∧ win0_5.index t (3 : Fin 4) = 0 :=
  (by decide +kernel : ∀ t : Fin grid0.N, _)

/-- A block of window 5 of launch 0 is a chunk of its array. -/
theorem block0_5 (t : Fin cfg0.N) (X : (⟨S6x64x1x128, .f32⟩ : BufTy).Contents (Elt F)) :
    ((cfg0.win 5).blk t).view.read (Elt F) X = chunkD X (fwdChunk t) := by
  obtain ⟨e0, e1, e2, e3⟩ := index0_5 t
  funext y
  show X (((cfg0.win 5).blk t).view.emb y) = X _
  congr 1
  funext a; apply Fin.ext
  match a with
  | ⟨0, _⟩ => show win0_5.index t (0 : Fin 4) * 6 + 1 * (y 0).val = (y 0).val; rw [e0]; omega
  | ⟨1, _⟩ => have hy : (y 1).val < 1 := (y 1).isLt; show win0_5.index t (1 : Fin 4) * 1 + 1 * (y 1).val = t.val; rw [e1]; omega
  | ⟨2, _⟩ => show win0_5.index t (2 : Fin 4) * 1 + 1 * (y 2).val = (y 2).val; rw [e2]; omega
  | ⟨3, _⟩ => show win0_5.index t (3 : Fin 4) * 128 + 1 * (y 3).val = (y 3).val; rw [e3]; omega

theorem index0_6 : ∀ t : Fin cfg0.N, win0_6.index t (0 : Fin 3) = 0 ∧ win0_6.index t (1 : Fin 3) = t.val ∧ win0_6.index t (2 : Fin 3) = 0 :=
  (by decide +kernel : ∀ t : Fin grid0.N, _)

/-- A block of window 6 of launch 0 is a chunk of its array. -/
theorem block0_6 (t : Fin cfg0.N) (X : (⟨S6x4096x128, .f32⟩ : BufTy).Contents (Elt F)) :
    ((cfg0.win 6).blk t).view.read (Elt F) X = chunk X (fwdChunk t) := by
  obtain ⟨e0, e1, e2⟩ := index0_6 t
  funext y
  show X (((cfg0.win 6).blk t).view.emb y) = X _
  congr 1
  funext a; apply Fin.ext
  match a with
  | ⟨0, _⟩ => show win0_6.index t (0 : Fin 3) * 6 + 1 * (y 0).val = (y 0).val; rw [e0]; omega
  | ⟨1, _⟩ => show win0_6.index t (1 : Fin 3) * 64 + 1 * (y 1).val = 64 * (t.val) + (y 1).val; rw [e1]; omega
  | ⟨2, _⟩ => show win0_6.index t (2 : Fin 3) * 128 + 1 * (y 2).val = (y 2).val; rw [e2]; omega

theorem index0_7 : ∀ t : Fin cfg0.N, win0_7.index t (0 : Fin 4) = t.val ∧ win0_7.index t (1 : Fin 4) = 0 ∧ win0_7.index t (2 : Fin 4) = 0 ∧ win0_7.index t (3 : Fin 4) = 0 :=
  (by decide +kernel : ∀ t : Fin grid0.N, _)

/-- A block of window 7 of launch 0 is a chunk of its array. -/
theorem block0_7 (t : Fin cfg0.N) (X : (⟨S64x6x128x128, .f32⟩ : BufTy).Contents (Elt F)) :
    ((cfg0.win 7).blk t).view.read (Elt F) X = chunkS X (fwdChunk t) := by
  obtain ⟨e0, e1, e2, e3⟩ := index0_7 t
  funext y
  show X (((cfg0.win 7).blk t).view.emb y) = X _
  congr 1
  funext a; apply Fin.ext
  match a with
  | ⟨0, _⟩ => have hy : (y 0).val < 1 := (y 0).isLt; show win0_7.index t (0 : Fin 4) * 1 + 1 * (y 0).val = t.val; rw [e0]; omega
  | ⟨1, _⟩ => show win0_7.index t (1 : Fin 4) * 6 + 1 * (y 1).val = (y 1).val; rw [e1]; omega
  | ⟨2, _⟩ => show win0_7.index t (2 : Fin 4) * 128 + 1 * (y 2).val = (y 2).val; rw [e2]; omega
  | ⟨3, _⟩ => show win0_7.index t (3 : Fin 4) * 128 + 1 * (y 3).val = (y 3).val; rw [e3]; omega

theorem index1_0 : ∀ t : Fin cfg1.N, win1_0.index t (0 : Fin 3) = 0 ∧ win1_0.index t (1 : Fin 3) = 63 - t.val ∧ win1_0.index t (2 : Fin 3) = 0 :=
  (by decide +kernel : ∀ t : Fin grid1.N, _)

/-- A block of window 0 of launch 1 is a chunk of its array. -/
theorem block1_0 (t : Fin cfg1.N) (X : (⟨S6x4096x128, .f32⟩ : BufTy).Contents (Elt F)) :
    ((cfg1.win 0).blk t).view.read (Elt F) X = chunk X (bwdChunk t) := by
  obtain ⟨e0, e1, e2⟩ := index1_0 t
  funext y
  show X (((cfg1.win 0).blk t).view.emb y) = X _
  congr 1
  funext a; apply Fin.ext
  match a with
  | ⟨0, _⟩ => show win1_0.index t (0 : Fin 3) * 6 + 1 * (y 0).val = (y 0).val; rw [e0]; omega
  | ⟨1, _⟩ => show win1_0.index t (1 : Fin 3) * 64 + 1 * (y 1).val = 64 * (63 - t.val) + (y 1).val; rw [e1]; omega
  | ⟨2, _⟩ => show win1_0.index t (2 : Fin 3) * 128 + 1 * (y 2).val = (y 2).val; rw [e2]; omega

theorem index1_1 : ∀ t : Fin cfg1.N, win1_1.index t (0 : Fin 4) = 63 - t.val ∧ win1_1.index t (1 : Fin 4) = 0 ∧ win1_1.index t (2 : Fin 4) = 0 ∧ win1_1.index t (3 : Fin 4) = 0 :=
  (by decide +kernel : ∀ t : Fin grid1.N, _)

/-- A block of window 1 of launch 1 is a chunk of its array. -/
theorem block1_1 (t : Fin cfg1.N) (X : (⟨S64x6x128x128, .f32⟩ : BufTy).Contents (Elt F)) :
    ((cfg1.win 1).blk t).view.read (Elt F) X = chunkS X (bwdChunk t) := by
  obtain ⟨e0, e1, e2, e3⟩ := index1_1 t
  funext y
  show X (((cfg1.win 1).blk t).view.emb y) = X _
  congr 1
  funext a; apply Fin.ext
  match a with
  | ⟨0, _⟩ => have hy : (y 0).val < 1 := (y 0).isLt; show win1_1.index t (0 : Fin 4) * 1 + 1 * (y 0).val = 63 - t.val; rw [e0]; omega
  | ⟨1, _⟩ => show win1_1.index t (1 : Fin 4) * 6 + 1 * (y 1).val = (y 1).val; rw [e1]; omega
  | ⟨2, _⟩ => show win1_1.index t (2 : Fin 4) * 128 + 1 * (y 2).val = (y 2).val; rw [e2]; omega
  | ⟨3, _⟩ => show win1_1.index t (3 : Fin 4) * 128 + 1 * (y 3).val = (y 3).val; rw [e3]; omega

theorem index1_2 : ∀ t : Fin cfg1.N, win1_2.index t (0 : Fin 3) = 0 ∧ win1_2.index t (1 : Fin 3) = 63 - t.val ∧ win1_2.index t (2 : Fin 3) = 0 :=
  (by decide +kernel : ∀ t : Fin grid1.N, _)

/-- A block of window 2 of launch 1 is a chunk of its array. -/
theorem block1_2 (t : Fin cfg1.N) (X : (⟨S6x4096x128, .f32⟩ : BufTy).Contents (Elt F)) :
    ((cfg1.win 2).blk t).view.read (Elt F) X = chunk X (bwdChunk t) := by
  obtain ⟨e0, e1, e2⟩ := index1_2 t
  funext y
  show X (((cfg1.win 2).blk t).view.emb y) = X _
  congr 1
  funext a; apply Fin.ext
  match a with
  | ⟨0, _⟩ => show win1_2.index t (0 : Fin 3) * 6 + 1 * (y 0).val = (y 0).val; rw [e0]; omega
  | ⟨1, _⟩ => show win1_2.index t (1 : Fin 3) * 64 + 1 * (y 1).val = 64 * (63 - t.val) + (y 1).val; rw [e1]; omega
  | ⟨2, _⟩ => show win1_2.index t (2 : Fin 3) * 128 + 1 * (y 2).val = (y 2).val; rw [e2]; omega

theorem index1_3 : ∀ t : Fin cfg1.N, win1_3.index t (0 : Fin 3) = 0 ∧ win1_3.index t (1 : Fin 3) = 63 - t.val ∧ win1_3.index t (2 : Fin 3) = 0 :=
  (by decide +kernel : ∀ t : Fin grid1.N, _)

/-- A block of window 3 of launch 1 is a chunk of its array. -/
theorem block1_3 (t : Fin cfg1.N) (X : (⟨S6x4096x128, .f32⟩ : BufTy).Contents (Elt F)) :
    ((cfg1.win 3).blk t).view.read (Elt F) X = chunk X (bwdChunk t) := by
  obtain ⟨e0, e1, e2⟩ := index1_3 t
  funext y
  show X (((cfg1.win 3).blk t).view.emb y) = X _
  congr 1
  funext a; apply Fin.ext
  match a with
  | ⟨0, _⟩ => show win1_3.index t (0 : Fin 3) * 6 + 1 * (y 0).val = (y 0).val; rw [e0]; omega
  | ⟨1, _⟩ => show win1_3.index t (1 : Fin 3) * 64 + 1 * (y 1).val = 64 * (63 - t.val) + (y 1).val; rw [e1]; omega
  | ⟨2, _⟩ => show win1_3.index t (2 : Fin 3) * 128 + 1 * (y 2).val = (y 2).val; rw [e2]; omega

theorem index1_4 : ∀ t : Fin cfg1.N, win1_4.index t (0 : Fin 3) = 0 ∧ win1_4.index t (1 : Fin 3) = 63 - t.val ∧ win1_4.index t (2 : Fin 3) = 0 :=
  (by decide +kernel : ∀ t : Fin grid1.N, _)

/-- A block of window 4 of launch 1 is a chunk of its array. -/
theorem block1_4 (t : Fin cfg1.N) (X : (⟨S6x4096x64, .f32⟩ : BufTy).Contents (Elt F)) :
    ((cfg1.win 4).blk t).view.read (Elt F) X = chunk X (bwdChunk t) := by
  obtain ⟨e0, e1, e2⟩ := index1_4 t
  funext y
  show X (((cfg1.win 4).blk t).view.emb y) = X _
  congr 1
  funext a; apply Fin.ext
  match a with
  | ⟨0, _⟩ => show win1_4.index t (0 : Fin 3) * 6 + 1 * (y 0).val = (y 0).val; rw [e0]; omega
  | ⟨1, _⟩ => show win1_4.index t (1 : Fin 3) * 64 + 1 * (y 1).val = 64 * (63 - t.val) + (y 1).val; rw [e1]; omega
  | ⟨2, _⟩ => show win1_4.index t (2 : Fin 3) * 64 + 1 * (y 2).val = (y 2).val; rw [e2]; omega

theorem index1_5 : ∀ t : Fin cfg1.N, win1_5.index t (0 : Fin 3) = 0 ∧ win1_5.index t (1 : Fin 3) = 63 - t.val ∧ win1_5.index t (2 : Fin 3) = 0 :=
  (by decide +kernel : ∀ t : Fin grid1.N, _)

/-- A block of window 5 of launch 1 is a chunk of its array. -/
theorem block1_5 (t : Fin cfg1.N) (X : (⟨S6x4096x128, .f32⟩ : BufTy).Contents (Elt F)) :
    ((cfg1.win 5).blk t).view.read (Elt F) X = chunk X (bwdChunk t) := by
  obtain ⟨e0, e1, e2⟩ := index1_5 t
  funext y
  show X (((cfg1.win 5).blk t).view.emb y) = X _
  congr 1
  funext a; apply Fin.ext
  match a with
  | ⟨0, _⟩ => show win1_5.index t (0 : Fin 3) * 6 + 1 * (y 0).val = (y 0).val; rw [e0]; omega
  | ⟨1, _⟩ => show win1_5.index t (1 : Fin 3) * 64 + 1 * (y 1).val = 64 * (63 - t.val) + (y 1).val; rw [e1]; omega
  | ⟨2, _⟩ => show win1_5.index t (2 : Fin 3) * 128 + 1 * (y 2).val = (y 2).val; rw [e2]; omega

theorem index1_6 : ∀ t : Fin cfg1.N, win1_6.index t (0 : Fin 3) = 0 ∧ win1_6.index t (1 : Fin 3) = 63 - t.val ∧ win1_6.index t (2 : Fin 3) = 0 :=
  (by decide +kernel : ∀ t : Fin grid1.N, _)

/-- A block of window 6 of launch 1 is a chunk of its array. -/
theorem block1_6 (t : Fin cfg1.N) (X : (⟨S6x4096x128, .f32⟩ : BufTy).Contents (Elt F)) :
    ((cfg1.win 6).blk t).view.read (Elt F) X = chunk X (bwdChunk t) := by
  obtain ⟨e0, e1, e2⟩ := index1_6 t
  funext y
  show X (((cfg1.win 6).blk t).view.emb y) = X _
  congr 1
  funext a; apply Fin.ext
  match a with
  | ⟨0, _⟩ => show win1_6.index t (0 : Fin 3) * 6 + 1 * (y 0).val = (y 0).val; rw [e0]; omega
  | ⟨1, _⟩ => show win1_6.index t (1 : Fin 3) * 64 + 1 * (y 1).val = 64 * (63 - t.val) + (y 1).val; rw [e1]; omega
  | ⟨2, _⟩ => show win1_6.index t (2 : Fin 3) * 128 + 1 * (y 2).val = (y 2).val; rw [e2]; omega

theorem index1_7 : ∀ t : Fin cfg1.N, win1_7.index t (0 : Fin 4) = 0 ∧ win1_7.index t (1 : Fin 4) = 63 - t.val ∧ win1_7.index t (2 : Fin 4) = 0 ∧ win1_7.index t (3 : Fin 4) = 0 :=
  (by decide +kernel : ∀ t : Fin grid1.N, _)

/-- A block of window 7 of launch 1 is a chunk of its array. -/
theorem block1_7 (t : Fin cfg1.N) (X : (⟨S6x64x1x128, .f32⟩ : BufTy).Contents (Elt F)) :
    ((cfg1.win 7).blk t).view.read (Elt F) X = chunkD X (bwdChunk t) := by
  obtain ⟨e0, e1, e2, e3⟩ := index1_7 t
  funext y
  show X (((cfg1.win 7).blk t).view.emb y) = X _
  congr 1
  funext a; apply Fin.ext
  match a with
  | ⟨0, _⟩ => show win1_7.index t (0 : Fin 4) * 6 + 1 * (y 0).val = (y 0).val; rw [e0]; omega
  | ⟨1, _⟩ => have hy : (y 1).val < 1 := (y 1).isLt; show win1_7.index t (1 : Fin 4) * 1 + 1 * (y 1).val = 63 - t.val; rw [e1]; omega
  | ⟨2, _⟩ => show win1_7.index t (2 : Fin 4) * 1 + 1 * (y 2).val = (y 2).val; rw [e2]; omega
  | ⟨3, _⟩ => show win1_7.index t (3 : Fin 4) * 128 + 1 * (y 3).val = (y 3).val; rw [e3]; omega

theorem index1_8 : ∀ t : Fin cfg1.N, win1_8.index t (0 : Fin 3) = 0 ∧ win1_8.index t (1 : Fin 3) = 63 - t.val ∧ win1_8.index t (2 : Fin 3) = 0 :=
  (by decide +kernel : ∀ t : Fin grid1.N, _)

/-- A block of window 8 of launch 1 is a chunk of its array. -/
theorem block1_8 (t : Fin cfg1.N) (X : (⟨S6x4096x128, .f32⟩ : BufTy).Contents (Elt F)) :
    ((cfg1.win 8).blk t).view.read (Elt F) X = chunk X (bwdChunk t) := by
  obtain ⟨e0, e1, e2⟩ := index1_8 t
  funext y
  show X (((cfg1.win 8).blk t).view.emb y) = X _
  congr 1
  funext a; apply Fin.ext
  match a with
  | ⟨0, _⟩ => show win1_8.index t (0 : Fin 3) * 6 + 1 * (y 0).val = (y 0).val; rw [e0]; omega
  | ⟨1, _⟩ => show win1_8.index t (1 : Fin 3) * 64 + 1 * (y 1).val = 64 * (63 - t.val) + (y 1).val; rw [e1]; omega
  | ⟨2, _⟩ => show win1_8.index t (2 : Fin 3) * 128 + 1 * (y 2).val = (y 2).val; rw [e2]; omega

theorem index1_9 : ∀ t : Fin cfg1.N, win1_9.index t (0 : Fin 3) = 0 ∧ win1_9.index t (1 : Fin 3) = 63 - t.val ∧ win1_9.index t (2 : Fin 3) = 0 :=
  (by decide +kernel : ∀ t : Fin grid1.N, _)

/-- A block of window 9 of launch 1 is a chunk of its array. -/
theorem block1_9 (t : Fin cfg1.N) (X : (⟨S6x4096x128, .f32⟩ : BufTy).Contents (Elt F)) :
    ((cfg1.win 9).blk t).view.read (Elt F) X = chunk X (bwdChunk t) := by
  obtain ⟨e0, e1, e2⟩ := index1_9 t
  funext y
  show X (((cfg1.win 9).blk t).view.emb y) = X _
  congr 1
  funext a; apply Fin.ext
  match a with
  | ⟨0, _⟩ => show win1_9.index t (0 : Fin 3) * 6 + 1 * (y 0).val = (y 0).val; rw [e0]; omega
  | ⟨1, _⟩ => show win1_9.index t (1 : Fin 3) * 64 + 1 * (y 1).val = 64 * (63 - t.val) + (y 1).val; rw [e1]; omega
  | ⟨2, _⟩ => show win1_9.index t (2 : Fin 3) * 128 + 1 * (y 2).val = (y 2).val; rw [e2]; omega

theorem index1_10 : ∀ t : Fin cfg1.N, win1_10.index t (0 : Fin 3) = 0 ∧ win1_10.index t (1 : Fin 3) = 63 - t.val ∧ win1_10.index t (2 : Fin 3) = 0 :=
  (by decide +kernel : ∀ t : Fin grid1.N, _)

/-- A block of window 10 of launch 1 is a chunk of its array. -/
theorem block1_10 (t : Fin cfg1.N) (X : (⟨S6x4096x64, .f32⟩ : BufTy).Contents (Elt F)) :
    ((cfg1.win 10).blk t).view.read (Elt F) X = chunk X (bwdChunk t) := by
  obtain ⟨e0, e1, e2⟩ := index1_10 t
  funext y
  show X (((cfg1.win 10).blk t).view.emb y) = X _
  congr 1
  funext a; apply Fin.ext
  match a with
  | ⟨0, _⟩ => show win1_10.index t (0 : Fin 3) * 6 + 1 * (y 0).val = (y 0).val; rw [e0]; omega
  | ⟨1, _⟩ => show win1_10.index t (1 : Fin 3) * 64 + 1 * (y 1).val = 64 * (63 - t.val) + (y 1).val; rw [e1]; omega
  | ⟨2, _⟩ => show win1_10.index t (2 : Fin 3) * 64 + 1 * (y 2).val = (y 2).val; rw [e2]; omega

theorem index1_11 : ∀ t : Fin cfg1.N, win1_11.index t (0 : Fin 3) = 0 ∧ win1_11.index t (1 : Fin 3) = 63 - t.val ∧ win1_11.index t (2 : Fin 3) = 0 :=
  (by decide +kernel : ∀ t : Fin grid1.N, _)

/-- A block of window 11 of launch 1 is a chunk of its array. -/
theorem block1_11 (t : Fin cfg1.N) (X : (⟨S6x4096x128, .f32⟩ : BufTy).Contents (Elt F)) :
    ((cfg1.win 11).blk t).view.read (Elt F) X = chunk X (bwdChunk t) := by
  obtain ⟨e0, e1, e2⟩ := index1_11 t
  funext y
  show X (((cfg1.win 11).blk t).view.emb y) = X _
  congr 1
  funext a; apply Fin.ext
  match a with
  | ⟨0, _⟩ => show win1_11.index t (0 : Fin 3) * 6 + 1 * (y 0).val = (y 0).val; rw [e0]; omega
  | ⟨1, _⟩ => show win1_11.index t (1 : Fin 3) * 64 + 1 * (y 1).val = 64 * (63 - t.val) + (y 1).val; rw [e1]; omega
  | ⟨2, _⟩ => show win1_11.index t (2 : Fin 3) * 128 + 1 * (y 2).val = (y 2).val; rw [e2]; omega

theorem index1_12 : ∀ t : Fin cfg1.N, win1_12.index t (0 : Fin 3) = 0 ∧ win1_12.index t (1 : Fin 3) = 63 - t.val ∧ win1_12.index t (2 : Fin 3) = 0 :=
  (by decide +kernel : ∀ t : Fin grid1.N, _)

/-- A block of window 12 of launch 1 is a chunk of its array. -/
theorem block1_12 (t : Fin cfg1.N) (X : (⟨S6x4096x128, .f32⟩ : BufTy).Contents (Elt F)) :
    ((cfg1.win 12).blk t).view.read (Elt F) X = chunk X (bwdChunk t) := by
  obtain ⟨e0, e1, e2⟩ := index1_12 t
  funext y
  show X (((cfg1.win 12).blk t).view.emb y) = X _
  congr 1
  funext a; apply Fin.ext
  match a with
  | ⟨0, _⟩ => show win1_12.index t (0 : Fin 3) * 6 + 1 * (y 0).val = (y 0).val; rw [e0]; omega
  | ⟨1, _⟩ => show win1_12.index t (1 : Fin 3) * 64 + 1 * (y 1).val = 64 * (63 - t.val) + (y 1).val; rw [e1]; omega
  | ⟨2, _⟩ => show win1_12.index t (2 : Fin 3) * 128 + 1 * (y 2).val = (y 2).val; rw [e2]; omega

theorem index1_13 : ∀ t : Fin cfg1.N, win1_13.index t (0 : Fin 4) = 0 ∧ win1_13.index t (1 : Fin 4) = 63 - t.val ∧ win1_13.index t (2 : Fin 4) = 0 ∧ win1_13.index t (3 : Fin 4) = 0 :=
  (by decide +kernel : ∀ t : Fin grid1.N, _)

/-- A block of window 13 of launch 1 is a chunk of its array. -/
theorem block1_13 (t : Fin cfg1.N) (X : (⟨S6x64x1x128, .f32⟩ : BufTy).Contents (Elt F)) :
    ((cfg1.win 13).blk t).view.read (Elt F) X = chunkD X (bwdChunk t) := by
  obtain ⟨e0, e1, e2, e3⟩ := index1_13 t
  funext y
  show X (((cfg1.win 13).blk t).view.emb y) = X _
  congr 1
  funext a; apply Fin.ext
  match a with
  | ⟨0, _⟩ => show win1_13.index t (0 : Fin 4) * 6 + 1 * (y 0).val = (y 0).val; rw [e0]; omega
  | ⟨1, _⟩ => have hy : (y 1).val < 1 := (y 1).isLt; show win1_13.index t (1 : Fin 4) * 1 + 1 * (y 1).val = 63 - t.val; rw [e1]; omega
  | ⟨2, _⟩ => show win1_13.index t (2 : Fin 4) * 1 + 1 * (y 2).val = (y 2).val; rw [e2]; omega
  | ⟨3, _⟩ => show win1_13.index t (3 : Fin 4) * 128 + 1 * (y 3).val = (y 3).val; rw [e3]; omega

theorem apart0_7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne ((by decide +kernel : ∀ t t' : Fin grid0.N, win0_7.index t = win0_7.index t' → t = t') t t' h)

/-- A chunk of output window 7 of launch 0 after it is what the body stored at the chunk's point. -/
theorem stored0_7 (V : Valuation τ sig (Elt F)) (c : Dev nD) (t : Fin cfg0.N) :
    chunkS ((dat0 V c).arrAt 7 cfg0.N) (fwdChunk t) = (dat0 V c).after 7 t := by
  refine (block0_7 t _).symm.trans (((dat0 V c).read_blk_arrAt_eq_flushed 7 apart0_7 cfg0.N t t.isLt (flush0_7 t)).trans ?_)
  rfl

theorem apart1_8 : ∀ t t' : Fin cfg1.N, (cfg1.win 8).flush t = true → (cfg1.win 8).flush t' = true → t ≠ t' →
    Disjoint ((cfg1.win 8).blk t).view.set ((cfg1.win 8).blk t').view.set :=
  fun t t' _ _ hne => (cfg1.win 8).disjoint_blk fun h => hne ((by decide +kernel : ∀ t t' : Fin grid1.N, win1_8.index t = win1_8.index t' → t = t') t t' h)

/-- A chunk of output window 8 of launch 1 after it is what the body stored at the chunk's point. -/
theorem stored1_8 (V : Valuation τ sig (Elt F)) (c : Dev nD) (t : Fin cfg1.N) :
    chunk ((dat1 V c).arrAt 8 cfg1.N) (bwdChunk t) = (dat1 V c).after 8 t := by
  refine (block1_8 t _).symm.trans (((dat1 V c).read_blk_arrAt_eq_flushed 8 apart1_8 cfg1.N t t.isLt (flush1_8 t)).trans ?_)
  rfl

theorem apart1_9 : ∀ t t' : Fin cfg1.N, (cfg1.win 9).flush t = true → (cfg1.win 9).flush t' = true → t ≠ t' →
    Disjoint ((cfg1.win 9).blk t).view.set ((cfg1.win 9).blk t').view.set :=
  fun t t' _ _ hne => (cfg1.win 9).disjoint_blk fun h => hne ((by decide +kernel : ∀ t t' : Fin grid1.N, win1_9.index t = win1_9.index t' → t = t') t t' h)

/-- A chunk of output window 9 of launch 1 after it is what the body stored at the chunk's point. -/
theorem stored1_9 (V : Valuation τ sig (Elt F)) (c : Dev nD) (t : Fin cfg1.N) :
    chunk ((dat1 V c).arrAt 9 cfg1.N) (bwdChunk t) = (dat1 V c).after 9 t := by
  refine (block1_9 t _).symm.trans (((dat1 V c).read_blk_arrAt_eq_flushed 9 apart1_9 cfg1.N t t.isLt (flush1_9 t)).trans ?_)
  rfl

theorem apart1_10 : ∀ t t' : Fin cfg1.N, (cfg1.win 10).flush t = true → (cfg1.win 10).flush t' = true → t ≠ t' →
    Disjoint ((cfg1.win 10).blk t).view.set ((cfg1.win 10).blk t').view.set :=
  fun t t' _ _ hne => (cfg1.win 10).disjoint_blk fun h => hne ((by decide +kernel : ∀ t t' : Fin grid1.N, win1_10.index t = win1_10.index t' → t = t') t t' h)

/-- A chunk of output window 10 of launch 1 after it is what the body stored at the chunk's point. -/
theorem stored1_10 (V : Valuation τ sig (Elt F)) (c : Dev nD) (t : Fin cfg1.N) :
    chunk ((dat1 V c).arrAt 10 cfg1.N) (bwdChunk t) = (dat1 V c).after 10 t := by
  refine (block1_10 t _).symm.trans (((dat1 V c).read_blk_arrAt_eq_flushed 10 apart1_10 cfg1.N t t.isLt (flush1_10 t)).trans ?_)
  rfl

theorem apart1_11 : ∀ t t' : Fin cfg1.N, (cfg1.win 11).flush t = true → (cfg1.win 11).flush t' = true → t ≠ t' →
    Disjoint ((cfg1.win 11).blk t).view.set ((cfg1.win 11).blk t').view.set :=
  fun t t' _ _ hne => (cfg1.win 11).disjoint_blk fun h => hne ((by decide +kernel : ∀ t t' : Fin grid1.N, win1_11.index t = win1_11.index t' → t = t') t t' h)

/-- A chunk of output window 11 of launch 1 after it is what the body stored at the chunk's point. -/
theorem stored1_11 (V : Valuation τ sig (Elt F)) (c : Dev nD) (t : Fin cfg1.N) :
    chunk ((dat1 V c).arrAt 11 cfg1.N) (bwdChunk t) = (dat1 V c).after 11 t := by
  refine (block1_11 t _).symm.trans (((dat1 V c).read_blk_arrAt_eq_flushed 11 apart1_11 cfg1.N t t.isLt (flush1_11 t)).trans ?_)
  rfl

theorem apart1_12 : ∀ t t' : Fin cfg1.N, (cfg1.win 12).flush t = true → (cfg1.win 12).flush t' = true → t ≠ t' →
    Disjoint ((cfg1.win 12).blk t).view.set ((cfg1.win 12).blk t').view.set :=
  fun t t' _ _ hne => (cfg1.win 12).disjoint_blk fun h => hne ((by decide +kernel : ∀ t t' : Fin grid1.N, win1_12.index t = win1_12.index t' → t = t') t t' h)

/-- A chunk of output window 12 of launch 1 after it is what the body stored at the chunk's point. -/
theorem stored1_12 (V : Valuation τ sig (Elt F)) (c : Dev nD) (t : Fin cfg1.N) :
    chunk ((dat1 V c).arrAt 12 cfg1.N) (bwdChunk t) = (dat1 V c).after 12 t := by
  refine (block1_12 t _).symm.trans (((dat1 V c).read_blk_arrAt_eq_flushed 12 apart1_12 cfg1.N t t.isLt (flush1_12 t)).trans ?_)
  rfl

theorem apart1_13 : ∀ t t' : Fin cfg1.N, (cfg1.win 13).flush t = true → (cfg1.win 13).flush t' = true → t ≠ t' →
    Disjoint ((cfg1.win 13).blk t).view.set ((cfg1.win 13).blk t').view.set :=
  fun t t' _ _ hne => (cfg1.win 13).disjoint_blk fun h => hne ((by decide +kernel : ∀ t t' : Fin grid1.N, win1_13.index t = win1_13.index t' → t = t') t t' h)

/-- A chunk of output window 13 of launch 1 after it is what the body stored at the chunk's point. -/
theorem stored1_13 (V : Valuation τ sig (Elt F)) (c : Dev nD) (t : Fin cfg1.N) :
    chunkD ((dat1 V c).arrAt 13 cfg1.N) (bwdChunk t) = (dat1 V c).after 13 t := by
  refine (block1_13 t _).symm.trans (((dat1 V c).read_blk_arrAt_eq_flushed 13 apart1_13 cfg1.N t t.isLt (flush1_13 t)).trans ?_)
  rfl

end Cert.Proof

end
-- ==== Proof.RefValue.lean ====
/-
  The gradients the reference returns, by chunks, as functions of its arguments: at every chunk, the formulas of one backward
  step at the state before the chunk and at the gradient of the state after it.
-/
module

public import proofs.«01_k».proof.Proof.RefLoops
public import proofs.«01_k».proof.Proof.KernelValue

@[expose] public section

noncomputable section

namespace Cert.Proof.Ref

open Cert.ReferenceIdeal Cert.ReferenceIdeal.Gen
open Idealize.ShloMosaic Idealize.ShloMosaic.TcCoe Idealize.ShloMosaic.StableHlo
open Idealize.SL Idealize.SL.RA

variable {F : FTy → Type} [FloatOps F]

set_option maxRecDepth 16384

/-- Chunk `n`'s decays, one per head: the first column of the array's row. -/
def headD (x : FVec F S6x64x1x128 .f32) (n : Fin 64) : FVec F S6x1x1 .f32 := fun i => x (ix4 (i 0) n 0 0)

/-- An array cut into its chunks is the stack of them, -/
theorem stackC (x : FVec F S6x4096x128 .f32) (n : Fin 64) :
    member (a := 6) (b := 64) (c := 128) (transpose S64x6x64x128 [1, 0, 2, 3] (shapeCast S6x64x64x128 x shapeCasts_S6x4096x128_S6x64x64x128) transposes_S6x64x64x128_S64x6x64x128_1_0_2_3) n = chunk x n := by
  funext i
  unfold member chunk
  pointwise
  refine congrArg x (funext fun q => Fin.ext ?_)
  match q with
  | ⟨0, _⟩ => rfl
  | ⟨1, _⟩ => show n.val * 64 + (i 1).val = 64 * n.val + (i 1).val; omega
  | ⟨2, _⟩ => rfl

theorem stackA (x : FVec F S6x4096x64 .f32) (n : Fin 64) :
    member (a := 6) (b := 64) (c := 64) (transpose S64x6x64x64 [1, 0, 2, 3] (shapeCast S6x64x64x64 x shapeCasts_S6x4096x64_S6x64x64x64) transposes_S6x64x64x64_S64x6x64x64_1_0_2_3) n = chunk x n := by
  funext i
  unfold member chunk
  pointwise
  refine congrArg x (funext fun q => Fin.ext ?_)
  match q with
  | ⟨0, _⟩ => rfl
  | ⟨1, _⟩ => show n.val * 64 + (i 1).val = 64 * n.val + (i 1).val; omega
  | ⟨2, _⟩ => rfl

theorem stackD (x : FVec F S6x64x1x128 .f32) (n : Fin 64) :
    perHead (rowD (transpose S64x6 [1, 0] (shapeCast S6x64 (extractStridedSlice S6x64x1x1 ![0, 0, 0, 0] x slices_S6x64x1x128_S6x64x1x1_0_0_0_0) shapeCasts_S6x64x1x1_S6x64) transposes_S6x64_S64x6_1_0) n) = headD x n := by
  funext i
  unfold perHead rowD headD
  pointwise

/-- and a stack of chunks joined is the array of them. -/
theorem unstackC (y : FVec F S64x6x64x128 .f32) (n : Fin 64) :
    chunk (shapeCast S6x4096x128 (transpose S6x64x64x128 [1, 0, 2, 3] y transposes_S64x6x64x128_S6x64x64x128_1_0_2_3) shapeCasts_S6x64x64x128_S6x4096x128) n = member (a := 6) (b := 64) (c := 128) y n := by
  funext i
  unfold member chunk row
  pointwise

theorem unstackA (y : FVec F S64x6x64x64 .f32) (n : Fin 64) :
    chunk (shapeCast S6x4096x64 (transpose S6x64x64x64 [1, 0, 2, 3] y transposes_S64x6x64x64_S6x64x64x64_1_0_2_3) shapeCasts_S6x64x64x64_S6x4096x64) n = member (a := 6) (b := 64) (c := 64) y n := by
  funext i
  unfold member chunk row
  pointwise

/-- The state both scans start from. -/
def zeros : FVec F S6x128x128 .f32 := broadcastInDim S6x128x128 ![] bcast_S_S6x128x128 (constant S_ .f32 0x00000000#32)

/-- The state before chunk `n`, of the arrays. -/
abbrev specS (u w kt : FVec F S6x4096x128 .f32) (dec : FVec F S6x64x1x128 .f32) (n : ℕ) : FVec F S6x128x128 .f32 :=
  stateAt zeros (headD dec) (fun n => chunk kt n) (fun n => chunk u n) (fun n => chunk w n) n

/-- The corrected values of chunk `n`, of the arrays. -/
abbrev specV (u w kt : FVec F S6x4096x128 .f32) (dec : FVec F S6x64x1x128 .f32) (n : Fin 64) : FVec F S6x64x128 .f32 :=
  fwdNew (specS u w kt dec n.val) (chunk u n) (chunk w n)

/-- The gradient of the state `t` chunks before the end, of the arrays. -/
abbrev specG (o w : FVec F S6x4096x128 .f32) (a : FVec F S6x4096x64 .f32) (qd kt : FVec F S6x4096x128 .f32) (dec : FVec F S6x64x1x128 .f32) (t : ℕ) :
    FVec F S6x128x128 .f32 :=
  gradAt zeros (headD dec) (fun n => chunk o n) (fun n => chunk kt n) (fun n => chunk qd n) (fun n => chunk w n) (fun n => chunk a n) t

variable (m : (ℓ : Loc nD τ sig) → Buf (Elt F) ℓ) (c : Dev nD)

/-- The arguments: cotangents, inputs, weights, intra-chunk weights, queries, keys, decays. -/
abbrev A0 : FVec F S6x4096x128 .f32 := m ((c.tc : Thread nD τ).loc main_arg0)
abbrev A1 : FVec F S6x4096x128 .f32 := m ((c.tc : Thread nD τ).loc main_arg1)
abbrev A2 : FVec F S6x4096x128 .f32 := m ((c.tc : Thread nD τ).loc main_arg2)
abbrev A3 : FVec F S6x4096x64 .f32 := m ((c.tc : Thread nD τ).loc main_arg3)
abbrev A4 : FVec F S6x4096x128 .f32 := m ((c.tc : Thread nD τ).loc main_arg4)
abbrev A5 : FVec F S6x4096x128 .f32 := m ((c.tc : Thread nD τ).loc main_arg5)
abbrev A6 : FVec F S6x64x1x128 .f32 := m ((c.tc : Thread nD τ).loc main_arg6)

/-- What the first loop finds: -/
theorem in0_kt (n : Fin 64) : kt0 (in0 m) c n = chunk (A5 m c) n := by
  refine Eq.trans ?_ (stackC _ n)
  simp only [kt0, u0, w0, dc0, in0, afterL_cons, afterL_nil]
  after_reads_simp
  rfl

theorem in0_u (n : Fin 64) : u0 (in0 m) c n = chunk (A1 m c) n := by
  refine Eq.trans ?_ (stackC _ n)
  simp only [kt0, u0, w0, dc0, in0, afterL_cons, afterL_nil]
  after_reads_simp
  rfl

theorem in0_w (n : Fin 64) : w0 (in0 m) c n = chunk (A2 m c) n := by
  refine Eq.trans ?_ (stackC _ n)
  simp only [kt0, u0, w0, dc0, in0, afterL_cons, afterL_nil]
  after_reads_simp
  rfl

theorem in0_dec (n : Fin 64) : dc0 (in0 m) c n = headD (A6 m c) n := by
  refine Eq.trans ?_ (stackD _ n)
  simp only [kt0, u0, w0, dc0, in0, afterL_cons, afterL_nil]
  after_reads_simp
  rfl

theorem in0_q (n : Fin 64) : member (a := 6) (b := 64) (c := 128) (in0 m c (Proc.devRef .tc main_v7)) n = chunk (A4 m c) n := by
  refine Eq.trans ?_ (stackC _ n)
  simp only [in0, afterL_cons, afterL_nil]
  after_reads_simp
  rfl

theorem in0_kt' (n : Fin 64) : member (a := 6) (b := 64) (c := 128) (in0 m c (Proc.devRef .tc main_v8)) n = chunk (A5 m c) n := by
  refine Eq.trans ?_ (stackC _ n)
  simp only [in0, afterL_cons, afterL_nil]
  after_reads_simp
  rfl

theorem in0_w' (n : Fin 64) : member (a := 6) (b := 64) (c := 128) (in0 m c (Proc.devRef .tc main_v10)) n = chunk (A2 m c) n := by
  refine Eq.trans ?_ (stackC _ n)
  simp only [in0, afterL_cons, afterL_nil]
  after_reads_simp
  rfl

theorem in0_a (n : Fin 64) : member (a := 6) (b := 64) (c := 64) (in0 m c (Proc.devRef .tc main_v11)) n = chunk (A3 m c) n := by
  refine Eq.trans ?_ (stackA _ n)
  simp only [in0, afterL_cons, afterL_nil]
  after_reads_simp
  rfl

theorem in0_zero : in0 m c (Proc.devRef .tc main_v18_7) = (zeros : FVec F S6x128x128 .f32) := by
  simp only [in0, afterL_cons, afterL_nil]
  after_reads_simp
  rfl

/-- the states it goes through: -/
theorem S0_eq (n : ℕ) : S0 (in0 m) c n = specS (A1 m c) (A2 m c) (A5 m c) (A6 m c) n := by
  unfold S0 specS
  rw [in0_zero, funext (in0_dec m c), funext (in0_kt m c), funext (in0_u m c), funext (in0_w m c)]

/-- and what it has saved. -/
theorem saved (n : Fin 64) :
    member (a := 6) (b := 128) (c := 128) (at0 (in0 m) 64 c (Proc.devRef .tc main_v18_9)) n = specS (A1 m c) (A2 m c) (A5 m c) (A6 m c) n.val
    ∧ member (a := 6) (b := 64) (c := 128) (at0 (in0 m) 64 c (Proc.devRef .tc main_v18_10)) n = specV (A1 m c) (A2 m c) (A5 m c) (A6 m c) n
    ∧ member (a := 6) (b := 1) (c := 1) (at0 (in0 m) 64 c (Proc.devRef .tc main_v18_11)) n = headD (A6 m c) n := by
  have h := (loop0 (in0 m) c (in0_ctr m) 64 le_rfl).2 n n.isLt
  rwa [S0_eq, in0_u, in0_w, in0_dec] at h

/-- A buffer that the first loop and its test leave alone. -/
theorem between (r : Ref sig .tc) (h : r ∉ [main_while0c_c_25, main_while0c_v45]) :
    after test0 (at0 (in0 m) 64 c) (Proc.devRef .tc r) = at0 (in0 m) 64 c (Proc.devRef .tc r) := test0_keep _ r h

/-- What the second loop finds: -/
theorem in1_o (n : Fin 64) : o1 (in1 m) c n = chunk (A0 m c) n := by
  refine Eq.trans ?_ (stackC _ n)
  have k := (between m c main_arg0 (by decide)).trans ((at0_keep (in0 m) c main_arg0 (by decide) (by decide) 64).trans (pre_keep (launchContents m c) main_arg0 (by decide)))
  rw [show A0 m c = _ from k.symm]
  simp only [o1, in1, afterL_cons, afterL_nil]
  generalize after test0 (at0 (in0 m) 64 c) = V
  after_reads_simp
  rfl

theorem in1_s_read : in1 m c (Proc.devRef .tc main_v31_1) = at0 (in0 m) 64 c (Proc.devRef .tc main_v18_9) := by
  refine Eq.trans ?_ (between m c main_v18_9 (by decide))
  simp only [in1, afterL_cons, afterL_nil]
  generalize after test0 (at0 (in0 m) 64 c) = V
  after_reads_simp
  rfl

theorem in1_w_read : in1 m c (Proc.devRef .tc main_v31_2) = at0 (in0 m) 64 c (Proc.devRef .tc main_v10) := by
  refine Eq.trans ?_ (between m c main_v10 (by decide))
  simp only [in1, afterL_cons, afterL_nil]
  generalize after test0 (at0 (in0 m) 64 c) = V
  after_reads_simp
  rfl

theorem in1_q_read : in1 m c (Proc.devRef .tc main_v31_3) = at0 (in0 m) 64 c (Proc.devRef .tc main_v7) := by
  refine Eq.trans ?_ (between m c main_v7 (by decide))
  simp only [in1, afterL_cons, afterL_nil]
  generalize after test0 (at0 (in0 m) 64 c) = V
  after_reads_simp
  rfl

theorem in1_v_read : in1 m c (Proc.devRef .tc main_v31_4) = at0 (in0 m) 64 c (Proc.devRef .tc main_v18_10) := by
  refine Eq.trans ?_ (between m c main_v18_10 (by decide))
  simp only [in1, afterL_cons, afterL_nil]
  generalize after test0 (at0 (in0 m) 64 c) = V
  after_reads_simp
  rfl

theorem in1_a_read : in1 m c (Proc.devRef .tc main_v31_5) = at0 (in0 m) 64 c (Proc.devRef .tc main_v11) := by
  refine Eq.trans ?_ (between m c main_v11 (by decide))
  simp only [in1, afterL_cons, afterL_nil]
  generalize after test0 (at0 (in0 m) 64 c) = V
  after_reads_simp
  rfl

theorem in1_dc_read : in1 m c (Proc.devRef .tc main_v31_6) = at0 (in0 m) 64 c (Proc.devRef .tc main_v18_11) := by
  refine Eq.trans ?_ (between m c main_v18_11 (by decide))
  simp only [in1, afterL_cons, afterL_nil]
  generalize after test0 (at0 (in0 m) 64 c) = V
  after_reads_simp
  rfl

theorem in1_kt_read : in1 m c (Proc.devRef .tc main_v31_7) = at0 (in0 m) 64 c (Proc.devRef .tc main_v8) := by
  refine Eq.trans ?_ (between m c main_v8 (by decide))
  simp only [in1, afterL_cons, afterL_nil]
  generalize after test0 (at0 (in0 m) 64 c) = V
  after_reads_simp
  rfl

theorem in1_w (n : Fin 64) : w1 (in1 m) c n = chunk (A2 m c) n := by
  unfold w1
  rw [in1_w_read, at0_keep (in0 m) c main_v10 (by decide) (by decide) 64]
  exact in0_w' m c n

theorem in1_q (n : Fin 64) : q1 (in1 m) c n = chunk (A4 m c) n := by
  unfold q1
  rw [in1_q_read, at0_keep (in0 m) c main_v7 (by decide) (by decide) 64]
  exact in0_q m c n

theorem in1_a (n : Fin 64) : a1 (in1 m) c n = chunk (A3 m c) n := by
  unfold a1
  rw [in1_a_read, at0_keep (in0 m) c main_v11 (by decide) (by decide) 64]
  exact in0_a m c n

theorem in1_kt (n : Fin 64) : kt1 (in1 m) c n = chunk (A5 m c) n := by
  unfold kt1
  rw [in1_kt_read, at0_keep (in0 m) c main_v8 (by decide) (by decide) 64]
  exact in0_kt' m c n

theorem in1_s (n : Fin 64) : s1 (in1 m) c n = specS (A1 m c) (A2 m c) (A5 m c) (A6 m c) n.val := by
  unfold s1
  rw [in1_s_read]
  exact (saved m c n).1

theorem in1_v (n : Fin 64) : v1 (in1 m) c n = specV (A1 m c) (A2 m c) (A5 m c) (A6 m c) n := by
  unfold v1
  rw [in1_v_read]
  exact (saved m c n).2.1

theorem in1_dc (n : Fin 64) : dc1 (in1 m) c n = headD (A6 m c) n := by
  unfold dc1
  rw [in1_dc_read]
  exact (saved m c n).2.2

theorem in1_zero : in1 m c (Proc.devRef .tc main_v31_9) = (zeros : FVec F S6x128x128 .f32) := by
  simp only [in1, afterL_cons, afterL_nil]
  generalize after test0 (at0 (in0 m) 64 c) = V
  after_reads_simp
  rfl

/-- The gradients of the state it goes through, of the arguments. -/
abbrev refG (t : ℕ) : FVec F S6x128x128 .f32 := specG (A0 m c) (A2 m c) (A3 m c) (A4 m c) (A5 m c) (A6 m c) t

theorem G1_eq (t : ℕ) : G1 (in1 m) c t = refG m c t := by
  unfold G1 refG specG
  rw [in1_zero, funext (in1_dc m c), funext (in1_o m c), funext (in1_kt m c), funext (in1_q m c), funext (in1_w m c), funext (in1_a m c)]

/-- The gradient of chunk `n`'s inputs, of the arguments. -/
abbrev refU (n : Fin 64) : FVec F S6x64x128 .f32 := bwdU (refG m c (63 - n.val)) (chunk (A0 m c) n) (chunk (A3 m c) n) (chunk (A5 m c) n)

/-- What the second loop leaves at a chunk. -/
theorem left (n : Fin 64) :
    member (a := 6) (b := 64) (c := 128) (at1 (in1 m) 64 c (Proc.devRef .tc main_v31_10)) n = bwdQ (chunk (A0 m c) n) (specS (A1 m c) (A2 m c) (A5 m c) (A6 m c) n.val)
    ∧ member (a := 6) (b := 64) (c := 128) (at1 (in1 m) 64 c (Proc.devRef .tc main_v31_11)) n = bwdK (refG m c (63 - n.val)) (specV (A1 m c) (A2 m c) (A5 m c) (A6 m c) n)
    ∧ member (a := 6) (b := 64) (c := 128) (at1 (in1 m) 64 c (Proc.devRef .tc main_v31_12)) n = refU m c n
    ∧ member (a := 6) (b := 64) (c := 128) (at1 (in1 m) 64 c (Proc.devRef .tc main_v31_13)) n = bwdQ (Host.negf (refU m c n)) (specS (A1 m c) (A2 m c) (A5 m c) (A6 m c) n.val)
    ∧ member (a := 6) (b := 64) (c := 64) (at1 (in1 m) 64 c (Proc.devRef .tc main_v31_14)) n = bwdA (chunk (A0 m c) n) (specV (A1 m c) (A2 m c) (A5 m c) (A6 m c) n)
    ∧ rowD (at1 (in1 m) 64 c (Proc.devRef .tc main_v31_15)) n = bwdD (specS (A1 m c) (A2 m c) (A5 m c) (A6 m c) n.val) (refG m c (63 - n.val)) := by
  have h := (loop1 (in1 m) c (in1_ctr m) 64 le_rfl).2 n (by omega)
  unfold dU1 at h
  rwa [G1_eq, in1_o, in1_s, in1_v, in1_a, in1_kt] at h

/-- THE GRADIENTS the reference returns, chunk by chunk. -/
theorem out_u (n : Fin 64) : chunk (out m c (Proc.devRef .tc main_v42)) n = refU m c n := by
  refine Eq.trans ?_ (left m c n).2.2.1
  rw [← test1_keep (at1 (in1 m) 64 c) main_v31_12 (by decide)]
  refine Eq.trans ?_ (unstackC _ n)
  simp only [out, afterL_cons, afterL_nil]
  generalize after test1 (at1 (in1 m) 64 c) = V
  after_reads_simp
  rfl

theorem out_w (n : Fin 64) : chunk (out m c (Proc.devRef .tc main_v41)) n = bwdQ (Host.negf (refU m c n)) (specS (A1 m c) (A2 m c) (A5 m c) (A6 m c) n.val) := by
  refine Eq.trans ?_ (left m c n).2.2.2.1
  rw [← test1_keep (at1 (in1 m) 64 c) main_v31_13 (by decide)]
  refine Eq.trans ?_ (unstackC _ n)
  simp only [out, afterL_cons, afterL_nil]
  generalize after test1 (at1 (in1 m) 64 c) = V
  after_reads_simp
  rfl

theorem out_a (n : Fin 64) : chunk (out m c (Proc.devRef .tc main_v40)) n = bwdA (chunk (A0 m c) n) (specV (A1 m c) (A2 m c) (A5 m c) (A6 m c) n) := by
  refine Eq.trans ?_ (left m c n).2.2.2.2.1
  rw [← test1_keep (at1 (in1 m) 64 c) main_v31_14 (by decide)]
  refine Eq.trans ?_ (unstackA _ n)
  simp only [out, afterL_cons, afterL_nil]
  generalize after test1 (at1 (in1 m) 64 c) = V
  after_reads_simp
  rfl

theorem out_q (n : Fin 64) : chunk (out m c (Proc.devRef .tc main_v44)) n = bwdQ (chunk (A0 m c) n) (specS (A1 m c) (A2 m c) (A5 m c) (A6 m c) n.val) := by
  refine Eq.trans ?_ (left m c n).1
  rw [← test1_keep (at1 (in1 m) 64 c) main_v31_10 (by decide)]
  refine Eq.trans ?_ (unstackC _ n)
  simp only [out, afterL_cons, afterL_nil]
  generalize after test1 (at1 (in1 m) 64 c) = V
  after_reads_simp
  rfl

theorem out_k (n : Fin 64) : chunk (out m c (Proc.devRef .tc main_v43)) n = bwdK (refG m c (63 - n.val)) (specV (A1 m c) (A2 m c) (A5 m c) (A6 m c) n) := by
  refine Eq.trans ?_ (left m c n).2.1
  rw [← test1_keep (at1 (in1 m) 64 c) main_v31_11 (by decide)]
  refine Eq.trans ?_ (unstackC _ n)
  simp only [out, afterL_cons, afterL_nil]
  generalize after test1 (at1 (in1 m) 64 c) = V
  after_reads_simp
  rfl

/-- The decays' gradients stand in the first column, padded with zeros. -/
theorem out_d : out m c (Proc.devRef .tc main_v39) = pad S6x64x1x128 ![0, 0, 0, 0] ![0, 0, 0, 127] ![0, 0, 0, 0]
    (broadcastInDim S6x64x1x1 ![0, 1] bcast_S6x64_S6x64x1x1_0_1 (transpose S6x64 [1, 0] (at1 (in1 m) 64 c (Proc.devRef .tc main_v31_15)) transposes_S64x6_S6x64_1_0))
    (constant (F := F) S_ .f32 0x00000000#32) pads_S6x64x1x1_S6x64x1x128_000_000_000_01270 h_S_ := by
  rw [← test1_keep (at1 (in1 m) 64 c) main_v31_15 (by decide)]
  simp only [out, afterL_cons, afterL_nil]
  generalize after test1 (at1 (in1 m) 64 c) = V
  after_reads_simp

end Cert.Proof.Ref
-- ==== Proof.KernelScan.lean ====
/-
  The gradients the kernel returns, by chunks, as functions of its arguments, over the extended reals: the scratch that the first
  launch carries is the state before each chunk, the one that the second carries the gradient of the state after it, and what the
  second launch stores at a chunk are the formulas of one backward step there — the reference's.
-/
module

public import proofs.«01_k».proof.Proof.StepEq
public import proofs.«01_k».proof.Proof.RefValue

@[expose] public section

noncomputable section

namespace Cert.Proof

open Cert.KernelIdeal Cert.KernelIdeal.Gen
open Idealize.ShloMosaic Idealize.ShloMosaic.TcCoe
open Idealize.SL Idealize.SL.RA

set_option maxRecDepth 16384

theorem headD_eq (x : FVec Ideal S6x64x1x128 .f32) (n : Fin 64) : decays (chunkD x n) = Ref.headD x n := by
  funext i
  unfold decays k1_pay5 chunkD Ref.headD
  have e : i = ix3 (i 0) (i 1) (i 2) := by
    funext q
    match q with
    | ⟨0, _⟩ => rfl
    | ⟨1, _⟩ => rfl
    | ⟨2, _⟩ => rfl
  rw [e]
  pointwise

/-- A state stored as a block of one and loaded again. -/
theorem reload (S : FVec Ideal S6x128x128 .f32) : k1_pay3 (k0_pay3 S) = S := by
  funext i
  have e : i = ix3 (i 0) (i 1) (i 2) := by
    funext q
    match q with
    | ⟨0, _⟩ => rfl
    | ⟨1, _⟩ => rfl
    | ⟨2, _⟩ => rfl
  rw [e]
  unfold k1_pay3 k0_pay3
  pointwise

theorem zeros_eq : (Ref.zeros : FVec Ideal S6x128x128 .f32) = fun _ => 0 := by
  funext i
  unfold Ref.zeros
  pointwise

variable (m : (ℓ : Loc nD τ sig) → Buf (Elt Ideal) ℓ) (c : Dev nD)

/-- The arguments: cotangents, inputs, weights, intra-chunk weights, queries, keys, decays. -/
abbrev B0 : FVec Ideal S6x4096x128 .f32 := m ((c.tc : Thread nD τ).loc main_arg0)
abbrev B1 : FVec Ideal S6x4096x128 .f32 := m ((c.tc : Thread nD τ).loc main_arg1)
abbrev B2 : FVec Ideal S6x4096x128 .f32 := m ((c.tc : Thread nD τ).loc main_arg2)
abbrev B3 : FVec Ideal S6x4096x64 .f32 := m ((c.tc : Thread nD τ).loc main_arg3)
abbrev B4 : FVec Ideal S6x4096x128 .f32 := m ((c.tc : Thread nD τ).loc main_arg4)
abbrev B5 : FVec Ideal S6x4096x128 .f32 := m ((c.tc : Thread nD τ).loc main_arg5)
abbrev B6 : FVec Ideal S6x64x1x128 .f32 := m ((c.tc : Thread nD τ).loc main_arg6)

/-- The blocks of the first launch. -/
theorem fwd_u (t : Fin cfg0.N) : iblk0 (atLaunch m c) c 0 t = chunk (B1 m c) (fwdChunk t) := block0_0 t _
theorem fwd_w (t : Fin cfg0.N) : iblk0 (atLaunch m c) c 1 t = chunk (B2 m c) (fwdChunk t) := block0_1 t _
theorem fwd_kt (t : Fin cfg0.N) : iblk0 (atLaunch m c) c 4 t = chunk (B5 m c) (fwdChunk t) := block0_4 t _
theorem fwd_dec (t : Fin cfg0.N) : iblk0 (atLaunch m c) c 5 t = chunkD (B6 m c) (fwdChunk t) := block0_5 t _

/-- The first launch's scratch before chunk `n` is the state before it. -/
theorem carry0_eq : ∀ n ≤ 64, carry0 (atLaunch m c) c n = Ref.specS (B1 m c) (B2 m c) (B5 m c) (B6 m c) n
  | 0, _ => zeroState_eq.trans zeros_eq.symm
  | n + 1, hn => by
    have e := carry0_succ (atLaunch m c) c ⟨n, lt_of_lt_of_eq hn N_0.symm⟩
    dsimp only at e
    rw [e, carry0_eq n (Nat.le_of_succ_le hn), fwd_u, fwd_w, fwd_kt, fwd_dec, fwdState_eq, headD_eq]
    exact (Ref.stateAt_succ _ _ _ _ _ ⟨n, hn⟩).symm

/-- What lies between the two launches: the arguments, -/
theorem middle_kept (r : Ref sig .tc) (h0 : ∀ w, Pipeline.arrRef cfg0.spec w = r → (cfg0.win w).isOut = false) :
    atMiddle m c (Proc.devRef .tc r) = m ((c.tc : Thread nD τ).loc r) :=
  Pipeline.afterRegion_keeps (dat0 (atLaunch m c) c) (atLaunch m c) launch0.win.arr_inj (fun _ => rfl) r h0

/-- and the states before the chunks. -/
theorem middle_states (n : Fin 64) :
    chunkS (atMiddle m c (Proc.devRef .tc main_v0_1)) n = k0_pay3 (Ref.specS (B1 m c) (B2 m c) (B5 m c) (B6 m c) n.val) := by
  have e : atMiddle m c (Proc.devRef .tc main_v0_1) = (dat0 (atLaunch m c) c).arrAt 7 cfg0.N :=
    Pipeline.afterRegion_arr (dat0 (atLaunch m c) c) (atLaunch m c) launch0.win.arr_inj 7
  rw [e]
  refine (stored0_7 (atLaunch m c) c ⟨n.val, lt_of_lt_of_eq n.isLt N_0.symm⟩).trans ?_
  rw [after0_7]
  exact congrArg k0_pay3 (carry0_eq m c n.val n.isLt.le)

/-- The blocks of the second launch. -/
theorem bwd_o (t : Fin cfg1.N) : iblk1 (atMiddle m c) c 0 t = chunk (B0 m c) (bwdChunk t) :=
  (block1_0 t _).trans (congrArg (fun X => chunk X (bwdChunk t)) (middle_kept m c main_arg0 (by decide)))
theorem bwd_u (t : Fin cfg1.N) : iblk1 (atMiddle m c) c 2 t = chunk (B1 m c) (bwdChunk t) :=
  (block1_2 t _).trans (congrArg (fun X => chunk X (bwdChunk t)) (middle_kept m c main_arg1 (by decide)))
theorem bwd_w (t : Fin cfg1.N) : iblk1 (atMiddle m c) c 3 t = chunk (B2 m c) (bwdChunk t) :=
  (block1_3 t _).trans (congrArg (fun X => chunk X (bwdChunk t)) (middle_kept m c main_arg2 (by decide)))
theorem bwd_a (t : Fin cfg1.N) : iblk1 (atMiddle m c) c 4 t = chunk (B3 m c) (bwdChunk t) :=
  (block1_4 t _).trans (congrArg (fun X => chunk X (bwdChunk t)) (middle_kept m c main_arg3 (by decide)))
theorem bwd_q (t : Fin cfg1.N) : iblk1 (atMiddle m c) c 5 t = chunk (B4 m c) (bwdChunk t) :=
  (block1_5 t _).trans (congrArg (fun X => chunk X (bwdChunk t)) (middle_kept m c main_arg4 (by decide)))
theorem bwd_kt (t : Fin cfg1.N) : iblk1 (atMiddle m c) c 6 t = chunk (B5 m c) (bwdChunk t) :=
  (block1_6 t _).trans (congrArg (fun X => chunk X (bwdChunk t)) (middle_kept m c main_arg5 (by decide)))
theorem bwd_dec (t : Fin cfg1.N) : iblk1 (atMiddle m c) c 7 t = chunkD (B6 m c) (bwdChunk t) :=
  (block1_7 t _).trans (congrArg (fun X => chunkD X (bwdChunk t)) (middle_kept m c main_arg6 (by decide)))
theorem bwd_s (t : Fin cfg1.N) : iblk1 (atMiddle m c) c 1 t = k0_pay3 (Ref.specS (B1 m c) (B2 m c) (B5 m c) (B6 m c) (bwdChunk t).val) :=
  (block1_1 t _).trans (middle_states m c (bwdChunk t))

/-- The gradient of the state `t` chunks before the end, of the arguments. -/
abbrev kerG (t : ℕ) : FVec Ideal S6x128x128 .f32 := Ref.specG (B0 m c) (B2 m c) (B3 m c) (B4 m c) (B5 m c) (B6 m c) t

/-- The second launch's scratch before its point `t` is that gradient. -/
theorem carry1_eq : ∀ t ≤ 64, carry1 (atMiddle m c) c t = kerG m c t
  | 0, _ => zeroGrad_eq.trans zeros_eq.symm
  | t + 1, ht => by
    have e := carry1_succ (atMiddle m c) c ⟨t, lt_of_lt_of_eq ht N_1.symm⟩
    dsimp only at e
    rw [e, carry1_eq t (Nat.le_of_succ_le ht), bwd_o, bwd_w, bwd_a, bwd_q, bwd_kt, bwd_dec, bwdState_eq, headD_eq]
    rfl

/-- The point of the second launch that works on chunk `n`. -/
def pointOf (n : Fin 64) : Fin cfg1.N := ⟨63 - n.val, lt_of_lt_of_eq (by omega) N_1.symm⟩

theorem bwdChunk_pointOf (n : Fin 64) : bwdChunk (pointOf n) = n := Fin.ext (by show 63 - (63 - n.val) = n.val; omega)

theorem carry1_pointOf (n : Fin 64) : carry1 (atMiddle m c) c (pointOf n).val = kerG m c (63 - n.val) :=
  carry1_eq m c (63 - n.val) (by omega)

/-- The gradient of chunk `n`'s inputs, of the arguments. -/
abbrev kerU (n : Fin 64) : FVec Ideal S6x64x128 .f32 := Ref.bwdU (kerG m c (63 - n.val)) (chunk (B0 m c) n) (chunk (B3 m c) n) (chunk (B5 m c) n)

/-- THE GRADIENTS the kernel returns, chunk by chunk. -/
theorem end_u (n : Fin 64) : chunk (atEnd m c (Proc.devRef .tc main_v1_0)) n = kerU m c n := by
  have e : atEnd m c (Proc.devRef .tc main_v1_0) = (dat1 (atMiddle m c) c).arrAt 8 cfg1.N :=
    Pipeline.afterRegion_arr (dat1 (atMiddle m c) c) (atMiddle m c) launch1.win.arr_inj 8
  rw [e]
  have h := stored1_8 (atMiddle m c) c (pointOf n)
  rw [after1_8, bwd_a, bwd_o, bwd_kt, carry1_pointOf, grad_u_eq, bwdChunk_pointOf] at h
  exact h

theorem end_w (n : Fin 64) : chunk (atEnd m c (Proc.devRef .tc main_v1_1)) n = Ref.bwdQ (Host.negf (kerU m c n)) (Ref.specS (B1 m c) (B2 m c) (B5 m c) (B6 m c) n.val) := by
  have e : atEnd m c (Proc.devRef .tc main_v1_1) = (dat1 (atMiddle m c) c).arrAt 9 cfg1.N :=
    Pipeline.afterRegion_arr (dat1 (atMiddle m c) c) (atMiddle m c) launch1.win.arr_inj 9
  rw [e]
  have h := stored1_9 (atMiddle m c) c (pointOf n)
  rw [after1_9, bwd_s, bwd_a, bwd_o, bwd_kt, carry1_pointOf, reload, grad_w_eq, bwdChunk_pointOf] at h
  exact h

theorem end_a (n : Fin 64) : chunk (atEnd m c (Proc.devRef .tc main_v1_2)) n = Ref.bwdA (chunk (B0 m c) n) (Ref.specV (B1 m c) (B2 m c) (B5 m c) (B6 m c) n) := by
  have e : atEnd m c (Proc.devRef .tc main_v1_2) = (dat1 (atMiddle m c) c).arrAt 10 cfg1.N :=
    Pipeline.afterRegion_arr (dat1 (atMiddle m c) c) (atMiddle m c) launch1.win.arr_inj 10
  rw [e]
  have h := stored1_10 (atMiddle m c) c (pointOf n)
  rw [after1_10, bwd_s, bwd_u, bwd_w, bwd_o, new_eq, reload, grad_a_eq, bwdChunk_pointOf] at h
  exact h

theorem end_q (n : Fin 64) : chunk (atEnd m c (Proc.devRef .tc main_v1_3)) n = Ref.bwdQ (chunk (B0 m c) n) (Ref.specS (B1 m c) (B2 m c) (B5 m c) (B6 m c) n.val) := by
  have e : atEnd m c (Proc.devRef .tc main_v1_3) = (dat1 (atMiddle m c) c).arrAt 11 cfg1.N :=
    Pipeline.afterRegion_arr (dat1 (atMiddle m c) c) (atMiddle m c) launch1.win.arr_inj 11
  rw [e]
  have h := stored1_11 (atMiddle m c) c (pointOf n)
  rw [after1_11, bwd_s, bwd_o, reload, grad_q_eq, bwdChunk_pointOf] at h
  exact h

theorem end_k (n : Fin 64) : chunk (atEnd m c (Proc.devRef .tc main_v1_4)) n = Ref.bwdK (kerG m c (63 - n.val)) (Ref.specV (B1 m c) (B2 m c) (B5 m c) (B6 m c) n) := by
  have e : atEnd m c (Proc.devRef .tc main_v1_4) = (dat1 (atMiddle m c) c).arrAt 12 cfg1.N :=
    Pipeline.afterRegion_arr (dat1 (atMiddle m c) c) (atMiddle m c) launch1.win.arr_inj 12
  rw [e]
  have h := stored1_12 (atMiddle m c) c (pointOf n)
  rw [after1_12, bwd_s, bwd_u, bwd_w, carry1_pointOf, grad_k_eq, reload, bwdChunk_pointOf] at h
  exact h

theorem end_d (n : Fin 64) (h : Fin 6) (z z' : Fin 1) (k : Fin 128) :
    chunkD (atEnd m c (Proc.devRef .tc main_v1_5)) n (ix4 h z z' k)
      = if k.val = 0 then Ref.bwdD (Ref.specS (B1 m c) (B2 m c) (B5 m c) (B6 m c) n.val) (kerG m c (63 - n.val)) (ix1 h) else 0 := by
  have e : atEnd m c (Proc.devRef .tc main_v1_5) = (dat1 (atMiddle m c) c).arrAt 13 cfg1.N :=
    Pipeline.afterRegion_arr (dat1 (atMiddle m c) c) (atMiddle m c) launch1.win.arr_inj 13
  rw [e]
  have h' := stored1_13 (atMiddle m c) c (pointOf n)
  rw [after1_13, bwd_s, carry1_pointOf, bwdChunk_pointOf] at h'
  refine (congrFun h' _).trans ((grad_d_eq _ _ h z z' k).trans ?_)
  rw [reload]

end Cert.Proof
-- ==== Proof.Equation.lean ====
/-
  The kernel's gradients are the reference's: at every chunk the two have the same formulas, so the arrays are the same.
-/
module

public import proofs.«01_k».proof.Proof.KernelScan

@[expose] public section

noncomputable section

namespace Cert.Proof

open Idealize.ShloMosaic Idealize.ShloMosaic.TcCoe
open Idealize.SL Idealize.SL.RA

set_option maxRecDepth 16384

/-- The reference's padded column, at an index. -/
theorem padded (y : FVec Ideal Cert.ReferenceIdeal.S64x6 .f32) (n : Fin 64) (h : Fin 6) (z z' : Fin 1) (k : Fin 128) :
    chunkD (pad Cert.ReferenceIdeal.S6x64x1x128 ![0, 0, 0, 0] ![0, 0, 0, 127] ![0, 0, 0, 0]
      (broadcastInDim Cert.ReferenceIdeal.S6x64x1x1 ![0, 1] Cert.ReferenceIdeal.Gen.bcast_S6x64_S6x64x1x1_0_1
        (transpose Cert.ReferenceIdeal.S6x64 [1, 0] y Cert.ReferenceIdeal.Gen.transposes_S64x6_S6x64_1_0))
      (constant (F := Ideal) Cert.ReferenceIdeal.S_ .f32 0x00000000#32) Cert.ReferenceIdeal.Gen.pads_S6x64x1x1_S6x64x1x128_000_000_000_01270
      Cert.ReferenceIdeal.Gen.h_S_) n (ix4 h z z' k) = if k.val = 0 then Ref.rowD y n (ix1 h) else 0 := by
  unfold chunkD Ref.rowD
  pointwise
  simp only [Nat.lt_one_iff, dite_eq_ite]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two memories hold the same arguments. -/
structure Agree : Prop where
  h0 : Ref.A0 m' c = B0 m c
  h1 : Ref.A1 m' c = B1 m c
  h2 : Ref.A2 m' c = B2 m c
  h3 : Ref.A3 m' c = B3 m c
  h4 : Ref.A4 m' c = B4 m c
  h5 : Ref.A5 m' c = B5 m c
  h6 : Ref.A6 m' c = B6 m c

variable {m m' c}

theorem eq_u (h : Agree m m' c) :
    Ref.out m' c (Proc.devRef .tc Cert.ReferenceIdeal.main_v42) = atEnd m c (Proc.devRef .tc Cert.KernelIdeal.main_v1_0) := by
  refine chunk_ext (d := 128) fun n => (Ref.out_u m' c n).trans (Eq.trans ?_ (end_u m c n).symm)
  simp only [Ref.refU, Ref.refG, kerU, kerG, h.h0, h.h1, h.h2, h.h3, h.h4, h.h5, h.h6]

theorem eq_w (h : Agree m m' c) :
    Ref.out m' c (Proc.devRef .tc Cert.ReferenceIdeal.main_v41) = atEnd m c (Proc.devRef .tc Cert.KernelIdeal.main_v1_1) := by
  refine chunk_ext (d := 128) fun n => (Ref.out_w m' c n).trans (Eq.trans ?_ (end_w m c n).symm)
  simp only [Ref.refU, Ref.refG, kerU, kerG, h.h0, h.h1, h.h2, h.h3, h.h4, h.h5, h.h6]

theorem eq_a (h : Agree m m' c) :
    Ref.out m' c (Proc.devRef .tc Cert.ReferenceIdeal.main_v40) = atEnd m c (Proc.devRef .tc Cert.KernelIdeal.main_v1_2) := by
  refine chunk_ext (d := 64) fun n => (Ref.out_a m' c n).trans (Eq.trans ?_ (end_a m c n).symm)
  simp only [Ref.refU, Ref.refG, kerU, kerG, h.h0, h.h1, h.h2, h.h3, h.h4, h.h5, h.h6]

theorem eq_q (h : Agree m m' c) :
    Ref.out m' c (Proc.devRef .tc Cert.ReferenceIdeal.main_v44) = atEnd m c (Proc.devRef .tc Cert.KernelIdeal.main_v1_3) := by
  refine chunk_ext (d := 128) fun n => (Ref.out_q m' c n).trans (Eq.trans ?_ (end_q m c n).symm)
  simp only [Ref.refU, Ref.refG, kerU, kerG, h.h0, h.h1, h.h2, h.h3, h.h4, h.h5, h.h6]

theorem eq_k (h : Agree m m' c) :
    Ref.out m' c (Proc.devRef .tc Cert.ReferenceIdeal.main_v43) = atEnd m c (Proc.devRef .tc Cert.KernelIdeal.main_v1_4) := by
  refine chunk_ext (d := 128) fun n => (Ref.out_k m' c n).trans (Eq.trans ?_ (end_k m c n).symm)
  simp only [Ref.refU, Ref.refG, kerU, kerG, h.h0, h.h1, h.h2, h.h3, h.h4, h.h5, h.h6]

theorem eq_d (h : Agree m m' c) :
    Ref.out m' c (Proc.devRef .tc Cert.ReferenceIdeal.main_v39) = atEnd m c (Proc.devRef .tc Cert.KernelIdeal.main_v1_5) := by
  refine chunkD_ext fun n => funext fun i => ?_
  have e : i = ix4 (i 0) (i 1) (i 2) (i 3) := by
    funext q
    match q with
    | ⟨0, _⟩ => rfl
    | ⟨1, _⟩ => rfl
    | ⟨2, _⟩ => rfl
    | ⟨3, _⟩ => rfl
  rw [Ref.out_d, e]
  refine (padded _ n _ _ _ _).trans (Eq.trans ?_ (end_d m c n _ _ _ _).symm)
  rw [(Ref.left m' c n).2.2.2.2.2]
  simp only [Ref.refG, kerG, h.h0, h.h1, h.h2, h.h3, h.h4, h.h5, h.h6]

end Cert.Proof
-- ==== Proof.DownBwd.lean ====
/-
  What the launch of the feed-forward block's backward call through the down product leaves in memory: each entry of the gradients
  of the gate's and the up product's results as a formula of the arguments.
-/
module

public import proofs.«01_k».proof.Proof.Gen.Kernel2Ideal.Value
public import Idealize.ShloMosaic.Lib.Pipeline.ValueKit.Basic
public import Idealize.ShloMosaic.Lib.Pointwise

@[expose] public section

set_option maxRecDepth 16384

noncomputable section

namespace Cert.Proof.DownBwd

open Cert.Kernel2Ideal Cert.Kernel2Ideal.Gen
open Idealize.ShloMosaic Idealize.ShloMosaic.TcCoe
open Idealize.SL Idealize.SL.RA

variable (m : (ℓ : Loc nD τ sig) → Buf (Elt Ideal) ℓ)

/-- The gradient of the product's left factor: `df · wdᵀ`, of the second block's weights. -/
def ds (df : FVec Ideal S4096x2048 .bf16) (wd : FVec Ideal S2x5632x2048 .f32) (p : Fin 4096) (q : Fin 5632) : EReal :=
  ∑ x : Fin 2048, df (ix2 p x) * wd (ix3 1 q x)

/-- The sigmoid as the kernel writes it. -/
def sg (a : EReal) : EReal := Ideal.div 1 (1 + Ideal.exp (0 - a))

/-- The point whose blocks hold entry `(p, q)`. -/
def pt (p : Fin 4096) (q : Fin 5632) : Fin cfg0.N := ⟨8 * (q.val / 1408) + p.val / 512, lt_of_lt_of_eq (by omega) N_0.symm⟩

theorem index_eq : ∀ t : Fin cfg0.N,
    (win0_0.index t (0 : Fin 2) = t.val % 8 ∧ win0_0.index t (1 : Fin 2) = 0)
    ∧ (win0_1.index t (0 : Fin 4) = t.val / 8 ∧ win0_1.index t (1 : Fin 4) = 1 ∧ win0_1.index t (2 : Fin 4) = 0 ∧ win0_1.index t (3 : Fin 4) = 0)
    ∧ (win0_2.index t (0 : Fin 2) = t.val % 8 ∧ win0_2.index t (1 : Fin 2) = t.val / 8)
    ∧ (win0_3.index t (0 : Fin 2) = t.val % 8 ∧ win0_3.index t (1 : Fin 2) = t.val / 8)
    ∧ (win0_4.index t (0 : Fin 2) = t.val % 8 ∧ win0_4.index t (1 : Fin 2) = t.val / 8)
    ∧ (win0_5.index t (0 : Fin 2) = t.val % 8 ∧ win0_5.index t (1 : Fin 2) = t.val / 8) :=
  (by decide +kernel : ∀ t : Fin grid0.N, _)

/-- The down weights as the launch finds them: four shards of rows. -/
theorem shards (c : Dev nD) (j : Fin 4) (r : Fin 2) (q : Fin 1408) (x : Fin 2048) :
    (V (F := Ideal) m c main_v2 : FVec Ideal S4x2x1408x2048 .bf16) (ix4 j r q x)
      = (m ((c : Thread nD τ).loc main_arg1) : FVec Ideal S2x5632x2048 .f32) (ix3 r ⟨1408 * j.val + q.val, by omega⟩ x) := by
  have e : V (F := Ideal) m c main_v2 = transpose S4x2x1408x2048 [1, 0, 2, 3] (shapeCast S2x4x1408x2048
      (truncf .bf16 (m ((c : Thread nD τ).loc main_arg1)) bitsLt_bf16_f32 : FVec Ideal S2x5632x2048 .bf16)
      shapeCasts_S2x5632x2048_S2x4x1408x2048) transposes_S2x4x1408x2048_S4x2x1408x2048_1_0_2_3 := rfl
  rw [e]
  pointwise
  congr 2
  exact Fin.ext (by show j.val * 1408 + q.val = 1408 * j.val + q.val; omega)

variable (c : Dev nD) (p : Fin 4096) (q : Fin 5632)

theorem block0 (x : Fin 2048) : (iblk m c 0 (pt p q) : FVec Ideal S512x2048 .bf16) (ix2 ⟨p.val % 512, by omega⟩ x)
    = (m ((c : Thread nD τ).loc main_arg0) : FVec Ideal S4096x2048 .bf16) (ix2 p x) := by
  obtain ⟨⟨e0, e1⟩, -⟩ := index_eq (pt p q)
  refine (?_ : _ = (V m c main_arg0 : FVec Ideal S4096x2048 .bf16) _).trans (congrFun (V_main_arg0 m c) _)
  show V m c main_arg0 (((cfg0.win 0).blk (pt p q)).view.emb _) = _
  congr 1
  funext a; apply Fin.ext
  match a with
  | ⟨0, _⟩ => show win0_0.index (pt p q) (0 : Fin 2) * 512 + 1 * (p.val % 512) = p.val; rw [e0]; show (8 * (q.val / 1408) + p.val / 512) % 8 * 512 + _ = _; omega
  | ⟨1, _⟩ => show win0_0.index (pt p q) (1 : Fin 2) * 2048 + 1 * x.val = x.val; rw [e1]; omega

theorem block1 (x : Fin 2048) : (iblk m c 1 (pt p q) : FVec Ideal S1x1x1408x2048 .bf16) (ix4 0 0 ⟨q.val % 1408, by omega⟩ x)
    = (m ((c : Thread nD τ).loc main_arg1) : FVec Ideal S2x5632x2048 .f32) (ix3 1 q x) := by
  obtain ⟨-, ⟨e0, e1, e2, e3⟩, -⟩ := index_eq (pt p q)
  refine (?_ : _ = (V m c main_v2 : FVec Ideal S4x2x1408x2048 .bf16) (ix4 ⟨q.val / 1408, by omega⟩ 1 ⟨q.val % 1408, by omega⟩ x)).trans
    ((shards m c _ _ _ _).trans (congrArg _ ?_))
  · show V m c main_v2 (((cfg0.win 1).blk (pt p q)).view.emb _) = _
    congr 1
    funext a; apply Fin.ext
    match a with
    | ⟨0, _⟩ => show win0_1.index (pt p q) (0 : Fin 4) * 1 + 1 * 0 = q.val / 1408; rw [e0]; show (8 * (q.val / 1408) + p.val / 512) / 8 * 1 + _ = _; omega
    | ⟨1, _⟩ => show win0_1.index (pt p q) (1 : Fin 4) * 1 + 1 * 0 = 1; rw [e1]
    | ⟨2, _⟩ => show win0_1.index (pt p q) (2 : Fin 4) * 1408 + 1 * (q.val % 1408) = q.val % 1408; rw [e2]; omega
    | ⟨3, _⟩ => show win0_1.index (pt p q) (3 : Fin 4) * 2048 + 1 * x.val = x.val; rw [e3]; omega
  · have h : (⟨1408 * (q.val / 1408) + q.val % 1408, by omega⟩ : Fin 5632) = q := Fin.ext (by show 1408 * (q.val / 1408) + q.val % 1408 = q.val; omega)
    exact congrArg (fun z => ix3 1 z x) h

theorem block2 : (iblk m c 2 (pt p q) : FVec Ideal S512x1408 .bf16) (ix2 ⟨p.val % 512, by omega⟩ ⟨q.val % 1408, by omega⟩)
    = (m ((c : Thread nD τ).loc main_arg2) : FVec Ideal S4096x5632 .bf16) (ix2 p q) := by
  obtain ⟨-, -, ⟨e0, e1⟩, -⟩ := index_eq (pt p q)
  refine (?_ : _ = (V m c main_arg2 : FVec Ideal S4096x5632 .bf16) _).trans (congrFun (V_main_arg2 m c) _)
  show V m c main_arg2 (((cfg0.win 2).blk (pt p q)).view.emb _) = _
  congr 1
  funext a; apply Fin.ext
  match a with
  | ⟨0, _⟩ => show win0_2.index (pt p q) (0 : Fin 2) * 512 + 1 * (p.val % 512) = p.val; rw [e0]; show (8 * (q.val / 1408) + p.val / 512) % 8 * 512 + _ = _; omega
  | ⟨1, _⟩ => show win0_2.index (pt p q) (1 : Fin 2) * 1408 + 1 * (q.val % 1408) = q.val; rw [e1]; show (8 * (q.val / 1408) + p.val / 512) / 8 * 1408 + _ = _; omega

theorem block3 : (iblk m c 3 (pt p q) : FVec Ideal S512x1408 .bf16) (ix2 ⟨p.val % 512, by omega⟩ ⟨q.val % 1408, by omega⟩)
    = (m ((c : Thread nD τ).loc main_arg3) : FVec Ideal S4096x5632 .bf16) (ix2 p q) := by
  obtain ⟨-, -, -, ⟨e0, e1⟩, -⟩ := index_eq (pt p q)
  refine (?_ : _ = (V m c main_arg3 : FVec Ideal S4096x5632 .bf16) _).trans (congrFun (V_main_arg3 m c) _)
  show V m c main_arg3 (((cfg0.win 3).blk (pt p q)).view.emb _) = _
  congr 1
  funext a; apply Fin.ext
  match a with
  | ⟨0, _⟩ => show win0_3.index (pt p q) (0 : Fin 2) * 512 + 1 * (p.val % 512) = p.val; rw [e0]; show (8 * (q.val / 1408) + p.val / 512) % 8 * 512 + _ = _; omega
  | ⟨1, _⟩ => show win0_3.index (pt p q) (1 : Fin 2) * 1408 + 1 * (q.val % 1408) = q.val; rw [e1]; show (8 * (q.val / 1408) + p.val / 512) / 8 * 1408 + _ = _; omega

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The gradient of the gate product's result, after the launch. -/
theorem da : ((dats m 0 c).arrAt 4 cfg0.N : FVec Ideal S4096x5632 .bf16) (ix2 p q)
    = let a : EReal := (m ((c : Thread nD τ).loc main_arg2) : FVec Ideal S4096x5632 .bf16) (ix2 p q)
      ds (m ((c : Thread nD τ).loc main_arg0)) (m ((c : Thread nD τ).loc main_arg1)) p q
        * (m ((c : Thread nD τ).loc main_arg3) : FVec Ideal S4096x5632 .bf16) (ix2 p q) * sg a * (1 + a * (1 - sg a)) := by
  obtain ⟨-, -, -, -, ⟨e0, e1⟩, -⟩ := index_eq (pt p q)
  have h := congrFun (Value.blocks4 m c (pt p q) (flush0_4 _)) (ix2 ⟨p.val % 512, by omega⟩ ⟨q.val % 1408, by omega⟩)
  refine (Eq.trans ?_ h).trans ?_
  · show _ = (dats m 0 c).arrAt 4 cfg0.N (((cfg0.win 4).blk (pt p q)).view.emb _)
    congr 1
    funext a; apply Fin.ext
    match a with
    | ⟨0, _⟩ => show p.val = win0_4.index (pt p q) (0 : Fin 2) * 512 + 1 * (p.val % 512); rw [e0]; show _ = (8 * (q.val / 1408) + p.val / 512) % 8 * 512 + _; omega
    | ⟨1, _⟩ => show q.val = win0_4.index (pt p q) (1 : Fin 2) * 1408 + 1 * (q.val % 1408); rw [e1]; show _ = (8 * (q.val / 1408) + p.val / 512) / 8 * 1408 + _; omega
  · rw [Value.flushed4]
    show out0_4 (iblk m c 0 (pt p q)) (iblk m c 1 (pt p q)) (iblk m c 2 (pt p q)) (iblk m c 3 (pt p q)) (ix2 ⟨p.val % 512, by omega⟩ ⟨q.val % 1408, by omega⟩) = _
    unfold out0_4
    rw [View.canon_unit_zero hz2, View.ld_unit_zero hz2, View.ld_unit_zero hz4, View.ld_unit_zero hz2, View.ld_unit_zero hz2]
    pointwise [k0_pay4, k0_pay3, k0_pay2, k0_pay1]
    try dsimp only
    rw [← block2 m c p q, ← block3 m c p q]
    unfold ds sg
    simp only [← block0 m c p q, ← block1 m c p q]

/-- The gradient of the up product's result, after the launch. -/
theorem db : ((dats m 0 c).arrAt 5 cfg0.N : FVec Ideal S4096x5632 .bf16) (ix2 p q)
    = let a : EReal := (m ((c : Thread nD τ).loc main_arg2) : FVec Ideal S4096x5632 .bf16) (ix2 p q)
      ds (m ((c : Thread nD τ).loc main_arg0)) (m ((c : Thread nD τ).loc main_arg1)) p q * a * sg a := by
  obtain ⟨-, -, -, -, -, e0, e1⟩ := index_eq (pt p q)
  have h := congrFun (Value.blocks5 m c (pt p q) (flush0_5 _)) (ix2 ⟨p.val % 512, by omega⟩ ⟨q.val % 1408, by omega⟩)
  refine (Eq.trans ?_ h).trans ?_
  · show _ = (dats m 0 c).arrAt 5 cfg0.N (((cfg0.win 5).blk (pt p q)).view.emb _)
    congr 1
    funext a; apply Fin.ext
    match a with
    | ⟨0, _⟩ => show p.val = win0_5.index (pt p q) (0 : Fin 2) * 512 + 1 * (p.val % 512); rw [e0]; show _ = (8 * (q.val / 1408) + p.val / 512) % 8 * 512 + _; omega
    | ⟨1, _⟩ => show q.val = win0_5.index (pt p q) (1 : Fin 2) * 1408 + 1 * (q.val % 1408); rw [e1]; show _ = (8 * (q.val / 1408) + p.val / 512) / 8 * 1408 + _; omega
  · rw [Value.flushed5]
    show out0_5 (iblk m c 0 (pt p q)) (iblk m c 1 (pt p q)) (iblk m c 2 (pt p q)) (iblk m c 3 (pt p q)) (ix2 ⟨p.val % 512, by omega⟩ ⟨q.val % 1408, by omega⟩) = _
    unfold out0_5
    rw [View.canon_unit_zero hz2, View.ld_unit_zero hz2, View.ld_unit_zero hz4, View.ld_unit_zero hz2]
    pointwise [k0_pay5, k0_pay3, k0_pay2, k0_pay1]
    try dsimp only
    rw [← block2 m c p q]
    unfold ds sg
    simp only [← block0 m c p q, ← block1 m c p q]

end Cert.Proof.DownBwd
-- ==== Proof.DownBwdEq.lean ====
/-
  The claims about the backward call through the feed-forward block's down product: its frames, and the equality of its two gradients
  with those of the reference, whose derivative of the gate is `σ + a·σ·(1−σ)` where the kernel's is `σ·(1 + a·(1−σ))`.
-/
module

public import proofs.«01_k».proof.Defs
public import proofs.«01_k».proof.Proof.DownBwd
public import proofs.«01_k».proof.Proof.Gen.Kernel2.Frame
public import proofs.«01_k».proof.Proof.Gen.Reference2Ideal
public import proofs.«01_k».proof.Proof.Gen.Reference2Ideal.Run
public import proofs.«01_k».proof.Proof.Gen.Pre_finite
public import Idealize.ShloMosaic.Lib.ReduceAll
public import Idealize.ShloMosaic.Lib.Quiescent

@[expose] public section

set_option maxRecDepth 16384

noncomputable section

namespace Cert.Proof.DownBwd

open Idealize.ShloMosaic Idealize.ShloMosaic.TcCoe Idealize.SL.Sem

/-- A number whose difference with itself is zero is real. -/
theorem real_of_sub {x : EReal} (h : x - x = 0) : ∃ r : ℝ, x = r := by
  induction x with
  | bot => exact absurd h (by decide)
  | coe r => exact ⟨r, rfl⟩
  | top => exact absurd h (by decide)

/-- A sum of products of reals is real. -/
theorem real_sum {n : Nat} (f g : Fin n → EReal) (hf : ∀ i, ∃ r : ℝ, f i = r) (hg : ∀ i, ∃ r : ℝ, g i = r) :
    ∃ r : ℝ, ∑ i, f i * g i = r := by
  choose u hu using hf
  choose v hv using hg
  have h : ∀ S : Finset (Fin n), ∑ i ∈ S, f i * g i = ((∑ i ∈ S, u i * v i : ℝ) : EReal) := fun S => by
    induction S using Finset.induction_on with
    | empty => simp
    | insert i S hi ih => rw [Finset.sum_insert hi, Finset.sum_insert hi, ih, hu, hv, EReal.coe_add, EReal.coe_mul]
  exact ⟨_, h _⟩

theorem exp_top : Ideal.exp ⊤ = ⊤ := rfl
theorem exp_bot : Ideal.exp ⊥ = 0 := rfl
theorem exp_real (r : ℝ) : Ideal.exp (r : EReal) = ((Real.exp r : ℝ) : EReal) := rfl

theorem ds_real {df : FVec Ideal Cert.Kernel2Ideal.S4096x2048 .bf16} {wd : FVec Ideal Cert.Kernel2Ideal.S2x5632x2048 .f32}
    (h0 : ∀ i, ∃ r : ℝ, df i = r) (h1 : ∀ i, ∃ r : ℝ, wd i = r) (p : Fin 4096) (q : Fin 5632) : ∃ r : ℝ, ds df wd p q = r :=
  real_sum _ _ (fun _ => h0 _) fun _ => h1 _

/-- The gate's derivative, in the two forms, times a real number. -/
theorem gate (a : EReal) (r : ℝ) :
    (r : EReal) * sg a * (1 + a * (1 - sg a)) = (r : EReal) * sg a + a * (r : EReal) * (sg a * (1 - sg a)) := by
  induction a with
  | bot =>
    have h : sg ⊥ = 0 := by
      rw [sg, show (0 : EReal) - ⊥ = ⊤ from rfl, exp_top, Ideal.div, show (1 : EReal) + ⊤ = ⊤ from rfl, if_neg (by simp)]
      simp
    rw [h]; simp
  | top =>
    have h : sg ⊤ = 1 := by
      rw [sg, show (0 : EReal) - ⊤ = ⊥ from rfl, exp_bot, Ideal.div, if_neg (by simp)]
      simp
    have h1 : (1 : EReal) - 1 = 0 := by rw [← EReal.coe_one, ← EReal.coe_sub]; simp
    rw [h, h1]; simp
  | coe a =>
    obtain ⟨s, hs⟩ : ∃ s : ℝ, sg (a : EReal) = s := by
      refine ⟨1 / (1 + Real.exp (0 - a)), ?_⟩
      have h0 : (1 + Real.exp (0 - a)) ≠ 0 := by positivity
      have h1 : (0 : EReal) - (a : EReal) = ((0 - a : ℝ) : EReal) := by rw [EReal.coe_sub]; rfl
      rw [sg, h1, exp_real, ← EReal.coe_one, ← EReal.coe_add]
      have h2 : (((1 + Real.exp (0 - a) : ℝ)) : EReal) ≠ 0 := by exact_mod_cast h0
      rw [Ideal.div, if_neg h2, ← EReal.coe_inv, ← EReal.coe_mul, one_div, one_mul]
    rw [hs, ← EReal.coe_one]
    norm_cast
    ring

section
open Cert.Reference2Ideal Cert.Reference2Ideal.Gen

/-- The reference's gradient of the gate product's result, at an index. -/
theorem ref_da (x0 : FVec Ideal S4096x2048 .bf16) (x1 : FVec Ideal S2x5632x2048 .f32) (x2 x3 : FVec Ideal S4096x5632 .bf16)
    (p : Fin 4096) (q : Fin 5632) :
    (truncf .bf16 (addf (mulf (mulf (Host.dotGeneral dot_S4096x2048_S5632x2048_S4096x5632_1_1_0_0_n_n none (extf .f32 x0 bitsLt_bf16_f32) (shapeCast _ (extractStridedSlice S1x5632x2048 ![1, 0, 0] x1 slices_S2x5632x2048_S1x5632x2048_1_0_0) shapeCasts_S1x5632x2048_S5632x2048)) (extf .f32 x3 bitsLt_bf16_f32)) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 x2 bitsLt_bf16_f32)))))) (mulf (mulf (extf .f32 x2 bitsLt_bf16_f32) (mulf (Host.dotGeneral dot_S4096x2048_S5632x2048_S4096x5632_1_1_0_0_n_n none (extf .f32 x0 bitsLt_bf16_f32) (shapeCast _ (extractStridedSlice S1x5632x2048 ![1, 0, 0] x1 slices_S2x5632x2048_S1x5632x2048_1_0_0) shapeCasts_S1x5632x2048_S5632x2048)) (extf .f32 x3 bitsLt_bf16_f32))) (mulf (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 x2 bitsLt_bf16_f32))))) (subf (broadcastInDim S4096x5632 ![] bcast_S_S4096x5632 (constant S_ .f32 0x3F800000#32)) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 x2 bitsLt_bf16_f32))))))))) bitsLt_bf16_f32 : FVec Ideal S4096x5632 .bf16) (ix2 p q)
      = ds x0 x1 p q * x3 (ix2 p q) * sg (x2 (ix2 p q)) + x2 (ix2 p q) * (ds x0 x1 p q * x3 (ix2 p q)) * (sg (x2 (ix2 p q)) * (1 - sg (x2 (ix2 p q)))) := by
  pointwise
  simp only [ds, sg, zero_sub]

/-- The reference's gradient of the up product's result, at an index. -/
theorem ref_db (x0 : FVec Ideal S4096x2048 .bf16) (x1 : FVec Ideal S2x5632x2048 .f32) (x2 : FVec Ideal S4096x5632 .bf16)
    (p : Fin 4096) (q : Fin 5632) :
    (truncf .bf16 (mulf (mulf (extf .f32 x2 bitsLt_bf16_f32) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 x2 bitsLt_bf16_f32)))))) (Host.dotGeneral dot_S4096x2048_S5632x2048_S4096x5632_1_1_0_0_n_n none (extf .f32 x0 bitsLt_bf16_f32) (shapeCast _ (extractStridedSlice S1x5632x2048 ![1, 0, 0] x1 slices_S2x5632x2048_S1x5632x2048_1_0_0) shapeCasts_S1x5632x2048_S5632x2048))) bitsLt_bf16_f32 : FVec Ideal S4096x5632 .bf16) (ix2 p q)
      = x2 (ix2 p q) * sg (x2 (ix2 p q)) * ds x0 x1 p q := by
  pointwise
  simp only [ds, sg, zero_sub]

end

/-- What the precondition says, entry by entry: the arriving gradient, the weights and the up product's result are real. -/
theorem finite_reads (x0 : FVec Ideal Cert.Pre_finite.S4096x2048 .bf16) (x1 : FVec Ideal Cert.Pre_finite.S2x5632x2048 .f32)
    (x2 x3 : FVec Ideal Cert.Pre_finite.S4096x5632 .bf16)
    (h : (haveI := Cert.Pre_finite.Gen.facts; Cert.Pre_finite.fn (F := Ideal) x0 x1 x2 x3) = fun _ => 1#1) :
    (∀ i, ∃ r : ℝ, x0 i = r) ∧ (∀ i, ∃ r : ℝ, x1 i = r) ∧ ∀ i, ∃ r : ℝ, x3 i = r := by
  have h' := congrFun h default
  unfold Cert.Pre_finite.fn at h'
  dsimp only at h'
  obtain ⟨h1, h3⟩ := IntOp.andi_eq_one.1 h'
  obtain ⟨h0, h1⟩ := IntOp.andi_eq_one.1 h1
  have z : ∀ x : EReal, BitVec.ofBool (decide (x = 0)) = 1#1 → x = 0 := fun x h => by
    by_contra hx
    simp [hx] at h
  refine ⟨fun i => real_of_sub (z _ ?_), fun i => real_of_sub (z _ ?_), fun i => real_of_sub (z _ ?_)⟩
  · have e := Host.reduce_andi_all _ _ _ _ _ h0 i
    rw [← e]; pointwise
  · have e := Host.reduce_andi_all _ _ _ _ _ h1 i
    rw [← e]; pointwise
  · have e := Host.reduce_andi_all _ _ _ _ _ h3 i
    rw [← e]; pointwise

/-- The kernel's frame. -/
theorem frame_kernel : (haveI := Cert.Kernel2.Gen.facts; Cert.quiescent_Kernel2) := fun m ρ _ => Cert.Kernel2.Gen.frame m ρ

/-- Its idealization's. -/
theorem frame_ideal : (haveI := Cert.Kernel2Ideal.Gen.facts; Cert.quiescent_Kernel2Ideal) := fun m ρ _ => Cert.Kernel2Ideal.Gen.frame m ρ

/-- The reference's. -/
theorem frame_reference : (haveI := Cert.Reference2Ideal.Gen.facts; Cert.quiescent_Reference2Ideal) := fun m ρ _ =>
  (θ_run (Cert.Reference2Ideal.defs (F := Ideal)) _ _).mono (fun _ h => ⟨fun c => (h c).2.2, sem_eq_zero_of_no_sems rfl _⟩)
    (Cert.Reference2Ideal.Value.run (F := Ideal) m ρ)

/-- The idealization's frame holds in particular of the arguments the equality speaks of. -/
theorem frame_ideal_finite : (haveI := Cert.Kernel2Ideal.Gen.facts; haveI := Cert.Pre_finite.Gen.facts; Cert.quiescent_Kernel2Ideal_pre_finite) :=
  fun m ρ _ => Cert.Kernel2Ideal.Gen.frame m ρ

/-- And the reference's. -/
theorem frame_reference_finite : (haveI := Cert.Reference2Ideal.Gen.facts; haveI := Cert.Pre_finite.Gen.facts
    Cert.quiescent_Reference2Ideal_pre_finite) := fun m ρ _ =>
  (θ_run (Cert.Reference2Ideal.defs (F := Ideal)) _ _).mono (fun _ h => ⟨fun c => (h c).2.2, sem_eq_zero_of_no_sems rfl _⟩)
    (Cert.Reference2Ideal.Value.run (F := Ideal) m ρ)

set_option maxHeartbeats 1000000 in
/-- The kernel and the reference compute the same two gradients. -/
theorem algebraic : (haveI := Cert.Kernel2Ideal.Gen.facts; haveI := Cert.Reference2Ideal.Gen.facts; haveI := Cert.Pre_finite.Gen.facts
    Cert.algebraic_Kernel2Ideal_Reference2Ideal_pre_finite) := by
  intro m ρ m' ρ' hp hm
  refine ⟨_, _, Cert.Kernel2Ideal.Value.run_blocks m ρ, ?_⟩
  refine (θ_run (Cert.Reference2Ideal.defs (F := Ideal)) _ _).mono (fun r h c => ?_) (Cert.Reference2Ideal.Value.run (F := Ideal) m' ρ')
  obtain ⟨r1, r2, ra⟩ := h c
  obtain ⟨h0, h1, h2, h3⟩ := hm c
  obtain ⟨f0, f1, f3⟩ := finite_reads _ _ _ _ (hp c)
  refine ⟨r1.trans ?_, r2.trans ?_, ra⟩
  · rw [h0, h1, h2, h3]
    funext j
    rw [← ix2_eta j]
    generalize j 0 = p, j 1 = q
    refine (ref_da _ _ _ _ p q).trans (Eq.trans ?_ (da m c p q).symm)
    obtain ⟨x, hx⟩ := ds_real f0 f1 p q
    obtain ⟨b, hb⟩ := f3 (ix2 p q)
    dsimp only
    rw [hx, hb, ← EReal.coe_mul]
    exact (gate _ _).symm
  · rw [h0, h1, h2]
    funext j
    rw [← ix2_eta j]
    generalize j 0 = p, j 1 = q
    refine (ref_db _ _ _ p q).trans (Eq.trans ?_ (db m c p q).symm)
    rw [mul_comm, ← mul_assoc]

end Cert.Proof.DownBwd

end
-- ==== Proof.SumFour.lean ====
/-
  A sum over four equal runs of indices, run by run.
-/
module

public import Idealize.ShloMosaic.PureOps.Ideal

@[expose] public section

namespace Cert.Proof

/-- A sum over `4·n` indices is the sum of the four sums over `n` consecutive ones. -/
theorem sum_four {n N : Nat} (h : N = 4 * n) (f : Fin N → EReal) :
    ∑ x, f x = (∑ k : Fin n, f ⟨k.val, by omega⟩) + (∑ k : Fin n, f ⟨n + k.val, by omega⟩)
      + (∑ k : Fin n, f ⟨2 * n + k.val, by omega⟩) + ∑ k : Fin n, f ⟨3 * n + k.val, by omega⟩ := by
  let g : Nat → EReal := fun x => if h : x < N then f ⟨x, h⟩ else 0
  have hg : ∀ x (hx : x < N), f ⟨x, hx⟩ = g x := fun x hx => by simp only [g, dif_pos hx]
  have e : ∑ x, f x = ∑ x ∈ Finset.range (n + n + n + n), g x := by
    rw [show n + n + n + n = N by omega, Finset.sum_range]
    exact Finset.sum_congr rfl fun x _ => hg x.val x.isLt
  rw [e, Finset.sum_range_add, Finset.sum_range_add, Finset.sum_range_add, Finset.sum_range, Finset.sum_range, Finset.sum_range, Finset.sum_range]
  simp only [hg]
  rw [show n + n = 2 * n by omega, show 2 * n + n = 3 * n by omega]

end Cert.Proof
-- ==== Proof.GateupBwd.lean ====
/-
  What the launch of the feed-forward block's backward call through the gate and the up product leaves in memory: each entry of the
  gradient of the block's input as two sums of products of the arguments, added four column shards after one another.
-/
module

public import proofs.«01_k».proof.Proof.Gen.Kernel3Ideal.Value
public import Idealize.ShloMosaic.Lib.Pipeline.ValueKit.Basic
public import Idealize.ShloMosaic.Lib.Pointwise
public import proofs.«01_k».proof.Proof.SumFour

@[expose] public section

set_option maxRecDepth 16384

noncomputable section

namespace Cert.Proof.GateupBwd

open Cert.Kernel3Ideal Cert.Kernel3Ideal.Gen
open Idealize.ShloMosaic Idealize.ShloMosaic.TcCoe
open Idealize.SL Idealize.SL.RA

theorem hz2 : (![0, 0] : Fin 2 → Nat) = fun _ => 0 := funext fun a => by fin_cases a <;> rfl
theorem hz4 : (![0, 0, 0, 0] : Fin 4 → Nat) = fun _ => 0 := funext fun a => by fin_cases a <;> rfl

section body
variable (c : Dev nD) (i : grid0.Coords) (a2 : Memref sig .tc .vmem S512x1408 .bf16) (h2 : a2.IsWhole)
  (a3 : Memref sig .tc .vmem S1x1x2048x1408 .bf16) (h3 : a3.IsWhole) (a4 : Memref sig .tc .vmem S512x1408 .bf16) (h4 : a4.IsWhole)
  (a5 : Memref sig .tc .vmem S1x1x2048x1408 .bf16) (h5 : a5.IsWhole) (a6 : Memref sig .tc .vmem S512x2048 .f32) (h6 : a6.IsWhole)
  (a7 : Memref sig .tc .vmem S512x2048 .f32) (h7 : a7.IsWhole)
  (x0 : Vec Ideal S512x1408 .bf16) (x1 : Vec Ideal S1x1x2048x1408 .bf16) (x2 : Vec Ideal S512x1408 .bf16) (x3 : Vec Ideal S1x1x2048x1408 .bf16)
  (xs : Vec Ideal S512x2048 .f32)

/-- The first of a run of four points leaves the two products' sum in the accumulator. -/
theorem acc_first (hc0 hc1 hc2) : sout0_A_0 c i a2 h2 a3 h3 a4 h4 a5 h5 a6 h6 a7 h7 hc0 hc1 hc2 x0 x1 x2 x3 = k0_pay1 x0 x1 x2 x3 := by
  unfold sout0_A_0
  rw [View.read_writes_eq_canon _ _ _ (scover0_A_0 c i a2 h2 a3 h3 a4 h4 a5 h5 a6 h6 a7 h7 hc0 hc1 hc2 x0 x1 x2 x3)]
  unfold kernelRun0_A
  dsimp only
  rw [View.canon_unit_zero hz2]
  unfold k0_pay2
  simp only [View.readAt_eq_ld, h2.read_unread, h3.read_unread, h4.read_unread, h5.read_unread, View.ld_unit_zero (S := S512x1408) hz2, View.ld_unit_zero (S := S1x1x2048x1408) hz4, View.ld_unit_zero (S := S512x2048) hz2, shapeCast_self]

/-- A later one adds it. -/
theorem acc_next (hc0 hc1 hc2) : sout0_B_0 c i a2 h2 a3 h3 a4 h4 a5 h5 a6 h6 a7 h7 hc0 hc1 hc2 x0 x1 x2 x3 xs = addf xs (k0_pay1 x0 x1 x2 x3) := by
  unfold sout0_B_0
  rw [View.read_writes_eq_canon _ _ _ (scover0_B_0 c i a2 h2 a3 h3 a4 h4 a5 h5 a6 h6 a7 h7 hc0 hc1 hc2 x0 x1 x2 x3 xs)]
  unfold kernelRun0_B
  dsimp only
  rw [View.canon_unit_zero hz2]
  unfold k0_pay3
  simp only [View.readAt_eq_ld, h2.read_unread, h3.read_unread, h4.read_unread, h5.read_unread, h7.read_unread, View.ld_unit_zero (S := S512x1408) hz2, View.ld_unit_zero (S := S1x1x2048x1408) hz4, View.ld_unit_zero (S := S512x2048) hz2, shapeCast_self]

/-- The last one writes the accumulated sum out. -/
theorem out_last (hc0 hc1 hc2) : out0_C_4 c i a2 h2 a3 h3 a4 h4 a5 h5 a6 h6 a7 h7 hc0 hc1 hc2 x0 x1 x2 x3 xs = addf xs (k0_pay1 x0 x1 x2 x3) := by
  unfold out0_C_4
  rw [View.read_writes_eq_canon _ _ _ (cover0_C_4 c i a2 h2 a3 h3 a4 h4 a5 h5 a6 h6 a7 h7 hc0 hc1 hc2 x0 x1 x2 x3 xs)]
  unfold kernelRun0_C
  dsimp only
  sl_unfold_words
  rw [View.canon_unit_zero hz2]
  unfold k0_pay3
  simp only [View.readAt_eq_ld, h2.read_unread, h3.read_unread, h4.read_unread, h5.read_unread, h7.read_unread, View.readCov_unit_zero (S := S512x2048) _ hz2, View.ld_unit_zero (S := S512x1408) hz2, View.ld_unit_zero (S := S1x1x2048x1408) hz4, View.ld_unit_zero (S := S512x2048) hz2, shapeCast_self]
end body

variable (m : (ℓ : Loc nD τ sig) → Buf (Elt Ideal) ℓ) (c : Dev nD)

/-- What point `t` adds to the accumulator. -/
abbrev term (t : Fin cfg0.N) : FVec Ideal S512x2048 .f32 := k0_pay1 (iblk m c 0 t) (iblk m c 1 t) (iblk m c 2 t) (iblk m c 3 t)

theorem acc0 (t : Fin cfg0.N) (h : t.val % 4 = 0) : (outsAt0 m c t.val t.isLt).2 = term m c t := by
  rw [outsAt0_A m c t h (by omega) (by omega)]
  dsimp only
  exact acc_first c _ _ _ _ _ _ _ _ _ _ _ _ _ _ _ _ _ _ _ _

theorem acc_step (n : ℕ) (hn : n + 1 < cfg0.N) (h0 : ¬(n + 1) % 4 = 0) (h3 : ¬(n + 1) % 4 = 3) :
    (outsAt0 m c (n + 1) hn).2 = addf (outsAt0 m c n (Nat.lt_of_succ_lt hn)).2 (term m c ⟨n + 1, hn⟩) := by
  rw [outsAt0_B m c ⟨n + 1, hn⟩ h0 (by show 1 ≤ (n + 1) % 4; omega) h3]
  dsimp only
  exact acc_next c _ _ _ _ _ _ _ _ _ _ _ _ _ _ _ _ _ _ _ _ _

theorem out_at (n : ℕ) (hn : n + 1 < cfg0.N) (h3 : (n + 1) % 4 = 3) :
    (outsAt0 m c (n + 1) hn).1 = addf (outsAt0 m c n (Nat.lt_of_succ_lt hn)).2 (term m c ⟨n + 1, hn⟩) := by
  rw [outsAt0_C m c ⟨n + 1, hn⟩ (by show ¬(n + 1) % 4 = 0; omega) (by show 1 ≤ (n + 1) % 4; omega) h3]
  dsimp only
  exact out_last c _ _ _ _ _ _ _ _ _ _ _ _ _ _ _ _ _ _ _ _ _

/-- The point of row block `i` and column shard `r`. -/
def pt (i : Fin 8) (r : Fin 4) : Fin cfg0.N := ⟨4 * i.val + r.val, lt_of_lt_of_eq (by omega) N_0.symm⟩

/-- What the last point of a row block writes out: the four points' terms. -/
theorem out_block (i : Fin 8) : (outsAt0 m c (4 * i.val + 2 + 1) (lt_of_lt_of_eq (by omega) N_0.symm)).1
    = addf (addf (addf (term m c (pt i 0)) (term m c (pt i 1))) (term m c (pt i 2))) (term m c (pt i 3)) := by
  rw [out_at m c (4 * i.val + 2) _ (by omega), acc_step m c (4 * i.val + 1) _ (by omega) (by omega), acc_step m c (4 * i.val) _ (by omega) (by omega)]
  rw [acc0 m c (pt i 0) (by show (4 * i.val + 0) % 4 = 0; omega) |> fun e => (show (outsAt0 m c (4 * i.val) _).2 = _ from e)]
  rfl

theorem index_eq : ∀ t : Fin cfg0.N,
    (win0_0.index t (0 : Fin 2) = t.val / 4 ∧ win0_0.index t (1 : Fin 2) = t.val % 4)
    ∧ (win0_1.index t (0 : Fin 4) = t.val % 4 ∧ win0_1.index t (1 : Fin 4) = 1 ∧ win0_1.index t (2 : Fin 4) = 0 ∧ win0_1.index t (3 : Fin 4) = 0)
    ∧ (win0_2.index t (0 : Fin 2) = t.val / 4 ∧ win0_2.index t (1 : Fin 2) = t.val % 4)
    ∧ (win0_3.index t (0 : Fin 4) = t.val % 4 ∧ win0_3.index t (1 : Fin 4) = 1 ∧ win0_3.index t (2 : Fin 4) = 0 ∧ win0_3.index t (3 : Fin 4) = 0) :=
  (by decide +kernel : ∀ t : Fin grid0.N, _)

/-- A weight as the launch finds it: four shards of columns. -/
theorem shards (x : FVec Ideal S2x2048x5632 .f32) (j : Fin 4) (r : Fin 2) (q : Fin 2048) (k : Fin 1408) :
    (transpose S4x2x2048x1408 [2, 0, 1, 3] (shapeCast S2x2048x4x1408 (truncf .bf16 x bitsLt_bf16_f32 : FVec Ideal S2x2048x5632 .bf16)
      shapeCasts_S2x2048x5632_S2x2048x4x1408) transposes_S2x2048x4x1408_S4x2x2048x1408_2_0_1_3 : FVec Ideal S4x2x2048x1408 .bf16) (ix4 j r q k)
      = x (ix3 r q ⟨1408 * j.val + k.val, by omega⟩) := by
  pointwise
  congr 2
  exact Fin.ext (by show j.val * 1408 + k.val = 1408 * j.val + k.val; omega)

variable (i : Fin 8) (r : Fin 4) (y : Fin 512) (k : Fin 1408) (q : Fin 2048)

theorem block0 : (iblk m c 0 (pt i r) : FVec Ideal S512x1408 .bf16) (ix2 y k)
    = (m ((c : Thread nD τ).loc main_arg0) : FVec Ideal S4096x5632 .bf16) (ix2 ⟨512 * i.val + y.val, by omega⟩ ⟨1408 * r.val + k.val, by omega⟩) := by
  obtain ⟨⟨e0, e1⟩, -⟩ := index_eq (pt i r)
  refine (?_ : _ = (V m c main_arg0 : FVec Ideal S4096x5632 .bf16) _).trans (congrFun (V_main_arg0 m c) _)
  show V m c main_arg0 (((cfg0.win 0).blk (pt i r)).view.emb _) = _
  congr 1
  funext a; apply Fin.ext
  match a with
  | ⟨0, _⟩ => show win0_0.index (pt i r) (0 : Fin 2) * 512 + 1 * y.val = 512 * i.val + y.val; rw [e0]; show (4 * i.val + r.val) / 4 * 512 + _ = _; omega
  | ⟨1, _⟩ => show win0_0.index (pt i r) (1 : Fin 2) * 1408 + 1 * k.val = 1408 * r.val + k.val; rw [e1]; show (4 * i.val + r.val) % 4 * 1408 + _ = _; omega

theorem block2 : (iblk m c 2 (pt i r) : FVec Ideal S512x1408 .bf16) (ix2 y k)
    = (m ((c : Thread nD τ).loc main_arg1) : FVec Ideal S4096x5632 .bf16) (ix2 ⟨512 * i.val + y.val, by omega⟩ ⟨1408 * r.val + k.val, by omega⟩) := by
  obtain ⟨-, -, ⟨e0, e1⟩, -⟩ := index_eq (pt i r)
  refine (?_ : _ = (V m c main_arg1 : FVec Ideal S4096x5632 .bf16) _).trans (congrFun (V_main_arg1 m c) _)
  show V m c main_arg1 (((cfg0.win 2).blk (pt i r)).view.emb _) = _
  congr 1
  funext a; apply Fin.ext
  match a with
  | ⟨0, _⟩ => show win0_2.index (pt i r) (0 : Fin 2) * 512 + 1 * y.val = 512 * i.val + y.val; rw [e0]; show (4 * i.val + r.val) / 4 * 512 + _ = _; omega
  | ⟨1, _⟩ => show win0_2.index (pt i r) (1 : Fin 2) * 1408 + 1 * k.val = 1408 * r.val + k.val; rw [e1]; show (4 * i.val + r.val) % 4 * 1408 + _ = _; omega

theorem block1 : (iblk m c 1 (pt i r) : FVec Ideal S1x1x2048x1408 .bf16) (ix4 0 0 q k)
    = (m ((c : Thread nD τ).loc main_arg2) : FVec Ideal S2x2048x5632 .f32) (ix3 1 q ⟨1408 * r.val + k.val, by omega⟩) := by
  obtain ⟨-, ⟨e0, e1, e2, e3⟩, -⟩ := index_eq (pt i r)
  refine (?_ : _ = (V m c main_v2 : FVec Ideal S4x2x2048x1408 .bf16) (ix4 r 1 q k)).trans (shards (m ((c : Thread nD τ).loc main_arg2)) r 1 q k)
  show V m c main_v2 (((cfg0.win 1).blk (pt i r)).view.emb _) = _
  congr 1
  funext a; apply Fin.ext
  match a with
  | ⟨0, _⟩ => show win0_1.index (pt i r) (0 : Fin 4) * 1 + 1 * 0 = r.val; rw [e0]; show (4 * i.val + r.val) % 4 * 1 + _ = _; omega
  | ⟨1, _⟩ => show win0_1.index (pt i r) (1 : Fin 4) * 1 + 1 * 0 = 1; rw [e1]
  | ⟨2, _⟩ => show win0_1.index (pt i r) (2 : Fin 4) * 2048 + 1 * q.val = q.val; rw [e2]; omega
  | ⟨3, _⟩ => show win0_1.index (pt i r) (3 : Fin 4) * 1408 + 1 * k.val = k.val; rw [e3]; omega

theorem block3 : (iblk m c 3 (pt i r) : FVec Ideal S1x1x2048x1408 .bf16) (ix4 0 0 q k)
    = (m ((c : Thread nD τ).loc main_arg3) : FVec Ideal S2x2048x5632 .f32) (ix3 1 q ⟨1408 * r.val + k.val, by omega⟩) := by
  obtain ⟨-, -, -, e0, e1, e2, e3⟩ := index_eq (pt i r)
  refine (?_ : _ = (V m c main_v5 : FVec Ideal S4x2x2048x1408 .bf16) (ix4 r 1 q k)).trans (shards (m ((c : Thread nD τ).loc main_arg3)) r 1 q k)
  show V m c main_v5 (((cfg0.win 3).blk (pt i r)).view.emb _) = _
  congr 1
  funext a; apply Fin.ext
  match a with
  | ⟨0, _⟩ => show win0_3.index (pt i r) (0 : Fin 4) * 1 + 1 * 0 = r.val; rw [e0]; show (4 * i.val + r.val) % 4 * 1 + _ = _; omega
  | ⟨1, _⟩ => show win0_3.index (pt i r) (1 : Fin 4) * 1 + 1 * 0 = 1; rw [e1]
  | ⟨2, _⟩ => show win0_3.index (pt i r) (2 : Fin 4) * 2048 + 1 * q.val = q.val; rw [e2]; omega
  | ⟨3, _⟩ => show win0_3.index (pt i r) (3 : Fin 4) * 1408 + 1 * k.val = k.val; rw [e3]; omega

/-- A product with the transposed weight: `x · wᵀ`, of the second block's weights. -/
def prod (x : FVec Ideal S4096x5632 .bf16) (w : FVec Ideal S2x2048x5632 .f32) (p : Fin 4096) (q : Fin 2048) : EReal :=
  ∑ k : Fin 5632, x (ix2 p k) * w (ix3 1 q k)

/-- The part of it one column shard gives. -/
def part (x : FVec Ideal S4096x5632 .bf16) (w : FVec Ideal S2x2048x5632 .f32) (p : Fin 4096) (q : Fin 2048) (r : Fin 4) : EReal :=
  ∑ k : Fin 1408, x (ix2 p ⟨1408 * r.val + k.val, by omega⟩) * w (ix3 1 q ⟨1408 * r.val + k.val, by omega⟩)

theorem prod_parts (x : FVec Ideal S4096x5632 .bf16) (w : FVec Ideal S2x2048x5632 .f32) (p : Fin 4096) (q : Fin 2048) :
    prod x w p q = part x w p q 0 + part x w p q 1 + part x w p q 2 + part x w p q 3 := by
  unfold prod part
  rw [sum_four (n := 1408) (by norm_num)]
  rfl

/-- What a point adds, of the arguments. -/
theorem term_apply : term m c (pt i r) (ix2 y q)
    = part (m ((c : Thread nD τ).loc main_arg0)) (m ((c : Thread nD τ).loc main_arg2)) ⟨512 * i.val + y.val, by omega⟩ q r
      + part (m ((c : Thread nD τ).loc main_arg1)) (m ((c : Thread nD τ).loc main_arg3)) ⟨512 * i.val + y.val, by omega⟩ q r := by
  unfold term part
  pointwise [k0_pay1]
  simp only [block0 m c i r y, block1 m c i r _ q, block2 m c i r y, block3 m c i r _ q]

/-- The gradient of the block's input, after the launch. -/
theorem dh (p : Fin 4096) (q : Fin 2048) : (Value.G4 m c : FVec Ideal S4096x2048 .f32) (ix2 p q)
    = prod (m ((c : Thread nD τ).loc main_arg0)) (m ((c : Thread nD τ).loc main_arg2)) p q
      + prod (m ((c : Thread nD τ).loc main_arg1)) (m ((c : Thread nD τ).loc main_arg3)) p q := by
  have hi : p.val / 512 < 8 := by omega
  have hp : Value.pt4Of (ix2 p q) = 4 * (⟨p.val / 512, hi⟩ : Fin 8).val + 2 + 1 := by
    show 4 * (1 * (p.val / 512 - 0) + 1 * (q.val / 2048 - 0)) + 3 = 4 * (p.val / 512) + 2 + 1
    omega
  have hl : Value.loc4Of (ix2 p q) = ix2 ⟨p.val % 512, by omega⟩ q := by
    funext a; apply Fin.ext
    match a with
    | ⟨0, _⟩ => rfl
    | ⟨1, _⟩ => show q.val % 2048 = q.val; omega
  have e : (Value.G4 m c : FVec Ideal S4096x2048 .f32) (ix2 p q)
      = (outsAt0 m c (4 * (⟨p.val / 512, hi⟩ : Fin 8).val + 2 + 1) (lt_of_lt_of_eq (by show 4 * (p.val / 512) + 2 + 1 < 32; omega) N_0.symm)).1 (ix2 ⟨p.val % 512, by omega⟩ q) := by
    rw [Value.outsAt0_sweep]
    unfold Value.G4
    rw [dif_pos (by rw [hp]; exact (pt ⟨p.val / 512, hi⟩ 3).isLt), hl, Value.fold0_congr m c _ _ _ _ hp]
  rw [e, out_block]
  have hpp : (⟨512 * (p.val / 512) + p.val % 512, by omega⟩ : Fin 4096) = p := Fin.ext (by show 512 * (p.val / 512) + p.val % 512 = p.val; omega)
  show term m c (pt _ 0) _ + term m c (pt _ 1) _ + term m c (pt _ 2) _ + term m c (pt _ 3) _ = _
  simp only [term_apply]
  rw [hpp, prod_parts, prod_parts]
  abel

end Cert.Proof.GateupBwd
-- ==== Proof.GateupBwdEq.lean ====
/-
  The claims about the backward call through the feed-forward block's gate and up products: its frames, and the equality of the
  gradient it returns with the reference's, whatever the numbers (the sum of the two products in the other order).
-/
module

public import proofs.«01_k».proof.Defs
public import proofs.«01_k».proof.Proof.GateupBwd
public import proofs.«01_k».proof.Proof.Gen.Kernel3.Frame
public import proofs.«01_k».proof.Proof.Gen.Reference3Ideal
public import proofs.«01_k».proof.Proof.Gen.Reference3Ideal.Run
public import Idealize.ShloMosaic.Lib.Quiescent

@[expose] public section

set_option maxRecDepth 16384

noncomputable section

namespace Cert.Proof.GateupBwd

open Idealize.ShloMosaic Idealize.ShloMosaic.TcCoe Idealize.SL.Sem

section
open Cert.Reference3Ideal Cert.Reference3Ideal.Gen

/-- The reference's gradient, at an index. -/
theorem ref_dh (x0 x1 : FVec Ideal S4096x5632 .bf16) (x2 x3 : FVec Ideal S2x2048x5632 .f32) (p : Fin 4096) (q : Fin 2048) :
    (addf (Host.dotGeneral dot_S4096x5632_S2048x5632_S4096x2048_1_1_0_0_n_n none (extf .f32 x1 bitsLt_bf16_f32) (shapeCast _ (extractStridedSlice S1x2048x5632 ![1, 0, 0] x3 slices_S2x2048x5632_S1x2048x5632_1_0_0) shapeCasts_S1x2048x5632_S2048x5632)) (Host.dotGeneral dot_S4096x5632_S2048x5632_S4096x2048_1_1_0_0_n_n none (extf .f32 x0 bitsLt_bf16_f32) (shapeCast _ (extractStridedSlice S1x2048x5632 ![1, 0, 0] x2 slices_S2x2048x5632_S1x2048x5632_1_0_0) shapeCasts_S1x2048x5632_S2048x5632)) : FVec Ideal S4096x2048 .f32) (ix2 p q)
      = prod x1 x3 p q + prod x0 x2 p q := by
  pointwise
  rfl

end

/-- The kernel's frame. -/
theorem frame_kernel : (haveI := Cert.Kernel3.Gen.facts; Cert.quiescent_Kernel3) := fun m ρ _ => Cert.Kernel3.Gen.frame m ρ

/-- Its idealization's. -/
theorem frame_ideal : (haveI := Cert.Kernel3Ideal.Gen.facts; Cert.quiescent_Kernel3Ideal) := fun m ρ _ => Cert.Kernel3Ideal.Gen.frame m ρ

/-- The reference's. -/
theorem frame_reference : (haveI := Cert.Reference3Ideal.Gen.facts; Cert.quiescent_Reference3Ideal) := fun m ρ _ =>
  (θ_run (Cert.Reference3Ideal.defs (F := Ideal)) _ _).mono (fun _ h => ⟨fun c => (h c).2, sem_eq_zero_of_no_sems rfl _⟩)
    (Cert.Reference3Ideal.Value.run (F := Ideal) m ρ)

/-- The kernel and the reference compute the same gradient. -/
theorem algebraic : (haveI := Cert.Kernel3Ideal.Gen.facts; haveI := Cert.Reference3Ideal.Gen.facts
    Cert.algebraic_Kernel3Ideal_Reference3Ideal) := by
  intro m ρ m' ρ' _ hm
  refine ⟨_, Cert.Kernel3Ideal.Value.run m ρ, ?_⟩
  refine (θ_run (Cert.Reference3Ideal.defs (F := Ideal)) _ _).mono (fun r h c => ?_) (Cert.Reference3Ideal.Value.run (F := Ideal) m' ρ')
  obtain ⟨r1, ra⟩ := h c
  obtain ⟨h0, h1, h2, h3⟩ := hm c
  refine ⟨r1.trans ?_, ra⟩
  rw [h0, h1, h2, h3]
  funext j
  rw [eq_ix2 j]
  generalize j 0 = p, j 1 = q
  exact (ref_dh _ _ _ _ p q).trans ((add_comm _ _).trans (dh m c p q).symm)

end Cert.Proof.GateupBwd

end
-- ==== Proof.DownGrad.lean ====
/-
  What the launch that computes the down weights' gradient leaves in memory: the first slab of each shard holds the product of the
  transposed hidden rows with the arriving gradient, summed over four runs of the tokens; the second slab stays as it was given.
-/
module

public import proofs.«01_k».proof.Proof.Gen.Kernel4Ideal.Value
public import Idealize.ShloMosaic.Lib.Pipeline.ValueKit.Basic
public import Idealize.ShloMosaic.Lib.Pointwise
public import proofs.«01_k».proof.Proof.SumFour

@[expose] public section

set_option maxRecDepth 16384

noncomputable section

namespace Cert.Proof.DownGrad

open Cert.Kernel4Ideal Cert.Kernel4Ideal.Gen
open Idealize.ShloMosaic Idealize.ShloMosaic.TcCoe
open Idealize.SL Idealize.SL.RA

theorem hz2 : (![0, 0] : Fin 2 → Nat) = fun _ => 0 := funext fun a => by fin_cases a <;> rfl
theorem hz4 : (![0, 0, 0, 0] : Fin 4 → Nat) = fun _ => 0 := funext fun a => by fin_cases a <;> rfl

section body
variable (c : Dev nD) (i : grid0.Coords) (a4 : Memref sig .tc .vmem S1024x1408 .bf16) (h4 : a4.IsWhole)
  (a5 : Memref sig .tc .vmem S1024x1024 .bf16) (h5 : a5.IsWhole) (a7 : Memref sig .tc .vmem S1x1x1408x1024 .bf16) (h7 : a7.IsWhole)
  (a8 : Memref sig .tc .vmem S1408x1024 .f32) (h8 : a8.IsWhole)
  (x0 : Vec Ideal S1024x1408 .bf16) (x1 : Vec Ideal S1024x1024 .bf16) (xs : Vec Ideal S1408x1024 .f32)

/-- The first of a run of four points leaves its product in the accumulator. -/
theorem acc_first (hc0 hc1 hc2) : sout0_A_0 c i a4 h4 a5 h5 a7 h7 a8 h8 hc0 hc1 hc2 x0 x1 = k0_pay1 x0 x1 := by
  unfold sout0_A_0
  rw [View.read_writes_eq_canon _ _ _ (scover0_A_0 c i a4 h4 a5 h5 a7 h7 a8 h8 hc0 hc1 hc2 x0 x1)]
  unfold kernelRun0_A
  dsimp only
  rw [View.canon_unit_zero hz2]
  unfold k0_pay2
  simp only [View.readAt_eq_ld, h4.read_unread, h5.read_unread, View.ld_unit_zero (S := S1024x1408) hz2, View.ld_unit_zero (S := S1024x1024) hz2, shapeCast_self]

/-- A later one adds it. -/
theorem acc_next (hc0 hc1 hc2) : sout0_B_0 c i a4 h4 a5 h5 a7 h7 a8 h8 hc0 hc1 hc2 x0 x1 xs = addf xs (k0_pay1 x0 x1) := by
  unfold sout0_B_0
  rw [View.read_writes_eq_canon _ _ _ (scover0_B_0 c i a4 h4 a5 h5 a7 h7 a8 h8 hc0 hc1 hc2 x0 x1 xs)]
  unfold kernelRun0_B
  dsimp only
  rw [View.canon_unit_zero hz2]
  unfold k0_pay3
  simp only [View.readAt_eq_ld, h4.read_unread, h5.read_unread, h8.read_unread, View.ld_unit_zero (S := S1024x1408) hz2, View.ld_unit_zero (S := S1024x1024) hz2, View.ld_unit_zero (S := S1408x1024) hz2, shapeCast_self]

/-- The last one writes the accumulated sum out. -/
theorem out_last (hc0 hc1 hc2) : out0_C_2 c i a4 h4 a5 h5 a7 h7 a8 h8 hc0 hc1 hc2 x0 x1 xs = k0_pay4 (addf xs (k0_pay1 x0 x1)) := by
  unfold out0_C_2
  rw [View.read_writes_eq_canon _ _ _ (cover0_C_2 c i a4 h4 a5 h5 a7 h7 a8 h8 hc0 hc1 hc2 x0 x1 xs)]
  unfold kernelRun0_C
  dsimp only
  sl_unfold_words
  rw [View.canon_unit_zero hz4]
  unfold k0_pay3
  simp only [View.readAt_eq_ld, h4.read_unread, h5.read_unread, h8.read_unread, View.readCov_unit_zero (S := S1408x1024) _ hz2, View.ld_unit_zero (S := S1024x1408) hz2, View.ld_unit_zero (S := S1024x1024) hz2, View.ld_unit_zero (S := S1408x1024) hz2, shapeCast_self]
end body

variable (m : (ℓ : Loc nD τ sig) → Buf (Elt Ideal) ℓ) (c : Dev nD)

/-- What point `t` adds to the accumulator. -/
abbrev term (t : Fin cfg0.N) : FVec Ideal S1408x1024 .f32 := k0_pay1 (iblk m c 0 t) (iblk m c 1 t)

theorem acc0 (t : Fin cfg0.N) (h : t.val % 4 = 0) : (outsAt0 m c t.val t.isLt).2 = term m c t := by
  rw [outsAt0_A m c t h (by omega) (by omega)]
  dsimp only
  exact acc_first c _ _ _ _ _ _ _ _ _ _ _ _ _ _

theorem acc_step (n : ℕ) (hn : n + 1 < cfg0.N) (h0 : ¬(n + 1) % 4 = 0) (h3 : ¬(n + 1) % 4 = 3) :
    (outsAt0 m c (n + 1) hn).2 = addf (outsAt0 m c n (Nat.lt_of_succ_lt hn)).2 (term m c ⟨n + 1, hn⟩) := by
  rw [outsAt0_B m c ⟨n + 1, hn⟩ h0 (by show 1 ≤ (n + 1) % 4; omega) h3]
  dsimp only
  exact acc_next c _ _ _ _ _ _ _ _ _ _ _ _ _ _ _

theorem out_at (n : ℕ) (hn : n + 1 < cfg0.N) (h3 : (n + 1) % 4 = 3) :
    (outsAt0 m c (n + 1) hn).1 = k0_pay4 (addf (outsAt0 m c n (Nat.lt_of_succ_lt hn)).2 (term m c ⟨n + 1, hn⟩)) := by
  rw [outsAt0_C m c ⟨n + 1, hn⟩ (by show ¬(n + 1) % 4 = 0; omega) (by show 1 ≤ (n + 1) % 4; omega) h3]
  dsimp only
  exact out_last c _ _ _ _ _ _ _ _ _ _ _ _ _ _ _

/-- The point of shard `j`, tile `n` of the model's width and run `r` of the tokens. -/
def pt (j : Fin 4) (n : Fin 2) (r : Fin 4) : Fin cfg0.N := ⟨8 * j.val + 4 * n.val + r.val, lt_of_lt_of_eq (by omega) N_0.symm⟩

/-- What the last point of a run writes out: the four points' terms. -/
theorem out_block (j : Fin 4) (n : Fin 2) : (outsAt0 m c (8 * j.val + 4 * n.val + 2 + 1) (lt_of_lt_of_eq (by omega) N_0.symm)).1
    = k0_pay4 (addf (addf (addf (term m c (pt j n 0)) (term m c (pt j n 1))) (term m c (pt j n 2))) (term m c (pt j n 3))) := by
  rw [out_at m c (8 * j.val + 4 * n.val + 2) _ (by omega), acc_step m c (8 * j.val + 4 * n.val + 1) _ (by omega) (by omega), acc_step m c (8 * j.val + 4 * n.val) _ (by omega) (by omega)]
  rw [acc0 m c (pt j n 0) (by show (8 * j.val + 4 * n.val + 0) % 4 = 0; omega) |> fun e => (show (outsAt0 m c (8 * j.val + 4 * n.val) _).2 = _ from e)]
  rfl

theorem index_eq : ∀ t : Fin cfg0.N,
    (win0_0.index t (0 : Fin 2) = t.val % 4 ∧ win0_0.index t (1 : Fin 2) = t.val / 8)
    ∧ (win0_1.index t (0 : Fin 2) = t.val % 4 ∧ win0_1.index t (1 : Fin 2) = t.val / 4 % 2)
    ∧ (win0_2.index t (0 : Fin 4) = t.val / 8 ∧ win0_2.index t (1 : Fin 4) = 0 ∧ win0_2.index t (2 : Fin 4) = 0 ∧ win0_2.index t (3 : Fin 4) = t.val / 4 % 2) :=
  (by decide +kernel : ∀ t : Fin grid0.N, _)

variable (j : Fin 4) (n : Fin 2) (r : Fin 4) (k : Fin 1024) (a : Fin 1408) (b : Fin 1024)

theorem block0 : (iblk m c 0 (pt j n r) : FVec Ideal S1024x1408 .bf16) (ix2 k a)
    = (m ((c : Thread nD τ).loc main_arg0) : FVec Ideal S4096x5632 .bf16) (ix2 ⟨1024 * r.val + k.val, by omega⟩ ⟨1408 * j.val + a.val, by omega⟩) := by
  obtain ⟨⟨e0, e1⟩, -⟩ := index_eq (pt j n r)
  refine (?_ : _ = (V m c main_arg0 : FVec Ideal S4096x5632 .bf16) _).trans (congrFun (V_main_arg0 m c) _)
  show V m c main_arg0 (((cfg0.win 0).blk (pt j n r)).view.emb _) = _
  congr 1
  funext z; apply Fin.ext
  match z with
  | ⟨0, _⟩ => show win0_0.index (pt j n r) (0 : Fin 2) * 1024 + 1 * k.val = 1024 * r.val + k.val; rw [e0]; show (8 * j.val + 4 * n.val + r.val) % 4 * 1024 + _ = _; omega
  | ⟨1, _⟩ => show win0_0.index (pt j n r) (1 : Fin 2) * 1408 + 1 * a.val = 1408 * j.val + a.val; rw [e1]; show (8 * j.val + 4 * n.val + r.val) / 8 * 1408 + _ = _; omega

theorem block1 : (iblk m c 1 (pt j n r) : FVec Ideal S1024x1024 .bf16) (ix2 k b)
    = (m ((c : Thread nD τ).loc main_arg1) : FVec Ideal S4096x2048 .bf16) (ix2 ⟨1024 * r.val + k.val, by omega⟩ ⟨1024 * n.val + b.val, by omega⟩) := by
  obtain ⟨-, ⟨e0, e1⟩, -⟩ := index_eq (pt j n r)
  refine (?_ : _ = (V m c main_arg1 : FVec Ideal S4096x2048 .bf16) _).trans (congrFun (V_main_arg1 m c) _)
  show V m c main_arg1 (((cfg0.win 1).blk (pt j n r)).view.emb _) = _
  congr 1
  funext z; apply Fin.ext
  match z with
  | ⟨0, _⟩ => show win0_1.index (pt j n r) (0 : Fin 2) * 1024 + 1 * k.val = 1024 * r.val + k.val; rw [e0]; show (8 * j.val + 4 * n.val + r.val) % 4 * 1024 + _ = _; omega
  | ⟨1, _⟩ => show win0_1.index (pt j n r) (1 : Fin 2) * 1024 + 1 * b.val = 1024 * n.val + b.val; rw [e1]; show (8 * j.val + 4 * n.val + r.val) / 4 % 2 * 1024 + _ = _; omega

/-- The weight's gradient: `xᵀ · y`. -/
def dw (x : FVec Ideal S4096x5632 .bf16) (y : FVec Ideal S4096x2048 .bf16) (p : Fin 5632) (q : Fin 2048) : EReal :=
  ∑ k : Fin 4096, x (ix2 k p) * y (ix2 k q)

/-- The part of it one run of the tokens gives. -/
def part (x : FVec Ideal S4096x5632 .bf16) (y : FVec Ideal S4096x2048 .bf16) (p : Fin 5632) (q : Fin 2048) (r : Fin 4) : EReal :=
  ∑ k : Fin 1024, x (ix2 ⟨1024 * r.val + k.val, by omega⟩ p) * y (ix2 ⟨1024 * r.val + k.val, by omega⟩ q)

theorem dw_parts (x : FVec Ideal S4096x5632 .bf16) (y : FVec Ideal S4096x2048 .bf16) (p : Fin 5632) (q : Fin 2048) :
    dw x y p q = part x y p q 0 + part x y p q 1 + part x y p q 2 + part x y p q 3 := by
  unfold dw part
  rw [sum_four (n := 1024) (by norm_num)]
  rfl

/-- What a point adds, of the arguments. -/
theorem term_apply : term m c (pt j n r) (ix2 a b)
    = part (m ((c : Thread nD τ).loc main_arg0)) (m ((c : Thread nD τ).loc main_arg1)) ⟨1408 * j.val + a.val, by omega⟩ ⟨1024 * n.val + b.val, by omega⟩ r := by
  unfold term part
  pointwise [k0_pay1]
  simp only [block0 m c j n r _ a, block1 m c j n r _ b]

/-- What a run's last point writes out, of the arguments. -/
theorem out_apply : (outsAt0 m c (8 * j.val + 4 * n.val + 2 + 1) (lt_of_lt_of_eq (by omega) N_0.symm)).1 (ix4 0 0 a b)
    = dw (m ((c : Thread nD τ).loc main_arg0)) (m ((c : Thread nD τ).loc main_arg1)) ⟨1408 * j.val + a.val, by omega⟩ ⟨1024 * n.val + b.val, by omega⟩ := by
  rw [out_block, dw_parts, ← term_apply m c, ← term_apply m c, ← term_apply m c, ← term_apply m c]
  pointwise [k0_pay4]

/-- Two points that write out different runs write disjoint blocks. -/
theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne <| by
    obtain ⟨-, -, e0, -, e2, e3⟩ := index_eq t
    obtain ⟨-, -, f0, -, f2, f3⟩ := index_eq t'
    have g := (flush0_2 t).mp hf
    have g' := (flush0_2 t').mp hf'
    have h0 : win0_2.index t (0 : Fin 4) = win0_2.index t' (0 : Fin 4) := congrFun h 0
    have h2 : win0_2.index t (2 : Fin 4) = win0_2.index t' (2 : Fin 4) := congrFun h 2
    have h3 : win0_2.index t (3 : Fin 4) = win0_2.index t' (3 : Fin 4) := congrFun h 3
    exact Fin.ext (by omega)

/-- Where the written blocks lie: entry `(j, 0, …)` of the array. -/
theorem emb_eq : ((cfg0.win 2).blk (pt j n 3)).view.emb (ix4 0 0 a b) = (ix4 j 0 a ⟨1024 * n.val + b.val, by omega⟩ : S4x2x1408x2048.Idx) := by
  obtain ⟨-, -, e0, e1, e2, e3⟩ := index_eq (pt j n 3)
  funext z; apply Fin.ext
  match z with
  | ⟨0, _⟩ => show win0_2.index (pt j n 3) (0 : Fin 4) * 1 + 1 * 0 = j.val; rw [e0]; show (8 * j.val + 4 * n.val + 3) / 8 * 1 + _ = _; omega
  | ⟨1, _⟩ => show win0_2.index (pt j n 3) (1 : Fin 4) * 1 + 1 * 0 = 0; rw [e1]
  | ⟨2, _⟩ => show win0_2.index (pt j n 3) (2 : Fin 4) * 1408 + 1 * a.val = a.val; rw [e2]; omega
  | ⟨3, _⟩ => show win0_2.index (pt j n 3) (3 : Fin 4) * 1024 + 1 * b.val = 1024 * n.val + b.val; rw [e3]; show (8 * j.val + 4 * n.val + 3) / 4 % 2 * 1024 + _ = _; omega

/-- The first slab of the array after the launch: the gradient, shard by shard. -/
theorem slab0 : ((dats m 0 c).arrAt 2 cfg0.N : FVec Ideal S4x2x1408x2048 .bf16) (ix4 j 0 a ⟨1024 * n.val + b.val, by omega⟩)
    = dw (m ((c : Thread nD τ).loc main_arg0)) (m ((c : Thread nD τ).loc main_arg1)) ⟨1408 * j.val + a.val, by omega⟩ ⟨1024 * n.val + b.val, by omega⟩ := by
  have hf : (cfg0.win 2).flush (pt j n 3) = true := (flush0_2 _).mpr (by show (8 * j.val + 4 * n.val + 3) % 4 = 3; omega)
  have h := congrFun ((dats m 0 c).read_blk_arrAt_eq_flushed 2 disjoint2 cfg0.N (pt j n 3) (pt j n 3).isLt hf) (ix4 0 0 a b)
  rw [← emb_eq j n a b]
  refine (show _ = _ from h).trans ?_
  rw [Value.flushed2]
  exact out_apply m c j n a b

/-- The second slab stays as it was given. -/
theorem slab1 (p : Fin 1408) (q : Fin 2048) : ((dats m 0 c).arrAt 2 cfg0.N : FVec Ideal S4x2x1408x2048 .bf16) (ix4 j 1 p q)
    = (m ((c : Thread nD τ).loc main_arg2) : FVec Ideal S4x2x1408x2048 .bf16) (ix4 j 1 p q) := by
  refine (Value.entry2 m c _ fun t _ hi => ?_).trans ?_
  · have h : (ix4 j 1 p q : S4x2x1408x2048.Idx) ∈ ((View.whole main_v0).slice (win0_2.rect t)).set := hi
    rw [View.set_slice_whole, Rect.mem_set_unit] at h
    have h1 : win0_2.index t (1 : Fin 4) * 1 ≤ 1 ∧ 1 < win0_2.index t (1 : Fin 4) * 1 + 1 := h 1
    obtain ⟨-, -, -, e1, -⟩ := index_eq t
    omega
  · rfl

end Cert.Proof.DownGrad

end
-- ==== Proof.DownGradEq.lean ====
/-
  The claims about the launch that computes the down weights' gradient: its frames, and the equality of the stacked gradients it
  returns with the reference's, whatever the numbers.
-/
module

public import proofs.«01_k».proof.Defs
public import proofs.«01_k».proof.Proof.DownGrad
public import proofs.«01_k».proof.Proof.Gen.Kernel4.Frame
public import proofs.«01_k».proof.Proof.Gen.Reference4Ideal
public import proofs.«01_k».proof.Proof.Gen.Reference4Ideal.Run
public import Idealize.ShloMosaic.Lib.Quiescent

@[expose] public section

set_option maxRecDepth 16384

noncomputable section

namespace Cert.Proof.DownGrad

open Idealize.ShloMosaic Idealize.ShloMosaic.TcCoe Idealize.SL.Sem

section
open Cert.Reference4Ideal Cert.Reference4Ideal.Gen

/-- The reference's gradient, before the shards are stacked. -/
theorem ref_dw (x0 : FVec Ideal S4096x5632 .bf16) (x1 : FVec Ideal S4096x2048 .bf16) (j : Fin 4) (p : Fin 1408) (q : Fin 2048) :
    (truncf .bf16 (shapeCast S4x1408x2048 (transpose S5632x2048 [1, 0] (Host.dotGeneral dot_S4096x2048_S4096x5632_S2048x5632_0_0_1_1_n_n none (extf .f32 x1 bitsLt_bf16_f32) (extf .f32 x0 bitsLt_bf16_f32)) transposes_S2048x5632_S5632x2048_1_0) shapeCasts_S5632x2048_S4x1408x2048) bitsLt_bf16_f32 : FVec Ideal S4x1408x2048 .bf16) (ix3 j p q)
      = dw x0 x1 ⟨j.val * 1408 + p.val, by omega⟩ q := by
  pointwise
  unfold dw
  exact Finset.sum_congr rfl fun k _ => by rw [mul_comm]

/-- The two slabs, stacked: an entry of the first. -/
theorem stack0 (x y : FVec Ideal S4x1408x2048 .bf16) (j : Fin 4) (p : Fin 1408) (q : Fin 2048) :
    (concatenate S4x2x1408x2048 1 [⟨S4x1x1408x2048, (broadcastInDim S4x1x1408x2048 ![0, 2, 3] bcast_S4x1408x2048_S4x1x1408x2048_0_2_3 x)⟩, ⟨S4x1x1408x2048, (broadcastInDim S4x1x1408x2048 ![0, 2, 3] bcast_S4x1408x2048_S4x1x1408x2048_0_2_3 y)⟩] concatenates_S4x1x1408x2048_S4x1x1408x2048_S4x2x1408x2048_d1 : FVec Ideal S4x2x1408x2048 .bf16) (ix4 j 0 p q)
      = x (ix3 j p q) := by
  pointwise

/-- And of the second. -/
theorem stack1 (x y : FVec Ideal S4x1408x2048 .bf16) (j : Fin 4) (p : Fin 1408) (q : Fin 2048) :
    (concatenate S4x2x1408x2048 1 [⟨S4x1x1408x2048, (broadcastInDim S4x1x1408x2048 ![0, 2, 3] bcast_S4x1408x2048_S4x1x1408x2048_0_2_3 x)⟩, ⟨S4x1x1408x2048, (broadcastInDim S4x1x1408x2048 ![0, 2, 3] bcast_S4x1408x2048_S4x1x1408x2048_0_2_3 y)⟩] concatenates_S4x1x1408x2048_S4x1x1408x2048_S4x2x1408x2048_d1 : FVec Ideal S4x2x1408x2048 .bf16) (ix4 j 1 p q)
      = y (ix3 j p q) := by
  pointwise

/-- The second slab of what the reference was given. -/
theorem kept (x : FVec Ideal S4x2x1408x2048 .bf16) (j : Fin 4) (p : Fin 1408) (q : Fin 2048) :
    (shapeCast S4x1408x2048 (extractStridedSlice S4x1x1408x2048 ![0, 1, 0, 0] x slices_S4x2x1408x2048_S4x1x1408x2048_0_1_0_0) shapeCasts_S4x1x1408x2048_S4x1408x2048 : FVec Ideal S4x1408x2048 .bf16) (ix3 j p q)
      = x (ix4 j 1 p q) := by
  pointwise

end

/-- The kernel's frame. -/
theorem frame_kernel : (haveI := Cert.Kernel4.Gen.facts; Cert.quiescent_Kernel4) := fun m ρ _ => Cert.Kernel4.Gen.frame m ρ

/-- Its idealization's. -/
theorem frame_ideal : (haveI := Cert.Kernel4Ideal.Gen.facts; Cert.quiescent_Kernel4Ideal) := fun m ρ _ => Cert.Kernel4Ideal.Gen.frame m ρ

/-- The reference's. -/
theorem frame_reference : (haveI := Cert.Reference4Ideal.Gen.facts; Cert.quiescent_Reference4Ideal) := fun m ρ _ =>
  (θ_run (Cert.Reference4Ideal.defs (F := Ideal)) _ _).mono (fun _ h => ⟨fun c => (h c).2, sem_eq_zero_of_no_sems rfl _⟩)
    (Cert.Reference4Ideal.Value.run (F := Ideal) m ρ)

/-- The kernel and the reference compute the same stack of gradients. -/
theorem algebraic : (haveI := Cert.Kernel4Ideal.Gen.facts; haveI := Cert.Reference4Ideal.Gen.facts
    Cert.algebraic_Kernel4Ideal_Reference4Ideal) := by
  intro m ρ m' ρ' _ hm
  refine ⟨_, Cert.Kernel4Ideal.Value.run_blocks m ρ, ?_⟩
  refine (θ_run (Cert.Reference4Ideal.defs (F := Ideal)) _ _).mono (fun r h c => ?_) (Cert.Reference4Ideal.Value.run (F := Ideal) m' ρ')
  obtain ⟨r1, ra⟩ := h c
  obtain ⟨h0, h1, h2⟩ := hm c
  refine ⟨r1.trans ?_, ra⟩
  rw [h0, h1, h2]
  funext i
  rw [eq_ix4 i]
  obtain ⟨j, hj⟩ : ∃ j : Fin 4, j = i 0 := ⟨_, rfl⟩
  obtain ⟨s, hs⟩ : ∃ s : Fin 2, s = i 1 := ⟨_, rfl⟩
  obtain ⟨p, hp⟩ : ∃ p : Fin 1408, p = i 2 := ⟨_, rfl⟩
  obtain ⟨q, hq⟩ : ∃ q : Fin 2048, q = i 3 := ⟨_, rfl⟩
  rw [← hj, ← hs, ← hp, ← hq]
  match s with
  | ⟨0, _⟩ =>
    have h := slab0 m c j ⟨q.val / 1024, by omega⟩ p ⟨q.val % 1024, by omega⟩
    refine (stack0 _ _ j p q).trans ((ref_dw _ _ j p q).trans (Eq.trans ?_ (h.symm.trans ?_)))
    · exact congrArg₂ (dw _ _) (Fin.ext (by show j.val * 1408 + p.val = 1408 * j.val + p.val; omega))
        (Fin.ext (by show q.val = 1024 * (q.val / 1024) + q.val % 1024; omega))
    · exact congrArg (fun z => (Cert.Kernel4Ideal.Gen.dats m 0 c).arrAt 2 Cert.Kernel4Ideal.cfg0.N (ix4 j 0 p z))
        (Fin.ext (by show 1024 * (q.val / 1024) + q.val % 1024 = q.val; omega))
  | ⟨1, _⟩ => exact (stack1 _ _ j p q).trans ((kept _ j p q).trans (slab1 m c j p q).symm)

end Cert.Proof.DownGrad

end
-- ==== Proof.GateGrad.lean ====
/-
  What the launch that computes the gate weights' gradient leaves in memory: the first slab of each shard holds the product of the
  transposed input rows with the arriving gradient, summed over four runs of the tokens; the second slab stays as it was given.
-/
module

public import proofs.«01_k».proof.Proof.Gen.Kernel5Ideal.Value
public import Idealize.ShloMosaic.Lib.Pipeline.ValueKit.Basic
public import Idealize.ShloMosaic.Lib.Pointwise
public import proofs.«01_k».proof.Proof.SumFour

@[expose] public section

set_option maxRecDepth 16384

noncomputable section

namespace Cert.Proof.GateGrad

open Cert.Kernel5Ideal Cert.Kernel5Ideal.Gen
open Idealize.ShloMosaic Idealize.ShloMosaic.TcCoe
open Idealize.SL Idealize.SL.RA

theorem hz2 : (![0, 0] : Fin 2 → Nat) = fun _ => 0 := funext fun a => by fin_cases a <;> rfl
theorem hz4 : (![0, 0, 0, 0] : Fin 4 → Nat) = fun _ => 0 := funext fun a => by fin_cases a <;> rfl

section body
variable (c : Dev nD) (i : grid0.Coords) (a4 : Memref sig .tc .vmem S1024x1024 .bf16) (h4 : a4.IsWhole)
  (a5 : Memref sig .tc .vmem S1024x1408 .bf16) (h5 : a5.IsWhole) (a7 : Memref sig .tc .vmem S1x1x1024x1408 .bf16) (h7 : a7.IsWhole)
  (a8 : Memref sig .tc .vmem S1024x1408 .f32) (h8 : a8.IsWhole)
  (x0 : Vec Ideal S1024x1024 .bf16) (x1 : Vec Ideal S1024x1408 .bf16) (xs : Vec Ideal S1024x1408 .f32)

/-- The first of a run of four points leaves its product in the accumulator. -/
theorem acc_first (hc0 hc1 hc2) : sout0_A_0 c i a4 h4 a5 h5 a7 h7 a8 h8 hc0 hc1 hc2 x0 x1 = k0_pay1 x0 x1 := by
  unfold sout0_A_0
  rw [View.read_writes_eq_canon _ _ _ (scover0_A_0 c i a4 h4 a5 h5 a7 h7 a8 h8 hc0 hc1 hc2 x0 x1)]
  unfold kernelRun0_A
  dsimp only
  rw [View.canon_unit_zero hz2]
  unfold k0_pay2
  simp only [View.readAt_eq_ld, h4.read_unread, h5.read_unread, View.ld_unit_zero (S := S1024x1024) hz2, View.ld_unit_zero (S := S1024x1408) hz2, shapeCast_self]

/-- A later one adds it. -/
theorem acc_next (hc0 hc1 hc2) : sout0_B_0 c i a4 h4 a5 h5 a7 h7 a8 h8 hc0 hc1 hc2 x0 x1 xs = addf xs (k0_pay1 x0 x1) := by
  unfold sout0_B_0
  rw [View.read_writes_eq_canon _ _ _ (scover0_B_0 c i a4 h4 a5 h5 a7 h7 a8 h8 hc0 hc1 hc2 x0 x1 xs)]
  unfold kernelRun0_B
  dsimp only
  rw [View.canon_unit_zero hz2]
  unfold k0_pay3
  simp only [View.readAt_eq_ld, h4.read_unread, h5.read_unread, h8.read_unread, View.ld_unit_zero (S := S1024x1024) hz2, View.ld_unit_zero (S := S1024x1408) hz2, View.ld_unit_zero (S := S1024x1408) hz2, shapeCast_self]

/-- The last one writes the accumulated sum out. -/
theorem out_last (hc0 hc1 hc2) : out0_C_2 c i a4 h4 a5 h5 a7 h7 a8 h8 hc0 hc1 hc2 x0 x1 xs = k0_pay4 (addf xs (k0_pay1 x0 x1)) := by
  unfold out0_C_2
  rw [View.read_writes_eq_canon _ _ _ (cover0_C_2 c i a4 h4 a5 h5 a7 h7 a8 h8 hc0 hc1 hc2 x0 x1 xs)]
  unfold kernelRun0_C
  dsimp only
  sl_unfold_words
  rw [View.canon_unit_zero hz4]
  unfold k0_pay3
  simp only [View.readAt_eq_ld, h4.read_unread, h5.read_unread, h8.read_unread, View.readCov_unit_zero (S := S1024x1408) _ hz2, View.ld_unit_zero (S := S1024x1024) hz2, View.ld_unit_zero (S := S1024x1408) hz2, View.ld_unit_zero (S := S1024x1408) hz2, shapeCast_self]
end body

variable (m : (ℓ : Loc nD τ sig) → Buf (Elt Ideal) ℓ) (c : Dev nD)

/-- What point `t` adds to the accumulator. -/
abbrev term (t : Fin cfg0.N) : FVec Ideal S1024x1408 .f32 := k0_pay1 (iblk m c 0 t) (iblk m c 1 t)

theorem acc0 (t : Fin cfg0.N) (h : t.val % 4 = 0) : (outsAt0 m c t.val t.isLt).2 = term m c t := by
  rw [outsAt0_A m c t h (by omega) (by omega)]
  dsimp only
  exact acc_first c _ _ _ _ _ _ _ _ _ _ _ _ _ _

theorem acc_step (n : ℕ) (hn : n + 1 < cfg0.N) (h0 : ¬(n + 1) % 4 = 0) (h3 : ¬(n + 1) % 4 = 3) :
    (outsAt0 m c (n + 1) hn).2 = addf (outsAt0 m c n (Nat.lt_of_succ_lt hn)).2 (term m c ⟨n + 1, hn⟩) := by
  rw [outsAt0_B m c ⟨n + 1, hn⟩ h0 (by show 1 ≤ (n + 1) % 4; omega) h3]
  dsimp only
  exact acc_next c _ _ _ _ _ _ _ _ _ _ _ _ _ _ _

theorem out_at (n : ℕ) (hn : n + 1 < cfg0.N) (h3 : (n + 1) % 4 = 3) :
    (outsAt0 m c (n + 1) hn).1 = k0_pay4 (addf (outsAt0 m c n (Nat.lt_of_succ_lt hn)).2 (term m c ⟨n + 1, hn⟩)) := by
  rw [outsAt0_C m c ⟨n + 1, hn⟩ (by show ¬(n + 1) % 4 = 0; omega) (by show 1 ≤ (n + 1) % 4; omega) h3]
  dsimp only
  exact out_last c _ _ _ _ _ _ _ _ _ _ _ _ _ _ _

/-- The point of shard `j`, tile `n` of the model's width and run `r` of the tokens. -/
def pt (j : Fin 4) (n : Fin 2) (r : Fin 4) : Fin cfg0.N := ⟨8 * j.val + 4 * n.val + r.val, lt_of_lt_of_eq (by omega) N_0.symm⟩

/-- What the last point of a run writes out: the four points' terms. -/
theorem out_block (j : Fin 4) (n : Fin 2) : (outsAt0 m c (8 * j.val + 4 * n.val + 2 + 1) (lt_of_lt_of_eq (by omega) N_0.symm)).1
    = k0_pay4 (addf (addf (addf (term m c (pt j n 0)) (term m c (pt j n 1))) (term m c (pt j n 2))) (term m c (pt j n 3))) := by
  rw [out_at m c (8 * j.val + 4 * n.val + 2) _ (by omega), acc_step m c (8 * j.val + 4 * n.val + 1) _ (by omega) (by omega), acc_step m c (8 * j.val + 4 * n.val) _ (by omega) (by omega)]
  rw [acc0 m c (pt j n 0) (by show (8 * j.val + 4 * n.val + 0) % 4 = 0; omega) |> fun e => (show (outsAt0 m c (8 * j.val + 4 * n.val) _).2 = _ from e)]
  rfl

theorem index_eq : ∀ t : Fin cfg0.N,
    (win0_0.index t (0 : Fin 2) = t.val % 4 ∧ win0_0.index t (1 : Fin 2) = t.val / 4 % 2)
    ∧ (win0_1.index t (0 : Fin 2) = t.val % 4 ∧ win0_1.index t (1 : Fin 2) = t.val / 8)
    ∧ (win0_2.index t (0 : Fin 4) = t.val / 8 ∧ win0_2.index t (1 : Fin 4) = 0 ∧ win0_2.index t (2 : Fin 4) = t.val / 4 % 2 ∧ win0_2.index t (3 : Fin 4) = 0) :=
  (by decide +kernel : ∀ t : Fin grid0.N, _)

variable (j : Fin 4) (n : Fin 2) (r : Fin 4) (k : Fin 1024) (a : Fin 1024) (b : Fin 1408)

theorem block0 : (iblk m c 0 (pt j n r) : FVec Ideal S1024x1024 .bf16) (ix2 k a)
    = (m ((c : Thread nD τ).loc main_arg0) : FVec Ideal S4096x2048 .bf16) (ix2 ⟨1024 * r.val + k.val, by omega⟩ ⟨1024 * n.val + a.val, by omega⟩) := by
  obtain ⟨⟨e0, e1⟩, -⟩ := index_eq (pt j n r)
  refine (?_ : _ = (V m c main_arg0 : FVec Ideal S4096x2048 .bf16) _).trans (congrFun (V_main_arg0 m c) _)
  show V m c main_arg0 (((cfg0.win 0).blk (pt j n r)).view.emb _) = _
  congr 1
  funext z; apply Fin.ext
  match z with
  | ⟨0, _⟩ => show win0_0.index (pt j n r) (0 : Fin 2) * 1024 + 1 * k.val = 1024 * r.val + k.val; rw [e0]; show (8 * j.val + 4 * n.val + r.val) % 4 * 1024 + _ = _; omega
  | ⟨1, _⟩ => show win0_0.index (pt j n r) (1 : Fin 2) * 1024 + 1 * a.val = 1024 * n.val + a.val; rw [e1]; show (8 * j.val + 4 * n.val + r.val) / 4 % 2 * 1024 + _ = _; omega

theorem block1 : (iblk m c 1 (pt j n r) : FVec Ideal S1024x1408 .bf16) (ix2 k b)
    = (m ((c : Thread nD τ).loc main_arg1) : FVec Ideal S4096x5632 .bf16) (ix2 ⟨1024 * r.val + k.val, by omega⟩ ⟨1408 * j.val + b.val, by omega⟩) := by
  obtain ⟨-, ⟨e0, e1⟩, -⟩ := index_eq (pt j n r)
  refine (?_ : _ = (V m c main_arg1 : FVec Ideal S4096x5632 .bf16) _).trans (congrFun (V_main_arg1 m c) _)
  show V m c main_arg1 (((cfg0.win 1).blk (pt j n r)).view.emb _) = _
  congr 1
  funext z; apply Fin.ext
  match z with
  | ⟨0, _⟩ => show win0_1.index (pt j n r) (0 : Fin 2) * 1024 + 1 * k.val = 1024 * r.val + k.val; rw [e0]; show (8 * j.val + 4 * n.val + r.val) % 4 * 1024 + _ = _; omega
  | ⟨1, _⟩ => show win0_1.index (pt j n r) (1 : Fin 2) * 1408 + 1 * b.val = 1408 * j.val + b.val; rw [e1]; show (8 * j.val + 4 * n.val + r.val) / 8 * 1408 + _ = _; omega

/-- The weight's gradient: `xᵀ · y`. -/
def dw (x : FVec Ideal S4096x2048 .bf16) (y : FVec Ideal S4096x5632 .bf16) (p : Fin 2048) (q : Fin 5632) : EReal :=
  ∑ k : Fin 4096, x (ix2 k p) * y (ix2 k q)

/-- The part of it one run of the tokens gives. -/
def part (x : FVec Ideal S4096x2048 .bf16) (y : FVec Ideal S4096x5632 .bf16) (p : Fin 2048) (q : Fin 5632) (r : Fin 4) : EReal :=
  ∑ k : Fin 1024, x (ix2 ⟨1024 * r.val + k.val, by omega⟩ p) * y (ix2 ⟨1024 * r.val + k.val, by omega⟩ q)

theorem dw_parts (x : FVec Ideal S4096x2048 .bf16) (y : FVec Ideal S4096x5632 .bf16) (p : Fin 2048) (q : Fin 5632) :
    dw x y p q = part x y p q 0 + part x y p q 1 + part x y p q 2 + part x y p q 3 := by
  unfold dw part
  rw [sum_four (n := 1024) (by norm_num)]
  rfl

/-- What a point adds, of the arguments. -/
theorem term_apply : term m c (pt j n r) (ix2 a b)
    = part (m ((c : Thread nD τ).loc main_arg0)) (m ((c : Thread nD τ).loc main_arg1)) ⟨1024 * n.val + a.val, by omega⟩ ⟨1408 * j.val + b.val, by omega⟩ r := by
  unfold term part
  pointwise [k0_pay1]
  simp only [block0 m c j n r _ a, block1 m c j n r _ b]

/-- What a run's last point writes out, of the arguments. -/
theorem out_apply : (outsAt0 m c (8 * j.val + 4 * n.val + 2 + 1) (lt_of_lt_of_eq (by omega) N_0.symm)).1 (ix4 0 0 a b)
    = dw (m ((c : Thread nD τ).loc main_arg0)) (m ((c : Thread nD τ).loc main_arg1)) ⟨1024 * n.val + a.val, by omega⟩ ⟨1408 * j.val + b.val, by omega⟩ := by
  rw [out_block, dw_parts, ← term_apply m c, ← term_apply m c, ← term_apply m c, ← term_apply m c]
  pointwise [k0_pay4]

/-- Two points that write out different runs write disjoint blocks. -/
theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne <| by
    obtain ⟨-, -, e0, -, e2, e3⟩ := index_eq t
    obtain ⟨-, -, f0, -, f2, f3⟩ := index_eq t'
    have g := (flush0_2 t).mp hf
    have g' := (flush0_2 t').mp hf'
    have h0 : win0_2.index t (0 : Fin 4) = win0_2.index t' (0 : Fin 4) := congrFun h 0
    have h2 : win0_2.index t (2 : Fin 4) = win0_2.index t' (2 : Fin 4) := congrFun h 2
    have h3 : win0_2.index t (3 : Fin 4) = win0_2.index t' (3 : Fin 4) := congrFun h 3
    exact Fin.ext (by omega)

/-- Where the written blocks lie: entry `(j, 0, …)` of the array. -/
theorem emb_eq : ((cfg0.win 2).blk (pt j n 3)).view.emb (ix4 0 0 a b) = (ix4 j 0 ⟨1024 * n.val + a.val, by omega⟩ b : S4x2x2048x1408.Idx) := by
  obtain ⟨-, -, e0, e1, e2, e3⟩ := index_eq (pt j n 3)
  funext z; apply Fin.ext
  match z with
  | ⟨0, _⟩ => show win0_2.index (pt j n 3) (0 : Fin 4) * 1 + 1 * 0 = j.val; rw [e0]; show (8 * j.val + 4 * n.val + 3) / 8 * 1 + _ = _; omega
  | ⟨1, _⟩ => show win0_2.index (pt j n 3) (1 : Fin 4) * 1 + 1 * 0 = 0; rw [e1]
  | ⟨2, _⟩ => show win0_2.index (pt j n 3) (2 : Fin 4) * 1024 + 1 * a.val = 1024 * n.val + a.val; rw [e2]; show (8 * j.val + 4 * n.val + 3) / 4 % 2 * 1024 + _ = _; omega
  | ⟨3, _⟩ => show win0_2.index (pt j n 3) (3 : Fin 4) * 1408 + 1 * b.val = b.val; rw [e3]; omega

/-- The first slab of the array after the launch: the gradient, shard by shard. -/
theorem slab0 : ((dats m 0 c).arrAt 2 cfg0.N : FVec Ideal S4x2x2048x1408 .bf16) (ix4 j 0 ⟨1024 * n.val + a.val, by omega⟩ b)
    = dw (m ((c : Thread nD τ).loc main_arg0)) (m ((c : Thread nD τ).loc main_arg1)) ⟨1024 * n.val + a.val, by omega⟩ ⟨1408 * j.val + b.val, by omega⟩ := by
  have hf : (cfg0.win 2).flush (pt j n 3) = true := (flush0_2 _).mpr (by show (8 * j.val + 4 * n.val + 3) % 4 = 3; omega)
  have h := congrFun ((dats m 0 c).read_blk_arrAt_eq_flushed 2 disjoint2 cfg0.N (pt j n 3) (pt j n 3).isLt hf) (ix4 0 0 a b)
  rw [← emb_eq j n a b]
  refine (show _ = _ from h).trans ?_
  rw [Value.flushed2]
  exact out_apply m c j n a b

/-- The second slab stays as it was given. -/
theorem slab1 (p : Fin 2048) (q : Fin 1408) : ((dats m 0 c).arrAt 2 cfg0.N : FVec Ideal S4x2x2048x1408 .bf16) (ix4 j 1 p q)
    = (m ((c : Thread nD τ).loc main_arg2) : FVec Ideal S4x2x2048x1408 .bf16) (ix4 j 1 p q) := by
  refine (Value.entry2 m c _ fun t _ hi => ?_).trans ?_
  · have h : (ix4 j 1 p q : S4x2x2048x1408.Idx) ∈ ((View.whole main_v0).slice (win0_2.rect t)).set := hi
    rw [View.set_slice_whole, Rect.mem_set_unit] at h
    have h1 : win0_2.index t (1 : Fin 4) * 1 ≤ 1 ∧ 1 < win0_2.index t (1 : Fin 4) * 1 + 1 := h 1
    obtain ⟨-, -, -, e1, -⟩ := index_eq t
    omega
  · rfl

end Cert.Proof.GateGrad

end
-- ==== Proof.GateGradEq.lean ====
/-
  The claims about the launch that computes the gate weights' gradient: its frames, and the equality of the stacked gradients it
  returns with the reference's, whatever the numbers.
-/
module

public import proofs.«01_k».proof.Defs
public import proofs.«01_k».proof.Proof.GateGrad
public import proofs.«01_k».proof.Proof.Gen.Kernel5.Frame
public import proofs.«01_k».proof.Proof.Gen.Reference5Ideal
public import proofs.«01_k».proof.Proof.Gen.Reference5Ideal.Run
public import Idealize.ShloMosaic.Lib.Quiescent

@[expose] public section

set_option maxRecDepth 16384

noncomputable section

namespace Cert.Proof.GateGrad

open Idealize.ShloMosaic Idealize.ShloMosaic.TcCoe Idealize.SL.Sem

section
open Cert.Reference5Ideal Cert.Reference5Ideal.Gen

/-- The reference's gradient, before the shards are stacked. -/
theorem ref_dw (x0 : FVec Ideal S4096x2048 .bf16) (x1 : FVec Ideal S4096x5632 .bf16) (j : Fin 4) (p : Fin 2048) (q : Fin 1408) :
    (truncf .bf16 (transpose S4x2048x1408 [1, 0, 2] (shapeCast S2048x4x1408 (transpose S2048x5632 [1, 0] (Host.dotGeneral dot_S4096x5632_S4096x2048_S5632x2048_0_0_1_1_n_n none (extf .f32 x1 bitsLt_bf16_f32) (extf .f32 x0 bitsLt_bf16_f32)) transposes_S5632x2048_S2048x5632_1_0) shapeCasts_S2048x5632_S2048x4x1408) transposes_S2048x4x1408_S4x2048x1408_1_0_2) bitsLt_bf16_f32 : FVec Ideal S4x2048x1408 .bf16) (ix3 j p q)
      = dw x0 x1 p ⟨j.val * 1408 + q.val, by omega⟩ := by
  pointwise
  unfold dw
  exact Finset.sum_congr rfl fun k _ => by rw [mul_comm]

/-- The two slabs, stacked: an entry of the first. -/
theorem stack0 (x y : FVec Ideal S4x2048x1408 .bf16) (j : Fin 4) (p : Fin 2048) (q : Fin 1408) :
    (concatenate S4x2x2048x1408 1 [⟨S4x1x2048x1408, (broadcastInDim S4x1x2048x1408 ![0, 2, 3] bcast_S4x2048x1408_S4x1x2048x1408_0_2_3 x)⟩, ⟨S4x1x2048x1408, (broadcastInDim S4x1x2048x1408 ![0, 2, 3] bcast_S4x2048x1408_S4x1x2048x1408_0_2_3 y)⟩] concatenates_S4x1x2048x1408_S4x1x2048x1408_S4x2x2048x1408_d1 : FVec Ideal S4x2x2048x1408 .bf16) (ix4 j 0 p q)
      = x (ix3 j p q) := by
  pointwise

/-- And of the second. -/
theorem stack1 (x y : FVec Ideal S4x2048x1408 .bf16) (j : Fin 4) (p : Fin 2048) (q : Fin 1408) :
    (concatenate S4x2x2048x1408 1 [⟨S4x1x2048x1408, (broadcastInDim S4x1x2048x1408 ![0, 2, 3] bcast_S4x2048x1408_S4x1x2048x1408_0_2_3 x)⟩, ⟨S4x1x2048x1408, (broadcastInDim S4x1x2048x1408 ![0, 2, 3] bcast_S4x2048x1408_S4x1x2048x1408_0_2_3 y)⟩] concatenates_S4x1x2048x1408_S4x1x2048x1408_S4x2x2048x1408_d1 : FVec Ideal S4x2x2048x1408 .bf16) (ix4 j 1 p q)
      = y (ix3 j p q) := by
  pointwise

/-- The second slab of what the reference was given. -/
theorem kept (x : FVec Ideal S4x2x2048x1408 .bf16) (j : Fin 4) (p : Fin 2048) (q : Fin 1408) :
    (shapeCast S4x2048x1408 (extractStridedSlice S4x1x2048x1408 ![0, 1, 0, 0] x slices_S4x2x2048x1408_S4x1x2048x1408_0_1_0_0) shapeCasts_S4x1x2048x1408_S4x2048x1408 : FVec Ideal S4x2048x1408 .bf16) (ix3 j p q)
      = x (ix4 j 1 p q) := by
  pointwise

end

/-- The kernel's frame. -/
theorem frame_kernel : (haveI := Cert.Kernel5.Gen.facts; Cert.quiescent_Kernel5) := fun m ρ _ => Cert.Kernel5.Gen.frame m ρ

/-- Its idealization's. -/
theorem frame_ideal : (haveI := Cert.Kernel5Ideal.Gen.facts; Cert.quiescent_Kernel5Ideal) := fun m ρ _ => Cert.Kernel5Ideal.Gen.frame m ρ

/-- The reference's. -/
theorem frame_reference : (haveI := Cert.Reference5Ideal.Gen.facts; Cert.quiescent_Reference5Ideal) := fun m ρ _ =>
  (θ_run (Cert.Reference5Ideal.defs (F := Ideal)) _ _).mono (fun _ h => ⟨fun c => (h c).2, sem_eq_zero_of_no_sems rfl _⟩)
    (Cert.Reference5Ideal.Value.run (F := Ideal) m ρ)

/-- The kernel and the reference compute the same stack of gradients. -/
theorem algebraic : (haveI := Cert.Kernel5Ideal.Gen.facts; haveI := Cert.Reference5Ideal.Gen.facts
    Cert.algebraic_Kernel5Ideal_Reference5Ideal) := by
  intro m ρ m' ρ' _ hm
  refine ⟨_, Cert.Kernel5Ideal.Value.run_blocks m ρ, ?_⟩
  refine (θ_run (Cert.Reference5Ideal.defs (F := Ideal)) _ _).mono (fun r h c => ?_) (Cert.Reference5Ideal.Value.run (F := Ideal) m' ρ')
  obtain ⟨r1, ra⟩ := h c
  obtain ⟨h0, h1, h2⟩ := hm c
  refine ⟨r1.trans ?_, ra⟩
  rw [h0, h1, h2]
  funext i
  rw [eq_ix4 i]
  obtain ⟨j, hj⟩ : ∃ j : Fin 4, j = i 0 := ⟨_, rfl⟩
  obtain ⟨s, hs⟩ : ∃ s : Fin 2, s = i 1 := ⟨_, rfl⟩
  obtain ⟨p, hp⟩ : ∃ p : Fin 2048, p = i 2 := ⟨_, rfl⟩
  obtain ⟨q, hq⟩ : ∃ q : Fin 1408, q = i 3 := ⟨_, rfl⟩
  rw [← hj, ← hs, ← hp, ← hq]
  match s with
  | ⟨0, _⟩ =>
    have h := slab0 m c j ⟨p.val / 1024, by omega⟩ ⟨p.val % 1024, by omega⟩ q
    refine (stack0 _ _ j p q).trans ((ref_dw _ _ j p q).trans (Eq.trans ?_ (h.symm.trans ?_)))
    · exact congrArg₂ (dw _ _) (Fin.ext (by show p.val = 1024 * (p.val / 1024) + p.val % 1024; omega))
        (Fin.ext (by show j.val * 1408 + q.val = 1408 * j.val + q.val; omega))
    · exact congrArg (fun z => (Cert.Kernel5Ideal.Gen.dats m 0 c).arrAt 2 Cert.Kernel5Ideal.cfg0.N (ix4 j 0 z q))
        (Fin.ext (by show 1024 * (p.val / 1024) + p.val % 1024 = p.val; omega))
  | ⟨1, _⟩ => exact (stack1 _ _ j p q).trans ((kept _ j p q).trans (slab1 m c j p q).symm)

end Cert.Proof.GateGrad

end
-- ==== Proof.FfnUp.lean ====
/-
  What the launch of the feed-forward block's forward call through the gate and the up product leaves in memory: each entry of the two
  products and of the gated hidden rows as a formula of the arguments.
-/
module

public import proofs.«01_k».proof.Proof.Gen.Kernel6Ideal.Value
public import Idealize.ShloMosaic.Lib.Pipeline.ValueKit.Basic
public import Idealize.ShloMosaic.Lib.Pointwise

@[expose] public section

set_option maxRecDepth 16384

noncomputable section

namespace Cert.Proof.FfnUp

open Cert.Kernel6Ideal Cert.Kernel6Ideal.Gen
open Idealize.ShloMosaic Idealize.ShloMosaic.TcCoe
open Idealize.SL Idealize.SL.RA

variable (m : (ℓ : Loc nD τ sig) → Buf (Elt Ideal) ℓ)

/-- A product with a weight of the second block: `h · w`. -/
def prod (h : FVec Ideal S4096x2048 .bf16) (w : FVec Ideal S2x2048x5632 .f32) (p : Fin 4096) (q : Fin 5632) : EReal :=
  ∑ x : Fin 2048, h (ix2 p x) * w (ix3 1 x q)

/-- The sigmoid as the kernel writes it. -/
def sg (a : EReal) : EReal := Ideal.div 1 (1 + Ideal.exp (0 - a))

/-- The point whose blocks hold entry `(p, q)`. -/
def pt (p : Fin 4096) (q : Fin 5632) : Fin cfg0.N := ⟨8 * (q.val / 1408) + p.val / 512, lt_of_lt_of_eq (by omega) N_0.symm⟩

theorem index_eq : ∀ t : Fin cfg0.N,
    (win0_0.index t (0 : Fin 2) = t.val % 8 ∧ win0_0.index t (1 : Fin 2) = 0)
    ∧ (win0_1.index t (0 : Fin 4) = t.val / 8 ∧ win0_1.index t (1 : Fin 4) = 1 ∧ win0_1.index t (2 : Fin 4) = 0 ∧ win0_1.index t (3 : Fin 4) = 0)
    ∧ (win0_2.index t (0 : Fin 4) = t.val / 8 ∧ win0_2.index t (1 : Fin 4) = 1 ∧ win0_2.index t (2 : Fin 4) = 0 ∧ win0_2.index t (3 : Fin 4) = 0)
    ∧ (win0_3.index t (0 : Fin 2) = t.val % 8 ∧ win0_3.index t (1 : Fin 2) = t.val / 8)
    ∧ (win0_4.index t (0 : Fin 2) = t.val % 8 ∧ win0_4.index t (1 : Fin 2) = t.val / 8)
    ∧ (win0_5.index t (0 : Fin 2) = t.val % 8 ∧ win0_5.index t (1 : Fin 2) = t.val / 8) :=
  (by decide +kernel : ∀ t : Fin grid0.N, _)

/-- A weight as the launch finds it: four shards of columns. -/
theorem shards (x : FVec Ideal S2x2048x5632 .f32) (j : Fin 4) (r : Fin 2) (q : Fin 2048) (k : Fin 1408) :
    (transpose S4x2x2048x1408 [2, 0, 1, 3] (shapeCast S2x2048x4x1408 (truncf .bf16 x bitsLt_bf16_f32 : FVec Ideal S2x2048x5632 .bf16)
      shapeCasts_S2x2048x5632_S2x2048x4x1408) transposes_S2x2048x4x1408_S4x2x2048x1408_2_0_1_3 : FVec Ideal S4x2x2048x1408 .bf16) (ix4 j r q k)
      = x (ix3 r q ⟨1408 * j.val + k.val, by omega⟩) := by
  pointwise
  congr 2
  exact Fin.ext (by show j.val * 1408 + k.val = 1408 * j.val + k.val; omega)

theorem hz2 : (![0, 0] : Fin 2 → Nat) = fun _ => 0 := funext fun a => by fin_cases a <;> rfl
theorem hz4 : (![0, 0, 0, 0] : Fin 4 → Nat) = fun _ => 0 := funext fun a => by fin_cases a <;> rfl

variable (c : Dev nD) (p : Fin 4096) (q : Fin 5632)

theorem block0 (x : Fin 2048) : (iblk m c 0 (pt p q) : FVec Ideal S512x2048 .bf16) (ix2 ⟨p.val % 512, by omega⟩ x)
    = (m ((c : Thread nD τ).loc main_arg0) : FVec Ideal S4096x2048 .bf16) (ix2 p x) := by
  obtain ⟨⟨e0, e1⟩, -⟩ := index_eq (pt p q)
  refine (?_ : _ = (V m c main_arg0 : FVec Ideal S4096x2048 .bf16) _).trans (congrFun (V_main_arg0 m c) _)
  show V m c main_arg0 (((cfg0.win 0).blk (pt p q)).view.emb _) = _
  congr 1
  funext a; apply Fin.ext
  match a with
  | ⟨0, _⟩ => show win0_0.index (pt p q) (0 : Fin 2) * 512 + 1 * (p.val % 512) = p.val; rw [e0]; show (8 * (q.val / 1408) + p.val / 512) % 8 * 512 + _ = _; omega
  | ⟨1, _⟩ => show win0_0.index (pt p q) (1 : Fin 2) * 2048 + 1 * x.val = x.val; rw [e1]; omega

theorem block1 (x : Fin 2048) : (iblk m c 1 (pt p q) : FVec Ideal S1x1x2048x1408 .bf16) (ix4 0 0 x ⟨q.val % 1408, by omega⟩)
    = (m ((c : Thread nD τ).loc main_arg1) : FVec Ideal S2x2048x5632 .f32) (ix3 1 x q) := by
  obtain ⟨-, ⟨e0, e1, e2, e3⟩, -⟩ := index_eq (pt p q)
  refine (?_ : _ = (V m c main_v2 : FVec Ideal S4x2x2048x1408 .bf16) (ix4 ⟨q.val / 1408, by omega⟩ 1 x ⟨q.val % 1408, by omega⟩)).trans
    ((shards (m ((c : Thread nD τ).loc main_arg1)) _ _ _ _).trans (congrArg _ ?_))
  · show V m c main_v2 (((cfg0.win 1).blk (pt p q)).view.emb _) = _
    congr 1
    funext a; apply Fin.ext
    match a with
    | ⟨0, _⟩ => show win0_1.index (pt p q) (0 : Fin 4) * 1 + 1 * 0 = q.val / 1408; rw [e0]; show (8 * (q.val / 1408) + p.val / 512) / 8 * 1 + _ = _; omega
    | ⟨1, _⟩ => show win0_1.index (pt p q) (1 : Fin 4) * 1 + 1 * 0 = 1; rw [e1]
    | ⟨2, _⟩ => show win0_1.index (pt p q) (2 : Fin 4) * 2048 + 1 * x.val = x.val; rw [e2]; omega
    | ⟨3, _⟩ => show win0_1.index (pt p q) (3 : Fin 4) * 1408 + 1 * (q.val % 1408) = q.val % 1408; rw [e3]; omega
  · have h : (⟨1408 * (q.val / 1408) + q.val % 1408, by omega⟩ : Fin 5632) = q := Fin.ext (by show 1408 * (q.val / 1408) + q.val % 1408 = q.val; omega)
    exact congrArg (fun z => ix3 1 x z) h

theorem block2 (x : Fin 2048) : (iblk m c 2 (pt p q) : FVec Ideal S1x1x2048x1408 .bf16) (ix4 0 0 x ⟨q.val % 1408, by omega⟩)
    = (m ((c : Thread nD τ).loc main_arg2) : FVec Ideal S2x2048x5632 .f32) (ix3 1 x q) := by
  obtain ⟨-, -, ⟨e0, e1, e2, e3⟩, -⟩ := index_eq (pt p q)
  refine (?_ : _ = (V m c main_v5 : FVec Ideal S4x2x2048x1408 .bf16) (ix4 ⟨q.val / 1408, by omega⟩ 1 x ⟨q.val % 1408, by omega⟩)).trans
    ((shards (m ((c : Thread nD τ).loc main_arg2)) _ _ _ _).trans (congrArg _ ?_))
  · show V m c main_v5 (((cfg0.win 2).blk (pt p q)).view.emb _) = _
    congr 1
    funext a; apply Fin.ext
    match a with
    | ⟨0, _⟩ => show win0_2.index (pt p q) (0 : Fin 4) * 1 + 1 * 0 = q.val / 1408; rw [e0]; show (8 * (q.val / 1408) + p.val / 512) / 8 * 1 + _ = _; omega
    | ⟨1, _⟩ => show win0_2.index (pt p q) (1 : Fin 4) * 1 + 1 * 0 = 1; rw [e1]
    | ⟨2, _⟩ => show win0_2.index (pt p q) (2 : Fin 4) * 2048 + 1 * x.val = x.val; rw [e2]; omega
    | ⟨3, _⟩ => show win0_2.index (pt p q) (3 : Fin 4) * 1408 + 1 * (q.val % 1408) = q.val % 1408; rw [e3]; omega
  · have h : (⟨1408 * (q.val / 1408) + q.val % 1408, by omega⟩ : Fin 5632) = q := Fin.ext (by show 1408 * (q.val / 1408) + q.val % 1408 = q.val; omega)
    exact congrArg (fun z => ix3 1 x z) h

/-- The gate product's result, after the launch. -/
theorem gate : ((dats m 0 c).arrAt 3 cfg0.N : FVec Ideal S4096x5632 .bf16) (ix2 p q) = prod (m ((c : Thread nD τ).loc main_arg0)) (m ((c : Thread nD τ).loc main_arg1)) p q := by
  obtain ⟨-, -, -, ⟨e0, e1⟩, -⟩ := index_eq (pt p q)
  have h := congrFun (Value.blocks3 m c (pt p q) (flush0_3 _)) (ix2 ⟨p.val % 512, by omega⟩ ⟨q.val % 1408, by omega⟩)
  refine (Eq.trans ?_ h).trans ?_
  · show _ = (dats m 0 c).arrAt 3 cfg0.N (((cfg0.win 3).blk (pt p q)).view.emb _)
    congr 1
    funext a; apply Fin.ext
    match a with
    | ⟨0, _⟩ => show p.val = win0_3.index (pt p q) (0 : Fin 2) * 512 + 1 * (p.val % 512); rw [e0]; show _ = (8 * (q.val / 1408) + p.val / 512) % 8 * 512 + _; omega
    | ⟨1, _⟩ => show q.val = win0_3.index (pt p q) (1 : Fin 2) * 1408 + 1 * (q.val % 1408); rw [e1]; show _ = (8 * (q.val / 1408) + p.val / 512) / 8 * 1408 + _; omega
  · rw [Value.flushed3]
    show out0_3 (iblk m c 0 (pt p q)) (iblk m c 1 (pt p q)) (iblk m c 2 (pt p q)) (ix2 ⟨p.val % 512, by omega⟩ ⟨q.val % 1408, by omega⟩) = _
    unfold out0_3
    rw [View.canon_unit_zero hz2, View.ld_unit_zero hz2, View.ld_unit_zero hz4]
    pointwise [k0_pay3, k0_pay1]
    unfold prod
    simp only [block0 m c p q, block1 m c p q]

/-- The up product's result, after the launch. -/
theorem up : ((dats m 0 c).arrAt 4 cfg0.N : FVec Ideal S4096x5632 .bf16) (ix2 p q) = prod (m ((c : Thread nD τ).loc main_arg0)) (m ((c : Thread nD τ).loc main_arg2)) p q := by
  obtain ⟨-, -, -, -, ⟨e0, e1⟩, -⟩ := index_eq (pt p q)
  have h := congrFun (Value.blocks4 m c (pt p q) (flush0_4 _)) (ix2 ⟨p.val % 512, by omega⟩ ⟨q.val % 1408, by omega⟩)
  refine (Eq.trans ?_ h).trans ?_
  · show _ = (dats m 0 c).arrAt 4 cfg0.N (((cfg0.win 4).blk (pt p q)).view.emb _)
    congr 1
    funext a; apply Fin.ext
    match a with
    | ⟨0, _⟩ => show p.val = win0_4.index (pt p q) (0 : Fin 2) * 512 + 1 * (p.val % 512); rw [e0]; show _ = (8 * (q.val / 1408) + p.val / 512) % 8 * 512 + _; omega
    | ⟨1, _⟩ => show q.val = win0_4.index (pt p q) (1 : Fin 2) * 1408 + 1 * (q.val % 1408); rw [e1]; show _ = (8 * (q.val / 1408) + p.val / 512) / 8 * 1408 + _; omega
  · rw [Value.flushed4]
    show out0_4 (iblk m c 0 (pt p q)) (iblk m c 1 (pt p q)) (iblk m c 2 (pt p q)) (ix2 ⟨p.val % 512, by omega⟩ ⟨q.val % 1408, by omega⟩) = _
    unfold out0_4
    rw [View.canon_unit_zero hz2, View.ld_unit_zero hz2, View.ld_unit_zero hz4]
    pointwise [k0_pay4, k0_pay2]
    unfold prod
    simp only [block0 m c p q, block2 m c p q]

/-- The gated hidden rows, after the launch. -/
theorem hidden : ((dats m 0 c).arrAt 5 cfg0.N : FVec Ideal S4096x5632 .bf16) (ix2 p q) = prod (m ((c : Thread nD τ).loc main_arg0)) (m ((c : Thread nD τ).loc main_arg1)) p q * sg (prod (m ((c : Thread nD τ).loc main_arg0)) (m ((c : Thread nD τ).loc main_arg1)) p q) * prod (m ((c : Thread nD τ).loc main_arg0)) (m ((c : Thread nD τ).loc main_arg2)) p q := by
  obtain ⟨-, -, -, -, -, e0, e1⟩ := index_eq (pt p q)
  have h := congrFun (Value.blocks5 m c (pt p q) (flush0_5 _)) (ix2 ⟨p.val % 512, by omega⟩ ⟨q.val % 1408, by omega⟩)
  refine (Eq.trans ?_ h).trans ?_
  · show _ = (dats m 0 c).arrAt 5 cfg0.N (((cfg0.win 5).blk (pt p q)).view.emb _)
    congr 1
    funext a; apply Fin.ext
    match a with
    | ⟨0, _⟩ => show p.val = win0_5.index (pt p q) (0 : Fin 2) * 512 + 1 * (p.val % 512); rw [e0]; show _ = (8 * (q.val / 1408) + p.val / 512) % 8 * 512 + _; omega
    | ⟨1, _⟩ => show q.val = win0_5.index (pt p q) (1 : Fin 2) * 1408 + 1 * (q.val % 1408); rw [e1]; show _ = (8 * (q.val / 1408) + p.val / 512) / 8 * 1408 + _; omega
  · rw [Value.flushed5]
    show out0_5 (iblk m c 0 (pt p q)) (iblk m c 1 (pt p q)) (iblk m c 2 (pt p q)) (ix2 ⟨p.val % 512, by omega⟩ ⟨q.val % 1408, by omega⟩) = _
    unfold out0_5
    rw [View.canon_unit_zero hz2, View.ld_unit_zero hz2, View.ld_unit_zero hz4, View.ld_unit_zero hz4]
    pointwise [k0_pay5, k0_pay2, k0_pay1]
    unfold prod sg
    simp only [block0 m c p q, block1 m c p q, block2 m c p q]

end Cert.Proof.FfnUp

end
-- ==== Proof.FfnUpEq.lean ====
/-
  The claims about the feed-forward block's forward call through the gate and the up product: its frames, and the equality of its
  three results with the reference's, whatever the numbers.
-/
module

public import proofs.«01_k».proof.Defs
public import proofs.«01_k».proof.Proof.FfnUp
public import proofs.«01_k».proof.Proof.Gen.Kernel6.Frame
public import proofs.«01_k».proof.Proof.Gen.Reference6Ideal
public import proofs.«01_k».proof.Proof.Gen.Reference6Ideal.Run
public import Idealize.ShloMosaic.Lib.Quiescent

@[expose] public section

set_option maxRecDepth 16384

noncomputable section

namespace Cert.Proof.FfnUp

open Idealize.ShloMosaic Idealize.ShloMosaic.TcCoe Idealize.SL.Sem

section
open Cert.Reference6Ideal Cert.Reference6Ideal.Gen

variable (x0 : FVec Ideal S4096x2048 .bf16) (x1 x2 : FVec Ideal S2x2048x5632 .f32) (p : Fin 4096) (q : Fin 5632)

/-- The reference's first two results, at an index. -/
theorem ref_prod : (truncf .bf16 (Host.dotGeneral dot_S4096x2048_S2048x5632_S4096x5632_1_0_0_1_n_n none (extf .f32 x0 bitsLt_bf16_f32) (shapeCast _ (extractStridedSlice S1x2048x5632 ![1, 0, 0] x1 slices_S2x2048x5632_S1x2048x5632_1_0_0) shapeCasts_S1x2048x5632_S2048x5632)) bitsLt_bf16_f32 : FVec Ideal S4096x5632 .bf16) (ix2 p q) = prod x0 x1 p q := by
  pointwise
  rfl

/-- Its third. -/
theorem ref_hidden : (truncf .bf16 (mulf (mulf (Host.dotGeneral dot_S4096x2048_S2048x5632_S4096x5632_1_0_0_1_n_n none (extf .f32 x0 bitsLt_bf16_f32) (shapeCast _ (extractStridedSlice S1x2048x5632 ![1, 0, 0] x1 slices_S2x2048x5632_S1x2048x5632_1_0_0) shapeCasts_S1x2048x5632_S2048x5632)) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (Host.dotGeneral dot_S4096x2048_S2048x5632_S4096x5632_1_0_0_1_n_n none (extf .f32 x0 bitsLt_bf16_f32) (shapeCast _ (extractStridedSlice S1x2048x5632 ![1, 0, 0] x1 slices_S2x2048x5632_S1x2048x5632_1_0_0) shapeCasts_S1x2048x5632_S2048x5632))))))) (Host.dotGeneral dot_S4096x2048_S2048x5632_S4096x5632_1_0_0_1_n_n none (extf .f32 x0 bitsLt_bf16_f32) (shapeCast _ (extractStridedSlice S1x2048x5632 ![1, 0, 0] x2 slices_S2x2048x5632_S1x2048x5632_1_0_0) shapeCasts_S1x2048x5632_S2048x5632))) bitsLt_bf16_f32 : FVec Ideal S4096x5632 .bf16) (ix2 p q) = prod x0 x1 p q * sg (prod x0 x1 p q) * prod x0 x2 p q := by
  pointwise
  simp only [prod, sg, zero_sub]

end

/-- The kernel's frame. -/
theorem frame_kernel : (haveI := Cert.Kernel6.Gen.facts; Cert.quiescent_Kernel6) := fun m ρ _ => Cert.Kernel6.Gen.frame m ρ

/-- Its idealization's. -/
theorem frame_ideal : (haveI := Cert.Kernel6Ideal.Gen.facts; Cert.quiescent_Kernel6Ideal) := fun m ρ _ => Cert.Kernel6Ideal.Gen.frame m ρ

/-- The reference's. -/
theorem frame_reference : (haveI := Cert.Reference6Ideal.Gen.facts; Cert.quiescent_Reference6Ideal) := fun m ρ _ =>
  (θ_run (Cert.Reference6Ideal.defs (F := Ideal)) _ _).mono (fun _ h => ⟨fun c => (h c).2.2.2, sem_eq_zero_of_no_sems rfl _⟩)
    (Cert.Reference6Ideal.Value.run (F := Ideal) m ρ)

/-- The kernel and the reference compute the same three arrays. -/
theorem algebraic : (haveI := Cert.Kernel6Ideal.Gen.facts; haveI := Cert.Reference6Ideal.Gen.facts
    Cert.algebraic_Kernel6Ideal_Reference6Ideal) := by
  intro m ρ m' ρ' _ hm
  refine ⟨_, _, _, Cert.Kernel6Ideal.Value.run_blocks m ρ, ?_⟩
  refine (θ_run (Cert.Reference6Ideal.defs (F := Ideal)) _ _).mono (fun r h c => ?_) (Cert.Reference6Ideal.Value.run (F := Ideal) m' ρ')
  obtain ⟨r1, r2, r3, ra⟩ := h c
  obtain ⟨h0, h1, h2⟩ := hm c
  refine ⟨r1.trans ?_, r2.trans ?_, r3.trans ?_, ra⟩
  · rw [h0, h1]
    funext j
    rw [eq_ix2 j]
    generalize j 0 = p, j 1 = q
    exact (ref_prod _ _ p q).trans (gate m c p q).symm
  · rw [h0, h2]
    funext j
    rw [eq_ix2 j]
    generalize j 0 = p, j 1 = q
    exact (ref_prod _ _ p q).trans (up m c p q).symm
  · rw [h0, h1, h2]
    funext j
    rw [eq_ix2 j]
    generalize j 0 = p, j 1 = q
    exact (ref_hidden _ _ _ p q).trans (hidden m c p q).symm

end Cert.Proof.FfnUp

end
-- ==== Proof.FfnDown.lean ====
/-
  What the launch of the second feed-forward block's product with the down weight leaves in memory.
-/
module

public import proofs.«01_k».proof.Proof.Gen.Kernel7Ideal.Value
public import proofs.«01_k».proof.Proof.SumFour
public import Idealize.ShloMosaic.Lib.Pipeline.ValueKit.Basic
public import Idealize.ShloMosaic.Lib.Pointwise

@[expose] public section

set_option maxRecDepth 16384

noncomputable section

namespace Cert.Proof.FfnDown

open Cert.Kernel7Ideal Cert.Kernel7Ideal.Gen
open Idealize.ShloMosaic Idealize.ShloMosaic.TcCoe
open Idealize.SL Idealize.SL.RA

theorem hz2 : (![0, 0] : Fin 2 → Nat) = fun _ => 0 := funext fun a => by fin_cases a <;> rfl
theorem hz4 : (![0, 0, 0, 0] : Fin 4 → Nat) = fun _ => 0 := funext fun a => by fin_cases a <;> rfl

section body
variable (c : Dev nD) (i : grid0.Coords) (a2 : Memref sig .tc .vmem S512x1408 .bf16) (h2 : a2.IsWhole)
  (a3 : Memref sig .tc .vmem S1x1x1408x2048 .bf16) (h3 : a3.IsWhole) (a4 : Memref sig .tc .vmem S512x2048 .f32) (h4 : a4.IsWhole)
  (a5 : Memref sig .tc .vmem S512x2048 .f32) (h5 : a5.IsWhole)
  (x0 : Vec Ideal S512x1408 .bf16) (x1 : Vec Ideal S1x1x1408x2048 .bf16) (xs : Vec Ideal S512x2048 .f32)

/-- The first of a run of four points leaves its product in the accumulator. -/
theorem acc_first (hc0 hc1 hc2) : sout0_A_0 c i a2 h2 a3 h3 a4 h4 a5 h5 hc0 hc1 hc2 x0 x1 = k0_pay1 x0 x1 := by
  unfold sout0_A_0
  rw [View.read_writes_eq_canon _ _ _ (scover0_A_0 c i a2 h2 a3 h3 a4 h4 a5 h5 hc0 hc1 hc2 x0 x1)]
  unfold kernelRun0_A
  dsimp only
  rw [View.canon_unit_zero hz2]
  unfold k0_pay2
  simp only [View.readAt_eq_ld, h2.read_unread, h3.read_unread, View.ld_unit_zero (S := S512x1408) hz2, View.ld_unit_zero (S := S1x1x1408x2048) hz4, shapeCast_self]

/-- A later one adds it. -/
theorem acc_next (hc0 hc1 hc2) : sout0_B_0 c i a2 h2 a3 h3 a4 h4 a5 h5 hc0 hc1 hc2 x0 x1 xs = addf xs (k0_pay1 x0 x1) := by
  unfold sout0_B_0
  rw [View.read_writes_eq_canon _ _ _ (scover0_B_0 c i a2 h2 a3 h3 a4 h4 a5 h5 hc0 hc1 hc2 x0 x1 xs)]
  unfold kernelRun0_B
  dsimp only
  rw [View.canon_unit_zero hz2]
  unfold k0_pay3
  simp only [View.readAt_eq_ld, h2.read_unread, h3.read_unread, h5.read_unread, View.ld_unit_zero (S := S512x1408) hz2, View.ld_unit_zero (S := S1x1x1408x2048) hz4, View.ld_unit_zero (S := S512x2048) hz2, shapeCast_self]

/-- The last one writes the accumulated sum out. -/
theorem out_last (hc0 hc1 hc2) : out0_C_2 c i a2 h2 a3 h3 a4 h4 a5 h5 hc0 hc1 hc2 x0 x1 xs = (addf xs (k0_pay1 x0 x1)) := by
  unfold out0_C_2
  rw [View.read_writes_eq_canon _ _ _ (cover0_C_2 c i a2 h2 a3 h3 a4 h4 a5 h5 hc0 hc1 hc2 x0 x1 xs)]
  unfold kernelRun0_C
  dsimp only
  sl_unfold_words
  rw [View.canon_unit_zero hz2]
  unfold k0_pay3
  simp only [View.readAt_eq_ld, h2.read_unread, h3.read_unread, h5.read_unread, View.readCov_unit_zero (S := S512x2048) _ hz2, View.ld_unit_zero (S := S512x1408) hz2, View.ld_unit_zero (S := S1x1x1408x2048) hz4, View.ld_unit_zero (S := S512x2048) hz2, shapeCast_self]
end body

variable (m : (ℓ : Loc nD τ sig) → Buf (Elt Ideal) ℓ) (c : Dev nD)

/-- What point `t` adds to the accumulator. -/
abbrev term (t : Fin cfg0.N) : FVec Ideal S512x2048 .f32 := k0_pay1 (iblk m c 0 t) (iblk m c 1 t)

theorem acc0 (t : Fin cfg0.N) (h : t.val % 4 = 0) : (outsAt0 m c t.val t.isLt).2 = term m c t := by
  rw [outsAt0_A m c t h (by omega) (by omega)]
  dsimp only
  exact acc_first c _ _ _ _ _ _ _ _ _ _ _ _ _ _

theorem acc_step (n : ℕ) (hn : n + 1 < cfg0.N) (h0 : ¬(n + 1) % 4 = 0) (h3 : ¬(n + 1) % 4 = 3) :
    (outsAt0 m c (n + 1) hn).2 = addf (outsAt0 m c n (Nat.lt_of_succ_lt hn)).2 (term m c ⟨n + 1, hn⟩) := by
  rw [outsAt0_B m c ⟨n + 1, hn⟩ h0 (by show 1 ≤ (n + 1) % 4; omega) h3]
  dsimp only
  exact acc_next c _ _ _ _ _ _ _ _ _ _ _ _ _ _ _

theorem out_at (n : ℕ) (hn : n + 1 < cfg0.N) (h3 : (n + 1) % 4 = 3) :
    (outsAt0 m c (n + 1) hn).1 = (addf (outsAt0 m c n (Nat.lt_of_succ_lt hn)).2 (term m c ⟨n + 1, hn⟩)) := by
  rw [outsAt0_C m c ⟨n + 1, hn⟩ (by show ¬(n + 1) % 4 = 0; omega) (by show 1 ≤ (n + 1) % 4; omega) h3]
  dsimp only
  exact out_last c _ _ _ _ _ _ _ _ _ _ _ _ _ _ _

theorem index_eq : ∀ t : Fin cfg0.N,
    (win0_0.index t (0 : Fin 2) = t.val / 4 ∧ win0_0.index t (1 : Fin 2) = t.val % 4)
    ∧ (win0_1.index t (0 : Fin 4) = t.val % 4 ∧ win0_1.index t (1 : Fin 4) = 1 ∧ win0_1.index t (2 : Fin 4) = 0 ∧ win0_1.index t (3 : Fin 4) = 0) :=
  (by decide +kernel : ∀ t : Fin grid0.N, _)

/-- The run of four points that makes the entry. -/
abbrev run (p : Fin 4096) (_q : Fin 2048) : ℕ := p.val / 512

/-- Its point of number `r`. -/
def pt (p : Fin 4096) (q : Fin 2048) (r : Fin 4) : Fin cfg0.N := ⟨4 * run p q + r.val, lt_of_lt_of_eq (by unfold run; omega) N_0.symm⟩

variable (p : Fin 4096) (q : Fin 2048) (r : Fin 4)

/-- What the last point of a run writes out: the four points' terms. -/
theorem out_block : (outsAt0 m c (4 * run p q + 2 + 1) (lt_of_lt_of_eq (by unfold run; omega) N_0.symm)).1
    = (addf (addf (addf (term m c (pt p q 0)) (term m c (pt p q 1))) (term m c (pt p q 2))) (term m c (pt p q 3))) := by
  rw [out_at m c (4 * run p q + 2) _ (by omega), acc_step m c (4 * run p q + 1) _ (by omega) (by omega), acc_step m c (4 * run p q) _ (by omega) (by omega)]
  rw [acc0 m c (pt p q 0) (by show (4 * run p q + 0) % 4 = 0; omega) |> fun e => (show (outsAt0 m c (4 * run p q) _).2 = _ from e)]
  rfl

/-- The weight as the launch finds it: four shards of rows. -/
theorem shards (x : FVec Ideal S2x5632x2048 .f32) (j : Fin 4) (s : Fin 2) (k : Fin 1408) (q : Fin 2048) :
    (transpose S4x2x1408x2048 [1, 0, 2, 3] (shapeCast S2x4x1408x2048 (truncf .bf16 x bitsLt_bf16_f32 : FVec Ideal S2x5632x2048 .bf16)
      shapeCasts_S2x5632x2048_S2x4x1408x2048) transposes_S2x4x1408x2048_S4x2x1408x2048_1_0_2_3 : FVec Ideal S4x2x1408x2048 .bf16) (ix4 j s k q)
      = x (ix3 s ⟨1408 * j.val + k.val, by omega⟩ q) := by
  pointwise
  congr 2
  exact Fin.ext (by show j.val * 1408 + k.val = 1408 * j.val + k.val; omega)

theorem block0 (k : Fin 1408) : (iblk m c 0 (pt p q r) : FVec Ideal S512x1408 .bf16) (ix2 ⟨p.val % 512, by omega⟩ k)
    = (m ((c : Thread nD τ).loc main_arg0) : FVec Ideal S4096x5632 .bf16) (ix2 p ⟨1408 * r.val + k.val, by omega⟩) := by
  obtain ⟨⟨e0, e1⟩, -⟩ := index_eq (pt p q r)
  refine (?_ : _ = (V m c main_arg0 : FVec Ideal S4096x5632 .bf16) (_)).trans (congrFun (V_main_arg0 m c) _)
  show V m c main_arg0 (((cfg0.win 0).blk (pt p q r)).view.emb _) = _
  congr 1
  funext z; apply Fin.ext
  match z with
  | ⟨0, _⟩ => show win0_0.index (pt p q r) (0 : Fin 2) * 512 + 1 * (p.val % 512) = p.val; rw [e0]; show (4 * (p.val / 512) + r.val) / 4 * 512 + _ = _; omega
  | ⟨1, _⟩ => show win0_0.index (pt p q r) (1 : Fin 2) * 1408 + 1 * k.val = 1408 * r.val + k.val; rw [e1]; show (4 * (p.val / 512) + r.val) % 4 * 1408 + _ = _; omega

theorem block1 (k : Fin 1408) : (iblk m c 1 (pt p q r) : FVec Ideal S1x1x1408x2048 .bf16) (ix4 0 0 k q)
    = (m ((c : Thread nD τ).loc main_arg1) : FVec Ideal S2x5632x2048 .f32) (ix3 1 ⟨1408 * r.val + k.val, by omega⟩ q) := by
  obtain ⟨-, e0, e1, e2, e3⟩ := index_eq (pt p q r)
  refine (?_ : _ = (V m c main_v2 : FVec Ideal S4x2x1408x2048 .bf16) (ix4 r 1 k q)).trans (shards (m ((c : Thread nD τ).loc main_arg1)) r 1 k q)
  show V m c main_v2 (((cfg0.win 1).blk (pt p q r)).view.emb _) = _
  congr 1
  funext z; apply Fin.ext
  match z with
  | ⟨0, _⟩ => show win0_1.index (pt p q r) (0 : Fin 4) * 1 + 1 * 0 = r.val; rw [e0]; show (4 * (p.val / 512) + r.val) % 4 * 1 + _ = _; omega
  | ⟨1, _⟩ => show win0_1.index (pt p q r) (1 : Fin 4) * 1 + 1 * 0 = 1; rw [e1]
  | ⟨2, _⟩ => show win0_1.index (pt p q r) (2 : Fin 4) * 1408 + 1 * k.val = k.val; rw [e2]; omega
  | ⟨3, _⟩ => show win0_1.index (pt p q r) (3 : Fin 4) * 2048 + 1 * q.val = q.val; rw [e3]; omega

/-- The product with the down weight. -/
def prod (x : FVec Ideal S4096x5632 .bf16) (y : FVec Ideal S2x5632x2048 .f32) (p : Fin 4096) (q : Fin 2048) : EReal :=
  ∑ k : Fin 5632, x (ix2 p k) * y (ix3 1 k q)

/-- The part of it one point of the run gives. -/
def part (x : FVec Ideal S4096x5632 .bf16) (y : FVec Ideal S2x5632x2048 .f32) (p : Fin 4096) (q : Fin 2048) (r : Fin 4) : EReal :=
  ∑ k : Fin 1408, x (ix2 p ⟨1408 * r.val + k.val, by omega⟩) * y (ix3 1 ⟨1408 * r.val + k.val, by omega⟩ q)

theorem prod_parts (x : FVec Ideal S4096x5632 .bf16) (y : FVec Ideal S2x5632x2048 .f32) :
    prod x y p q = part x y p q 0 + part x y p q 1 + part x y p q 2 + part x y p q 3 := by
  unfold prod part
  rw [sum_four (n := 1408) (by norm_num)]
  rfl

/-- What a point adds, of the arguments. -/
theorem term_apply : term m c (pt p q r) (ix2 ⟨p.val % 512, by omega⟩ q)
    = part (m ((c : Thread nD τ).loc main_arg0)) (m ((c : Thread nD τ).loc main_arg1)) p q r := by
  unfold term part
  pointwise [k0_pay1]
  simp only [block0 m c p q r, block1 m c p q r]

/-- The product, after the launch. -/
theorem result : (Value.G2 m c : FVec Ideal S4096x2048 .f32) (ix2 p q)
    = prod (m ((c : Thread nD τ).loc main_arg0)) (m ((c : Thread nD τ).loc main_arg1)) p q := by
  have hp : Value.pt2Of (ix2 p q) = 4 * run p q + 2 + 1 := by
    show 4 * (1 * (p.val / 512 - 0) + 1 * (q.val / 2048 - 0)) + 3 = 4 * (p.val / 512) + 2 + 1
    omega
  have hl : Value.loc2Of (ix2 p q) = ix2 ⟨p.val % 512, by omega⟩ q := by
    funext a; apply Fin.ext
    match a with
    | ⟨0, _⟩ => rfl
    | ⟨1, _⟩ => show q.val % 2048 = q.val; omega
  have e : (Value.G2 m c : FVec Ideal S4096x2048 .f32) (ix2 p q)
      = (outsAt0 m c (4 * run p q + 2 + 1) (lt_of_lt_of_eq (by unfold run; omega) N_0.symm)).1 (ix2 ⟨p.val % 512, by omega⟩ q) := by
    rw [Value.outsAt0_sweep]
    unfold Value.G2
    rw [dif_pos (by rw [hp]; exact lt_of_lt_of_eq (by unfold run; omega) N_0.symm), hl, Value.fold0_congr m c _ _ _ _ hp]
  rw [e, out_block]
  show term m c (pt p q 0) _ + term m c (pt p q 1) _ + term m c (pt p q 2) _ + term m c (pt p q 3) _ = _
  rw [prod_parts, ← term_apply m c, ← term_apply m c, ← term_apply m c, ← term_apply m c]

end Cert.Proof.FfnDown

end
-- ==== Proof.FfnDownEq.lean ====
/-
  The claims about the second feed-forward block's product with the down weight.
-/
module

public import proofs.«01_k».proof.Defs
public import proofs.«01_k».proof.Proof.FfnDown
public import proofs.«01_k».proof.Proof.Gen.Kernel7.Frame
public import proofs.«01_k».proof.Proof.Gen.Reference7Ideal
public import proofs.«01_k».proof.Proof.Gen.Reference7Ideal.Run
public import Idealize.ShloMosaic.Lib.Quiescent

@[expose] public section

set_option maxRecDepth 16384

noncomputable section

namespace Cert.Proof.FfnDown

open Idealize.ShloMosaic Idealize.ShloMosaic.TcCoe Idealize.SL.Sem

section
open Cert.Reference7Ideal Cert.Reference7Ideal.Gen

/-- The reference's result, at an index. -/
theorem ref_result (x0 : FVec Ideal S4096x5632 .bf16) (x1 : FVec Ideal S2x5632x2048 .f32) (p : Fin 4096) (q : Fin 2048) :
    (Host.dotGeneral dot_S4096x5632_S5632x2048_S4096x2048_1_0_0_1_n_n none (extf .f32 x0 bitsLt_bf16_f32) (shapeCast _ (extractStridedSlice S1x5632x2048 ![1, 0, 0] x1 slices_S2x5632x2048_S1x5632x2048_1_0_0) shapeCasts_S1x5632x2048_S5632x2048) : FVec Ideal S4096x2048 .f32) (ix2 p q) = prod x0 x1 p q := by
  pointwise
  rfl

end

/-- The kernel's frame. -/
theorem frame_kernel : (haveI := Cert.Kernel7.Gen.facts; Cert.quiescent_Kernel7) := fun m ρ _ => Cert.Kernel7.Gen.frame m ρ

/-- Its idealization's. -/
theorem frame_ideal : (haveI := Cert.Kernel7Ideal.Gen.facts; Cert.quiescent_Kernel7Ideal) := fun m ρ _ => Cert.Kernel7Ideal.Gen.frame m ρ

/-- The reference's. -/
theorem frame_reference : (haveI := Cert.Reference7Ideal.Gen.facts; Cert.quiescent_Reference7Ideal) := fun m ρ _ =>
  (θ_run (Cert.Reference7Ideal.defs (F := Ideal)) _ _).mono (fun _ h => ⟨fun c => (h c).2, sem_eq_zero_of_no_sems rfl _⟩)
    (Cert.Reference7Ideal.Value.run (F := Ideal) m ρ)

/-- The kernel and the reference compute the same array. -/
theorem algebraic : (haveI := Cert.Kernel7Ideal.Gen.facts; haveI := Cert.Reference7Ideal.Gen.facts
    Cert.algebraic_Kernel7Ideal_Reference7Ideal) := by
  intro m ρ m' ρ' _ hm
  refine ⟨_, Cert.Kernel7Ideal.Value.run m ρ, ?_⟩
  refine (θ_run (Cert.Reference7Ideal.defs (F := Ideal)) _ _).mono (fun r h c => ?_) (Cert.Reference7Ideal.Value.run (F := Ideal) m' ρ')
  obtain ⟨r1, ra⟩ := h c
  obtain ⟨h0, h1⟩ := hm c
  refine ⟨r1.trans ?_, ra⟩
  rw [h0, h1]
  funext i
  rw [eq_ix2 i]
  generalize i 0 = p, i 1 = q
  exact (ref_result _ _ p q).trans (result m c p q).symm

end Cert.Proof.FfnDown

end
-- ==== Proof.InBwd.lean ====
/-
  What the launch of the gradient through the mixer's input projection leaves in memory.
-/
module

public import proofs.«01_k».proof.Proof.Gen.Kernel9Ideal.Value
public import proofs.«01_k».proof.Proof.SumFour
public import Idealize.ShloMosaic.Lib.Pipeline.ValueKit.Basic
public import Idealize.ShloMosaic.Lib.Pointwise

@[expose] public section

set_option maxRecDepth 16384

noncomputable section

namespace Cert.Proof.InBwd

open Cert.Kernel9Ideal Cert.Kernel9Ideal.Gen
open Idealize.ShloMosaic Idealize.ShloMosaic.TcCoe
open Idealize.SL Idealize.SL.RA

theorem hz2 : (![0, 0] : Fin 2 → Nat) = fun _ => 0 := funext fun a => by fin_cases a <;> rfl
theorem hz3 : (![0, 0, 0] : Fin 3 → Nat) = fun _ => 0 := funext fun a => by fin_cases a <;> rfl

section body
variable (c : Dev nD) (i : grid0.Coords) (a2 : Memref sig .tc .vmem S512x1536 .f32) (h2 : a2.IsWhole)
  (a3 : Memref sig .tc .vmem S1x2048x1536 .bf16) (h3 : a3.IsWhole) (a4 : Memref sig .tc .vmem S512x2048 .f32) (h4 : a4.IsWhole)
  (a5 : Memref sig .tc .vmem S512x2048 .f32) (h5 : a5.IsWhole)
  (x0 : Vec Ideal S512x1536 .f32) (x1 : Vec Ideal S1x2048x1536 .bf16) (xs : Vec Ideal S512x2048 .f32)

/-- The first of a run of four points leaves its product in the accumulator. -/
theorem acc_first (hc0 hc1 hc2) : sout0_A_0 c i a2 h2 a3 h3 a4 h4 a5 h5 hc0 hc1 hc2 x0 x1 = k0_pay1 x0 x1 := by
  unfold sout0_A_0
  rw [View.read_writes_eq_canon _ _ _ (scover0_A_0 c i a2 h2 a3 h3 a4 h4 a5 h5 hc0 hc1 hc2 x0 x1)]
  unfold kernelRun0_A
  dsimp only
  rw [View.canon_unit_zero hz2]
  unfold k0_pay2
  simp only [View.readAt_eq_ld, h2.read_unread, h3.read_unread, View.ld_unit_zero (S := S512x1536) hz2, View.ld_unit_zero (S := S1x2048x1536) hz3, shapeCast_self]

/-- A later one adds it. -/
theorem acc_next (hc0 hc1 hc2) : sout0_B_0 c i a2 h2 a3 h3 a4 h4 a5 h5 hc0 hc1 hc2 x0 x1 xs = addf xs (k0_pay1 x0 x1) := by
  unfold sout0_B_0
  rw [View.read_writes_eq_canon _ _ _ (scover0_B_0 c i a2 h2 a3 h3 a4 h4 a5 h5 hc0 hc1 hc2 x0 x1 xs)]
  unfold kernelRun0_B
  dsimp only
  rw [View.canon_unit_zero hz2]
  unfold k0_pay3
  simp only [View.readAt_eq_ld, h2.read_unread, h3.read_unread, h5.read_unread, View.ld_unit_zero (S := S512x1536) hz2, View.ld_unit_zero (S := S1x2048x1536) hz3, View.ld_unit_zero (S := S512x2048) hz2, shapeCast_self]

/-- The last one writes the accumulated sum out. -/
theorem out_last (hc0 hc1 hc2) : out0_C_2 c i a2 h2 a3 h3 a4 h4 a5 h5 hc0 hc1 hc2 x0 x1 xs = (addf xs (k0_pay1 x0 x1)) := by
  unfold out0_C_2
  rw [View.read_writes_eq_canon _ _ _ (cover0_C_2 c i a2 h2 a3 h3 a4 h4 a5 h5 hc0 hc1 hc2 x0 x1 xs)]
  unfold kernelRun0_C
  dsimp only
  sl_unfold_words
  rw [View.canon_unit_zero hz2]
  unfold k0_pay3
  simp only [View.readAt_eq_ld, h2.read_unread, h3.read_unread, h5.read_unread, View.readCov_unit_zero (S := S512x2048) _ hz2, View.ld_unit_zero (S := S512x1536) hz2, View.ld_unit_zero (S := S1x2048x1536) hz3, View.ld_unit_zero (S := S512x2048) hz2, shapeCast_self]
end body

variable (m : (ℓ : Loc nD τ sig) → Buf (Elt Ideal) ℓ) (c : Dev nD)

/-- What point `t` adds to the accumulator. -/
abbrev term (t : Fin cfg0.N) : FVec Ideal S512x2048 .f32 := k0_pay1 (iblk m c 0 t) (iblk m c 1 t)

theorem acc0 (t : Fin cfg0.N) (h : t.val % 4 = 0) : (outsAt0 m c t.val t.isLt).2 = term m c t := by
  rw [outsAt0_A m c t h (by omega) (by omega)]
  dsimp only
  exact acc_first c _ _ _ _ _ _ _ _ _ _ _ _ _ _

theorem acc_step (n : ℕ) (hn : n + 1 < cfg0.N) (h0 : ¬(n + 1) % 4 = 0) (h3 : ¬(n + 1) % 4 = 3) :
    (outsAt0 m c (n + 1) hn).2 = addf (outsAt0 m c n (Nat.lt_of_succ_lt hn)).2 (term m c ⟨n + 1, hn⟩) := by
  rw [outsAt0_B m c ⟨n + 1, hn⟩ h0 (by show 1 ≤ (n + 1) % 4; omega) h3]
  dsimp only
  exact acc_next c _ _ _ _ _ _ _ _ _ _ _ _ _ _ _

theorem out_at (n : ℕ) (hn : n + 1 < cfg0.N) (h3 : (n + 1) % 4 = 3) :
    (outsAt0 m c (n + 1) hn).1 = (addf (outsAt0 m c n (Nat.lt_of_succ_lt hn)).2 (term m c ⟨n + 1, hn⟩)) := by
  rw [outsAt0_C m c ⟨n + 1, hn⟩ (by show ¬(n + 1) % 4 = 0; omega) (by show 1 ≤ (n + 1) % 4; omega) h3]
  dsimp only
  exact out_last c _ _ _ _ _ _ _ _ _ _ _ _ _ _ _

theorem index_eq : ∀ t : Fin cfg0.N,
    (win0_0.index t (0 : Fin 2) = t.val / 4 ∧ win0_0.index t (1 : Fin 2) = t.val % 4)
    ∧ (win0_1.index t (0 : Fin 3) = 0 ∧ win0_1.index t (1 : Fin 3) = 0 ∧ win0_1.index t (2 : Fin 3) = t.val % 4) :=
  (by decide +kernel : ∀ t : Fin grid0.N, _)

/-- The run of four points that makes the entry. -/
abbrev run (p : Fin 4096) (_q : Fin 2048) : ℕ := p.val / 512

/-- Its point of number `r`. -/
def pt (p : Fin 4096) (q : Fin 2048) (r : Fin 4) : Fin cfg0.N := ⟨4 * run p q + r.val, lt_of_lt_of_eq (by unfold run; omega) N_0.symm⟩

variable (p : Fin 4096) (q : Fin 2048) (r : Fin 4)

/-- What the last point of a run writes out: the four points' terms. -/
theorem out_block : (outsAt0 m c (4 * run p q + 2 + 1) (lt_of_lt_of_eq (by unfold run; omega) N_0.symm)).1
    = (addf (addf (addf (term m c (pt p q 0)) (term m c (pt p q 1))) (term m c (pt p q 2))) (term m c (pt p q 3))) := by
  rw [out_at m c (4 * run p q + 2) _ (by omega), acc_step m c (4 * run p q + 1) _ (by omega) (by omega), acc_step m c (4 * run p q) _ (by omega) (by omega)]
  rw [acc0 m c (pt p q 0) (by show (4 * run p q + 0) % 4 = 0; omega) |> fun e => (show (outsAt0 m c (4 * run p q) _).2 = _ from e)]
  rfl

/-- An entry of the input weight with the columns of zeros that follow it. -/
def padded (w : FVec Ideal S2048x5900 .f32) (x : Fin 2048) (k : Fin 6144) : EReal :=
  if h : k.val < 5900 then w (ix2 x ⟨k.val, h⟩) else 0

/-- The weight as the launch finds it: padded with columns of zeros. -/
theorem layout (w : FVec Ideal S2048x5900 .f32) (x : Fin 2048) (k : Fin 6144) :
    (broadcastInDim S1x2048x6144 ![1, 2] bcast_S2048x6144_S1x2048x6144_1_2 (pad S2048x6144 ![0, 0] ![0, 244] ![0, 0] (truncf .bf16 w bitsLt_bf16_f32 : FVec Ideal S2048x5900 .bf16) (sitofp .bf16 (constantI S_ 32 0#32)) pads_S2048x5900_S2048x6144_000_02440 h_S_) : FVec Ideal S1x2048x6144 .bf16) (ix3 0 x k) = padded w x k := by
  pointwise
  unfold padded
  split_ifs
  · rfl
  · show ((((0#32 : BitVec 32).toInt : ℤ) : ℝ) : EReal) = 0
    simp

theorem block0 (k : Fin 1536) : (iblk m c 0 (pt p q r) : FVec Ideal S512x1536 .f32) (ix2 ⟨p.val % 512, by omega⟩ k)
    = (m ((c : Thread nD τ).loc main_arg0) : FVec Ideal S4096x6144 .f32) (ix2 p ⟨1536 * r.val + k.val, by omega⟩) := by
  obtain ⟨⟨e0, e1⟩, -⟩ := index_eq (pt p q r)
  refine (?_ : _ = (V m c main_arg0 : FVec Ideal S4096x6144 .f32) (_)).trans (congrFun (V_main_arg0 m c) _)
  show V m c main_arg0 (((cfg0.win 0).blk (pt p q r)).view.emb _) = _
  congr 1
  funext z; apply Fin.ext
  match z with
  | ⟨0, _⟩ => show win0_0.index (pt p q r) (0 : Fin 2) * 512 + 1 * (p.val % 512) = p.val; rw [e0]; show (4 * (p.val / 512) + r.val) / 4 * 512 + _ = _; omega
  | ⟨1, _⟩ => show win0_0.index (pt p q r) (1 : Fin 2) * 1536 + 1 * k.val = 1536 * r.val + k.val; rw [e1]; show (4 * (p.val / 512) + r.val) % 4 * 1536 + _ = _; omega

theorem block1 (k : Fin 1536) : (iblk m c 1 (pt p q r) : FVec Ideal S1x2048x1536 .bf16) (ix3 0 q k)
    = padded (m ((c : Thread nD τ).loc main_arg1)) q ⟨1536 * r.val + k.val, by omega⟩ := by
  obtain ⟨-, e0, e1, e2⟩ := index_eq (pt p q r)
  refine (?_ : _ = (V m c main_v2 : FVec Ideal S1x2048x6144 .bf16) (ix3 0 q ⟨1536 * r.val + k.val, by omega⟩)).trans (layout (m ((c : Thread nD τ).loc main_arg1)) q _)
  show V m c main_v2 (((cfg0.win 1).blk (pt p q r)).view.emb _) = _
  congr 1
  funext z; apply Fin.ext
  match z with
  | ⟨0, _⟩ => show win0_1.index (pt p q r) (0 : Fin 3) * 1 + 1 * 0 = 0; rw [e0]
  | ⟨1, _⟩ => show win0_1.index (pt p q r) (1 : Fin 3) * 2048 + 1 * q.val = q.val; rw [e1]; omega
  | ⟨2, _⟩ => show win0_1.index (pt p q r) (2 : Fin 3) * 1536 + 1 * k.val = 1536 * r.val + k.val; rw [e2]; show (4 * (p.val / 512) + r.val) % 4 * 1536 + _ = _; omega

/-- The product with the transposed input weight. -/
def prod (x : FVec Ideal S4096x6144 .f32) (y : FVec Ideal S2048x5900 .f32) (p : Fin 4096) (q : Fin 2048) : EReal :=
  ∑ k : Fin 6144, x (ix2 p k) * padded y q k

/-- The part of it one point of the run gives. -/
def part (x : FVec Ideal S4096x6144 .f32) (y : FVec Ideal S2048x5900 .f32) (p : Fin 4096) (q : Fin 2048) (r : Fin 4) : EReal :=
  ∑ k : Fin 1536, x (ix2 p ⟨1536 * r.val + k.val, by omega⟩) * padded y q ⟨1536 * r.val + k.val, by omega⟩

theorem prod_parts (x : FVec Ideal S4096x6144 .f32) (y : FVec Ideal S2048x5900 .f32) :
    prod x y p q = part x y p q 0 + part x y p q 1 + part x y p q 2 + part x y p q 3 := by
  unfold prod part
  rw [sum_four (n := 1536) (by norm_num)]
  rfl

/-- What a point adds, of the arguments. -/
theorem term_apply : term m c (pt p q r) (ix2 ⟨p.val % 512, by omega⟩ q)
    = part (m ((c : Thread nD τ).loc main_arg0)) (m ((c : Thread nD τ).loc main_arg1)) p q r := by
  unfold term part
  pointwise [k0_pay1]
  simp only [block0 m c p q r, block1 m c p q r]

/-- The gradient, after the launch. -/
theorem result : (Value.G2 m c : FVec Ideal S4096x2048 .f32) (ix2 p q)
    = prod (m ((c : Thread nD τ).loc main_arg0)) (m ((c : Thread nD τ).loc main_arg1)) p q := by
  have hp : Value.pt2Of (ix2 p q) = 4 * run p q + 2 + 1 := by
    show 4 * (1 * (p.val / 512 - 0) + 1 * (q.val / 2048 - 0)) + 3 = 4 * (p.val / 512) + 2 + 1
    omega
  have hl : Value.loc2Of (ix2 p q) = ix2 ⟨p.val % 512, by omega⟩ q := by
    funext a; apply Fin.ext
    match a with
    | ⟨0, _⟩ => rfl
    | ⟨1, _⟩ => show q.val % 2048 = q.val; omega
  have e : (Value.G2 m c : FVec Ideal S4096x2048 .f32) (ix2 p q)
      = (outsAt0 m c (4 * run p q + 2 + 1) (lt_of_lt_of_eq (by unfold run; omega) N_0.symm)).1 (ix2 ⟨p.val % 512, by omega⟩ q) := by
    rw [Value.outsAt0_sweep]
    unfold Value.G2
    rw [dif_pos (by rw [hp]; exact lt_of_lt_of_eq (by unfold run; omega) N_0.symm), hl, Value.fold0_congr m c _ _ _ _ hp]
  rw [e, out_block]
  show term m c (pt p q 0) _ + term m c (pt p q 1) _ + term m c (pt p q 2) _ + term m c (pt p q 3) _ = _
  rw [prod_parts, ← term_apply m c, ← term_apply m c, ← term_apply m c, ← term_apply m c]

end Cert.Proof.InBwd

end
-- ==== Proof.InFwd.lean ====
/-
  What the launch of the mixer's input projection leaves in memory: each entry as a formula of the arguments.
-/
module

public import proofs.«01_k».proof.Proof.Gen.Kernel8Ideal.Value
public import proofs.«01_k».proof.Proof.InBwd
public import Idealize.ShloMosaic.Lib.Pipeline.ValueKit.Basic
public import Idealize.ShloMosaic.Lib.Pointwise

@[expose] public section

set_option maxRecDepth 16384

noncomputable section

namespace Cert.Proof.InFwd

open Cert.Kernel8Ideal Cert.Kernel8Ideal.Gen
open Idealize.ShloMosaic Idealize.ShloMosaic.TcCoe
open Idealize.SL Idealize.SL.RA
open Cert.Proof.InBwd (padded layout)

variable (m : (ℓ : Loc nD τ sig) → Buf (Elt Ideal) ℓ)

/-- The product with the input weight. -/
def prod (x : FVec Ideal S4096x2048 .bf16) (y : FVec Ideal S2048x5900 .f32) (p : Fin 4096) (q : Fin 6144) : EReal :=
  ∑ k : Fin 2048, x (ix2 p k) * padded y k q

/-- The point whose blocks hold entry `(p, q)`. -/
def pt (p : Fin 4096) (q : Fin 6144) : Fin cfg0.N := ⟨8 * (q.val / 1536) + p.val / 512, lt_of_lt_of_eq (by omega) N_0.symm⟩

theorem index_eq : ∀ t : Fin cfg0.N,
    (win0_0.index t (0 : Fin 2) = t.val % 8 ∧ win0_0.index t (1 : Fin 2) = 0)
    ∧ (win0_1.index t (0 : Fin 3) = 0 ∧ win0_1.index t (1 : Fin 3) = 0 ∧ win0_1.index t (2 : Fin 3) = t.val / 8)
    ∧ (win0_2.index t (0 : Fin 2) = t.val % 8 ∧ win0_2.index t (1 : Fin 2) = t.val / 8) :=
  (by decide +kernel : ∀ t : Fin grid0.N, _)

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (p : Fin 4096) (q : Fin 6144)

theorem block0 (x : Fin 2048) : (iblk m c 0 (pt p q) : FVec Ideal S512x2048 .bf16) (ix2 ⟨p.val % 512, by omega⟩ x)
    = (m ((c : Thread nD τ).loc main_arg0) : FVec Ideal S4096x2048 .bf16) (ix2 p x) := by
  obtain ⟨⟨e0, e1⟩, -⟩ := index_eq (pt p q)
  refine (?_ : _ = (V m c main_arg0 : FVec Ideal S4096x2048 .bf16) _).trans (congrFun (V_main_arg0 m c) _)
  show V m c main_arg0 (((cfg0.win 0).blk (pt p q)).view.emb _) = _
  congr 1
  funext a; apply Fin.ext
  match a with
  | ⟨0, _⟩ => show win0_0.index (pt p q) (0 : Fin 2) * 512 + 1 * (p.val % 512) = p.val; rw [e0]; show (8 * (q.val / 1536) + p.val / 512) % 8 * 512 + _ = _; omega
  | ⟨1, _⟩ => show win0_0.index (pt p q) (1 : Fin 2) * 2048 + 1 * x.val = x.val; rw [e1]; omega

theorem block1 (x : Fin 2048) : (iblk m c 1 (pt p q) : FVec Ideal S1x2048x1536 .bf16) (ix3 0 x ⟨q.val % 1536, by omega⟩)
    = padded (m ((c : Thread nD τ).loc main_arg1)) x q := by
  obtain ⟨-, ⟨e0, e1, e2⟩, -⟩ := index_eq (pt p q)
  refine (?_ : _ = (V m c main_v2 : FVec Ideal S1x2048x6144 .bf16) (ix3 0 x q)).trans (layout (m ((c : Thread nD τ).loc main_arg1)) x q)
  show V m c main_v2 (((cfg0.win 1).blk (pt p q)).view.emb _) = _
  congr 1
  funext a; apply Fin.ext
  match a with
  | ⟨0, _⟩ => show win0_1.index (pt p q) (0 : Fin 3) * 1 + 1 * 0 = 0; rw [e0]
  | ⟨1, _⟩ => show win0_1.index (pt p q) (1 : Fin 3) * 2048 + 1 * x.val = x.val; rw [e1]; omega
  | ⟨2, _⟩ => show win0_1.index (pt p q) (2 : Fin 3) * 1536 + 1 * (q.val % 1536) = q.val; rw [e2]; show (8 * (q.val / 1536) + p.val / 512) / 8 * 1536 + _ = _; omega

/-- The projection, after the launch. -/
theorem result : ((dats m 0 c).arrAt 2 cfg0.N : FVec Ideal S4096x6144 .f32) (ix2 p q) = prod (m ((c : Thread nD τ).loc main_arg0)) (m ((c : Thread nD τ).loc main_arg1)) p q := by
  obtain ⟨-, -, e0, e1⟩ := index_eq (pt p q)
  have h := congrFun (Value.blocks2 m c (pt p q) (flush0_2 _)) (ix2 ⟨p.val % 512, by omega⟩ ⟨q.val % 1536, by omega⟩)
  refine (Eq.trans ?_ h).trans ?_
  · show _ = (dats m 0 c).arrAt 2 cfg0.N (((cfg0.win 2).blk (pt p q)).view.emb _)
    congr 1
    funext a; apply Fin.ext
    match a with
    | ⟨0, _⟩ => show p.val = win0_2.index (pt p q) (0 : Fin 2) * 512 + 1 * (p.val % 512); rw [e0]; show _ = (8 * (q.val / 1536) + p.val / 512) % 8 * 512 + _; omega
    | ⟨1, _⟩ => show q.val = win0_2.index (pt p q) (1 : Fin 2) * 1536 + 1 * (q.val % 1536); rw [e1]; show _ = (8 * (q.val / 1536) + p.val / 512) / 8 * 1536 + _; omega
  · rw [Value.flushed2]
    show out0_2 (iblk m c 0 (pt p q)) (iblk m c 1 (pt p q)) (ix2 ⟨p.val % 512, by omega⟩ ⟨q.val % 1536, by omega⟩) = _
    unfold out0_2
    rw [View.canon_unit_zero hz2, View.ld_unit_zero hz2, View.ld_unit_zero hz3]
    pointwise [k0_pay1]
    unfold prod
    simp only [block0 m c p q, block1 m c p q]

end Cert.Proof.InFwd

end
-- ==== Proof.InFwdEq.lean ====
/-
  The claims about the mixer's input projection.
-/
module

public import proofs.«01_k».proof.Defs
public import proofs.«01_k».proof.Proof.InFwd
public import proofs.«01_k».proof.Proof.Gen.Kernel8.Frame
public import proofs.«01_k».proof.Proof.Gen.Reference8Ideal
public import proofs.«01_k».proof.Proof.Gen.Reference8Ideal.Run
public import Idealize.ShloMosaic.Lib.Quiescent

@[expose] public section

set_option maxRecDepth 16384

noncomputable section

namespace Cert.Proof.InFwd

open Idealize.ShloMosaic Idealize.ShloMosaic.TcCoe Idealize.SL.Sem

section
open Cert.Reference8Ideal Cert.Reference8Ideal.Gen

/-- The reference's result, at an index. -/
theorem ref_result (x0 : FVec Ideal S4096x2048 .bf16) (x1 : FVec Ideal S2048x5900 .f32) (p : Fin 4096) (q : Fin 6144) :
    (pad S4096x6144 ![0, 0] ![0, 244] ![0, 0] (Host.dotGeneral dot_S4096x2048_S2048x5900_S4096x5900_1_0_0_1_n_n none (extf .f32 x0 bitsLt_bf16_f32) x1 : FVec Ideal S4096x5900 .f32) (sitofp .f32 (constantI S_ 32 0#32)) pads_S4096x5900_S4096x6144_000_02440 h_S_ : FVec Ideal S4096x6144 .f32) (ix2 p q) = prod x0 x1 p q := by
  pointwise
  unfold prod InBwd.padded
  split_ifs
  · rfl
  · simp only [mul_zero, Finset.sum_const_zero]
    show ((((0#32 : BitVec 32).toInt : ℤ) : ℝ) : EReal) = 0
    simp

end

/-- The kernel's frame. -/
theorem frame_kernel : (haveI := Cert.Kernel8.Gen.facts; Cert.quiescent_Kernel8) := fun m ρ _ => Cert.Kernel8.Gen.frame m ρ

/-- Its idealization's. -/
theorem frame_ideal : (haveI := Cert.Kernel8Ideal.Gen.facts; Cert.quiescent_Kernel8Ideal) := fun m ρ _ => Cert.Kernel8Ideal.Gen.frame m ρ

/-- The reference's. -/
theorem frame_reference : (haveI := Cert.Reference8Ideal.Gen.facts; Cert.quiescent_Reference8Ideal) := fun m ρ _ =>
  (θ_run (Cert.Reference8Ideal.defs (F := Ideal)) _ _).mono (fun _ h => ⟨fun c => (h c).2, sem_eq_zero_of_no_sems rfl _⟩)
    (Cert.Reference8Ideal.Value.run (F := Ideal) m ρ)

/-- The kernel and the reference compute the same array. -/
theorem algebraic : (haveI := Cert.Kernel8Ideal.Gen.facts; haveI := Cert.Reference8Ideal.Gen.facts
    Cert.algebraic_Kernel8Ideal_Reference8Ideal) := by
  intro m ρ m' ρ' _ hm
  refine ⟨_, Cert.Kernel8Ideal.Value.run_blocks m ρ, ?_⟩
  refine (θ_run (Cert.Reference8Ideal.defs (F := Ideal)) _ _).mono (fun r h c => ?_) (Cert.Reference8Ideal.Value.run (F := Ideal) m' ρ')
  obtain ⟨r1, ra⟩ := h c
  obtain ⟨h0, h1⟩ := hm c
  refine ⟨r1.trans ?_, ra⟩
  rw [h0, h1]
  funext i
  rw [eq_ix2 i]
  generalize i 0 = p, i 1 = q
  exact (ref_result _ _ p q).trans (result m c p q).symm

end Cert.Proof.InFwd

end
-- ==== Proof.InBwdEq.lean ====
/-
  The claims about the gradient through the mixer's input projection.
-/
module

public import proofs.«01_k».proof.Defs
public import proofs.«01_k».proof.Proof.InBwd
public import proofs.«01_k».proof.Proof.Gen.Kernel9.Frame
public import proofs.«01_k».proof.Proof.Gen.Reference9Ideal
public import proofs.«01_k».proof.Proof.Gen.Reference9Ideal.Run
public import Idealize.ShloMosaic.Lib.Quiescent

@[expose] public section

set_option maxRecDepth 16384

noncomputable section

namespace Cert.Proof.InBwd

open Idealize.ShloMosaic Idealize.ShloMosaic.TcCoe Idealize.SL.Sem

/-- A sum over the padded columns is the sum over the columns there are. -/
theorem sum_padded (x : Fin 6144 → EReal) (y : FVec Ideal Cert.Kernel9Ideal.S2048x5900 .f32) (q : Fin 2048) :
    ∑ k : Fin 6144, x k * padded y q k = ∑ k : Fin 5900, x ⟨k.val, by omega⟩ * padded y q ⟨k.val, by omega⟩ := by
  refine (Fin.sum_univ_add (a := 5900) (b := 244) fun k => x k * padded y q k).trans ?_
  rw [Finset.sum_eq_zero (s := Finset.univ) (f := fun k : Fin 244 => x (Fin.natAdd 5900 k) * padded y q (Fin.natAdd 5900 k)), add_zero]
  · rfl
  · intro k _
    rw [padded, dif_neg (by simp), mul_zero]

section
open Cert.Reference9Ideal Cert.Reference9Ideal.Gen

/-- The reference's result, at an index. -/
theorem ref_result (x0 : FVec Ideal S4096x6144 .f32) (x1 : FVec Ideal S2048x5900 .f32) (p : Fin 4096) (q : Fin 2048) :
    (Host.dotGeneral dot_S4096x5900_S2048x5900_S4096x2048_1_1_0_0_n_n none (extractStridedSlice S4096x5900 ![0, 0] x0 slices_S4096x6144_S4096x5900_0_0) x1 : FVec Ideal S4096x2048 .f32) (ix2 p q) = prod x0 x1 p q := by
  pointwise
  unfold prod
  rw [sum_padded]
  refine Finset.sum_congr rfl fun k _ => ?_
  dsimp only [padded]
  rw [dif_pos k.isLt]

end

/-- The kernel's frame. -/
theorem frame_kernel : (haveI := Cert.Kernel9.Gen.facts; Cert.quiescent_Kernel9) := fun m ρ _ => Cert.Kernel9.Gen.frame m ρ

/-- Its idealization's. -/
theorem frame_ideal : (haveI := Cert.Kernel9Ideal.Gen.facts; Cert.quiescent_Kernel9Ideal) := fun m ρ _ => Cert.Kernel9Ideal.Gen.frame m ρ

/-- The reference's. -/
theorem frame_reference : (haveI := Cert.Reference9Ideal.Gen.facts; Cert.quiescent_Reference9Ideal) := fun m ρ _ =>
  (θ_run (Cert.Reference9Ideal.defs (F := Ideal)) _ _).mono (fun _ h => ⟨fun c => (h c).2, sem_eq_zero_of_no_sems rfl _⟩)
    (Cert.Reference9Ideal.Value.run (F := Ideal) m ρ)

/-- The kernel and the reference compute the same array. -/
theorem algebraic : (haveI := Cert.Kernel9Ideal.Gen.facts; haveI := Cert.Reference9Ideal.Gen.facts
    Cert.algebraic_Kernel9Ideal_Reference9Ideal) := by
  intro m ρ m' ρ' _ hm
  refine ⟨_, Cert.Kernel9Ideal.Value.run m ρ, ?_⟩
  refine (θ_run (Cert.Reference9Ideal.defs (F := Ideal)) _ _).mono (fun r h c => ?_) (Cert.Reference9Ideal.Value.run (F := Ideal) m' ρ')
  obtain ⟨r1, ra⟩ := h c
  obtain ⟨h0, h1⟩ := hm c
  refine ⟨r1.trans ?_, ra⟩
  rw [h0, h1]
  funext i
  rw [eq_ix2 i]
  generalize i 0 = p, i 1 = q
  exact (ref_result _ _ p q).trans (result m c p q).symm

end Cert.Proof.InBwd

end
-- ==== Proof.InGrad.lean ====
/-
  What the launch of the gradient of the mixer's input weight leaves in memory.
-/
module

public import proofs.«01_k».proof.Proof.Gen.Kernel10Ideal.Value
public import proofs.«01_k».proof.Proof.SumFour
public import Idealize.ShloMosaic.Lib.Pipeline.ValueKit.Basic
public import Idealize.ShloMosaic.Lib.Pointwise

@[expose] public section

set_option maxRecDepth 16384

noncomputable section

namespace Cert.Proof.InGrad

open Cert.Kernel10Ideal Cert.Kernel10Ideal.Gen
open Idealize.ShloMosaic Idealize.ShloMosaic.TcCoe
open Idealize.SL Idealize.SL.RA

theorem hz2 : (![0, 0] : Fin 2 → Nat) = fun _ => 0 := funext fun a => by fin_cases a <;> rfl
theorem hz3 : (![0, 0, 0] : Fin 3 → Nat) = fun _ => 0 := funext fun a => by fin_cases a <;> rfl

section body
variable (c : Dev nD) (i : grid0.Coords) (a4 : Memref sig .tc .vmem S1024x1024 .bf16) (h4 : a4.IsWhole)
  (a5 : Memref sig .tc .vmem S1024x1536 .f32) (h5 : a5.IsWhole) (a6 : Memref sig .tc .vmem S1x1024x1536 .bf16) (h6 : a6.IsWhole)
  (a7 : Memref sig .tc .vmem S1024x1536 .f32) (h7 : a7.IsWhole)
  (x0 : Vec Ideal S1024x1024 .bf16) (x1 : Vec Ideal S1024x1536 .f32) (xs : Vec Ideal S1024x1536 .f32)

/-- The first of a run of four points leaves its product in the accumulator. -/
theorem acc_first (hc0 hc1 hc2) : sout0_A_0 c i a4 h4 a5 h5 a6 h6 a7 h7 hc0 hc1 hc2 x0 x1 = k0_pay1 x0 x1 := by
  unfold sout0_A_0
  rw [View.read_writes_eq_canon _ _ _ (scover0_A_0 c i a4 h4 a5 h5 a6 h6 a7 h7 hc0 hc1 hc2 x0 x1)]
  unfold kernelRun0_A
  dsimp only
  rw [View.canon_unit_zero hz2]
  unfold k0_pay2
  simp only [View.readAt_eq_ld, h4.read_unread, h5.read_unread, View.ld_unit_zero (S := S1024x1024) hz2, View.ld_unit_zero (S := S1024x1536) hz2, shapeCast_self]

/-- A later one adds it. -/
theorem acc_next (hc0 hc1 hc2) : sout0_B_0 c i a4 h4 a5 h5 a6 h6 a7 h7 hc0 hc1 hc2 x0 x1 xs = addf xs (k0_pay1 x0 x1) := by
  unfold sout0_B_0
  rw [View.read_writes_eq_canon _ _ _ (scover0_B_0 c i a4 h4 a5 h5 a6 h6 a7 h7 hc0 hc1 hc2 x0 x1 xs)]
  unfold kernelRun0_B
  dsimp only
  rw [View.canon_unit_zero hz2]
  unfold k0_pay3
  simp only [View.readAt_eq_ld, h4.read_unread, h5.read_unread, h7.read_unread, View.ld_unit_zero (S := S1024x1024) hz2, View.ld_unit_zero (S := S1024x1536) hz2, shapeCast_self]

/-- The last one writes the accumulated sum out. -/
theorem out_last (hc0 hc1 hc2) : out0_C_2 c i a4 h4 a5 h5 a6 h6 a7 h7 hc0 hc1 hc2 x0 x1 xs = k0_pay4 (addf xs (k0_pay1 x0 x1)) := by
  unfold out0_C_2
  rw [View.read_writes_eq_canon _ _ _ (cover0_C_2 c i a4 h4 a5 h5 a6 h6 a7 h7 hc0 hc1 hc2 x0 x1 xs)]
  unfold kernelRun0_C
  dsimp only
  sl_unfold_words
  rw [View.canon_unit_zero hz3]
  unfold k0_pay3
  simp only [View.readAt_eq_ld, h4.read_unread, h5.read_unread, h7.read_unread, View.readCov_unit_zero (S := S1024x1536) _ hz2, View.ld_unit_zero (S := S1024x1024) hz2, View.ld_unit_zero (S := S1024x1536) hz2, shapeCast_self]
end body

variable (m : (ℓ : Loc nD τ sig) → Buf (Elt Ideal) ℓ) (c : Dev nD)

/-- What point `t` adds to the accumulator. -/
abbrev term (t : Fin cfg0.N) : FVec Ideal S1024x1536 .f32 := k0_pay1 (iblk m c 0 t) (iblk m c 1 t)

theorem acc0 (t : Fin cfg0.N) (h : t.val % 4 = 0) : (outsAt0 m c t.val t.isLt).2 = term m c t := by
  rw [outsAt0_A m c t h (by omega) (by omega)]
  dsimp only
  exact acc_first c _ _ _ _ _ _ _ _ _ _ _ _ _ _

theorem acc_step (n : ℕ) (hn : n + 1 < cfg0.N) (h0 : ¬(n + 1) % 4 = 0) (h3 : ¬(n + 1) % 4 = 3) :
    (outsAt0 m c (n + 1) hn).2 = addf (outsAt0 m c n (Nat.lt_of_succ_lt hn)).2 (term m c ⟨n + 1, hn⟩) := by
  rw [outsAt0_B m c ⟨n + 1, hn⟩ h0 (by show 1 ≤ (n + 1) % 4; omega) h3]
  dsimp only
  exact acc_next c _ _ _ _ _ _ _ _ _ _ _ _ _ _ _

theorem out_at (n : ℕ) (hn : n + 1 < cfg0.N) (h3 : (n + 1) % 4 = 3) :
    (outsAt0 m c (n + 1) hn).1 = k0_pay4 (addf (outsAt0 m c n (Nat.lt_of_succ_lt hn)).2 (term m c ⟨n + 1, hn⟩)) := by
  rw [outsAt0_C m c ⟨n + 1, hn⟩ (by show ¬(n + 1) % 4 = 0; omega) (by show 1 ≤ (n + 1) % 4; omega) h3]
  dsimp only
  exact out_last c _ _ _ _ _ _ _ _ _ _ _ _ _ _ _

theorem index_eq : ∀ t : Fin cfg0.N,
    (win0_0.index t (0 : Fin 2) = t.val % 4 ∧ win0_0.index t (1 : Fin 2) = t.val / 16)
    ∧ (win0_1.index t (0 : Fin 2) = t.val % 4 ∧ win0_1.index t (1 : Fin 2) = t.val / 4 % 4) :=
  (by decide +kernel : ∀ t : Fin grid0.N, _)

/-- The run of four points that makes the entry. -/
abbrev run (p : Fin 2048) (q : Fin 6144) : ℕ := 4 * (p.val / 1024) + q.val / 1536

/-- Its point of number `r`. -/
def pt (p : Fin 2048) (q : Fin 6144) (r : Fin 4) : Fin cfg0.N := ⟨4 * run p q + r.val, lt_of_lt_of_eq (by unfold run; omega) N_0.symm⟩

variable (p : Fin 2048) (q : Fin 6144) (r : Fin 4)

/-- What the last point of a run writes out: the four points' terms. -/
theorem out_block : (outsAt0 m c (4 * run p q + 2 + 1) (lt_of_lt_of_eq (by unfold run; omega) N_0.symm)).1
    = k0_pay4 (addf (addf (addf (term m c (pt p q 0)) (term m c (pt p q 1))) (term m c (pt p q 2))) (term m c (pt p q 3))) := by
  rw [out_at m c (4 * run p q + 2) _ (by omega), acc_step m c (4 * run p q + 1) _ (by omega) (by omega), acc_step m c (4 * run p q) _ (by omega) (by omega)]
  rw [acc0 m c (pt p q 0) (by show (4 * run p q + 0) % 4 = 0; omega) |> fun e => (show (outsAt0 m c (4 * run p q) _).2 = _ from e)]
  rfl

theorem block0 (k : Fin 1024) : (iblk m c 0 (pt p q r) : FVec Ideal S1024x1024 .bf16) (ix2 k ⟨p.val % 1024, by omega⟩)
    = (m ((c : Thread nD τ).loc main_arg0) : FVec Ideal S4096x2048 .bf16) (ix2 ⟨1024 * r.val + k.val, by omega⟩ p) := by
  obtain ⟨⟨e0, e1⟩, -⟩ := index_eq (pt p q r)
  refine (?_ : _ = (V m c main_arg0 : FVec Ideal S4096x2048 .bf16) (_)).trans (congrFun (V_main_arg0 m c) _)
  show V m c main_arg0 (((cfg0.win 0).blk (pt p q r)).view.emb _) = _
  congr 1
  funext z; apply Fin.ext
  match z with
  | ⟨0, _⟩ => show win0_0.index (pt p q r) (0 : Fin 2) * 1024 + 1 * k.val = 1024 * r.val + k.val; rw [e0]; show (4 * (4 * (p.val / 1024) + q.val / 1536) + r.val) % 4 * 1024 + _ = _; omega
  | ⟨1, _⟩ => show win0_0.index (pt p q r) (1 : Fin 2) * 1024 + 1 * (p.val % 1024) = p.val; rw [e1]; show (4 * (4 * (p.val / 1024) + q.val / 1536) + r.val) / 16 * 1024 + _ = _; omega

theorem block1 (k : Fin 1024) : (iblk m c 1 (pt p q r) : FVec Ideal S1024x1536 .f32) (ix2 k ⟨q.val % 1536, by omega⟩)
    = (m ((c : Thread nD τ).loc main_arg1) : FVec Ideal S4096x6144 .f32) (ix2 ⟨1024 * r.val + k.val, by omega⟩ q) := by
  obtain ⟨-, e0, e1⟩ := index_eq (pt p q r)
  refine (?_ : _ = (V m c main_arg1 : FVec Ideal S4096x6144 .f32) (_)).trans (congrFun (V_main_arg1 m c) _)
  show V m c main_arg1 (((cfg0.win 1).blk (pt p q r)).view.emb _) = _
  congr 1
  funext z; apply Fin.ext
  match z with
  | ⟨0, _⟩ => show win0_1.index (pt p q r) (0 : Fin 2) * 1024 + 1 * k.val = 1024 * r.val + k.val; rw [e0]; show (4 * (4 * (p.val / 1024) + q.val / 1536) + r.val) % 4 * 1024 + _ = _; omega
  | ⟨1, _⟩ => show win0_1.index (pt p q r) (1 : Fin 2) * 1536 + 1 * (q.val % 1536) = q.val; rw [e1]; show (4 * (4 * (p.val / 1024) + q.val / 1536) + r.val) / 4 % 4 * 1536 + _ = _; omega

/-- The weight's gradient: the transposed rows times the rows' gradient. -/
def prod (x : FVec Ideal S4096x2048 .bf16) (y : FVec Ideal S4096x6144 .f32) (p : Fin 2048) (q : Fin 6144) : EReal :=
  ∑ k : Fin 4096, x (ix2 k p) * y (ix2 k q)

/-- The part of it one point of the run gives. -/
def part (x : FVec Ideal S4096x2048 .bf16) (y : FVec Ideal S4096x6144 .f32) (p : Fin 2048) (q : Fin 6144) (r : Fin 4) : EReal :=
  ∑ k : Fin 1024, x (ix2 ⟨1024 * r.val + k.val, by omega⟩ p) * y (ix2 ⟨1024 * r.val + k.val, by omega⟩ q)

theorem prod_parts (x : FVec Ideal S4096x2048 .bf16) (y : FVec Ideal S4096x6144 .f32) :
    prod x y p q = part x y p q 0 + part x y p q 1 + part x y p q 2 + part x y p q 3 := by
  unfold prod part
  rw [sum_four (n := 1024) (by norm_num)]
  rfl

/-- What a point adds, of the arguments. -/
theorem term_apply : term m c (pt p q r) (ix2 ⟨p.val % 1024, by omega⟩ ⟨q.val % 1536, by omega⟩)
    = part (m ((c : Thread nD τ).loc main_arg0)) (m ((c : Thread nD τ).loc main_arg1)) p q r := by
  unfold term part
  pointwise [k0_pay1]
  simp only [block0 m c p q r, block1 m c p q r]

/-- The gradient, after the launch. -/
theorem result : (Value.G2 m c : FVec Ideal S1x2048x6144 .bf16) (ix3 0 p q)
    = prod (m ((c : Thread nD τ).loc main_arg0)) (m ((c : Thread nD τ).loc main_arg1)) p q := by
  have hp : Value.pt2Of (ix3 0 p q) = 4 * run p q + 2 + 1 := by
    show 4 * (8 * (0 / 1 - 0) + 4 * (p.val / 1024 - 0) + 1 * (q.val / 1536 - 0)) + 3 = 4 * (4 * (p.val / 1024) + q.val / 1536) + 2 + 1
    omega
  have hl : Value.loc2Of (ix3 0 p q) = ix3 0 ⟨p.val % 1024, by omega⟩ ⟨q.val % 1536, by omega⟩ := by
    funext a; apply Fin.ext
    match a with
    | ⟨0, _⟩ => rfl
    | ⟨1, _⟩ => rfl
    | ⟨2, _⟩ => rfl
  have e : (Value.G2 m c : FVec Ideal S1x2048x6144 .bf16) (ix3 0 p q)
      = (outsAt0 m c (4 * run p q + 2 + 1) (lt_of_lt_of_eq (by unfold run; omega) N_0.symm)).1 (ix3 0 ⟨p.val % 1024, by omega⟩ ⟨q.val % 1536, by omega⟩) := by
    rw [Value.outsAt0_sweep]
    unfold Value.G2
    rw [dif_pos (by rw [hp]; exact lt_of_lt_of_eq (by unfold run; omega) N_0.symm), hl, Value.fold0_congr m c _ _ _ _ hp]
  rw [e, out_block]
  rw [prod_parts, ← term_apply m c, ← term_apply m c, ← term_apply m c, ← term_apply m c]
  pointwise [k0_pay4]

end Cert.Proof.InGrad

end
-- ==== Proof.InGradEq.lean ====
/-
  The claims about the gradient of the mixer's input weight.
-/
module

public import proofs.«01_k».proof.Defs
public import proofs.«01_k».proof.Proof.InGrad
public import proofs.«01_k».proof.Proof.Gen.Kernel10.Frame
public import proofs.«01_k».proof.Proof.Gen.Reference10Ideal
public import proofs.«01_k».proof.Proof.Gen.Reference10Ideal.Run
public import Idealize.ShloMosaic.Lib.Quiescent

@[expose] public section

set_option maxRecDepth 16384

noncomputable section

namespace Cert.Proof.InGrad

open Idealize.ShloMosaic Idealize.ShloMosaic.TcCoe Idealize.SL.Sem

section
open Cert.Reference10Ideal Cert.Reference10Ideal.Gen

/-- The reference's result, at an index. -/
theorem ref_result (x0 : FVec Ideal S4096x2048 .bf16) (x1 : FVec Ideal S4096x6144 .f32) (p : Fin 2048) (q : Fin 6144) :
    (broadcastInDim S1x2048x6144 ![1, 2] bcast_S2048x6144_S1x2048x6144_1_2 (truncf .bf16 (transpose S2048x6144 [1, 0] (Host.dotGeneral dot_S4096x6144_S4096x2048_S6144x2048_0_0_1_1_n_n none x1 (extf .f32 x0 bitsLt_bf16_f32)) transposes_S6144x2048_S2048x6144_1_0) bitsLt_bf16_f32) : FVec Ideal S1x2048x6144 .bf16) (ix3 0 p q) = prod x0 x1 p q := by
  pointwise
  unfold prod
  exact Finset.sum_congr rfl fun k _ => by rw [mul_comm]

end

/-- The kernel's frame. -/
theorem frame_kernel : (haveI := Cert.Kernel10.Gen.facts; Cert.quiescent_Kernel10) := fun m ρ _ => Cert.Kernel10.Gen.frame m ρ

/-- Its idealization's. -/
theorem frame_ideal : (haveI := Cert.Kernel10Ideal.Gen.facts; Cert.quiescent_Kernel10Ideal) := fun m ρ _ => Cert.Kernel10Ideal.Gen.frame m ρ

/-- The reference's. -/
theorem frame_reference : (haveI := Cert.Reference10Ideal.Gen.facts; Cert.quiescent_Reference10Ideal) := fun m ρ _ =>
  (θ_run (Cert.Reference10Ideal.defs (F := Ideal)) _ _).mono (fun _ h => ⟨fun c => (h c).2, sem_eq_zero_of_no_sems rfl _⟩)
    (Cert.Reference10Ideal.Value.run (F := Ideal) m ρ)

/-- The kernel and the reference compute the same array. -/
theorem algebraic : (haveI := Cert.Kernel10Ideal.Gen.facts; haveI := Cert.Reference10Ideal.Gen.facts
    Cert.algebraic_Kernel10Ideal_Reference10Ideal) := by
  intro m ρ m' ρ' _ hm
  refine ⟨_, Cert.Kernel10Ideal.Value.run m ρ, ?_⟩
  refine (θ_run (Cert.Reference10Ideal.defs (F := Ideal)) _ _).mono (fun r h c => ?_) (Cert.Reference10Ideal.Value.run (F := Ideal) m' ρ')
  obtain ⟨r1, ra⟩ := h c
  obtain ⟨h0, h1⟩ := hm c
  refine ⟨r1.trans ?_, ra⟩
  rw [h0, h1]
  funext i
  rw [eq_ix3 i]
  obtain ⟨z, hz⟩ : ∃ z : Fin 1, z = i 0 := ⟨_, rfl⟩
  obtain ⟨p, hp⟩ : ∃ p : Fin 2048, p = i 1 := ⟨_, rfl⟩
  obtain ⟨q, hq⟩ : ∃ q : Fin 6144, q = i 2 := ⟨_, rfl⟩
  rw [← hz, ← hp, ← hq]
  obtain rfl : z = 0 := Subsingleton.elim _ _
  exact (ref_result _ _ p q).trans (result m c p q).symm

end Cert.Proof.InGrad

end
-- ==== Proof.OutFwd.lean ====
/-
  What the launch of the mixer's output projection leaves in memory.
-/
module

public import proofs.«01_k».proof.Proof.Gen.Kernel11Ideal.Value
public import proofs.«01_k».proof.Proof.SumFour
public import Idealize.ShloMosaic.Lib.Pipeline.ValueKit.Basic
public import Idealize.ShloMosaic.Lib.Pointwise

@[expose] public section

set_option maxRecDepth 16384

noncomputable section

namespace Cert.Proof.OutFwd

open Cert.Kernel11Ideal Cert.Kernel11Ideal.Gen
open Idealize.ShloMosaic Idealize.ShloMosaic.TcCoe
open Idealize.SL Idealize.SL.RA

theorem hz2 : (![0, 0] : Fin 2 → Nat) = fun _ => 0 := funext fun a => by fin_cases a <;> rfl
theorem hz3 : (![0, 0, 0] : Fin 3 → Nat) = fun _ => 0 := funext fun a => by fin_cases a <;> rfl

section body
variable (c : Dev nD) (i : grid0.Coords) (a2 : Memref sig .tc .vmem S512x512 .bf16) (h2 : a2.IsWhole)
  (a3 : Memref sig .tc .vmem S1x512x2048 .bf16) (h3 : a3.IsWhole) (a4 : Memref sig .tc .vmem S512x2048 .f32) (h4 : a4.IsWhole)
  (a5 : Memref sig .tc .vmem S512x2048 .f32) (h5 : a5.IsWhole)
  (x0 : Vec Ideal S512x512 .bf16) (x1 : Vec Ideal S1x512x2048 .bf16) (xs : Vec Ideal S512x2048 .f32)

/-- The first of a run of four points leaves its product in the accumulator. -/
theorem acc_first (hc0 hc1 hc2) : sout0_A_0 c i a2 h2 a3 h3 a4 h4 a5 h5 hc0 hc1 hc2 x0 x1 = k0_pay1 x0 x1 := by
  unfold sout0_A_0
  rw [View.read_writes_eq_canon _ _ _ (scover0_A_0 c i a2 h2 a3 h3 a4 h4 a5 h5 hc0 hc1 hc2 x0 x1)]
  unfold kernelRun0_A
  dsimp only
  rw [View.canon_unit_zero hz2]
  unfold k0_pay2
  simp only [View.readAt_eq_ld, h2.read_unread, h3.read_unread, View.ld_unit_zero (S := S512x512) hz2, View.ld_unit_zero (S := S1x512x2048) hz3, shapeCast_self]

/-- A later one adds it. -/
theorem acc_next (hc0 hc1 hc2) : sout0_B_0 c i a2 h2 a3 h3 a4 h4 a5 h5 hc0 hc1 hc2 x0 x1 xs = addf xs (k0_pay1 x0 x1) := by
  unfold sout0_B_0
  rw [View.read_writes_eq_canon _ _ _ (scover0_B_0 c i a2 h2 a3 h3 a4 h4 a5 h5 hc0 hc1 hc2 x0 x1 xs)]
  unfold kernelRun0_B
  dsimp only
  rw [View.canon_unit_zero hz2]
  unfold k0_pay3
  simp only [View.readAt_eq_ld, h2.read_unread, h3.read_unread, h5.read_unread, View.ld_unit_zero (S := S512x512) hz2, View.ld_unit_zero (S := S1x512x2048) hz3, View.ld_unit_zero (S := S512x2048) hz2, shapeCast_self]

/-- The last one writes the accumulated sum out. -/
theorem out_last (hc0 hc1 hc2) : out0_C_2 c i a2 h2 a3 h3 a4 h4 a5 h5 hc0 hc1 hc2 x0 x1 xs = (addf xs (k0_pay1 x0 x1)) := by
  unfold out0_C_2
  rw [View.read_writes_eq_canon _ _ _ (cover0_C_2 c i a2 h2 a3 h3 a4 h4 a5 h5 hc0 hc1 hc2 x0 x1 xs)]
  unfold kernelRun0_C
  dsimp only
  sl_unfold_words
  rw [View.canon_unit_zero hz2]
  unfold k0_pay3
  simp only [View.readAt_eq_ld, h2.read_unread, h3.read_unread, h5.read_unread, View.readCov_unit_zero (S := S512x2048) _ hz2, View.ld_unit_zero (S := S512x512) hz2, View.ld_unit_zero (S := S1x512x2048) hz3, View.ld_unit_zero (S := S512x2048) hz2, shapeCast_self]
end body

variable (m : (ℓ : Loc nD τ sig) → Buf (Elt Ideal) ℓ) (c : Dev nD)

/-- What point `t` adds to the accumulator. -/
abbrev term (t : Fin cfg0.N) : FVec Ideal S512x2048 .f32 := k0_pay1 (iblk m c 0 t) (iblk m c 1 t)

theorem acc0 (t : Fin cfg0.N) (h : t.val % 4 = 0) : (outsAt0 m c t.val t.isLt).2 = term m c t := by
  rw [outsAt0_A m c t h (by omega) (by omega)]
  dsimp only
  exact acc_first c _ _ _ _ _ _ _ _ _ _ _ _ _ _

theorem acc_step (n : ℕ) (hn : n + 1 < cfg0.N) (h0 : ¬(n + 1) % 4 = 0) (h3 : ¬(n + 1) % 4 = 3) :
    (outsAt0 m c (n + 1) hn).2 = addf (outsAt0 m c n (Nat.lt_of_succ_lt hn)).2 (term m c ⟨n + 1, hn⟩) := by
  rw [outsAt0_B m c ⟨n + 1, hn⟩ h0 (by show 1 ≤ (n + 1) % 4; omega) h3]
  dsimp only
  exact acc_next c _ _ _ _ _ _ _ _ _ _ _ _ _ _ _

theorem out_at (n : ℕ) (hn : n + 1 < cfg0.N) (h3 : (n + 1) % 4 = 3) :
    (outsAt0 m c (n + 1) hn).1 = (addf (outsAt0 m c n (Nat.lt_of_succ_lt hn)).2 (term m c ⟨n + 1, hn⟩)) := by
  rw [outsAt0_C m c ⟨n + 1, hn⟩ (by show ¬(n + 1) % 4 = 0; omega) (by show 1 ≤ (n + 1) % 4; omega) h3]
  dsimp only
  exact out_last c _ _ _ _ _ _ _ _ _ _ _ _ _ _ _

theorem index_eq : ∀ t : Fin cfg0.N,
    (win0_0.index t (0 : Fin 2) = t.val / 4 ∧ win0_0.index t (1 : Fin 2) = t.val % 4)
    ∧ (win0_1.index t (0 : Fin 3) = t.val % 4 ∧ win0_1.index t (1 : Fin 3) = 0 ∧ win0_1.index t (2 : Fin 3) = 0) :=
  (by decide +kernel : ∀ t : Fin grid0.N, _)

/-- The run of four points that makes the entry. -/
abbrev run (p : Fin 4096) (_q : Fin 2048) : ℕ := p.val / 512

/-- Its point of number `r`. -/
def pt (p : Fin 4096) (q : Fin 2048) (r : Fin 4) : Fin cfg0.N := ⟨4 * run p q + r.val, lt_of_lt_of_eq (by unfold run; omega) N_0.symm⟩

variable (p : Fin 4096) (q : Fin 2048) (r : Fin 4)

/-- What the last point of a run writes out: the four points' terms. -/
theorem out_block : (outsAt0 m c (4 * run p q + 2 + 1) (lt_of_lt_of_eq (by unfold run; omega) N_0.symm)).1
    = (addf (addf (addf (term m c (pt p q 0)) (term m c (pt p q 1))) (term m c (pt p q 2))) (term m c (pt p q 3))) := by
  rw [out_at m c (4 * run p q + 2) _ (by omega), acc_step m c (4 * run p q + 1) _ (by omega) (by omega), acc_step m c (4 * run p q) _ (by omega) (by omega)]
  rw [acc0 m c (pt p q 0) (by show (4 * run p q + 0) % 4 = 0; omega) |> fun e => (show (outsAt0 m c (4 * run p q) _).2 = _ from e)]
  rfl

/-- The weight as the launch finds it: four shards of rows. -/
theorem shards (x : FVec Ideal S2048x2048 .f32) (j : Fin 4) (k : Fin 512) (q : Fin 2048) :
    (shapeCast S4x512x2048 (truncf .bf16 x bitsLt_bf16_f32 : FVec Ideal S2048x2048 .bf16) shapeCasts_S2048x2048_S4x512x2048 : FVec Ideal S4x512x2048 .bf16) (ix3 j k q)
      = x (ix2 ⟨512 * j.val + k.val, by omega⟩ q) := by
  pointwise
  congr 2
  exact Fin.ext (by show j.val * 512 + k.val = 512 * j.val + k.val; omega)

theorem block0 (k : Fin 512) : (iblk m c 0 (pt p q r) : FVec Ideal S512x512 .bf16) (ix2 ⟨p.val % 512, by omega⟩ k)
    = (m ((c : Thread nD τ).loc main_arg0) : FVec Ideal S4096x2048 .bf16) (ix2 p ⟨512 * r.val + k.val, by omega⟩) := by
  obtain ⟨⟨e0, e1⟩, -⟩ := index_eq (pt p q r)
  refine (?_ : _ = (V m c main_arg0 : FVec Ideal S4096x2048 .bf16) (_)).trans (congrFun (V_main_arg0 m c) _)
  show V m c main_arg0 (((cfg0.win 0).blk (pt p q r)).view.emb _) = _
  congr 1
  funext z; apply Fin.ext
  match z with
  | ⟨0, _⟩ => show win0_0.index (pt p q r) (0 : Fin 2) * 512 + 1 * (p.val % 512) = p.val; rw [e0]; show (4 * (p.val / 512) + r.val) / 4 * 512 + _ = _; omega
  | ⟨1, _⟩ => show win0_0.index (pt p q r) (1 : Fin 2) * 512 + 1 * k.val = 512 * r.val + k.val; rw [e1]; show (4 * (p.val / 512) + r.val) % 4 * 512 + _ = _; omega

theorem block1 (k : Fin 512) : (iblk m c 1 (pt p q r) : FVec Ideal S1x512x2048 .bf16) (ix3 0 k q)
    = (m ((c : Thread nD τ).loc main_arg1) : FVec Ideal S2048x2048 .f32) (ix2 ⟨512 * r.val + k.val, by omega⟩ q) := by
  obtain ⟨-, e0, e1, e2⟩ := index_eq (pt p q r)
  refine (?_ : _ = (V m c main_v1 : FVec Ideal S4x512x2048 .bf16) (ix3 r k q)).trans (shards (m ((c : Thread nD τ).loc main_arg1)) r k q)
  show V m c main_v1 (((cfg0.win 1).blk (pt p q r)).view.emb _) = _
  congr 1
  funext z; apply Fin.ext
  match z with
  | ⟨0, _⟩ => show win0_1.index (pt p q r) (0 : Fin 3) * 1 + 1 * 0 = r.val; rw [e0]; show (4 * (p.val / 512) + r.val) % 4 * 1 + _ = _; omega
  | ⟨1, _⟩ => show win0_1.index (pt p q r) (1 : Fin 3) * 512 + 1 * k.val = k.val; rw [e1]; omega
  | ⟨2, _⟩ => show win0_1.index (pt p q r) (2 : Fin 3) * 2048 + 1 * q.val = q.val; rw [e2]; omega

/-- The product with the output weight. -/
def prod (x : FVec Ideal S4096x2048 .bf16) (y : FVec Ideal S2048x2048 .f32) (p : Fin 4096) (q : Fin 2048) : EReal :=
  ∑ k : Fin 2048, x (ix2 p k) * y (ix2 k q)

/-- The part of it one point of the run gives. -/
def part (x : FVec Ideal S4096x2048 .bf16) (y : FVec Ideal S2048x2048 .f32) (p : Fin 4096) (q : Fin 2048) (r : Fin 4) : EReal :=
  ∑ k : Fin 512, x (ix2 p ⟨512 * r.val + k.val, by omega⟩) * y (ix2 ⟨512 * r.val + k.val, by omega⟩ q)

theorem prod_parts (x : FVec Ideal S4096x2048 .bf16) (y : FVec Ideal S2048x2048 .f32) :
    prod x y p q = part x y p q 0 + part x y p q 1 + part x y p q 2 + part x y p q 3 := by
  unfold prod part
  rw [sum_four (n := 512) (by norm_num)]
  rfl

/-- What a point adds, of the arguments. -/
theorem term_apply : term m c (pt p q r) (ix2 ⟨p.val % 512, by omega⟩ q)
    = part (m ((c : Thread nD τ).loc main_arg0)) (m ((c : Thread nD τ).loc main_arg1)) p q r := by
  unfold term part
  pointwise [k0_pay1]
  simp only [block0 m c p q r, block1 m c p q r]

/-- The product, after the launch. -/
theorem result : (Value.G2 m c : FVec Ideal S4096x2048 .f32) (ix2 p q)
    = prod (m ((c : Thread nD τ).loc main_arg0)) (m ((c : Thread nD τ).loc main_arg1)) p q := by
  have hp : Value.pt2Of (ix2 p q) = 4 * run p q + 2 + 1 := by
    show 4 * (1 * (p.val / 512 - 0) + 1 * (q.val / 2048 - 0)) + 3 = 4 * (p.val / 512) + 2 + 1
    omega
  have hl : Value.loc2Of (ix2 p q) = ix2 ⟨p.val % 512, by omega⟩ q := by
    funext a; apply Fin.ext
    match a with
    | ⟨0, _⟩ => rfl
    | ⟨1, _⟩ => show q.val % 2048 = q.val; omega
  have e : (Value.G2 m c : FVec Ideal S4096x2048 .f32) (ix2 p q)
      = (outsAt0 m c (4 * run p q + 2 + 1) (lt_of_lt_of_eq (by unfold run; omega) N_0.symm)).1 (ix2 ⟨p.val % 512, by omega⟩ q) := by
    rw [Value.outsAt0_sweep]
    unfold Value.G2
    rw [dif_pos (by rw [hp]; exact lt_of_lt_of_eq (by unfold run; omega) N_0.symm), hl, Value.fold0_congr m c _ _ _ _ hp]
  rw [e, out_block]
  show term m c (pt p q 0) _ + term m c (pt p q 1) _ + term m c (pt p q 2) _ + term m c (pt p q 3) _ = _
  rw [prod_parts, ← term_apply m c, ← term_apply m c, ← term_apply m c, ← term_apply m c]

end Cert.Proof.OutFwd

end
-- ==== Proof.OutFwdEq.lean ====
/-
  The claims about the mixer's output projection.
-/
module

public import proofs.«01_k».proof.Defs
public import proofs.«01_k».proof.Proof.OutFwd
public import proofs.«01_k».proof.Proof.Gen.Kernel11.Frame
public import proofs.«01_k».proof.Proof.Gen.Reference11Ideal
public import proofs.«01_k».proof.Proof.Gen.Reference11Ideal.Run
public import Idealize.ShloMosaic.Lib.Quiescent

@[expose] public section

set_option maxRecDepth 16384

noncomputable section

namespace Cert.Proof.OutFwd

open Idealize.ShloMosaic Idealize.ShloMosaic.TcCoe Idealize.SL.Sem

section
open Cert.Reference11Ideal Cert.Reference11Ideal.Gen

/-- The reference's result, at an index. -/
theorem ref_result (x0 : FVec Ideal S4096x2048 .bf16) (x1 : FVec Ideal S2048x2048 .f32) (p : Fin 4096) (q : Fin 2048) :
    (Host.dotGeneral dot_S4096x2048_S2048x2048_S4096x2048_1_0_0_1_n_n none (extf .f32 x0 bitsLt_bf16_f32) x1 : FVec Ideal S4096x2048 .f32) (ix2 p q) = prod x0 x1 p q := by
  pointwise
  rfl

end

/-- The kernel's frame. -/
theorem frame_kernel : (haveI := Cert.Kernel11.Gen.facts; Cert.quiescent_Kernel11) := fun m ρ _ => Cert.Kernel11.Gen.frame m ρ

/-- Its idealization's. -/
theorem frame_ideal : (haveI := Cert.Kernel11Ideal.Gen.facts; Cert.quiescent_Kernel11Ideal) := fun m ρ _ => Cert.Kernel11Ideal.Gen.frame m ρ

/-- The reference's. -/
theorem frame_reference : (haveI := Cert.Reference11Ideal.Gen.facts; Cert.quiescent_Reference11Ideal) := fun m ρ _ =>
  (θ_run (Cert.Reference11Ideal.defs (F := Ideal)) _ _).mono (fun _ h => ⟨fun c => (h c).2, sem_eq_zero_of_no_sems rfl _⟩)
    (Cert.Reference11Ideal.Value.run (F := Ideal) m ρ)

/-- The kernel and the reference compute the same array. -/
theorem algebraic : (haveI := Cert.Kernel11Ideal.Gen.facts; haveI := Cert.Reference11Ideal.Gen.facts
    Cert.algebraic_Kernel11Ideal_Reference11Ideal) := by
  intro m ρ m' ρ' _ hm
  refine ⟨_, Cert.Kernel11Ideal.Value.run m ρ, ?_⟩
  refine (θ_run (Cert.Reference11Ideal.defs (F := Ideal)) _ _).mono (fun r h c => ?_) (Cert.Reference11Ideal.Value.run (F := Ideal) m' ρ')
  obtain ⟨r1, ra⟩ := h c
  obtain ⟨h0, h1⟩ := hm c
  refine ⟨r1.trans ?_, ra⟩
  rw [h0, h1]
  funext i
  rw [eq_ix2 i]
  generalize i 0 = p, i 1 = q
  exact (ref_result _ _ p q).trans (result m c p q).symm

end Cert.Proof.OutFwd

end
-- ==== Proof.OutBwd.lean ====
/-
  What the launch of the gradient through the mixer's output projection leaves in memory: each entry as a formula of the arguments.
-/
module

public import proofs.«01_k».proof.Proof.Gen.Kernel12Ideal.Value
public import proofs.«01_k».proof.Proof.OutFwd
public import Idealize.ShloMosaic.Lib.Pipeline.ValueKit.Basic
public import Idealize.ShloMosaic.Lib.Pointwise

@[expose] public section

set_option maxRecDepth 16384

noncomputable section

namespace Cert.Proof.OutBwd

open Cert.Kernel12Ideal Cert.Kernel12Ideal.Gen
open Idealize.ShloMosaic Idealize.ShloMosaic.TcCoe
open Idealize.SL Idealize.SL.RA
open Cert.Proof.OutFwd (shards)

variable (m : (ℓ : Loc nD τ sig) → Buf (Elt Ideal) ℓ)

/-- The product with the transposed output weight. -/
def prod (x : FVec Ideal S4096x2048 .f32) (y : FVec Ideal S2048x2048 .f32) (p : Fin 4096) (q : Fin 2048) : EReal :=
  ∑ k : Fin 2048, x (ix2 p k) * y (ix2 q k)

/-- The point whose blocks hold entry `(p, q)`. -/
def pt (p : Fin 4096) (q : Fin 2048) : Fin cfg0.N := ⟨8 * (q.val / 512) + p.val / 512, lt_of_lt_of_eq (by omega) N_0.symm⟩

theorem index_eq : ∀ t : Fin cfg0.N,
    (win0_0.index t (0 : Fin 2) = t.val % 8 ∧ win0_0.index t (1 : Fin 2) = 0)
    ∧ (win0_1.index t (0 : Fin 3) = t.val / 8 ∧ win0_1.index t (1 : Fin 3) = 0 ∧ win0_1.index t (2 : Fin 3) = 0)
    ∧ (win0_2.index t (0 : Fin 2) = t.val % 8 ∧ win0_2.index t (1 : Fin 2) = t.val / 8) :=
  (by decide +kernel : ∀ t : Fin grid0.N, _)

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (p : Fin 4096) (q : Fin 2048)

theorem block0 (x : Fin 2048) : (iblk m c 0 (pt p q) : FVec Ideal S512x2048 .f32) (ix2 ⟨p.val % 512, by omega⟩ x)
    = (m ((c : Thread nD τ).loc main_arg0) : FVec Ideal S4096x2048 .f32) (ix2 p x) := by
  obtain ⟨⟨e0, e1⟩, -⟩ := index_eq (pt p q)
  refine (?_ : _ = (V m c main_arg0 : FVec Ideal S4096x2048 .f32) _).trans (congrFun (V_main_arg0 m c) _)
  show V m c main_arg0 (((cfg0.win 0).blk (pt p q)).view.emb _) = _
  congr 1
  funext a; apply Fin.ext
  match a with
  | ⟨0, _⟩ => show win0_0.index (pt p q) (0 : Fin 2) * 512 + 1 * (p.val % 512) = p.val; rw [e0]; show (8 * (q.val / 512) + p.val / 512) % 8 * 512 + _ = _; omega
  | ⟨1, _⟩ => show win0_0.index (pt p q) (1 : Fin 2) * 2048 + 1 * x.val = x.val; rw [e1]; omega

theorem block1 (x : Fin 2048) : (iblk m c 1 (pt p q) : FVec Ideal S1x512x2048 .bf16) (ix3 0 ⟨q.val % 512, by omega⟩ x)
    = (m ((c : Thread nD τ).loc main_arg1) : FVec Ideal S2048x2048 .f32) (ix2 q x) := by
  obtain ⟨-, ⟨e0, e1, e2⟩, -⟩ := index_eq (pt p q)
  refine (?_ : _ = (V m c main_v1 : FVec Ideal S4x512x2048 .bf16) (ix3 ⟨q.val / 512, by omega⟩ ⟨q.val % 512, by omega⟩ x)).trans
    ((shards (m ((c : Thread nD τ).loc main_arg1)) _ _ _).trans (congrArg _ ?_))
  · show V m c main_v1 (((cfg0.win 1).blk (pt p q)).view.emb _) = _
    congr 1
    funext a; apply Fin.ext
    match a with
    | ⟨0, _⟩ => show win0_1.index (pt p q) (0 : Fin 3) * 1 + 1 * 0 = q.val / 512; rw [e0]; show (8 * (q.val / 512) + p.val / 512) / 8 * 1 + _ = _; omega
    | ⟨1, _⟩ => show win0_1.index (pt p q) (1 : Fin 3) * 512 + 1 * (q.val % 512) = q.val % 512; rw [e1]; omega
    | ⟨2, _⟩ => show win0_1.index (pt p q) (2 : Fin 3) * 2048 + 1 * x.val = x.val; rw [e2]; omega
  · have h : (⟨512 * (q.val / 512) + q.val % 512, by omega⟩ : Fin 2048) = q := Fin.ext (by show 512 * (q.val / 512) + q.val % 512 = q.val; omega)
    exact congrArg (fun z => ix2 z x) h

/-- The gradient, after the launch. -/
theorem result : ((dats m 0 c).arrAt 2 cfg0.N : FVec Ideal S4096x2048 .f32) (ix2 p q) = prod (m ((c : Thread nD τ).loc main_arg0)) (m ((c : Thread nD τ).loc main_arg1)) p q := by
  obtain ⟨-, -, e0, e1⟩ := index_eq (pt p q)
  have h := congrFun (Value.blocks2 m c (pt p q) (flush0_2 _)) (ix2 ⟨p.val % 512, by omega⟩ ⟨q.val % 512, by omega⟩)
  refine (Eq.trans ?_ h).trans ?_
  · show _ = (dats m 0 c).arrAt 2 cfg0.N (((cfg0.win 2).blk (pt p q)).view.emb _)
    congr 1
    funext a; apply Fin.ext
    match a with
    | ⟨0, _⟩ => show p.val = win0_2.index (pt p q) (0 : Fin 2) * 512 + 1 * (p.val % 512); rw [e0]; show _ = (8 * (q.val / 512) + p.val / 512) % 8 * 512 + _; omega
    | ⟨1, _⟩ => show q.val = win0_2.index (pt p q) (1 : Fin 2) * 512 + 1 * (q.val % 512); rw [e1]; show _ = (8 * (q.val / 512) + p.val / 512) / 8 * 512 + _; omega
  · rw [Value.flushed2]
    show out0_2 (iblk m c 0 (pt p q)) (iblk m c 1 (pt p q)) (ix2 ⟨p.val % 512, by omega⟩ ⟨q.val % 512, by omega⟩) = _
    unfold out0_2
    rw [View.canon_unit_zero hz2, View.ld_unit_zero hz2, View.ld_unit_zero hz3]
    pointwise [k0_pay1]
    unfold prod
    simp only [block0 m c p q, block1 m c p q]

end Cert.Proof.OutBwd

end
-- ==== Proof.OutBwdEq.lean ====
/-
  The claims about the gradient through the mixer's output projection.
-/
module

public import proofs.«01_k».proof.Defs
public import proofs.«01_k».proof.Proof.OutBwd
public import proofs.«01_k».proof.Proof.Gen.Kernel12.Frame
public import proofs.«01_k».proof.Proof.Gen.Reference12Ideal
public import proofs.«01_k».proof.Proof.Gen.Reference12Ideal.Run
public import Idealize.ShloMosaic.Lib.Quiescent

@[expose] public section

set_option maxRecDepth 16384

noncomputable section

namespace Cert.Proof.OutBwd

open Idealize.ShloMosaic Idealize.ShloMosaic.TcCoe Idealize.SL.Sem

section
open Cert.Reference12Ideal Cert.Reference12Ideal.Gen

/-- The reference's result, at an index. -/
theorem ref_result (x0 : FVec Ideal S4096x2048 .f32) (x1 : FVec Ideal S2048x2048 .f32) (p : Fin 4096) (q : Fin 2048) :
    (Host.dotGeneral dot_S4096x2048_S2048x2048_S4096x2048_1_1_0_0_n_n none x0 x1 : FVec Ideal S4096x2048 .f32) (ix2 p q) = prod x0 x1 p q := by
  pointwise
  rfl

end

/-- The kernel's frame. -/
theorem frame_kernel : (haveI := Cert.Kernel12.Gen.facts; Cert.quiescent_Kernel12) := fun m ρ _ => Cert.Kernel12.Gen.frame m ρ

/-- Its idealization's. -/
theorem frame_ideal : (haveI := Cert.Kernel12Ideal.Gen.facts; Cert.quiescent_Kernel12Ideal) := fun m ρ _ => Cert.Kernel12Ideal.Gen.frame m ρ

/-- The reference's. -/
theorem frame_reference : (haveI := Cert.Reference12Ideal.Gen.facts; Cert.quiescent_Reference12Ideal) := fun m ρ _ =>
  (θ_run (Cert.Reference12Ideal.defs (F := Ideal)) _ _).mono (fun _ h => ⟨fun c => (h c).2, sem_eq_zero_of_no_sems rfl _⟩)
    (Cert.Reference12Ideal.Value.run (F := Ideal) m ρ)

/-- The kernel and the reference compute the same array. -/
theorem algebraic : (haveI := Cert.Kernel12Ideal.Gen.facts; haveI := Cert.Reference12Ideal.Gen.facts
    Cert.algebraic_Kernel12Ideal_Reference12Ideal) := by
  intro m ρ m' ρ' _ hm
  refine ⟨_, Cert.Kernel12Ideal.Value.run_blocks m ρ, ?_⟩
  refine (θ_run (Cert.Reference12Ideal.defs (F := Ideal)) _ _).mono (fun r h c => ?_) (Cert.Reference12Ideal.Value.run (F := Ideal) m' ρ')
  obtain ⟨r1, ra⟩ := h c
  obtain ⟨h0, h1⟩ := hm c
  refine ⟨r1.trans ?_, ra⟩
  rw [h0, h1]
  funext i
  rw [eq_ix2 i]
  generalize i 0 = p, i 1 = q
  exact (ref_result _ _ p q).trans (result m c p q).symm

end Cert.Proof.OutBwd

end
-- ==== Proof.OutGrad.lean ====
/-
  What the launch of the gradient of the mixer's output weight leaves in memory: four shards of rows.
-/
module

public import proofs.«01_k».proof.Proof.Gen.Kernel13Ideal.Value
public import proofs.«01_k».proof.Proof.SumFour
public import Idealize.ShloMosaic.Lib.Pipeline.ValueKit.Basic
public import Idealize.ShloMosaic.Lib.Pointwise

@[expose] public section

set_option maxRecDepth 16384

noncomputable section

namespace Cert.Proof.OutGrad

open Cert.Kernel13Ideal Cert.Kernel13Ideal.Gen
open Idealize.ShloMosaic Idealize.ShloMosaic.TcCoe
open Idealize.SL Idealize.SL.RA

theorem hz2 : (![0, 0] : Fin 2 → Nat) = fun _ => 0 := funext fun a => by fin_cases a <;> rfl
theorem hz3 : (![0, 0, 0] : Fin 3 → Nat) = fun _ => 0 := funext fun a => by fin_cases a <;> rfl

section body
variable (c : Dev nD) (i : grid0.Coords) (a4 : Memref sig .tc .vmem S1024x512 .bf16) (h4 : a4.IsWhole)
  (a5 : Memref sig .tc .vmem S1024x1024 .f32) (h5 : a5.IsWhole) (a6 : Memref sig .tc .vmem S1x512x1024 .bf16) (h6 : a6.IsWhole)
  (a7 : Memref sig .tc .vmem S512x1024 .f32) (h7 : a7.IsWhole)
  (x0 : Vec Ideal S1024x512 .bf16) (x1 : Vec Ideal S1024x1024 .f32) (xs : Vec Ideal S512x1024 .f32)

/-- The first of a run of four points leaves its product in the accumulator. -/
theorem acc_first (hc0 hc1 hc2) : sout0_A_0 c i a4 h4 a5 h5 a6 h6 a7 h7 hc0 hc1 hc2 x0 x1 = k0_pay1 x0 x1 := by
  unfold sout0_A_0
  rw [View.read_writes_eq_canon _ _ _ (scover0_A_0 c i a4 h4 a5 h5 a6 h6 a7 h7 hc0 hc1 hc2 x0 x1)]
  unfold kernelRun0_A
  dsimp only
  rw [View.canon_unit_zero hz2]
  unfold k0_pay2
  simp only [View.readAt_eq_ld, h4.read_unread, h5.read_unread, View.ld_unit_zero (S := S1024x512) hz2, View.ld_unit_zero (S := S1024x1024) hz2, shapeCast_self]

/-- A later one adds it. -/
theorem acc_next (hc0 hc1 hc2) : sout0_B_0 c i a4 h4 a5 h5 a6 h6 a7 h7 hc0 hc1 hc2 x0 x1 xs = addf xs (k0_pay1 x0 x1) := by
  unfold sout0_B_0
  rw [View.read_writes_eq_canon _ _ _ (scover0_B_0 c i a4 h4 a5 h5 a6 h6 a7 h7 hc0 hc1 hc2 x0 x1 xs)]
  unfold kernelRun0_B
  dsimp only
  rw [View.canon_unit_zero hz2]
  unfold k0_pay3
  simp only [View.readAt_eq_ld, h4.read_unread, h5.read_unread, h7.read_unread, View.ld_unit_zero (S := S1024x512) hz2, View.ld_unit_zero (S := S1024x1024) hz2, View.ld_unit_zero (S := S512x1024) hz2, shapeCast_self]

/-- The last one writes the accumulated sum out. -/
theorem out_last (hc0 hc1 hc2) : out0_C_2 c i a4 h4 a5 h5 a6 h6 a7 h7 hc0 hc1 hc2 x0 x1 xs = k0_pay4 (addf xs (k0_pay1 x0 x1)) := by
  unfold out0_C_2
  rw [View.read_writes_eq_canon _ _ _ (cover0_C_2 c i a4 h4 a5 h5 a6 h6 a7 h7 hc0 hc1 hc2 x0 x1 xs)]
  unfold kernelRun0_C
  dsimp only
  sl_unfold_words
  rw [View.canon_unit_zero hz3]
  unfold k0_pay3
  simp only [View.readAt_eq_ld, h4.read_unread, h5.read_unread, h7.read_unread, View.readCov_unit_zero (S := S512x1024) _ hz2, View.ld_unit_zero (S := S1024x512) hz2, View.ld_unit_zero (S := S1024x1024) hz2, View.ld_unit_zero (S := S512x1024) hz2, shapeCast_self]
end body

variable (m : (ℓ : Loc nD τ sig) → Buf (Elt Ideal) ℓ) (c : Dev nD)

/-- What point `t` adds to the accumulator. -/
abbrev term (t : Fin cfg0.N) : FVec Ideal S512x1024 .f32 := k0_pay1 (iblk m c 0 t) (iblk m c 1 t)

theorem acc0 (t : Fin cfg0.N) (h : t.val % 4 = 0) : (outsAt0 m c t.val t.isLt).2 = term m c t := by
  rw [outsAt0_A m c t h (by omega) (by omega)]
  dsimp only
  exact acc_first c _ _ _ _ _ _ _ _ _ _ _ _ _ _

theorem acc_step (n : ℕ) (hn : n + 1 < cfg0.N) (h0 : ¬(n + 1) % 4 = 0) (h3 : ¬(n + 1) % 4 = 3) :
    (outsAt0 m c (n + 1) hn).2 = addf (outsAt0 m c n (Nat.lt_of_succ_lt hn)).2 (term m c ⟨n + 1, hn⟩) := by
  rw [outsAt0_B m c ⟨n + 1, hn⟩ h0 (by show 1 ≤ (n + 1) % 4; omega) h3]
  dsimp only
  exact acc_next c _ _ _ _ _ _ _ _ _ _ _ _ _ _ _

theorem out_at (n : ℕ) (hn : n + 1 < cfg0.N) (h3 : (n + 1) % 4 = 3) :
    (outsAt0 m c (n + 1) hn).1 = k0_pay4 (addf (outsAt0 m c n (Nat.lt_of_succ_lt hn)).2 (term m c ⟨n + 1, hn⟩)) := by
  rw [outsAt0_C m c ⟨n + 1, hn⟩ (by show ¬(n + 1) % 4 = 0; omega) (by show 1 ≤ (n + 1) % 4; omega) h3]
  dsimp only
  exact out_last c _ _ _ _ _ _ _ _ _ _ _ _ _ _ _

theorem index_eq : ∀ t : Fin cfg0.N,
    (win0_0.index t (0 : Fin 2) = t.val % 4 ∧ win0_0.index t (1 : Fin 2) = t.val / 8)
    ∧ (win0_1.index t (0 : Fin 2) = t.val % 4 ∧ win0_1.index t (1 : Fin 2) = t.val / 4 % 2) :=
  (by decide +kernel : ∀ t : Fin grid0.N, _)

/-- The run of four points that makes the entry. -/
abbrev run (j : Fin 4) (_p : Fin 512) (q : Fin 2048) : ℕ := 2 * j.val + q.val / 1024

/-- Its point of number `r`. -/
def pt (j : Fin 4) (p : Fin 512) (q : Fin 2048) (r : Fin 4) : Fin cfg0.N := ⟨4 * run j p q + r.val, lt_of_lt_of_eq (by unfold run; omega) N_0.symm⟩

variable (j : Fin 4) (p : Fin 512) (q : Fin 2048) (r : Fin 4)

/-- What the last point of a run writes out: the four points' terms. -/
theorem out_block : (outsAt0 m c (4 * run j p q + 2 + 1) (lt_of_lt_of_eq (by unfold run; omega) N_0.symm)).1
    = k0_pay4 (addf (addf (addf (term m c (pt j p q 0)) (term m c (pt j p q 1))) (term m c (pt j p q 2))) (term m c (pt j p q 3))) := by
  rw [out_at m c (4 * run j p q + 2) _ (by omega), acc_step m c (4 * run j p q + 1) _ (by omega) (by omega), acc_step m c (4 * run j p q) _ (by omega) (by omega)]
  rw [acc0 m c (pt j p q 0) (by show (4 * run j p q + 0) % 4 = 0; omega) |> fun e => (show (outsAt0 m c (4 * run j p q) _).2 = _ from e)]
  rfl

theorem block0 (k : Fin 1024) : (iblk m c 0 (pt j p q r) : FVec Ideal S1024x512 .bf16) (ix2 k p)
    = (m ((c : Thread nD τ).loc main_arg0) : FVec Ideal S4096x2048 .bf16) (ix2 ⟨1024 * r.val + k.val, by omega⟩ ⟨512 * j.val + p.val, by omega⟩) := by
  obtain ⟨⟨e0, e1⟩, -⟩ := index_eq (pt j p q r)
  refine (?_ : _ = (V m c main_arg0 : FVec Ideal S4096x2048 .bf16) (_)).trans (congrFun (V_main_arg0 m c) _)
  show V m c main_arg0 (((cfg0.win 0).blk (pt j p q r)).view.emb _) = _
  congr 1
  funext z; apply Fin.ext
  match z with
  | ⟨0, _⟩ => show win0_0.index (pt j p q r) (0 : Fin 2) * 1024 + 1 * k.val = 1024 * r.val + k.val; rw [e0]; show (4 * (2 * j.val + q.val / 1024) + r.val) % 4 * 1024 + _ = _; omega
  | ⟨1, _⟩ => show win0_0.index (pt j p q r) (1 : Fin 2) * 512 + 1 * p.val = 512 * j.val + p.val; rw [e1]; show (4 * (2 * j.val + q.val / 1024) + r.val) / 8 * 512 + _ = _; omega

theorem block1 (k : Fin 1024) : (iblk m c 1 (pt j p q r) : FVec Ideal S1024x1024 .f32) (ix2 k ⟨q.val % 1024, by omega⟩)
    = (m ((c : Thread nD τ).loc main_arg1) : FVec Ideal S4096x2048 .f32) (ix2 ⟨1024 * r.val + k.val, by omega⟩ q) := by
  obtain ⟨-, e0, e1⟩ := index_eq (pt j p q r)
  refine (?_ : _ = (V m c main_arg1 : FVec Ideal S4096x2048 .f32) (_)).trans (congrFun (V_main_arg1 m c) _)
  show V m c main_arg1 (((cfg0.win 1).blk (pt j p q r)).view.emb _) = _
  congr 1
  funext z; apply Fin.ext
  match z with
  | ⟨0, _⟩ => show win0_1.index (pt j p q r) (0 : Fin 2) * 1024 + 1 * k.val = 1024 * r.val + k.val; rw [e0]; show (4 * (2 * j.val + q.val / 1024) + r.val) % 4 * 1024 + _ = _; omega
  | ⟨1, _⟩ => show win0_1.index (pt j p q r) (1 : Fin 2) * 1024 + 1 * (q.val % 1024) = q.val; rw [e1]; show (4 * (2 * j.val + q.val / 1024) + r.val) / 4 % 2 * 1024 + _ = _; omega

/-- The weight's gradient: the transposed rows times the rows' gradient. -/
def prod (x : FVec Ideal S4096x2048 .bf16) (y : FVec Ideal S4096x2048 .f32) (j : Fin 4) (p : Fin 512) (q : Fin 2048) : EReal :=
  ∑ k : Fin 4096, x (ix2 k ⟨512 * j.val + p.val, by omega⟩) * y (ix2 k q)

/-- The part of it one point of the run gives. -/
def part (x : FVec Ideal S4096x2048 .bf16) (y : FVec Ideal S4096x2048 .f32) (j : Fin 4) (p : Fin 512) (q : Fin 2048) (r : Fin 4) : EReal :=
  ∑ k : Fin 1024, x (ix2 ⟨1024 * r.val + k.val, by omega⟩ ⟨512 * j.val + p.val, by omega⟩) * y (ix2 ⟨1024 * r.val + k.val, by omega⟩ q)

theorem prod_parts (x : FVec Ideal S4096x2048 .bf16) (y : FVec Ideal S4096x2048 .f32) :
    prod x y j p q = part x y j p q 0 + part x y j p q 1 + part x y j p q 2 + part x y j p q 3 := by
  unfold prod part
  rw [sum_four (n := 1024) (by norm_num)]
  rfl

/-- What a point adds, of the arguments. -/
theorem term_apply : term m c (pt j p q r) (ix2 p ⟨q.val % 1024, by omega⟩)
    = part (m ((c : Thread nD τ).loc main_arg0)) (m ((c : Thread nD τ).loc main_arg1)) j p q r := by
  unfold term part
  pointwise [k0_pay1]
  simp only [block0 m c j p q r, block1 m c j p q r]

/-- The gradient, after the launch. -/
theorem result : (Value.G2 m c : FVec Ideal S4x512x2048 .bf16) (ix3 j p q)
    = prod (m ((c : Thread nD τ).loc main_arg0)) (m ((c : Thread nD τ).loc main_arg1)) j p q := by
  have hp : Value.pt2Of (ix3 j p q) = 4 * run j p q + 2 + 1 := by
    show 4 * (2 * (j.val / 1 - 0) + 2 * (p.val / 512 - 0) + 1 * (q.val / 1024 - 0)) + 3 = 4 * (2 * j.val + q.val / 1024) + 2 + 1
    omega
  have hl : Value.loc2Of (ix3 j p q) = ix3 0 p ⟨q.val % 1024, by omega⟩ := by
    funext a; apply Fin.ext
    match a with
    | ⟨0, _⟩ => show j.val % 1 = 0; omega
    | ⟨1, _⟩ => show p.val % 512 = p.val; omega
    | ⟨2, _⟩ => rfl
  have e : (Value.G2 m c : FVec Ideal S4x512x2048 .bf16) (ix3 j p q)
      = (outsAt0 m c (4 * run j p q + 2 + 1) (lt_of_lt_of_eq (by unfold run; omega) N_0.symm)).1 (ix3 0 p ⟨q.val % 1024, by omega⟩) := by
    rw [Value.outsAt0_sweep]
    unfold Value.G2
    rw [dif_pos (by rw [hp]; exact lt_of_lt_of_eq (by unfold run; omega) N_0.symm), hl, Value.fold0_congr m c _ _ _ _ hp]
  rw [e, out_block]
  rw [prod_parts, ← term_apply m c, ← term_apply m c, ← term_apply m c, ← term_apply m c]
  pointwise [k0_pay4]

end Cert.Proof.OutGrad

end
-- ==== Proof.OutGradEq.lean ====
/-
  The claims about the gradient of the mixer's output weight.
-/
module

public import proofs.«01_k».proof.Defs
public import proofs.«01_k».proof.Proof.OutGrad
public import proofs.«01_k».proof.Proof.Gen.Kernel13.Frame
public import proofs.«01_k».proof.Proof.Gen.Reference13Ideal
public import proofs.«01_k».proof.Proof.Gen.Reference13Ideal.Run
public import Idealize.ShloMosaic.Lib.Quiescent

@[expose] public section

set_option maxRecDepth 16384

noncomputable section

namespace Cert.Proof.OutGrad

open Idealize.ShloMosaic Idealize.ShloMosaic.TcCoe Idealize.SL.Sem

section
open Cert.Reference13Ideal Cert.Reference13Ideal.Gen

/-- The reference's result, at an index. -/
theorem ref_result (x0 : FVec Ideal S4096x2048 .bf16) (x1 : FVec Ideal S4096x2048 .f32) (j : Fin 4) (p : Fin 512) (q : Fin 2048) :
    (shapeCast _ (truncf .bf16 (transpose S2048x2048 [1, 0] (Host.dotGeneral dot_S4096x2048_S4096x2048_S2048x2048_0_0_1_1_n_n none x1 (extf .f32 x0 bitsLt_bf16_f32)) transposes_S2048x2048_S2048x2048_1_0) bitsLt_bf16_f32) shapeCasts_S2048x2048_S4x512x2048 : FVec Ideal S4x512x2048 .bf16) (ix3 j p q) = prod x0 x1 j p q := by
  pointwise
  unfold prod
  have e : (⟨j.val * 512 + p.val, by omega⟩ : Fin 2048) = ⟨512 * j.val + p.val, by omega⟩ := Fin.ext (by show j.val * 512 + p.val = 512 * j.val + p.val; omega)
  exact Finset.sum_congr rfl fun k _ => by rw [mul_comm, e]

end

/-- The kernel's frame. -/
theorem frame_kernel : (haveI := Cert.Kernel13.Gen.facts; Cert.quiescent_Kernel13) := fun m ρ _ => Cert.Kernel13.Gen.frame m ρ

/-- Its idealization's. -/
theorem frame_ideal : (haveI := Cert.Kernel13Ideal.Gen.facts; Cert.quiescent_Kernel13Ideal) := fun m ρ _ => Cert.Kernel13Ideal.Gen.frame m ρ

/-- The reference's. -/
theorem frame_reference : (haveI := Cert.Reference13Ideal.Gen.facts; Cert.quiescent_Reference13Ideal) := fun m ρ _ =>
  (θ_run (Cert.Reference13Ideal.defs (F := Ideal)) _ _).mono (fun _ h => ⟨fun c => (h c).2, sem_eq_zero_of_no_sems rfl _⟩)
    (Cert.Reference13Ideal.Value.run (F := Ideal) m ρ)

/-- The kernel and the reference compute the same array. -/
theorem algebraic : (haveI := Cert.Kernel13Ideal.Gen.facts; haveI := Cert.Reference13Ideal.Gen.facts
    Cert.algebraic_Kernel13Ideal_Reference13Ideal) := by
  intro m ρ m' ρ' _ hm
  refine ⟨_, Cert.Kernel13Ideal.Value.run m ρ, ?_⟩
  refine (θ_run (Cert.Reference13Ideal.defs (F := Ideal)) _ _).mono (fun r h c => ?_) (Cert.Reference13Ideal.Value.run (F := Ideal) m' ρ')
  obtain ⟨r1, ra⟩ := h c
  obtain ⟨h0, h1⟩ := hm c
  refine ⟨r1.trans ?_, ra⟩
  rw [h0, h1]
  funext i
  rw [eq_ix3 i]
  obtain ⟨j, hj⟩ : ∃ j : Fin 4, j = i 0 := ⟨_, rfl⟩
  obtain ⟨p, hp⟩ : ∃ p : Fin 512, p = i 1 := ⟨_, rfl⟩
  obtain ⟨q, hq⟩ : ∃ q : Fin 2048, q = i 2 := ⟨_, rfl⟩
  rw [← hj, ← hp, ← hq]
  exact (ref_result _ _ j p q).trans (result m c j p q).symm

end Cert.Proof.OutGrad

end
-- ==== Proof.UpGrad.lean ====
/-
  What the launch that computes the up weights' gradient leaves in memory: the first slab of each shard holds the product of the
  transposed input rows with the arriving gradient, summed over four runs of the tokens; the second slab stays as it was given.
-/
module

public import proofs.«01_k».proof.Proof.Gen.Kernel14Ideal.Value
public import Idealize.ShloMosaic.Lib.Pipeline.ValueKit.Basic
public import Idealize.ShloMosaic.Lib.Pointwise
public import proofs.«01_k».proof.Proof.SumFour

@[expose] public section

set_option maxRecDepth 16384

noncomputable section

namespace Cert.Proof.UpGrad

open Cert.Kernel14Ideal Cert.Kernel14Ideal.Gen
open Idealize.ShloMosaic Idealize.ShloMosaic.TcCoe
open Idealize.SL Idealize.SL.RA

theorem hz2 : (![0, 0] : Fin 2 → Nat) = fun _ => 0 := funext fun a => by fin_cases a <;> rfl
theorem hz4 : (![0, 0, 0, 0] : Fin 4 → Nat) = fun _ => 0 := funext fun a => by fin_cases a <;> rfl

section body
variable (c : Dev nD) (i : grid0.Coords) (a4 : Memref sig .tc .vmem S1024x1024 .bf16) (h4 : a4.IsWhole)
  (a5 : Memref sig .tc .vmem S1024x1408 .bf16) (h5 : a5.IsWhole) (a7 : Memref sig .tc .vmem S1x1x1024x1408 .bf16) (h7 : a7.IsWhole)
  (a8 : Memref sig .tc .vmem S1024x1408 .f32) (h8 : a8.IsWhole)
  (x0 : Vec Ideal S1024x1024 .bf16) (x1 : Vec Ideal S1024x1408 .bf16) (xs : Vec Ideal S1024x1408 .f32)

/-- The first of a run of four points leaves its product in the accumulator. -/
theorem acc_first (hc0 hc1 hc2) : sout0_A_0 c i a4 h4 a5 h5 a7 h7 a8 h8 hc0 hc1 hc2 x0 x1 = k0_pay1 x0 x1 := by
  unfold sout0_A_0
  rw [View.read_writes_eq_canon _ _ _ (scover0_A_0 c i a4 h4 a5 h5 a7 h7 a8 h8 hc0 hc1 hc2 x0 x1)]
  unfold kernelRun0_A
  dsimp only
  rw [View.canon_unit_zero hz2]
  unfold k0_pay2
  simp only [View.readAt_eq_ld, h4.read_unread, h5.read_unread, View.ld_unit_zero (S := S1024x1024) hz2, View.ld_unit_zero (S := S1024x1408) hz2, shapeCast_self]

/-- A later one adds it. -/
theorem acc_next (hc0 hc1 hc2) : sout0_B_0 c i a4 h4 a5 h5 a7 h7 a8 h8 hc0 hc1 hc2 x0 x1 xs = addf xs (k0_pay1 x0 x1) := by
  unfold sout0_B_0
  rw [View.read_writes_eq_canon _ _ _ (scover0_B_0 c i a4 h4 a5 h5 a7 h7 a8 h8 hc0 hc1 hc2 x0 x1 xs)]
  unfold kernelRun0_B
  dsimp only
  rw [View.canon_unit_zero hz2]
  unfold k0_pay3
  simp only [View.readAt_eq_ld, h4.read_unread, h5.read_unread, h8.read_unread, View.ld_unit_zero (S := S1024x1024) hz2, View.ld_unit_zero (S := S1024x1408) hz2, View.ld_unit_zero (S := S1024x1408) hz2, shapeCast_self]

/-- The last one writes the accumulated sum out. -/
theorem out_last (hc0 hc1 hc2) : out0_C_2 c i a4 h4 a5 h5 a7 h7 a8 h8 hc0 hc1 hc2 x0 x1 xs = k0_pay4 (addf xs (k0_pay1 x0 x1)) := by
  unfold out0_C_2
  rw [View.read_writes_eq_canon _ _ _ (cover0_C_2 c i a4 h4 a5 h5 a7 h7 a8 h8 hc0 hc1 hc2 x0 x1 xs)]
  unfold kernelRun0_C
  dsimp only
  sl_unfold_words
  rw [View.canon_unit_zero hz4]
  unfold k0_pay3
  simp only [View.readAt_eq_ld, h4.read_unread, h5.read_unread, h8.read_unread, View.readCov_unit_zero (S := S1024x1408) _ hz2, View.ld_unit_zero (S := S1024x1024) hz2, View.ld_unit_zero (S := S1024x1408) hz2, View.ld_unit_zero (S := S1024x1408) hz2, shapeCast_self]
end body

variable (m : (ℓ : Loc nD τ sig) → Buf (Elt Ideal) ℓ) (c : Dev nD)

/-- What point `t` adds to the accumulator. -/
abbrev term (t : Fin cfg0.N) : FVec Ideal S1024x1408 .f32 := k0_pay1 (iblk m c 0 t) (iblk m c 1 t)

theorem acc0 (t : Fin cfg0.N) (h : t.val % 4 = 0) : (outsAt0 m c t.val t.isLt).2 = term m c t := by
  rw [outsAt0_A m c t h (by omega) (by omega)]
  dsimp only
  exact acc_first c _ _ _ _ _ _ _ _ _ _ _ _ _ _

theorem acc_step (n : ℕ) (hn : n + 1 < cfg0.N) (h0 : ¬(n + 1) % 4 = 0) (h3 : ¬(n + 1) % 4 = 3) :
    (outsAt0 m c (n + 1) hn).2 = addf (outsAt0 m c n (Nat.lt_of_succ_lt hn)).2 (term m c ⟨n + 1, hn⟩) := by
  rw [outsAt0_B m c ⟨n + 1, hn⟩ h0 (by show 1 ≤ (n + 1) % 4; omega) h3]
  dsimp only
  exact acc_next c _ _ _ _ _ _ _ _ _ _ _ _ _ _ _

theorem out_at (n : ℕ) (hn : n + 1 < cfg0.N) (h3 : (n + 1) % 4 = 3) :
    (outsAt0 m c (n + 1) hn).1 = k0_pay4 (addf (outsAt0 m c n (Nat.lt_of_succ_lt hn)).2 (term m c ⟨n + 1, hn⟩)) := by
  rw [outsAt0_C m c ⟨n + 1, hn⟩ (by show ¬(n + 1) % 4 = 0; omega) (by show 1 ≤ (n + 1) % 4; omega) h3]
  dsimp only
  exact out_last c _ _ _ _ _ _ _ _ _ _ _ _ _ _ _

/-- The point of shard `j`, tile `n` of the model's width and run `r` of the tokens. -/
def pt (j : Fin 4) (n : Fin 2) (r : Fin 4) : Fin cfg0.N := ⟨8 * j.val + 4 * n.val + r.val, lt_of_lt_of_eq (by omega) N_0.symm⟩

/-- What the last point of a run writes out: the four points' terms. -/
theorem out_block (j : Fin 4) (n : Fin 2) : (outsAt0 m c (8 * j.val + 4 * n.val + 2 + 1) (lt_of_lt_of_eq (by omega) N_0.symm)).1
    = k0_pay4 (addf (addf (addf (term m c (pt j n 0)) (term m c (pt j n 1))) (term m c (pt j n 2))) (term m c (pt j n 3))) := by
  rw [out_at m c (8 * j.val + 4 * n.val + 2) _ (by omega), acc_step m c (8 * j.val + 4 * n.val + 1) _ (by omega) (by omega), acc_step m c (8 * j.val + 4 * n.val) _ (by omega) (by omega)]
  rw [acc0 m c (pt j n 0) (by show (8 * j.val + 4 * n.val + 0) % 4 = 0; omega) |> fun e => (show (outsAt0 m c (8 * j.val + 4 * n.val) _).2 = _ from e)]
  rfl

theorem index_eq : ∀ t : Fin cfg0.N,
    (win0_0.index t (0 : Fin 2) = t.val % 4 ∧ win0_0.index t (1 : Fin 2) = t.val / 4 % 2)
    ∧ (win0_1.index t (0 : Fin 2) = t.val % 4 ∧ win0_1.index t (1 : Fin 2) = t.val / 8)
    ∧ (win0_2.index t (0 : Fin 4) = t.val / 8 ∧ win0_2.index t (1 : Fin 4) = 0 ∧ win0_2.index t (2 : Fin 4) = t.val / 4 % 2 ∧ win0_2.index t (3 : Fin 4) = 0) :=
  (by decide +kernel : ∀ t : Fin grid0.N, _)

variable (j : Fin 4) (n : Fin 2) (r : Fin 4) (k : Fin 1024) (a : Fin 1024) (b : Fin 1408)

theorem block0 : (iblk m c 0 (pt j n r) : FVec Ideal S1024x1024 .bf16) (ix2 k a)
    = (m ((c : Thread nD τ).loc main_arg0) : FVec Ideal S4096x2048 .bf16) (ix2 ⟨1024 * r.val + k.val, by omega⟩ ⟨1024 * n.val + a.val, by omega⟩) := by
  obtain ⟨⟨e0, e1⟩, -⟩ := index_eq (pt j n r)
  refine (?_ : _ = (V m c main_arg0 : FVec Ideal S4096x2048 .bf16) _).trans (congrFun (V_main_arg0 m c) _)
  show V m c main_arg0 (((cfg0.win 0).blk (pt j n r)).view.emb _) = _
  congr 1
  funext z; apply Fin.ext
  match z with
  | ⟨0, _⟩ => show win0_0.index (pt j n r) (0 : Fin 2) * 1024 + 1 * k.val = 1024 * r.val + k.val; rw [e0]; show (8 * j.val + 4 * n.val + r.val) % 4 * 1024 + _ = _; omega
  | ⟨1, _⟩ => show win0_0.index (pt j n r) (1 : Fin 2) * 1024 + 1 * a.val = 1024 * n.val + a.val; rw [e1]; show (8 * j.val + 4 * n.val + r.val) / 4 % 2 * 1024 + _ = _; omega

theorem block1 : (iblk m c 1 (pt j n r) : FVec Ideal S1024x1408 .bf16) (ix2 k b)
    = (m ((c : Thread nD τ).loc main_arg1) : FVec Ideal S4096x5632 .bf16) (ix2 ⟨1024 * r.val + k.val, by omega⟩ ⟨1408 * j.val + b.val, by omega⟩) := by
  obtain ⟨-, ⟨e0, e1⟩, -⟩ := index_eq (pt j n r)
  refine (?_ : _ = (V m c main_arg1 : FVec Ideal S4096x5632 .bf16) _).trans (congrFun (V_main_arg1 m c) _)
  show V m c main_arg1 (((cfg0.win 1).blk (pt j n r)).view.emb _) = _
  congr 1
  funext z; apply Fin.ext
  match z with
  | ⟨0, _⟩ => show win0_1.index (pt j n r) (0 : Fin 2) * 1024 + 1 * k.val = 1024 * r.val + k.val; rw [e0]; show (8 * j.val + 4 * n.val + r.val) % 4 * 1024 + _ = _; omega
  | ⟨1, _⟩ => show win0_1.index (pt j n r) (1 : Fin 2) * 1408 + 1 * b.val = 1408 * j.val + b.val; rw [e1]; show (8 * j.val + 4 * n.val + r.val) / 8 * 1408 + _ = _; omega

/-- The weight's gradient: `xᵀ · y`. -/
def dw (x : FVec Ideal S4096x2048 .bf16) (y : FVec Ideal S4096x5632 .bf16) (p : Fin 2048) (q : Fin 5632) : EReal :=
  ∑ k : Fin 4096, x (ix2 k p) * y (ix2 k q)

/-- The part of it one run of the tokens gives. -/
def part (x : FVec Ideal S4096x2048 .bf16) (y : FVec Ideal S4096x5632 .bf16) (p : Fin 2048) (q : Fin 5632) (r : Fin 4) : EReal :=
  ∑ k : Fin 1024, x (ix2 ⟨1024 * r.val + k.val, by omega⟩ p) * y (ix2 ⟨1024 * r.val + k.val, by omega⟩ q)

theorem dw_parts (x : FVec Ideal S4096x2048 .bf16) (y : FVec Ideal S4096x5632 .bf16) (p : Fin 2048) (q : Fin 5632) :
    dw x y p q = part x y p q 0 + part x y p q 1 + part x y p q 2 + part x y p q 3 := by
  unfold dw part
  rw [sum_four (n := 1024) (by norm_num)]
  rfl

/-- What a point adds, of the arguments. -/
theorem term_apply : term m c (pt j n r) (ix2 a b)
    = part (m ((c : Thread nD τ).loc main_arg0)) (m ((c : Thread nD τ).loc main_arg1)) ⟨1024 * n.val + a.val, by omega⟩ ⟨1408 * j.val + b.val, by omega⟩ r := by
  unfold term part
  pointwise [k0_pay1]
  simp only [block0 m c j n r _ a, block1 m c j n r _ b]

/-- What a run's last point writes out, of the arguments. -/
theorem out_apply : (outsAt0 m c (8 * j.val + 4 * n.val + 2 + 1) (lt_of_lt_of_eq (by omega) N_0.symm)).1 (ix4 0 0 a b)
    = dw (m ((c : Thread nD τ).loc main_arg0)) (m ((c : Thread nD τ).loc main_arg1)) ⟨1024 * n.val + a.val, by omega⟩ ⟨1408 * j.val + b.val, by omega⟩ := by
  rw [out_block, dw_parts, ← term_apply m c, ← term_apply m c, ← term_apply m c, ← term_apply m c]
  pointwise [k0_pay4]

/-- Two points that write out different runs write disjoint blocks. -/
theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne <| by
    obtain ⟨-, -, e0, -, e2, e3⟩ := index_eq t
    obtain ⟨-, -, f0, -, f2, f3⟩ := index_eq t'
    have g := (flush0_2 t).mp hf
    have g' := (flush0_2 t').mp hf'
    have h0 : win0_2.index t (0 : Fin 4) = win0_2.index t' (0 : Fin 4) := congrFun h 0
    have h2 : win0_2.index t (2 : Fin 4) = win0_2.index t' (2 : Fin 4) := congrFun h 2
    have h3 : win0_2.index t (3 : Fin 4) = win0_2.index t' (3 : Fin 4) := congrFun h 3
    exact Fin.ext (by omega)

/-- Where the written blocks lie: entry `(j, 0, …)` of the array. -/
theorem emb_eq : ((cfg0.win 2).blk (pt j n 3)).view.emb (ix4 0 0 a b) = (ix4 j 0 ⟨1024 * n.val + a.val, by omega⟩ b : S4x2x2048x1408.Idx) := by
  obtain ⟨-, -, e0, e1, e2, e3⟩ := index_eq (pt j n 3)
  funext z; apply Fin.ext
  match z with
  | ⟨0, _⟩ => show win0_2.index (pt j n 3) (0 : Fin 4) * 1 + 1 * 0 = j.val; rw [e0]; show (8 * j.val + 4 * n.val + 3) / 8 * 1 + _ = _; omega
  | ⟨1, _⟩ => show win0_2.index (pt j n 3) (1 : Fin 4) * 1 + 1 * 0 = 0; rw [e1]
  | ⟨2, _⟩ => show win0_2.index (pt j n 3) (2 : Fin 4) * 1024 + 1 * a.val = 1024 * n.val + a.val; rw [e2]; show (8 * j.val + 4 * n.val + 3) / 4 % 2 * 1024 + _ = _; omega
  | ⟨3, _⟩ => show win0_2.index (pt j n 3) (3 : Fin 4) * 1408 + 1 * b.val = b.val; rw [e3]; omega

/-- The first slab of the array after the launch: the gradient, shard by shard. -/
theorem slab0 : ((dats m 0 c).arrAt 2 cfg0.N : FVec Ideal S4x2x2048x1408 .bf16) (ix4 j 0 ⟨1024 * n.val + a.val, by omega⟩ b)
    = dw (m ((c : Thread nD τ).loc main_arg0)) (m ((c : Thread nD τ).loc main_arg1)) ⟨1024 * n.val + a.val, by omega⟩ ⟨1408 * j.val + b.val, by omega⟩ := by
  have hf : (cfg0.win 2).flush (pt j n 3) = true := (flush0_2 _).mpr (by show (8 * j.val + 4 * n.val + 3) % 4 = 3; omega)
  have h := congrFun ((dats m 0 c).read_blk_arrAt_eq_flushed 2 disjoint2 cfg0.N (pt j n 3) (pt j n 3).isLt hf) (ix4 0 0 a b)
  rw [← emb_eq j n a b]
  refine (show _ = _ from h).trans ?_
  rw [Value.flushed2]
  exact out_apply m c j n a b

/-- The second slab stays as it was given. -/
theorem slab1 (p : Fin 2048) (q : Fin 1408) : ((dats m 0 c).arrAt 2 cfg0.N : FVec Ideal S4x2x2048x1408 .bf16) (ix4 j 1 p q)
    = (m ((c : Thread nD τ).loc main_arg2) : FVec Ideal S4x2x2048x1408 .bf16) (ix4 j 1 p q) := by
  refine (Value.entry2 m c _ fun t _ hi => ?_).trans ?_
  · have h : (ix4 j 1 p q : S4x2x2048x1408.Idx) ∈ ((View.whole main_v0).slice (win0_2.rect t)).set := hi
    rw [View.set_slice_whole, Rect.mem_set_unit] at h
    have h1 : win0_2.index t (1 : Fin 4) * 1 ≤ 1 ∧ 1 < win0_2.index t (1 : Fin 4) * 1 + 1 := h 1
    obtain ⟨-, -, -, e1, -⟩ := index_eq t
    omega
  · rfl

end Cert.Proof.UpGrad

end
-- ==== Proof.UpGradEq.lean ====
/-
  The claims about the launch that computes the gate weights' gradient: its frames, and the equality of the stacked gradients it
  returns with the reference's, whatever the numbers.
-/
module

public import proofs.«01_k».proof.Defs
public import proofs.«01_k».proof.Proof.UpGrad
public import proofs.«01_k».proof.Proof.Gen.Kernel14.Frame
public import proofs.«01_k».proof.Proof.Gen.Reference14Ideal
public import proofs.«01_k».proof.Proof.Gen.Reference14Ideal.Run
public import Idealize.ShloMosaic.Lib.Quiescent

@[expose] public section

set_option maxRecDepth 16384

noncomputable section

namespace Cert.Proof.UpGrad

open Idealize.ShloMosaic Idealize.ShloMosaic.TcCoe Idealize.SL.Sem

section
open Cert.Reference14Ideal Cert.Reference14Ideal.Gen

/-- The reference's gradient, before the shards are stacked. -/
theorem ref_dw (x0 : FVec Ideal S4096x2048 .bf16) (x1 : FVec Ideal S4096x5632 .bf16) (j : Fin 4) (p : Fin 2048) (q : Fin 1408) :
    (truncf .bf16 (transpose S4x2048x1408 [1, 0, 2] (shapeCast S2048x4x1408 (transpose S2048x5632 [1, 0] (Host.dotGeneral dot_S4096x5632_S4096x2048_S5632x2048_0_0_1_1_n_n none (extf .f32 x1 bitsLt_bf16_f32) (extf .f32 x0 bitsLt_bf16_f32)) transposes_S5632x2048_S2048x5632_1_0) shapeCasts_S2048x5632_S2048x4x1408) transposes_S2048x4x1408_S4x2048x1408_1_0_2) bitsLt_bf16_f32 : FVec Ideal S4x2048x1408 .bf16) (ix3 j p q)
      = dw x0 x1 p ⟨j.val * 1408 + q.val, by omega⟩ := by
  pointwise
  unfold dw
  exact Finset.sum_congr rfl fun k _ => by rw [mul_comm]

/-- The two slabs, stacked: an entry of the first. -/
theorem stack0 (x y : FVec Ideal S4x2048x1408 .bf16) (j : Fin 4) (p : Fin 2048) (q : Fin 1408) :
    (concatenate S4x2x2048x1408 1 [⟨S4x1x2048x1408, (broadcastInDim S4x1x2048x1408 ![0, 2, 3] bcast_S4x2048x1408_S4x1x2048x1408_0_2_3 x)⟩, ⟨S4x1x2048x1408, (broadcastInDim S4x1x2048x1408 ![0, 2, 3] bcast_S4x2048x1408_S4x1x2048x1408_0_2_3 y)⟩] concatenates_S4x1x2048x1408_S4x1x2048x1408_S4x2x2048x1408_d1 : FVec Ideal S4x2x2048x1408 .bf16) (ix4 j 0 p q)
      = x (ix3 j p q) := by
  pointwise

/-- And of the second. -/
theorem stack1 (x y : FVec Ideal S4x2048x1408 .bf16) (j : Fin 4) (p : Fin 2048) (q : Fin 1408) :
    (concatenate S4x2x2048x1408 1 [⟨S4x1x2048x1408, (broadcastInDim S4x1x2048x1408 ![0, 2, 3] bcast_S4x2048x1408_S4x1x2048x1408_0_2_3 x)⟩, ⟨S4x1x2048x1408, (broadcastInDim S4x1x2048x1408 ![0, 2, 3] bcast_S4x2048x1408_S4x1x2048x1408_0_2_3 y)⟩] concatenates_S4x1x2048x1408_S4x1x2048x1408_S4x2x2048x1408_d1 : FVec Ideal S4x2x2048x1408 .bf16) (ix4 j 1 p q)
      = y (ix3 j p q) := by
  pointwise

/-- The second slab of what the reference was given. -/
theorem kept (x : FVec Ideal S4x2x2048x1408 .bf16) (j : Fin 4) (p : Fin 2048) (q : Fin 1408) :
    (shapeCast S4x2048x1408 (extractStridedSlice S4x1x2048x1408 ![0, 1, 0, 0] x slices_S4x2x2048x1408_S4x1x2048x1408_0_1_0_0) shapeCasts_S4x1x2048x1408_S4x2048x1408 : FVec Ideal S4x2048x1408 .bf16) (ix3 j p q)
      = x (ix4 j 1 p q) := by
  pointwise

end

/-- The kernel's frame. -/
theorem frame_kernel : (haveI := Cert.Kernel14.Gen.facts; Cert.quiescent_Kernel14) := fun m ρ _ => Cert.Kernel14.Gen.frame m ρ

/-- Its idealization's. -/
theorem frame_ideal : (haveI := Cert.Kernel14Ideal.Gen.facts; Cert.quiescent_Kernel14Ideal) := fun m ρ _ => Cert.Kernel14Ideal.Gen.frame m ρ

/-- The reference's. -/
theorem frame_reference : (haveI := Cert.Reference14Ideal.Gen.facts; Cert.quiescent_Reference14Ideal) := fun m ρ _ =>
  (θ_run (Cert.Reference14Ideal.defs (F := Ideal)) _ _).mono (fun _ h => ⟨fun c => (h c).2, sem_eq_zero_of_no_sems rfl _⟩)
    (Cert.Reference14Ideal.Value.run (F := Ideal) m ρ)

/-- The kernel and the reference compute the same stack of gradients. -/
theorem algebraic : (haveI := Cert.Kernel14Ideal.Gen.facts; haveI := Cert.Reference14Ideal.Gen.facts
    Cert.algebraic_Kernel14Ideal_Reference14Ideal) := by
  intro m ρ m' ρ' _ hm
  refine ⟨_, Cert.Kernel14Ideal.Value.run_blocks m ρ, ?_⟩
  refine (θ_run (Cert.Reference14Ideal.defs (F := Ideal)) _ _).mono (fun r h c => ?_) (Cert.Reference14Ideal.Value.run (F := Ideal) m' ρ')
  obtain ⟨r1, ra⟩ := h c
  obtain ⟨h0, h1, h2⟩ := hm c
  refine ⟨r1.trans ?_, ra⟩
  rw [h0, h1, h2]
  funext i
  rw [eq_ix4 i]
  obtain ⟨j, hj⟩ : ∃ j : Fin 4, j = i 0 := ⟨_, rfl⟩
  obtain ⟨s, hs⟩ : ∃ s : Fin 2, s = i 1 := ⟨_, rfl⟩
  obtain ⟨p, hp⟩ : ∃ p : Fin 2048, p = i 2 := ⟨_, rfl⟩
  obtain ⟨q, hq⟩ : ∃ q : Fin 1408, q = i 3 := ⟨_, rfl⟩
  rw [← hj, ← hs, ← hp, ← hq]
  match s with
  | ⟨0, _⟩ =>
    have h := slab0 m c j ⟨p.val / 1024, by omega⟩ ⟨p.val % 1024, by omega⟩ q
    refine (stack0 _ _ j p q).trans ((ref_dw _ _ j p q).trans (Eq.trans ?_ (h.symm.trans ?_)))
    · exact congrArg₂ (dw _ _) (Fin.ext (by show p.val = 1024 * (p.val / 1024) + p.val % 1024; omega))
        (Fin.ext (by show j.val * 1408 + q.val = 1408 * j.val + q.val; omega))
    · exact congrArg (fun z => (Cert.Kernel14Ideal.Gen.dats m 0 c).arrAt 2 Cert.Kernel14Ideal.cfg0.N (ix4 j 0 z q))
        (Fin.ext (by show 1024 * (p.val / 1024) + p.val % 1024 = p.val; omega))
  | ⟨1, _⟩ => exact (stack1 _ _ j p q).trans ((kept _ j p q).trans (slab1 m c j p q).symm)

end Cert.Proof.UpGrad

end
-- ==== Proof.DownBwdFirst.lean ====
/-
  What the launch of the feed-forward block's backward call through the down product leaves in memory: each entry of the gradients
  of the gate's and the up product's results as a formula of the arguments.
-/
module

public import proofs.«01_k».proof.Proof.DownBwd
public import proofs.«01_k».proof.Proof.Gen.Kernel15Ideal.Value
public import Idealize.ShloMosaic.Lib.Pipeline.ValueKit.Basic
public import Idealize.ShloMosaic.Lib.Pointwise

@[expose] public section

set_option maxRecDepth 16384

noncomputable section

namespace Cert.Proof.DownBwdFirst

open Cert.Proof.DownBwd (sg)
open Cert.Kernel15Ideal Cert.Kernel15Ideal.Gen
open Idealize.ShloMosaic Idealize.ShloMosaic.TcCoe
open Idealize.SL Idealize.SL.RA

variable (m : (ℓ : Loc nD τ sig) → Buf (Elt Ideal) ℓ)

/-- The gradient of the product's left factor: `df · wdᵀ`, of the first block's weights. -/
def ds (df : FVec Ideal S4096x2048 .bf16) (wd : FVec Ideal S2x5632x2048 .f32) (p : Fin 4096) (q : Fin 5632) : EReal :=
  ∑ x : Fin 2048, df (ix2 p x) * wd (ix3 0 q x)

/-- The point whose blocks hold entry `(p, q)`. -/
def pt (p : Fin 4096) (q : Fin 5632) : Fin cfg0.N := ⟨8 * (q.val / 1408) + p.val / 512, lt_of_lt_of_eq (by omega) N_0.symm⟩

theorem index_eq : ∀ t : Fin cfg0.N,
    (win0_0.index t (0 : Fin 2) = t.val % 8 ∧ win0_0.index t (1 : Fin 2) = 0)
    ∧ (win0_1.index t (0 : Fin 4) = t.val / 8 ∧ win0_1.index t (1 : Fin 4) = 0 ∧ win0_1.index t (2 : Fin 4) = 0 ∧ win0_1.index t (3 : Fin 4) = 0)
    ∧ (win0_2.index t (0 : Fin 2) = t.val % 8 ∧ win0_2.index t (1 : Fin 2) = t.val / 8)
    ∧ (win0_3.index t (0 : Fin 2) = t.val % 8 ∧ win0_3.index t (1 : Fin 2) = t.val / 8)
    ∧ (win0_4.index t (0 : Fin 2) = t.val % 8 ∧ win0_4.index t (1 : Fin 2) = t.val / 8)
    ∧ (win0_5.index t (0 : Fin 2) = t.val % 8 ∧ win0_5.index t (1 : Fin 2) = t.val / 8) :=
  (by decide +kernel : ∀ t : Fin grid0.N, _)

/-- The down weights as the launch finds them: four shards of rows. -/
theorem shards (c : Dev nD) (j : Fin 4) (r : Fin 2) (q : Fin 1408) (x : Fin 2048) :
    (V (F := Ideal) m c main_v2 : FVec Ideal S4x2x1408x2048 .bf16) (ix4 j r q x)
      = (m ((c : Thread nD τ).loc main_arg1) : FVec Ideal S2x5632x2048 .f32) (ix3 r ⟨1408 * j.val + q.val, by omega⟩ x) := by
  have e : V (F := Ideal) m c main_v2 = transpose S4x2x1408x2048 [1, 0, 2, 3] (shapeCast S2x4x1408x2048
      (truncf .bf16 (m ((c : Thread nD τ).loc main_arg1)) bitsLt_bf16_f32 : FVec Ideal S2x5632x2048 .bf16)
      shapeCasts_S2x5632x2048_S2x4x1408x2048) transposes_S2x4x1408x2048_S4x2x1408x2048_1_0_2_3 := rfl
  rw [e]
  pointwise
  congr 2
  exact Fin.ext (by show j.val * 1408 + q.val = 1408 * j.val + q.val; omega)

variable (c : Dev nD) (p : Fin 4096) (q : Fin 5632)

theorem block0 (x : Fin 2048) : (iblk m c 0 (pt p q) : FVec Ideal S512x2048 .bf16) (ix2 ⟨p.val % 512, by omega⟩ x)
    = (m ((c : Thread nD τ).loc main_arg0) : FVec Ideal S4096x2048 .bf16) (ix2 p x) := by
  obtain ⟨⟨e0, e1⟩, -⟩ := index_eq (pt p q)
  refine (?_ : _ = (V m c main_arg0 : FVec Ideal S4096x2048 .bf16) _).trans (congrFun (V_main_arg0 m c) _)
  show V m c main_arg0 (((cfg0.win 0).blk (pt p q)).view.emb _) = _
  congr 1
  funext a; apply Fin.ext
  match a with
  | ⟨0, _⟩ => show win0_0.index (pt p q) (0 : Fin 2) * 512 + 1 * (p.val % 512) = p.val; rw [e0]; show (8 * (q.val / 1408) + p.val / 512) % 8 * 512 + _ = _; omega
  | ⟨1, _⟩ => show win0_0.index (pt p q) (1 : Fin 2) * 2048 + 1 * x.val = x.val; rw [e1]; omega

theorem block1 (x : Fin 2048) : (iblk m c 1 (pt p q) : FVec Ideal S1x1x1408x2048 .bf16) (ix4 0 0 ⟨q.val % 1408, by omega⟩ x)
    = (m ((c : Thread nD τ).loc main_arg1) : FVec Ideal S2x5632x2048 .f32) (ix3 0 q x) := by
  obtain ⟨-, ⟨e0, e1, e2, e3⟩, -⟩ := index_eq (pt p q)
  refine (?_ : _ = (V m c main_v2 : FVec Ideal S4x2x1408x2048 .bf16) (ix4 ⟨q.val / 1408, by omega⟩ 0 ⟨q.val % 1408, by omega⟩ x)).trans
    ((shards m c _ _ _ _).trans (congrArg _ ?_))
  · show V m c main_v2 (((cfg0.win 1).blk (pt p q)).view.emb _) = _
    congr 1
    funext a; apply Fin.ext
    match a with
    | ⟨0, _⟩ => show win0_1.index (pt p q) (0 : Fin 4) * 1 + 1 * 0 = q.val / 1408; rw [e0]; show (8 * (q.val / 1408) + p.val / 512) / 8 * 1 + _ = _; omega
    | ⟨1, _⟩ => show win0_1.index (pt p q) (1 : Fin 4) * 1 + 1 * 0 = 0; rw [e1]
    | ⟨2, _⟩ => show win0_1.index (pt p q) (2 : Fin 4) * 1408 + 1 * (q.val % 1408) = q.val % 1408; rw [e2]; omega
    | ⟨3, _⟩ => show win0_1.index (pt p q) (3 : Fin 4) * 2048 + 1 * x.val = x.val; rw [e3]; omega
  · have h : (⟨1408 * (q.val / 1408) + q.val % 1408, by omega⟩ : Fin 5632) = q := Fin.ext (by show 1408 * (q.val / 1408) + q.val % 1408 = q.val; omega)
    exact congrArg (fun z => ix3 0 z x) h

theorem block2 : (iblk m c 2 (pt p q) : FVec Ideal S512x1408 .bf16) (ix2 ⟨p.val % 512, by omega⟩ ⟨q.val % 1408, by omega⟩)
    = (m ((c : Thread nD τ).loc main_arg2) : FVec Ideal S4096x5632 .bf16) (ix2 p q) := by
  obtain ⟨-, -, ⟨e0, e1⟩, -⟩ := index_eq (pt p q)
  refine (?_ : _ = (V m c main_arg2 : FVec Ideal S4096x5632 .bf16) _).trans (congrFun (V_main_arg2 m c) _)
  show V m c main_arg2 (((cfg0.win 2).blk (pt p q)).view.emb _) = _
  congr 1
  funext a; apply Fin.ext
  match a with
  | ⟨0, _⟩ => show win0_2.index (pt p q) (0 : Fin 2) * 512 + 1 * (p.val % 512) = p.val; rw [e0]; show (8 * (q.val / 1408) + p.val / 512) % 8 * 512 + _ = _; omega
  | ⟨1, _⟩ => show win0_2.index (pt p q) (1 : Fin 2) * 1408 + 1 * (q.val % 1408) = q.val; rw [e1]; show (8 * (q.val / 1408) + p.val / 512) / 8 * 1408 + _ = _; omega

theorem block3 : (iblk m c 3 (pt p q) : FVec Ideal S512x1408 .bf16) (ix2 ⟨p.val % 512, by omega⟩ ⟨q.val % 1408, by omega⟩)
    = (m ((c : Thread nD τ).loc main_arg3) : FVec Ideal S4096x5632 .bf16) (ix2 p q) := by
  obtain ⟨-, -, -, ⟨e0, e1⟩, -⟩ := index_eq (pt p q)
  refine (?_ : _ = (V m c main_arg3 : FVec Ideal S4096x5632 .bf16) _).trans (congrFun (V_main_arg3 m c) _)
  show V m c main_arg3 (((cfg0.win 3).blk (pt p q)).view.emb _) = _
  congr 1
  funext a; apply Fin.ext
  match a with
  | ⟨0, _⟩ => show win0_3.index (pt p q) (0 : Fin 2) * 512 + 1 * (p.val % 512) = p.val; rw [e0]; show (8 * (q.val / 1408) + p.val / 512) % 8 * 512 + _ = _; omega
  | ⟨1, _⟩ => show win0_3.index (pt p q) (1 : Fin 2) * 1408 + 1 * (q.val % 1408) = q.val; rw [e1]; show (8 * (q.val / 1408) + p.val / 512) / 8 * 1408 + _ = _; omega

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The gradient of the gate product's result, after the launch. -/
theorem da : ((dats m 0 c).arrAt 4 cfg0.N : FVec Ideal S4096x5632 .bf16) (ix2 p q)
    = let a : EReal := (m ((c : Thread nD τ).loc main_arg2) : FVec Ideal S4096x5632 .bf16) (ix2 p q)
      ds (m ((c : Thread nD τ).loc main_arg0)) (m ((c : Thread nD τ).loc main_arg1)) p q
        * (m ((c : Thread nD τ).loc main_arg3) : FVec Ideal S4096x5632 .bf16) (ix2 p q) * sg a * (1 + a * (1 - sg a)) := by
  obtain ⟨-, -, -, -, ⟨e0, e1⟩, -⟩ := index_eq (pt p q)
  have h := congrFun (Value.blocks4 m c (pt p q) (flush0_4 _)) (ix2 ⟨p.val % 512, by omega⟩ ⟨q.val % 1408, by omega⟩)
  refine (Eq.trans ?_ h).trans ?_
  · show _ = (dats m 0 c).arrAt 4 cfg0.N (((cfg0.win 4).blk (pt p q)).view.emb _)
    congr 1
    funext a; apply Fin.ext
    match a with
    | ⟨0, _⟩ => show p.val = win0_4.index (pt p q) (0 : Fin 2) * 512 + 1 * (p.val % 512); rw [e0]; show _ = (8 * (q.val / 1408) + p.val / 512) % 8 * 512 + _; omega
    | ⟨1, _⟩ => show q.val = win0_4.index (pt p q) (1 : Fin 2) * 1408 + 1 * (q.val % 1408); rw [e1]; show _ = (8 * (q.val / 1408) + p.val / 512) / 8 * 1408 + _; omega
  · rw [Value.flushed4]
    show out0_4 (iblk m c 0 (pt p q)) (iblk m c 1 (pt p q)) (iblk m c 2 (pt p q)) (iblk m c 3 (pt p q)) (ix2 ⟨p.val % 512, by omega⟩ ⟨q.val % 1408, by omega⟩) = _
    unfold out0_4
    rw [View.canon_unit_zero hz2, View.ld_unit_zero hz2, View.ld_unit_zero hz4, View.ld_unit_zero hz2, View.ld_unit_zero hz2]
    pointwise [k0_pay4, k0_pay3, k0_pay2, k0_pay1]
    try dsimp only
    rw [← block2 m c p q, ← block3 m c p q]
    unfold ds sg
    simp only [← block0 m c p q, ← block1 m c p q]

/-- The gradient of the up product's result, after the launch. -/
theorem db : ((dats m 0 c).arrAt 5 cfg0.N : FVec Ideal S4096x5632 .bf16) (ix2 p q)
    = let a : EReal := (m ((c : Thread nD τ).loc main_arg2) : FVec Ideal S4096x5632 .bf16) (ix2 p q)
      ds (m ((c : Thread nD τ).loc main_arg0)) (m ((c : Thread nD τ).loc main_arg1)) p q * a * sg a := by
  obtain ⟨-, -, -, -, -, e0, e1⟩ := index_eq (pt p q)
  have h := congrFun (Value.blocks5 m c (pt p q) (flush0_5 _)) (ix2 ⟨p.val % 512, by omega⟩ ⟨q.val % 1408, by omega⟩)
  refine (Eq.trans ?_ h).trans ?_
  · show _ = (dats m 0 c).arrAt 5 cfg0.N (((cfg0.win 5).blk (pt p q)).view.emb _)
    congr 1
    funext a; apply Fin.ext
    match a with
    | ⟨0, _⟩ => show p.val = win0_5.index (pt p q) (0 : Fin 2) * 512 + 1 * (p.val % 512); rw [e0]; show _ = (8 * (q.val / 1408) + p.val / 512) % 8 * 512 + _; omega
    | ⟨1, _⟩ => show q.val = win0_5.index (pt p q) (1 : Fin 2) * 1408 + 1 * (q.val % 1408); rw [e1]; show _ = (8 * (q.val / 1408) + p.val / 512) / 8 * 1408 + _; omega
  · rw [Value.flushed5]
    show out0_5 (iblk m c 0 (pt p q)) (iblk m c 1 (pt p q)) (iblk m c 2 (pt p q)) (iblk m c 3 (pt p q)) (ix2 ⟨p.val % 512, by omega⟩ ⟨q.val % 1408, by omega⟩) = _
    unfold out0_5
    rw [View.canon_unit_zero hz2, View.ld_unit_zero hz2, View.ld_unit_zero hz4, View.ld_unit_zero hz2]
    pointwise [k0_pay5, k0_pay3, k0_pay2, k0_pay1]
    try dsimp only
    rw [← block2 m c p q]
    unfold ds sg
    simp only [← block0 m c p q, ← block1 m c p q]

end Cert.Proof.DownBwdFirst
-- ==== Proof.DownBwdFirstEq.lean ====
/-
  The claims about the backward call through the feed-forward block's down product: its frames, and the equality of its two gradients
  with those of the reference, whose derivative of the gate is `σ + a·σ·(1−σ)` where the kernel's is `σ·(1 + a·(1−σ))`.
-/
module

public import proofs.«01_k».proof.Defs
public import proofs.«01_k».proof.Proof.DownBwdFirst
public import proofs.«01_k».proof.Proof.DownBwdEq
public import proofs.«01_k».proof.Proof.Gen.Kernel15.Frame
public import proofs.«01_k».proof.Proof.Gen.Reference15Ideal
public import proofs.«01_k».proof.Proof.Gen.Reference15Ideal.Run
public import proofs.«01_k».proof.Proof.Gen.Pre_finite
public import Idealize.ShloMosaic.Lib.ReduceAll
public import Idealize.ShloMosaic.Lib.Quiescent

@[expose] public section

set_option maxRecDepth 16384

noncomputable section

namespace Cert.Proof.DownBwdFirst

open Cert.Proof.DownBwd (sg real_sum gate finite_reads)
open Idealize.ShloMosaic Idealize.ShloMosaic.TcCoe Idealize.SL.Sem

theorem ds_real {df : FVec Ideal Cert.Kernel15Ideal.S4096x2048 .bf16} {wd : FVec Ideal Cert.Kernel15Ideal.S2x5632x2048 .f32}
    (h0 : ∀ i, ∃ r : ℝ, df i = r) (h1 : ∀ i, ∃ r : ℝ, wd i = r) (p : Fin 4096) (q : Fin 5632) : ∃ r : ℝ, ds df wd p q = r :=
  real_sum _ _ (fun _ => h0 _) fun _ => h1 _

section
open Cert.Reference15Ideal Cert.Reference15Ideal.Gen

/-- The reference's gradient of the gate product's result, at an index. -/
theorem ref_da (x0 : FVec Ideal S4096x2048 .bf16) (x1 : FVec Ideal S2x5632x2048 .f32) (x2 x3 : FVec Ideal S4096x5632 .bf16)
    (p : Fin 4096) (q : Fin 5632) :
    (truncf .bf16 (addf (mulf (mulf (Host.dotGeneral dot_S4096x2048_S5632x2048_S4096x5632_1_1_0_0_n_n none (extf .f32 x0 bitsLt_bf16_f32) (shapeCast _ (extractStridedSlice S1x5632x2048 ![0, 0, 0] x1 slices_S2x5632x2048_S1x5632x2048_0_0_0) shapeCasts_S1x5632x2048_S5632x2048)) (extf .f32 x3 bitsLt_bf16_f32)) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 x2 bitsLt_bf16_f32)))))) (mulf (mulf (extf .f32 x2 bitsLt_bf16_f32) (mulf (Host.dotGeneral dot_S4096x2048_S5632x2048_S4096x5632_1_1_0_0_n_n none (extf .f32 x0 bitsLt_bf16_f32) (shapeCast _ (extractStridedSlice S1x5632x2048 ![0, 0, 0] x1 slices_S2x5632x2048_S1x5632x2048_0_0_0) shapeCasts_S1x5632x2048_S5632x2048)) (extf .f32 x3 bitsLt_bf16_f32))) (mulf (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 x2 bitsLt_bf16_f32))))) (subf (broadcastInDim S4096x5632 ![] bcast_S_S4096x5632 (constant S_ .f32 0x3F800000#32)) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 x2 bitsLt_bf16_f32))))))))) bitsLt_bf16_f32 : FVec Ideal S4096x5632 .bf16) (ix2 p q)
      = ds x0 x1 p q * x3 (ix2 p q) * sg (x2 (ix2 p q)) + x2 (ix2 p q) * (ds x0 x1 p q * x3 (ix2 p q)) * (sg (x2 (ix2 p q)) * (1 - sg (x2 (ix2 p q)))) := by
  pointwise
  simp only [ds, sg, zero_sub]

/-- The reference's gradient of the up product's result, at an index. -/
theorem ref_db (x0 : FVec Ideal S4096x2048 .bf16) (x1 : FVec Ideal S2x5632x2048 .f32) (x2 : FVec Ideal S4096x5632 .bf16)
    (p : Fin 4096) (q : Fin 5632) :
    (truncf .bf16 (mulf (mulf (extf .f32 x2 bitsLt_bf16_f32) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 x2 bitsLt_bf16_f32)))))) (Host.dotGeneral dot_S4096x2048_S5632x2048_S4096x5632_1_1_0_0_n_n none (extf .f32 x0 bitsLt_bf16_f32) (shapeCast _ (extractStridedSlice S1x5632x2048 ![0, 0, 0] x1 slices_S2x5632x2048_S1x5632x2048_0_0_0) shapeCasts_S1x5632x2048_S5632x2048))) bitsLt_bf16_f32 : FVec Ideal S4096x5632 .bf16) (ix2 p q)
      = x2 (ix2 p q) * sg (x2 (ix2 p q)) * ds x0 x1 p q := by
  pointwise
  simp only [ds, sg, zero_sub]

end

/-- The kernel's frame. -/
theorem frame_kernel : (haveI := Cert.Kernel15.Gen.facts; Cert.quiescent_Kernel15) := fun m ρ _ => Cert.Kernel15.Gen.frame m ρ

/-- Its idealization's. -/
theorem frame_ideal : (haveI := Cert.Kernel15Ideal.Gen.facts; Cert.quiescent_Kernel15Ideal) := fun m ρ _ => Cert.Kernel15Ideal.Gen.frame m ρ

/-- The reference's. -/
theorem frame_reference : (haveI := Cert.Reference15Ideal.Gen.facts; Cert.quiescent_Reference15Ideal) := fun m ρ _ =>
  (θ_run (Cert.Reference15Ideal.defs (F := Ideal)) _ _).mono (fun _ h => ⟨fun c => (h c).2.2, sem_eq_zero_of_no_sems rfl _⟩)
    (Cert.Reference15Ideal.Value.run (F := Ideal) m ρ)

/-- The idealization's frame holds in particular of the arguments the equality speaks of. -/
theorem frame_ideal_finite : (haveI := Cert.Kernel15Ideal.Gen.facts; haveI := Cert.Pre_finite.Gen.facts; Cert.quiescent_Kernel15Ideal_pre_finite) :=
  fun m ρ _ => Cert.Kernel15Ideal.Gen.frame m ρ

/-- And the reference's. -/
theorem frame_reference_finite : (haveI := Cert.Reference15Ideal.Gen.facts; haveI := Cert.Pre_finite.Gen.facts
    Cert.quiescent_Reference15Ideal_pre_finite) := fun m ρ _ =>
  (θ_run (Cert.Reference15Ideal.defs (F := Ideal)) _ _).mono (fun _ h => ⟨fun c => (h c).2.2, sem_eq_zero_of_no_sems rfl _⟩)
    (Cert.Reference15Ideal.Value.run (F := Ideal) m ρ)

set_option maxHeartbeats 1000000 in
/-- The kernel and the reference compute the same two gradients. -/
theorem algebraic : (haveI := Cert.Kernel15Ideal.Gen.facts; haveI := Cert.Reference15Ideal.Gen.facts; haveI := Cert.Pre_finite.Gen.facts
    Cert.algebraic_Kernel15Ideal_Reference15Ideal_pre_finite) := by
  intro m ρ m' ρ' hp hm
  refine ⟨_, _, Cert.Kernel15Ideal.Value.run_blocks m ρ, ?_⟩
  refine (θ_run (Cert.Reference15Ideal.defs (F := Ideal)) _ _).mono (fun r h c => ?_) (Cert.Reference15Ideal.Value.run (F := Ideal) m' ρ')
  obtain ⟨r1, r2, ra⟩ := h c
  obtain ⟨h0, h1, h2, h3⟩ := hm c
  obtain ⟨f0, f1, f3⟩ := finite_reads _ _ _ _ (hp c)
  refine ⟨r1.trans ?_, r2.trans ?_, ra⟩
  · rw [h0, h1, h2, h3]
    funext j
    rw [← ix2_eta j]
    generalize j 0 = p, j 1 = q
    refine (ref_da _ _ _ _ p q).trans (Eq.trans ?_ (da m c p q).symm)
    obtain ⟨x, hx⟩ := ds_real f0 f1 p q
    obtain ⟨b, hb⟩ := f3 (ix2 p q)
    dsimp only
    rw [hx, hb, ← EReal.coe_mul]
    exact (gate _ _).symm
  · rw [h0, h1, h2]
    funext j
    rw [← ix2_eta j]
    generalize j 0 = p, j 1 = q
    refine (ref_db _ _ _ p q).trans (Eq.trans ?_ (db m c p q).symm)
    rw [mul_comm, ← mul_assoc]

end Cert.Proof.DownBwdFirst

end
-- ==== Proof.GateupBwdFirst.lean ====
/-
  What the launch of the feed-forward block's backward call through the gate and the up product leaves in memory: each entry of the
  gradient of the block's input as two sums of products of the arguments, added four column shards after one another.
-/
module

public import proofs.«01_k».proof.Proof.Gen.Kernel16Ideal.Value
public import Idealize.ShloMosaic.Lib.Pipeline.ValueKit.Basic
public import Idealize.ShloMosaic.Lib.Pointwise
public import proofs.«01_k».proof.Proof.SumFour

@[expose] public section

set_option maxRecDepth 16384

noncomputable section

namespace Cert.Proof.GateupBwdFirst

open Cert.Kernel16Ideal Cert.Kernel16Ideal.Gen
open Idealize.ShloMosaic Idealize.ShloMosaic.TcCoe
open Idealize.SL Idealize.SL.RA

theorem hz2 : (![0, 0] : Fin 2 → Nat) = fun _ => 0 := funext fun a => by fin_cases a <;> rfl
theorem hz4 : (![0, 0, 0, 0] : Fin 4 → Nat) = fun _ => 0 := funext fun a => by fin_cases a <;> rfl

section body
variable (c : Dev nD) (i : grid0.Coords) (a2 : Memref sig .tc .vmem S512x1408 .bf16) (h2 : a2.IsWhole)
  (a3 : Memref sig .tc .vmem S1x1x2048x1408 .bf16) (h3 : a3.IsWhole) (a4 : Memref sig .tc .vmem S512x1408 .bf16) (h4 : a4.IsWhole)
  (a5 : Memref sig .tc .vmem S1x1x2048x1408 .bf16) (h5 : a5.IsWhole) (a6 : Memref sig .tc .vmem S512x2048 .f32) (h6 : a6.IsWhole)
  (a7 : Memref sig .tc .vmem S512x2048 .f32) (h7 : a7.IsWhole)
  (x0 : Vec Ideal S512x1408 .bf16) (x1 : Vec Ideal S1x1x2048x1408 .bf16) (x2 : Vec Ideal S512x1408 .bf16) (x3 : Vec Ideal S1x1x2048x1408 .bf16)
  (xs : Vec Ideal S512x2048 .f32)

/-- The first of a run of four points leaves the two products' sum in the accumulator. -/
theorem acc_first (hc0 hc1 hc2) : sout0_A_0 c i a2 h2 a3 h3 a4 h4 a5 h5 a6 h6 a7 h7 hc0 hc1 hc2 x0 x1 x2 x3 = k0_pay1 x0 x1 x2 x3 := by
  unfold sout0_A_0
  rw [View.read_writes_eq_canon _ _ _ (scover0_A_0 c i a2 h2 a3 h3 a4 h4 a5 h5 a6 h6 a7 h7 hc0 hc1 hc2 x0 x1 x2 x3)]
  unfold kernelRun0_A
  dsimp only
  rw [View.canon_unit_zero hz2]
  unfold k0_pay2
  simp only [View.readAt_eq_ld, h2.read_unread, h3.read_unread, h4.read_unread, h5.read_unread, View.ld_unit_zero (S := S512x1408) hz2, View.ld_unit_zero (S := S1x1x2048x1408) hz4, View.ld_unit_zero (S := S512x2048) hz2, shapeCast_self]

/-- A later one adds it. -/
theorem acc_next (hc0 hc1 hc2) : sout0_B_0 c i a2 h2 a3 h3 a4 h4 a5 h5 a6 h6 a7 h7 hc0 hc1 hc2 x0 x1 x2 x3 xs = addf xs (k0_pay1 x0 x1 x2 x3) := by
  unfold sout0_B_0
  rw [View.read_writes_eq_canon _ _ _ (scover0_B_0 c i a2 h2 a3 h3 a4 h4 a5 h5 a6 h6 a7 h7 hc0 hc1 hc2 x0 x1 x2 x3 xs)]
  unfold kernelRun0_B
  dsimp only
  rw [View.canon_unit_zero hz2]
  unfold k0_pay3
  simp only [View.readAt_eq_ld, h2.read_unread, h3.read_unread, h4.read_unread, h5.read_unread, h7.read_unread, View.ld_unit_zero (S := S512x1408) hz2, View.ld_unit_zero (S := S1x1x2048x1408) hz4, View.ld_unit_zero (S := S512x2048) hz2, shapeCast_self]

/-- The last one writes the accumulated sum out. -/
theorem out_last (hc0 hc1 hc2) : out0_C_4 c i a2 h2 a3 h3 a4 h4 a5 h5 a6 h6 a7 h7 hc0 hc1 hc2 x0 x1 x2 x3 xs = addf xs (k0_pay1 x0 x1 x2 x3) := by
  unfold out0_C_4
  rw [View.read_writes_eq_canon _ _ _ (cover0_C_4 c i a2 h2 a3 h3 a4 h4 a5 h5 a6 h6 a7 h7 hc0 hc1 hc2 x0 x1 x2 x3 xs)]
  unfold kernelRun0_C
  dsimp only
  sl_unfold_words
  rw [View.canon_unit_zero hz2]
  unfold k0_pay3
  simp only [View.readAt_eq_ld, h2.read_unread, h3.read_unread, h4.read_unread, h5.read_unread, h7.read_unread, View.readCov_unit_zero (S := S512x2048) _ hz2, View.ld_unit_zero (S := S512x1408) hz2, View.ld_unit_zero (S := S1x1x2048x1408) hz4, View.ld_unit_zero (S := S512x2048) hz2, shapeCast_self]
end body

variable (m : (ℓ : Loc nD τ sig) → Buf (Elt Ideal) ℓ) (c : Dev nD)

/-- What point `t` adds to the accumulator. -/
abbrev term (t : Fin cfg0.N) : FVec Ideal S512x2048 .f32 := k0_pay1 (iblk m c 0 t) (iblk m c 1 t) (iblk m c 2 t) (iblk m c 3 t)

theorem acc0 (t : Fin cfg0.N) (h : t.val % 4 = 0) : (outsAt0 m c t.val t.isLt).2 = term m c t := by
  rw [outsAt0_A m c t h (by omega) (by omega)]
  dsimp only
  exact acc_first c _ _ _ _ _ _ _ _ _ _ _ _ _ _ _ _ _ _ _ _

theorem acc_step (n : ℕ) (hn : n + 1 < cfg0.N) (h0 : ¬(n + 1) % 4 = 0) (h3 : ¬(n + 1) % 4 = 3) :
    (outsAt0 m c (n + 1) hn).2 = addf (outsAt0 m c n (Nat.lt_of_succ_lt hn)).2 (term m c ⟨n + 1, hn⟩) := by
  rw [outsAt0_B m c ⟨n + 1, hn⟩ h0 (by show 1 ≤ (n + 1) % 4; omega) h3]
  dsimp only
  exact acc_next c _ _ _ _ _ _ _ _ _ _ _ _ _ _ _ _ _ _ _ _ _

theorem out_at (n : ℕ) (hn : n + 1 < cfg0.N) (h3 : (n + 1) % 4 = 3) :
    (outsAt0 m c (n + 1) hn).1 = addf (outsAt0 m c n (Nat.lt_of_succ_lt hn)).2 (term m c ⟨n + 1, hn⟩) := by
  rw [outsAt0_C m c ⟨n + 1, hn⟩ (by show ¬(n + 1) % 4 = 0; omega) (by show 1 ≤ (n + 1) % 4; omega) h3]
  dsimp only
  exact out_last c _ _ _ _ _ _ _ _ _ _ _ _ _ _ _ _ _ _ _ _ _

/-- The point of row block `i` and column shard `r`. -/
def pt (i : Fin 8) (r : Fin 4) : Fin cfg0.N := ⟨4 * i.val + r.val, lt_of_lt_of_eq (by omega) N_0.symm⟩

/-- What the last point of a row block writes out: the four points' terms. -/
theorem out_block (i : Fin 8) : (outsAt0 m c (4 * i.val + 2 + 1) (lt_of_lt_of_eq (by omega) N_0.symm)).1
    = addf (addf (addf (term m c (pt i 0)) (term m c (pt i 1))) (term m c (pt i 2))) (term m c (pt i 3)) := by
  rw [out_at m c (4 * i.val + 2) _ (by omega), acc_step m c (4 * i.val + 1) _ (by omega) (by omega), acc_step m c (4 * i.val) _ (by omega) (by omega)]
  rw [acc0 m c (pt i 0) (by show (4 * i.val + 0) % 4 = 0; omega) |> fun e => (show (outsAt0 m c (4 * i.val) _).2 = _ from e)]
  rfl

theorem index_eq : ∀ t : Fin cfg0.N,
    (win0_0.index t (0 : Fin 2) = t.val / 4 ∧ win0_0.index t (1 : Fin 2) = t.val % 4)
    ∧ (win0_1.index t (0 : Fin 4) = t.val % 4 ∧ win0_1.index t (1 : Fin 4) = 0 ∧ win0_1.index t (2 : Fin 4) = 0 ∧ win0_1.index t (3 : Fin 4) = 0)
    ∧ (win0_2.index t (0 : Fin 2) = t.val / 4 ∧ win0_2.index t (1 : Fin 2) = t.val % 4)
    ∧ (win0_3.index t (0 : Fin 4) = t.val % 4 ∧ win0_3.index t (1 : Fin 4) = 0 ∧ win0_3.index t (2 : Fin 4) = 0 ∧ win0_3.index t (3 : Fin 4) = 0) :=
  (by decide +kernel : ∀ t : Fin grid0.N, _)

/-- A weight as the launch finds it: four shards of columns. -/
theorem shards (x : FVec Ideal S2x2048x5632 .f32) (j : Fin 4) (r : Fin 2) (q : Fin 2048) (k : Fin 1408) :
    (transpose S4x2x2048x1408 [2, 0, 1, 3] (shapeCast S2x2048x4x1408 (truncf .bf16 x bitsLt_bf16_f32 : FVec Ideal S2x2048x5632 .bf16)
      shapeCasts_S2x2048x5632_S2x2048x4x1408) transposes_S2x2048x4x1408_S4x2x2048x1408_2_0_1_3 : FVec Ideal S4x2x2048x1408 .bf16) (ix4 j r q k)
      = x (ix3 r q ⟨1408 * j.val + k.val, by omega⟩) := by
  pointwise
  congr 2
  exact Fin.ext (by show j.val * 1408 + k.val = 1408 * j.val + k.val; omega)

variable (i : Fin 8) (r : Fin 4) (y : Fin 512) (k : Fin 1408) (q : Fin 2048)

theorem block0 : (iblk m c 0 (pt i r) : FVec Ideal S512x1408 .bf16) (ix2 y k)
    = (m ((c : Thread nD τ).loc main_arg0) : FVec Ideal S4096x5632 .bf16) (ix2 ⟨512 * i.val + y.val, by omega⟩ ⟨1408 * r.val + k.val, by omega⟩) := by
  obtain ⟨⟨e0, e1⟩, -⟩ := index_eq (pt i r)
  refine (?_ : _ = (V m c main_arg0 : FVec Ideal S4096x5632 .bf16) _).trans (congrFun (V_main_arg0 m c) _)
  show V m c main_arg0 (((cfg0.win 0).blk (pt i r)).view.emb _) = _
  congr 1
  funext a; apply Fin.ext
  match a with
  | ⟨0, _⟩ => show win0_0.index (pt i r) (0 : Fin 2) * 512 + 1 * y.val = 512 * i.val + y.val; rw [e0]; show (4 * i.val + r.val) / 4 * 512 + _ = _; omega
  | ⟨1, _⟩ => show win0_0.index (pt i r) (1 : Fin 2) * 1408 + 1 * k.val = 1408 * r.val + k.val; rw [e1]; show (4 * i.val + r.val) % 4 * 1408 + _ = _; omega

theorem block2 : (iblk m c 2 (pt i r) : FVec Ideal S512x1408 .bf16) (ix2 y k)
    = (m ((c : Thread nD τ).loc main_arg1) : FVec Ideal S4096x5632 .bf16) (ix2 ⟨512 * i.val + y.val, by omega⟩ ⟨1408 * r.val + k.val, by omega⟩) := by
  obtain ⟨-, -, ⟨e0, e1⟩, -⟩ := index_eq (pt i r)
  refine (?_ : _ = (V m c main_arg1 : FVec Ideal S4096x5632 .bf16) _).trans (congrFun (V_main_arg1 m c) _)
  show V m c main_arg1 (((cfg0.win 2).blk (pt i r)).view.emb _) = _
  congr 1
  funext a; apply Fin.ext
  match a with
  | ⟨0, _⟩ => show win0_2.index (pt i r) (0 : Fin 2) * 512 + 1 * y.val = 512 * i.val + y.val; rw [e0]; show (4 * i.val + r.val) / 4 * 512 + _ = _; omega
  | ⟨1, _⟩ => show win0_2.index (pt i r) (1 : Fin 2) * 1408 + 1 * k.val = 1408 * r.val + k.val; rw [e1]; show (4 * i.val + r.val) % 4 * 1408 + _ = _; omega

theorem block1 : (iblk m c 1 (pt i r) : FVec Ideal S1x1x2048x1408 .bf16) (ix4 0 0 q k)
    = (m ((c : Thread nD τ).loc main_arg2) : FVec Ideal S2x2048x5632 .f32) (ix3 0 q ⟨1408 * r.val + k.val, by omega⟩) := by
  obtain ⟨-, ⟨e0, e1, e2, e3⟩, -⟩ := index_eq (pt i r)
  refine (?_ : _ = (V m c main_v2 : FVec Ideal S4x2x2048x1408 .bf16) (ix4 r 0 q k)).trans (shards (m ((c : Thread nD τ).loc main_arg2)) r 0 q k)
  show V m c main_v2 (((cfg0.win 1).blk (pt i r)).view.emb _) = _
  congr 1
  funext a; apply Fin.ext
  match a with
  | ⟨0, _⟩ => show win0_1.index (pt i r) (0 : Fin 4) * 1 + 1 * 0 = r.val; rw [e0]; show (4 * i.val + r.val) % 4 * 1 + _ = _; omega
  | ⟨1, _⟩ => show win0_1.index (pt i r) (1 : Fin 4) * 1 + 1 * 0 = 0; rw [e1]
  | ⟨2, _⟩ => show win0_1.index (pt i r) (2 : Fin 4) * 2048 + 1 * q.val = q.val; rw [e2]; omega
  | ⟨3, _⟩ => show win0_1.index (pt i r) (3 : Fin 4) * 1408 + 1 * k.val = k.val; rw [e3]; omega

theorem block3 : (iblk m c 3 (pt i r) : FVec Ideal S1x1x2048x1408 .bf16) (ix4 0 0 q k)
    = (m ((c : Thread nD τ).loc main_arg3) : FVec Ideal S2x2048x5632 .f32) (ix3 0 q ⟨1408 * r.val + k.val, by omega⟩) := by
  obtain ⟨-, -, -, e0, e1, e2, e3⟩ := index_eq (pt i r)
  refine (?_ : _ = (V m c main_v5 : FVec Ideal S4x2x2048x1408 .bf16) (ix4 r 0 q k)).trans (shards (m ((c : Thread nD τ).loc main_arg3)) r 0 q k)
  show V m c main_v5 (((cfg0.win 3).blk (pt i r)).view.emb _) = _
  congr 1
  funext a; apply Fin.ext
  match a with
  | ⟨0, _⟩ => show win0_3.index (pt i r) (0 : Fin 4) * 1 + 1 * 0 = r.val; rw [e0]; show (4 * i.val + r.val) % 4 * 1 + _ = _; omega
  | ⟨1, _⟩ => show win0_3.index (pt i r) (1 : Fin 4) * 1 + 1 * 0 = 0; rw [e1]
  | ⟨2, _⟩ => show win0_3.index (pt i r) (2 : Fin 4) * 2048 + 1 * q.val = q.val; rw [e2]; omega
  | ⟨3, _⟩ => show win0_3.index (pt i r) (3 : Fin 4) * 1408 + 1 * k.val = k.val; rw [e3]; omega

/-- A product with the transposed weight: `x · wᵀ`, of the first block's weights. -/
def prod (x : FVec Ideal S4096x5632 .bf16) (w : FVec Ideal S2x2048x5632 .f32) (p : Fin 4096) (q : Fin 2048) : EReal :=
  ∑ k : Fin 5632, x (ix2 p k) * w (ix3 0 q k)

/-- The part of it one column shard gives. -/
def part (x : FVec Ideal S4096x5632 .bf16) (w : FVec Ideal S2x2048x5632 .f32) (p : Fin 4096) (q : Fin 2048) (r : Fin 4) : EReal :=
  ∑ k : Fin 1408, x (ix2 p ⟨1408 * r.val + k.val, by omega⟩) * w (ix3 0 q ⟨1408 * r.val + k.val, by omega⟩)

theorem prod_parts (x : FVec Ideal S4096x5632 .bf16) (w : FVec Ideal S2x2048x5632 .f32) (p : Fin 4096) (q : Fin 2048) :
    prod x w p q = part x w p q 0 + part x w p q 1 + part x w p q 2 + part x w p q 3 := by
  unfold prod part
  rw [sum_four (n := 1408) (by norm_num)]
  rfl

/-- What a point adds, of the arguments. -/
theorem term_apply : term m c (pt i r) (ix2 y q)
    = part (m ((c : Thread nD τ).loc main_arg0)) (m ((c : Thread nD τ).loc main_arg2)) ⟨512 * i.val + y.val, by omega⟩ q r
      + part (m ((c : Thread nD τ).loc main_arg1)) (m ((c : Thread nD τ).loc main_arg3)) ⟨512 * i.val + y.val, by omega⟩ q r := by
  unfold term part
  pointwise [k0_pay1]
  simp only [block0 m c i r y, block1 m c i r _ q, block2 m c i r y, block3 m c i r _ q]

/-- The gradient of the block's input, after the launch. -/
theorem dh (p : Fin 4096) (q : Fin 2048) : (Value.G4 m c : FVec Ideal S4096x2048 .f32) (ix2 p q)
    = prod (m ((c : Thread nD τ).loc main_arg0)) (m ((c : Thread nD τ).loc main_arg2)) p q
      + prod (m ((c : Thread nD τ).loc main_arg1)) (m ((c : Thread nD τ).loc main_arg3)) p q := by
  have hi : p.val / 512 < 8 := by omega
  have hp : Value.pt4Of (ix2 p q) = 4 * (⟨p.val / 512, hi⟩ : Fin 8).val + 2 + 1 := by
    show 4 * (1 * (p.val / 512 - 0) + 1 * (q.val / 2048 - 0)) + 3 = 4 * (p.val / 512) + 2 + 1
    omega
  have hl : Value.loc4Of (ix2 p q) = ix2 ⟨p.val % 512, by omega⟩ q := by
    funext a; apply Fin.ext
    match a with
    | ⟨0, _⟩ => rfl
    | ⟨1, _⟩ => show q.val % 2048 = q.val; omega
  have e : (Value.G4 m c : FVec Ideal S4096x2048 .f32) (ix2 p q)
      = (outsAt0 m c (4 * (⟨p.val / 512, hi⟩ : Fin 8).val + 2 + 1) (lt_of_lt_of_eq (by show 4 * (p.val / 512) + 2 + 1 < 32; omega) N_0.symm)).1 (ix2 ⟨p.val % 512, by omega⟩ q) := by
    rw [Value.outsAt0_sweep]
    unfold Value.G4
    rw [dif_pos (by rw [hp]; exact (pt ⟨p.val / 512, hi⟩ 3).isLt), hl, Value.fold0_congr m c _ _ _ _ hp]
  rw [e, out_block]
  have hpp : (⟨512 * (p.val / 512) + p.val % 512, by omega⟩ : Fin 4096) = p := Fin.ext (by show 512 * (p.val / 512) + p.val % 512 = p.val; omega)
  show term m c (pt _ 0) _ + term m c (pt _ 1) _ + term m c (pt _ 2) _ + term m c (pt _ 3) _ = _
  simp only [term_apply]
  rw [hpp, prod_parts, prod_parts]
  abel

end Cert.Proof.GateupBwdFirst
-- ==== Proof.GateupBwdFirstEq.lean ====
/-
  The claims about the backward call through the feed-forward block's gate and up products: its frames, and the equality of the
  gradient it returns with the reference's, whatever the numbers (the sum of the two products in the other order).
-/
module

public import proofs.«01_k».proof.Defs
public import proofs.«01_k».proof.Proof.GateupBwdFirst
public import proofs.«01_k».proof.Proof.Gen.Kernel16.Frame
public import proofs.«01_k».proof.Proof.Gen.Reference16Ideal
public import proofs.«01_k».proof.Proof.Gen.Reference16Ideal.Run
public import Idealize.ShloMosaic.Lib.Quiescent

@[expose] public section

set_option maxRecDepth 16384

noncomputable section

namespace Cert.Proof.GateupBwdFirst

open Idealize.ShloMosaic Idealize.ShloMosaic.TcCoe Idealize.SL.Sem

section
open Cert.Reference16Ideal Cert.Reference16Ideal.Gen

/-- The reference's gradient, at an index. -/
theorem ref_dh (x0 x1 : FVec Ideal S4096x5632 .bf16) (x2 x3 : FVec Ideal S2x2048x5632 .f32) (p : Fin 4096) (q : Fin 2048) :
    (addf (Host.dotGeneral dot_S4096x5632_S2048x5632_S4096x2048_1_1_0_0_n_n none (extf .f32 x1 bitsLt_bf16_f32) (shapeCast _ (extractStridedSlice S1x2048x5632 ![0, 0, 0] x3 slices_S2x2048x5632_S1x2048x5632_0_0_0) shapeCasts_S1x2048x5632_S2048x5632)) (Host.dotGeneral dot_S4096x5632_S2048x5632_S4096x2048_1_1_0_0_n_n none (extf .f32 x0 bitsLt_bf16_f32) (shapeCast _ (extractStridedSlice S1x2048x5632 ![0, 0, 0] x2 slices_S2x2048x5632_S1x2048x5632_0_0_0) shapeCasts_S1x2048x5632_S2048x5632)) : FVec Ideal S4096x2048 .f32) (ix2 p q)
      = prod x1 x3 p q + prod x0 x2 p q := by
  pointwise
  rfl

end

/-- The kernel's frame. -/
theorem frame_kernel : (haveI := Cert.Kernel16.Gen.facts; Cert.quiescent_Kernel16) := fun m ρ _ => Cert.Kernel16.Gen.frame m ρ

/-- Its idealization's. -/
theorem frame_ideal : (haveI := Cert.Kernel16Ideal.Gen.facts; Cert.quiescent_Kernel16Ideal) := fun m ρ _ => Cert.Kernel16Ideal.Gen.frame m ρ

/-- The reference's. -/
theorem frame_reference : (haveI := Cert.Reference16Ideal.Gen.facts; Cert.quiescent_Reference16Ideal) := fun m ρ _ =>
  (θ_run (Cert.Reference16Ideal.defs (F := Ideal)) _ _).mono (fun _ h => ⟨fun c => (h c).2, sem_eq_zero_of_no_sems rfl _⟩)
    (Cert.Reference16Ideal.Value.run (F := Ideal) m ρ)

/-- The kernel and the reference compute the same gradient. -/
theorem algebraic : (haveI := Cert.Kernel16Ideal.Gen.facts; haveI := Cert.Reference16Ideal.Gen.facts
    Cert.algebraic_Kernel16Ideal_Reference16Ideal) := by
  intro m ρ m' ρ' _ hm
  refine ⟨_, Cert.Kernel16Ideal.Value.run m ρ, ?_⟩
  refine (θ_run (Cert.Reference16Ideal.defs (F := Ideal)) _ _).mono (fun r h c => ?_) (Cert.Reference16Ideal.Value.run (F := Ideal) m' ρ')
  obtain ⟨r1, ra⟩ := h c
  obtain ⟨h0, h1, h2, h3⟩ := hm c
  refine ⟨r1.trans ?_, ra⟩
  rw [h0, h1, h2, h3]
  funext j
  rw [eq_ix2 j]
  generalize j 0 = p, j 1 = q
  exact (ref_dh _ _ _ _ p q).trans ((add_comm _ _).trans (dh m c p q).symm)

end Cert.Proof.GateupBwdFirst

end
-- ==== Proof.FfnUpFirst.lean ====
/-
  What the launch of the feed-forward block's forward call through the gate and the up product leaves in memory: each entry of the two
  products and of the gated hidden rows as a formula of the arguments.
-/
module

public import proofs.«01_k».proof.Proof.Gen.Kernel17Ideal.Value
public import Idealize.ShloMosaic.Lib.Pipeline.ValueKit.Basic
public import Idealize.ShloMosaic.Lib.Pointwise

@[expose] public section

set_option maxRecDepth 16384

noncomputable section

namespace Cert.Proof.FfnUpFirst

open Cert.Kernel17Ideal Cert.Kernel17Ideal.Gen
open Idealize.ShloMosaic Idealize.ShloMosaic.TcCoe
open Idealize.SL Idealize.SL.RA

variable (m : (ℓ : Loc nD τ sig) → Buf (Elt Ideal) ℓ)

/-- A product with a weight of the first block: `h · w`. -/
def prod (h : FVec Ideal S4096x2048 .bf16) (w : FVec Ideal S2x2048x5632 .f32) (p : Fin 4096) (q : Fin 5632) : EReal :=
  ∑ x : Fin 2048, h (ix2 p x) * w (ix3 0 x q)

/-- The sigmoid as the kernel writes it. -/
def sg (a : EReal) : EReal := Ideal.div 1 (1 + Ideal.exp (0 - a))

/-- The point whose blocks hold entry `(p, q)`. -/
def pt (p : Fin 4096) (q : Fin 5632) : Fin cfg0.N := ⟨8 * (q.val / 1408) + p.val / 512, lt_of_lt_of_eq (by omega) N_0.symm⟩

theorem index_eq : ∀ t : Fin cfg0.N,
    (win0_0.index t (0 : Fin 2) = t.val % 8 ∧ win0_0.index t (1 : Fin 2) = 0)
    ∧ (win0_1.index t (0 : Fin 4) = t.val / 8 ∧ win0_1.index t (1 : Fin 4) = 0 ∧ win0_1.index t (2 : Fin 4) = 0 ∧ win0_1.index t (3 : Fin 4) = 0)
    ∧ (win0_2.index t (0 : Fin 4) = t.val / 8 ∧ win0_2.index t (1 : Fin 4) = 0 ∧ win0_2.index t (2 : Fin 4) = 0 ∧ win0_2.index t (3 : Fin 4) = 0)
    ∧ (win0_3.index t (0 : Fin 2) = t.val % 8 ∧ win0_3.index t (1 : Fin 2) = t.val / 8)
    ∧ (win0_4.index t (0 : Fin 2) = t.val % 8 ∧ win0_4.index t (1 : Fin 2) = t.val / 8)
    ∧ (win0_5.index t (0 : Fin 2) = t.val % 8 ∧ win0_5.index t (1 : Fin 2) = t.val / 8) :=
  (by decide +kernel : ∀ t : Fin grid0.N, _)

/-- A weight as the launch finds it: four shards of columns. -/
theorem shards (x : FVec Ideal S2x2048x5632 .f32) (j : Fin 4) (r : Fin 2) (q : Fin 2048) (k : Fin 1408) :
    (transpose S4x2x2048x1408 [2, 0, 1, 3] (shapeCast S2x2048x4x1408 (truncf .bf16 x bitsLt_bf16_f32 : FVec Ideal S2x2048x5632 .bf16)
      shapeCasts_S2x2048x5632_S2x2048x4x1408) transposes_S2x2048x4x1408_S4x2x2048x1408_2_0_1_3 : FVec Ideal S4x2x2048x1408 .bf16) (ix4 j r q k)
      = x (ix3 r q ⟨1408 * j.val + k.val, by omega⟩) := by
  pointwise
  congr 2
  exact Fin.ext (by show j.val * 1408 + k.val = 1408 * j.val + k.val; omega)

theorem hz2 : (![0, 0] : Fin 2 → Nat) = fun _ => 0 := funext fun a => by fin_cases a <;> rfl
theorem hz4 : (![0, 0, 0, 0] : Fin 4 → Nat) = fun _ => 0 := funext fun a => by fin_cases a <;> rfl

variable (c : Dev nD) (p : Fin 4096) (q : Fin 5632)

theorem block0 (x : Fin 2048) : (iblk m c 0 (pt p q) : FVec Ideal S512x2048 .bf16) (ix2 ⟨p.val % 512, by omega⟩ x)
    = (m ((c : Thread nD τ).loc main_arg0) : FVec Ideal S4096x2048 .bf16) (ix2 p x) := by
  obtain ⟨⟨e0, e1⟩, -⟩ := index_eq (pt p q)
  refine (?_ : _ = (V m c main_arg0 : FVec Ideal S4096x2048 .bf16) _).trans (congrFun (V_main_arg0 m c) _)
  show V m c main_arg0 (((cfg0.win 0).blk (pt p q)).view.emb _) = _
  congr 1
  funext a; apply Fin.ext
  match a with
  | ⟨0, _⟩ => show win0_0.index (pt p q) (0 : Fin 2) * 512 + 1 * (p.val % 512) = p.val; rw [e0]; show (8 * (q.val / 1408) + p.val / 512) % 8 * 512 + _ = _; omega
  | ⟨1, _⟩ => show win0_0.index (pt p q) (1 : Fin 2) * 2048 + 1 * x.val = x.val; rw [e1]; omega

theorem block1 (x : Fin 2048) : (iblk m c 1 (pt p q) : FVec Ideal S1x1x2048x1408 .bf16) (ix4 0 0 x ⟨q.val % 1408, by omega⟩)
    = (m ((c : Thread nD τ).loc main_arg1) : FVec Ideal S2x2048x5632 .f32) (ix3 0 x q) := by
  obtain ⟨-, ⟨e0, e1, e2, e3⟩, -⟩ := index_eq (pt p q)
  refine (?_ : _ = (V m c main_v2 : FVec Ideal S4x2x2048x1408 .bf16) (ix4 ⟨q.val / 1408, by omega⟩ 0 x ⟨q.val % 1408, by omega⟩)).trans
    ((shards (m ((c : Thread nD τ).loc main_arg1)) _ _ _ _).trans (congrArg _ ?_))
  · show V m c main_v2 (((cfg0.win 1).blk (pt p q)).view.emb _) = _
    congr 1
    funext a; apply Fin.ext
    match a with
    | ⟨0, _⟩ => show win0_1.index (pt p q) (0 : Fin 4) * 1 + 1 * 0 = q.val / 1408; rw [e0]; show (8 * (q.val / 1408) + p.val / 512) / 8 * 1 + _ = _; omega
    | ⟨1, _⟩ => show win0_1.index (pt p q) (1 : Fin 4) * 1 + 1 * 0 = 0; rw [e1]
    | ⟨2, _⟩ => show win0_1.index (pt p q) (2 : Fin 4) * 2048 + 1 * x.val = x.val; rw [e2]; omega
    | ⟨3, _⟩ => show win0_1.index (pt p q) (3 : Fin 4) * 1408 + 1 * (q.val % 1408) = q.val % 1408; rw [e3]; omega
  · have h : (⟨1408 * (q.val / 1408) + q.val % 1408, by omega⟩ : Fin 5632) = q := Fin.ext (by show 1408 * (q.val / 1408) + q.val % 1408 = q.val; omega)
    exact congrArg (fun z => ix3 0 x z) h

theorem block2 (x : Fin 2048) : (iblk m c 2 (pt p q) : FVec Ideal S1x1x2048x1408 .bf16) (ix4 0 0 x ⟨q.val % 1408, by omega⟩)
    = (m ((c : Thread nD τ).loc main_arg2) : FVec Ideal S2x2048x5632 .f32) (ix3 0 x q) := by
  obtain ⟨-, -, ⟨e0, e1, e2, e3⟩, -⟩ := index_eq (pt p q)
  refine (?_ : _ = (V m c main_v5 : FVec Ideal S4x2x2048x1408 .bf16) (ix4 ⟨q.val / 1408, by omega⟩ 0 x ⟨q.val % 1408, by omega⟩)).trans
    ((shards (m ((c : Thread nD τ).loc main_arg2)) _ _ _ _).trans (congrArg _ ?_))
  · show V m c main_v5 (((cfg0.win 2).blk (pt p q)).view.emb _) = _
    congr 1
    funext a; apply Fin.ext
    match a with
    | ⟨0, _⟩ => show win0_2.index (pt p q) (0 : Fin 4) * 1 + 1 * 0 = q.val / 1408; rw [e0]; show (8 * (q.val / 1408) + p.val / 512) / 8 * 1 + _ = _; omega
    | ⟨1, _⟩ => show win0_2.index (pt p q) (1 : Fin 4) * 1 + 1 * 0 = 0; rw [e1]
    | ⟨2, _⟩ => show win0_2.index (pt p q) (2 : Fin 4) * 2048 + 1 * x.val = x.val; rw [e2]; omega
    | ⟨3, _⟩ => show win0_2.index (pt p q) (3 : Fin 4) * 1408 + 1 * (q.val % 1408) = q.val % 1408; rw [e3]; omega
  · have h : (⟨1408 * (q.val / 1408) + q.val % 1408, by omega⟩ : Fin 5632) = q := Fin.ext (by show 1408 * (q.val / 1408) + q.val % 1408 = q.val; omega)
    exact congrArg (fun z => ix3 0 x z) h

/-- The gate product's result, after the launch. -/
theorem gate : ((dats m 0 c).arrAt 3 cfg0.N : FVec Ideal S4096x5632 .bf16) (ix2 p q) = prod (m ((c : Thread nD τ).loc main_arg0)) (m ((c : Thread nD τ).loc main_arg1)) p q := by
  obtain ⟨-, -, -, ⟨e0, e1⟩, -⟩ := index_eq (pt p q)
  have h := congrFun (Value.blocks3 m c (pt p q) (flush0_3 _)) (ix2 ⟨p.val % 512, by omega⟩ ⟨q.val % 1408, by omega⟩)
  refine (Eq.trans ?_ h).trans ?_
  · show _ = (dats m 0 c).arrAt 3 cfg0.N (((cfg0.win 3).blk (pt p q)).view.emb _)
    congr 1
    funext a; apply Fin.ext
    match a with
    | ⟨0, _⟩ => show p.val = win0_3.index (pt p q) (0 : Fin 2) * 512 + 1 * (p.val % 512); rw [e0]; show _ = (8 * (q.val / 1408) + p.val / 512) % 8 * 512 + _; omega
    | ⟨1, _⟩ => show q.val = win0_3.index (pt p q) (1 : Fin 2) * 1408 + 1 * (q.val % 1408); rw [e1]; show _ = (8 * (q.val / 1408) + p.val / 512) / 8 * 1408 + _; omega
  · rw [Value.flushed3]
    show out0_3 (iblk m c 0 (pt p q)) (iblk m c 1 (pt p q)) (iblk m c 2 (pt p q)) (ix2 ⟨p.val % 512, by omega⟩ ⟨q.val % 1408, by omega⟩) = _
    unfold out0_3
    rw [View.canon_unit_zero hz2, View.ld_unit_zero hz2, View.ld_unit_zero hz4]
    pointwise [k0_pay3, k0_pay1]
    unfold prod
    simp only [block0 m c p q, block1 m c p q]

/-- The up product's result, after the launch. -/
theorem up : ((dats m 0 c).arrAt 4 cfg0.N : FVec Ideal S4096x5632 .bf16) (ix2 p q) = prod (m ((c : Thread nD τ).loc main_arg0)) (m ((c : Thread nD τ).loc main_arg2)) p q := by
  obtain ⟨-, -, -, -, ⟨e0, e1⟩, -⟩ := index_eq (pt p q)
  have h := congrFun (Value.blocks4 m c (pt p q) (flush0_4 _)) (ix2 ⟨p.val % 512, by omega⟩ ⟨q.val % 1408, by omega⟩)
  refine (Eq.trans ?_ h).trans ?_
  · show _ = (dats m 0 c).arrAt 4 cfg0.N (((cfg0.win 4).blk (pt p q)).view.emb _)
    congr 1
    funext a; apply Fin.ext
    match a with
    | ⟨0, _⟩ => show p.val = win0_4.index (pt p q) (0 : Fin 2) * 512 + 1 * (p.val % 512); rw [e0]; show _ = (8 * (q.val / 1408) + p.val / 512) % 8 * 512 + _; omega
    | ⟨1, _⟩ => show q.val = win0_4.index (pt p q) (1 : Fin 2) * 1408 + 1 * (q.val % 1408); rw [e1]; show _ = (8 * (q.val / 1408) + p.val / 512) / 8 * 1408 + _; omega
  · rw [Value.flushed4]
    show out0_4 (iblk m c 0 (pt p q)) (iblk m c 1 (pt p q)) (iblk m c 2 (pt p q)) (ix2 ⟨p.val % 512, by omega⟩ ⟨q.val % 1408, by omega⟩) = _
    unfold out0_4
    rw [View.canon_unit_zero hz2, View.ld_unit_zero hz2, View.ld_unit_zero hz4]
    pointwise [k0_pay4, k0_pay2]
    unfold prod
    simp only [block0 m c p q, block2 m c p q]

/-- The gated hidden rows, after the launch. -/
theorem hidden : ((dats m 0 c).arrAt 5 cfg0.N : FVec Ideal S4096x5632 .bf16) (ix2 p q) = prod (m ((c : Thread nD τ).loc main_arg0)) (m ((c : Thread nD τ).loc main_arg1)) p q * sg (prod (m ((c : Thread nD τ).loc main_arg0)) (m ((c : Thread nD τ).loc main_arg1)) p q) * prod (m ((c : Thread nD τ).loc main_arg0)) (m ((c : Thread nD τ).loc main_arg2)) p q := by
  obtain ⟨-, -, -, -, -, e0, e1⟩ := index_eq (pt p q)
  have h := congrFun (Value.blocks5 m c (pt p q) (flush0_5 _)) (ix2 ⟨p.val % 512, by omega⟩ ⟨q.val % 1408, by omega⟩)
  refine (Eq.trans ?_ h).trans ?_
  · show _ = (dats m 0 c).arrAt 5 cfg0.N (((cfg0.win 5).blk (pt p q)).view.emb _)
    congr 1
    funext a; apply Fin.ext
    match a with
    | ⟨0, _⟩ => show p.val = win0_5.index (pt p q) (0 : Fin 2) * 512 + 1 * (p.val % 512); rw [e0]; show _ = (8 * (q.val / 1408) + p.val / 512) % 8 * 512 + _; omega
    | ⟨1, _⟩ => show q.val = win0_5.index (pt p q) (1 : Fin 2) * 1408 + 1 * (q.val % 1408); rw [e1]; show _ = (8 * (q.val / 1408) + p.val / 512) / 8 * 1408 + _; omega
  · rw [Value.flushed5]
    show out0_5 (iblk m c 0 (pt p q)) (iblk m c 1 (pt p q)) (iblk m c 2 (pt p q)) (ix2 ⟨p.val % 512, by omega⟩ ⟨q.val % 1408, by omega⟩) = _
    unfold out0_5
    rw [View.canon_unit_zero hz2, View.ld_unit_zero hz2, View.ld_unit_zero hz4, View.ld_unit_zero hz4]
    pointwise [k0_pay5, k0_pay2, k0_pay1]
    unfold prod sg
    simp only [block0 m c p q, block1 m c p q, block2 m c p q]

end Cert.Proof.FfnUpFirst

end
-- ==== Proof.FfnUpFirstEq.lean ====
/-
  The claims about the feed-forward block's forward call through the gate and the up product: its frames, and the equality of its
  three results with the reference's, whatever the numbers.
-/
module

public import proofs.«01_k».proof.Defs
public import proofs.«01_k».proof.Proof.FfnUpFirst
public import proofs.«01_k».proof.Proof.Gen.Kernel17.Frame
public import proofs.«01_k».proof.Proof.Gen.Reference17Ideal
public import proofs.«01_k».proof.Proof.Gen.Reference17Ideal.Run
public import Idealize.ShloMosaic.Lib.Quiescent

@[expose] public section

set_option maxRecDepth 16384

noncomputable section

namespace Cert.Proof.FfnUpFirst

open Idealize.ShloMosaic Idealize.ShloMosaic.TcCoe Idealize.SL.Sem

section
open Cert.Reference17Ideal Cert.Reference17Ideal.Gen

variable (x0 : FVec Ideal S4096x2048 .bf16) (x1 x2 : FVec Ideal S2x2048x5632 .f32) (p : Fin 4096) (q : Fin 5632)

/-- The reference's first two results, at an index. -/
theorem ref_prod : (truncf .bf16 (Host.dotGeneral dot_S4096x2048_S2048x5632_S4096x5632_1_0_0_1_n_n none (extf .f32 x0 bitsLt_bf16_f32) (shapeCast _ (extractStridedSlice S1x2048x5632 ![0, 0, 0] x1 slices_S2x2048x5632_S1x2048x5632_0_0_0) shapeCasts_S1x2048x5632_S2048x5632)) bitsLt_bf16_f32 : FVec Ideal S4096x5632 .bf16) (ix2 p q) = prod x0 x1 p q := by
  pointwise
  rfl

/-- Its third. -/
theorem ref_hidden : (truncf .bf16 (mulf (mulf (Host.dotGeneral dot_S4096x2048_S2048x5632_S4096x5632_1_0_0_1_n_n none (extf .f32 x0 bitsLt_bf16_f32) (shapeCast _ (extractStridedSlice S1x2048x5632 ![0, 0, 0] x1 slices_S2x2048x5632_S1x2048x5632_0_0_0) shapeCasts_S1x2048x5632_S2048x5632)) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (Host.dotGeneral dot_S4096x2048_S2048x5632_S4096x5632_1_0_0_1_n_n none (extf .f32 x0 bitsLt_bf16_f32) (shapeCast _ (extractStridedSlice S1x2048x5632 ![0, 0, 0] x1 slices_S2x2048x5632_S1x2048x5632_0_0_0) shapeCasts_S1x2048x5632_S2048x5632))))))) (Host.dotGeneral dot_S4096x2048_S2048x5632_S4096x5632_1_0_0_1_n_n none (extf .f32 x0 bitsLt_bf16_f32) (shapeCast _ (extractStridedSlice S1x2048x5632 ![0, 0, 0] x2 slices_S2x2048x5632_S1x2048x5632_0_0_0) shapeCasts_S1x2048x5632_S2048x5632))) bitsLt_bf16_f32 : FVec Ideal S4096x5632 .bf16) (ix2 p q) = prod x0 x1 p q * sg (prod x0 x1 p q) * prod x0 x2 p q := by
  pointwise
  simp only [prod, sg, zero_sub]

end

/-- The kernel's frame. -/
theorem frame_kernel : (haveI := Cert.Kernel17.Gen.facts; Cert.quiescent_Kernel17) := fun m ρ _ => Cert.Kernel17.Gen.frame m ρ

/-- Its idealization's. -/
theorem frame_ideal : (haveI := Cert.Kernel17Ideal.Gen.facts; Cert.quiescent_Kernel17Ideal) := fun m ρ _ => Cert.Kernel17Ideal.Gen.frame m ρ

/-- The reference's. -/
theorem frame_reference : (haveI := Cert.Reference17Ideal.Gen.facts; Cert.quiescent_Reference17Ideal) := fun m ρ _ =>
  (θ_run (Cert.Reference17Ideal.defs (F := Ideal)) _ _).mono (fun _ h => ⟨fun c => (h c).2.2.2, sem_eq_zero_of_no_sems rfl _⟩)
    (Cert.Reference17Ideal.Value.run (F := Ideal) m ρ)

/-- The kernel and the reference compute the same three arrays. -/
theorem algebraic : (haveI := Cert.Kernel17Ideal.Gen.facts; haveI := Cert.Reference17Ideal.Gen.facts
    Cert.algebraic_Kernel17Ideal_Reference17Ideal) := by
  intro m ρ m' ρ' _ hm
  refine ⟨_, _, _, Cert.Kernel17Ideal.Value.run_blocks m ρ, ?_⟩
  refine (θ_run (Cert.Reference17Ideal.defs (F := Ideal)) _ _).mono (fun r h c => ?_) (Cert.Reference17Ideal.Value.run (F := Ideal) m' ρ')
  obtain ⟨r1, r2, r3, ra⟩ := h c
  obtain ⟨h0, h1, h2⟩ := hm c
  refine ⟨r1.trans ?_, r2.trans ?_, r3.trans ?_, ra⟩
  · rw [h0, h1]
    funext j
    rw [eq_ix2 j]
    generalize j 0 = p, j 1 = q
    exact (ref_prod _ _ p q).trans (gate m c p q).symm
  · rw [h0, h2]
    funext j
    rw [eq_ix2 j]
    generalize j 0 = p, j 1 = q
    exact (ref_prod _ _ p q).trans (up m c p q).symm
  · rw [h0, h1, h2]
    funext j
    rw [eq_ix2 j]
    generalize j 0 = p, j 1 = q
    exact (ref_hidden _ _ _ p q).trans (hidden m c p q).symm

end Cert.Proof.FfnUpFirst

end
-- ==== Proof.FfnDownFirst.lean ====
/-
  What the launch of the first feed-forward block's product with the down weight leaves in memory.
-/
module

public import proofs.«01_k».proof.Proof.Gen.Kernel18Ideal.Value
public import proofs.«01_k».proof.Proof.SumFour
public import Idealize.ShloMosaic.Lib.Pipeline.ValueKit.Basic
public import Idealize.ShloMosaic.Lib.Pointwise

@[expose] public section

set_option maxRecDepth 16384

noncomputable section

namespace Cert.Proof.FfnDownFirst

open Cert.Kernel18Ideal Cert.Kernel18Ideal.Gen
open Idealize.ShloMosaic Idealize.ShloMosaic.TcCoe
open Idealize.SL Idealize.SL.RA

theorem hz2 : (![0, 0] : Fin 2 → Nat) = fun _ => 0 := funext fun a => by fin_cases a <;> rfl
theorem hz4 : (![0, 0, 0, 0] : Fin 4 → Nat) = fun _ => 0 := funext fun a => by fin_cases a <;> rfl

section body
variable (c : Dev nD) (i : grid0.Coords) (a2 : Memref sig .tc .vmem S512x1408 .bf16) (h2 : a2.IsWhole)
  (a3 : Memref sig .tc .vmem S1x1x1408x2048 .bf16) (h3 : a3.IsWhole) (a4 : Memref sig .tc .vmem S512x2048 .f32) (h4 : a4.IsWhole)
  (a5 : Memref sig .tc .vmem S512x2048 .f32) (h5 : a5.IsWhole)
  (x0 : Vec Ideal S512x1408 .bf16) (x1 : Vec Ideal S1x1x1408x2048 .bf16) (xs : Vec Ideal S512x2048 .f32)

/-- The first of a run of four points leaves its product in the accumulator. -/
theorem acc_first (hc0 hc1 hc2) : sout0_A_0 c i a2 h2 a3 h3 a4 h4 a5 h5 hc0 hc1 hc2 x0 x1 = k0_pay1 x0 x1 := by
  unfold sout0_A_0
  rw [View.read_writes_eq_canon _ _ _ (scover0_A_0 c i a2 h2 a3 h3 a4 h4 a5 h5 hc0 hc1 hc2 x0 x1)]
  unfold kernelRun0_A
  dsimp only
  rw [View.canon_unit_zero hz2]
  unfold k0_pay2
  simp only [View.readAt_eq_ld, h2.read_unread, h3.read_unread, View.ld_unit_zero (S := S512x1408) hz2, View.ld_unit_zero (S := S1x1x1408x2048) hz4, shapeCast_self]

/-- A later one adds it. -/
theorem acc_next (hc0 hc1 hc2) : sout0_B_0 c i a2 h2 a3 h3 a4 h4 a5 h5 hc0 hc1 hc2 x0 x1 xs = addf xs (k0_pay1 x0 x1) := by
  unfold sout0_B_0
  rw [View.read_writes_eq_canon _ _ _ (scover0_B_0 c i a2 h2 a3 h3 a4 h4 a5 h5 hc0 hc1 hc2 x0 x1 xs)]
  unfold kernelRun0_B
  dsimp only
  rw [View.canon_unit_zero hz2]
  unfold k0_pay3
  simp only [View.readAt_eq_ld, h2.read_unread, h3.read_unread, h5.read_unread, View.ld_unit_zero (S := S512x1408) hz2, View.ld_unit_zero (S := S1x1x1408x2048) hz4, View.ld_unit_zero (S := S512x2048) hz2, shapeCast_self]

/-- The last one writes the accumulated sum out. -/
theorem out_last (hc0 hc1 hc2) : out0_C_2 c i a2 h2 a3 h3 a4 h4 a5 h5 hc0 hc1 hc2 x0 x1 xs = (addf xs (k0_pay1 x0 x1)) := by
  unfold out0_C_2
  rw [View.read_writes_eq_canon _ _ _ (cover0_C_2 c i a2 h2 a3 h3 a4 h4 a5 h5 hc0 hc1 hc2 x0 x1 xs)]
  unfold kernelRun0_C
  dsimp only
  sl_unfold_words
  rw [View.canon_unit_zero hz2]
  unfold k0_pay3
  simp only [View.readAt_eq_ld, h2.read_unread, h3.read_unread, h5.read_unread, View.readCov_unit_zero (S := S512x2048) _ hz2, View.ld_unit_zero (S := S512x1408) hz2, View.ld_unit_zero (S := S1x1x1408x2048) hz4, View.ld_unit_zero (S := S512x2048) hz2, shapeCast_self]
end body

variable (m : (ℓ : Loc nD τ sig) → Buf (Elt Ideal) ℓ) (c : Dev nD)

/-- What point `t` adds to the accumulator. -/
abbrev term (t : Fin cfg0.N) : FVec Ideal S512x2048 .f32 := k0_pay1 (iblk m c 0 t) (iblk m c 1 t)

theorem acc0 (t : Fin cfg0.N) (h : t.val % 4 = 0) : (outsAt0 m c t.val t.isLt).2 = term m c t := by
  rw [outsAt0_A m c t h (by omega) (by omega)]
  dsimp only
  exact acc_first c _ _ _ _ _ _ _ _ _ _ _ _ _ _

theorem acc_step (n : ℕ) (hn : n + 1 < cfg0.N) (h0 : ¬(n + 1) % 4 = 0) (h3 : ¬(n + 1) % 4 = 3) :
    (outsAt0 m c (n + 1) hn).2 = addf (outsAt0 m c n (Nat.lt_of_succ_lt hn)).2 (term m c ⟨n + 1, hn⟩) := by
  rw [outsAt0_B m c ⟨n + 1, hn⟩ h0 (by show 1 ≤ (n + 1) % 4; omega) h3]
  dsimp only
  exact acc_next c _ _ _ _ _ _ _ _ _ _ _ _ _ _ _

theorem out_at (n : ℕ) (hn : n + 1 < cfg0.N) (h3 : (n + 1) % 4 = 3) :
    (outsAt0 m c (n + 1) hn).1 = (addf (outsAt0 m c n (Nat.lt_of_succ_lt hn)).2 (term m c ⟨n + 1, hn⟩)) := by
  rw [outsAt0_C m c ⟨n + 1, hn⟩ (by show ¬(n + 1) % 4 = 0; omega) (by show 1 ≤ (n + 1) % 4; omega) h3]
  dsimp only
  exact out_last c _ _ _ _ _ _ _ _ _ _ _ _ _ _ _

theorem index_eq : ∀ t : Fin cfg0.N,
    (win0_0.index t (0 : Fin 2) = t.val / 4 ∧ win0_0.index t (1 : Fin 2) = t.val % 4)
    ∧ (win0_1.index t (0 : Fin 4) = t.val % 4 ∧ win0_1.index t (1 : Fin 4) = 0 ∧ win0_1.index t (2 : Fin 4) = 0 ∧ win0_1.index t (3 : Fin 4) = 0) :=
  (by decide +kernel : ∀ t : Fin grid0.N, _)

/-- The run of four points that makes the entry. -/
abbrev run (p : Fin 4096) (_q : Fin 2048) : ℕ := p.val / 512

/-- Its point of number `r`. -/
def pt (p : Fin 4096) (q : Fin 2048) (r : Fin 4) : Fin cfg0.N := ⟨4 * run p q + r.val, lt_of_lt_of_eq (by unfold run; omega) N_0.symm⟩

variable (p : Fin 4096) (q : Fin 2048) (r : Fin 4)

/-- What the last point of a run writes out: the four points' terms. -/
theorem out_block : (outsAt0 m c (4 * run p q + 2 + 1) (lt_of_lt_of_eq (by unfold run; omega) N_0.symm)).1
    = (addf (addf (addf (term m c (pt p q 0)) (term m c (pt p q 1))) (term m c (pt p q 2))) (term m c (pt p q 3))) := by
  rw [out_at m c (4 * run p q + 2) _ (by omega), acc_step m c (4 * run p q + 1) _ (by omega) (by omega), acc_step m c (4 * run p q) _ (by omega) (by omega)]
  rw [acc0 m c (pt p q 0) (by show (4 * run p q + 0) % 4 = 0; omega) |> fun e => (show (outsAt0 m c (4 * run p q) _).2 = _ from e)]
  rfl

/-- The weight as the launch finds it: four shards of rows. -/
theorem shards (x : FVec Ideal S2x5632x2048 .f32) (j : Fin 4) (s : Fin 2) (k : Fin 1408) (q : Fin 2048) :
    (transpose S4x2x1408x2048 [1, 0, 2, 3] (shapeCast S2x4x1408x2048 (truncf .bf16 x bitsLt_bf16_f32 : FVec Ideal S2x5632x2048 .bf16)
      shapeCasts_S2x5632x2048_S2x4x1408x2048) transposes_S2x4x1408x2048_S4x2x1408x2048_1_0_2_3 : FVec Ideal S4x2x1408x2048 .bf16) (ix4 j s k q)
      = x (ix3 s ⟨1408 * j.val + k.val, by omega⟩ q) := by
  pointwise
  congr 2
  exact Fin.ext (by show j.val * 1408 + k.val = 1408 * j.val + k.val; omega)

theorem block0 (k : Fin 1408) : (iblk m c 0 (pt p q r) : FVec Ideal S512x1408 .bf16) (ix2 ⟨p.val % 512, by omega⟩ k)
    = (m ((c : Thread nD τ).loc main_arg0) : FVec Ideal S4096x5632 .bf16) (ix2 p ⟨1408 * r.val + k.val, by omega⟩) := by
  obtain ⟨⟨e0, e1⟩, -⟩ := index_eq (pt p q r)
  refine (?_ : _ = (V m c main_arg0 : FVec Ideal S4096x5632 .bf16) (_)).trans (congrFun (V_main_arg0 m c) _)
  show V m c main_arg0 (((cfg0.win 0).blk (pt p q r)).view.emb _) = _
  congr 1
  funext z; apply Fin.ext
  match z with
  | ⟨0, _⟩ => show win0_0.index (pt p q r) (0 : Fin 2) * 512 + 1 * (p.val % 512) = p.val; rw [e0]; show (4 * (p.val / 512) + r.val) / 4 * 512 + _ = _; omega
  | ⟨1, _⟩ => show win0_0.index (pt p q r) (1 : Fin 2) * 1408 + 1 * k.val = 1408 * r.val + k.val; rw [e1]; show (4 * (p.val / 512) + r.val) % 4 * 1408 + _ = _; omega

theorem block1 (k : Fin 1408) : (iblk m c 1 (pt p q r) : FVec Ideal S1x1x1408x2048 .bf16) (ix4 0 0 k q)
    = (m ((c : Thread nD τ).loc main_arg1) : FVec Ideal S2x5632x2048 .f32) (ix3 0 ⟨1408 * r.val + k.val, by omega⟩ q) := by
  obtain ⟨-, e0, e1, e2, e3⟩ := index_eq (pt p q r)
  refine (?_ : _ = (V m c main_v2 : FVec Ideal S4x2x1408x2048 .bf16) (ix4 r 0 k q)).trans (shards (m ((c : Thread nD τ).loc main_arg1)) r 0 k q)
  show V m c main_v2 (((cfg0.win 1).blk (pt p q r)).view.emb _) = _
  congr 1
  funext z; apply Fin.ext
  match z with
  | ⟨0, _⟩ => show win0_1.index (pt p q r) (0 : Fin 4) * 1 + 1 * 0 = r.val; rw [e0]; show (4 * (p.val / 512) + r.val) % 4 * 1 + _ = _; omega
  | ⟨1, _⟩ => show win0_1.index (pt p q r) (1 : Fin 4) * 1 + 1 * 0 = 0; rw [e1]
  | ⟨2, _⟩ => show win0_1.index (pt p q r) (2 : Fin 4) * 1408 + 1 * k.val = k.val; rw [e2]; omega
  | ⟨3, _⟩ => show win0_1.index (pt p q r) (3 : Fin 4) * 2048 + 1 * q.val = q.val; rw [e3]; omega

/-- The product with the down weight. -/
def prod (x : FVec Ideal S4096x5632 .bf16) (y : FVec Ideal S2x5632x2048 .f32) (p : Fin 4096) (q : Fin 2048) : EReal :=
  ∑ k : Fin 5632, x (ix2 p k) * y (ix3 0 k q)

/-- The part of it one point of the run gives. -/
def part (x : FVec Ideal S4096x5632 .bf16) (y : FVec Ideal S2x5632x2048 .f32) (p : Fin 4096) (q : Fin 2048) (r : Fin 4) : EReal :=
  ∑ k : Fin 1408, x (ix2 p ⟨1408 * r.val + k.val, by omega⟩) * y (ix3 0 ⟨1408 * r.val + k.val, by omega⟩ q)

theorem prod_parts (x : FVec Ideal S4096x5632 .bf16) (y : FVec Ideal S2x5632x2048 .f32) :
    prod x y p q = part x y p q 0 + part x y p q 1 + part x y p q 2 + part x y p q 3 := by
  unfold prod part
  rw [sum_four (n := 1408) (by norm_num)]
  rfl

/-- What a point adds, of the arguments. -/
theorem term_apply : term m c (pt p q r) (ix2 ⟨p.val % 512, by omega⟩ q)
    = part (m ((c : Thread nD τ).loc main_arg0)) (m ((c : Thread nD τ).loc main_arg1)) p q r := by
  unfold term part
  pointwise [k0_pay1]
  simp only [block0 m c p q r, block1 m c p q r]

/-- The product, after the launch. -/
theorem result : (Value.G2 m c : FVec Ideal S4096x2048 .f32) (ix2 p q)
    = prod (m ((c : Thread nD τ).loc main_arg0)) (m ((c : Thread nD τ).loc main_arg1)) p q := by
  have hp : Value.pt2Of (ix2 p q) = 4 * run p q + 2 + 1 := by
    show 4 * (1 * (p.val / 512 - 0) + 1 * (q.val / 2048 - 0)) + 3 = 4 * (p.val / 512) + 2 + 1
    omega
  have hl : Value.loc2Of (ix2 p q) = ix2 ⟨p.val % 512, by omega⟩ q := by
    funext a; apply Fin.ext
    match a with
    | ⟨0, _⟩ => rfl
    | ⟨1, _⟩ => show q.val % 2048 = q.val; omega
  have e : (Value.G2 m c : FVec Ideal S4096x2048 .f32) (ix2 p q)
      = (outsAt0 m c (4 * run p q + 2 + 1) (lt_of_lt_of_eq (by unfold run; omega) N_0.symm)).1 (ix2 ⟨p.val % 512, by omega⟩ q) := by
    rw [Value.outsAt0_sweep]
    unfold Value.G2
    rw [dif_pos (by rw [hp]; exact lt_of_lt_of_eq (by unfold run; omega) N_0.symm), hl, Value.fold0_congr m c _ _ _ _ hp]
  rw [e, out_block]
  show term m c (pt p q 0) _ + term m c (pt p q 1) _ + term m c (pt p q 2) _ + term m c (pt p q 3) _ = _
  rw [prod_parts, ← term_apply m c, ← term_apply m c, ← term_apply m c, ← term_apply m c]

end Cert.Proof.FfnDownFirst

end
-- ==== Proof.FfnDownFirstEq.lean ====
/-
  The claims about the first feed-forward block's product with the down weight.
-/
module

public import proofs.«01_k».proof.Defs
public import proofs.«01_k».proof.Proof.FfnDownFirst
public import proofs.«01_k».proof.Proof.Gen.Kernel18.Frame
public import proofs.«01_k».proof.Proof.Gen.Reference18Ideal
public import proofs.«01_k».proof.Proof.Gen.Reference18Ideal.Run
public import Idealize.ShloMosaic.Lib.Quiescent

@[expose] public section

set_option maxRecDepth 16384

noncomputable section

namespace Cert.Proof.FfnDownFirst

open Idealize.ShloMosaic Idealize.ShloMosaic.TcCoe Idealize.SL.Sem

section
open Cert.Reference18Ideal Cert.Reference18Ideal.Gen

/-- The reference's result, at an index. -/
theorem ref_result (x0 : FVec Ideal S4096x5632 .bf16) (x1 : FVec Ideal S2x5632x2048 .f32) (p : Fin 4096) (q : Fin 2048) :
    (Host.dotGeneral dot_S4096x5632_S5632x2048_S4096x2048_1_0_0_1_n_n none (extf .f32 x0 bitsLt_bf16_f32) (shapeCast _ (extractStridedSlice S1x5632x2048 ![0, 0, 0] x1 slices_S2x5632x2048_S1x5632x2048_0_0_0) shapeCasts_S1x5632x2048_S5632x2048) : FVec Ideal S4096x2048 .f32) (ix2 p q) = prod x0 x1 p q := by
  pointwise
  rfl

end

/-- The kernel's frame. -/
theorem frame_kernel : (haveI := Cert.Kernel18.Gen.facts; Cert.quiescent_Kernel18) := fun m ρ _ => Cert.Kernel18.Gen.frame m ρ

/-- Its idealization's. -/
theorem frame_ideal : (haveI := Cert.Kernel18Ideal.Gen.facts; Cert.quiescent_Kernel18Ideal) := fun m ρ _ => Cert.Kernel18Ideal.Gen.frame m ρ

/-- The reference's. -/
theorem frame_reference : (haveI := Cert.Reference18Ideal.Gen.facts; Cert.quiescent_Reference18Ideal) := fun m ρ _ =>
  (θ_run (Cert.Reference18Ideal.defs (F := Ideal)) _ _).mono (fun _ h => ⟨fun c => (h c).2, sem_eq_zero_of_no_sems rfl _⟩)
    (Cert.Reference18Ideal.Value.run (F := Ideal) m ρ)

/-- The kernel and the reference compute the same array. -/
theorem algebraic : (haveI := Cert.Kernel18Ideal.Gen.facts; haveI := Cert.Reference18Ideal.Gen.facts
    Cert.algebraic_Kernel18Ideal_Reference18Ideal) := by
  intro m ρ m' ρ' _ hm
  refine ⟨_, Cert.Kernel18Ideal.Value.run m ρ, ?_⟩
  refine (θ_run (Cert.Reference18Ideal.defs (F := Ideal)) _ _).mono (fun r h c => ?_) (Cert.Reference18Ideal.Value.run (F := Ideal) m' ρ')
  obtain ⟨r1, ra⟩ := h c
  obtain ⟨h0, h1⟩ := hm c
  refine ⟨r1.trans ?_, ra⟩
  rw [h0, h1]
  funext i
  rw [eq_ix2 i]
  generalize i 0 = p, i 1 = q
  exact (ref_result _ _ p q).trans (result m c p q).symm

end Cert.Proof.FfnDownFirst

end
-- ==== Proof.DownGradSecond.lean ====
/-
  What the launch that computes the second block's down weights' gradient leaves in memory: the second slab of each shard holds the
  product of the transposed left array with the arriving gradient, summed over four runs of the tokens.
-/
module

public import proofs.«01_k».proof.Proof.Gen.Kernel19Ideal.Frame
public import Idealize.ShloMosaic.Lib.Pipeline.Value
public import Idealize.ShloMosaic.Lib.Pipeline.ValueKit.Basic
public import Idealize.ShloMosaic.Lib.Pointwise
public import proofs.«01_k».proof.Proof.SumFour

@[expose] public section

set_option maxRecDepth 16384

noncomputable section

namespace Cert.Proof.DownGradSecond

open Cert.Kernel19Ideal Cert.Kernel19Ideal.Gen
open Idealize.ShloMosaic Idealize.ShloMosaic.TcCoe
open Idealize.SL Idealize.SL.RA

theorem hz2 : (![0, 0] : Fin 2 → Nat) = fun _ => 0 := funext fun a => by fin_cases a <;> rfl
theorem hz4 : (![0, 0, 0, 0] : Fin 4 → Nat) = fun _ => 0 := funext fun a => by fin_cases a <;> rfl

section body
variable (c : Dev nD) (i : grid0.Coords) (a4 : Memref sig .tc .vmem S1024x1408 .bf16) (h4 : a4.IsWhole)
  (a5 : Memref sig .tc .vmem S1024x1024 .bf16) (h5 : a5.IsWhole) (a7 : Memref sig .tc .vmem S1x1x1408x1024 .bf16) (h7 : a7.IsWhole)
  (a8 : Memref sig .tc .vmem S1408x1024 .f32) (h8 : a8.IsWhole)
  (x0 : Vec Ideal S1024x1408 .bf16) (x1 : Vec Ideal S1024x1024 .bf16) (xs : Vec Ideal S1408x1024 .f32)

/-- The first of a run of four points leaves its product in the accumulator. -/
theorem acc_first (hc0 hc1 hc2) : sout0_A_0 c i a4 h4 a5 h5 a7 h7 a8 h8 hc0 hc1 hc2 x0 x1 = k0_pay1 x0 x1 := by
  unfold sout0_A_0
  rw [View.read_writes_eq_canon _ _ _ (scover0_A_0 c i a4 h4 a5 h5 a7 h7 a8 h8 hc0 hc1 hc2 x0 x1)]
  unfold kernelRun0_A
  dsimp only
  rw [View.canon_unit_zero hz2]
  unfold k0_pay2
  simp only [View.readAt_eq_ld, h4.read_unread, h5.read_unread, View.ld_unit_zero (S := S1024x1408) hz2, View.ld_unit_zero (S := S1024x1024) hz2, shapeCast_self]

/-- A later one adds it. -/
theorem acc_next (hc0 hc1 hc2) : sout0_B_0 c i a4 h4 a5 h5 a7 h7 a8 h8 hc0 hc1 hc2 x0 x1 xs = addf xs (k0_pay1 x0 x1) := by
  unfold sout0_B_0
  rw [View.read_writes_eq_canon _ _ _ (scover0_B_0 c i a4 h4 a5 h5 a7 h7 a8 h8 hc0 hc1 hc2 x0 x1 xs)]
  unfold kernelRun0_B
  dsimp only
  rw [View.canon_unit_zero hz2]
  unfold k0_pay3
  simp only [View.readAt_eq_ld, h4.read_unread, h5.read_unread, h8.read_unread, View.ld_unit_zero (S := S1024x1408) hz2, View.ld_unit_zero (S := S1024x1024) hz2, View.ld_unit_zero (S := S1408x1024) hz2, shapeCast_self]

/-- The last one writes the accumulated sum out. -/
theorem out_last (hc0 hc1 hc2) : out0_C_2 c i a4 h4 a5 h5 a7 h7 a8 h8 hc0 hc1 hc2 x0 x1 xs = k0_pay4 (addf xs (k0_pay1 x0 x1)) := by
  unfold out0_C_2
  rw [View.read_writes_eq_canon _ _ _ (cover0_C_2 c i a4 h4 a5 h5 a7 h7 a8 h8 hc0 hc1 hc2 x0 x1 xs)]
  unfold kernelRun0_C
  dsimp only
  sl_unfold_words
  rw [View.canon_unit_zero hz4]
  unfold k0_pay3
  simp only [View.readAt_eq_ld, h4.read_unread, h5.read_unread, h8.read_unread, View.readCov_unit_zero (S := S1408x1024) _ hz2, View.ld_unit_zero (S := S1024x1408) hz2, View.ld_unit_zero (S := S1024x1024) hz2, View.ld_unit_zero (S := S1408x1024) hz2, shapeCast_self]
end body

variable (m : (ℓ : Loc nD τ sig) → Buf (Elt Ideal) ℓ) (c : Dev nD)

/-- What point `t` adds to the accumulator. -/
abbrev term (t : Fin cfg0.N) : FVec Ideal S1408x1024 .f32 := k0_pay1 (iblk m c 0 t) (iblk m c 1 t)

theorem acc0 (t : Fin cfg0.N) (h : t.val % 4 = 0) : (outsAt0 m c t.val t.isLt).2 = term m c t := by
  rw [outsAt0_A m c t h (by omega) (by omega)]
  dsimp only
  exact acc_first c _ _ _ _ _ _ _ _ _ _ _ _ _ _

theorem acc_step (n : ℕ) (hn : n + 1 < cfg0.N) (h0 : ¬(n + 1) % 4 = 0) (h3 : ¬(n + 1) % 4 = 3) :
    (outsAt0 m c (n + 1) hn).2 = addf (outsAt0 m c n (Nat.lt_of_succ_lt hn)).2 (term m c ⟨n + 1, hn⟩) := by
  rw [outsAt0_B m c ⟨n + 1, hn⟩ h0 (by show 1 ≤ (n + 1) % 4; omega) h3]
  dsimp only
  exact acc_next c _ _ _ _ _ _ _ _ _ _ _ _ _ _ _

theorem out_at (n : ℕ) (hn : n + 1 < cfg0.N) (h3 : (n + 1) % 4 = 3) :
    (outsAt0 m c (n + 1) hn).1 = k0_pay4 (addf (outsAt0 m c n (Nat.lt_of_succ_lt hn)).2 (term m c ⟨n + 1, hn⟩)) := by
  rw [outsAt0_C m c ⟨n + 1, hn⟩ (by show ¬(n + 1) % 4 = 0; omega) (by show 1 ≤ (n + 1) % 4; omega) h3]
  dsimp only
  exact out_last c _ _ _ _ _ _ _ _ _ _ _ _ _ _ _

/-- The point of shard `j`, tile `n` of the model's width and run `r` of the tokens. -/
def pt (j : Fin 4) (n : Fin 2) (r : Fin 4) : Fin cfg0.N := ⟨8 * j.val + 4 * n.val + r.val, lt_of_lt_of_eq (by omega) N_0.symm⟩

/-- What the last point of a run writes out: the four points' terms. -/
theorem out_block (j : Fin 4) (n : Fin 2) : (outsAt0 m c (8 * j.val + 4 * n.val + 2 + 1) (lt_of_lt_of_eq (by omega) N_0.symm)).1
    = k0_pay4 (addf (addf (addf (term m c (pt j n 0)) (term m c (pt j n 1))) (term m c (pt j n 2))) (term m c (pt j n 3))) := by
  rw [out_at m c (8 * j.val + 4 * n.val + 2) _ (by omega), acc_step m c (8 * j.val + 4 * n.val + 1) _ (by omega) (by omega), acc_step m c (8 * j.val + 4 * n.val) _ (by omega) (by omega)]
  rw [acc0 m c (pt j n 0) (by show (8 * j.val + 4 * n.val + 0) % 4 = 0; omega) |> fun e => (show (outsAt0 m c (8 * j.val + 4 * n.val) _).2 = _ from e)]
  rfl

theorem index_eq : ∀ t : Fin cfg0.N,
    (win0_0.index t (0 : Fin 2) = t.val % 4 ∧ win0_0.index t (1 : Fin 2) = t.val / 8)
    ∧ (win0_1.index t (0 : Fin 2) = t.val % 4 ∧ win0_1.index t (1 : Fin 2) = t.val / 4 % 2)
    ∧ (win0_2.index t (0 : Fin 4) = t.val / 8 ∧ win0_2.index t (1 : Fin 4) = 1 ∧ win0_2.index t (2 : Fin 4) = 0 ∧ win0_2.index t (3 : Fin 4) = t.val / 4 % 2) :=
  (by decide +kernel : ∀ t : Fin grid0.N, _)

variable (j : Fin 4) (n : Fin 2) (r : Fin 4) (k : Fin 1024) (a : Fin 1408) (b : Fin 1024)

theorem block0 : (iblk m c 0 (pt j n r) : FVec Ideal S1024x1408 .bf16) (ix2 k a)
    = (m ((c : Thread nD τ).loc main_arg0) : FVec Ideal S4096x5632 .bf16) (ix2 ⟨1024 * r.val + k.val, by omega⟩ ⟨1408 * j.val + a.val, by omega⟩) := by
  obtain ⟨⟨e0, e1⟩, -⟩ := index_eq (pt j n r)
  refine (?_ : _ = (V m c main_arg0 : FVec Ideal S4096x5632 .bf16) _).trans (congrFun (V_main_arg0 m c) _)
  show V m c main_arg0 (((cfg0.win 0).blk (pt j n r)).view.emb _) = _
  congr 1
  funext z; apply Fin.ext
  match z with
  | ⟨0, _⟩ => show win0_0.index (pt j n r) (0 : Fin 2) * 1024 + 1 * k.val = 1024 * r.val + k.val; rw [e0]; show (8 * j.val + 4 * n.val + r.val) % 4 * 1024 + _ = _; omega
  | ⟨1, _⟩ => show win0_0.index (pt j n r) (1 : Fin 2) * 1408 + 1 * a.val = 1408 * j.val + a.val; rw [e1]; show (8 * j.val + 4 * n.val + r.val) / 8 * 1408 + _ = _; omega

theorem block1 : (iblk m c 1 (pt j n r) : FVec Ideal S1024x1024 .bf16) (ix2 k b)
    = (m ((c : Thread nD τ).loc main_arg1) : FVec Ideal S4096x2048 .bf16) (ix2 ⟨1024 * r.val + k.val, by omega⟩ ⟨1024 * n.val + b.val, by omega⟩) := by
  obtain ⟨-, ⟨e0, e1⟩, -⟩ := index_eq (pt j n r)
  refine (?_ : _ = (V m c main_arg1 : FVec Ideal S4096x2048 .bf16) _).trans (congrFun (V_main_arg1 m c) _)
  show V m c main_arg1 (((cfg0.win 1).blk (pt j n r)).view.emb _) = _
  congr 1
  funext z; apply Fin.ext
  match z with
  | ⟨0, _⟩ => show win0_1.index (pt j n r) (0 : Fin 2) * 1024 + 1 * k.val = 1024 * r.val + k.val; rw [e0]; show (8 * j.val + 4 * n.val + r.val) % 4 * 1024 + _ = _; omega
  | ⟨1, _⟩ => show win0_1.index (pt j n r) (1 : Fin 2) * 1024 + 1 * b.val = 1024 * n.val + b.val; rw [e1]; show (8 * j.val + 4 * n.val + r.val) / 4 % 2 * 1024 + _ = _; omega

/-- The weight's gradient: `xᵀ · y`. -/
def dw (x : FVec Ideal S4096x5632 .bf16) (y : FVec Ideal S4096x2048 .bf16) (p : Fin 5632) (q : Fin 2048) : EReal :=
  ∑ k : Fin 4096, x (ix2 k p) * y (ix2 k q)

/-- The part of it one run of the tokens gives. -/
def part (x : FVec Ideal S4096x5632 .bf16) (y : FVec Ideal S4096x2048 .bf16) (p : Fin 5632) (q : Fin 2048) (r : Fin 4) : EReal :=
  ∑ k : Fin 1024, x (ix2 ⟨1024 * r.val + k.val, by omega⟩ p) * y (ix2 ⟨1024 * r.val + k.val, by omega⟩ q)

theorem dw_parts (x : FVec Ideal S4096x5632 .bf16) (y : FVec Ideal S4096x2048 .bf16) (p : Fin 5632) (q : Fin 2048) :
    dw x y p q = part x y p q 0 + part x y p q 1 + part x y p q 2 + part x y p q 3 := by
  unfold dw part
  rw [sum_four (n := 1024) (by norm_num)]
  rfl

/-- What a point adds, of the arguments. -/
theorem term_apply : term m c (pt j n r) (ix2 a b)
    = part (m ((c : Thread nD τ).loc main_arg0)) (m ((c : Thread nD τ).loc main_arg1)) ⟨1408 * j.val + a.val, by omega⟩ ⟨1024 * n.val + b.val, by omega⟩ r := by
  unfold term part
  pointwise [k0_pay1]
  simp only [block0 m c j n r _ a, block1 m c j n r _ b]

/-- What a run's last point writes out, of the arguments. -/
theorem out_apply : (outsAt0 m c (8 * j.val + 4 * n.val + 2 + 1) (lt_of_lt_of_eq (by omega) N_0.symm)).1 (ix4 0 0 a b)
    = dw (m ((c : Thread nD τ).loc main_arg0)) (m ((c : Thread nD τ).loc main_arg1)) ⟨1408 * j.val + a.val, by omega⟩ ⟨1024 * n.val + b.val, by omega⟩ := by
  rw [out_block, dw_parts, ← term_apply m c, ← term_apply m c, ← term_apply m c, ← term_apply m c]
  pointwise [k0_pay4]

/-- Two points that write out different runs write disjoint blocks. -/
theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne <| by
    obtain ⟨-, -, e0, -, e2, e3⟩ := index_eq t
    obtain ⟨-, -, f0, -, f2, f3⟩ := index_eq t'
    have g := (flush0_2 t).mp hf
    have g' := (flush0_2 t').mp hf'
    have h0 : win0_2.index t (0 : Fin 4) = win0_2.index t' (0 : Fin 4) := congrFun h 0
    have h2 : win0_2.index t (2 : Fin 4) = win0_2.index t' (2 : Fin 4) := congrFun h 2
    have h3 : win0_2.index t (3 : Fin 4) = win0_2.index t' (3 : Fin 4) := congrFun h 3
    exact Fin.ext (by omega)

/-- Where the written blocks lie: entry `(j, 1, …)` of the array. -/
theorem emb_eq : ((cfg0.win 2).blk (pt j n 3)).view.emb (ix4 0 0 a b) = (ix4 j 1 a ⟨1024 * n.val + b.val, by omega⟩ : S4x2x1408x2048.Idx) := by
  obtain ⟨-, -, e0, e1, e2, e3⟩ := index_eq (pt j n 3)
  funext z; apply Fin.ext
  match z with
  | ⟨0, _⟩ => show win0_2.index (pt j n 3) (0 : Fin 4) * 1 + 1 * 0 = j.val; rw [e0]; show (8 * j.val + 4 * n.val + 3) / 8 * 1 + _ = _; omega
  | ⟨1, _⟩ => show win0_2.index (pt j n 3) (1 : Fin 4) * 1 + 1 * 0 = 1; rw [e1]
  | ⟨2, _⟩ => show win0_2.index (pt j n 3) (2 : Fin 4) * 1408 + 1 * a.val = a.val; rw [e2]; omega
  | ⟨3, _⟩ => show win0_2.index (pt j n 3) (3 : Fin 4) * 1024 + 1 * b.val = 1024 * n.val + b.val; rw [e3]; show (8 * j.val + 4 * n.val + 3) / 4 % 2 * 1024 + _ = _; omega

/-- What a point writes back is what it leaves in its block. -/
theorem flushed2 (t : Fin cfg0.N) : (dats m 0 c).flushed 2 t = (cfg0.win 2).cut (grid0.coords t) ((outsAt0 m c t.val t.isLt).1) := by
  show (cfg0.win 2).cut (grid0.coords t) ((dats m 0 c).after 2 t) = _
  rw [after0_2]

/-- The second slab of the array after the launch: the gradient, shard by shard. -/
theorem slab : ((dats m 0 c).arrAt 2 cfg0.N : FVec Ideal S4x2x1408x2048 .bf16) (ix4 j 1 a ⟨1024 * n.val + b.val, by omega⟩)
    = dw (m ((c : Thread nD τ).loc main_arg0)) (m ((c : Thread nD τ).loc main_arg1)) ⟨1408 * j.val + a.val, by omega⟩ ⟨1024 * n.val + b.val, by omega⟩ := by
  have hf : (cfg0.win 2).flush (pt j n 3) = true := (flush0_2 _).mpr (by show (8 * j.val + 4 * n.val + 3) % 4 = 3; omega)
  have h := congrFun ((dats m 0 c).read_blk_arrAt_eq_flushed 2 disjoint2 cfg0.N (pt j n 3) (pt j n 3).isLt hf) (ix4 0 0 a b)
  rw [← emb_eq j n a b]
  refine (show _ = _ from h).trans ?_
  rw [flushed2]
  exact out_apply m c j n a b

end Cert.Proof.DownGradSecond

end
-- ==== Proof.DownGradSecondEq.lean ====
/-
  The claims about the launch that computes the second block's down weights' gradient: its frames, and the equality of the slab it
  returns with the reference's gradient, whatever the numbers.
-/
module

public import proofs.«01_k».proof.Defs
public import proofs.«01_k».proof.Proof.DownGradSecond
public import proofs.«01_k».proof.Proof.Gen.Kernel19.Frame
public import proofs.«01_k».proof.Proof.Gen.Reference19Ideal
public import proofs.«01_k».proof.Proof.Gen.Reference19Ideal.Run
public import Idealize.ShloMosaic.Lib.Quiescent

@[expose] public section

set_option maxRecDepth 16384

noncomputable section

namespace Cert.Proof.DownGradSecond

open Idealize.ShloMosaic Idealize.ShloMosaic.TcCoe Idealize.SL.Sem

section
open Cert.Reference19Ideal Cert.Reference19Ideal.Gen

/-- The reference's gradient, before the shards are stacked. -/
theorem ref_dw (x0 : FVec Ideal S4096x5632 .bf16) (x1 : FVec Ideal S4096x2048 .bf16) (j : Fin 4) (p : Fin 1408) (q : Fin 2048) :
    (truncf .bf16 (shapeCast S4x1408x2048 (transpose S5632x2048 [1, 0] (Host.dotGeneral dot_S4096x2048_S4096x5632_S2048x5632_0_0_1_1_n_n none (extf .f32 x1 bitsLt_bf16_f32) (extf .f32 x0 bitsLt_bf16_f32)) transposes_S2048x5632_S5632x2048_1_0) shapeCasts_S5632x2048_S4x1408x2048) bitsLt_bf16_f32 : FVec Ideal S4x1408x2048 .bf16) (ix3 j p q)
      = dw x0 x1 ⟨j.val * 1408 + p.val, by omega⟩ q := by
  pointwise
  unfold dw
  exact Finset.sum_congr rfl fun k _ => by rw [mul_comm]

end

/-- The kernel's frame. -/
theorem frame_kernel : (haveI := Cert.Kernel19.Gen.facts; Cert.quiescent_Kernel19) := fun m ρ _ => Cert.Kernel19.Gen.frame m ρ

/-- Its idealization's. -/
theorem frame_ideal : (haveI := Cert.Kernel19Ideal.Gen.facts; Cert.quiescent_Kernel19Ideal) := fun m ρ _ => Cert.Kernel19Ideal.Gen.frame m ρ

/-- The reference's. -/
theorem frame_reference : (haveI := Cert.Reference19Ideal.Gen.facts; Cert.quiescent_Reference19Ideal) := fun m ρ _ =>
  (θ_run (Cert.Reference19Ideal.defs (F := Ideal)) _ _).mono (fun _ h => ⟨fun c => (h c).2, sem_eq_zero_of_no_sems rfl _⟩)
    (Cert.Reference19Ideal.Value.run (F := Ideal) m ρ)

section
open Cert.Kernel19Ideal Cert.Kernel19Ideal.Gen

/-- The slab the lines after the launch cut out. -/
theorem cut_slab (x : FVec Ideal S4x2x1408x2048 .bf16) (j : Fin 4) (p : Fin 1408) (q : Fin 2048) :
    (shapeCast S4x1408x2048 (extractStridedSlice S4x1x1408x2048 ![0, 1, 0, 0] x slices_S4x2x1408x2048_S4x1x1408x2048_0_1_0_0) shapeCasts_S4x1x1408x2048_S4x1408x2048 : FVec Ideal S4x1408x2048 .bf16) (ix3 j p q)
      = x (ix4 j 1 p q) := by
  pointwise

/-- What the two lines after the launch leave in the result. -/
theorem tail_read (m : (ℓ : Loc nD τ sig) → Buf (Elt Ideal) ℓ) (c : Dev nD) :
    Pipeline.afterTail₀ cfgs (dats m) 0 (V0 m) [hostOps1] c main_v2
      = shapeCast S4x1408x2048 (extractStridedSlice S4x1x1408x2048 ![0, 1, 0, 0] ((dats m 0 c).arrAt 2 cfg0.N) slices_S4x2x1408x2048_S4x1x1408x2048_0_1_0_0) shapeCasts_S4x1x1408x2048_S4x1408x2048 := by
  have h := Pipeline.withArrays_arr spec0 (by decide) c (V0 m c) (fun w => (dats m 0 c).arrAt w cfg0.N) 2
  refine Eq.trans ?_ (congrArg (fun x => shapeCast S4x1408x2048 (extractStridedSlice S4x1x1408x2048 ![0, 1, 0, 0] x slices_S4x2x1408x2048_S4x1x1408x2048_0_1_0_0) shapeCasts_S4x1x1408x2048_S4x1408x2048) h)
  show StableHlo.after hostOps1 _ (Proc.devRef .tc main_v2) = _
  after_results
  rfl

/-- The run: the result is the second slab of the launch's array, the arguments are as given. -/
theorem run (m : (ℓ : Loc nD τ sig) → Buf (Elt Ideal) ℓ) (ρ : Dev nD → PrngReg) :
    θ_run (defs (F := Ideal)) (onTc (τ := τ) main) ⟨m, fun _ => 0, ρ⟩ fun r => ∀ c : Dev nD,
      r.2.mem ((c.tc : Thread nD τ).loc main_v2) = shapeCast S4x1408x2048 (extractStridedSlice S4x1x1408x2048 ![0, 1, 0, 0] ((dats m 0 c).arrAt 2 cfg0.N) slices_S4x2x1408x2048_S4x1x1408x2048_0_1_0_0) shapeCasts_S4x1x1408x2048_S4x1408x2048
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).2 main_v2 (by decide)).trans (tail_read m c), h.2 c⟩)
    (θ_run_and (run_main m ρ) (unchanged m ρ))

end

/-- The kernel and the reference compute the same gradient. -/
theorem algebraic : (haveI := Cert.Kernel19Ideal.Gen.facts; haveI := Cert.Reference19Ideal.Gen.facts
    Cert.algebraic_Kernel19Ideal_Reference19Ideal) := by
  intro m ρ m' ρ' _ hm
  refine ⟨_, run m ρ, ?_⟩
  refine (θ_run (Cert.Reference19Ideal.defs (F := Ideal)) _ _).mono (fun r h c => ?_) (Cert.Reference19Ideal.Value.run (F := Ideal) m' ρ')
  obtain ⟨r1, ra⟩ := h c
  obtain ⟨h0, h1⟩ := hm c
  refine ⟨r1.trans ?_, ra⟩
  rw [h0, h1]
  funext i
  rw [eq_ix3 i]
  obtain ⟨j, hj⟩ : ∃ j : Fin 4, j = i 0 := ⟨_, rfl⟩
  obtain ⟨p, hp⟩ : ∃ p : Fin 1408, p = i 1 := ⟨_, rfl⟩
  obtain ⟨q, hq⟩ : ∃ q : Fin 2048, q = i 2 := ⟨_, rfl⟩
  rw [← hj, ← hp, ← hq]
  refine (ref_dw _ _ j p q).trans (Eq.trans ?_ (cut_slab _ j p q).symm)
  have h := slab m c j ⟨q.val / 1024, by omega⟩ p ⟨q.val % 1024, by omega⟩
  refine Eq.trans ?_ (h.symm.trans ?_)
  · exact congrArg₂ (dw _ _) (Fin.ext (by show j.val * 1408 + p.val = 1408 * j.val + p.val; omega))
      (Fin.ext (by show q.val = 1024 * (q.val / 1024) + q.val % 1024; omega))
  · exact congrArg (fun z => (Cert.Kernel19Ideal.Gen.dats m 0 c).arrAt 2 Cert.Kernel19Ideal.cfg0.N (ix4 j 1 p z))
      (Fin.ext (by show 1024 * (q.val / 1024) + q.val % 1024 = q.val; omega))

end Cert.Proof.DownGradSecond

end
-- ==== Proof.GateGradSecond.lean ====
/-
  What the launch that computes the second block's gate weights' gradient leaves in memory: the second slab of each shard holds the
  product of the transposed left array with the arriving gradient, summed over four runs of the tokens.
-/
module

public import proofs.«01_k».proof.Proof.Gen.Kernel20Ideal.Frame
public import Idealize.ShloMosaic.Lib.Pipeline.Value
public import Idealize.ShloMosaic.Lib.Pipeline.ValueKit.Basic
public import Idealize.ShloMosaic.Lib.Pointwise
public import proofs.«01_k».proof.Proof.SumFour

@[expose] public section

set_option maxRecDepth 16384

noncomputable section

namespace Cert.Proof.GateGradSecond

open Cert.Kernel20Ideal Cert.Kernel20Ideal.Gen
open Idealize.ShloMosaic Idealize.ShloMosaic.TcCoe
open Idealize.SL Idealize.SL.RA

theorem hz2 : (![0, 0] : Fin 2 → Nat) = fun _ => 0 := funext fun a => by fin_cases a <;> rfl
theorem hz4 : (![0, 0, 0, 0] : Fin 4 → Nat) = fun _ => 0 := funext fun a => by fin_cases a <;> rfl

section body
variable (c : Dev nD) (i : grid0.Coords) (a4 : Memref sig .tc .vmem S1024x1024 .bf16) (h4 : a4.IsWhole)
  (a5 : Memref sig .tc .vmem S1024x1408 .bf16) (h5 : a5.IsWhole) (a7 : Memref sig .tc .vmem S1x1x1024x1408 .bf16) (h7 : a7.IsWhole)
  (a8 : Memref sig .tc .vmem S1024x1408 .f32) (h8 : a8.IsWhole)
  (x0 : Vec Ideal S1024x1024 .bf16) (x1 : Vec Ideal S1024x1408 .bf16) (xs : Vec Ideal S1024x1408 .f32)

/-- The first of a run of four points leaves its product in the accumulator. -/
theorem acc_first (hc0 hc1 hc2) : sout0_A_0 c i a4 h4 a5 h5 a7 h7 a8 h8 hc0 hc1 hc2 x0 x1 = k0_pay1 x0 x1 := by
  unfold sout0_A_0
  rw [View.read_writes_eq_canon _ _ _ (scover0_A_0 c i a4 h4 a5 h5 a7 h7 a8 h8 hc0 hc1 hc2 x0 x1)]
  unfold kernelRun0_A
  dsimp only
  rw [View.canon_unit_zero hz2]
  unfold k0_pay2
  simp only [View.readAt_eq_ld, h4.read_unread, h5.read_unread, View.ld_unit_zero (S := S1024x1024) hz2, View.ld_unit_zero (S := S1024x1408) hz2, shapeCast_self]

/-- A later one adds it. -/
theorem acc_next (hc0 hc1 hc2) : sout0_B_0 c i a4 h4 a5 h5 a7 h7 a8 h8 hc0 hc1 hc2 x0 x1 xs = addf xs (k0_pay1 x0 x1) := by
  unfold sout0_B_0
  rw [View.read_writes_eq_canon _ _ _ (scover0_B_0 c i a4 h4 a5 h5 a7 h7 a8 h8 hc0 hc1 hc2 x0 x1 xs)]
  unfold kernelRun0_B
  dsimp only
  rw [View.canon_unit_zero hz2]
  unfold k0_pay3
  simp only [View.readAt_eq_ld, h4.read_unread, h5.read_unread, h8.read_unread, View.ld_unit_zero (S := S1024x1024) hz2, View.ld_unit_zero (S := S1024x1408) hz2, View.ld_unit_zero (S := S1024x1408) hz2, shapeCast_self]

/-- The last one writes the accumulated sum out. -/
theorem out_last (hc0 hc1 hc2) : out0_C_2 c i a4 h4 a5 h5 a7 h7 a8 h8 hc0 hc1 hc2 x0 x1 xs = k0_pay4 (addf xs (k0_pay1 x0 x1)) := by
  unfold out0_C_2
  rw [View.read_writes_eq_canon _ _ _ (cover0_C_2 c i a4 h4 a5 h5 a7 h7 a8 h8 hc0 hc1 hc2 x0 x1 xs)]
  unfold kernelRun0_C
  dsimp only
  sl_unfold_words
  rw [View.canon_unit_zero hz4]
  unfold k0_pay3
  simp only [View.readAt_eq_ld, h4.read_unread, h5.read_unread, h8.read_unread, View.readCov_unit_zero (S := S1024x1408) _ hz2, View.ld_unit_zero (S := S1024x1024) hz2, View.ld_unit_zero (S := S1024x1408) hz2, View.ld_unit_zero (S := S1024x1408) hz2, shapeCast_self]
end body

variable (m : (ℓ : Loc nD τ sig) → Buf (Elt Ideal) ℓ) (c : Dev nD)

/-- What point `t` adds to the accumulator. -/
abbrev term (t : Fin cfg0.N) : FVec Ideal S1024x1408 .f32 := k0_pay1 (iblk m c 0 t) (iblk m c 1 t)

theorem acc0 (t : Fin cfg0.N) (h : t.val % 4 = 0) : (outsAt0 m c t.val t.isLt).2 = term m c t := by
  rw [outsAt0_A m c t h (by omega) (by omega)]
  dsimp only
  exact acc_first c _ _ _ _ _ _ _ _ _ _ _ _ _ _

theorem acc_step (n : ℕ) (hn : n + 1 < cfg0.N) (h0 : ¬(n + 1) % 4 = 0) (h3 : ¬(n + 1) % 4 = 3) :
    (outsAt0 m c (n + 1) hn).2 = addf (outsAt0 m c n (Nat.lt_of_succ_lt hn)).2 (term m c ⟨n + 1, hn⟩) := by
  rw [outsAt0_B m c ⟨n + 1, hn⟩ h0 (by show 1 ≤ (n + 1) % 4; omega) h3]
  dsimp only
  exact acc_next c _ _ _ _ _ _ _ _ _ _ _ _ _ _ _

theorem out_at (n : ℕ) (hn : n + 1 < cfg0.N) (h3 : (n + 1) % 4 = 3) :
    (outsAt0 m c (n + 1) hn).1 = k0_pay4 (addf (outsAt0 m c n (Nat.lt_of_succ_lt hn)).2 (term m c ⟨n + 1, hn⟩)) := by
  rw [outsAt0_C m c ⟨n + 1, hn⟩ (by show ¬(n + 1) % 4 = 0; omega) (by show 1 ≤ (n + 1) % 4; omega) h3]
  dsimp only
  exact out_last c _ _ _ _ _ _ _ _ _ _ _ _ _ _ _

/-- The point of shard `j`, tile `n` of the model's width and run `r` of the tokens. -/
def pt (j : Fin 4) (n : Fin 2) (r : Fin 4) : Fin cfg0.N := ⟨8 * j.val + 4 * n.val + r.val, lt_of_lt_of_eq (by omega) N_0.symm⟩

/-- What the last point of a run writes out: the four points' terms. -/
theorem out_block (j : Fin 4) (n : Fin 2) : (outsAt0 m c (8 * j.val + 4 * n.val + 2 + 1) (lt_of_lt_of_eq (by omega) N_0.symm)).1
    = k0_pay4 (addf (addf (addf (term m c (pt j n 0)) (term m c (pt j n 1))) (term m c (pt j n 2))) (term m c (pt j n 3))) := by
  rw [out_at m c (8 * j.val + 4 * n.val + 2) _ (by omega), acc_step m c (8 * j.val + 4 * n.val + 1) _ (by omega) (by omega), acc_step m c (8 * j.val + 4 * n.val) _ (by omega) (by omega)]
  rw [acc0 m c (pt j n 0) (by show (8 * j.val + 4 * n.val + 0) % 4 = 0; omega) |> fun e => (show (outsAt0 m c (8 * j.val + 4 * n.val) _).2 = _ from e)]
  rfl

theorem index_eq : ∀ t : Fin cfg0.N,
    (win0_0.index t (0 : Fin 2) = t.val % 4 ∧ win0_0.index t (1 : Fin 2) = t.val / 4 % 2)
    ∧ (win0_1.index t (0 : Fin 2) = t.val % 4 ∧ win0_1.index t (1 : Fin 2) = t.val / 8)
    ∧ (win0_2.index t (0 : Fin 4) = t.val / 8 ∧ win0_2.index t (1 : Fin 4) = 1 ∧ win0_2.index t (2 : Fin 4) = t.val / 4 % 2 ∧ win0_2.index t (3 : Fin 4) = 0) :=
  (by decide +kernel : ∀ t : Fin grid0.N, _)

variable (j : Fin 4) (n : Fin 2) (r : Fin 4) (k : Fin 1024) (a : Fin 1024) (b : Fin 1408)

theorem block0 : (iblk m c 0 (pt j n r) : FVec Ideal S1024x1024 .bf16) (ix2 k a)
    = (m ((c : Thread nD τ).loc main_arg0) : FVec Ideal S4096x2048 .bf16) (ix2 ⟨1024 * r.val + k.val, by omega⟩ ⟨1024 * n.val + a.val, by omega⟩) := by
  obtain ⟨⟨e0, e1⟩, -⟩ := index_eq (pt j n r)
  refine (?_ : _ = (V m c main_arg0 : FVec Ideal S4096x2048 .bf16) _).trans (congrFun (V_main_arg0 m c) _)
  show V m c main_arg0 (((cfg0.win 0).blk (pt j n r)).view.emb _) = _
  congr 1
  funext z; apply Fin.ext
  match z with
  | ⟨0, _⟩ => show win0_0.index (pt j n r) (0 : Fin 2) * 1024 + 1 * k.val = 1024 * r.val + k.val; rw [e0]; show (8 * j.val + 4 * n.val + r.val) % 4 * 1024 + _ = _; omega
  | ⟨1, _⟩ => show win0_0.index (pt j n r) (1 : Fin 2) * 1024 + 1 * a.val = 1024 * n.val + a.val; rw [e1]; show (8 * j.val + 4 * n.val + r.val) / 4 % 2 * 1024 + _ = _; omega

theorem block1 : (iblk m c 1 (pt j n r) : FVec Ideal S1024x1408 .bf16) (ix2 k b)
    = (m ((c : Thread nD τ).loc main_arg1) : FVec Ideal S4096x5632 .bf16) (ix2 ⟨1024 * r.val + k.val, by omega⟩ ⟨1408 * j.val + b.val, by omega⟩) := by
  obtain ⟨-, ⟨e0, e1⟩, -⟩ := index_eq (pt j n r)
  refine (?_ : _ = (V m c main_arg1 : FVec Ideal S4096x5632 .bf16) _).trans (congrFun (V_main_arg1 m c) _)
  show V m c main_arg1 (((cfg0.win 1).blk (pt j n r)).view.emb _) = _
  congr 1
  funext z; apply Fin.ext
  match z with
  | ⟨0, _⟩ => show win0_1.index (pt j n r) (0 : Fin 2) * 1024 + 1 * k.val = 1024 * r.val + k.val; rw [e0]; show (8 * j.val + 4 * n.val + r.val) % 4 * 1024 + _ = _; omega
  | ⟨1, _⟩ => show win0_1.index (pt j n r) (1 : Fin 2) * 1408 + 1 * b.val = 1408 * j.val + b.val; rw [e1]; show (8 * j.val + 4 * n.val + r.val) / 8 * 1408 + _ = _; omega

/-- The weight's gradient: `xᵀ · y`. -/
def dw (x : FVec Ideal S4096x2048 .bf16) (y : FVec Ideal S4096x5632 .bf16) (p : Fin 2048) (q : Fin 5632) : EReal :=
  ∑ k : Fin 4096, x (ix2 k p) * y (ix2 k q)

/-- The part of it one run of the tokens gives. -/
def part (x : FVec Ideal S4096x2048 .bf16) (y : FVec Ideal S4096x5632 .bf16) (p : Fin 2048) (q : Fin 5632) (r : Fin 4) : EReal :=
  ∑ k : Fin 1024, x (ix2 ⟨1024 * r.val + k.val, by omega⟩ p) * y (ix2 ⟨1024 * r.val + k.val, by omega⟩ q)

theorem dw_parts (x : FVec Ideal S4096x2048 .bf16) (y : FVec Ideal S4096x5632 .bf16) (p : Fin 2048) (q : Fin 5632) :
    dw x y p q = part x y p q 0 + part x y p q 1 + part x y p q 2 + part x y p q 3 := by
  unfold dw part
  rw [sum_four (n := 1024) (by norm_num)]
  rfl

/-- What a point adds, of the arguments. -/
theorem term_apply : term m c (pt j n r) (ix2 a b)
    = part (m ((c : Thread nD τ).loc main_arg0)) (m ((c : Thread nD τ).loc main_arg1)) ⟨1024 * n.val + a.val, by omega⟩ ⟨1408 * j.val + b.val, by omega⟩ r := by
  unfold term part
  pointwise [k0_pay1]
  simp only [block0 m c j n r _ a, block1 m c j n r _ b]

/-- What a run's last point writes out, of the arguments. -/
theorem out_apply : (outsAt0 m c (8 * j.val + 4 * n.val + 2 + 1) (lt_of_lt_of_eq (by omega) N_0.symm)).1 (ix4 0 0 a b)
    = dw (m ((c : Thread nD τ).loc main_arg0)) (m ((c : Thread nD τ).loc main_arg1)) ⟨1024 * n.val + a.val, by omega⟩ ⟨1408 * j.val + b.val, by omega⟩ := by
  rw [out_block, dw_parts, ← term_apply m c, ← term_apply m c, ← term_apply m c, ← term_apply m c]
  pointwise [k0_pay4]

/-- Two points that write out different runs write disjoint blocks. -/
theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne <| by
    obtain ⟨-, -, e0, -, e2, e3⟩ := index_eq t
    obtain ⟨-, -, f0, -, f2, f3⟩ := index_eq t'
    have g := (flush0_2 t).mp hf
    have g' := (flush0_2 t').mp hf'
    have h0 : win0_2.index t (0 : Fin 4) = win0_2.index t' (0 : Fin 4) := congrFun h 0
    have h2 : win0_2.index t (2 : Fin 4) = win0_2.index t' (2 : Fin 4) := congrFun h 2
    have h3 : win0_2.index t (3 : Fin 4) = win0_2.index t' (3 : Fin 4) := congrFun h 3
    exact Fin.ext (by omega)

/-- Where the written blocks lie: entry `(j, 1, …)` of the array. -/
theorem emb_eq : ((cfg0.win 2).blk (pt j n 3)).view.emb (ix4 0 0 a b) = (ix4 j 1 ⟨1024 * n.val + a.val, by omega⟩ b : S4x2x2048x1408.Idx) := by
  obtain ⟨-, -, e0, e1, e2, e3⟩ := index_eq (pt j n 3)
  funext z; apply Fin.ext
  match z with
  | ⟨0, _⟩ => show win0_2.index (pt j n 3) (0 : Fin 4) * 1 + 1 * 0 = j.val; rw [e0]; show (8 * j.val + 4 * n.val + 3) / 8 * 1 + _ = _; omega
  | ⟨1, _⟩ => show win0_2.index (pt j n 3) (1 : Fin 4) * 1 + 1 * 0 = 1; rw [e1]
  | ⟨2, _⟩ => show win0_2.index (pt j n 3) (2 : Fin 4) * 1024 + 1 * a.val = 1024 * n.val + a.val; rw [e2]; show (8 * j.val + 4 * n.val + 3) / 4 % 2 * 1024 + _ = _; omega
  | ⟨3, _⟩ => show win0_2.index (pt j n 3) (3 : Fin 4) * 1408 + 1 * b.val = b.val; rw [e3]; omega

/-- What a point writes back is what it leaves in its block. -/
theorem flushed2 (t : Fin cfg0.N) : (dats m 0 c).flushed 2 t = (cfg0.win 2).cut (grid0.coords t) ((outsAt0 m c t.val t.isLt).1) := by
  show (cfg0.win 2).cut (grid0.coords t) ((dats m 0 c).after 2 t) = _
  rw [after0_2]

/-- The second slab of the array after the launch: the gradient, shard by shard. -/
theorem slab : ((dats m 0 c).arrAt 2 cfg0.N : FVec Ideal S4x2x2048x1408 .bf16) (ix4 j 1 ⟨1024 * n.val + a.val, by omega⟩ b)
    = dw (m ((c : Thread nD τ).loc main_arg0)) (m ((c : Thread nD τ).loc main_arg1)) ⟨1024 * n.val + a.val, by omega⟩ ⟨1408 * j.val + b.val, by omega⟩ := by
  have hf : (cfg0.win 2).flush (pt j n 3) = true := (flush0_2 _).mpr (by show (8 * j.val + 4 * n.val + 3) % 4 = 3; omega)
  have h := congrFun ((dats m 0 c).read_blk_arrAt_eq_flushed 2 disjoint2 cfg0.N (pt j n 3) (pt j n 3).isLt hf) (ix4 0 0 a b)
  rw [← emb_eq j n a b]
  refine (show _ = _ from h).trans ?_
  rw [flushed2]
  exact out_apply m c j n a b

end Cert.Proof.GateGradSecond

end
-- ==== Proof.GateGradSecondEq.lean ====
/-
  The claims about the launch that computes the second block's gate weights' gradient: its frames, and the equality of the slab it
  returns with the reference's gradient, whatever the numbers.
-/
module

public import proofs.«01_k».proof.Defs
public import proofs.«01_k».proof.Proof.GateGradSecond
public import proofs.«01_k».proof.Proof.Gen.Kernel20.Frame
public import proofs.«01_k».proof.Proof.Gen.Reference20Ideal
public import proofs.«01_k».proof.Proof.Gen.Reference20Ideal.Run
public import Idealize.ShloMosaic.Lib.Quiescent

@[expose] public section

set_option maxRecDepth 16384

noncomputable section

namespace Cert.Proof.GateGradSecond

open Idealize.ShloMosaic Idealize.ShloMosaic.TcCoe Idealize.SL.Sem

section
open Cert.Reference20Ideal Cert.Reference20Ideal.Gen

/-- The reference's gradient, before the shards are stacked. -/
theorem ref_dw (x0 : FVec Ideal S4096x2048 .bf16) (x1 : FVec Ideal S4096x5632 .bf16) (j : Fin 4) (p : Fin 2048) (q : Fin 1408) :
    (truncf .bf16 (transpose S4x2048x1408 [1, 0, 2] (shapeCast S2048x4x1408 (transpose S2048x5632 [1, 0] (Host.dotGeneral dot_S4096x5632_S4096x2048_S5632x2048_0_0_1_1_n_n none (extf .f32 x1 bitsLt_bf16_f32) (extf .f32 x0 bitsLt_bf16_f32)) transposes_S5632x2048_S2048x5632_1_0) shapeCasts_S2048x5632_S2048x4x1408) transposes_S2048x4x1408_S4x2048x1408_1_0_2) bitsLt_bf16_f32 : FVec Ideal S4x2048x1408 .bf16) (ix3 j p q)
      = dw x0 x1 p ⟨j.val * 1408 + q.val, by omega⟩ := by
  pointwise
  unfold dw
  exact Finset.sum_congr rfl fun k _ => by rw [mul_comm]

end

/-- The kernel's frame. -/
theorem frame_kernel : (haveI := Cert.Kernel20.Gen.facts; Cert.quiescent_Kernel20) := fun m ρ _ => Cert.Kernel20.Gen.frame m ρ

/-- Its idealization's. -/
theorem frame_ideal : (haveI := Cert.Kernel20Ideal.Gen.facts; Cert.quiescent_Kernel20Ideal) := fun m ρ _ => Cert.Kernel20Ideal.Gen.frame m ρ

/-- The reference's. -/
theorem frame_reference : (haveI := Cert.Reference20Ideal.Gen.facts; Cert.quiescent_Reference20Ideal) := fun m ρ _ =>
  (θ_run (Cert.Reference20Ideal.defs (F := Ideal)) _ _).mono (fun _ h => ⟨fun c => (h c).2, sem_eq_zero_of_no_sems rfl _⟩)
    (Cert.Reference20Ideal.Value.run (F := Ideal) m ρ)

section
open Cert.Kernel20Ideal Cert.Kernel20Ideal.Gen

/-- The slab the lines after the launch cut out. -/
theorem cut_slab (x : FVec Ideal S4x2x2048x1408 .bf16) (j : Fin 4) (p : Fin 2048) (q : Fin 1408) :
    (shapeCast S4x2048x1408 (extractStridedSlice S4x1x2048x1408 ![0, 1, 0, 0] x slices_S4x2x2048x1408_S4x1x2048x1408_0_1_0_0) shapeCasts_S4x1x2048x1408_S4x2048x1408 : FVec Ideal S4x2048x1408 .bf16) (ix3 j p q)
      = x (ix4 j 1 p q) := by
  pointwise

/-- What the two lines after the launch leave in the result. -/
theorem tail_read (m : (ℓ : Loc nD τ sig) → Buf (Elt Ideal) ℓ) (c : Dev nD) :
    Pipeline.afterTail₀ cfgs (dats m) 0 (V0 m) [hostOps1] c main_v2
      = shapeCast S4x2048x1408 (extractStridedSlice S4x1x2048x1408 ![0, 1, 0, 0] ((dats m 0 c).arrAt 2 cfg0.N) slices_S4x2x2048x1408_S4x1x2048x1408_0_1_0_0) shapeCasts_S4x1x2048x1408_S4x2048x1408 := by
  have h := Pipeline.withArrays_arr spec0 (by decide) c (V0 m c) (fun w => (dats m 0 c).arrAt w cfg0.N) 2
  refine Eq.trans ?_ (congrArg (fun x => shapeCast S4x2048x1408 (extractStridedSlice S4x1x2048x1408 ![0, 1, 0, 0] x slices_S4x2x2048x1408_S4x1x2048x1408_0_1_0_0) shapeCasts_S4x1x2048x1408_S4x2048x1408) h)
  show StableHlo.after hostOps1 _ (Proc.devRef .tc main_v2) = _
  after_results
  rfl

/-- The run: the result is the second slab of the launch's array, the arguments are as given. -/
theorem run (m : (ℓ : Loc nD τ sig) → Buf (Elt Ideal) ℓ) (ρ : Dev nD → PrngReg) :
    θ_run (defs (F := Ideal)) (onTc (τ := τ) main) ⟨m, fun _ => 0, ρ⟩ fun r => ∀ c : Dev nD,
      r.2.mem ((c.tc : Thread nD τ).loc main_v2) = shapeCast S4x2048x1408 (extractStridedSlice S4x1x2048x1408 ![0, 1, 0, 0] ((dats m 0 c).arrAt 2 cfg0.N) slices_S4x2x2048x1408_S4x1x2048x1408_0_1_0_0) shapeCasts_S4x1x2048x1408_S4x2048x1408
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).2 main_v2 (by decide)).trans (tail_read m c), h.2 c⟩)
    (θ_run_and (run_main m ρ) (unchanged m ρ))

end

/-- The kernel and the reference compute the same gradient. -/
theorem algebraic : (haveI := Cert.Kernel20Ideal.Gen.facts; haveI := Cert.Reference20Ideal.Gen.facts
    Cert.algebraic_Kernel20Ideal_Reference20Ideal) := by
  intro m ρ m' ρ' _ hm
  refine ⟨_, run m ρ, ?_⟩
  refine (θ_run (Cert.Reference20Ideal.defs (F := Ideal)) _ _).mono (fun r h c => ?_) (Cert.Reference20Ideal.Value.run (F := Ideal) m' ρ')
  obtain ⟨r1, ra⟩ := h c
  obtain ⟨h0, h1⟩ := hm c
  refine ⟨r1.trans ?_, ra⟩
  rw [h0, h1]
  funext i
  rw [eq_ix3 i]
  obtain ⟨j, hj⟩ : ∃ j : Fin 4, j = i 0 := ⟨_, rfl⟩
  obtain ⟨p, hp⟩ : ∃ p : Fin 2048, p = i 1 := ⟨_, rfl⟩
  obtain ⟨q, hq⟩ : ∃ q : Fin 1408, q = i 2 := ⟨_, rfl⟩
  rw [← hj, ← hp, ← hq]
  refine (ref_dw _ _ j p q).trans (Eq.trans ?_ (cut_slab _ j p q).symm)
  have h := slab m c j ⟨p.val / 1024, by omega⟩ ⟨p.val % 1024, by omega⟩ q
  refine Eq.trans ?_ (h.symm.trans ?_)
  · exact congrArg₂ (dw _ _) (Fin.ext (by show p.val = 1024 * (p.val / 1024) + p.val % 1024; omega))
      (Fin.ext (by show j.val * 1408 + q.val = 1408 * j.val + q.val; omega))
  · exact congrArg (fun z => (Cert.Kernel20Ideal.Gen.dats m 0 c).arrAt 2 Cert.Kernel20Ideal.cfg0.N (ix4 j 1 z q))
      (Fin.ext (by show 1024 * (p.val / 1024) + p.val % 1024 = p.val; omega))

end Cert.Proof.GateGradSecond

end
-- ==== Proof.UpGradSecond.lean ====
/-
  What the launch that computes the second block's up weights' gradient leaves in memory: the second slab of each shard holds the
  product of the transposed left array with the arriving gradient, summed over four runs of the tokens.
-/
module

public import proofs.«01_k».proof.Proof.Gen.Kernel21Ideal.Frame
public import Idealize.ShloMosaic.Lib.Pipeline.Value
public import Idealize.ShloMosaic.Lib.Pipeline.ValueKit.Basic
public import Idealize.ShloMosaic.Lib.Pointwise
public import proofs.«01_k».proof.Proof.SumFour

@[expose] public section

set_option maxRecDepth 16384

noncomputable section

namespace Cert.Proof.UpGradSecond

open Cert.Kernel21Ideal Cert.Kernel21Ideal.Gen
open Idealize.ShloMosaic Idealize.ShloMosaic.TcCoe
open Idealize.SL Idealize.SL.RA

theorem hz2 : (![0, 0] : Fin 2 → Nat) = fun _ => 0 := funext fun a => by fin_cases a <;> rfl
theorem hz4 : (![0, 0, 0, 0] : Fin 4 → Nat) = fun _ => 0 := funext fun a => by fin_cases a <;> rfl

section body
variable (c : Dev nD) (i : grid0.Coords) (a4 : Memref sig .tc .vmem S1024x1024 .bf16) (h4 : a4.IsWhole)
  (a5 : Memref sig .tc .vmem S1024x1408 .bf16) (h5 : a5.IsWhole) (a7 : Memref sig .tc .vmem S1x1x1024x1408 .bf16) (h7 : a7.IsWhole)
  (a8 : Memref sig .tc .vmem S1024x1408 .f32) (h8 : a8.IsWhole)
  (x0 : Vec Ideal S1024x1024 .bf16) (x1 : Vec Ideal S1024x1408 .bf16) (xs : Vec Ideal S1024x1408 .f32)

/-- The first of a run of four points leaves its product in the accumulator. -/
theorem acc_first (hc0 hc1 hc2) : sout0_A_0 c i a4 h4 a5 h5 a7 h7 a8 h8 hc0 hc1 hc2 x0 x1 = k0_pay1 x0 x1 := by
  unfold sout0_A_0
  rw [View.read_writes_eq_canon _ _ _ (scover0_A_0 c i a4 h4 a5 h5 a7 h7 a8 h8 hc0 hc1 hc2 x0 x1)]
  unfold kernelRun0_A
  dsimp only
  rw [View.canon_unit_zero hz2]
  unfold k0_pay2
  simp only [View.readAt_eq_ld, h4.read_unread, h5.read_unread, View.ld_unit_zero (S := S1024x1024) hz2, View.ld_unit_zero (S := S1024x1408) hz2, shapeCast_self]

/-- A later one adds it. -/
theorem acc_next (hc0 hc1 hc2) : sout0_B_0 c i a4 h4 a5 h5 a7 h7 a8 h8 hc0 hc1 hc2 x0 x1 xs = addf xs (k0_pay1 x0 x1) := by
  unfold sout0_B_0
  rw [View.read_writes_eq_canon _ _ _ (scover0_B_0 c i a4 h4 a5 h5 a7 h7 a8 h8 hc0 hc1 hc2 x0 x1 xs)]
  unfold kernelRun0_B
  dsimp only
  rw [View.canon_unit_zero hz2]
  unfold k0_pay3
  simp only [View.readAt_eq_ld, h4.read_unread, h5.read_unread, h8.read_unread, View.ld_unit_zero (S := S1024x1024) hz2, View.ld_unit_zero (S := S1024x1408) hz2, View.ld_unit_zero (S := S1024x1408) hz2, shapeCast_self]

/-- The last one writes the accumulated sum out. -/
theorem out_last (hc0 hc1 hc2) : out0_C_2 c i a4 h4 a5 h5 a7 h7 a8 h8 hc0 hc1 hc2 x0 x1 xs = k0_pay4 (addf xs (k0_pay1 x0 x1)) := by
  unfold out0_C_2
  rw [View.read_writes_eq_canon _ _ _ (cover0_C_2 c i a4 h4 a5 h5 a7 h7 a8 h8 hc0 hc1 hc2 x0 x1 xs)]
  unfold kernelRun0_C
  dsimp only
  sl_unfold_words
  rw [View.canon_unit_zero hz4]
  unfold k0_pay3
  simp only [View.readAt_eq_ld, h4.read_unread, h5.read_unread, h8.read_unread, View.readCov_unit_zero (S := S1024x1408) _ hz2, View.ld_unit_zero (S := S1024x1024) hz2, View.ld_unit_zero (S := S1024x1408) hz2, View.ld_unit_zero (S := S1024x1408) hz2, shapeCast_self]
end body

variable (m : (ℓ : Loc nD τ sig) → Buf (Elt Ideal) ℓ) (c : Dev nD)

/-- What point `t` adds to the accumulator. -/
abbrev term (t : Fin cfg0.N) : FVec Ideal S1024x1408 .f32 := k0_pay1 (iblk m c 0 t) (iblk m c 1 t)

theorem acc0 (t : Fin cfg0.N) (h : t.val % 4 = 0) : (outsAt0 m c t.val t.isLt).2 = term m c t := by
  rw [outsAt0_A m c t h (by omega) (by omega)]
  dsimp only
  exact acc_first c _ _ _ _ _ _ _ _ _ _ _ _ _ _

theorem acc_step (n : ℕ) (hn : n + 1 < cfg0.N) (h0 : ¬(n + 1) % 4 = 0) (h3 : ¬(n + 1) % 4 = 3) :
    (outsAt0 m c (n + 1) hn).2 = addf (outsAt0 m c n (Nat.lt_of_succ_lt hn)).2 (term m c ⟨n + 1, hn⟩) := by
  rw [outsAt0_B m c ⟨n + 1, hn⟩ h0 (by show 1 ≤ (n + 1) % 4; omega) h3]
  dsimp only
  exact acc_next c _ _ _ _ _ _ _ _ _ _ _ _ _ _ _

theorem out_at (n : ℕ) (hn : n + 1 < cfg0.N) (h3 : (n + 1) % 4 = 3) :
    (outsAt0 m c (n + 1) hn).1 = k0_pay4 (addf (outsAt0 m c n (Nat.lt_of_succ_lt hn)).2 (term m c ⟨n + 1, hn⟩)) := by
  rw [outsAt0_C m c ⟨n + 1, hn⟩ (by show ¬(n + 1) % 4 = 0; omega) (by show 1 ≤ (n + 1) % 4; omega) h3]
  dsimp only
  exact out_last c _ _ _ _ _ _ _ _ _ _ _ _ _ _ _

/-- The point of shard `j`, tile `n` of the model's width and run `r` of the tokens. -/
def pt (j : Fin 4) (n : Fin 2) (r : Fin 4) : Fin cfg0.N := ⟨8 * j.val + 4 * n.val + r.val, lt_of_lt_of_eq (by omega) N_0.symm⟩

/-- What the last point of a run writes out: the four points' terms. -/
theorem out_block (j : Fin 4) (n : Fin 2) : (outsAt0 m c (8 * j.val + 4 * n.val + 2 + 1) (lt_of_lt_of_eq (by omega) N_0.symm)).1
    = k0_pay4 (addf (addf (addf (term m c (pt j n 0)) (term m c (pt j n 1))) (term m c (pt j n 2))) (term m c (pt j n 3))) := by
  rw [out_at m c (8 * j.val + 4 * n.val + 2) _ (by omega), acc_step m c (8 * j.val + 4 * n.val + 1) _ (by omega) (by omega), acc_step m c (8 * j.val + 4 * n.val) _ (by omega) (by omega)]
  rw [acc0 m c (pt j n 0) (by show (8 * j.val + 4 * n.val + 0) % 4 = 0; omega) |> fun e => (show (outsAt0 m c (8 * j.val + 4 * n.val) _).2 = _ from e)]
  rfl

theorem index_eq : ∀ t : Fin cfg0.N,
    (win0_0.index t (0 : Fin 2) = t.val % 4 ∧ win0_0.index t (1 : Fin 2) = t.val / 4 % 2)
    ∧ (win0_1.index t (0 : Fin 2) = t.val % 4 ∧ win0_1.index t (1 : Fin 2) = t.val / 8)
    ∧ (win0_2.index t (0 : Fin 4) = t.val / 8 ∧ win0_2.index t (1 : Fin 4) = 1 ∧ win0_2.index t (2 : Fin 4) = t.val / 4 % 2 ∧ win0_2.index t (3 : Fin 4) = 0) :=
  (by decide +kernel : ∀ t : Fin grid0.N, _)

variable (j : Fin 4) (n : Fin 2) (r : Fin 4) (k : Fin 1024) (a : Fin 1024) (b : Fin 1408)

theorem block0 : (iblk m c 0 (pt j n r) : FVec Ideal S1024x1024 .bf16) (ix2 k a)
    = (m ((c : Thread nD τ).loc main_arg0) : FVec Ideal S4096x2048 .bf16) (ix2 ⟨1024 * r.val + k.val, by omega⟩ ⟨1024 * n.val + a.val, by omega⟩) := by
  obtain ⟨⟨e0, e1⟩, -⟩ := index_eq (pt j n r)
  refine (?_ : _ = (V m c main_arg0 : FVec Ideal S4096x2048 .bf16) _).trans (congrFun (V_main_arg0 m c) _)
  show V m c main_arg0 (((cfg0.win 0).blk (pt j n r)).view.emb _) = _
  congr 1
  funext z; apply Fin.ext
  match z with
  | ⟨0, _⟩ => show win0_0.index (pt j n r) (0 : Fin 2) * 1024 + 1 * k.val = 1024 * r.val + k.val; rw [e0]; show (8 * j.val + 4 * n.val + r.val) % 4 * 1024 + _ = _; omega
  | ⟨1, _⟩ => show win0_0.index (pt j n r) (1 : Fin 2) * 1024 + 1 * a.val = 1024 * n.val + a.val; rw [e1]; show (8 * j.val + 4 * n.val + r.val) / 4 % 2 * 1024 + _ = _; omega

theorem block1 : (iblk m c 1 (pt j n r) : FVec Ideal S1024x1408 .bf16) (ix2 k b)
    = (m ((c : Thread nD τ).loc main_arg1) : FVec Ideal S4096x5632 .bf16) (ix2 ⟨1024 * r.val + k.val, by omega⟩ ⟨1408 * j.val + b.val, by omega⟩) := by
  obtain ⟨-, ⟨e0, e1⟩, -⟩ := index_eq (pt j n r)
  refine (?_ : _ = (V m c main_arg1 : FVec Ideal S4096x5632 .bf16) _).trans (congrFun (V_main_arg1 m c) _)
  show V m c main_arg1 (((cfg0.win 1).blk (pt j n r)).view.emb _) = _
  congr 1
  funext z; apply Fin.ext
  match z with
  | ⟨0, _⟩ => show win0_1.index (pt j n r) (0 : Fin 2) * 1024 + 1 * k.val = 1024 * r.val + k.val; rw [e0]; show (8 * j.val + 4 * n.val + r.val) % 4 * 1024 + _ = _; omega
  | ⟨1, _⟩ => show win0_1.index (pt j n r) (1 : Fin 2) * 1408 + 1 * b.val = 1408 * j.val + b.val; rw [e1]; show (8 * j.val + 4 * n.val + r.val) / 8 * 1408 + _ = _; omega

/-- The weight's gradient: `xᵀ · y`. -/
def dw (x : FVec Ideal S4096x2048 .bf16) (y : FVec Ideal S4096x5632 .bf16) (p : Fin 2048) (q : Fin 5632) : EReal :=
  ∑ k : Fin 4096, x (ix2 k p) * y (ix2 k q)

/-- The part of it one run of the tokens gives. -/
def part (x : FVec Ideal S4096x2048 .bf16) (y : FVec Ideal S4096x5632 .bf16) (p : Fin 2048) (q : Fin 5632) (r : Fin 4) : EReal :=
  ∑ k : Fin 1024, x (ix2 ⟨1024 * r.val + k.val, by omega⟩ p) * y (ix2 ⟨1024 * r.val + k.val, by omega⟩ q)

theorem dw_parts (x : FVec Ideal S4096x2048 .bf16) (y : FVec Ideal S4096x5632 .bf16) (p : Fin 2048) (q : Fin 5632) :
    dw x y p q = part x y p q 0 + part x y p q 1 + part x y p q 2 + part x y p q 3 := by
  unfold dw part
  rw [sum_four (n := 1024) (by norm_num)]
  rfl

/-- What a point adds, of the arguments. -/
theorem term_apply : term m c (pt j n r) (ix2 a b)
    = part (m ((c : Thread nD τ).loc main_arg0)) (m ((c : Thread nD τ).loc main_arg1)) ⟨1024 * n.val + a.val, by omega⟩ ⟨1408 * j.val + b.val, by omega⟩ r := by
  unfold term part
  pointwise [k0_pay1]
  simp only [block0 m c j n r _ a, block1 m c j n r _ b]

/-- What a run's last point writes out, of the arguments. -/
theorem out_apply : (outsAt0 m c (8 * j.val + 4 * n.val + 2 + 1) (lt_of_lt_of_eq (by omega) N_0.symm)).1 (ix4 0 0 a b)
    = dw (m ((c : Thread nD τ).loc main_arg0)) (m ((c : Thread nD τ).loc main_arg1)) ⟨1024 * n.val + a.val, by omega⟩ ⟨1408 * j.val + b.val, by omega⟩ := by
  rw [out_block, dw_parts, ← term_apply m c, ← term_apply m c, ← term_apply m c, ← term_apply m c]
  pointwise [k0_pay4]

/-- Two points that write out different runs write disjoint blocks. -/
theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne <| by
    obtain ⟨-, -, e0, -, e2, e3⟩ := index_eq t
    obtain ⟨-, -, f0, -, f2, f3⟩ := index_eq t'
    have g := (flush0_2 t).mp hf
    have g' := (flush0_2 t').mp hf'
    have h0 : win0_2.index t (0 : Fin 4) = win0_2.index t' (0 : Fin 4) := congrFun h 0
    have h2 : win0_2.index t (2 : Fin 4) = win0_2.index t' (2 : Fin 4) := congrFun h 2
    have h3 : win0_2.index t (3 : Fin 4) = win0_2.index t' (3 : Fin 4) := congrFun h 3
    exact Fin.ext (by omega)

/-- Where the written blocks lie: entry `(j, 1, …)` of the array. -/
theorem emb_eq : ((cfg0.win 2).blk (pt j n 3)).view.emb (ix4 0 0 a b) = (ix4 j 1 ⟨1024 * n.val + a.val, by omega⟩ b : S4x2x2048x1408.Idx) := by
  obtain ⟨-, -, e0, e1, e2, e3⟩ := index_eq (pt j n 3)
  funext z; apply Fin.ext
  match z with
  | ⟨0, _⟩ => show win0_2.index (pt j n 3) (0 : Fin 4) * 1 + 1 * 0 = j.val; rw [e0]; show (8 * j.val + 4 * n.val + 3) / 8 * 1 + _ = _; omega
  | ⟨1, _⟩ => show win0_2.index (pt j n 3) (1 : Fin 4) * 1 + 1 * 0 = 1; rw [e1]
  | ⟨2, _⟩ => show win0_2.index (pt j n 3) (2 : Fin 4) * 1024 + 1 * a.val = 1024 * n.val + a.val; rw [e2]; show (8 * j.val + 4 * n.val + 3) / 4 % 2 * 1024 + _ = _; omega
  | ⟨3, _⟩ => show win0_2.index (pt j n 3) (3 : Fin 4) * 1408 + 1 * b.val = b.val; rw [e3]; omega

/-- What a point writes back is what it leaves in its block. -/
theorem flushed2 (t : Fin cfg0.N) : (dats m 0 c).flushed 2 t = (cfg0.win 2).cut (grid0.coords t) ((outsAt0 m c t.val t.isLt).1) := by
  show (cfg0.win 2).cut (grid0.coords t) ((dats m 0 c).after 2 t) = _
  rw [after0_2]

/-- The second slab of the array after the launch: the gradient, shard by shard. -/
theorem slab : ((dats m 0 c).arrAt 2 cfg0.N : FVec Ideal S4x2x2048x1408 .bf16) (ix4 j 1 ⟨1024 * n.val + a.val, by omega⟩ b)
    = dw (m ((c : Thread nD τ).loc main_arg0)) (m ((c : Thread nD τ).loc main_arg1)) ⟨1024 * n.val + a.val, by omega⟩ ⟨1408 * j.val + b.val, by omega⟩ := by
  have hf : (cfg0.win 2).flush (pt j n 3) = true := (flush0_2 _).mpr (by show (8 * j.val + 4 * n.val + 3) % 4 = 3; omega)
  have h := congrFun ((dats m 0 c).read_blk_arrAt_eq_flushed 2 disjoint2 cfg0.N (pt j n 3) (pt j n 3).isLt hf) (ix4 0 0 a b)
  rw [← emb_eq j n a b]
  refine (show _ = _ from h).trans ?_
  rw [flushed2]
  exact out_apply m c j n a b

end Cert.Proof.UpGradSecond

end
-- ==== Proof.UpGradSecondEq.lean ====
/-
  The claims about the launch that computes the second block's up weights' gradient: its frames, and the equality of the slab it
  returns with the reference's gradient, whatever the numbers.
-/
module

public import proofs.«01_k».proof.Defs
public import proofs.«01_k».proof.Proof.UpGradSecond
public import proofs.«01_k».proof.Proof.Gen.Kernel21.Frame
public import proofs.«01_k».proof.Proof.Gen.Reference21Ideal
public import proofs.«01_k».proof.Proof.Gen.Reference21Ideal.Run
public import Idealize.ShloMosaic.Lib.Quiescent

@[expose] public section

set_option maxRecDepth 16384

noncomputable section

namespace Cert.Proof.UpGradSecond

open Idealize.ShloMosaic Idealize.ShloMosaic.TcCoe Idealize.SL.Sem

section
open Cert.Reference21Ideal Cert.Reference21Ideal.Gen

/-- The reference's gradient, before the shards are stacked. -/
theorem ref_dw (x0 : FVec Ideal S4096x2048 .bf16) (x1 : FVec Ideal S4096x5632 .bf16) (j : Fin 4) (p : Fin 2048) (q : Fin 1408) :
    (truncf .bf16 (transpose S4x2048x1408 [1, 0, 2] (shapeCast S2048x4x1408 (transpose S2048x5632 [1, 0] (Host.dotGeneral dot_S4096x5632_S4096x2048_S5632x2048_0_0_1_1_n_n none (extf .f32 x1 bitsLt_bf16_f32) (extf .f32 x0 bitsLt_bf16_f32)) transposes_S5632x2048_S2048x5632_1_0) shapeCasts_S2048x5632_S2048x4x1408) transposes_S2048x4x1408_S4x2048x1408_1_0_2) bitsLt_bf16_f32 : FVec Ideal S4x2048x1408 .bf16) (ix3 j p q)
      = dw x0 x1 p ⟨j.val * 1408 + q.val, by omega⟩ := by
  pointwise
  unfold dw
  exact Finset.sum_congr rfl fun k _ => by rw [mul_comm]

end

/-- The kernel's frame. -/
theorem frame_kernel : (haveI := Cert.Kernel21.Gen.facts; Cert.quiescent_Kernel21) := fun m ρ _ => Cert.Kernel21.Gen.frame m ρ

/-- Its idealization's. -/
theorem frame_ideal : (haveI := Cert.Kernel21Ideal.Gen.facts; Cert.quiescent_Kernel21Ideal) := fun m ρ _ => Cert.Kernel21Ideal.Gen.frame m ρ

/-- The reference's. -/
theorem frame_reference : (haveI := Cert.Reference21Ideal.Gen.facts; Cert.quiescent_Reference21Ideal) := fun m ρ _ =>
  (θ_run (Cert.Reference21Ideal.defs (F := Ideal)) _ _).mono (fun _ h => ⟨fun c => (h c).2, sem_eq_zero_of_no_sems rfl _⟩)
    (Cert.Reference21Ideal.Value.run (F := Ideal) m ρ)

section
open Cert.Kernel21Ideal Cert.Kernel21Ideal.Gen

/-- The slab the lines after the launch cut out. -/
theorem cut_slab (x : FVec Ideal S4x2x2048x1408 .bf16) (j : Fin 4) (p : Fin 2048) (q : Fin 1408) :
    (shapeCast S4x2048x1408 (extractStridedSlice S4x1x2048x1408 ![0, 1, 0, 0] x slices_S4x2x2048x1408_S4x1x2048x1408_0_1_0_0) shapeCasts_S4x1x2048x1408_S4x2048x1408 : FVec Ideal S4x2048x1408 .bf16) (ix3 j p q)
      = x (ix4 j 1 p q) := by
  pointwise

/-- What the two lines after the launch leave in the result. -/
theorem tail_read (m : (ℓ : Loc nD τ sig) → Buf (Elt Ideal) ℓ) (c : Dev nD) :
    Pipeline.afterTail₀ cfgs (dats m) 0 (V0 m) [hostOps1] c main_v2
      = shapeCast S4x2048x1408 (extractStridedSlice S4x1x2048x1408 ![0, 1, 0, 0] ((dats m 0 c).arrAt 2 cfg0.N) slices_S4x2x2048x1408_S4x1x2048x1408_0_1_0_0) shapeCasts_S4x1x2048x1408_S4x2048x1408 := by
  have h := Pipeline.withArrays_arr spec0 (by decide) c (V0 m c) (fun w => (dats m 0 c).arrAt w cfg0.N) 2
  refine Eq.trans ?_ (congrArg (fun x => shapeCast S4x2048x1408 (extractStridedSlice S4x1x2048x1408 ![0, 1, 0, 0] x slices_S4x2x2048x1408_S4x1x2048x1408_0_1_0_0) shapeCasts_S4x1x2048x1408_S4x2048x1408) h)
  show StableHlo.after hostOps1 _ (Proc.devRef .tc main_v2) = _
  after_results
  rfl

/-- The run: the result is the second slab of the launch's array, the arguments are as given. -/
theorem run (m : (ℓ : Loc nD τ sig) → Buf (Elt Ideal) ℓ) (ρ : Dev nD → PrngReg) :
    θ_run (defs (F := Ideal)) (onTc (τ := τ) main) ⟨m, fun _ => 0, ρ⟩ fun r => ∀ c : Dev nD,
      r.2.mem ((c.tc : Thread nD τ).loc main_v2) = shapeCast S4x2048x1408 (extractStridedSlice S4x1x2048x1408 ![0, 1, 0, 0] ((dats m 0 c).arrAt 2 cfg0.N) slices_S4x2x2048x1408_S4x1x2048x1408_0_1_0_0) shapeCasts_S4x1x2048x1408_S4x2048x1408
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).2 main_v2 (by decide)).trans (tail_read m c), h.2 c⟩)
    (θ_run_and (run_main m ρ) (unchanged m ρ))

end

/-- The kernel and the reference compute the same gradient. -/
theorem algebraic : (haveI := Cert.Kernel21Ideal.Gen.facts; haveI := Cert.Reference21Ideal.Gen.facts
    Cert.algebraic_Kernel21Ideal_Reference21Ideal) := by
  intro m ρ m' ρ' _ hm
  refine ⟨_, run m ρ, ?_⟩
  refine (θ_run (Cert.Reference21Ideal.defs (F := Ideal)) _ _).mono (fun r h c => ?_) (Cert.Reference21Ideal.Value.run (F := Ideal) m' ρ')
  obtain ⟨r1, ra⟩ := h c
  obtain ⟨h0, h1⟩ := hm c
  refine ⟨r1.trans ?_, ra⟩
  rw [h0, h1]
  funext i
  rw [eq_ix3 i]
  obtain ⟨j, hj⟩ : ∃ j : Fin 4, j = i 0 := ⟨_, rfl⟩
  obtain ⟨p, hp⟩ : ∃ p : Fin 2048, p = i 1 := ⟨_, rfl⟩
  obtain ⟨q, hq⟩ : ∃ q : Fin 1408, q = i 2 := ⟨_, rfl⟩
  rw [← hj, ← hp, ← hq]
  refine (ref_dw _ _ j p q).trans (Eq.trans ?_ (cut_slab _ j p q).symm)
  have h := slab m c j ⟨p.val / 1024, by omega⟩ ⟨p.val % 1024, by omega⟩ q
  refine Eq.trans ?_ (h.symm.trans ?_)
  · exact congrArg₂ (dw _ _) (Fin.ext (by show p.val = 1024 * (p.val / 1024) + p.val % 1024; omega))
      (Fin.ext (by show j.val * 1408 + q.val = 1408 * j.val + q.val; omega))
  · exact congrArg (fun z => (Cert.Kernel21Ideal.Gen.dats m 0 c).arrAt 2 Cert.Kernel21Ideal.cfg0.N (ix4 j 1 z q))
      (Fin.ext (by show 1024 * (p.val / 1024) + p.val % 1024 = p.val; omega))

end Cert.Proof.UpGradSecond

end
-- ==== Proof.ShortConv.lean ====
/-
  The short convolution's formulas, a column at a time, and the two ways they are written: with rotated columns whose entries
  that came round are cleared, and with slices of a column that begins with three zeros.
-/
module

public import proofs.«01_k».proof.Proof.DownBwd
public import Idealize.ShloMosaic.Lib.WordCmp

@[expose] public section

noncomputable section

namespace Cert.Proof.ShortConv

open Idealize.ShloMosaic
open Cert.Proof.DownBwd (sg)

/-- The entry `s` rows earlier; before the first row, zero. -/
def tap (x : Fin 4096 → EReal) (s : Nat) (t : Fin 4096) : EReal := if h : s ≤ t.val then x ⟨t.val - s, by omega⟩ else 0

/-- The entry `s` rows later; after the last row, zero. -/
def lead (x : Fin 4096 → EReal) (s : Nat) (t : Fin 4096) : EReal := if h : t.val + s < 4096 then x ⟨t.val + s, h⟩ else 0

/-- The convolution of a column with four taps. -/
def conv (x : Fin 4096 → EReal) (w : Fin 4 → EReal) (t : Fin 4096) : EReal :=
  w 3 * x t + w 2 * tap x 1 t + w 1 * tap x 2 t + w 0 * tap x 3 t

/-- The convolution's transpose. -/
def tconv (d : Fin 4096 → EReal) (w : Fin 4 → EReal) (t : Fin 4096) : EReal :=
  w 3 * d t + w 2 * lead d 1 t + w 1 * lead d 2 t + w 0 * lead d 3 t

/-- The gradient that arrives at the convolution's result `y`, of one `d` that arrives behind the activation. -/
def dpre (d y : EReal) : EReal := d * sg y * (1 + y * (1 - sg y))

/-- The gradient of tap `j`. -/
def dtap (d x : Fin 4096 → EReal) (j : Fin 4) : EReal := ∑ t, d t * tap x (3 - j.val) t

theorem tap_zero (x : Fin 4096 → EReal) (t : Fin 4096) : tap x 0 t = x t := dif_pos (Nat.zero_le _)

/-- A column rotated down, its entries that came round cleared. -/
theorem back (x : Fin 4096 → EReal) (s : Nat) (hs : s < 4096) (t : Fin 4096) (h : (t.val + 4096 - s) % 4096 < 4096) :
    Scalar.select (IntOp.cmpi .sge (BitVec.ofNat 32 t.val) (BitVec.ofNat 32 s)) (x ⟨(t.val + 4096 - s) % 4096, h⟩) 0 = tap x s t := by
  rw [WordCmp.cmpi_sge_ofNat (by show t.val < 2 ^ 31; omega) (by show s < 2 ^ 31; omega)]
  unfold tap
  split_ifs with hd
  · rw [decide_eq_true hd]
    refine congrArg x (Fin.ext ?_)
    show (t.val + 4096 - s) % 4096 = t.val - s
    omega
  · rw [decide_eq_false hd]; rfl

/-- A column rotated up, likewise. -/
theorem ahead (x : Fin 4096 → EReal) (n s : Nat) (hn : n + s = 4096) (hs : 0 < s) (t : Fin 4096) (h : (t.val + 4096 - n) % 4096 < 4096) :
    Scalar.select (IntOp.cmpi .slt (BitVec.ofNat 32 t.val) (BitVec.ofNat 32 n)) (x ⟨(t.val + 4096 - n) % 4096, h⟩) 0 = lead x s t := by
  rw [WordCmp.cmpi_slt_ofNat (by show t.val < 2 ^ 31; omega) (by show n < 2 ^ 31; omega)]
  unfold lead
  by_cases hd : t.val < n
  · rw [decide_eq_true hd, dif_pos (by omega)]
    refine congrArg x (Fin.ext ?_)
    show (t.val + 4096 - n) % 4096 = t.val + s
    omega
  · rw [decide_eq_false hd, dif_neg (by omega)]; rfl

/-- The same times a number, the product cleared too. -/
theorem mul_back (x : Fin 4096 → EReal) (s : Nat) (hs : s < 4096) (a : EReal) (t : Fin 4096) :
    a * tap x s t = Scalar.select (IntOp.cmpi .sge (BitVec.ofNat 32 t.val) (BitVec.ofNat 32 s))
      (a * x ⟨(t.val + 4096 - s) % 4096, Nat.mod_lt _ (by decide)⟩) 0 := by
  rw [← back x s hs t (Nat.mod_lt _ (by decide))]
  unfold Scalar.select
  split_ifs <;> simp

theorem mul_ahead (x : Fin 4096 → EReal) (n s : Nat) (hn : n + s = 4096) (hs : 0 < s) (a : EReal) (t : Fin 4096) :
    a * lead x s t = Scalar.select (IntOp.cmpi .slt (BitVec.ofNat 32 t.val) (BitVec.ofNat 32 n))
      (a * x ⟨(t.val + 4096 - n) % 4096, Nat.mod_lt _ (by decide)⟩) 0 := by
  rw [← ahead x n s hn hs t (Nat.mod_lt _ (by decide))]
  unfold Scalar.select
  split_ifs <;> simp

/-- Of row `t + j` of a column with three zeros in front: the entry `3 - j` rows earlier. -/
theorem front (x : Fin 4096 → EReal) (j : Fin 4) (t : Fin 4096) (h : ¬ t.val + j.val < 3 → t.val + j.val - 3 < 4096) :
    (if hd : t.val + j.val < 3 then (0 : EReal) else x ⟨t.val + j.val - 3, h hd⟩) = tap x (3 - j.val) t := by
  unfold tap
  split_ifs with h1 h2 h2
  · omega
  · rfl
  · exact congrArg x (Fin.ext (by show t.val + j.val - 3 = t.val - (3 - j.val); omega))
  · omega

end Cert.Proof.ShortConv

end
-- ==== Proof.ConvFwd.lean ====
/-
  What the launch of the short convolution leaves in memory: each entry as a formula of the arguments.
-/
module

public import proofs.«01_k».proof.Proof.Gen.Kernel23Ideal.Value
public import proofs.«01_k».proof.Proof.ShortConv
public import Idealize.ShloMosaic.Lib.Pipeline.ValueKit.Basic
public import Idealize.ShloMosaic.Lib.Pointwise

@[expose] public section

set_option maxRecDepth 16384

noncomputable section

namespace Cert.Proof.ConvFwd

open Cert.Kernel23Ideal Cert.Kernel23Ideal.Gen
open Idealize.ShloMosaic Idealize.ShloMosaic.TcCoe
open Idealize.SL Idealize.SL.RA
open Cert.Proof.DownBwd (sg)
open Cert.Proof.ShortConv

variable (m : (ℓ : Loc nD τ sig) → Buf (Elt Ideal) ℓ)

/-- Column `q` of the convolution's input. -/
def col (x : FVec Ideal S4096x6144 .f32) (q : Fin 2304) (t : Fin 4096) : EReal := x (ix2 t ⟨2816 + q.val, by omega⟩)

/-- The taps of column `q`. -/
def taps (w : FVec Ideal S4x2304 .f32) (q : Fin 2304) (j : Fin 4) : EReal := w (ix2 j q)

/-- The column of head `h`, lane `l`. -/
def lane (h : Fin 18) (l : Fin 128) : Fin 2304 := ⟨h.val * 128 + l.val, by omega⟩

/-- The activated convolution. -/
def act (x : FVec Ideal S4096x6144 .f32) (w : FVec Ideal S4x2304 .f32) (q : Fin 2304) (t : Fin 4096) : EReal :=
  conv (col x q) (taps w q) t * sg (conv (col x q) (taps w q) t)

/-- What a block's program computes. -/
theorem pay (x : Vec Ideal S4096x128 .f32) (w : Vec Ideal S4x128 .f32) (t : Fin 4096) (l : Fin 128) :
    (k0_pay2 x w : FVec Ideal S4096x128 .f32) (ix2 t l)
      = conv (fun t => x (ix2 t l)) (fun j => w (ix2 j l)) t * sg (conv (fun t => x (ix2 t l)) (fun j => w (ix2 j l)) t) := by
  pointwise [k0_pay2]
  unfold conv sg
  rw [mul_back _ 1 (by decide), mul_back _ 2 (by decide), mul_back _ 3 (by decide)]

theorem index_eq : ∀ t : Fin cfg0.N,
    (win0_0.index t (0 : Fin 2) = 0 ∧ win0_0.index t (1 : Fin 2) = 22 + t.val)
    ∧ (win0_1.index t (0 : Fin 2) = 0 ∧ win0_1.index t (1 : Fin 2) = t.val)
    ∧ (win0_2.index t (0 : Fin 3) = t.val ∧ win0_2.index t (1 : Fin 3) = 0 ∧ win0_2.index t (2 : Fin 3) = 0) :=
  (by decide +kernel : ∀ t : Fin grid0.N, _)

theorem hz2 : (![0, 0] : Fin 2 → Nat) = fun _ => 0 := funext fun a => by fin_cases a <;> rfl
theorem hz3 : (![0, 0, 0] : Fin 3 → Nat) = fun _ => 0 := funext fun a => by fin_cases a <;> rfl

/-- The point whose blocks hold head `h`. -/
def pt (h : Fin 18) : Fin cfg0.N := ⟨h.val, lt_of_lt_of_eq h.isLt N_0.symm⟩

variable (c : Dev nD) (h : Fin 18) (t : Fin 4096) (l : Fin 128)

theorem block0 : (iblk m c 0 (pt h) : FVec Ideal S4096x128 .f32) (ix2 t l) = col (m ((c : Thread nD τ).loc main_arg0)) (lane h l) t := by
  obtain ⟨⟨e0, e1⟩, -⟩ := index_eq (pt h)
  refine (?_ : _ = (V m c main_arg0 : FVec Ideal S4096x6144 .f32) _).trans (congrFun (V_main_arg0 m c) _)
  show V m c main_arg0 (((cfg0.win 0).blk (pt h)).view.emb _) = _
  congr 1
  funext a; apply Fin.ext
  match a with
  | ⟨0, _⟩ => show win0_0.index (pt h) (0 : Fin 2) * 4096 + 1 * t.val = t.val; rw [e0]; omega
  | ⟨1, _⟩ => show win0_0.index (pt h) (1 : Fin 2) * 128 + 1 * l.val = 2816 + (h.val * 128 + l.val); rw [e1]; show (22 + h.val) * 128 + _ = _; omega

theorem block1 (j : Fin 4) : (iblk m c 1 (pt h) : FVec Ideal S4x128 .f32) (ix2 j l) = taps (m ((c : Thread nD τ).loc main_arg1)) (lane h l) j := by
  obtain ⟨-, ⟨e0, e1⟩, -⟩ := index_eq (pt h)
  refine (?_ : _ = (V m c main_arg1 : FVec Ideal S4x2304 .f32) _).trans (congrFun (V_main_arg1 m c) _)
  show V m c main_arg1 (((cfg0.win 1).blk (pt h)).view.emb _) = _
  congr 1
  funext a; apply Fin.ext
  match a with
  | ⟨0, _⟩ => show win0_1.index (pt h) (0 : Fin 2) * 4 + 1 * j.val = j.val; rw [e0]; omega
  | ⟨1, _⟩ => show win0_1.index (pt h) (1 : Fin 2) * 128 + 1 * l.val = h.val * 128 + l.val; rw [e1]; show h.val * 128 + _ = _; omega

/-- The rows of the activated queries, keys and values, after the launch. -/
theorem result : ((dats m 0 c).arrAt 2 cfg0.N : FVec Ideal S18x4096x128 .f32) (ix3 h t l)
    = act (m ((c : Thread nD τ).loc main_arg0)) (m ((c : Thread nD τ).loc main_arg1)) (lane h l) t := by
  obtain ⟨-, -, e0, e1, e2⟩ := index_eq (pt h)
  have hb := congrFun (Value.blocks2 m c (pt h) (flush0_2 _)) (ix3 0 t l)
  refine (Eq.trans ?_ hb).trans ?_
  · show _ = (dats m 0 c).arrAt 2 cfg0.N (((cfg0.win 2).blk (pt h)).view.emb _)
    congr 1
    funext a; apply Fin.ext
    match a with
    | ⟨0, _⟩ => show h.val = win0_2.index (pt h) (0 : Fin 3) * 1 + 1 * 0; rw [e0]; show h.val = h.val * 1 + 1 * 0; omega
    | ⟨1, _⟩ => show t.val = win0_2.index (pt h) (1 : Fin 3) * 4096 + 1 * t.val; rw [e1]; omega
    | ⟨2, _⟩ => show l.val = win0_2.index (pt h) (2 : Fin 3) * 128 + 1 * l.val; rw [e2]; omega
  · rw [Value.flushed2]
    show out0_2 (iblk m c 0 (pt h)) (iblk m c 1 (pt h)) (ix3 0 t l) = _
    unfold out0_2
    rw [View.canon_unit_zero hz3, View.ld_unit_zero hz2, View.ld_unit_zero hz2]
    refine (?_ : _ = (k0_pay2 (iblk m c 0 (pt h)) (iblk m c 1 (pt h)) : FVec Ideal S4096x128 .f32) (ix2 t l)).trans ((pay _ _ t l).trans ?_)
    · pointwise [k0_pay1]
    · simp only [block0, block1]
      rfl

end Cert.Proof.ConvFwd

end
-- ==== Proof.ConvBwd.lean ====
/-
  What the launch of the short convolution's gradient leaves in memory: each entry as a formula of the arguments.
-/
module

public import proofs.«01_k».proof.Proof.Gen.Kernel22Ideal.Value
public import proofs.«01_k».proof.Proof.ConvFwd
public import Idealize.ShloMosaic.Lib.Pipeline.ValueKit.Basic
public import Idealize.ShloMosaic.Lib.Pointwise

@[expose] public section

set_option maxRecDepth 16384

noncomputable section

namespace Cert.Proof.ConvBwd

open Cert.Kernel22Ideal Cert.Kernel22Ideal.Gen
open Idealize.ShloMosaic Idealize.ShloMosaic.TcCoe
open Idealize.SL Idealize.SL.RA
open Cert.Proof.DownBwd (sg)
open Cert.Proof.ShortConv
open Cert.Proof.ConvFwd (col taps lane hz2 hz3)

variable (m : (ℓ : Loc nD τ sig) → Buf (Elt Ideal) ℓ)

/-- The gradient that arrives at column `q` of the activated convolution. -/
def dout (d : FVec Ideal S18x4096x128 .f32) (q : Fin 2304) (t : Fin 4096) : EReal := d (ix3 ⟨q.val / 128, by omega⟩ t ⟨q.val % 128, by omega⟩)

/-- The gradient that arrives at column `q` of the convolution. -/
def dcol (d : FVec Ideal S18x4096x128 .f32) (x : FVec Ideal S4096x6144 .f32) (w : FVec Ideal S4x2304 .f32) (q : Fin 2304) (t : Fin 4096) : EReal :=
  dpre (dout d q t) (conv (col x q) (taps w q) t)

section
variable (x0 : Vec Ideal S1x4096x128 .f32) (x1 : Vec Ideal S4096x128 .f32) (x2 : Vec Ideal S4x128 .f32) (t : Fin 4096) (l : Fin 128)

/-- The block's own gradient at the convolution. -/
def blk (l : Fin 128) (t : Fin 4096) : EReal := dpre (x0 (ix3 0 t l)) (ShortConv.conv (fun t => x1 (ix2 t l)) (fun j => x2 (ix2 j l)) t)

theorem pay_conv : (k0_pay4 x1 x2 : FVec Ideal S4096x128 .f32) (ix2 t l) = ShortConv.conv (fun t => x1 (ix2 t l)) (fun j => x2 (ix2 j l)) t := by
  pointwise [k0_pay4]
  unfold ShortConv.conv
  rw [mul_back _ 1 (by decide), mul_back _ 2 (by decide), mul_back _ 3 (by decide)]

theorem pay_gate : (k0_pay5 x1 x2 : FVec Ideal S4096x128 .f32) (ix2 t l) = sg (ShortConv.conv (fun t => x1 (ix2 t l)) (fun j => x2 (ix2 j l)) t) := by
  rw [← pay_conv]
  unfold k0_pay5
  generalize k0_pay4 x1 x2 = y
  pointwise
  rfl

theorem pay_dpre : (k0_pay6 (k0_pay4 x1 x2) (k0_pay5 x1 x2) x0 : FVec Ideal S4096x128 .f32) (ix2 t l) = blk x0 x1 x2 l t := by
  unfold blk dpre
  rw [← pay_gate, ← pay_conv]
  generalize k0_pay4 x1 x2 = y, k0_pay5 x1 x2 = s
  pointwise [k0_pay6]

/-- Rotated rows, at an index. -/
theorem rotated (d : FVec Ideal S4096x128 .f32) (n : Nat) (hn : n < 4096) (t : Fin 4096) (l : Fin 128) :
    (dynamicRotate 0 (BitVec.ofNat 32 n) none d rotates_S4096x128_d0 : FVec Ideal S4096x128 .f32) (ix2 t l)
      = d (ix2 ⟨(t.val + 4096 - n) % 4096, Nat.mod_lt _ (by decide)⟩ l) := by
  unfold dynamicRotate
  refine congrArg d (funext fun b => Fin.ext ?_)
  match b with
  | ⟨0, _⟩ =>
    show (t.val + 4096 - ((BitVec.ofNat 32 n).toNat + 0) % 4096) % 4096 = (t.val + 4096 - n) % 4096
    rw [BitVec.toNat_ofNat, Nat.mod_eq_of_lt (by omega : n < 2 ^ 32), Nat.add_zero n, Nat.mod_eq_of_lt hn]
  | ⟨1, _⟩ => rfl

/-- Rows rotated up, those that came round cleared. -/
theorem moved_up (d : FVec Ideal S4096x128 .f32) (n s : Nat) (hn : n + s = 4096) (hs : 0 < s) :
    (select (cmpi .slt (iota .tc S4096x128 32 [0] iota_S4096x128_d0_w32) (broadcast S4096x128 (BitVec.ofNat 32 n)))
      (dynamicRotate 0 (BitVec.ofNat 32 n) none d rotates_S4096x128_d0) (broadcast S4096x128 (Scalar.ofBits .f32 0x00000000#32)) : FVec Ideal S4096x128 .f32)
      = fun j => lead (fun t => d (ix2 t (j 1))) s (j 0) := by
  funext j
  obtain ⟨t, l, rfl⟩ : ∃ (t : Fin 4096) (l : Fin 128), j = ix2 t l := ⟨j 0, j 1, eq_ix2 j⟩
  show Scalar.select _ ((dynamicRotate 0 (BitVec.ofNat 32 n) none d rotates_S4096x128_d0 : FVec Ideal S4096x128 .f32) (ix2 t l)) _ = _
  rw [rotated d n (by omega)]
  refine Eq.trans ?_ (ahead (fun t => d (ix2 t l)) n s hn hs t (Nat.mod_lt _ (by decide)))
  generalize d _ = z
  pointwise

/-- Rows rotated down, likewise. -/
theorem moved_down (d : FVec Ideal S4096x128 .f32) (s : Nat) (hs : s < 4096) :
    (select (cmpi .sge (iota .tc S4096x128 32 [0] iota_S4096x128_d0_w32) (broadcast S4096x128 (BitVec.ofNat 32 s)))
      (dynamicRotate 0 (BitVec.ofNat 32 s) none d rotates_S4096x128_d0) (broadcast S4096x128 (Scalar.ofBits .f32 0x00000000#32)) : FVec Ideal S4096x128 .f32)
      = fun j => tap (fun t => d (ix2 t (j 1))) s (j 0) := by
  funext j
  obtain ⟨t, l, rfl⟩ : ∃ (t : Fin 4096) (l : Fin 128), j = ix2 t l := ⟨j 0, j 1, eq_ix2 j⟩
  show Scalar.select _ ((dynamicRotate 0 (BitVec.ofNat 32 s) none d rotates_S4096x128_d0 : FVec Ideal S4096x128 .f32) (ix2 t l)) _ = _
  rw [rotated d s hs]
  refine Eq.trans ?_ (back (fun t => d (ix2 t l)) s hs t (Nat.mod_lt _ (by decide)))
  generalize d _ = z
  pointwise

/-- A row of the taps' gradient: a product summed over the rows. -/
theorem summed (d x v : FVec Ideal S4096x128 .f32) (j : Fin 4) (hv : v = fun i => tap (fun t => x (ix2 t (i 1))) (3 - j.val) (i 0))
    (y : S1x128.Idx) (b : S4x128.Idx) (h0 : b 0 = j) (h1 : b 1 = y 1) :
    (shapeCast S1x128 (multiReduction .add [0] S128 (mulf d v) 0x00000000#32 reduces_S4096x128_S128 (.inl rfl) rfl : FVec Ideal S128 .f32) shapeCasts_S128_S1x128 : FVec Ideal S1x128 .f32) y
      = dtap (fun t => d (ix2 t (b 1))) (fun t => x (ix2 t (b 1))) (b 0) := by
  rw [h0, h1, hv]
  rw [eq_ix2 y]
  generalize y 0 = z, y 1 = l
  pointwise
  rfl

/-- The block of the input's gradient. -/
theorem pay_dx : out0_3 x0 x1 x2 (ix2 t l) = tconv (blk x0 x1 x2 l) (fun j => x2 (ix2 j l)) t := by
  have e : ∀ t, blk x0 x1 x2 l t = _ := fun t => (pay_dpre x0 x1 x2 t l).symm
  rw [show blk x0 x1 x2 l = _ from funext e]
  unfold_out out0_3
  rw [View.canon_unit_zero hz2, View.ld_unit_zero hz2, View.ld_unit_zero hz2, View.ld_unit_zero hz3]
  unfold k0_pay8 k0_pay11 k0_pay2
  generalize k0_pay6 (k0_pay4 x1 x2) (k0_pay5 x1 x2) x0 = d
  dsimp only
  rw [moved_up d 4095 1 (by decide) (by decide), moved_up d 4094 2 (by decide) (by decide), moved_up d 4093 3 (by decide) (by decide)]
  pointwise [k0_pay10]
  rfl

theorem pay_dw (j : Fin 4) : out0_4 x0 x1 x2 (ix2 j l) = dtap (blk x0 x1 x2 l) (fun t => x1 (ix2 t l)) j := by
  have e : ∀ t l, blk x0 x1 x2 l t = _ := fun t l => (pay_dpre x0 x1 x2 t l).symm
  unfold_out out0_4
  rw [View.ld_unit_zero hz2, View.ld_unit_zero hz2, View.ld_unit_zero hz3]
  simp only [show blk x0 x1 x2 = fun l t => (k0_pay6 (k0_pay4 x1 x2) (k0_pay5 x1 x2) x0 : FVec Ideal S4096x128 .f32) (ix2 t l) from funext fun l => funext fun t => e t l]
  unfold k0_pay7 k0_pay9
  generalize k0_pay6 (k0_pay4 x1 x2) (k0_pay5 x1 x2) x0 = d
  refine View.canon_apply_of_pieces (Val := Elt Ideal) (e := .f32) (fun y : S4x128.Idx => (dtap (fun t => d (ix2 t (y 1))) (fun t => x1 (ix2 t (y 1))) (y 0) : EReal)) _ ?_ (ix2 j l) (cover0_4 _ _ _ _ _)
  intro p hp
  rcases List.mem_cons.mp hp with rfl | hp
  · exact fun y => summed d x1 _ 0 (moved_down x1 3 (by decide)) y _ (Fin.ext (by show 0 + 1 * (y 0).val = 0; have := (y 0).isLt; change _ < 1 at this; omega)) (Fin.ext (by show 0 + 1 * (y 1).val = (y 1).val; omega))
  rcases List.mem_cons.mp hp with rfl | hp
  · exact fun y => summed d x1 _ 1 (moved_down x1 2 (by decide)) y _ (Fin.ext (by show 1 + 1 * (y 0).val = 1; have := (y 0).isLt; change _ < 1 at this; omega)) (Fin.ext (by show 0 + 1 * (y 1).val = (y 1).val; omega))
  rcases List.mem_cons.mp hp with rfl | hp
  · exact fun y => summed d x1 _ 2 (moved_down x1 1 (by decide)) y _ (Fin.ext (by show 2 + 1 * (y 0).val = 2; have := (y 0).isLt; change _ < 1 at this; omega)) (Fin.ext (by show 0 + 1 * (y 1).val = (y 1).val; omega))
  rcases List.mem_cons.mp hp with rfl | hp
  · refine fun y => summed d x1 _ 3 (funext fun i => ?_) y _ (Fin.ext (by show 3 + 1 * (y 0).val = 3; have := (y 0).isLt; change _ < 1 at this; omega)) (Fin.ext (by show 0 + 1 * (y 1).val = (y 1).val; omega))
    exact (congrArg x1 (eq_ix2 i)).trans (tap_zero (fun t => x1 (ix2 t (i 1))) (i 0)).symm
  nomatch hp

end

theorem index_eq : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 22 + t.val)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val) :=
  (by decide +kernel : ∀ t : Fin grid0.N, _)

/-- The point whose blocks hold column `q`. -/
def pt (q : Fin 2304) : Fin cfg0.N := ⟨q.val / 128, lt_of_lt_of_eq (by omega) N_0.symm⟩

/-- Its place in the block. -/
def ln (q : Fin 2304) : Fin 128 := ⟨q.val % 128, by omega⟩

variable (c : Dev nD) (q : Fin 2304) (t : Fin 4096)

theorem block0 : (iblk m c 0 (pt q) : FVec Ideal S1x4096x128 .f32) (ix3 0 t (ln q)) = dout (m ((c : Thread nD τ).loc main_arg0)) q t := by
  obtain ⟨⟨e0, e1, e2⟩, -⟩ := index_eq (pt q)
  refine (?_ : _ = (V m c main_arg0 : FVec Ideal S18x4096x128 .f32) _).trans (congrFun (V_main_arg0 m c) _)
  show V m c main_arg0 (((cfg0.win 0).blk (pt q)).view.emb _) = _
  congr 1
  funext a; apply Fin.ext
  match a with
  | ⟨0, _⟩ => show win0_0.index (pt q) (0 : Fin 3) * 1 + 1 * 0 = q.val / 128; rw [e0]; show q.val / 128 * 1 + _ = _; omega
  | ⟨1, _⟩ => show win0_0.index (pt q) (1 : Fin 3) * 4096 + 1 * t.val = t.val; rw [e1]; omega
  | ⟨2, _⟩ => show win0_0.index (pt q) (2 : Fin 3) * 128 + 1 * (q.val % 128) = q.val % 128; rw [e2]; omega

theorem block1 : (iblk m c 1 (pt q) : FVec Ideal S4096x128 .f32) (ix2 t (ln q)) = col (m ((c : Thread nD τ).loc main_arg1)) q t := by
  obtain ⟨-, ⟨e0, e1⟩, -⟩ := index_eq (pt q)
  refine (?_ : _ = (V m c main_arg1 : FVec Ideal S4096x6144 .f32) _).trans (congrFun (V_main_arg1 m c) _)
  show V m c main_arg1 (((cfg0.win 1).blk (pt q)).view.emb _) = _
  congr 1
  funext a; apply Fin.ext
  match a with
  | ⟨0, _⟩ => show win0_1.index (pt q) (0 : Fin 2) * 4096 + 1 * t.val = t.val; rw [e0]; omega
  | ⟨1, _⟩ => show win0_1.index (pt q) (1 : Fin 2) * 128 + 1 * (q.val % 128) = 2816 + q.val; rw [e1]; show (22 + q.val / 128) * 128 + _ = _; omega

theorem block2 (j : Fin 4) : (iblk m c 2 (pt q) : FVec Ideal S4x128 .f32) (ix2 j (ln q)) = taps (m ((c : Thread nD τ).loc main_arg2)) q j := by
  obtain ⟨-, -, ⟨e0, e1⟩, -⟩ := index_eq (pt q)
  refine (?_ : _ = (V m c main_arg2 : FVec Ideal S4x2304 .f32) _).trans (congrFun (V_main_arg2 m c) _)
  show V m c main_arg2 (((cfg0.win 2).blk (pt q)).view.emb _) = _
  congr 1
  funext a; apply Fin.ext
  match a with
  | ⟨0, _⟩ => show win0_2.index (pt q) (0 : Fin 2) * 4 + 1 * j.val = j.val; rw [e0]; omega
  | ⟨1, _⟩ => show win0_2.index (pt q) (1 : Fin 2) * 128 + 1 * (q.val % 128) = q.val; rw [e1]; show q.val / 128 * 128 + _ = _; omega

theorem block : blk (iblk m c 0 (pt q)) (iblk m c 1 (pt q)) (iblk m c 2 (pt q)) (ln q)
    = dcol (m ((c : Thread nD τ).loc main_arg0)) (m ((c : Thread nD τ).loc main_arg1)) (m ((c : Thread nD τ).loc main_arg2)) q := by
  funext t
  unfold blk
  simp only [block0, block1, block2]
  rfl

/-- The gradient of the convolution's input, after the launch. -/
theorem dx : ((dats m 0 c).arrAt 3 cfg0.N : FVec Ideal S4096x2304 .f32) (ix2 t q)
    = tconv (dcol (m ((c : Thread nD τ).loc main_arg0)) (m ((c : Thread nD τ).loc main_arg1)) (m ((c : Thread nD τ).loc main_arg2)) q)
        (taps (m ((c : Thread nD τ).loc main_arg2)) q) t := by
  obtain ⟨-, -, -, ⟨e0, e1⟩, -⟩ := index_eq (pt q)
  have hb := congrFun (Value.blocks3 m c (pt q) (flush0_3 _)) (ix2 t (ln q))
  refine (Eq.trans ?_ hb).trans ?_
  · show _ = (dats m 0 c).arrAt 3 cfg0.N (((cfg0.win 3).blk (pt q)).view.emb _)
    congr 1
    funext a; apply Fin.ext
    match a with
    | ⟨0, _⟩ => show t.val = win0_3.index (pt q) (0 : Fin 2) * 4096 + 1 * t.val; rw [e0]; omega
    | ⟨1, _⟩ => show q.val = win0_3.index (pt q) (1 : Fin 2) * 128 + 1 * (q.val % 128); rw [e1]; show _ = q.val / 128 * 128 + _; omega
  · rw [Value.flushed3]
    refine (pay_dx (iblk m c 0 (pt q)) (iblk m c 1 (pt q)) (iblk m c 2 (pt q)) t (ln q)).trans ?_
    rw [block]
    simp only [block2]

/-- The gradient of the taps. -/
theorem dw (j : Fin 4) : ((dats m 0 c).arrAt 4 cfg0.N : FVec Ideal S4x2304 .f32) (ix2 j q)
    = dtap (dcol (m ((c : Thread nD τ).loc main_arg0)) (m ((c : Thread nD τ).loc main_arg1)) (m ((c : Thread nD τ).loc main_arg2)) q)
        (col (m ((c : Thread nD τ).loc main_arg1)) q) j := by
  obtain ⟨-, -, -, -, e0, e1⟩ := index_eq (pt q)
  have hb := congrFun (Value.blocks4 m c (pt q) (flush0_4 _)) (ix2 j (ln q))
  refine (Eq.trans ?_ hb).trans ?_
  · show _ = (dats m 0 c).arrAt 4 cfg0.N (((cfg0.win 4).blk (pt q)).view.emb _)
    congr 1
    funext a; apply Fin.ext
    match a with
    | ⟨0, _⟩ => show j.val = win0_4.index (pt q) (0 : Fin 2) * 4 + 1 * j.val; rw [e0]; omega
    | ⟨1, _⟩ => show q.val = win0_4.index (pt q) (1 : Fin 2) * 128 + 1 * (q.val % 128); rw [e1]; show _ = q.val / 128 * 128 + _; omega
  · rw [Value.flushed4]
    refine (pay_dw (iblk m c 0 (pt q)) (iblk m c 1 (pt q)) (iblk m c 2 (pt q)) (ln q) j).trans ?_
    rw [block]
    simp only [block1]

end Cert.Proof.ConvBwd

end
-- ==== Proof.ConvRef.lean ====
/-
  The short convolution as the reference writes it, entry by entry.
-/
module

public import proofs.«01_k».proof.Proof.ConvFwd
public import proofs.«01_k».proof.Proof.Gen.Reference22Ideal
public import Idealize.ShloMosaic.Lib.Pointwise

@[expose] public section

set_option maxRecDepth 16384

noncomputable section

namespace Cert.Proof.ConvRef

open Cert.Reference22Ideal Cert.Reference22Ideal.Gen
open Idealize.ShloMosaic Idealize.ShloMosaic.TcCoe
open Cert.Proof.DownBwd (sg)
open Cert.Proof.ShortConv
open Cert.Proof.ConvFwd (col taps lane act)

/-- The convolution's input with three rows of zeros in front. -/
def fronted (x : FVec Ideal S4096x6144 .f32) : FVec Ideal S4099x2304 .f32 :=
  concatenate S4099x2304 0 [⟨S3x2304, (broadcastInDim S3x2304 ![] bcast_S_S3x2304 (constant S_ .f32 0x00000000#32))⟩, ⟨S4096x2304, (extractStridedSlice S4096x2304 ![0, 2816] x slices_S4096x6144_S4096x2304_0_2816)⟩] concatenates_S3x2304_S4096x2304_S4099x2304_d0

/-- A row of taps at every row. -/
def spread (r : FVec Ideal S1x2304 .f32) : FVec Ideal S4096x2304 .f32 :=
  broadcastInDim S4096x2304 ![0, 1] bcast_S1x2304_S4096x2304_0_1 (broadcastInDim S1x2304 ![1] bcast_S2304_S1x2304_1 (shapeCast _ r shapeCasts_S1x2304_S2304))

/-- The convolution. -/
def pre (x : FVec Ideal S4096x6144 .f32) (w : FVec Ideal S4x2304 .f32) : FVec Ideal S4096x2304 .f32 :=
  addf (addf (addf (mulf (spread (extractStridedSlice S1x2304 ![0, 0] w slices_S4x2304_S1x2304_0_0)) (extractStridedSlice S4096x2304 ![0, 0] (fronted x) slices_S4099x2304_S4096x2304_0_0))
    (mulf (spread (extractStridedSlice S1x2304 ![1, 0] w slices_S4x2304_S1x2304_1_0)) (extractStridedSlice S4096x2304 ![1, 0] (fronted x) slices_S4099x2304_S4096x2304_1_0)))
    (mulf (spread (extractStridedSlice S1x2304 ![2, 0] w slices_S4x2304_S1x2304_2_0)) (extractStridedSlice S4096x2304 ![2, 0] (fronted x) slices_S4099x2304_S4096x2304_2_0)))
    (mulf (spread (extractStridedSlice S1x2304 ![3, 0] w slices_S4x2304_S1x2304_3_0)) (extractStridedSlice S4096x2304 ![3, 0] (fronted x) slices_S4099x2304_S4096x2304_3_0))

/-- The activation's slope. -/
def gate (y : FVec Ideal S4096x2304 .f32) : FVec Ideal S4096x2304 .f32 :=
  Host.divf (broadcastInDim S4096x2304 ![] bcast_S_S4096x2304 (constant S_ .f32 0x3F800000#32)) (addf (broadcastInDim S4096x2304 ![] bcast_S_S4096x2304 (constant S_ .f32 0x3F800000#32)) (Host.exp (Host.negf y)))

theorem fronted_apply (x : FVec Ideal S4096x6144 .f32) (j : Fin 4) (t : Fin 4096) (q : Fin 2304) :
    fronted x (ix2 ⟨j.val + t.val, by omega⟩ q) = tap (col x q) (3 - j.val) t := by
  rw [← front (col x q) j t (by omega)]
  pointwise [fronted]
  simp only [Nat.add_comm j.val t.val]
  rfl

/-- Of the four slices of it: the column moved three, two, one and no rows. -/
theorem slice0 (x : FVec Ideal S4096x6144 .f32) (t : Fin 4096) (q : Fin 2304) :
    extractStridedSlice S4096x2304 ![0, 0] (fronted x) slices_S4099x2304_S4096x2304_0_0 (ix2 t q) = tap (col x q) 3 t := by
  refine Eq.trans ?_ (fronted_apply x 0 t q)
  pointwise

theorem slice1 (x : FVec Ideal S4096x6144 .f32) (t : Fin 4096) (q : Fin 2304) :
    extractStridedSlice S4096x2304 ![1, 0] (fronted x) slices_S4099x2304_S4096x2304_1_0 (ix2 t q) = tap (col x q) 2 t := by
  refine Eq.trans ?_ (fronted_apply x 1 t q)
  pointwise

theorem slice2 (x : FVec Ideal S4096x6144 .f32) (t : Fin 4096) (q : Fin 2304) :
    extractStridedSlice S4096x2304 ![2, 0] (fronted x) slices_S4099x2304_S4096x2304_2_0 (ix2 t q) = tap (col x q) 1 t := by
  refine Eq.trans ?_ (fronted_apply x 2 t q)
  pointwise

theorem slice3 (x : FVec Ideal S4096x6144 .f32) (t : Fin 4096) (q : Fin 2304) :
    extractStridedSlice S4096x2304 ![3, 0] (fronted x) slices_S4099x2304_S4096x2304_3_0 (ix2 t q) = tap (col x q) 0 t := by
  refine Eq.trans ?_ (fronted_apply x 3 t q)
  pointwise

theorem spread_apply (r : FVec Ideal S1x2304 .f32) (t : Fin 4096) (q : Fin 2304) : spread r (ix2 t q) = r (ix2 0 q) := by
  pointwise [spread]

theorem gate_apply (y : FVec Ideal S4096x2304 .f32) (t : Fin 4096) (q : Fin 2304) : gate y (ix2 t q) = sg (y (ix2 t q)) := by
  pointwise [gate]
  simp only [sg, zero_sub]

theorem pre_apply (x : FVec Ideal S4096x6144 .f32) (w : FVec Ideal S4x2304 .f32) (t : Fin 4096) (q : Fin 2304) :
    pre x w (ix2 t q) = conv (col x q) (taps w q) t := by
  have e : pre x w (ix2 t q) = taps w q 0 * tap (col x q) 3 t + taps w q 1 * tap (col x q) 2 t + taps w q 2 * tap (col x q) 1 t
      + taps w q 3 * tap (col x q) 0 t := by
    rw [← slice0, ← slice1, ← slice2, ← slice3]
    unfold pre
    show spread _ _ * _ + spread _ _ * _ + spread _ _ * _ + spread _ _ * _ = _
    rw [spread_apply, spread_apply, spread_apply, spread_apply]
    pointwise
    rfl
  rw [e, tap_zero]
  unfold conv
  ac_rfl

end Cert.Proof.ConvRef

end
-- ==== Proof.ConvBwdEq.lean ====
/-
  The claims about the short convolution's gradient: its frames, and the equality of its two gradients with those of the
  reference, whose derivative of the activation is `σ + y·σ·(1−σ)` where the kernel's is `σ·(1 + y·(1−σ))`.
-/
module

public import proofs.«01_k».proof.Defs
public import proofs.«01_k».proof.Proof.ConvBwd
public import proofs.«01_k».proof.Proof.ConvRef
public import proofs.«01_k».proof.Proof.DownBwdEq
public import proofs.«01_k».proof.Proof.Gen.Kernel22.Frame
public import proofs.«01_k».proof.Proof.Gen.Reference22Ideal.Run
public import proofs.«01_k».proof.Proof.Gen.Pre_conv_finite
public import Idealize.ShloMosaic.Lib.ReduceAll
public import Idealize.ShloMosaic.Lib.Quiescent

@[expose] public section

set_option maxRecDepth 16384

noncomputable section

namespace Cert.Proof.ConvBwd

open Idealize.ShloMosaic Idealize.ShloMosaic.TcCoe Idealize.SL.Sem

section
open Cert.Reference22Ideal Cert.Reference22Ideal.Gen
open Cert.Proof.DownBwd (sg)
open Cert.Proof.ShortConv
open Cert.Proof.ConvFwd (col taps lane)
open Cert.Proof.ConvRef (pre gate spread fronted)

variable (d : FVec Ideal S18x4096x128 .f32) (x : FVec Ideal S4096x6144 .f32) (w : FVec Ideal S4x2304 .f32)

/-- The gradient that arrives, the heads' columns side by side. -/
def ct : FVec Ideal S4096x2304 .f32 :=
  shapeCast _ (transpose S4096x18x128 [1, 0, 2] d transposes_S18x4096x128_S4096x18x128_1_0_2) shapeCasts_S4096x18x128_S4096x2304

/-- The gradient at the convolution. -/
def dy : FVec Ideal S4096x2304 .f32 :=
  addf (mulf (ct d) (gate (pre x w))) (mulf (mulf (pre x w) (ct d)) (mulf (gate (pre x w)) (subf (broadcastInDim S4096x2304 ![] bcast_S_S4096x2304 (constant S_ .f32 0x3F800000#32)) (gate (pre x w)))))

/-- The input's gradient, of that at the convolution. -/
def refDx (v : FVec Ideal S4096x2304 .f32) : FVec Ideal S4096x2304 .f32 :=
  extractStridedSlice S4096x2304 ![3, 0] (addf (addf (addf
    (pad S4099x2304 ![3, 0] ![0, 0] ![0, 0] (mulf (spread (extractStridedSlice S1x2304 ![3, 0] w slices_S4x2304_S1x2304_3_0)) v) (constant S_ .f32 0x00000000#32) pads_S4096x2304_S4099x2304_300_000 h_S_)
    (pad S4099x2304 ![2, 0] ![1, 0] ![0, 0] (mulf (spread (extractStridedSlice S1x2304 ![2, 0] w slices_S4x2304_S1x2304_2_0)) v) (constant S_ .f32 0x00000000#32) pads_S4096x2304_S4099x2304_210_000 h_S_))
    (pad S4099x2304 ![1, 0] ![2, 0] ![0, 0] (mulf (spread (extractStridedSlice S1x2304 ![1, 0] w slices_S4x2304_S1x2304_1_0)) v) (constant S_ .f32 0x00000000#32) pads_S4096x2304_S4099x2304_120_000 h_S_))
    (pad S4099x2304 ![0, 0] ![3, 0] ![0, 0] (mulf (spread (extractStridedSlice S1x2304 ![0, 0] w slices_S4x2304_S1x2304_0_0)) v) (constant S_ .f32 0x00000000#32) pads_S4096x2304_S4099x2304_030_000 h_S_)) slices_S4099x2304_S4096x2304_3_0

/-- A product summed over the rows, as one row. -/
def total (v : FVec Ideal S4096x2304 .f32) : FVec Ideal S1x2304 .f32 :=
  broadcastInDim S1x2304 ![1] bcast_S2304_S1x2304_1 (Host.reduceAdd (shapeCast S1x2304 (Host.reduceAdd v (constant S_ .f32 0x00000000#32) reducesTo_S4096x2304_S2304_d0 h_S_) shapeCasts_S2304_S1x2304) (constant S_ .f32 0x00000000#32) reducesTo_S1x2304_S2304_d0 h_S_)

/-- The taps' gradient. -/
def refDw (v : FVec Ideal S4096x2304 .f32) : FVec Ideal S4x2304 .f32 :=
  addf (addf (addf
    (pad S4x2304 ![3, 0] ![0, 0] ![0, 0] (total (mulf v (extractStridedSlice S4096x2304 ![3, 0] (fronted x) slices_S4099x2304_S4096x2304_3_0))) (constant S_ .f32 0x00000000#32) pads_S1x2304_S4x2304_300_000 h_S_)
    (pad S4x2304 ![2, 0] ![1, 0] ![0, 0] (total (mulf v (extractStridedSlice S4096x2304 ![2, 0] (fronted x) slices_S4099x2304_S4096x2304_2_0))) (constant S_ .f32 0x00000000#32) pads_S1x2304_S4x2304_210_000 h_S_))
    (pad S4x2304 ![1, 0] ![2, 0] ![0, 0] (total (mulf v (extractStridedSlice S4096x2304 ![1, 0] (fronted x) slices_S4099x2304_S4096x2304_1_0))) (constant S_ .f32 0x00000000#32) pads_S1x2304_S4x2304_120_000 h_S_))
    (pad S4x2304 ![0, 0] ![3, 0] ![0, 0] (total (mulf v (extractStridedSlice S4096x2304 ![0, 0] (fronted x) slices_S4099x2304_S4096x2304_0_0))) (constant S_ .f32 0x00000000#32) pads_S1x2304_S4x2304_030_000 h_S_)

theorem ct_apply (t : Fin 4096) (q : Fin 2304) : ct d (ix2 t q) = dout d q t := by
  pointwise [ct]
  rfl

theorem dy_apply (h : ∀ i, ∃ r : ℝ, d i = r) (t : Fin 4096) (q : Fin 2304) : dy d x w (ix2 t q) = dcol d x w q t := by
  unfold dcol dpre
  rw [← ct_apply d, ← ConvRef.pre_apply x w, ← ConvRef.gate_apply]
  obtain ⟨r, hr⟩ := h (ix3 ⟨q.val / 128, by omega⟩ t ⟨q.val % 128, by omega⟩)
  have hc : ct d (ix2 t q) = r := (ct_apply d t q).trans hr
  show ct d (ix2 t q) * gate (pre x w) (ix2 t q) + pre x w (ix2 t q) * ct d (ix2 t q) * (gate (pre x w) (ix2 t q) * (_ - gate (pre x w) (ix2 t q))) = _
  rw [ConvRef.gate_apply, hc]
  refine Eq.trans ?_ (DownBwd.gate (pre x w (ix2 t q)) r).symm
  generalize sg _ = s
  pointwise

theorem total_apply (v : FVec Ideal S4096x2304 .f32) (q : Fin 2304) : total v (ix2 0 q) = ∑ t : Fin 4096, v (ix2 t q) := by
  pointwise [total]
  exact Fin.sum_univ_one _

theorem refDx_apply (v : FVec Ideal S4096x2304 .f32) (t : Fin 4096) (q : Fin 2304) : refDx w v (ix2 t q) = tconv (fun t => v (ix2 t q)) (taps w q) t := by
  pointwise [refDx, ConvRef.spread]
  unfold tconv lead taps
  refine congrArg₂ (· + ·) (congrArg₂ (· + ·) (congrArg₂ (· + ·) rfl ?_) ?_) ?_
  all_goals
    split_ifs <;> first
    | omega
    | exact (mul_zero _).symm
    | exact congrArg (_ * ·) (congrArg (fun k => v (ix2 k q)) (Fin.ext (by show _ = t.val + _; dsimp only; omega)))

theorem refDw_apply (v : FVec Ideal S4096x2304 .f32) (j : Fin 4) (q : Fin 2304) : refDw x v (ix2 j q) = dtap (fun t => v (ix2 t q)) (col x q) j := by
  have e0 : total (mulf v (extractStridedSlice S4096x2304 ![0, 0] (fronted x) slices_S4099x2304_S4096x2304_0_0)) (ix2 0 q) = dtap (fun t => v (ix2 t q)) (col x q) 0 :=
    (total_apply _ q).trans (Finset.sum_congr rfl fun t _ => congrArg (v (ix2 t q) * ·) (ConvRef.slice0 x t q))
  have e1 : total (mulf v (extractStridedSlice S4096x2304 ![1, 0] (fronted x) slices_S4099x2304_S4096x2304_1_0)) (ix2 0 q) = dtap (fun t => v (ix2 t q)) (col x q) 1 :=
    (total_apply _ q).trans (Finset.sum_congr rfl fun t _ => congrArg (v (ix2 t q) * ·) (ConvRef.slice1 x t q))
  have e2 : total (mulf v (extractStridedSlice S4096x2304 ![2, 0] (fronted x) slices_S4099x2304_S4096x2304_2_0)) (ix2 0 q) = dtap (fun t => v (ix2 t q)) (col x q) 2 :=
    (total_apply _ q).trans (Finset.sum_congr rfl fun t _ => congrArg (v (ix2 t q) * ·) (ConvRef.slice2 x t q))
  have e3 : total (mulf v (extractStridedSlice S4096x2304 ![3, 0] (fronted x) slices_S4099x2304_S4096x2304_3_0)) (ix2 0 q) = dtap (fun t => v (ix2 t q)) (col x q) 3 :=
    (total_apply _ q).trans (Finset.sum_congr rfl fun t _ => congrArg (v (ix2 t q) * ·) (ConvRef.slice3 x t q))
  unfold refDw
  generalize total _ = v3 at e3 ⊢
  generalize total _ = v2 at e2 ⊢
  generalize total _ = v1 at e1 ⊢
  generalize total _ = v0 at e0 ⊢
  match j with
  | 0 => rw [← e0]; pointwise
  | 1 => rw [← e1]; pointwise
  | 2 => rw [← e2]; pointwise
  | 3 => rw [← e3]; pointwise

/-- The reference's two results. -/
theorem ref_dx (h : ∀ i, ∃ r : ℝ, d i = r) (t : Fin 4096) (q : Fin 2304) :
    refDx w (dy d x w) (ix2 t q) = tconv (dcol d x w q) (taps w q) t := by
  rw [refDx_apply]
  simp only [dy_apply d x w h]

theorem ref_dw (h : ∀ i, ∃ r : ℝ, d i = r) (j : Fin 4) (q : Fin 2304) :
    refDw x (dy d x w) (ix2 j q) = dtap (dcol d x w q) (col x q) j := by
  rw [refDw_apply]
  simp only [dy_apply d x w h]

end

/-- What the precondition says: each entry of the arriving gradient is real. -/
theorem finite_reads (x0 : FVec Ideal Cert.Pre_conv_finite.S18x4096x128 .f32) (x1 : FVec Ideal Cert.Pre_conv_finite.S4096x6144 .f32)
    (x2 : FVec Ideal Cert.Pre_conv_finite.S4x2304 .f32)
    (h : (haveI := Cert.Pre_conv_finite.Gen.facts; Cert.Pre_conv_finite.fn (F := Ideal) x0 x1 x2) = fun _ => 1#1) (i : _) :
    ∃ r : ℝ, x0 i = r := by
  have h' := congrFun h default
  unfold Cert.Pre_conv_finite.fn at h'
  dsimp only at h'
  have z : ∀ x : EReal, BitVec.ofBool (decide (x = 0)) = 1#1 → x = 0 := fun x h => by
    by_contra hx
    simp [hx] at h
  refine DownBwd.real_of_sub (z _ ?_)
  have e := Host.reduce_andi_all _ _ _ _ _ h' i
  rw [← e]; pointwise

/-- The kernel's frame. -/
theorem frame_kernel : (haveI := Cert.Kernel22.Gen.facts; Cert.quiescent_Kernel22) := fun m ρ _ => Cert.Kernel22.Gen.frame m ρ

/-- Its idealization's. -/
theorem frame_ideal : (haveI := Cert.Kernel22Ideal.Gen.facts; Cert.quiescent_Kernel22Ideal) := fun m ρ _ => Cert.Kernel22Ideal.Gen.frame m ρ

/-- The reference's. -/
theorem frame_reference : (haveI := Cert.Reference22Ideal.Gen.facts; Cert.quiescent_Reference22Ideal) := fun m ρ _ =>
  (θ_run (Cert.Reference22Ideal.defs (F := Ideal)) _ _).mono (fun _ h => ⟨fun c => (h c).2.2, sem_eq_zero_of_no_sems rfl _⟩)
    (Cert.Reference22Ideal.Value.run (F := Ideal) m ρ)

/-- The idealization's frame holds in particular of the arguments the equality speaks of. -/
theorem frame_ideal_finite : (haveI := Cert.Kernel22Ideal.Gen.facts; haveI := Cert.Pre_conv_finite.Gen.facts
    Cert.quiescent_Kernel22Ideal_pre_conv_finite) := fun m ρ _ => Cert.Kernel22Ideal.Gen.frame m ρ

/-- And the reference's. -/
theorem frame_reference_finite : (haveI := Cert.Reference22Ideal.Gen.facts; haveI := Cert.Pre_conv_finite.Gen.facts
    Cert.quiescent_Reference22Ideal_pre_conv_finite) := fun m ρ _ =>
  (θ_run (Cert.Reference22Ideal.defs (F := Ideal)) _ _).mono (fun _ h => ⟨fun c => (h c).2.2, sem_eq_zero_of_no_sems rfl _⟩)
    (Cert.Reference22Ideal.Value.run (F := Ideal) m ρ)

/-- The kernel and the reference compute the same two gradients. -/
theorem algebraic : (haveI := Cert.Kernel22Ideal.Gen.facts; haveI := Cert.Reference22Ideal.Gen.facts; haveI := Cert.Pre_conv_finite.Gen.facts
    Cert.algebraic_Kernel22Ideal_Reference22Ideal_pre_conv_finite) := by
  intro m ρ m' ρ' hp hm
  refine ⟨_, _, Cert.Kernel22Ideal.Value.run_blocks m ρ, ?_⟩
  refine (θ_run (Cert.Reference22Ideal.defs (F := Ideal)) _ _).mono (fun r h c => ?_) (Cert.Reference22Ideal.Value.run (F := Ideal) m' ρ')
  obtain ⟨r1, r2, ra⟩ := h c
  obtain ⟨h0, h1, h2⟩ := hm c
  have f := finite_reads _ _ _ (hp c)
  have e1 : Cert.Reference22Ideal.Value.res_main_v78 m' c = refDx (m' (c.tc.loc Cert.Reference22Ideal.main_arg2)) (dy (m' (c.tc.loc Cert.Reference22Ideal.main_arg0)) (m' (c.tc.loc Cert.Reference22Ideal.main_arg1)) (m' (c.tc.loc Cert.Reference22Ideal.main_arg2))) := rfl
  have e2 : Cert.Reference22Ideal.Value.res_main_v76 m' c = refDw (m' (c.tc.loc Cert.Reference22Ideal.main_arg1)) (dy (m' (c.tc.loc Cert.Reference22Ideal.main_arg0)) (m' (c.tc.loc Cert.Reference22Ideal.main_arg1)) (m' (c.tc.loc Cert.Reference22Ideal.main_arg2))) := rfl
  refine ⟨(r1.trans e1).trans ?_, (r2.trans e2).trans ?_, ra⟩
  · rw [h0, h1, h2]
    funext j
    rw [eq_ix2 j]
    generalize j 0 = t, j 1 = q
    exact (ref_dx _ _ _ f t q).trans (dx m c q t).symm
  · rw [h0, h1, h2]
    funext j
    rw [eq_ix2 j]
    generalize j 0 = k, j 1 = q
    exact (ref_dw _ _ _ f k q).trans (dw m c q k).symm

end Cert.Proof.ConvBwd

end
-- ==== Proof.ConvFwdEq.lean ====
/-
  The claims about the short convolution.
-/
module

public import proofs.«01_k».proof.Defs
public import proofs.«01_k».proof.Proof.ConvRef
public import proofs.«01_k».proof.Proof.Gen.Kernel23.Frame
public import proofs.«01_k».proof.Proof.Gen.Reference23Ideal
public import proofs.«01_k».proof.Proof.Gen.Reference23Ideal.Run
public import Idealize.ShloMosaic.Lib.Quiescent

@[expose] public section

set_option maxRecDepth 16384

noncomputable section

namespace Cert.Proof.ConvFwd

open Idealize.ShloMosaic Idealize.ShloMosaic.TcCoe Idealize.SL.Sem

section
open Cert.Reference22Ideal Cert.Reference22Ideal.Gen

/-- The reference's result: the convolution times its activation, each head's columns apart. -/
def refAct (x : FVec Ideal S4096x6144 .f32) (w : FVec Ideal S4x2304 .f32) : FVec Ideal S18x4096x128 .f32 :=
  transpose S18x4096x128 [1, 0, 2] (shapeCast _ (mulf (ConvRef.pre x w) (ConvRef.gate (ConvRef.pre x w))) Cert.Reference23Ideal.Gen.facts.shapeCasts_S4096x2304_S4096x18x128) Cert.Reference23Ideal.Gen.facts.transposes_S4096x18x128_S18x4096x128_1_0_2

/-- At an index. -/
theorem ref_result (x : FVec Ideal S4096x6144 .f32) (w : FVec Ideal S4x2304 .f32) (h : Fin 18) (t : Fin 4096) (l : Fin 128) :
    refAct x w (ix3 h t l) = act x w (lane h l) t := by
  unfold refAct
  refine (?_ : _ = (mulf (ConvRef.pre x w) (ConvRef.gate (ConvRef.pre x w)) : FVec Ideal S4096x2304 .f32) (ix2 t (lane h l))).trans ?_
  · pointwise
    rfl
  · show ConvRef.pre x w _ * ConvRef.gate _ _ = _
    rw [ConvRef.gate_apply, ConvRef.pre_apply]
    rfl

end

/-- The kernel's frame. -/
theorem frame_kernel : (haveI := Cert.Kernel23.Gen.facts; Cert.quiescent_Kernel23) := fun m ρ _ => Cert.Kernel23.Gen.frame m ρ

/-- Its idealization's. -/
theorem frame_ideal : (haveI := Cert.Kernel23Ideal.Gen.facts; Cert.quiescent_Kernel23Ideal) := fun m ρ _ => Cert.Kernel23Ideal.Gen.frame m ρ

/-- The reference's. -/
theorem frame_reference : (haveI := Cert.Reference23Ideal.Gen.facts; Cert.quiescent_Reference23Ideal) := fun m ρ _ =>
  (θ_run (Cert.Reference23Ideal.defs (F := Ideal)) _ _).mono (fun _ h => ⟨fun c => (h c).2, sem_eq_zero_of_no_sems rfl _⟩)
    (Cert.Reference23Ideal.Value.run (F := Ideal) m ρ)

/-- The kernel and the reference compute the same array. -/
theorem algebraic : (haveI := Cert.Kernel23Ideal.Gen.facts; haveI := Cert.Reference23Ideal.Gen.facts
    Cert.algebraic_Kernel23Ideal_Reference23Ideal) := by
  intro m ρ m' ρ' _ hm
  refine ⟨_, Cert.Kernel23Ideal.Value.run_blocks m ρ, ?_⟩
  refine (θ_run (Cert.Reference23Ideal.defs (F := Ideal)) _ _).mono (fun r h c => ?_) (Cert.Reference23Ideal.Value.run (F := Ideal) m' ρ')
  obtain ⟨r1, ra⟩ := h c
  obtain ⟨h0, h1⟩ := hm c
  have e : Cert.Reference23Ideal.Value.res_main_v32 m' c = refAct (m' (c.tc.loc Cert.Reference23Ideal.main_arg0)) (m' (c.tc.loc Cert.Reference23Ideal.main_arg1)) := rfl
  refine ⟨(r1.trans e).trans ?_, ra⟩
  rw [h0, h1]
  funext i
  rw [eq_ix3 i]
  generalize i 0 = h, i 1 = t, i 2 = l
  exact (ref_result _ _ h t l).trans (result m c h t l).symm

end Cert.Proof.ConvFwd

end
-- ==== Proof.NormRow.lean ====
/-
  The gradient of one row's norm, in two forms: the closed one, which takes the row's component along itself out of the arriving
  gradient, and the one read backwards off the plain lines, through the reciprocal root and the mean of the squares. They are the
  same numbers for any row, infinite entries among them.
-/
module

public import Idealize.ShloMosaic.Lib.IdealHost
public import Idealize.ShloMosaic.PureOps.Ideal

@[expose] public section

noncomputable section

namespace Cert.Proof.NormRow

open Idealize.ShloMosaic

/-- The row's length, the number added under the root, and the factor of the reciprocal root's derivative. -/
abbrev len : EReal := Ideal.ofBits .f32 0x45000000#32
abbrev eps : EReal := Ideal.ofBits .f32 0x358637BD#32
abbrev mhalf : EReal := Ideal.ofBits .f32 0xBF000000#32

theorem len_eq : len = ((2048 : ℝ) : EReal) := by
  simp [Ideal.ofBits, Ideal.ieee, ← EReal.coe_inv]
  exact_mod_cast (by norm_num : (8388608 : ℝ) * (2 ^ 12)⁻¹ = 2048)

theorem mhalf_eq : mhalf = ((-(1 / 2) : ℝ) : EReal) := by
  simp [Ideal.ofBits, Ideal.ieee, ← EReal.coe_inv]
  exact_mod_cast (by norm_num : (8388608 : ℝ) * (2 ^ 24)⁻¹ = 2⁻¹)

theorem eps_pos : ∃ e : ℝ, 0 < e ∧ eps = e := by
  simp [Ideal.ofBits, Ideal.ieee]
  refine ⟨_, ?_, rfl⟩
  norm_num

variable {n : Nat} (u f : Fin n → EReal)

/-- The mean of the squares with what is added to it. -/
def ms : EReal := Ideal.div (∑ x, f x * f x) len + eps

/-- The row's factor. -/
def inv : EReal := Ideal.rsqrt (ms f)

/-- The closed form of the gradient; `u` is the arriving gradient times the gain. -/
def closed (q : Fin n) : EReal := inv f * (u q - f q * inv f * Ideal.div (∑ x, u x * (f x * inv f)) len)

/-- What comes back through the mean of the squares, by each of the two factors of a square. -/
def back : EReal := Ideal.div ((∑ x, f x * u x) * (mhalf * Ideal.div (inv f) (ms f))) len

theorem div_len (x : EReal) : Ideal.div x len = x * ((2048⁻¹ : ℝ) : EReal) := by
  rw [len_eq, Ideal.div, if_neg (by norm_cast), EReal.coe_inv]

theorem square_nonneg (x : EReal) : 0 ≤ x * x := by
  rcases le_total 0 x with h | h
  · exact EReal.mul_nonneg h h
  · exact EReal.mul_nonneg_iff.mpr (.inr ⟨h, h⟩)

/-- The row's factor is nought, its mean square infinite, or both are positive numbers, the one the other's reciprocal root. -/
theorem inv_cases : (inv f = 0 ∧ ms f = ⊤) ∨ ∃ r s : ℝ, 0 < r ∧ 0 < s ∧ r * r * s = 1 ∧ inv f = r ∧ ms f = s := by
  have h0 : 0 ≤ ∑ x, f x * f x := Finset.sum_nonneg fun x _ => square_nonneg _
  obtain ⟨e, he, h⟩ := eps_pos
  unfold inv ms
  rw [div_len, h]
  generalize ∑ x, f x * f x = y at h0
  induction y with
  | bot => simp at h0
  | top =>
    rw [EReal.top_mul_coe_of_pos (by norm_num), EReal.top_add_coe]
    exact .inl ⟨rfl, rfl⟩
  | coe y =>
    have hy : 0 ≤ y := by exact_mod_cast h0
    rw [← EReal.coe_mul, ← EReal.coe_add]
    have hs : 0 < y * 2048⁻¹ + e := by positivity
    have hr := Real.sqrt_pos.mpr hs
    have hq := Real.mul_self_sqrt hs.le
    refine .inr ⟨(Real.sqrt (y * 2048⁻¹ + e))⁻¹, _, inv_pos.mpr hr, hs, ?_, ?_, rfl⟩
    · generalize y * 2048⁻¹ + e = s at *
      rw [← mul_inv, hq, inv_mul_cancel₀ hs.ne']
    · show (if _ < (0 : ℝ) then (⊥ : EReal) else if _ = (0 : ℝ) then ⊤ else _) = _
      rw [if_neg hs.le.not_gt, if_neg hs.ne']

/-- A real factor in every term of a sum. -/
theorem sum_mul_real (g : Fin n → EReal) (r : ℝ) (hr : 0 ≤ r) : ∑ x, g x * (r : EReal) = (∑ x, g x) * r := by
  have h : ∀ S : Finset (Fin n), ∑ x ∈ S, g x * (r : EReal) = (∑ x ∈ S, g x) * r := fun S => by
    induction S using Finset.induction_on with
    | empty => simp
    | insert i S hi ih =>
      rw [Finset.sum_insert hi, Finset.sum_insert hi, ih,
        EReal.right_distrib_of_nonneg_of_ne_top (by exact_mod_cast hr) (EReal.coe_ne_top _)]
  exact h _

/-- The same number twice. -/
theorem twice (x : EReal) (k : ℝ) : x * ((-(1 / 2) * k : ℝ) : EReal) + x * ((-(1 / 2) * k : ℝ) : EReal) = -(x * (k : EReal)) := by
  generalize hy : x * ((-(1 / 2) * k : ℝ) : EReal) = y
  have e : y + y = y * ((2 : ℝ) : EReal) := by
    have := EReal.left_distrib_of_nonneg (a := 1) (b := 1) (c := y) zero_le_one zero_le_one
    rw [mul_one] at this
    rw [← this]
    norm_cast
  rw [e, ← hy, mul_assoc, ← EReal.coe_mul, show -(1 / 2) * k * 2 = -k by ring, EReal.coe_neg, mul_neg]

/-- The two forms of the gradient. -/
theorem closed_eq (q : Fin n) : closed u f q = u q * inv f + (f q * back u f + back u f * f q) := by
  unfold closed back
  simp only [div_len]
  rcases inv_cases f with ⟨hr, hm⟩ | ⟨r, s, h0, hs, h1, hr, hm⟩
  · rw [hr, hm]
    simp [Ideal.div]
  · rw [hr, hm, mhalf_eq]
    have hd : Ideal.div (r : EReal) (s : EReal) = ((r * s⁻¹ : ℝ) : EReal) := by
      rw [Ideal.div, if_neg (by exact_mod_cast hs.ne'), EReal.coe_mul, EReal.coe_inv]
    have e : ∀ x, u x * (f x * (r : EReal)) = f x * u x * r := fun x => by rw [← mul_assoc, mul_comm (u x)]
    rw [hd]
    simp only [e]
    rw [sum_mul_real _ r h0.le, EReal.mul_sub_of_nonneg_of_ne_top (by exact_mod_cast h0.le) (EReal.coe_ne_top _)]
    generalize ∑ x, f x * u x = y
    rw [mul_comm (u q), sub_eq_add_neg]
    congr 1
    have hk : s⁻¹ = r * r := by
      field_simp
      linarith
    have a : f q * (y * (((-(1 / 2) : ℝ) : EReal) * ((r * s⁻¹ : ℝ) : EReal)) * ((2048⁻¹ : ℝ) : EReal))
        = f q * y * ((-(1 / 2) * (r * r * r * 2048⁻¹) : ℝ) : EReal) := by
      rw [← EReal.coe_mul, mul_assoc y, ← EReal.coe_mul, ← mul_assoc (f q), hk]
      congr 2
      ring
    rw [mul_comm _ (f q), a, twice]
    congr 1
    have b : (r : EReal) * (f q * r * (y * r * ((2048⁻¹ : ℝ) : EReal))) = f q * y * (((r : EReal) * r * r) * ((2048⁻¹ : ℝ) : EReal)) := by
      ac_rfl
    rw [b]
    push_cast
    rfl

end Cert.Proof.NormRow

end
-- ==== Proof.NormBwd.lean ====
/-
  What the launch of the norm's gradient leaves in memory: of each row the closed form of its gradient, and of the gain the sum over
  all rows, which the launch gathers 256 rows at a time.
-/
module

public import proofs.«01_k».proof.Proof.Gen.Kernel24Ideal.Value
public import Idealize.ShloMosaic.Lib.Pipeline.ValueKit.Basic
public import Idealize.ShloMosaic.Lib.Pointwise
public import proofs.«01_k».proof.Proof.NormRow

@[expose] public section

set_option maxRecDepth 16384

noncomputable section

namespace Cert.Proof.NormBwd

open Cert.Kernel24Ideal Cert.Kernel24Ideal.Gen
open Idealize.ShloMosaic Idealize.ShloMosaic.TcCoe
open Idealize.SL Idealize.SL.RA

theorem hz2 : (![0, 0] : Fin 2 → Nat) = fun _ => 0 := funext fun a => by fin_cases a <;> rfl

section body
variable (c : Dev nD) (i : grid0.Coords) (a1 : Memref sig .tc .vmem S256x2048 .f32) (h1 : a1.IsWhole)
  (a2 : Memref sig .tc .vmem S256x2048 .f32) (h2 : a2.IsWhole) (a3 : Memref sig .tc .vmem S1x2048 .f32) (h3 : a3.IsWhole)
  (a4 : Memref sig .tc .vmem S256x2048 .bf16) (h4 : a4.IsWhole) (a5 : Memref sig .tc .vmem S1x2048 .f32) (h5 : a5.IsWhole)
  (x0 x1 : Vec Ideal S256x2048 .f32) (x2 xo : Vec Ideal S1x2048 .f32)

/-- The rows' gradient, at the first point. -/
theorem rows_first (hc0 hc1) : out0_A_3 c i a1 h1 a2 h2 a3 h3 a4 h4 a5 h5 hc0 hc1 x0 x1 x2 = k0_pay6 x0 x1 x2 := by
  unfold out0_A_3
  rw [View.read_writes_eq_canon _ _ _ (cover0_A_3 c i a1 h1 a2 h2 a3 h3 a4 h4 a5 h5 hc0 hc1 x0 x1 x2)]
  unfold kernelRun0_A
  dsimp only
  sl_unfold_words
  rw [View.canon_unit_zero hz2]
  simp only [View.readAt_eq_ld, h1.read_unread, h2.read_unread, h3.read_unread, View.ld_unit_zero (S := S256x2048) hz2, View.ld_unit_zero (S := S1x2048) hz2, shapeCast_self]

/-- And at a later one. -/
theorem rows_next (hc0 hc1) : out0_B_3 c i a1 h1 a2 h2 a3 h3 a4 h4 a5 h5 hc0 hc1 x0 x1 x2 xo = k0_pay6 x0 x1 x2 := by
  unfold out0_B_3
  rw [View.read_writes_eq_canon _ _ _ (cover0_B_3 c i a1 h1 a2 h2 a3 h3 a4 h4 a5 h5 hc0 hc1 x0 x1 x2 xo)]
  unfold kernelRun0_B
  dsimp only
  sl_unfold_words
  rw [View.canon_unit_zero hz2]
  simp only [View.readAt_eq_ld, h1.read_unread, h2.read_unread, h3.read_unread, View.ld_unit_zero (S := S256x2048) hz2, View.ld_unit_zero (S := S1x2048) hz2, shapeCast_self]

/-- The gain's gradient: the first point leaves its rows' part. -/
theorem gain_first (hc0 hc1) : out0_A_4 c i a1 h1 a2 h2 a3 h3 a4 h4 a5 h5 hc0 hc1 x0 x1 x2 = k0_pay5 x0 x1 := by
  unfold out0_A_4
  rw [View.read_writes_eq_canon _ _ _ (cover0_A_4 c i a1 h1 a2 h2 a3 h3 a4 h4 a5 h5 hc0 hc1 x0 x1 x2)]
  unfold kernelRun0_A
  dsimp only
  sl_unfold_words
  rw [View.canon_unit_zero hz2]
  simp only [View.readAt_eq_ld, h1.read_unread, h2.read_unread, h3.read_unread, View.ld_unit_zero (S := S256x2048) hz2, View.ld_unit_zero (S := S1x2048) hz2, shapeCast_self]

/-- A later one adds it. -/
theorem gain_next (hc0 hc1) : out0_B_4 c i a1 h1 a2 h2 a3 h3 a4 h4 a5 h5 hc0 hc1 x0 x1 x2 xo = addf xo (k0_pay5 x0 x1) := by
  unfold out0_B_4
  rw [View.read_writes_eq_canon _ _ _ (cover0_B_4 c i a1 h1 a2 h2 a3 h3 a4 h4 a5 h5 hc0 hc1 x0 x1 x2 xo)]
  unfold kernelRun0_B
  dsimp only
  sl_unfold_words
  rw [View.canon_unit_zero hz2]
  unfold k0_pay1
  simp only [View.readAt_eq_ld, h1.read_unread, h2.read_unread, h3.read_unread, h5.read_unread, View.ld_unit_zero (S := S256x2048) hz2, View.ld_unit_zero (S := S1x2048) hz2, shapeCast_self]
end body

open NormRow

/-- The branch's factor. -/
abbrev half : EReal := Ideal.ofBits .f32 0x3F000000#32

/-- A row. -/
abbrev row (f : FVec Ideal S4096x2048 .f32) (p : Fin 4096) : Fin 2048 → EReal := fun x => f (ix2 p x)

/-- A row of the arriving gradient, with the branch's factor and the gain. -/
def up (d : FVec Ideal S4096x2048 .f32) (g : FVec Ideal S1x2048 .f32) (p : Fin 4096) : Fin 2048 → EReal :=
  fun x => half * d (ix2 p x) * g (ix2 0 x)

/-- A row's part of the gain's gradient. -/
def part (d f : FVec Ideal S4096x2048 .f32) (q : Fin 2048) (p : Fin 4096) : EReal := half * d (ix2 p q) * (f (ix2 p q) * inv (row f p))

variable (m : (ℓ : Loc nD τ sig) → Buf (Elt Ideal) ℓ) (c : Dev nD)

theorem rows_at (t : Fin cfg0.N) : (outsAt0 m c t.val t.isLt).1 = k0_pay6 (iblk m c 0 t) (iblk m c 1 t) (iblk m c 2 t) := by
  have hN : t.val < 16 := lt_of_lt_of_eq t.isLt N_0
  by_cases h : t.val % 16 = 0
  · rw [outsAt0_A m c t h (by omega)]
    dsimp only
    exact rows_first c _ _ _ _ _ _ _ _ _ _ _ _ _ _ _ _
  · rw [outsAt0_B m c t h (by omega)]
    dsimp only
    exact rows_next c _ _ _ _ _ _ _ _ _ _ _ _ _ _ _ _ _

theorem gain_zero (t : Fin cfg0.N) (h : t.val = 0) : (outsAt0 m c t.val t.isLt).2 = k0_pay5 (iblk m c 0 t) (iblk m c 1 t) := by
  rw [outsAt0_A m c t (by omega) (by omega)]
  dsimp only
  exact gain_first c _ _ _ _ _ _ _ _ _ _ _ _ _ _ _ _

theorem gain_step (n : ℕ) (hn : n + 1 < cfg0.N) :
    (outsAt0 m c (n + 1) hn).2 = addf (outsAt0 m c n (Nat.lt_of_succ_lt hn)).2 (k0_pay5 (iblk m c 0 ⟨n + 1, hn⟩) (iblk m c 1 ⟨n + 1, hn⟩)) := by
  have hN : n + 1 < 16 := lt_of_lt_of_eq hn N_0
  rw [outsAt0_B m c ⟨n + 1, hn⟩ (by show ¬(n + 1) % 16 = 0; omega) (by show 1 ≤ n + 1; omega)]
  simp only [Nat.add_sub_cancel]
  exact gain_next c _ _ _ _ _ _ _ _ _ _ _ _ _ _ _ _ _

theorem index_eq : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ win0_4.index t (0 : Fin 2) = 0 ∧ win0_4.index t (1 : Fin 2) = 0 :=
  (by decide +kernel : ∀ t : Fin grid0.N, _)

section blocks
variable (t : Fin cfg0.N) (k : Fin 256) (x : Fin 2048) (p : Fin 4096) (hp : p.val = 256 * t.val + k.val)
include hp

theorem block0 : (iblk m c 0 t : FVec Ideal S256x2048 .f32) (ix2 k x) = (m ((c : Thread nD τ).loc main_arg0) : FVec Ideal S4096x2048 .f32) (ix2 p x) := by
  obtain ⟨⟨e0, e1⟩, -⟩ := index_eq t
  refine (?_ : _ = (V m c main_arg0 : FVec Ideal S4096x2048 .f32) _).trans (congrFun (V_main_arg0 m c) _)
  show V m c main_arg0 (((cfg0.win 0).blk t).view.emb _) = _
  congr 1
  funext a; apply Fin.ext
  match a with
  | ⟨0, _⟩ => show win0_0.index t (0 : Fin 2) * 256 + 1 * k.val = p.val; omega
  | ⟨1, _⟩ => show win0_0.index t (1 : Fin 2) * 2048 + 1 * x.val = x.val; omega

theorem block1 : (iblk m c 1 t : FVec Ideal S256x2048 .f32) (ix2 k x) = (m ((c : Thread nD τ).loc main_arg1) : FVec Ideal S4096x2048 .f32) (ix2 p x) := by
  obtain ⟨-, ⟨e0, e1⟩, -⟩ := index_eq t
  refine (?_ : _ = (V m c main_arg1 : FVec Ideal S4096x2048 .f32) _).trans (congrFun (V_main_arg1 m c) _)
  show V m c main_arg1 (((cfg0.win 1).blk t).view.emb _) = _
  congr 1
  funext a; apply Fin.ext
  match a with
  | ⟨0, _⟩ => show win0_1.index t (0 : Fin 2) * 256 + 1 * k.val = p.val; omega
  | ⟨1, _⟩ => show win0_1.index t (1 : Fin 2) * 2048 + 1 * x.val = x.val; omega
end blocks

theorem block2 (t : Fin cfg0.N) (x : Fin 2048) : (iblk m c 2 t : FVec Ideal S1x2048 .f32) (ix2 0 x) = (m ((c : Thread nD τ).loc main_arg2) : FVec Ideal S1x2048 .f32) (ix2 0 x) := by
  obtain ⟨-, -, ⟨e0, e1⟩, -⟩ := index_eq t
  refine (?_ : _ = (V m c main_arg2 : FVec Ideal S1x2048 .f32) _).trans (congrFun (V_main_arg2 m c) _)
  show V m c main_arg2 (((cfg0.win 2).blk t).view.emb _) = _
  congr 1
  funext a; apply Fin.ext
  match a with
  | ⟨0, _⟩ => show win0_2.index t (0 : Fin 2) * 1 + 1 * 0 = 0; omega
  | ⟨1, _⟩ => show win0_2.index t (1 : Fin 2) * 2048 + 1 * x.val = x.val; omega

/-- The rows' gradient after the launch. -/
theorem rows (p : Fin 4096) (q : Fin 2048) : ((dats m 0 c).arrAt 3 cfg0.N : FVec Ideal S4096x2048 .bf16) (ix2 p q)
    = closed (up (m ((c : Thread nD τ).loc main_arg0)) (m ((c : Thread nD τ).loc main_arg2)) p) (row (m ((c : Thread nD τ).loc main_arg1)) p) q := by
  obtain ⟨t, ht⟩ : ∃ t : Fin cfg0.N, t.val = p.val / 256 := ⟨⟨p.val / 256, lt_of_lt_of_eq (by omega) N_0.symm⟩, rfl⟩
  obtain ⟨-, -, -, ⟨e0, e1⟩, -⟩ := index_eq t
  have hp : p.val = 256 * t.val + p.val % 256 := by omega
  have h := congrFun (Value.blocks3 m c t (flush0_3 _)) (ix2 ⟨p.val % 256, by omega⟩ q)
  refine (Eq.trans ?_ h).trans ?_
  · show _ = (dats m 0 c).arrAt 3 cfg0.N (((cfg0.win 3).blk t).view.emb _)
    congr 1
    funext a; apply Fin.ext
    match a with
    | ⟨0, _⟩ => show p.val = win0_3.index t (0 : Fin 2) * 256 + 1 * (p.val % 256); omega
    | ⟨1, _⟩ => show q.val = win0_3.index t (1 : Fin 2) * 2048 + 1 * q.val; omega
  · rw [Value.flushed3]
    refine (congrFun (rows_at m c t) (ix2 ⟨p.val % 256, by omega⟩ q)).trans ?_
    pointwise [k0_pay6, k0_pay2, k0_pay4, k0_pay3]
    unfold closed NormRow.inv ms up row
    simp only [block0 m c t ⟨p.val % 256, by omega⟩ _ p hp, block1 m c t ⟨p.val % 256, by omega⟩ _ p hp, block2 m c t]

/-- A row's part, nought beyond the last row. -/
def parts (d f : FVec Ideal S4096x2048 .f32) (q : Fin 2048) (x : ℕ) : EReal := if h : x < 4096 then part d f q ⟨x, h⟩ else 0

theorem point_part (t : Fin cfg0.N) (q : Fin 2048) : k0_pay5 (iblk m c 0 t) (iblk m c 1 t) (ix2 0 q)
    = ∑ k ∈ Finset.range 256, parts (m ((c : Thread nD τ).loc main_arg0)) (m ((c : Thread nD τ).loc main_arg1)) q (256 * t.val + k) := by
  have hN : t.val < 16 := lt_of_lt_of_eq t.isLt N_0
  rw [Finset.sum_range]
  pointwise [k0_pay5, k0_pay2, k0_pay4, k0_pay3]
  refine Finset.sum_congr rfl fun k _ => ?_
  rw [parts, dif_pos (by omega : 256 * t.val + k.val < 4096)]
  unfold part NormRow.inv ms row
  simp only [block0 m c t k _ ⟨256 * t.val + k.val, by omega⟩ rfl, block1 m c t k _ ⟨256 * t.val + k.val, by omega⟩ rfl]

/-- What the gain's block holds after point `n`: the parts of the rows so far. -/
theorem gain_sofar (q : Fin 2048) : ∀ (n : ℕ) (hn : n < cfg0.N), (outsAt0 m c n hn).2 (ix2 0 q)
    = ∑ x ∈ Finset.range (256 * n + 256), parts (m ((c : Thread nD τ).loc main_arg0)) (m ((c : Thread nD τ).loc main_arg1)) q x
  | 0, hn => by
    refine (congrFun (gain_zero m c ⟨0, hn⟩ rfl) _).trans ((point_part m c ⟨0, hn⟩ q).trans ?_)
    exact Finset.sum_congr rfl fun k _ => congrArg _ (Nat.zero_add k)
  | n + 1, hn => by
    refine (congrFun (gain_step m c n hn) _).trans ?_
    rw [Finset.sum_range_add, show 256 * (n + 1) = 256 * n + 256 by ring, ← gain_sofar q n (Nat.lt_of_succ_lt hn)]
    exact congrArg (_ + ·) ((point_part m c ⟨n + 1, hn⟩ q).trans (Finset.sum_congr rfl fun k _ => congrArg _ (by show 256 * (n + 1) + k = _; ring)))

theorem disjoint4 : ∀ t t' : Fin cfg0.N, (cfg0.win 4).flush t = true → (cfg0.win 4).flush t' = true → t ≠ t' →
    Disjoint ((cfg0.win 4).blk t).view.set ((cfg0.win 4).blk t').view.set :=
  fun t t' hf hf' hne => absurd (Fin.ext (by
    have h := lt_of_lt_of_eq t.isLt N_0
    have h' := lt_of_lt_of_eq t'.isLt N_0
    have g := (flush0_4 t).mp hf
    have g' := (flush0_4 t').mp hf'
    omega)) hne

/-- The gain's gradient after the launch. -/
theorem gain (q : Fin 2048) : ((dats m 0 c).arrAt 4 cfg0.N : FVec Ideal S1x2048 .f32) (ix2 0 q)
    = ∑ p, part (m ((c : Thread nD τ).loc main_arg0)) (m ((c : Thread nD τ).loc main_arg1)) q p := by
  obtain ⟨t, ht⟩ : ∃ t : Fin cfg0.N, t.val = 15 := ⟨⟨15, lt_of_lt_of_eq (by omega) N_0.symm⟩, rfl⟩
  obtain ⟨-, -, -, -, e0, e1⟩ := index_eq t
  have h := congrFun ((dats m 0 c).read_blk_arrAt_eq_flushed 4 disjoint4 cfg0.N t t.isLt ((flush0_4 t).mpr (by omega))) (ix2 0 q)
  refine (Eq.trans ?_ h).trans ?_
  · show _ = (dats m 0 c).arrAt 4 cfg0.N (((cfg0.win 4).blk t).view.emb _)
    congr 1
    funext a; apply Fin.ext
    match a with
    | ⟨0, _⟩ => show 0 = win0_4.index t (0 : Fin 2) * 1 + 1 * 0; omega
    | ⟨1, _⟩ => show q.val = win0_4.index t (1 : Fin 2) * 2048 + 1 * q.val; omega
  · rw [Value.flushed4]
    refine (gain_sofar m c q t.val t.isLt).trans ?_
    rw [show 256 * t.val + 256 = 4096 by omega, Finset.sum_range]
    exact Finset.sum_congr rfl fun p _ => by rw [parts, dif_pos p.isLt]

end Cert.Proof.NormBwd

end
-- ==== Proof.NormRef.lean ====
/-
  What the reference computes of a norm's gradient, entry by entry: what comes back along a row, through the row's factor and through
  each of the two factors of its squares, and the gain's gradient, a sum over the rows.
-/
module

public import proofs.«01_k».proof.Proof.NormRow
public import proofs.«01_k».proof.Proof.Gen.Reference24Ideal
public import Idealize.ShloMosaic.Lib.Pointwise

@[expose] public section

set_option maxRecDepth 16384

noncomputable section

namespace Cert.Proof.NormRef

open Idealize.ShloMosaic Idealize.ShloMosaic.TcCoe
open Cert.Reference24Ideal Cert.Reference24Ideal.Gen
open Cert.Proof.NormRow (closed back ms)

variable (u e f r : FVec Ideal S4096x2048 .f32)

/-- Each row's mean square, with what is added to it. -/
def mean : FVec Ideal S4096x1 .f32 :=
  addf (Host.divf (broadcastInDim S4096x1 ![0] bcast_S4096_S4096x1_0 (Host.reduceAdd (mulf f f) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))

/-- What comes back through it. -/
def through : FVec Ideal S4096x2048 .f32 :=
  broadcastInDim S4096x2048 ![0] bcast_S4096_S4096x2048_0 (Host.reduceAdd (Host.divf (mulf (shapeCast S4096x1 (Host.reduceAdd (mulf f u) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (mean f)) (mean f)))) (broadcastInDim S4096x1 ![] bcast_S_S4096x1 (constant S_ .f32 0x45000000#32))) (constant S_ .f32 0x00000000#32) reducesTo_S4096x1_S4096_d1 h_S_)

/-- The row's factor, on each of its entries. -/
def factor : FVec Ideal S4096x2048 .f32 := broadcastInDim S4096x2048 ![0, 1] bcast_S4096x1_S4096x2048_0_1 (Host.rsqrt (mean f))

/-- The rows' gradient. -/
def dx : FVec Ideal S4096x2048 .f32 := addf (addf (mulf u (factor f)) (mulf f (through u f))) (mulf (through u f) f)

/-- The same with what arrives beside it. -/
def dxAdd : FVec Ideal S4096x2048 .f32 := addf (addf (addf r (mulf u (factor f))) (mulf f (through u f))) (mulf (through u f) f)

/-- The gain's gradient. -/
def dg : FVec Ideal S1x2048 .f32 :=
  shapeCast S1x2048 (Host.reduceAdd (mulf (mulf f (factor f)) e) (constant S_ .f32 0x00000000#32) reducesTo_S4096x2048_S2048_d0 h_S_) shapeCasts_S2048_S1x2048

variable (p : Fin 4096) (q : Fin 2048)

theorem mean_apply : mean f (ix2 p 0) = ms fun x => f (ix2 p x) := by
  pointwise [mean]
  rfl

theorem factor_apply : factor f (ix2 p q) = NormRow.inv fun x => f (ix2 p x) := by
  pointwise [factor]
  rw [mean_apply]
  rfl

theorem through_apply : through u f (ix2 p q) = back (fun x => u (ix2 p x)) fun x => f (ix2 p x) := by
  pointwise [through]
  refine (Fin.sum_univ_one _).trans ?_
  rw [mean_apply]
  rfl

theorem dx_apply : dx u f (ix2 p q) = closed (fun x => u (ix2 p x)) (fun x => f (ix2 p x)) q := by
  rw [NormRow.closed_eq, ← factor_apply f p q, ← through_apply u f p q, ← add_assoc]
  rfl

theorem dxAdd_apply : dxAdd u f r (ix2 p q) = closed (fun x => u (ix2 p x)) (fun x => f (ix2 p x)) q + r (ix2 p q) := by
  rw [NormRow.closed_eq, ← factor_apply f p q, ← through_apply u f p q, ← add_assoc, add_comm, ← add_assoc, ← add_assoc]
  rfl

theorem dg_apply : dg e f (ix2 0 q) = ∑ p : Fin 4096, e (ix2 p q) * (f (ix2 p q) * NormRow.inv fun x => f (ix2 p x)) := by
  pointwise [dg]
  exact Finset.sum_congr rfl fun p _ => by rw [factor_apply, mul_comm]

end Cert.Proof.NormRef

end
-- ==== Proof.NormBwdEq.lean ====
/-
  The claims about the launch that computes the gradient of the norm after a feed-forward block: its frames, and the equality of its two gradients with the
  reference's, whatever the numbers.
-/
module

public import proofs.«01_k».proof.Defs
public import proofs.«01_k».proof.Proof.NormBwd
public import proofs.«01_k».proof.Proof.NormRef
public import proofs.«01_k».proof.Proof.Gen.Kernel24.Frame
public import proofs.«01_k».proof.Proof.Gen.Reference24Ideal.Run
public import Idealize.ShloMosaic.Lib.Quiescent

@[expose] public section

set_option maxRecDepth 16384

noncomputable section

namespace Cert.Proof.NormBwd

open Idealize.ShloMosaic Idealize.ShloMosaic.TcCoe Idealize.SL.Sem
open Cert.Proof.NormRow (closed)

section
open Cert.Reference24Ideal Cert.Reference24Ideal.Gen

/-- What arrives, with the branch's factor. -/
def halved (d : FVec Ideal S4096x2048 .f32) : FVec Ideal S4096x2048 .f32 :=
  mulf (broadcastInDim S4096x2048 ![] bcast_S_S4096x2048 (constant S_ .f32 0x3F000000#32)) d

/-- And with the gain. -/
def ups (d : FVec Ideal S4096x2048 .f32) (g : FVec Ideal S1x2048 .f32) : FVec Ideal S4096x2048 .f32 :=
  mulf (halved d) (broadcastInDim S4096x2048 ![0, 1] bcast_S1x2048_S4096x2048_0_1 g)

theorem halved_apply (d : FVec Ideal S4096x2048 .f32) (p : Fin 4096) (q : Fin 2048) : halved d (ix2 p q) = half * d (ix2 p q) := by
  pointwise [halved]

theorem ups_apply (d : FVec Ideal S4096x2048 .f32) (g : FVec Ideal S1x2048 .f32) (p : Fin 4096) (q : Fin 2048) : ups d g (ix2 p q) = up d g p q := by
  pointwise [ups, halved]
  rfl

theorem ref_dx (d f : FVec Ideal S4096x2048 .f32) (g : FVec Ideal S1x2048 .f32) (p : Fin 4096) (q : Fin 2048) :
    (truncf .bf16 (NormRef.dx (ups d g) f) bitsLt_bf16_f32 : FVec Ideal S4096x2048 .bf16) (ix2 p q) = closed (up d g p) (row f p) q := by
  refine (NormRef.dx_apply (ups d g) f p q).trans ?_
  simp only [ups_apply]

theorem ref_dg (d f : FVec Ideal S4096x2048 .f32) (q : Fin 2048) : NormRef.dg (halved d) f (ix2 0 q) = ∑ p, part d f q p := by
  rw [NormRef.dg_apply]
  simp only [halved_apply]
  rfl

end

/-- The kernel's frame. -/
theorem frame_kernel : (haveI := Cert.Kernel24.Gen.facts; Cert.quiescent_Kernel24) := fun m ρ _ => Cert.Kernel24.Gen.frame m ρ

/-- Its idealization's. -/
theorem frame_ideal : (haveI := Cert.Kernel24Ideal.Gen.facts; Cert.quiescent_Kernel24Ideal) := fun m ρ _ => Cert.Kernel24Ideal.Gen.frame m ρ

/-- The reference's. -/
theorem frame_reference : (haveI := Cert.Reference24Ideal.Gen.facts; Cert.quiescent_Reference24Ideal) := fun m ρ _ =>
  (θ_run (Cert.Reference24Ideal.defs (F := Ideal)) _ _).mono (fun _ h => ⟨fun c => (h c).2.2, sem_eq_zero_of_no_sems rfl _⟩)
    (Cert.Reference24Ideal.Value.run (F := Ideal) m ρ)

/-- The kernel and the reference compute the same two gradients. -/
theorem algebraic : (haveI := Cert.Kernel24Ideal.Gen.facts; haveI := Cert.Reference24Ideal.Gen.facts
    Cert.algebraic_Kernel24Ideal_Reference24Ideal) := by
  intro m ρ m' ρ' _ hm
  refine ⟨_, _, Cert.Kernel24Ideal.Value.run_blocks m ρ, ?_⟩
  refine (θ_run (Cert.Reference24Ideal.defs (F := Ideal)) _ _).mono (fun r h c => ?_) (Cert.Reference24Ideal.Value.run (F := Ideal) m' ρ')
  obtain ⟨r1, r2, ra⟩ := h c
  obtain ⟨h0, h1, h2⟩ := hm c
  refine ⟨r1.trans ?_, r2.trans ?_, ra⟩
  · refine (show _ = truncf .bf16 (NormRef.dx (ups (m' (c.tc.loc Cert.Reference24Ideal.main_arg0)) (m' (c.tc.loc Cert.Reference24Ideal.main_arg2))) (m' (c.tc.loc Cert.Reference24Ideal.main_arg1))) Cert.Reference24Ideal.Gen.bitsLt_bf16_f32 from rfl).trans ?_
    rw [h0, h1, h2]
    funext j
    obtain ⟨p, q, rfl⟩ : ∃ p q, j = ix2 p q := ⟨_, _, eq_ix2 j⟩
    exact (ref_dx _ _ _ p q).trans (rows m c p q).symm
  · refine (show _ = NormRef.dg (halved (m' (c.tc.loc Cert.Reference24Ideal.main_arg0))) (m' (c.tc.loc Cert.Reference24Ideal.main_arg1)) from rfl).trans ?_
    rw [h0, h1]
    funext j
    obtain ⟨z, q, rfl⟩ : ∃ z q, j = ix2 z q := ⟨_, _, eq_ix2 j⟩
    obtain rfl : z = 0 := Subsingleton.elim _ _
    exact (ref_dg _ _ q).trans (gain m c q).symm

end Cert.Proof.NormBwd

end
-- ==== Proof.PrenormBwd.lean ====
/-
  What the launch of the gradient of the norm before a block leaves in memory: of each row the closed form of its gradient and
  what arrives beside it, and of the gain the sum over
  all rows, which the launch gathers 256 rows at a time.
-/
module

public import proofs.«01_k».proof.Proof.Gen.Kernel25Ideal.Value
public import Idealize.ShloMosaic.Lib.Pipeline.ValueKit.Basic
public import Idealize.ShloMosaic.Lib.Pointwise
public import proofs.«01_k».proof.Proof.NormRow

@[expose] public section

set_option maxRecDepth 16384

noncomputable section

namespace Cert.Proof.PrenormBwd

open Cert.Kernel25Ideal Cert.Kernel25Ideal.Gen
open Idealize.ShloMosaic Idealize.ShloMosaic.TcCoe
open Idealize.SL Idealize.SL.RA

theorem hz2 : (![0, 0] : Fin 2 → Nat) = fun _ => 0 := funext fun a => by fin_cases a <;> rfl

section body
variable (c : Dev nD) (i : grid0.Coords) (a1 : Memref sig .tc .vmem S256x2048 .f32) (h1 : a1.IsWhole)
  (a2 : Memref sig .tc .vmem S256x2048 .f32) (h2 : a2.IsWhole) (a3 : Memref sig .tc .vmem S256x2048 .f32) (h3 : a3.IsWhole)
  (a4 : Memref sig .tc .vmem S1x2048 .f32) (h4 : a4.IsWhole) (a5 : Memref sig .tc .vmem S256x2048 .f32) (h5 : a5.IsWhole)
  (a6 : Memref sig .tc .vmem S1x2048 .f32) (h6 : a6.IsWhole)
  (x0 x1 x2 : Vec Ideal S256x2048 .f32) (x3 xo : Vec Ideal S1x2048 .f32)

/-- The rows' gradient, at the first point. -/
theorem rows_first (hc0 hc1) : out0_A_4 c i a1 h1 a2 h2 a3 h3 a4 h4 a5 h5 a6 h6 hc0 hc1 x0 x1 x2 x3 = k0_pay6 x0 x1 x2 x3 := by
  unfold out0_A_4
  rw [View.read_writes_eq_canon _ _ _ (cover0_A_4 c i a1 h1 a2 h2 a3 h3 a4 h4 a5 h5 a6 h6 hc0 hc1 x0 x1 x2 x3)]
  unfold kernelRun0_A
  dsimp only
  sl_unfold_words
  rw [View.canon_unit_zero hz2]
  simp only [View.readAt_eq_ld, h1.read_unread, h2.read_unread, h3.read_unread, h4.read_unread, View.ld_unit_zero (S := S256x2048) hz2, View.ld_unit_zero (S := S1x2048) hz2, shapeCast_self]

/-- And at a later one. -/
theorem rows_next (hc0 hc1) : out0_B_4 c i a1 h1 a2 h2 a3 h3 a4 h4 a5 h5 a6 h6 hc0 hc1 x0 x1 x2 x3 xo = k0_pay6 x0 x1 x2 x3 := by
  unfold out0_B_4
  rw [View.read_writes_eq_canon _ _ _ (cover0_B_4 c i a1 h1 a2 h2 a3 h3 a4 h4 a5 h5 a6 h6 hc0 hc1 x0 x1 x2 x3 xo)]
  unfold kernelRun0_B
  dsimp only
  sl_unfold_words
  rw [View.canon_unit_zero hz2]
  simp only [View.readAt_eq_ld, h1.read_unread, h2.read_unread, h3.read_unread, h4.read_unread, View.ld_unit_zero (S := S256x2048) hz2, View.ld_unit_zero (S := S1x2048) hz2, shapeCast_self]

/-- The gain's gradient: the first point leaves its rows' part. -/
theorem gain_first (hc0 hc1) : out0_A_5 c i a1 h1 a2 h2 a3 h3 a4 h4 a5 h5 a6 h6 hc0 hc1 x0 x1 x2 x3 = k0_pay5 x0 x1 := by
  unfold out0_A_5
  rw [View.read_writes_eq_canon _ _ _ (cover0_A_5 c i a1 h1 a2 h2 a3 h3 a4 h4 a5 h5 a6 h6 hc0 hc1 x0 x1 x2 x3)]
  unfold kernelRun0_A
  dsimp only
  sl_unfold_words
  rw [View.canon_unit_zero hz2]
  simp only [View.readAt_eq_ld, h1.read_unread, h2.read_unread, h3.read_unread, h4.read_unread, View.ld_unit_zero (S := S256x2048) hz2, View.ld_unit_zero (S := S1x2048) hz2, shapeCast_self]

/-- A later one adds it. -/
theorem gain_next (hc0 hc1) : out0_B_5 c i a1 h1 a2 h2 a3 h3 a4 h4 a5 h5 a6 h6 hc0 hc1 x0 x1 x2 x3 xo = addf xo (k0_pay5 x0 x1) := by
  unfold out0_B_5
  rw [View.read_writes_eq_canon _ _ _ (cover0_B_5 c i a1 h1 a2 h2 a3 h3 a4 h4 a5 h5 a6 h6 hc0 hc1 x0 x1 x2 x3 xo)]
  unfold kernelRun0_B
  dsimp only
  sl_unfold_words
  rw [View.canon_unit_zero hz2]
  unfold k0_pay1
  simp only [View.readAt_eq_ld, h1.read_unread, h2.read_unread, h3.read_unread, h4.read_unread, h6.read_unread, View.ld_unit_zero (S := S256x2048) hz2, View.ld_unit_zero (S := S1x2048) hz2, shapeCast_self]
end body

open NormRow

/-- A row. -/
abbrev row (f : FVec Ideal S4096x2048 .f32) (p : Fin 4096) : Fin 2048 → EReal := fun x => f (ix2 p x)

/-- A row of the arriving gradient, with the gain. -/
def up (d : FVec Ideal S4096x2048 .f32) (g : FVec Ideal S1x2048 .f32) (p : Fin 4096) : Fin 2048 → EReal :=
  fun x => d (ix2 p x) * g (ix2 0 x)

/-- A row's part of the gain's gradient. -/
def part (d f : FVec Ideal S4096x2048 .f32) (q : Fin 2048) (p : Fin 4096) : EReal := d (ix2 p q) * (f (ix2 p q) * inv (row f p))

variable (m : (ℓ : Loc nD τ sig) → Buf (Elt Ideal) ℓ) (c : Dev nD)

theorem rows_at (t : Fin cfg0.N) : (outsAt0 m c t.val t.isLt).1 = k0_pay6 (iblk m c 0 t) (iblk m c 1 t) (iblk m c 2 t) (iblk m c 3 t) := by
  have hN : t.val < 16 := lt_of_lt_of_eq t.isLt N_0
  by_cases h : t.val % 16 = 0
  · rw [outsAt0_A m c t h (by omega)]
    dsimp only
    exact rows_first c _ _ _ _ _ _ _ _ _ _ _ _ _ _ _ _ _ _ _
  · rw [outsAt0_B m c t h (by omega)]
    dsimp only
    exact rows_next c _ _ _ _ _ _ _ _ _ _ _ _ _ _ _ _ _ _ _ _

theorem gain_zero (t : Fin cfg0.N) (h : t.val = 0) : (outsAt0 m c t.val t.isLt).2 = k0_pay5 (iblk m c 0 t) (iblk m c 1 t) := by
  rw [outsAt0_A m c t (by omega) (by omega)]
  dsimp only
  exact gain_first c _ _ _ _ _ _ _ _ _ _ _ _ _ _ _ _ _ _ _

theorem gain_step (n : ℕ) (hn : n + 1 < cfg0.N) :
    (outsAt0 m c (n + 1) hn).2 = addf (outsAt0 m c n (Nat.lt_of_succ_lt hn)).2 (k0_pay5 (iblk m c 0 ⟨n + 1, hn⟩) (iblk m c 1 ⟨n + 1, hn⟩)) := by
  have hN : n + 1 < 16 := lt_of_lt_of_eq hn N_0
  rw [outsAt0_B m c ⟨n + 1, hn⟩ (by show ¬(n + 1) % 16 = 0; omega) (by show 1 ≤ n + 1; omega)]
  simp only [Nat.add_sub_cancel]
  exact gain_next c _ _ _ _ _ _ _ _ _ _ _ _ _ _ _ _ _ _ _ _

theorem index_eq : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ win0_5.index t (0 : Fin 2) = 0 ∧ win0_5.index t (1 : Fin 2) = 0 :=
  (by decide +kernel : ∀ t : Fin grid0.N, _)

section blocks
variable (t : Fin cfg0.N) (k : Fin 256) (x : Fin 2048) (p : Fin 4096) (hp : p.val = 256 * t.val + k.val)
include hp

theorem block0 : (iblk m c 0 t : FVec Ideal S256x2048 .f32) (ix2 k x) = (m ((c : Thread nD τ).loc main_arg0) : FVec Ideal S4096x2048 .f32) (ix2 p x) := by
  obtain ⟨⟨e0, e1⟩, -⟩ := index_eq t
  refine (?_ : _ = (V m c main_arg0 : FVec Ideal S4096x2048 .f32) _).trans (congrFun (V_main_arg0 m c) _)
  show V m c main_arg0 (((cfg0.win 0).blk t).view.emb _) = _
  congr 1
  funext a; apply Fin.ext
  match a with
  | ⟨0, _⟩ => show win0_0.index t (0 : Fin 2) * 256 + 1 * k.val = p.val; omega
  | ⟨1, _⟩ => show win0_0.index t (1 : Fin 2) * 2048 + 1 * x.val = x.val; omega

theorem block1 : (iblk m c 1 t : FVec Ideal S256x2048 .f32) (ix2 k x) = (m ((c : Thread nD τ).loc main_arg1) : FVec Ideal S4096x2048 .f32) (ix2 p x) := by
  obtain ⟨-, ⟨e0, e1⟩, -⟩ := index_eq t
  refine (?_ : _ = (V m c main_arg1 : FVec Ideal S4096x2048 .f32) _).trans (congrFun (V_main_arg1 m c) _)
  show V m c main_arg1 (((cfg0.win 1).blk t).view.emb _) = _
  congr 1
  funext a; apply Fin.ext
  match a with
  | ⟨0, _⟩ => show win0_1.index t (0 : Fin 2) * 256 + 1 * k.val = p.val; omega
  | ⟨1, _⟩ => show win0_1.index t (1 : Fin 2) * 2048 + 1 * x.val = x.val; omega
theorem block2 : (iblk m c 2 t : FVec Ideal S256x2048 .f32) (ix2 k x) = (m ((c : Thread nD τ).loc main_arg2) : FVec Ideal S4096x2048 .f32) (ix2 p x) := by
  obtain ⟨-, -, ⟨e0, e1⟩, -⟩ := index_eq t
  refine (?_ : _ = (V m c main_arg2 : FVec Ideal S4096x2048 .f32) _).trans (congrFun (V_main_arg2 m c) _)
  show V m c main_arg2 (((cfg0.win 2).blk t).view.emb _) = _
  congr 1
  funext a; apply Fin.ext
  match a with
  | ⟨0, _⟩ => show win0_2.index t (0 : Fin 2) * 256 + 1 * k.val = p.val; omega
  | ⟨1, _⟩ => show win0_2.index t (1 : Fin 2) * 2048 + 1 * x.val = x.val; omega
end blocks

theorem block3 (t : Fin cfg0.N) (x : Fin 2048) : (iblk m c 3 t : FVec Ideal S1x2048 .f32) (ix2 0 x) = (m ((c : Thread nD τ).loc main_arg3) : FVec Ideal S1x2048 .f32) (ix2 0 x) := by
  obtain ⟨-, -, -, ⟨e0, e1⟩, -⟩ := index_eq t
  refine (?_ : _ = (V m c main_arg3 : FVec Ideal S1x2048 .f32) _).trans (congrFun (V_main_arg3 m c) _)
  show V m c main_arg3 (((cfg0.win 3).blk t).view.emb _) = _
  congr 1
  funext a; apply Fin.ext
  match a with
  | ⟨0, _⟩ => show win0_3.index t (0 : Fin 2) * 1 + 1 * 0 = 0; omega
  | ⟨1, _⟩ => show win0_3.index t (1 : Fin 2) * 2048 + 1 * x.val = x.val; omega

/-- The rows' gradient after the launch. -/
theorem rows (p : Fin 4096) (q : Fin 2048) : ((dats m 0 c).arrAt 4 cfg0.N : FVec Ideal S4096x2048 .f32) (ix2 p q)
    = closed (up (m ((c : Thread nD τ).loc main_arg0)) (m ((c : Thread nD τ).loc main_arg3)) p) (row (m ((c : Thread nD τ).loc main_arg1)) p) q
      + (m ((c : Thread nD τ).loc main_arg2) : FVec Ideal S4096x2048 .f32) (ix2 p q) := by
  obtain ⟨t, ht⟩ : ∃ t : Fin cfg0.N, t.val = p.val / 256 := ⟨⟨p.val / 256, lt_of_lt_of_eq (by omega) N_0.symm⟩, rfl⟩
  obtain ⟨-, -, -, -, ⟨e0, e1⟩, -⟩ := index_eq t
  have hp : p.val = 256 * t.val + p.val % 256 := by omega
  have h := congrFun (Value.blocks4 m c t (flush0_4 _)) (ix2 ⟨p.val % 256, by omega⟩ q)
  refine (Eq.trans ?_ h).trans ?_
  · show _ = (dats m 0 c).arrAt 4 cfg0.N (((cfg0.win 4).blk t).view.emb _)
    congr 1
    funext a; apply Fin.ext
    match a with
    | ⟨0, _⟩ => show p.val = win0_4.index t (0 : Fin 2) * 256 + 1 * (p.val % 256); omega
    | ⟨1, _⟩ => show q.val = win0_4.index t (1 : Fin 2) * 2048 + 1 * q.val; omega
  · rw [Value.flushed4]
    refine (congrFun (rows_at m c t) (ix2 ⟨p.val % 256, by omega⟩ q)).trans ?_
    pointwise [k0_pay6, k0_pay2, k0_pay4, k0_pay3]
    unfold closed NormRow.inv ms up row
    simp only [block0 m c t ⟨p.val % 256, by omega⟩ _ p hp, block1 m c t ⟨p.val % 256, by omega⟩ _ p hp, block2 m c t ⟨p.val % 256, by omega⟩ _ p hp, block3 m c t]

/-- A row's part, nought beyond the last row. -/
def parts (d f : FVec Ideal S4096x2048 .f32) (q : Fin 2048) (x : ℕ) : EReal := if h : x < 4096 then part d f q ⟨x, h⟩ else 0

theorem point_part (t : Fin cfg0.N) (q : Fin 2048) : k0_pay5 (iblk m c 0 t) (iblk m c 1 t) (ix2 0 q)
    = ∑ k ∈ Finset.range 256, parts (m ((c : Thread nD τ).loc main_arg0)) (m ((c : Thread nD τ).loc main_arg1)) q (256 * t.val + k) := by
  have hN : t.val < 16 := lt_of_lt_of_eq t.isLt N_0
  rw [Finset.sum_range]
  pointwise [k0_pay5, k0_pay2, k0_pay4, k0_pay3]
  refine Finset.sum_congr rfl fun k _ => ?_
  rw [parts, dif_pos (by omega : 256 * t.val + k.val < 4096)]
  unfold part NormRow.inv ms row
  simp only [block0 m c t k _ ⟨256 * t.val + k.val, by omega⟩ rfl, block1 m c t k _ ⟨256 * t.val + k.val, by omega⟩ rfl]

/-- What the gain's block holds after point `n`: the parts of the rows so far. -/
theorem gain_sofar (q : Fin 2048) : ∀ (n : ℕ) (hn : n < cfg0.N), (outsAt0 m c n hn).2 (ix2 0 q)
    = ∑ x ∈ Finset.range (256 * n + 256), parts (m ((c : Thread nD τ).loc main_arg0)) (m ((c : Thread nD τ).loc main_arg1)) q x
  | 0, hn => by
    refine (congrFun (gain_zero m c ⟨0, hn⟩ rfl) _).trans ((point_part m c ⟨0, hn⟩ q).trans ?_)
    exact Finset.sum_congr rfl fun k _ => congrArg _ (Nat.zero_add k)
  | n + 1, hn => by
    refine (congrFun (gain_step m c n hn) _).trans ?_
    rw [Finset.sum_range_add, show 256 * (n + 1) = 256 * n + 256 by ring, ← gain_sofar q n (Nat.lt_of_succ_lt hn)]
    exact congrArg (_ + ·) ((point_part m c ⟨n + 1, hn⟩ q).trans (Finset.sum_congr rfl fun k _ => congrArg _ (by show 256 * (n + 1) + k = _; ring)))

theorem disjoint5 : ∀ t t' : Fin cfg0.N, (cfg0.win 5).flush t = true → (cfg0.win 5).flush t' = true → t ≠ t' →
    Disjoint ((cfg0.win 5).blk t).view.set ((cfg0.win 5).blk t').view.set :=
  fun t t' hf hf' hne => absurd (Fin.ext (by
    have h := lt_of_lt_of_eq t.isLt N_0
    have h' := lt_of_lt_of_eq t'.isLt N_0
    have g := (flush0_5 t).mp hf
    have g' := (flush0_5 t').mp hf'
    omega)) hne

/-- The gain's gradient after the launch. -/
theorem gain (q : Fin 2048) : ((dats m 0 c).arrAt 5 cfg0.N : FVec Ideal S1x2048 .f32) (ix2 0 q)
    = ∑ p, part (m ((c : Thread nD τ).loc main_arg0)) (m ((c : Thread nD τ).loc main_arg1)) q p := by
  obtain ⟨t, ht⟩ : ∃ t : Fin cfg0.N, t.val = 15 := ⟨⟨15, lt_of_lt_of_eq (by omega) N_0.symm⟩, rfl⟩
  obtain ⟨-, -, -, -, -, e0, e1⟩ := index_eq t
  have h := congrFun ((dats m 0 c).read_blk_arrAt_eq_flushed 5 disjoint5 cfg0.N t t.isLt ((flush0_5 t).mpr (by omega))) (ix2 0 q)
  refine (Eq.trans ?_ h).trans ?_
  · show _ = (dats m 0 c).arrAt 5 cfg0.N (((cfg0.win 5).blk t).view.emb _)
    congr 1
    funext a; apply Fin.ext
    match a with
    | ⟨0, _⟩ => show 0 = win0_5.index t (0 : Fin 2) * 1 + 1 * 0; omega
    | ⟨1, _⟩ => show q.val = win0_5.index t (1 : Fin 2) * 2048 + 1 * q.val; omega
  · rw [Value.flushed5]
    refine (gain_sofar m c q t.val t.isLt).trans ?_
    rw [show 256 * t.val + 256 = 4096 by omega, Finset.sum_range]
    exact Finset.sum_congr rfl fun p _ => by rw [parts, dif_pos p.isLt]

end Cert.Proof.PrenormBwd

end
-- ==== Proof.PrenormBwdEq.lean ====
/-
  The claims about the launch that computes the gradient of the norm before a feed-forward block: its frames, and the equality of its two gradients with the
  reference's, whatever the numbers.
-/
module

public import proofs.«01_k».proof.Defs
public import proofs.«01_k».proof.Proof.PrenormBwd
public import proofs.«01_k».proof.Proof.NormRef
public import proofs.«01_k».proof.Proof.Gen.Kernel25.Frame
public import proofs.«01_k».proof.Proof.Gen.Reference25Ideal.Run
public import Idealize.ShloMosaic.Lib.Quiescent

@[expose] public section

set_option maxRecDepth 16384

noncomputable section

namespace Cert.Proof.PrenormBwd

open Idealize.ShloMosaic Idealize.ShloMosaic.TcCoe Idealize.SL.Sem
open Cert.Proof.NormRow (closed)

section
open Cert.Reference25Ideal Cert.Reference25Ideal.Gen

/-- What arrives, with the gain. -/
def ups (d : FVec Ideal S4096x2048 .f32) (g : FVec Ideal S1x2048 .f32) : FVec Ideal S4096x2048 .f32 :=
  mulf d (broadcastInDim S4096x2048 ![0, 1] bcast_S1x2048_S4096x2048_0_1 g)

theorem ups_apply (d : FVec Ideal S4096x2048 .f32) (g : FVec Ideal S1x2048 .f32) (p : Fin 4096) (q : Fin 2048) : ups d g (ix2 p q) = up d g p q := by
  pointwise [ups]
  rfl

theorem ref_dx (d f r : FVec Ideal S4096x2048 .f32) (g : FVec Ideal S1x2048 .f32) (p : Fin 4096) (q : Fin 2048) :
    NormRef.dxAdd (ups d g) f r (ix2 p q) = closed (up d g p) (row f p) q + r (ix2 p q) := by
  refine (NormRef.dxAdd_apply (ups d g) f r p q).trans ?_
  simp only [ups_apply]

theorem ref_dg (d f : FVec Ideal S4096x2048 .f32) (q : Fin 2048) : NormRef.dg d f (ix2 0 q) = ∑ p, part d f q p :=
  NormRef.dg_apply d f q

end

/-- The kernel's frame. -/
theorem frame_kernel : (haveI := Cert.Kernel25.Gen.facts; Cert.quiescent_Kernel25) := fun m ρ _ => Cert.Kernel25.Gen.frame m ρ

/-- Its idealization's. -/
theorem frame_ideal : (haveI := Cert.Kernel25Ideal.Gen.facts; Cert.quiescent_Kernel25Ideal) := fun m ρ _ => Cert.Kernel25Ideal.Gen.frame m ρ

/-- The reference's. -/
theorem frame_reference : (haveI := Cert.Reference25Ideal.Gen.facts; Cert.quiescent_Reference25Ideal) := fun m ρ _ =>
  (θ_run (Cert.Reference25Ideal.defs (F := Ideal)) _ _).mono (fun _ h => ⟨fun c => (h c).2.2, sem_eq_zero_of_no_sems rfl _⟩)
    (Cert.Reference25Ideal.Value.run (F := Ideal) m ρ)

/-- The kernel and the reference compute the same two gradients. -/
theorem algebraic : (haveI := Cert.Kernel25Ideal.Gen.facts; haveI := Cert.Reference25Ideal.Gen.facts
    Cert.algebraic_Kernel25Ideal_Reference25Ideal) := by
  intro m ρ m' ρ' _ hm
  refine ⟨_, _, Cert.Kernel25Ideal.Value.run_blocks m ρ, ?_⟩
  refine (θ_run (Cert.Reference25Ideal.defs (F := Ideal)) _ _).mono (fun r h c => ?_) (Cert.Reference25Ideal.Value.run (F := Ideal) m' ρ')
  obtain ⟨r1, r2, ra⟩ := h c
  obtain ⟨h0, h1, h2, h3⟩ := hm c
  refine ⟨r1.trans ?_, r2.trans ?_, ra⟩
  · refine (show _ = NormRef.dxAdd (ups (m' (c.tc.loc Cert.Reference25Ideal.main_arg0)) (m' (c.tc.loc Cert.Reference25Ideal.main_arg3))) (m' (c.tc.loc Cert.Reference25Ideal.main_arg1)) (m' (c.tc.loc Cert.Reference25Ideal.main_arg2)) from rfl).trans ?_
    rw [h0, h1, h2, h3]
    funext j
    obtain ⟨p, q, rfl⟩ : ∃ p q, j = ix2 p q := ⟨_, _, eq_ix2 j⟩
    exact (ref_dx _ _ _ _ p q).trans (rows m c p q).symm
  · refine (show _ = NormRef.dg (m' (c.tc.loc Cert.Reference25Ideal.main_arg0)) (m' (c.tc.loc Cert.Reference25Ideal.main_arg1)) from rfl).trans ?_
    rw [h0, h1]
    funext j
    obtain ⟨z, q, rfl⟩ : ∃ z q, j = ix2 z q := ⟨_, _, eq_ix2 j⟩
    obtain rfl : z = 0 := Subsingleton.elim _ _
    exact (ref_dg _ _ q).trans (gain m c q).symm

end Cert.Proof.PrenormBwd

end
-- ==== Proof.lean ====
/-
  The claims together. Of the gradient of the gated delta scan: the two programs' frames read off their runs, the idealization without
  rewrites, and the equality of the kernel's gradients with the reference's. Of the other calls the same five, from their own modules.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Equation
public import proofs.«01_k».proof.Proof.DownBwdEq
public import proofs.«01_k».proof.Proof.GateupBwdEq
public import proofs.«01_k».proof.Proof.DownGradEq
public import proofs.«01_k».proof.Proof.GateGradEq
public import proofs.«01_k».proof.Proof.FfnUpEq
public import proofs.«01_k».proof.Proof.FfnDownEq
public import proofs.«01_k».proof.Proof.InFwdEq
public import proofs.«01_k».proof.Proof.InBwdEq
public import proofs.«01_k».proof.Proof.InGradEq
public import proofs.«01_k».proof.Proof.OutFwdEq
public import proofs.«01_k».proof.Proof.OutBwdEq
public import proofs.«01_k».proof.Proof.OutGradEq
public import proofs.«01_k».proof.Proof.UpGradEq
public import proofs.«01_k».proof.Proof.DownBwdFirstEq
public import proofs.«01_k».proof.Proof.GateupBwdFirstEq
public import proofs.«01_k».proof.Proof.FfnUpFirstEq
public import proofs.«01_k».proof.Proof.FfnDownFirstEq
public import proofs.«01_k».proof.Proof.DownGradSecondEq
public import proofs.«01_k».proof.Proof.GateGradSecondEq
public import proofs.«01_k».proof.Proof.UpGradSecondEq
public import proofs.«01_k».proof.Proof.ConvBwdEq
public import proofs.«01_k».proof.Proof.ConvFwdEq
public import proofs.«01_k».proof.Proof.NormBwdEq
public import proofs.«01_k».proof.Proof.PrenormBwdEq
public import proofs.«01_k».proof.Proof.Gen.Pre_finite
public import proofs.«01_k».proof.Proof.Gen.Pre_conv_finite
public import Idealize.ShloMosaic.Adequacy
public import Idealize.ShloMosaic.Init

@[expose] public section

noncomputable section

namespace Cert.Proof

open Idealize.ShloMosaic Idealize.ShloMosaic.TcCoe Idealize.SL.Sem Cert.Kernel

/-- Where a buffer outside every scope ends, of the kernel: at `atEnd`. -/
theorem kernel_at {F : FTy → Type} [FloatOps F] {m : (ℓ : Loc Cert.KernelIdeal.nD Cert.KernelIdeal.τ Cert.KernelIdeal.sig) → Buf (Elt F) ℓ} {μ : (ℓ : Loc Cert.KernelIdeal.nD Cert.KernelIdeal.τ Cert.KernelIdeal.sig) → Buf (Elt F) ℓ}
    (h : ∀ c, ∀ b ∈ Pipeline.ucRefs Cert.KernelIdeal.τ Cert.KernelIdeal.sig, μ (c, b) = atEnd m c b) (c : Dev Cert.KernelIdeal.nD) (r : Ref Cert.KernelIdeal.sig .tc)
    (hr : (Proc.devRef .tc r : DevRef Cert.KernelIdeal.τ Cert.KernelIdeal.sig).isScoped = false) :
    μ ((c.tc : Thread Cert.KernelIdeal.nD Cert.KernelIdeal.τ).loc r) = atEnd m c (Proc.devRef .tc r) := h c _ (held_mem r (by rw [hr]; decide))

/-- The frame of the kernel's text, over any numbers: arguments unchanged, counters at zero. -/
theorem frame_of {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧
      r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧
      r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧
      r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) ∧
      r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) ∧
      r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) ∧
      r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) ∧ r.2.sem = fun _ => 0) :=
  (θ_run (Cert.KernelIdeal.defs (F := F)) _ _).mono (fun r h => ⟨fun c => ⟨
    (kernel_at h.1 c Cert.KernelIdeal.main_arg0 rfl).trans (atEnd_kept m c Cert.KernelIdeal.main_arg0 (by decide) (by decide)),
    (kernel_at h.1 c Cert.KernelIdeal.main_arg1 rfl).trans (atEnd_kept m c Cert.KernelIdeal.main_arg1 (by decide) (by decide)),
    (kernel_at h.1 c Cert.KernelIdeal.main_arg2 rfl).trans (atEnd_kept m c Cert.KernelIdeal.main_arg2 (by decide) (by decide)),
    (kernel_at h.1 c Cert.KernelIdeal.main_arg3 rfl).trans (atEnd_kept m c Cert.KernelIdeal.main_arg3 (by decide) (by decide)),
    (kernel_at h.1 c Cert.KernelIdeal.main_arg4 rfl).trans (atEnd_kept m c Cert.KernelIdeal.main_arg4 (by decide) (by decide)),
    (kernel_at h.1 c Cert.KernelIdeal.main_arg5 rfl).trans (atEnd_kept m c Cert.KernelIdeal.main_arg5 (by decide) (by decide)),
    (kernel_at h.1 c Cert.KernelIdeal.main_arg6 rfl).trans (atEnd_kept m c Cert.KernelIdeal.main_arg6 (by decide) (by decide))⟩, h.2⟩) (run_held (F := F) m ρ)

set_option maxHeartbeats 4000000 in
set_option smartUnfolding false in
/-- The kernel's frame, by the run of its idealization: the two programs have one text under two names, which shows once both are
    unfolded. -/
theorem frame_kernel : Cert.quiescent_Kernel := fun m ρ _ => frame_of (F := Bits) m ρ

/-- The idealization's frame. -/
theorem frame_ideal : Cert.quiescent_KernelIdeal := fun m ρ _ => frame_of (F := Ideal) m ρ

/-- The reference's frame. -/
theorem frame_reference : Cert.quiescent_ReferenceIdeal := fun m ρ _ =>
  (θ_run (Cert.ReferenceIdeal.defs (F := Ideal)) _ _).mono (fun r h => ⟨fun c => ⟨
    (h.1 c Cert.ReferenceIdeal.main_arg0 rfl).trans (Ref.out_keep m c Cert.ReferenceIdeal.main_arg0 (by decide)),
    (h.1 c Cert.ReferenceIdeal.main_arg1 rfl).trans (Ref.out_keep m c Cert.ReferenceIdeal.main_arg1 (by decide)),
    (h.1 c Cert.ReferenceIdeal.main_arg2 rfl).trans (Ref.out_keep m c Cert.ReferenceIdeal.main_arg2 (by decide)),
    (h.1 c Cert.ReferenceIdeal.main_arg3 rfl).trans (Ref.out_keep m c Cert.ReferenceIdeal.main_arg3 (by decide)),
    (h.1 c Cert.ReferenceIdeal.main_arg4 rfl).trans (Ref.out_keep m c Cert.ReferenceIdeal.main_arg4 (by decide)),
    (h.1 c Cert.ReferenceIdeal.main_arg5 rfl).trans (Ref.out_keep m c Cert.ReferenceIdeal.main_arg5 (by decide)),
    (h.1 c Cert.ReferenceIdeal.main_arg6 rfl).trans (Ref.out_keep m c Cert.ReferenceIdeal.main_arg6 (by decide))⟩, h.2⟩) (Ref.run_out (F := Ideal) m ρ)

/-- The kernel and the reference compute the same six gradients. -/
theorem algebraic : Cert.algebraic_KernelIdeal_ReferenceIdeal := by
  intro m ρ m' ρ' _ hm
  have agree : ∀ c, Agree m m' c := fun c => by
    obtain ⟨h0, h1, h2, h3, h4, h5, h6⟩ := hm c
    exact ⟨h0, h1, h2, h3, h4, h5, h6⟩
  refine ⟨fun c => atEnd m c (Proc.devRef .tc Cert.KernelIdeal.main_v1_0), fun c => atEnd m c (Proc.devRef .tc Cert.KernelIdeal.main_v1_1),
    fun c => atEnd m c (Proc.devRef .tc Cert.KernelIdeal.main_v1_2), fun c => atEnd m c (Proc.devRef .tc Cert.KernelIdeal.main_v1_3),
    fun c => atEnd m c (Proc.devRef .tc Cert.KernelIdeal.main_v1_4), fun c => atEnd m c (Proc.devRef .tc Cert.KernelIdeal.main_v1_5), ?_, ?_⟩
  · refine (θ_run (Cert.KernelIdeal.defs (F := Ideal)) _ _).mono (fun r h c => ⟨
      kernel_at h.1 c Cert.KernelIdeal.main_v1_0 rfl,
      kernel_at h.1 c Cert.KernelIdeal.main_v1_1 rfl,
      kernel_at h.1 c Cert.KernelIdeal.main_v1_2 rfl,
      kernel_at h.1 c Cert.KernelIdeal.main_v1_3 rfl,
      kernel_at h.1 c Cert.KernelIdeal.main_v1_4 rfl,
      kernel_at h.1 c Cert.KernelIdeal.main_v1_5 rfl,
      (kernel_at h.1 c Cert.KernelIdeal.main_arg0 rfl).trans (atEnd_kept m c Cert.KernelIdeal.main_arg0 (by decide) (by decide)),
      (kernel_at h.1 c Cert.KernelIdeal.main_arg1 rfl).trans (atEnd_kept m c Cert.KernelIdeal.main_arg1 (by decide) (by decide)),
      (kernel_at h.1 c Cert.KernelIdeal.main_arg2 rfl).trans (atEnd_kept m c Cert.KernelIdeal.main_arg2 (by decide) (by decide)),
      (kernel_at h.1 c Cert.KernelIdeal.main_arg3 rfl).trans (atEnd_kept m c Cert.KernelIdeal.main_arg3 (by decide) (by decide)),
      (kernel_at h.1 c Cert.KernelIdeal.main_arg4 rfl).trans (atEnd_kept m c Cert.KernelIdeal.main_arg4 (by decide) (by decide)),
      (kernel_at h.1 c Cert.KernelIdeal.main_arg5 rfl).trans (atEnd_kept m c Cert.KernelIdeal.main_arg5 (by decide) (by decide)),
      (kernel_at h.1 c Cert.KernelIdeal.main_arg6 rfl).trans (atEnd_kept m c Cert.KernelIdeal.main_arg6 (by decide) (by decide))⟩) (run_held (F := Ideal) m ρ)
  · refine (θ_run (Cert.ReferenceIdeal.defs (F := Ideal)) _ _).mono (fun r h c => ⟨
      (h.1 c Cert.ReferenceIdeal.main_v42 rfl).trans (eq_u (agree c)),
      (h.1 c Cert.ReferenceIdeal.main_v41 rfl).trans (eq_w (agree c)),
      (h.1 c Cert.ReferenceIdeal.main_v40 rfl).trans (eq_a (agree c)),
      (h.1 c Cert.ReferenceIdeal.main_v44 rfl).trans (eq_q (agree c)),
      (h.1 c Cert.ReferenceIdeal.main_v43 rfl).trans (eq_k (agree c)),
      (h.1 c Cert.ReferenceIdeal.main_v39 rfl).trans (eq_d (agree c)),
      (h.1 c Cert.ReferenceIdeal.main_arg0 rfl).trans (Ref.out_keep m' c Cert.ReferenceIdeal.main_arg0 (by decide)),
      (h.1 c Cert.ReferenceIdeal.main_arg1 rfl).trans (Ref.out_keep m' c Cert.ReferenceIdeal.main_arg1 (by decide)),
      (h.1 c Cert.ReferenceIdeal.main_arg2 rfl).trans (Ref.out_keep m' c Cert.ReferenceIdeal.main_arg2 (by decide)),
      (h.1 c Cert.ReferenceIdeal.main_arg3 rfl).trans (Ref.out_keep m' c Cert.ReferenceIdeal.main_arg3 (by decide)),
      (h.1 c Cert.ReferenceIdeal.main_arg4 rfl).trans (Ref.out_keep m' c Cert.ReferenceIdeal.main_arg4 (by decide)),
      (h.1 c Cert.ReferenceIdeal.main_arg5 rfl).trans (Ref.out_keep m' c Cert.ReferenceIdeal.main_arg5 (by decide)),
      (h.1 c Cert.ReferenceIdeal.main_arg6 rfl).trans (Ref.out_keep m' c Cert.ReferenceIdeal.main_arg6 (by decide))⟩) (Ref.run_out (F := Ideal) m' ρ')

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts, Cert.Kernel14.Gen.facts,
  Cert.Kernel14Ideal.Gen.facts, Cert.Reference14Ideal.Gen.facts, Cert.Kernel15.Gen.facts, Cert.Kernel15Ideal.Gen.facts,
  Cert.Reference15Ideal.Gen.facts, Cert.Kernel16.Gen.facts, Cert.Kernel16Ideal.Gen.facts, Cert.Reference16Ideal.Gen.facts,
  Cert.Kernel17.Gen.facts, Cert.Kernel17Ideal.Gen.facts, Cert.Reference17Ideal.Gen.facts, Cert.Kernel18.Gen.facts,
  Cert.Kernel18Ideal.Gen.facts, Cert.Reference18Ideal.Gen.facts, Cert.Kernel19.Gen.facts, Cert.Kernel19Ideal.Gen.facts,
  Cert.Reference19Ideal.Gen.facts, Cert.Kernel20.Gen.facts, Cert.Kernel20Ideal.Gen.facts, Cert.Reference20Ideal.Gen.facts,
  Cert.Kernel21.Gen.facts, Cert.Kernel21Ideal.Gen.facts, Cert.Reference21Ideal.Gen.facts, Cert.Kernel22.Gen.facts,
  Cert.Kernel22Ideal.Gen.facts, Cert.Reference22Ideal.Gen.facts, Cert.Kernel23.Gen.facts, Cert.Kernel23Ideal.Gen.facts,
  Cert.Reference23Ideal.Gen.facts, Cert.Kernel24.Gen.facts, Cert.Kernel24Ideal.Gen.facts, Cert.Reference24Ideal.Gen.facts,
  Cert.Kernel25.Gen.facts, Cert.Kernel25Ideal.Gen.facts, Cert.Reference25Ideal.Gen.facts, Cert.Pre_finite.Gen.facts,
  Cert.Pre_conv_finite.Gen.facts,
  frame_kernel, frame_ideal, frame_reference, DownBwd.frame_kernel,
  DownBwd.frame_ideal, DownBwd.frame_ideal_finite, DownBwd.frame_reference, DownBwd.frame_reference_finite,
  GateupBwd.frame_kernel, GateupBwd.frame_ideal, GateupBwd.frame_reference, DownGrad.frame_kernel,
  DownGrad.frame_ideal, DownGrad.frame_reference, GateGrad.frame_kernel, GateGrad.frame_ideal,
  GateGrad.frame_reference, FfnUp.frame_kernel, FfnUp.frame_ideal, FfnUp.frame_reference,
  FfnDown.frame_kernel, FfnDown.frame_ideal, FfnDown.frame_reference, InFwd.frame_kernel,
  InFwd.frame_ideal, InFwd.frame_reference, InBwd.frame_kernel, InBwd.frame_ideal,
  InBwd.frame_reference, InGrad.frame_kernel, InGrad.frame_ideal, InGrad.frame_reference,
  OutFwd.frame_kernel, OutFwd.frame_ideal, OutFwd.frame_reference, OutBwd.frame_kernel,
  OutBwd.frame_ideal, OutBwd.frame_reference, OutGrad.frame_kernel, OutGrad.frame_ideal,
  OutGrad.frame_reference, UpGrad.frame_kernel, UpGrad.frame_ideal, UpGrad.frame_reference,
  DownBwdFirst.frame_kernel, DownBwdFirst.frame_ideal, DownBwdFirst.frame_ideal_finite, DownBwdFirst.frame_reference,
  DownBwdFirst.frame_reference_finite, GateupBwdFirst.frame_kernel, GateupBwdFirst.frame_ideal, GateupBwdFirst.frame_reference,
  FfnUpFirst.frame_kernel, FfnUpFirst.frame_ideal, FfnUpFirst.frame_reference, FfnDownFirst.frame_kernel,
  FfnDownFirst.frame_ideal, FfnDownFirst.frame_reference, DownGradSecond.frame_kernel, DownGradSecond.frame_ideal,
  DownGradSecond.frame_reference, GateGradSecond.frame_kernel, GateGradSecond.frame_ideal, GateGradSecond.frame_reference,
  UpGradSecond.frame_kernel, UpGradSecond.frame_ideal, UpGradSecond.frame_reference, ConvBwd.frame_kernel,
  ConvBwd.frame_ideal, ConvBwd.frame_ideal_finite, ConvBwd.frame_reference, ConvBwd.frame_reference_finite,
  ConvFwd.frame_kernel, ConvFwd.frame_ideal, ConvFwd.frame_reference, NormBwd.frame_kernel,
  NormBwd.frame_ideal, NormBwd.frame_reference, PrenormBwd.frame_kernel, PrenormBwd.frame_ideal,
  PrenormBwd.frame_reference,
  trivial, algebraic, trivial, DownBwd.algebraic,
  trivial, GateupBwd.algebraic, trivial, DownGrad.algebraic,
  trivial, GateGrad.algebraic, trivial, FfnUp.algebraic,
  trivial, FfnDown.algebraic, trivial, InFwd.algebraic,
  trivial, InBwd.algebraic, trivial, InGrad.algebraic,
  trivial, OutFwd.algebraic, trivial, OutBwd.algebraic,
  trivial, OutGrad.algebraic, trivial, UpGrad.algebraic,
  trivial, DownBwdFirst.algebraic, trivial, GateupBwdFirst.algebraic,
  trivial, FfnUpFirst.algebraic, trivial, FfnDownFirst.algebraic,
  trivial, DownGradSecond.algebraic, trivial, GateGradSecond.algebraic,
  trivial, UpGradSecond.algebraic, trivial, ConvBwd.algebraic,
  trivial, ConvFwd.algebraic, trivial, NormBwd.algebraic,
  trivial, PrenormBwd.algebraic⟩

end Cert.Proof

end
